-- ==== Defs.lean ====
def Pre_FfnDact (m : (ℓ : Loc Cert.FfnDact.nD Cert.FfnDact.τ Cert.FfnDact.sig) → Buf (Elt Bits) ℓ) : Prop :=
  True

def Pre_FfnDactIdeal (m : (ℓ : Loc Cert.FfnDactIdeal.nD Cert.FfnDactIdeal.τ Cert.FfnDactIdeal.sig) → Buf (Elt Ideal) ℓ) : Prop :=
  True

def Pre_FfnDactIdeal_finite_dact [hPre_finite_dact : Cert.Pre_finite_dact.Facts] (m : (ℓ : Loc Cert.FfnDactIdeal.nD Cert.FfnDactIdeal.τ Cert.FfnDactIdeal.sig) → Buf (Elt Ideal) ℓ) : Prop :=
  ∀ c : Dev Cert.FfnDactIdeal.nD,
    (Cert.Pre_finite_dact.fn (F := Ideal) (m ((c.tc : Thread Cert.FfnDactIdeal.nD Cert.FfnDactIdeal.τ).loc Cert.FfnDactIdeal.main_arg0)) (m ((c.tc : Thread Cert.FfnDactIdeal.nD Cert.FfnDactIdeal.τ).loc Cert.FfnDactIdeal.main_arg1)) (m ((c.tc : Thread Cert.FfnDactIdeal.nD Cert.FfnDactIdeal.τ).loc Cert.FfnDactIdeal.main_arg2)) (m ((c.tc : Thread Cert.FfnDactIdeal.nD Cert.FfnDactIdeal.τ).loc Cert.FfnDactIdeal.main_arg3))).1 = (fun _ => 1#1)
    ∧ (Cert.Pre_finite_dact.fn (F := Ideal) (m ((c.tc : Thread Cert.FfnDactIdeal.nD Cert.FfnDactIdeal.τ).loc Cert.FfnDactIdeal.main_arg0)) (m ((c.tc : Thread Cert.FfnDactIdeal.nD Cert.FfnDactIdeal.τ).loc Cert.FfnDactIdeal.main_arg1)) (m ((c.tc : Thread Cert.FfnDactIdeal.nD Cert.FfnDactIdeal.τ).loc Cert.FfnDactIdeal.main_arg2)) (m ((c.tc : Thread Cert.FfnDactIdeal.nD Cert.FfnDactIdeal.τ).loc Cert.FfnDactIdeal.main_arg3))).2.1 = (fun _ => 1#1)
    ∧ (Cert.Pre_finite_dact.fn (F := Ideal) (m ((c.tc : Thread Cert.FfnDactIdeal.nD Cert.FfnDactIdeal.τ).loc Cert.FfnDactIdeal.main_arg0)) (m ((c.tc : Thread Cert.FfnDactIdeal.nD Cert.FfnDactIdeal.τ).loc Cert.FfnDactIdeal.main_arg1)) (m ((c.tc : Thread Cert.FfnDactIdeal.nD Cert.FfnDactIdeal.τ).loc Cert.FfnDactIdeal.main_arg2)) (m ((c.tc : Thread Cert.FfnDactIdeal.nD Cert.FfnDactIdeal.τ).loc Cert.FfnDactIdeal.main_arg3))).2.2 = (fun _ => 1#1)

def Pre_FfnDactRefIdeal (m : (ℓ : Loc Cert.FfnDactRefIdeal.nD Cert.FfnDactRefIdeal.τ Cert.FfnDactRefIdeal.sig) → Buf (Elt Ideal) ℓ) : Prop :=
  True

def Pre_FfnDactRefIdeal_finite_dact [hPre_finite_dact : Cert.Pre_finite_dact.Facts] (m : (ℓ : Loc Cert.FfnDactRefIdeal.nD Cert.FfnDactRefIdeal.τ Cert.FfnDactRefIdeal.sig) → Buf (Elt Ideal) ℓ) : Prop :=
  ∀ c : Dev Cert.FfnDactRefIdeal.nD,
    (Cert.Pre_finite_dact.fn (F := Ideal) (m ((c.tc : Thread Cert.FfnDactRefIdeal.nD Cert.FfnDactRefIdeal.τ).loc Cert.FfnDactRefIdeal.main_arg0)) (m ((c.tc : Thread Cert.FfnDactRefIdeal.nD Cert.FfnDactRefIdeal.τ).loc Cert.FfnDactRefIdeal.main_arg1)) (m ((c.tc : Thread Cert.FfnDactRefIdeal.nD Cert.FfnDactRefIdeal.τ).loc Cert.FfnDactRefIdeal.main_arg2)) (m ((c.tc : Thread Cert.FfnDactRefIdeal.nD Cert.FfnDactRefIdeal.τ).loc Cert.FfnDactRefIdeal.main_arg3))).1 = (fun _ => 1#1)
    ∧ (Cert.Pre_finite_dact.fn (F := Ideal) (m ((c.tc : Thread Cert.FfnDactRefIdeal.nD Cert.FfnDactRefIdeal.τ).loc Cert.FfnDactRefIdeal.main_arg0)) (m ((c.tc : Thread Cert.FfnDactRefIdeal.nD Cert.FfnDactRefIdeal.τ).loc Cert.FfnDactRefIdeal.main_arg1)) (m ((c.tc : Thread Cert.FfnDactRefIdeal.nD Cert.FfnDactRefIdeal.τ).loc Cert.FfnDactRefIdeal.main_arg2)) (m ((c.tc : Thread Cert.FfnDactRefIdeal.nD Cert.FfnDactRefIdeal.τ).loc Cert.FfnDactRefIdeal.main_arg3))).2.1 = (fun _ => 1#1)
    ∧ (Cert.Pre_finite_dact.fn (F := Ideal) (m ((c.tc : Thread Cert.FfnDactRefIdeal.nD Cert.FfnDactRefIdeal.τ).loc Cert.FfnDactRefIdeal.main_arg0)) (m ((c.tc : Thread Cert.FfnDactRefIdeal.nD Cert.FfnDactRefIdeal.τ).loc Cert.FfnDactRefIdeal.main_arg1)) (m ((c.tc : Thread Cert.FfnDactRefIdeal.nD Cert.FfnDactRefIdeal.τ).loc Cert.FfnDactRefIdeal.main_arg2)) (m ((c.tc : Thread Cert.FfnDactRefIdeal.nD Cert.FfnDactRefIdeal.τ).loc Cert.FfnDactRefIdeal.main_arg3))).2.2 = (fun _ => 1#1)

def Pre_FfnDwd (m : (ℓ : Loc Cert.FfnDwd.nD Cert.FfnDwd.τ Cert.FfnDwd.sig) → Buf (Elt Bits) ℓ) : Prop :=
  True

def Pre_FfnDwdIdeal (m : (ℓ : Loc Cert.FfnDwdIdeal.nD Cert.FfnDwdIdeal.τ Cert.FfnDwdIdeal.sig) → Buf (Elt Ideal) ℓ) : Prop :=
  True

def Pre_FfnDwdRefIdeal (m : (ℓ : Loc Cert.FfnDwdRefIdeal.nD Cert.FfnDwdRefIdeal.τ Cert.FfnDwdRefIdeal.sig) → Buf (Elt Ideal) ℓ) : Prop :=
  True

def Pre_FfnDwgu (m : (ℓ : Loc Cert.FfnDwgu.nD Cert.FfnDwgu.τ Cert.FfnDwgu.sig) → Buf (Elt Bits) ℓ) : Prop :=
  True

def Pre_FfnDwguIdeal (m : (ℓ : Loc Cert.FfnDwguIdeal.nD Cert.FfnDwguIdeal.τ Cert.FfnDwguIdeal.sig) → Buf (Elt Ideal) ℓ) : Prop :=
  True

def Pre_FfnDwguRefIdeal (m : (ℓ : Loc Cert.FfnDwguRefIdeal.nD Cert.FfnDwguRefIdeal.τ Cert.FfnDwguRefIdeal.sig) → Buf (Elt Ideal) ℓ) : Prop :=
  True

def Pre_FfnDn (m : (ℓ : Loc Cert.FfnDn.nD Cert.FfnDn.τ Cert.FfnDn.sig) → Buf (Elt Bits) ℓ) : Prop :=
  True

def Pre_FfnDnIdeal (m : (ℓ : Loc Cert.FfnDnIdeal.nD Cert.FfnDnIdeal.τ Cert.FfnDnIdeal.sig) → Buf (Elt Ideal) ℓ) : Prop :=
  True

def Pre_FfnDnRefIdeal (m : (ℓ : Loc Cert.FfnDnRefIdeal.nD Cert.FfnDnRefIdeal.τ Cert.FfnDnRefIdeal.sig) → Buf (Elt Ideal) ℓ) : Prop :=
  True

def Pre_FfnGateUp (m : (ℓ : Loc Cert.FfnGateUp.nD Cert.FfnGateUp.τ Cert.FfnGateUp.sig) → Buf (Elt Bits) ℓ) : Prop :=
  True

def Pre_FfnGateUpIdeal (m : (ℓ : Loc Cert.FfnGateUpIdeal.nD Cert.FfnGateUpIdeal.τ Cert.FfnGateUpIdeal.sig) → Buf (Elt Ideal) ℓ) : Prop :=
  True

def Pre_FfnGateUpRefIdeal (m : (ℓ : Loc Cert.FfnGateUpRefIdeal.nD Cert.FfnGateUpRefIdeal.τ Cert.FfnGateUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_ProjDx (m : (ℓ : Loc Cert.ProjDx.nD Cert.ProjDx.τ Cert.ProjDx.sig) → Buf (Elt Bits) ℓ) : Prop :=
  True

def Pre_ProjDxIdeal (m : (ℓ : Loc Cert.ProjDxIdeal.nD Cert.ProjDxIdeal.τ Cert.ProjDxIdeal.sig) → Buf (Elt Ideal) ℓ) : Prop :=
  True

def Pre_ProjDxRefIdeal (m : (ℓ : Loc Cert.ProjDxRefIdeal.nD Cert.ProjDxRefIdeal.τ Cert.ProjDxRefIdeal.sig) → Buf (Elt Ideal) ℓ) : Prop :=
  True

def Pre_ProjDw (m : (ℓ : Loc Cert.ProjDw.nD Cert.ProjDw.τ Cert.ProjDw.sig) → Buf (Elt Bits) ℓ) : Prop :=
  True

def Pre_ProjDwIdeal (m : (ℓ : Loc Cert.ProjDwIdeal.nD Cert.ProjDwIdeal.τ Cert.ProjDwIdeal.sig) → Buf (Elt Ideal) ℓ) : Prop :=
  True

def Pre_ProjDwRefIdeal (m : (ℓ : Loc Cert.ProjDwRefIdeal.nD Cert.ProjDwRefIdeal.τ Cert.ProjDwRefIdeal.sig) → Buf (Elt Ideal) ℓ) : Prop :=
  True

def Pre_KvDw (m : (ℓ : Loc Cert.KvDw.nD Cert.KvDw.τ Cert.KvDw.sig) → Buf (Elt Bits) ℓ) : Prop :=
  True

def Pre_KvDwIdeal (m : (ℓ : Loc Cert.KvDwIdeal.nD Cert.KvDwIdeal.τ Cert.KvDwIdeal.sig) → Buf (Elt Ideal) ℓ) : Prop :=
  True

def Pre_KvDwRefIdeal (m : (ℓ : Loc Cert.KvDwRefIdeal.nD Cert.KvDwRefIdeal.τ Cert.KvDwRefIdeal.sig) → Buf (Elt Ideal) ℓ) : Prop :=
  True

def Pre_KvDx (m : (ℓ : Loc Cert.KvDx.nD Cert.KvDx.τ Cert.KvDx.sig) → Buf (Elt Bits) ℓ) : Prop :=
  True

def Pre_KvDxIdeal (m : (ℓ : Loc Cert.KvDxIdeal.nD Cert.KvDxIdeal.τ Cert.KvDxIdeal.sig) → Buf (Elt Ideal) ℓ) : Prop :=
  True

def Pre_KvDxRefIdeal (m : (ℓ : Loc Cert.KvDxRefIdeal.nD Cert.KvDxRefIdeal.τ Cert.KvDxRefIdeal.sig) → Buf (Elt Ideal) ℓ) : Prop :=
  True

def Pre_ConvTwoDx (m : (ℓ : Loc Cert.ConvTwoDx.nD Cert.ConvTwoDx.τ Cert.ConvTwoDx.sig) → Buf (Elt Bits) ℓ) : Prop :=
  True

def Pre_ConvTwoDxIdeal (m : (ℓ : Loc Cert.ConvTwoDxIdeal.nD Cert.ConvTwoDxIdeal.τ Cert.ConvTwoDxIdeal.sig) → Buf (Elt Ideal) ℓ) : Prop :=
  True

def Pre_ConvTwoDxRefIdeal (m : (ℓ : Loc Cert.ConvTwoDxRefIdeal.nD Cert.ConvTwoDxRefIdeal.τ Cert.ConvTwoDxRefIdeal.sig) → Buf (Elt Ideal) ℓ) : Prop :=
  True

def Pre_ConvOneDw (m : (ℓ : Loc Cert.ConvOneDw.nD Cert.ConvOneDw.τ Cert.ConvOneDw.sig) → Buf (Elt Bits) ℓ) : Prop :=
  True

def Pre_ConvOneDwIdeal (m : (ℓ : Loc Cert.ConvOneDwIdeal.nD Cert.ConvOneDwIdeal.τ Cert.ConvOneDwIdeal.sig) → Buf (Elt Ideal) ℓ) : Prop :=
  True

def Pre_ConvOneDwRefIdeal (m : (ℓ : Loc Cert.ConvOneDwRefIdeal.nD Cert.ConvOneDwRefIdeal.τ Cert.ConvOneDwRefIdeal.sig) → Buf (Elt Ideal) ℓ) : Prop :=
  True

def Pre_ConvOneDx (m : (ℓ : Loc Cert.ConvOneDx.nD Cert.ConvOneDx.τ Cert.ConvOneDx.sig) → Buf (Elt Bits) ℓ) : Prop :=
  True

def Pre_ConvOneDxIdeal (m : (ℓ : Loc Cert.ConvOneDxIdeal.nD Cert.ConvOneDxIdeal.τ Cert.ConvOneDxIdeal.sig) → Buf (Elt Ideal) ℓ) : Prop :=
  True

def Pre_ConvOneDxRefIdeal (m : (ℓ : Loc Cert.ConvOneDxRefIdeal.nD Cert.ConvOneDxRefIdeal.τ Cert.ConvOneDxRefIdeal.sig) → Buf (Elt Ideal) ℓ) : Prop :=
  True

def Pre_QProj (m : (ℓ : Loc Cert.QProj.nD Cert.QProj.τ Cert.QProj.sig) → Buf (Elt Bits) ℓ) : Prop :=
  True

def Pre_QProjIdeal (m : (ℓ : Loc Cert.QProjIdeal.nD Cert.QProjIdeal.τ Cert.QProjIdeal.sig) → Buf (Elt Ideal) ℓ) : Prop :=
  True

def Pre_QProjRefIdeal (m : (ℓ : Loc Cert.QProjRefIdeal.nD Cert.QProjRefIdeal.τ Cert.QProjRefIdeal.sig) → Buf (Elt Ideal) ℓ) : Prop :=
  True

def Pre_KvProj (m : (ℓ : Loc Cert.KvProj.nD Cert.KvProj.τ Cert.KvProj.sig) → Buf (Elt Bits) ℓ) : Prop :=
  True

def Pre_KvProjIdeal (m : (ℓ : Loc Cert.KvProjIdeal.nD Cert.KvProjIdeal.τ Cert.KvProjIdeal.sig) → Buf (Elt Ideal) ℓ) : Prop :=
  True

def Pre_KvProjRefIdeal (m : (ℓ : Loc Cert.KvProjRefIdeal.nD Cert.KvProjRefIdeal.τ Cert.KvProjRefIdeal.sig) → Buf (Elt Ideal) ℓ) : Prop :=
  True

def Pre_OProj (m : (ℓ : Loc Cert.OProj.nD Cert.OProj.τ Cert.OProj.sig) → Buf (Elt Bits) ℓ) : Prop :=
  True

def Pre_OProjIdeal (m : (ℓ : Loc Cert.OProjIdeal.nD Cert.OProjIdeal.τ Cert.OProjIdeal.sig) → Buf (Elt Ideal) ℓ) : Prop :=
  True

def Pre_OProjRefIdeal (m : (ℓ : Loc Cert.OProjRefIdeal.nD Cert.OProjRefIdeal.τ Cert.OProjRefIdeal.sig) → Buf (Elt Ideal) ℓ) : Prop :=
  True

def Pre_ConvOne (m : (ℓ : Loc Cert.ConvOne.nD Cert.ConvOne.τ Cert.ConvOne.sig) → Buf (Elt Bits) ℓ) : Prop :=
  True

def Pre_ConvOneIdeal (m : (ℓ : Loc Cert.ConvOneIdeal.nD Cert.ConvOneIdeal.τ Cert.ConvOneIdeal.sig) → Buf (Elt Ideal) ℓ) : Prop :=
  True

def Pre_ConvOneRefIdeal (m : (ℓ : Loc Cert.ConvOneRefIdeal.nD Cert.ConvOneRefIdeal.τ Cert.ConvOneRefIdeal.sig) → Buf (Elt Ideal) ℓ) : Prop :=
  True

def Pre_ConvTwo (m : (ℓ : Loc Cert.ConvTwo.nD Cert.ConvTwo.τ Cert.ConvTwo.sig) → Buf (Elt Bits) ℓ) : Prop :=
  True

def Pre_ConvTwoIdeal (m : (ℓ : Loc Cert.ConvTwoIdeal.nD Cert.ConvTwoIdeal.τ Cert.ConvTwoIdeal.sig) → Buf (Elt Ideal) ℓ) : Prop :=
  True

def Pre_ConvTwoRefIdeal (m : (ℓ : Loc Cert.ConvTwoRefIdeal.nD Cert.ConvTwoRefIdeal.τ Cert.ConvTwoRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_FinalLoss (m : (ℓ : Loc Cert.FinalLoss.nD Cert.FinalLoss.τ Cert.FinalLoss.sig) → Buf (Elt Bits) ℓ) : Prop :=
  True

def Pre_FinalLossIdeal (m : (ℓ : Loc Cert.FinalLossIdeal.nD Cert.FinalLossIdeal.τ Cert.FinalLossIdeal.sig) → Buf (Elt Ideal) ℓ) : Prop :=
  True

def Pre_FinalLossRefIdeal (m : (ℓ : Loc Cert.FinalLossRefIdeal.nD Cert.FinalLossRefIdeal.τ Cert.FinalLossRefIdeal.sig) → Buf (Elt Ideal) ℓ) : Prop :=
  True

def Pre_NormPair (m : (ℓ : Loc Cert.NormPair.nD Cert.NormPair.τ Cert.NormPair.sig) → Buf (Elt Bits) ℓ) : Prop :=
  True

def Pre_NormPairIdeal (m : (ℓ : Loc Cert.NormPairIdeal.nD Cert.NormPairIdeal.τ Cert.NormPairIdeal.sig) → Buf (Elt Ideal) ℓ) : Prop :=
  True

def Pre_NormPairRefIdeal (m : (ℓ : Loc Cert.NormPairRefIdeal.nD Cert.NormPairRefIdeal.τ Cert.NormPairRefIdeal.sig) → Buf (Elt Ideal) ℓ) : Prop :=
  True

def Pre_NormPairBwd (m : (ℓ : Loc Cert.NormPairBwd.nD Cert.NormPairBwd.τ Cert.NormPairBwd.sig) → Buf (Elt Bits) ℓ) : Prop :=
  True

def Pre_NormPairBwdIdeal (m : (ℓ : Loc Cert.NormPairBwdIdeal.nD Cert.NormPairBwdIdeal.τ Cert.NormPairBwdIdeal.sig) → Buf (Elt Ideal) ℓ) : Prop :=
  True

def Pre_NormPairBwdRefIdeal (m : (ℓ : Loc Cert.NormPairBwdRefIdeal.nD Cert.NormPairBwdRefIdeal.τ Cert.NormPairBwdRefIdeal.sig) → Buf (Elt Ideal) ℓ) : Prop :=
  True

def Pre_AdamWhole (m : (ℓ : Loc Cert.AdamWhole.nD Cert.AdamWhole.τ Cert.AdamWhole.sig) → Buf (Elt Bits) ℓ) : Prop :=
  True

def Pre_AdamWholeIdeal (m : (ℓ : Loc Cert.AdamWholeIdeal.nD Cert.AdamWholeIdeal.τ Cert.AdamWholeIdeal.sig) → Buf (Elt Ideal) ℓ) : Prop :=
  True

def Pre_AdamWholeRefIdeal (m : (ℓ : Loc Cert.AdamWholeRefIdeal.nD Cert.AdamWholeRefIdeal.τ Cert.AdamWholeRefIdeal.sig) → Buf (Elt Ideal) ℓ) : Prop :=
  True

def Pre_AdamRows [hPre_chip_rows : Cert.Pre_chip_rows.Facts] (m : (ℓ : Loc Cert.AdamRows.nD Cert.AdamRows.τ Cert.AdamRows.sig) → Buf (Elt Bits) ℓ) : Prop :=
  ∀ c : Dev Cert.AdamRows.nD,
    (Cert.Pre_chip_rows.fn (F := Bits) (m ((c.tc : Thread Cert.AdamRows.nD Cert.AdamRows.τ).loc Cert.AdamRows.main_arg0)) (m ((c.tc : Thread Cert.AdamRows.nD Cert.AdamRows.τ).loc Cert.AdamRows.main_arg1)) (m ((c.tc : Thread Cert.AdamRows.nD Cert.AdamRows.τ).loc Cert.AdamRows.main_arg2)) (m ((c.tc : Thread Cert.AdamRows.nD Cert.AdamRows.τ).loc Cert.AdamRows.main_arg3)) (m ((c.tc : Thread Cert.AdamRows.nD Cert.AdamRows.τ).loc Cert.AdamRows.main_arg4)) (m ((c.tc : Thread Cert.AdamRows.nD Cert.AdamRows.τ).loc Cert.AdamRows.main_arg5))) = (fun _ => 1#1)

def Pre_AdamRowsIdeal [hPre_chip_rows : Cert.Pre_chip_rows.Facts] (m : (ℓ : Loc Cert.AdamRowsIdeal.nD Cert.AdamRowsIdeal.τ Cert.AdamRowsIdeal.sig) → Buf (Elt Ideal) ℓ) : Prop :=
  ∀ c : Dev Cert.AdamRowsIdeal.nD,
    (Cert.Pre_chip_rows.fn (F := Ideal) (m ((c.tc : Thread Cert.AdamRowsIdeal.nD Cert.AdamRowsIdeal.τ).loc Cert.AdamRowsIdeal.main_arg0)) (m ((c.tc : Thread Cert.AdamRowsIdeal.nD Cert.AdamRowsIdeal.τ).loc Cert.AdamRowsIdeal.main_arg1)) (m ((c.tc : Thread Cert.AdamRowsIdeal.nD Cert.AdamRowsIdeal.τ).loc Cert.AdamRowsIdeal.main_arg2)) (m ((c.tc : Thread Cert.AdamRowsIdeal.nD Cert.AdamRowsIdeal.τ).loc Cert.AdamRowsIdeal.main_arg3)) (m ((c.tc : Thread Cert.AdamRowsIdeal.nD Cert.AdamRowsIdeal.τ).loc Cert.AdamRowsIdeal.main_arg4)) (m ((c.tc : Thread Cert.AdamRowsIdeal.nD Cert.AdamRowsIdeal.τ).loc Cert.AdamRowsIdeal.main_arg5))) = (fun _ => 1#1)

def Pre_AdamRowsRefIdeal (m : (ℓ : Loc Cert.AdamRowsRefIdeal.nD Cert.AdamRowsRefIdeal.τ Cert.AdamRowsRefIdeal.sig) → Buf (Elt Ideal) ℓ) : Prop :=
  True

def Pre_AdamRowsRefIdeal_chip_rows [hPre_chip_rows : Cert.Pre_chip_rows.Facts] (m : (ℓ : Loc Cert.AdamRowsRefIdeal.nD Cert.AdamRowsRefIdeal.τ Cert.AdamRowsRefIdeal.sig) → Buf (Elt Ideal) ℓ) : Prop :=
  ∀ c : Dev Cert.AdamRowsRefIdeal.nD,
    (Cert.Pre_chip_rows.fn (F := Ideal) (m ((c.tc : Thread Cert.AdamRowsRefIdeal.nD Cert.AdamRowsRefIdeal.τ).loc Cert.AdamRowsRefIdeal.main_arg0)) (m ((c.tc : Thread Cert.AdamRowsRefIdeal.nD Cert.AdamRowsRefIdeal.τ).loc Cert.AdamRowsRefIdeal.main_arg1)) (m ((c.tc : Thread Cert.AdamRowsRefIdeal.nD Cert.AdamRowsRefIdeal.τ).loc Cert.AdamRowsRefIdeal.main_arg2)) (m ((c.tc : Thread Cert.AdamRowsRefIdeal.nD Cert.AdamRowsRefIdeal.τ).loc Cert.AdamRowsRefIdeal.main_arg3)) (m ((c.tc : Thread Cert.AdamRowsRefIdeal.nD Cert.AdamRowsRefIdeal.τ).loc Cert.AdamRowsRefIdeal.main_arg4)) (m ((c.tc : Thread Cert.AdamRowsRefIdeal.nD Cert.AdamRowsRefIdeal.τ).loc Cert.AdamRowsRefIdeal.main_arg5))) = (fun _ => 1#1)

def Pre_AdamColumns [hPre_chip_columns : Cert.Pre_chip_columns.Facts] (m : (ℓ : Loc Cert.AdamColumns.nD Cert.AdamColumns.τ Cert.AdamColumns.sig) → Buf (Elt Bits) ℓ) : Prop :=
  ∀ c : Dev Cert.AdamColumns.nD,
    (Cert.Pre_chip_columns.fn (F := Bits) (m ((c.tc : Thread Cert.AdamColumns.nD Cert.AdamColumns.τ).loc Cert.AdamColumns.main_arg0)) (m ((c.tc : Thread Cert.AdamColumns.nD Cert.AdamColumns.τ).loc Cert.AdamColumns.main_arg1)) (m ((c.tc : Thread Cert.AdamColumns.nD Cert.AdamColumns.τ).loc Cert.AdamColumns.main_arg2)) (m ((c.tc : Thread Cert.AdamColumns.nD Cert.AdamColumns.τ).loc Cert.AdamColumns.main_arg3)) (m ((c.tc : Thread Cert.AdamColumns.nD Cert.AdamColumns.τ).loc Cert.AdamColumns.main_arg4)) (m ((c.tc : Thread Cert.AdamColumns.nD Cert.AdamColumns.τ).loc Cert.AdamColumns.main_arg5))) = (fun _ => 1#1)

def Pre_AdamColumnsIdeal [hPre_chip_columns : Cert.Pre_chip_columns.Facts] (m : (ℓ : Loc Cert.AdamColumnsIdeal.nD Cert.AdamColumnsIdeal.τ Cert.AdamColumnsIdeal.sig) → Buf (Elt Ideal) ℓ) : Prop :=
  ∀ c : Dev Cert.AdamColumnsIdeal.nD,
    (Cert.Pre_chip_columns.fn (F := Ideal) (m ((c.tc : Thread Cert.AdamColumnsIdeal.nD Cert.AdamColumnsIdeal.τ).loc Cert.AdamColumnsIdeal.main_arg0)) (m ((c.tc : Thread Cert.AdamColumnsIdeal.nD Cert.AdamColumnsIdeal.τ).loc Cert.AdamColumnsIdeal.main_arg1)) (m ((c.tc : Thread Cert.AdamColumnsIdeal.nD Cert.AdamColumnsIdeal.τ).loc Cert.AdamColumnsIdeal.main_arg2)) (m ((c.tc : Thread Cert.AdamColumnsIdeal.nD Cert.AdamColumnsIdeal.τ).loc Cert.AdamColumnsIdeal.main_arg3)) (m ((c.tc : Thread Cert.AdamColumnsIdeal.nD Cert.AdamColumnsIdeal.τ).loc Cert.AdamColumnsIdeal.main_arg4)) (m ((c.tc : Thread Cert.AdamColumnsIdeal.nD Cert.AdamColumnsIdeal.τ).loc Cert.AdamColumnsIdeal.main_arg5))) = (fun _ => 1#1)

def Pre_AdamColumnsRefIdeal (m : (ℓ : Loc Cert.AdamColumnsRefIdeal.nD Cert.AdamColumnsRefIdeal.τ Cert.AdamColumnsRefIdeal.sig) → Buf (Elt Ideal) ℓ) : Prop :=
  True

def Pre_AdamColumnsRefIdeal_chip_columns [hPre_chip_columns : Cert.Pre_chip_columns.Facts] (m : (ℓ : Loc Cert.AdamColumnsRefIdeal.nD Cert.AdamColumnsRefIdeal.τ Cert.AdamColumnsRefIdeal.sig) → Buf (Elt Ideal) ℓ) : Prop :=
  ∀ c : Dev Cert.AdamColumnsRefIdeal.nD,
    (Cert.Pre_chip_columns.fn (F := Ideal) (m ((c.tc : Thread Cert.AdamColumnsRefIdeal.nD Cert.AdamColumnsRefIdeal.τ).loc Cert.AdamColumnsRefIdeal.main_arg0)) (m ((c.tc : Thread Cert.AdamColumnsRefIdeal.nD Cert.AdamColumnsRefIdeal.τ).loc Cert.AdamColumnsRefIdeal.main_arg1)) (m ((c.tc : Thread Cert.AdamColumnsRefIdeal.nD Cert.AdamColumnsRefIdeal.τ).loc Cert.AdamColumnsRefIdeal.main_arg2)) (m ((c.tc : Thread Cert.AdamColumnsRefIdeal.nD Cert.AdamColumnsRefIdeal.τ).loc Cert.AdamColumnsRefIdeal.main_arg3)) (m ((c.tc : Thread Cert.AdamColumnsRefIdeal.nD Cert.AdamColumnsRefIdeal.τ).loc Cert.AdamColumnsRefIdeal.main_arg4)) (m ((c.tc : Thread Cert.AdamColumnsRefIdeal.nD Cert.AdamColumnsRefIdeal.τ).loc Cert.AdamColumnsRefIdeal.main_arg5))) = (fun _ => 1#1)

def Pre_AdamPacked [hPre_chip_packed : Cert.Pre_chip_packed.Facts] (m : (ℓ : Loc Cert.AdamPacked.nD Cert.AdamPacked.τ Cert.AdamPacked.sig) → Buf (Elt Bits) ℓ) : Prop :=
  ∀ c : Dev Cert.AdamPacked.nD,
    (Cert.Pre_chip_packed.fn (F := Bits) (m ((c.tc : Thread Cert.AdamPacked.nD Cert.AdamPacked.τ).loc Cert.AdamPacked.main_arg0)) (m ((c.tc : Thread Cert.AdamPacked.nD Cert.AdamPacked.τ).loc Cert.AdamPacked.main_arg1)) (m ((c.tc : Thread Cert.AdamPacked.nD Cert.AdamPacked.τ).loc Cert.AdamPacked.main_arg2)) (m ((c.tc : Thread Cert.AdamPacked.nD Cert.AdamPacked.τ).loc Cert.AdamPacked.main_arg3)) (m ((c.tc : Thread Cert.AdamPacked.nD Cert.AdamPacked.τ).loc Cert.AdamPacked.main_arg4)) (m ((c.tc : Thread Cert.AdamPacked.nD Cert.AdamPacked.τ).loc Cert.AdamPacked.main_arg5))) = (fun _ => 1#1)

def Pre_AdamPackedIdeal [hPre_chip_packed : Cert.Pre_chip_packed.Facts] (m : (ℓ : Loc Cert.AdamPackedIdeal.nD Cert.AdamPackedIdeal.τ Cert.AdamPackedIdeal.sig) → Buf (Elt Ideal) ℓ) : Prop :=
  ∀ c : Dev Cert.AdamPackedIdeal.nD,
    (Cert.Pre_chip_packed.fn (F := Ideal) (m ((c.tc : Thread Cert.AdamPackedIdeal.nD Cert.AdamPackedIdeal.τ).loc Cert.AdamPackedIdeal.main_arg0)) (m ((c.tc : Thread Cert.AdamPackedIdeal.nD Cert.AdamPackedIdeal.τ).loc Cert.AdamPackedIdeal.main_arg1)) (m ((c.tc : Thread Cert.AdamPackedIdeal.nD Cert.AdamPackedIdeal.τ).loc Cert.AdamPackedIdeal.main_arg2)) (m ((c.tc : Thread Cert.AdamPackedIdeal.nD Cert.AdamPackedIdeal.τ).loc Cert.AdamPackedIdeal.main_arg3)) (m ((c.tc : Thread Cert.AdamPackedIdeal.nD Cert.AdamPackedIdeal.τ).loc Cert.AdamPackedIdeal.main_arg4)) (m ((c.tc : Thread Cert.AdamPackedIdeal.nD Cert.AdamPackedIdeal.τ).loc Cert.AdamPackedIdeal.main_arg5))) = (fun _ => 1#1)

def Pre_AdamPackedRefIdeal (m : (ℓ : Loc Cert.AdamPackedRefIdeal.nD Cert.AdamPackedRefIdeal.τ Cert.AdamPackedRefIdeal.sig) → Buf (Elt Ideal) ℓ) : Prop :=
  True

def Pre_AdamPackedRefIdeal_chip_packed [hPre_chip_packed : Cert.Pre_chip_packed.Facts] (m : (ℓ : Loc Cert.AdamPackedRefIdeal.nD Cert.AdamPackedRefIdeal.τ Cert.AdamPackedRefIdeal.sig) → Buf (Elt Ideal) ℓ) : Prop :=
  ∀ c : Dev Cert.AdamPackedRefIdeal.nD,
    (Cert.Pre_chip_packed.fn (F := Ideal) (m ((c.tc : Thread Cert.AdamPackedRefIdeal.nD Cert.AdamPackedRefIdeal.τ).loc Cert.AdamPackedRefIdeal.main_arg0)) (m ((c.tc : Thread Cert.AdamPackedRefIdeal.nD Cert.AdamPackedRefIdeal.τ).loc Cert.AdamPackedRefIdeal.main_arg1)) (m ((c.tc : Thread Cert.AdamPackedRefIdeal.nD Cert.AdamPackedRefIdeal.τ).loc Cert.AdamPackedRefIdeal.main_arg2)) (m ((c.tc : Thread Cert.AdamPackedRefIdeal.nD Cert.AdamPackedRefIdeal.τ).loc Cert.AdamPackedRefIdeal.main_arg3)) (m ((c.tc : Thread Cert.AdamPackedRefIdeal.nD Cert.AdamPackedRefIdeal.τ).loc Cert.AdamPackedRefIdeal.main_arg4)) (m ((c.tc : Thread Cert.AdamPackedRefIdeal.nD Cert.AdamPackedRefIdeal.τ).loc Cert.AdamPackedRefIdeal.main_arg5))) = (fun _ => 1#1)

def Pre_AdamGateFirst [hPre_chip_gate : Cert.Pre_chip_gate.Facts] (m : (ℓ : Loc Cert.AdamGateFirst.nD Cert.AdamGateFirst.τ Cert.AdamGateFirst.sig) → Buf (Elt Bits) ℓ) : Prop :=
  ∀ c : Dev Cert.AdamGateFirst.nD,
    (Cert.Pre_chip_gate.fn (F := Bits) (m ((c.tc : Thread Cert.AdamGateFirst.nD Cert.AdamGateFirst.τ).loc Cert.AdamGateFirst.main_arg0)) (m ((c.tc : Thread Cert.AdamGateFirst.nD Cert.AdamGateFirst.τ).loc Cert.AdamGateFirst.main_arg1)) (m ((c.tc : Thread Cert.AdamGateFirst.nD Cert.AdamGateFirst.τ).loc Cert.AdamGateFirst.main_arg2)) (m ((c.tc : Thread Cert.AdamGateFirst.nD Cert.AdamGateFirst.τ).loc Cert.AdamGateFirst.main_arg3)) (m ((c.tc : Thread Cert.AdamGateFirst.nD Cert.AdamGateFirst.τ).loc Cert.AdamGateFirst.main_arg4)) (m ((c.tc : Thread Cert.AdamGateFirst.nD Cert.AdamGateFirst.τ).loc Cert.AdamGateFirst.main_arg5))) = (fun _ => 1#1)

def Pre_AdamGateFirstIdeal [hPre_chip_gate : Cert.Pre_chip_gate.Facts] (m : (ℓ : Loc Cert.AdamGateFirstIdeal.nD Cert.AdamGateFirstIdeal.τ Cert.AdamGateFirstIdeal.sig) → Buf (Elt Ideal) ℓ) : Prop :=
  ∀ c : Dev Cert.AdamGateFirstIdeal.nD,
    (Cert.Pre_chip_gate.fn (F := Ideal) (m ((c.tc : Thread Cert.AdamGateFirstIdeal.nD Cert.AdamGateFirstIdeal.τ).loc Cert.AdamGateFirstIdeal.main_arg0)) (m ((c.tc : Thread Cert.AdamGateFirstIdeal.nD Cert.AdamGateFirstIdeal.τ).loc Cert.AdamGateFirstIdeal.main_arg1)) (m ((c.tc : Thread Cert.AdamGateFirstIdeal.nD Cert.AdamGateFirstIdeal.τ).loc Cert.AdamGateFirstIdeal.main_arg2)) (m ((c.tc : Thread Cert.AdamGateFirstIdeal.nD Cert.AdamGateFirstIdeal.τ).loc Cert.AdamGateFirstIdeal.main_arg3)) (m ((c.tc : Thread Cert.AdamGateFirstIdeal.nD Cert.AdamGateFirstIdeal.τ).loc Cert.AdamGateFirstIdeal.main_arg4)) (m ((c.tc : Thread Cert.AdamGateFirstIdeal.nD Cert.AdamGateFirstIdeal.τ).loc Cert.AdamGateFirstIdeal.main_arg5))) = (fun _ => 1#1)

def Pre_AdamGateFirstRefIdeal (m : (ℓ : Loc Cert.AdamGateFirstRefIdeal.nD Cert.AdamGateFirstRefIdeal.τ Cert.AdamGateFirstRefIdeal.sig) → Buf (Elt Ideal) ℓ) : Prop :=
  True

def Pre_AdamGateFirstRefIdeal_chip_gate [hPre_chip_gate : Cert.Pre_chip_gate.Facts] (m : (ℓ : Loc Cert.AdamGateFirstRefIdeal.nD Cert.AdamGateFirstRefIdeal.τ Cert.AdamGateFirstRefIdeal.sig) → Buf (Elt Ideal) ℓ) : Prop :=
  ∀ c : Dev Cert.AdamGateFirstRefIdeal.nD,
    (Cert.Pre_chip_gate.fn (F := Ideal) (m ((c.tc : Thread Cert.AdamGateFirstRefIdeal.nD Cert.AdamGateFirstRefIdeal.τ).loc Cert.AdamGateFirstRefIdeal.main_arg0)) (m ((c.tc : Thread Cert.AdamGateFirstRefIdeal.nD Cert.AdamGateFirstRefIdeal.τ).loc Cert.AdamGateFirstRefIdeal.main_arg1)) (m ((c.tc : Thread Cert.AdamGateFirstRefIdeal.nD Cert.AdamGateFirstRefIdeal.τ).loc Cert.AdamGateFirstRefIdeal.main_arg2)) (m ((c.tc : Thread Cert.AdamGateFirstRefIdeal.nD Cert.AdamGateFirstRefIdeal.τ).loc Cert.AdamGateFirstRefIdeal.main_arg3)) (m ((c.tc : Thread Cert.AdamGateFirstRefIdeal.nD Cert.AdamGateFirstRefIdeal.τ).loc Cert.AdamGateFirstRefIdeal.main_arg4)) (m ((c.tc : Thread Cert.AdamGateFirstRefIdeal.nD Cert.AdamGateFirstRefIdeal.τ).loc Cert.AdamGateFirstRefIdeal.main_arg5))) = (fun _ => 1#1)

def Pre_AdamGateSecond [hPre_chip_gate_second : Cert.Pre_chip_gate_second.Facts] (m : (ℓ : Loc Cert.AdamGateSecond.nD Cert.AdamGateSecond.τ Cert.AdamGateSecond.sig) → Buf (Elt Bits) ℓ) : Prop :=
  ∀ c : Dev Cert.AdamGateSecond.nD,
    (Cert.Pre_chip_gate_second.fn (F := Bits) (m ((c.tc : Thread Cert.AdamGateSecond.nD Cert.AdamGateSecond.τ).loc Cert.AdamGateSecond.main_arg0)) (m ((c.tc : Thread Cert.AdamGateSecond.nD Cert.AdamGateSecond.τ).loc Cert.AdamGateSecond.main_arg1)) (m ((c.tc : Thread Cert.AdamGateSecond.nD Cert.AdamGateSecond.τ).loc Cert.AdamGateSecond.main_arg2)) (m ((c.tc : Thread Cert.AdamGateSecond.nD Cert.AdamGateSecond.τ).loc Cert.AdamGateSecond.main_arg3)) (m ((c.tc : Thread Cert.AdamGateSecond.nD Cert.AdamGateSecond.τ).loc Cert.AdamGateSecond.main_arg4)) (m ((c.tc : Thread Cert.AdamGateSecond.nD Cert.AdamGateSecond.τ).loc Cert.AdamGateSecond.main_arg5)) (m ((c.tc : Thread Cert.AdamGateSecond.nD Cert.AdamGateSecond.τ).loc Cert.AdamGateSecond.main_arg6)) (m ((c.tc : Thread Cert.AdamGateSecond.nD Cert.AdamGateSecond.τ).loc Cert.AdamGateSecond.main_arg7)) (m ((c.tc : Thread Cert.AdamGateSecond.nD Cert.AdamGateSecond.τ).loc Cert.AdamGateSecond.main_arg8)) (m ((c.tc : Thread Cert.AdamGateSecond.nD Cert.AdamGateSecond.τ).loc Cert.AdamGateSecond.main_arg9))) = (fun _ => 1#1)

def Pre_AdamGateSecondIdeal [hPre_chip_gate_second : Cert.Pre_chip_gate_second.Facts] (m : (ℓ : Loc Cert.AdamGateSecondIdeal.nD Cert.AdamGateSecondIdeal.τ Cert.AdamGateSecondIdeal.sig) → Buf (Elt Ideal) ℓ) : Prop :=
  ∀ c : Dev Cert.AdamGateSecondIdeal.nD,
    (Cert.Pre_chip_gate_second.fn (F := Ideal) (m ((c.tc : Thread Cert.AdamGateSecondIdeal.nD Cert.AdamGateSecondIdeal.τ).loc Cert.AdamGateSecondIdeal.main_arg0)) (m ((c.tc : Thread Cert.AdamGateSecondIdeal.nD Cert.AdamGateSecondIdeal.τ).loc Cert.AdamGateSecondIdeal.main_arg1)) (m ((c.tc : Thread Cert.AdamGateSecondIdeal.nD Cert.AdamGateSecondIdeal.τ).loc Cert.AdamGateSecondIdeal.main_arg2)) (m ((c.tc : Thread Cert.AdamGateSecondIdeal.nD Cert.AdamGateSecondIdeal.τ).loc Cert.AdamGateSecondIdeal.main_arg3)) (m ((c.tc : Thread Cert.AdamGateSecondIdeal.nD Cert.AdamGateSecondIdeal.τ).loc Cert.AdamGateSecondIdeal.main_arg4)) (m ((c.tc : Thread Cert.AdamGateSecondIdeal.nD Cert.AdamGateSecondIdeal.τ).loc Cert.AdamGateSecondIdeal.main_arg5)) (m ((c.tc : Thread Cert.AdamGateSecondIdeal.nD Cert.AdamGateSecondIdeal.τ).loc Cert.AdamGateSecondIdeal.main_arg6)) (m ((c.tc : Thread Cert.AdamGateSecondIdeal.nD Cert.AdamGateSecondIdeal.τ).loc Cert.AdamGateSecondIdeal.main_arg7)) (m ((c.tc : Thread Cert.AdamGateSecondIdeal.nD Cert.AdamGateSecondIdeal.τ).loc Cert.AdamGateSecondIdeal.main_arg8)) (m ((c.tc : Thread Cert.AdamGateSecondIdeal.nD Cert.AdamGateSecondIdeal.τ).loc Cert.AdamGateSecondIdeal.main_arg9))) = (fun _ => 1#1)

def Pre_AdamGateSecondRefIdeal (m : (ℓ : Loc Cert.AdamGateSecondRefIdeal.nD Cert.AdamGateSecondRefIdeal.τ Cert.AdamGateSecondRefIdeal.sig) → Buf (Elt Ideal) ℓ) : Prop :=
  True

def Pre_AdamGateSecondRefIdeal_chip_gate_second [hPre_chip_gate_second : Cert.Pre_chip_gate_second.Facts] (m : (ℓ : Loc Cert.AdamGateSecondRefIdeal.nD Cert.AdamGateSecondRefIdeal.τ Cert.AdamGateSecondRefIdeal.sig) → Buf (Elt Ideal) ℓ) : Prop :=
  ∀ c : Dev Cert.AdamGateSecondRefIdeal.nD,
    (Cert.Pre_chip_gate_second.fn (F := Ideal) (m ((c.tc : Thread Cert.AdamGateSecondRefIdeal.nD Cert.AdamGateSecondRefIdeal.τ).loc Cert.AdamGateSecondRefIdeal.main_arg0)) (m ((c.tc : Thread Cert.AdamGateSecondRefIdeal.nD Cert.AdamGateSecondRefIdeal.τ).loc Cert.AdamGateSecondRefIdeal.main_arg1)) (m ((c.tc : Thread Cert.AdamGateSecondRefIdeal.nD Cert.AdamGateSecondRefIdeal.τ).loc Cert.AdamGateSecondRefIdeal.main_arg2)) (m ((c.tc : Thread Cert.AdamGateSecondRefIdeal.nD Cert.AdamGateSecondRefIdeal.τ).loc Cert.AdamGateSecondRefIdeal.main_arg3)) (m ((c.tc : Thread Cert.AdamGateSecondRefIdeal.nD Cert.AdamGateSecondRefIdeal.τ).loc Cert.AdamGateSecondRefIdeal.main_arg4)) (m ((c.tc : Thread Cert.AdamGateSecondRefIdeal.nD Cert.AdamGateSecondRefIdeal.τ).loc Cert.AdamGateSecondRefIdeal.main_arg5)) (m ((c.tc : Thread Cert.AdamGateSecondRefIdeal.nD Cert.AdamGateSecondRefIdeal.τ).loc Cert.AdamGateSecondRefIdeal.main_arg6)) (m ((c.tc : Thread Cert.AdamGateSecondRefIdeal.nD Cert.AdamGateSecondRefIdeal.τ).loc Cert.AdamGateSecondRefIdeal.main_arg7)) (m ((c.tc : Thread Cert.AdamGateSecondRefIdeal.nD Cert.AdamGateSecondRefIdeal.τ).loc Cert.AdamGateSecondRefIdeal.main_arg8)) (m ((c.tc : Thread Cert.AdamGateSecondRefIdeal.nD Cert.AdamGateSecondRefIdeal.τ).loc Cert.AdamGateSecondRefIdeal.main_arg9))) = (fun _ => 1#1)

def Pre_AdamDownFirst [hPre_chip_down : Cert.Pre_chip_down.Facts] (m : (ℓ : Loc Cert.AdamDownFirst.nD Cert.AdamDownFirst.τ Cert.AdamDownFirst.sig) → Buf (Elt Bits) ℓ) : Prop :=
  ∀ c : Dev Cert.AdamDownFirst.nD,
    (Cert.Pre_chip_down.fn (F := Bits) (m ((c.tc : Thread Cert.AdamDownFirst.nD Cert.AdamDownFirst.τ).loc Cert.AdamDownFirst.main_arg0)) (m ((c.tc : Thread Cert.AdamDownFirst.nD Cert.AdamDownFirst.τ).loc Cert.AdamDownFirst.main_arg1)) (m ((c.tc : Thread Cert.AdamDownFirst.nD Cert.AdamDownFirst.τ).loc Cert.AdamDownFirst.main_arg2)) (m ((c.tc : Thread Cert.AdamDownFirst.nD Cert.AdamDownFirst.τ).loc Cert.AdamDownFirst.main_arg3)) (m ((c.tc : Thread Cert.AdamDownFirst.nD Cert.AdamDownFirst.τ).loc Cert.AdamDownFirst.main_arg4)) (m ((c.tc : Thread Cert.AdamDownFirst.nD Cert.AdamDownFirst.τ).loc Cert.AdamDownFirst.main_arg5))) = (fun _ => 1#1)

def Pre_AdamDownFirstIdeal [hPre_chip_down : Cert.Pre_chip_down.Facts] (m : (ℓ : Loc Cert.AdamDownFirstIdeal.nD Cert.AdamDownFirstIdeal.τ Cert.AdamDownFirstIdeal.sig) → Buf (Elt Ideal) ℓ) : Prop :=
  ∀ c : Dev Cert.AdamDownFirstIdeal.nD,
    (Cert.Pre_chip_down.fn (F := Ideal) (m ((c.tc : Thread Cert.AdamDownFirstIdeal.nD Cert.AdamDownFirstIdeal.τ).loc Cert.AdamDownFirstIdeal.main_arg0)) (m ((c.tc : Thread Cert.AdamDownFirstIdeal.nD Cert.AdamDownFirstIdeal.τ).loc Cert.AdamDownFirstIdeal.main_arg1)) (m ((c.tc : Thread Cert.AdamDownFirstIdeal.nD Cert.AdamDownFirstIdeal.τ).loc Cert.AdamDownFirstIdeal.main_arg2)) (m ((c.tc : Thread Cert.AdamDownFirstIdeal.nD Cert.AdamDownFirstIdeal.τ).loc Cert.AdamDownFirstIdeal.main_arg3)) (m ((c.tc : Thread Cert.AdamDownFirstIdeal.nD Cert.AdamDownFirstIdeal.τ).loc Cert.AdamDownFirstIdeal.main_arg4)) (m ((c.tc : Thread Cert.AdamDownFirstIdeal.nD Cert.AdamDownFirstIdeal.τ).loc Cert.AdamDownFirstIdeal.main_arg5))) = (fun _ => 1#1)

def Pre_AdamDownFirstRefIdeal (m : (ℓ : Loc Cert.AdamDownFirstRefIdeal.nD Cert.AdamDownFirstRefIdeal.τ Cert.AdamDownFirstRefIdeal.sig) → Buf (Elt Ideal) ℓ) : Prop :=
  True

def Pre_AdamDownFirstRefIdeal_chip_down [hPre_chip_down : Cert.Pre_chip_down.Facts] (m : (ℓ : Loc Cert.AdamDownFirstRefIdeal.nD Cert.AdamDownFirstRefIdeal.τ Cert.AdamDownFirstRefIdeal.sig) → Buf (Elt Ideal) ℓ) : Prop :=
  ∀ c : Dev Cert.AdamDownFirstRefIdeal.nD,
    (Cert.Pre_chip_down.fn (F := Ideal) (m ((c.tc : Thread Cert.AdamDownFirstRefIdeal.nD Cert.AdamDownFirstRefIdeal.τ).loc Cert.AdamDownFirstRefIdeal.main_arg0)) (m ((c.tc : Thread Cert.AdamDownFirstRefIdeal.nD Cert.AdamDownFirstRefIdeal.τ).loc Cert.AdamDownFirstRefIdeal.main_arg1)) (m ((c.tc : Thread Cert.AdamDownFirstRefIdeal.nD Cert.AdamDownFirstRefIdeal.τ).loc Cert.AdamDownFirstRefIdeal.main_arg2)) (m ((c.tc : Thread Cert.AdamDownFirstRefIdeal.nD Cert.AdamDownFirstRefIdeal.τ).loc Cert.AdamDownFirstRefIdeal.main_arg3)) (m ((c.tc : Thread Cert.AdamDownFirstRefIdeal.nD Cert.AdamDownFirstRefIdeal.τ).loc Cert.AdamDownFirstRefIdeal.main_arg4)) (m ((c.tc : Thread Cert.AdamDownFirstRefIdeal.nD Cert.AdamDownFirstRefIdeal.τ).loc Cert.AdamDownFirstRefIdeal.main_arg5))) = (fun _ => 1#1)

def Pre_AdamDownSecond [hPre_chip_down_second : Cert.Pre_chip_down_second.Facts] (m : (ℓ : Loc Cert.AdamDownSecond.nD Cert.AdamDownSecond.τ Cert.AdamDownSecond.sig) → Buf (Elt Bits) ℓ) : Prop :=
  ∀ c : Dev Cert.AdamDownSecond.nD,
    (Cert.Pre_chip_down_second.fn (F := Bits) (m ((c.tc : Thread Cert.AdamDownSecond.nD Cert.AdamDownSecond.τ).loc Cert.AdamDownSecond.main_arg0)) (m ((c.tc : Thread Cert.AdamDownSecond.nD Cert.AdamDownSecond.τ).loc Cert.AdamDownSecond.main_arg1)) (m ((c.tc : Thread Cert.AdamDownSecond.nD Cert.AdamDownSecond.τ).loc Cert.AdamDownSecond.main_arg2)) (m ((c.tc : Thread Cert.AdamDownSecond.nD Cert.AdamDownSecond.τ).loc Cert.AdamDownSecond.main_arg3)) (m ((c.tc : Thread Cert.AdamDownSecond.nD Cert.AdamDownSecond.τ).loc Cert.AdamDownSecond.main_arg4)) (m ((c.tc : Thread Cert.AdamDownSecond.nD Cert.AdamDownSecond.τ).loc Cert.AdamDownSecond.main_arg5)) (m ((c.tc : Thread Cert.AdamDownSecond.nD Cert.AdamDownSecond.τ).loc Cert.AdamDownSecond.main_arg6)) (m ((c.tc : Thread Cert.AdamDownSecond.nD Cert.AdamDownSecond.τ).loc Cert.AdamDownSecond.main_arg7)) (m ((c.tc : Thread Cert.AdamDownSecond.nD Cert.AdamDownSecond.τ).loc Cert.AdamDownSecond.main_arg8)) (m ((c.tc : Thread Cert.AdamDownSecond.nD Cert.AdamDownSecond.τ).loc Cert.AdamDownSecond.main_arg9))) = (fun _ => 1#1)

def Pre_AdamDownSecondIdeal [hPre_chip_down_second : Cert.Pre_chip_down_second.Facts] (m : (ℓ : Loc Cert.AdamDownSecondIdeal.nD Cert.AdamDownSecondIdeal.τ Cert.AdamDownSecondIdeal.sig) → Buf (Elt Ideal) ℓ) : Prop :=
  ∀ c : Dev Cert.AdamDownSecondIdeal.nD,
    (Cert.Pre_chip_down_second.fn (F := Ideal) (m ((c.tc : Thread Cert.AdamDownSecondIdeal.nD Cert.AdamDownSecondIdeal.τ).loc Cert.AdamDownSecondIdeal.main_arg0)) (m ((c.tc : Thread Cert.AdamDownSecondIdeal.nD Cert.AdamDownSecondIdeal.τ).loc Cert.AdamDownSecondIdeal.main_arg1)) (m ((c.tc : Thread Cert.AdamDownSecondIdeal.nD Cert.AdamDownSecondIdeal.τ).loc Cert.AdamDownSecondIdeal.main_arg2)) (m ((c.tc : Thread Cert.AdamDownSecondIdeal.nD Cert.AdamDownSecondIdeal.τ).loc Cert.AdamDownSecondIdeal.main_arg3)) (m ((c.tc : Thread Cert.AdamDownSecondIdeal.nD Cert.AdamDownSecondIdeal.τ).loc Cert.AdamDownSecondIdeal.main_arg4)) (m ((c.tc : Thread Cert.AdamDownSecondIdeal.nD Cert.AdamDownSecondIdeal.τ).loc Cert.AdamDownSecondIdeal.main_arg5)) (m ((c.tc : Thread Cert.AdamDownSecondIdeal.nD Cert.AdamDownSecondIdeal.τ).loc Cert.AdamDownSecondIdeal.main_arg6)) (m ((c.tc : Thread Cert.AdamDownSecondIdeal.nD Cert.AdamDownSecondIdeal.τ).loc Cert.AdamDownSecondIdeal.main_arg7)) (m ((c.tc : Thread Cert.AdamDownSecondIdeal.nD Cert.AdamDownSecondIdeal.τ).loc Cert.AdamDownSecondIdeal.main_arg8)) (m ((c.tc : Thread Cert.AdamDownSecondIdeal.nD Cert.AdamDownSecondIdeal.τ).loc Cert.AdamDownSecondIdeal.main_arg9))) = (fun _ => 1#1)

def Pre_AdamDownSecondRefIdeal (m : (ℓ : Loc Cert.AdamDownSecondRefIdeal.nD Cert.AdamDownSecondRefIdeal.τ Cert.AdamDownSecondRefIdeal.sig) → Buf (Elt Ideal) ℓ) : Prop :=
  True

def Pre_AdamDownSecondRefIdeal_chip_down_second [hPre_chip_down_second : Cert.Pre_chip_down_second.Facts] (m : (ℓ : Loc Cert.AdamDownSecondRefIdeal.nD Cert.AdamDownSecondRefIdeal.τ Cert.AdamDownSecondRefIdeal.sig) → Buf (Elt Ideal) ℓ) : Prop :=
  ∀ c : Dev Cert.AdamDownSecondRefIdeal.nD,
    (Cert.Pre_chip_down_second.fn (F := Ideal) (m ((c.tc : Thread Cert.AdamDownSecondRefIdeal.nD Cert.AdamDownSecondRefIdeal.τ).loc Cert.AdamDownSecondRefIdeal.main_arg0)) (m ((c.tc : Thread Cert.AdamDownSecondRefIdeal.nD Cert.AdamDownSecondRefIdeal.τ).loc Cert.AdamDownSecondRefIdeal.main_arg1)) (m ((c.tc : Thread Cert.AdamDownSecondRefIdeal.nD Cert.AdamDownSecondRefIdeal.τ).loc Cert.AdamDownSecondRefIdeal.main_arg2)) (m ((c.tc : Thread Cert.AdamDownSecondRefIdeal.nD Cert.AdamDownSecondRefIdeal.τ).loc Cert.AdamDownSecondRefIdeal.main_arg3)) (m ((c.tc : Thread Cert.AdamDownSecondRefIdeal.nD Cert.AdamDownSecondRefIdeal.τ).loc Cert.AdamDownSecondRefIdeal.main_arg4)) (m ((c.tc : Thread Cert.AdamDownSecondRefIdeal.nD Cert.AdamDownSecondRefIdeal.τ).loc Cert.AdamDownSecondRefIdeal.main_arg5)) (m ((c.tc : Thread Cert.AdamDownSecondRefIdeal.nD Cert.AdamDownSecondRefIdeal.τ).loc Cert.AdamDownSecondRefIdeal.main_arg6)) (m ((c.tc : Thread Cert.AdamDownSecondRefIdeal.nD Cert.AdamDownSecondRefIdeal.τ).loc Cert.AdamDownSecondRefIdeal.main_arg7)) (m ((c.tc : Thread Cert.AdamDownSecondRefIdeal.nD Cert.AdamDownSecondRefIdeal.τ).loc Cert.AdamDownSecondRefIdeal.main_arg8)) (m ((c.tc : Thread Cert.AdamDownSecondRefIdeal.nD Cert.AdamDownSecondRefIdeal.τ).loc Cert.AdamDownSecondRefIdeal.main_arg9))) = (fun _ => 1#1)

def quiescent_FfnDact [hFfnDact : Cert.FfnDact.Facts] : Prop :=
  ∀ (m : (ℓ : Loc Cert.FfnDact.nD Cert.FfnDact.τ Cert.FfnDact.sig) → Buf (Elt Bits) ℓ) (g : Dev Cert.FfnDact.nD → PrngReg), Pre_FfnDact m →
    θ_run (Cert.FfnDact.defs (F := Bits)) (onTc (τ := Cert.FfnDact.τ) (Cert.FfnDact.main (F := Bits))) ⟨m, fun _ => 0, g⟩ (fun r => (∀ c : Dev Cert.FfnDact.nD,
      r.2.mem ((c.tc : Thread Cert.FfnDact.nD Cert.FfnDact.τ).loc Cert.FfnDact.main_arg0) = m ((c.tc : Thread Cert.FfnDact.nD Cert.FfnDact.τ).loc Cert.FfnDact.main_arg0)
      ∧ r.2.mem ((c.tc : Thread Cert.FfnDact.nD Cert.FfnDact.τ).loc Cert.FfnDact.main_arg1) = m ((c.tc : Thread Cert.FfnDact.nD Cert.FfnDact.τ).loc Cert.FfnDact.main_arg1)
      ∧ r.2.mem ((c.tc : Thread Cert.FfnDact.nD Cert.FfnDact.τ).loc Cert.FfnDact.main_arg2) = m ((c.tc : Thread Cert.FfnDact.nD Cert.FfnDact.τ).loc Cert.FfnDact.main_arg2)
      ∧ r.2.mem ((c.tc : Thread Cert.FfnDact.nD Cert.FfnDact.τ).loc Cert.FfnDact.main_arg3) = m ((c.tc : Thread Cert.FfnDact.nD Cert.FfnDact.τ).loc Cert.FfnDact.main_arg3))
      ∧ r.2.sem = fun _ => 0)

def quiescent_FfnDactIdeal [hFfnDactIdeal : Cert.FfnDactIdeal.Facts] : Prop :=
  ∀ (m : (ℓ : Loc Cert.FfnDactIdeal.nD Cert.FfnDactIdeal.τ Cert.FfnDactIdeal.sig) → Buf (Elt Ideal) ℓ) (g : Dev Cert.FfnDactIdeal.nD → PrngReg), Pre_FfnDactIdeal m →
    θ_run (Cert.FfnDactIdeal.defs (F := Ideal)) (onTc (τ := Cert.FfnDactIdeal.τ) (Cert.FfnDactIdeal.main (F := Ideal))) ⟨m, fun _ => 0, g⟩ (fun r => (∀ c : Dev Cert.FfnDactIdeal.nD,
      r.2.mem ((c.tc : Thread Cert.FfnDactIdeal.nD Cert.FfnDactIdeal.τ).loc Cert.FfnDactIdeal.main_arg0) = m ((c.tc : Thread Cert.FfnDactIdeal.nD Cert.FfnDactIdeal.τ).loc Cert.FfnDactIdeal.main_arg0)
      ∧ r.2.mem ((c.tc : Thread Cert.FfnDactIdeal.nD Cert.FfnDactIdeal.τ).loc Cert.FfnDactIdeal.main_arg1) = m ((c.tc : Thread Cert.FfnDactIdeal.nD Cert.FfnDactIdeal.τ).loc Cert.FfnDactIdeal.main_arg1)
      ∧ r.2.mem ((c.tc : Thread Cert.FfnDactIdeal.nD Cert.FfnDactIdeal.τ).loc Cert.FfnDactIdeal.main_arg2) = m ((c.tc : Thread Cert.FfnDactIdeal.nD Cert.FfnDactIdeal.τ).loc Cert.FfnDactIdeal.main_arg2)
      ∧ r.2.mem ((c.tc : Thread Cert.FfnDactIdeal.nD Cert.FfnDactIdeal.τ).loc Cert.FfnDactIdeal.main_arg3) = m ((c.tc : Thread Cert.FfnDactIdeal.nD Cert.FfnDactIdeal.τ).loc Cert.FfnDactIdeal.main_arg3))
      ∧ r.2.sem = fun _ => 0)

def quiescent_FfnDactIdeal_pre_finite_dact [hFfnDactIdeal : Cert.FfnDactIdeal.Facts] [hPre_finite_dact : Cert.Pre_finite_dact.Facts] : Prop :=
  ∀ (m : (ℓ : Loc Cert.FfnDactIdeal.nD Cert.FfnDactIdeal.τ Cert.FfnDactIdeal.sig) → Buf (Elt Ideal) ℓ) (g : Dev Cert.FfnDactIdeal.nD → PrngReg), Pre_FfnDactIdeal_finite_dact m →
    θ_run (Cert.FfnDactIdeal.defs (F := Ideal)) (onTc (τ := Cert.FfnDactIdeal.τ) (Cert.FfnDactIdeal.main (F := Ideal))) ⟨m, fun _ => 0, g⟩ (fun r => (∀ c : Dev Cert.FfnDactIdeal.nD,
      r.2.mem ((c.tc : Thread Cert.FfnDactIdeal.nD Cert.FfnDactIdeal.τ).loc Cert.FfnDactIdeal.main_arg0) = m ((c.tc : Thread Cert.FfnDactIdeal.nD Cert.FfnDactIdeal.τ).loc Cert.FfnDactIdeal.main_arg0)
      ∧ r.2.mem ((c.tc : Thread Cert.FfnDactIdeal.nD Cert.FfnDactIdeal.τ).loc Cert.FfnDactIdeal.main_arg1) = m ((c.tc : Thread Cert.FfnDactIdeal.nD Cert.FfnDactIdeal.τ).loc Cert.FfnDactIdeal.main_arg1)
      ∧ r.2.mem ((c.tc : Thread Cert.FfnDactIdeal.nD Cert.FfnDactIdeal.τ).loc Cert.FfnDactIdeal.main_arg2) = m ((c.tc : Thread Cert.FfnDactIdeal.nD Cert.FfnDactIdeal.τ).loc Cert.FfnDactIdeal.main_arg2)
      ∧ r.2.mem ((c.tc : Thread Cert.FfnDactIdeal.nD Cert.FfnDactIdeal.τ).loc Cert.FfnDactIdeal.main_arg3) = m ((c.tc : Thread Cert.FfnDactIdeal.nD Cert.FfnDactIdeal.τ).loc Cert.FfnDactIdeal.main_arg3))
      ∧ r.2.sem = fun _ => 0)

def quiescent_FfnDactRefIdeal [hFfnDactRefIdeal : Cert.FfnDactRefIdeal.Facts] : Prop :=
  ∀ (m : (ℓ : Loc Cert.FfnDactRefIdeal.nD Cert.FfnDactRefIdeal.τ Cert.FfnDactRefIdeal.sig) → Buf (Elt Ideal) ℓ) (g : Dev Cert.FfnDactRefIdeal.nD → PrngReg), Pre_FfnDactRefIdeal m →
    θ_run (Cert.FfnDactRefIdeal.defs (F := Ideal)) (onTc (τ := Cert.FfnDactRefIdeal.τ) (Cert.FfnDactRefIdeal.main (F := Ideal))) ⟨m, fun _ => 0, g⟩ (fun r => (∀ c : Dev Cert.FfnDactRefIdeal.nD,
      r.2.mem ((c.tc : Thread Cert.FfnDactRefIdeal.nD Cert.FfnDactRefIdeal.τ).loc Cert.FfnDactRefIdeal.main_arg0) = m ((c.tc : Thread Cert.FfnDactRefIdeal.nD Cert.FfnDactRefIdeal.τ).loc Cert.FfnDactRefIdeal.main_arg0)
      ∧ r.2.mem ((c.tc : Thread Cert.FfnDactRefIdeal.nD Cert.FfnDactRefIdeal.τ).loc Cert.FfnDactRefIdeal.main_arg1) = m ((c.tc : Thread Cert.FfnDactRefIdeal.nD Cert.FfnDactRefIdeal.τ).loc Cert.FfnDactRefIdeal.main_arg1)
      ∧ r.2.mem ((c.tc : Thread Cert.FfnDactRefIdeal.nD Cert.FfnDactRefIdeal.τ).loc Cert.FfnDactRefIdeal.main_arg2) = m ((c.tc : Thread Cert.FfnDactRefIdeal.nD Cert.FfnDactRefIdeal.τ).loc Cert.FfnDactRefIdeal.main_arg2)
      ∧ r.2.mem ((c.tc : Thread Cert.FfnDactRefIdeal.nD Cert.FfnDactRefIdeal.τ).loc Cert.FfnDactRefIdeal.main_arg3) = m ((c.tc : Thread Cert.FfnDactRefIdeal.nD Cert.FfnDactRefIdeal.τ).loc Cert.FfnDactRefIdeal.main_arg3))
      ∧ r.2.sem = fun _ => 0)

def quiescent_FfnDactRefIdeal_pre_finite_dact [hFfnDactRefIdeal : Cert.FfnDactRefIdeal.Facts] [hPre_finite_dact : Cert.Pre_finite_dact.Facts] : Prop :=
  ∀ (m : (ℓ : Loc Cert.FfnDactRefIdeal.nD Cert.FfnDactRefIdeal.τ Cert.FfnDactRefIdeal.sig) → Buf (Elt Ideal) ℓ) (g : Dev Cert.FfnDactRefIdeal.nD → PrngReg), Pre_FfnDactRefIdeal_finite_dact m →
    θ_run (Cert.FfnDactRefIdeal.defs (F := Ideal)) (onTc (τ := Cert.FfnDactRefIdeal.τ) (Cert.FfnDactRefIdeal.main (F := Ideal))) ⟨m, fun _ => 0, g⟩ (fun r => (∀ c : Dev Cert.FfnDactRefIdeal.nD,
      r.2.mem ((c.tc : Thread Cert.FfnDactRefIdeal.nD Cert.FfnDactRefIdeal.τ).loc Cert.FfnDactRefIdeal.main_arg0) = m ((c.tc : Thread Cert.FfnDactRefIdeal.nD Cert.FfnDactRefIdeal.τ).loc Cert.FfnDactRefIdeal.main_arg0)
      ∧ r.2.mem ((c.tc : Thread Cert.FfnDactRefIdeal.nD Cert.FfnDactRefIdeal.τ).loc Cert.FfnDactRefIdeal.main_arg1) = m ((c.tc : Thread Cert.FfnDactRefIdeal.nD Cert.FfnDactRefIdeal.τ).loc Cert.FfnDactRefIdeal.main_arg1)
      ∧ r.2.mem ((c.tc : Thread Cert.FfnDactRefIdeal.nD Cert.FfnDactRefIdeal.τ).loc Cert.FfnDactRefIdeal.main_arg2) = m ((c.tc : Thread Cert.FfnDactRefIdeal.nD Cert.FfnDactRefIdeal.τ).loc Cert.FfnDactRefIdeal.main_arg2)
      ∧ r.2.mem ((c.tc : Thread Cert.FfnDactRefIdeal.nD Cert.FfnDactRefIdeal.τ).loc Cert.FfnDactRefIdeal.main_arg3) = m ((c.tc : Thread Cert.FfnDactRefIdeal.nD Cert.FfnDactRefIdeal.τ).loc Cert.FfnDactRefIdeal.main_arg3))
      ∧ r.2.sem = fun _ => 0)

def quiescent_FfnDwd [hFfnDwd : Cert.FfnDwd.Facts] : Prop :=
  ∀ (m : (ℓ : Loc Cert.FfnDwd.nD Cert.FfnDwd.τ Cert.FfnDwd.sig) → Buf (Elt Bits) ℓ) (g : Dev Cert.FfnDwd.nD → PrngReg), Pre_FfnDwd m →
    θ_run (Cert.FfnDwd.defs (F := Bits)) (onTc (τ := Cert.FfnDwd.τ) (Cert.FfnDwd.main (F := Bits))) ⟨m, fun _ => 0, g⟩ (fun r => (∀ c : Dev Cert.FfnDwd.nD,
      r.2.mem ((c.tc : Thread Cert.FfnDwd.nD Cert.FfnDwd.τ).loc Cert.FfnDwd.main_arg0) = m ((c.tc : Thread Cert.FfnDwd.nD Cert.FfnDwd.τ).loc Cert.FfnDwd.main_arg0)
      ∧ r.2.mem ((c.tc : Thread Cert.FfnDwd.nD Cert.FfnDwd.τ).loc Cert.FfnDwd.main_arg1) = m ((c.tc : Thread Cert.FfnDwd.nD Cert.FfnDwd.τ).loc Cert.FfnDwd.main_arg1))
      ∧ r.2.sem = fun _ => 0)

def quiescent_FfnDwdIdeal [hFfnDwdIdeal : Cert.FfnDwdIdeal.Facts] : Prop :=
  ∀ (m : (ℓ : Loc Cert.FfnDwdIdeal.nD Cert.FfnDwdIdeal.τ Cert.FfnDwdIdeal.sig) → Buf (Elt Ideal) ℓ) (g : Dev Cert.FfnDwdIdeal.nD → PrngReg), Pre_FfnDwdIdeal m →
    θ_run (Cert.FfnDwdIdeal.defs (F := Ideal)) (onTc (τ := Cert.FfnDwdIdeal.τ) (Cert.FfnDwdIdeal.main (F := Ideal))) ⟨m, fun _ => 0, g⟩ (fun r => (∀ c : Dev Cert.FfnDwdIdeal.nD,
      r.2.mem ((c.tc : Thread Cert.FfnDwdIdeal.nD Cert.FfnDwdIdeal.τ).loc Cert.FfnDwdIdeal.main_arg0) = m ((c.tc : Thread Cert.FfnDwdIdeal.nD Cert.FfnDwdIdeal.τ).loc Cert.FfnDwdIdeal.main_arg0)
      ∧ r.2.mem ((c.tc : Thread Cert.FfnDwdIdeal.nD Cert.FfnDwdIdeal.τ).loc Cert.FfnDwdIdeal.main_arg1) = m ((c.tc : Thread Cert.FfnDwdIdeal.nD Cert.FfnDwdIdeal.τ).loc Cert.FfnDwdIdeal.main_arg1))
      ∧ r.2.sem = fun _ => 0)

def quiescent_FfnDwdRefIdeal [hFfnDwdRefIdeal : Cert.FfnDwdRefIdeal.Facts] : Prop :=
  ∀ (m : (ℓ : Loc Cert.FfnDwdRefIdeal.nD Cert.FfnDwdRefIdeal.τ Cert.FfnDwdRefIdeal.sig) → Buf (Elt Ideal) ℓ) (g : Dev Cert.FfnDwdRefIdeal.nD → PrngReg), Pre_FfnDwdRefIdeal m →
    θ_run (Cert.FfnDwdRefIdeal.defs (F := Ideal)) (onTc (τ := Cert.FfnDwdRefIdeal.τ) (Cert.FfnDwdRefIdeal.main (F := Ideal))) ⟨m, fun _ => 0, g⟩ (fun r => (∀ c : Dev Cert.FfnDwdRefIdeal.nD,
      r.2.mem ((c.tc : Thread Cert.FfnDwdRefIdeal.nD Cert.FfnDwdRefIdeal.τ).loc Cert.FfnDwdRefIdeal.main_arg0) = m ((c.tc : Thread Cert.FfnDwdRefIdeal.nD Cert.FfnDwdRefIdeal.τ).loc Cert.FfnDwdRefIdeal.main_arg0)
      ∧ r.2.mem ((c.tc : Thread Cert.FfnDwdRefIdeal.nD Cert.FfnDwdRefIdeal.τ).loc Cert.FfnDwdRefIdeal.main_arg1) = m ((c.tc : Thread Cert.FfnDwdRefIdeal.nD Cert.FfnDwdRefIdeal.τ).loc Cert.FfnDwdRefIdeal.main_arg1))
      ∧ r.2.sem = fun _ => 0)

def quiescent_FfnDwgu [hFfnDwgu : Cert.FfnDwgu.Facts] : Prop :=
  ∀ (m : (ℓ : Loc Cert.FfnDwgu.nD Cert.FfnDwgu.τ Cert.FfnDwgu.sig) → Buf (Elt Bits) ℓ) (g : Dev Cert.FfnDwgu.nD → PrngReg), Pre_FfnDwgu m →
    θ_run (Cert.FfnDwgu.defs (F := Bits)) (onTc (τ := Cert.FfnDwgu.τ) (Cert.FfnDwgu.main (F := Bits))) ⟨m, fun _ => 0, g⟩ (fun r => (∀ c : Dev Cert.FfnDwgu.nD,
      r.2.mem ((c.tc : Thread Cert.FfnDwgu.nD Cert.FfnDwgu.τ).loc Cert.FfnDwgu.main_arg0) = m ((c.tc : Thread Cert.FfnDwgu.nD Cert.FfnDwgu.τ).loc Cert.FfnDwgu.main_arg0)
      ∧ r.2.mem ((c.tc : Thread Cert.FfnDwgu.nD Cert.FfnDwgu.τ).loc Cert.FfnDwgu.main_arg1) = m ((c.tc : Thread Cert.FfnDwgu.nD Cert.FfnDwgu.τ).loc Cert.FfnDwgu.main_arg1)
      ∧ r.2.mem ((c.tc : Thread Cert.FfnDwgu.nD Cert.FfnDwgu.τ).loc Cert.FfnDwgu.main_arg2) = m ((c.tc : Thread Cert.FfnDwgu.nD Cert.FfnDwgu.τ).loc Cert.FfnDwgu.main_arg2))
      ∧ r.2.sem = fun _ => 0)

def quiescent_FfnDwguIdeal [hFfnDwguIdeal : Cert.FfnDwguIdeal.Facts] : Prop :=
  ∀ (m : (ℓ : Loc Cert.FfnDwguIdeal.nD Cert.FfnDwguIdeal.τ Cert.FfnDwguIdeal.sig) → Buf (Elt Ideal) ℓ) (g : Dev Cert.FfnDwguIdeal.nD → PrngReg), Pre_FfnDwguIdeal m →
    θ_run (Cert.FfnDwguIdeal.defs (F := Ideal)) (onTc (τ := Cert.FfnDwguIdeal.τ) (Cert.FfnDwguIdeal.main (F := Ideal))) ⟨m, fun _ => 0, g⟩ (fun r => (∀ c : Dev Cert.FfnDwguIdeal.nD,
      r.2.mem ((c.tc : Thread Cert.FfnDwguIdeal.nD Cert.FfnDwguIdeal.τ).loc Cert.FfnDwguIdeal.main_arg0) = m ((c.tc : Thread Cert.FfnDwguIdeal.nD Cert.FfnDwguIdeal.τ).loc Cert.FfnDwguIdeal.main_arg0)
      ∧ r.2.mem ((c.tc : Thread Cert.FfnDwguIdeal.nD Cert.FfnDwguIdeal.τ).loc Cert.FfnDwguIdeal.main_arg1) = m ((c.tc : Thread Cert.FfnDwguIdeal.nD Cert.FfnDwguIdeal.τ).loc Cert.FfnDwguIdeal.main_arg1)
      ∧ r.2.mem ((c.tc : Thread Cert.FfnDwguIdeal.nD Cert.FfnDwguIdeal.τ).loc Cert.FfnDwguIdeal.main_arg2) = m ((c.tc : Thread Cert.FfnDwguIdeal.nD Cert.FfnDwguIdeal.τ).loc Cert.FfnDwguIdeal.main_arg2))
      ∧ r.2.sem = fun _ => 0)

def quiescent_FfnDwguRefIdeal [hFfnDwguRefIdeal : Cert.FfnDwguRefIdeal.Facts] : Prop :=
  ∀ (m : (ℓ : Loc Cert.FfnDwguRefIdeal.nD Cert.FfnDwguRefIdeal.τ Cert.FfnDwguRefIdeal.sig) → Buf (Elt Ideal) ℓ) (g : Dev Cert.FfnDwguRefIdeal.nD → PrngReg), Pre_FfnDwguRefIdeal m →
    θ_run (Cert.FfnDwguRefIdeal.defs (F := Ideal)) (onTc (τ := Cert.FfnDwguRefIdeal.τ) (Cert.FfnDwguRefIdeal.main (F := Ideal))) ⟨m, fun _ => 0, g⟩ (fun r => (∀ c : Dev Cert.FfnDwguRefIdeal.nD,
      r.2.mem ((c.tc : Thread Cert.FfnDwguRefIdeal.nD Cert.FfnDwguRefIdeal.τ).loc Cert.FfnDwguRefIdeal.main_arg0) = m ((c.tc : Thread Cert.FfnDwguRefIdeal.nD Cert.FfnDwguRefIdeal.τ).loc Cert.FfnDwguRefIdeal.main_arg0)
      ∧ r.2.mem ((c.tc : Thread Cert.FfnDwguRefIdeal.nD Cert.FfnDwguRefIdeal.τ).loc Cert.FfnDwguRefIdeal.main_arg1) = m ((c.tc : Thread Cert.FfnDwguRefIdeal.nD Cert.FfnDwguRefIdeal.τ).loc Cert.FfnDwguRefIdeal.main_arg1)
      ∧ r.2.mem ((c.tc : Thread Cert.FfnDwguRefIdeal.nD Cert.FfnDwguRefIdeal.τ).loc Cert.FfnDwguRefIdeal.main_arg2) = m ((c.tc : Thread Cert.FfnDwguRefIdeal.nD Cert.FfnDwguRefIdeal.τ).loc Cert.FfnDwguRefIdeal.main_arg2))
      ∧ r.2.sem = fun _ => 0)

def quiescent_FfnDn [hFfnDn : Cert.FfnDn.Facts] : Prop :=
  ∀ (m : (ℓ : Loc Cert.FfnDn.nD Cert.FfnDn.τ Cert.FfnDn.sig) → Buf (Elt Bits) ℓ) (g : Dev Cert.FfnDn.nD → PrngReg), Pre_FfnDn m →
    θ_run (Cert.FfnDn.defs (F := Bits)) (onTc (τ := Cert.FfnDn.τ) (Cert.FfnDn.main (F := Bits))) ⟨m, fun _ => 0, g⟩ (fun r => (∀ c : Dev Cert.FfnDn.nD,
      r.2.mem ((c.tc : Thread Cert.FfnDn.nD Cert.FfnDn.τ).loc Cert.FfnDn.main_arg0) = m ((c.tc : Thread Cert.FfnDn.nD Cert.FfnDn.τ).loc Cert.FfnDn.main_arg0)
      ∧ r.2.mem ((c.tc : Thread Cert.FfnDn.nD Cert.FfnDn.τ).loc Cert.FfnDn.main_arg1) = m ((c.tc : Thread Cert.FfnDn.nD Cert.FfnDn.τ).loc Cert.FfnDn.main_arg1)
      ∧ r.2.mem ((c.tc : Thread Cert.FfnDn.nD Cert.FfnDn.τ).loc Cert.FfnDn.main_arg2) = m ((c.tc : Thread Cert.FfnDn.nD Cert.FfnDn.τ).loc Cert.FfnDn.main_arg2)
      ∧ r.2.mem ((c.tc : Thread Cert.FfnDn.nD Cert.FfnDn.τ).loc Cert.FfnDn.main_arg3) = m ((c.tc : Thread Cert.FfnDn.nD Cert.FfnDn.τ).loc Cert.FfnDn.main_arg3))
      ∧ r.2.sem = fun _ => 0)

def quiescent_FfnDnIdeal [hFfnDnIdeal : Cert.FfnDnIdeal.Facts] : Prop :=
  ∀ (m : (ℓ : Loc Cert.FfnDnIdeal.nD Cert.FfnDnIdeal.τ Cert.FfnDnIdeal.sig) → Buf (Elt Ideal) ℓ) (g : Dev Cert.FfnDnIdeal.nD → PrngReg), Pre_FfnDnIdeal m →
    θ_run (Cert.FfnDnIdeal.defs (F := Ideal)) (onTc (τ := Cert.FfnDnIdeal.τ) (Cert.FfnDnIdeal.main (F := Ideal))) ⟨m, fun _ => 0, g⟩ (fun r => (∀ c : Dev Cert.FfnDnIdeal.nD,
      r.2.mem ((c.tc : Thread Cert.FfnDnIdeal.nD Cert.FfnDnIdeal.τ).loc Cert.FfnDnIdeal.main_arg0) = m ((c.tc : Thread Cert.FfnDnIdeal.nD Cert.FfnDnIdeal.τ).loc Cert.FfnDnIdeal.main_arg0)
      ∧ r.2.mem ((c.tc : Thread Cert.FfnDnIdeal.nD Cert.FfnDnIdeal.τ).loc Cert.FfnDnIdeal.main_arg1) = m ((c.tc : Thread Cert.FfnDnIdeal.nD Cert.FfnDnIdeal.τ).loc Cert.FfnDnIdeal.main_arg1)
      ∧ r.2.mem ((c.tc : Thread Cert.FfnDnIdeal.nD Cert.FfnDnIdeal.τ).loc Cert.FfnDnIdeal.main_arg2) = m ((c.tc : Thread Cert.FfnDnIdeal.nD Cert.FfnDnIdeal.τ).loc Cert.FfnDnIdeal.main_arg2)
      ∧ r.2.mem ((c.tc : Thread Cert.FfnDnIdeal.nD Cert.FfnDnIdeal.τ).loc Cert.FfnDnIdeal.main_arg3) = m ((c.tc : Thread Cert.FfnDnIdeal.nD Cert.FfnDnIdeal.τ).loc Cert.FfnDnIdeal.main_arg3))
      ∧ r.2.sem = fun _ => 0)

def quiescent_FfnDnRefIdeal [hFfnDnRefIdeal : Cert.FfnDnRefIdeal.Facts] : Prop :=
  ∀ (m : (ℓ : Loc Cert.FfnDnRefIdeal.nD Cert.FfnDnRefIdeal.τ Cert.FfnDnRefIdeal.sig) → Buf (Elt Ideal) ℓ) (g : Dev Cert.FfnDnRefIdeal.nD → PrngReg), Pre_FfnDnRefIdeal m →
    θ_run (Cert.FfnDnRefIdeal.defs (F := Ideal)) (onTc (τ := Cert.FfnDnRefIdeal.τ) (Cert.FfnDnRefIdeal.main (F := Ideal))) ⟨m, fun _ => 0, g⟩ (fun r => (∀ c : Dev Cert.FfnDnRefIdeal.nD,
      r.2.mem ((c.tc : Thread Cert.FfnDnRefIdeal.nD Cert.FfnDnRefIdeal.τ).loc Cert.FfnDnRefIdeal.main_arg0) = m ((c.tc : Thread Cert.FfnDnRefIdeal.nD Cert.FfnDnRefIdeal.τ).loc Cert.FfnDnRefIdeal.main_arg0)
      ∧ r.2.mem ((c.tc : Thread Cert.FfnDnRefIdeal.nD Cert.FfnDnRefIdeal.τ).loc Cert.FfnDnRefIdeal.main_arg1) = m ((c.tc : Thread Cert.FfnDnRefIdeal.nD Cert.FfnDnRefIdeal.τ).loc Cert.FfnDnRefIdeal.main_arg1)
      ∧ r.2.mem ((c.tc : Thread Cert.FfnDnRefIdeal.nD Cert.FfnDnRefIdeal.τ).loc Cert.FfnDnRefIdeal.main_arg2) = m ((c.tc : Thread Cert.FfnDnRefIdeal.nD Cert.FfnDnRefIdeal.τ).loc Cert.FfnDnRefIdeal.main_arg2)
      ∧ r.2.mem ((c.tc : Thread Cert.FfnDnRefIdeal.nD Cert.FfnDnRefIdeal.τ).loc Cert.FfnDnRefIdeal.main_arg3) = m ((c.tc : Thread Cert.FfnDnRefIdeal.nD Cert.FfnDnRefIdeal.τ).loc Cert.FfnDnRefIdeal.main_arg3))
      ∧ r.2.sem = fun _ => 0)

def quiescent_FfnGateUp [hFfnGateUp : Cert.FfnGateUp.Facts] : Prop :=
  ∀ (m : (ℓ : Loc Cert.FfnGateUp.nD Cert.FfnGateUp.τ Cert.FfnGateUp.sig) → Buf (Elt Bits) ℓ) (g : Dev Cert.FfnGateUp.nD → PrngReg), Pre_FfnGateUp m →
    θ_run (Cert.FfnGateUp.defs (F := Bits)) (onTc (τ := Cert.FfnGateUp.τ) (Cert.FfnGateUp.main (F := Bits))) ⟨m, fun _ => 0, g⟩ (fun r => (∀ c : Dev Cert.FfnGateUp.nD,
      r.2.mem ((c.tc : Thread Cert.FfnGateUp.nD Cert.FfnGateUp.τ).loc Cert.FfnGateUp.main_arg0) = m ((c.tc : Thread Cert.FfnGateUp.nD Cert.FfnGateUp.τ).loc Cert.FfnGateUp.main_arg0)
      ∧ r.2.mem ((c.tc : Thread Cert.FfnGateUp.nD Cert.FfnGateUp.τ).loc Cert.FfnGateUp.main_arg1) = m ((c.tc : Thread Cert.FfnGateUp.nD Cert.FfnGateUp.τ).loc Cert.FfnGateUp.main_arg1)
      ∧ r.2.mem ((c.tc : Thread Cert.FfnGateUp.nD Cert.FfnGateUp.τ).loc Cert.FfnGateUp.main_arg2) = m ((c.tc : Thread Cert.FfnGateUp.nD Cert.FfnGateUp.τ).loc Cert.FfnGateUp.main_arg2))
      ∧ r.2.sem = fun _ => 0)

def quiescent_FfnGateUpIdeal [hFfnGateUpIdeal : Cert.FfnGateUpIdeal.Facts] : Prop :=
  ∀ (m : (ℓ : Loc Cert.FfnGateUpIdeal.nD Cert.FfnGateUpIdeal.τ Cert.FfnGateUpIdeal.sig) → Buf (Elt Ideal) ℓ) (g : Dev Cert.FfnGateUpIdeal.nD → PrngReg), Pre_FfnGateUpIdeal m →
    θ_run (Cert.FfnGateUpIdeal.defs (F := Ideal)) (onTc (τ := Cert.FfnGateUpIdeal.τ) (Cert.FfnGateUpIdeal.main (F := Ideal))) ⟨m, fun _ => 0, g⟩ (fun r => (∀ c : Dev Cert.FfnGateUpIdeal.nD,
      r.2.mem ((c.tc : Thread Cert.FfnGateUpIdeal.nD Cert.FfnGateUpIdeal.τ).loc Cert.FfnGateUpIdeal.main_arg0) = m ((c.tc : Thread Cert.FfnGateUpIdeal.nD Cert.FfnGateUpIdeal.τ).loc Cert.FfnGateUpIdeal.main_arg0)
      ∧ r.2.mem ((c.tc : Thread Cert.FfnGateUpIdeal.nD Cert.FfnGateUpIdeal.τ).loc Cert.FfnGateUpIdeal.main_arg1) = m ((c.tc : Thread Cert.FfnGateUpIdeal.nD Cert.FfnGateUpIdeal.τ).loc Cert.FfnGateUpIdeal.main_arg1)
      ∧ r.2.mem ((c.tc : Thread Cert.FfnGateUpIdeal.nD Cert.FfnGateUpIdeal.τ).loc Cert.FfnGateUpIdeal.main_arg2) = m ((c.tc : Thread Cert.FfnGateUpIdeal.nD Cert.FfnGateUpIdeal.τ).loc Cert.FfnGateUpIdeal.main_arg2))
      ∧ r.2.sem = fun _ => 0)

def quiescent_FfnGateUpRefIdeal [hFfnGateUpRefIdeal : Cert.FfnGateUpRefIdeal.Facts] : Prop :=
  ∀ (m : (ℓ : Loc Cert.FfnGateUpRefIdeal.nD Cert.FfnGateUpRefIdeal.τ Cert.FfnGateUpRefIdeal.sig) → Buf (Elt Ideal) ℓ) (g : Dev Cert.FfnGateUpRefIdeal.nD → PrngReg), Pre_FfnGateUpRefIdeal m →
    θ_run (Cert.FfnGateUpRefIdeal.defs (F := Ideal)) (onTc (τ := Cert.FfnGateUpRefIdeal.τ) (Cert.FfnGateUpRefIdeal.main (F := Ideal))) ⟨m, fun _ => 0, g⟩ (fun r => (∀ c : Dev Cert.FfnGateUpRefIdeal.nD,
      r.2.mem ((c.tc : Thread Cert.FfnGateUpRefIdeal.nD Cert.FfnGateUpRefIdeal.τ).loc Cert.FfnGateUpRefIdeal.main_arg0) = m ((c.tc : Thread Cert.FfnGateUpRefIdeal.nD Cert.FfnGateUpRefIdeal.τ).loc Cert.FfnGateUpRefIdeal.main_arg0)
      ∧ r.2.mem ((c.tc : Thread Cert.FfnGateUpRefIdeal.nD Cert.FfnGateUpRefIdeal.τ).loc Cert.FfnGateUpRefIdeal.main_arg1) = m ((c.tc : Thread Cert.FfnGateUpRefIdeal.nD Cert.FfnGateUpRefIdeal.τ).loc Cert.FfnGateUpRefIdeal.main_arg1)
      ∧ r.2.mem ((c.tc : Thread Cert.FfnGateUpRefIdeal.nD Cert.FfnGateUpRefIdeal.τ).loc Cert.FfnGateUpRefIdeal.main_arg2) = m ((c.tc : Thread Cert.FfnGateUpRefIdeal.nD Cert.FfnGateUpRefIdeal.τ).loc Cert.FfnGateUpRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_ProjDx [hProjDx : Cert.ProjDx.Facts] : Prop :=
  ∀ (m : (ℓ : Loc Cert.ProjDx.nD Cert.ProjDx.τ Cert.ProjDx.sig) → Buf (Elt Bits) ℓ) (g : Dev Cert.ProjDx.nD → PrngReg), Pre_ProjDx m →
    θ_run (Cert.ProjDx.defs (F := Bits)) (onTc (τ := Cert.ProjDx.τ) (Cert.ProjDx.main (F := Bits))) ⟨m, fun _ => 0, g⟩ (fun r => (∀ c : Dev Cert.ProjDx.nD,
      r.2.mem ((c.tc : Thread Cert.ProjDx.nD Cert.ProjDx.τ).loc Cert.ProjDx.main_arg0) = m ((c.tc : Thread Cert.ProjDx.nD Cert.ProjDx.τ).loc Cert.ProjDx.main_arg0)
      ∧ r.2.mem ((c.tc : Thread Cert.ProjDx.nD Cert.ProjDx.τ).loc Cert.ProjDx.main_arg1) = m ((c.tc : Thread Cert.ProjDx.nD Cert.ProjDx.τ).loc Cert.ProjDx.main_arg1))
      ∧ r.2.sem = fun _ => 0)

def quiescent_ProjDxIdeal [hProjDxIdeal : Cert.ProjDxIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg), Pre_ProjDxIdeal m →
    θ_run (Cert.ProjDxIdeal.defs (F := Ideal)) (onTc (τ := Cert.ProjDxIdeal.τ) (Cert.ProjDxIdeal.main (F := Ideal))) ⟨m, fun _ => 0, g⟩ (fun r => (∀ c : Dev Cert.ProjDxIdeal.nD,
      r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
      ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1))
      ∧ r.2.sem = fun _ => 0)

def quiescent_ProjDxRefIdeal [hProjDxRefIdeal : Cert.ProjDxRefIdeal.Facts] : Prop :=
  ∀ (m : (ℓ : Loc Cert.ProjDxRefIdeal.nD Cert.ProjDxRefIdeal.τ Cert.ProjDxRefIdeal.sig) → Buf (Elt Ideal) ℓ) (g : Dev Cert.ProjDxRefIdeal.nD → PrngReg), Pre_ProjDxRefIdeal m →
    θ_run (Cert.ProjDxRefIdeal.defs (F := Ideal)) (onTc (τ := Cert.ProjDxRefIdeal.τ) (Cert.ProjDxRefIdeal.main (F := Ideal))) ⟨m, fun _ => 0, g⟩ (fun r => (∀ c : Dev Cert.ProjDxRefIdeal.nD,
      r.2.mem ((c.tc : Thread Cert.ProjDxRefIdeal.nD Cert.ProjDxRefIdeal.τ).loc Cert.ProjDxRefIdeal.main_arg0) = m ((c.tc : Thread Cert.ProjDxRefIdeal.nD Cert.ProjDxRefIdeal.τ).loc Cert.ProjDxRefIdeal.main_arg0)
      ∧ r.2.mem ((c.tc : Thread Cert.ProjDxRefIdeal.nD Cert.ProjDxRefIdeal.τ).loc Cert.ProjDxRefIdeal.main_arg1) = m ((c.tc : Thread Cert.ProjDxRefIdeal.nD Cert.ProjDxRefIdeal.τ).loc Cert.ProjDxRefIdeal.main_arg1))
      ∧ r.2.sem = fun _ => 0)

def quiescent_ProjDw [hProjDw : Cert.ProjDw.Facts] : Prop :=
  ∀ (m : (ℓ : Loc Cert.ProjDw.nD Cert.ProjDw.τ Cert.ProjDw.sig) → Buf (Elt Bits) ℓ) (g : Dev Cert.ProjDw.nD → PrngReg), Pre_ProjDw m →
    θ_run (Cert.ProjDw.defs (F := Bits)) (onTc (τ := Cert.ProjDw.τ) (Cert.ProjDw.main (F := Bits))) ⟨m, fun _ => 0, g⟩ (fun r => (∀ c : Dev Cert.ProjDw.nD,
      r.2.mem ((c.tc : Thread Cert.ProjDw.nD Cert.ProjDw.τ).loc Cert.ProjDw.main_arg0) = m ((c.tc : Thread Cert.ProjDw.nD Cert.ProjDw.τ).loc Cert.ProjDw.main_arg0)
      ∧ r.2.mem ((c.tc : Thread Cert.ProjDw.nD Cert.ProjDw.τ).loc Cert.ProjDw.main_arg1) = m ((c.tc : Thread Cert.ProjDw.nD Cert.ProjDw.τ).loc Cert.ProjDw.main_arg1))
      ∧ r.2.sem = fun _ => 0)

def quiescent_ProjDwIdeal [hProjDwIdeal : Cert.ProjDwIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg), Pre_ProjDwIdeal m →
    θ_run (Cert.ProjDwIdeal.defs (F := Ideal)) (onTc (τ := Cert.ProjDwIdeal.τ) (Cert.ProjDwIdeal.main (F := Ideal))) ⟨m, fun _ => 0, g⟩ (fun r => (∀ c : Dev Cert.ProjDwIdeal.nD,
      r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
      ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ r.2.sem = fun _ => 0)

def quiescent_ProjDwRefIdeal [hProjDwRefIdeal : Cert.ProjDwRefIdeal.Facts] : Prop :=
  ∀ (m : (ℓ : Loc Cert.ProjDwRefIdeal.nD Cert.ProjDwRefIdeal.τ Cert.ProjDwRefIdeal.sig) → Buf (Elt Ideal) ℓ) (g : Dev Cert.ProjDwRefIdeal.nD → PrngReg), Pre_ProjDwRefIdeal m →
    θ_run (Cert.ProjDwRefIdeal.defs (F := Ideal)) (onTc (τ := Cert.ProjDwRefIdeal.τ) (Cert.ProjDwRefIdeal.main (F := Ideal))) ⟨m, fun _ => 0, g⟩ (fun r => (∀ c : Dev Cert.ProjDwRefIdeal.nD,
      r.2.mem ((c.tc : Thread Cert.ProjDwRefIdeal.nD Cert.ProjDwRefIdeal.τ).loc Cert.ProjDwRefIdeal.main_arg0) = m ((c.tc : Thread Cert.ProjDwRefIdeal.nD Cert.ProjDwRefIdeal.τ).loc Cert.ProjDwRefIdeal.main_arg0)
      ∧ r.2.mem ((c.tc : Thread Cert.ProjDwRefIdeal.nD Cert.ProjDwRefIdeal.τ).loc Cert.ProjDwRefIdeal.main_arg1) = m ((c.tc : Thread Cert.ProjDwRefIdeal.nD Cert.ProjDwRefIdeal.τ).loc Cert.ProjDwRefIdeal.main_arg1))
      ∧ r.2.sem = fun _ => 0)

def quiescent_KvDw [hKvDw : Cert.KvDw.Facts] : Prop :=
  ∀ (m : (ℓ : Loc Cert.KvDw.nD Cert.KvDw.τ Cert.KvDw.sig) → Buf (Elt Bits) ℓ) (g : Dev Cert.KvDw.nD → PrngReg), Pre_KvDw m →
    θ_run (Cert.KvDw.defs (F := Bits)) (onTc (τ := Cert.KvDw.τ) (Cert.KvDw.main (F := Bits))) ⟨m, fun _ => 0, g⟩ (fun r => (∀ c : Dev Cert.KvDw.nD,
      r.2.mem ((c.tc : Thread Cert.KvDw.nD Cert.KvDw.τ).loc Cert.KvDw.main_arg0) = m ((c.tc : Thread Cert.KvDw.nD Cert.KvDw.τ).loc Cert.KvDw.main_arg0)
      ∧ r.2.mem ((c.tc : Thread Cert.KvDw.nD Cert.KvDw.τ).loc Cert.KvDw.main_arg1) = m ((c.tc : Thread Cert.KvDw.nD Cert.KvDw.τ).loc Cert.KvDw.main_arg1)
      ∧ r.2.mem ((c.tc : Thread Cert.KvDw.nD Cert.KvDw.τ).loc Cert.KvDw.main_arg2) = m ((c.tc : Thread Cert.KvDw.nD Cert.KvDw.τ).loc Cert.KvDw.main_arg2))
      ∧ r.2.sem = fun _ => 0)

def quiescent_KvDwIdeal [hKvDwIdeal : Cert.KvDwIdeal.Facts] : Prop :=
  ∀ (m : (ℓ : Loc Cert.KvDwIdeal.nD Cert.KvDwIdeal.τ Cert.KvDwIdeal.sig) → Buf (Elt Ideal) ℓ) (g : Dev Cert.KvDwIdeal.nD → PrngReg), Pre_KvDwIdeal m →
    θ_run (Cert.KvDwIdeal.defs (F := Ideal)) (onTc (τ := Cert.KvDwIdeal.τ) (Cert.KvDwIdeal.main (F := Ideal))) ⟨m, fun _ => 0, g⟩ (fun r => (∀ c : Dev Cert.KvDwIdeal.nD,
      r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
      ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1)
      ∧ r.2.mem ((c.tc : Thread Cert.KvDwIdeal.nD Cert.KvDwIdeal.τ).loc Cert.KvDwIdeal.main_arg2) = m ((c.tc : Thread Cert.KvDwIdeal.nD Cert.KvDwIdeal.τ).loc Cert.KvDwIdeal.main_arg2))
      ∧ r.2.sem = fun _ => 0)

def quiescent_KvDwRefIdeal [hKvDwRefIdeal : Cert.KvDwRefIdeal.Facts] : Prop :=
  ∀ (m : (ℓ : Loc Cert.KvDwRefIdeal.nD Cert.KvDwRefIdeal.τ Cert.KvDwRefIdeal.sig) → Buf (Elt Ideal) ℓ) (g : Dev Cert.KvDwRefIdeal.nD → PrngReg), Pre_KvDwRefIdeal m →
    θ_run (Cert.KvDwRefIdeal.defs (F := Ideal)) (onTc (τ := Cert.KvDwRefIdeal.τ) (Cert.KvDwRefIdeal.main (F := Ideal))) ⟨m, fun _ => 0, g⟩ (fun r => (∀ c : Dev Cert.KvDwRefIdeal.nD,
      r.2.mem ((c.tc : Thread Cert.KvDwRefIdeal.nD Cert.KvDwRefIdeal.τ).loc Cert.KvDwRefIdeal.main_arg0) = m ((c.tc : Thread Cert.KvDwRefIdeal.nD Cert.KvDwRefIdeal.τ).loc Cert.KvDwRefIdeal.main_arg0)
      ∧ r.2.mem ((c.tc : Thread Cert.KvDwRefIdeal.nD Cert.KvDwRefIdeal.τ).loc Cert.KvDwRefIdeal.main_arg1) = m ((c.tc : Thread Cert.KvDwRefIdeal.nD Cert.KvDwRefIdeal.τ).loc Cert.KvDwRefIdeal.main_arg1)
      ∧ r.2.mem ((c.tc : Thread Cert.KvDwRefIdeal.nD Cert.KvDwRefIdeal.τ).loc Cert.KvDwRefIdeal.main_arg2) = m ((c.tc : Thread Cert.KvDwRefIdeal.nD Cert.KvDwRefIdeal.τ).loc Cert.KvDwRefIdeal.main_arg2))
      ∧ r.2.sem = fun _ => 0)

def quiescent_KvDx [hKvDx : Cert.KvDx.Facts] : Prop :=
  ∀ (m : (ℓ : Loc Cert.KvDx.nD Cert.KvDx.τ Cert.KvDx.sig) → Buf (Elt Bits) ℓ) (g : Dev Cert.KvDx.nD → PrngReg), Pre_KvDx m →
    θ_run (Cert.KvDx.defs (F := Bits)) (onTc (τ := Cert.KvDx.τ) (Cert.KvDx.main (F := Bits))) ⟨m, fun _ => 0, g⟩ (fun r => (∀ c : Dev Cert.KvDx.nD,
      r.2.mem ((c.tc : Thread Cert.KvDx.nD Cert.KvDx.τ).loc Cert.KvDx.main_arg0) = m ((c.tc : Thread Cert.KvDx.nD Cert.KvDx.τ).loc Cert.KvDx.main_arg0)
      ∧ r.2.mem ((c.tc : Thread Cert.KvDx.nD Cert.KvDx.τ).loc Cert.KvDx.main_arg1) = m ((c.tc : Thread Cert.KvDx.nD Cert.KvDx.τ).loc Cert.KvDx.main_arg1)
      ∧ r.2.mem ((c.tc : Thread Cert.KvDx.nD Cert.KvDx.τ).loc Cert.KvDx.main_arg2) = m ((c.tc : Thread Cert.KvDx.nD Cert.KvDx.τ).loc Cert.KvDx.main_arg2)
      ∧ r.2.mem ((c.tc : Thread Cert.KvDx.nD Cert.KvDx.τ).loc Cert.KvDx.main_arg3) = m ((c.tc : Thread Cert.KvDx.nD Cert.KvDx.τ).loc Cert.KvDx.main_arg3))
      ∧ r.2.sem = fun _ => 0)

def quiescent_KvDxIdeal [hKvDxIdeal : Cert.KvDxIdeal.Facts] : Prop :=
  ∀ (m : (ℓ : Loc Cert.KvDxIdeal.nD Cert.KvDxIdeal.τ Cert.KvDxIdeal.sig) → Buf (Elt Ideal) ℓ) (g : Dev Cert.KvDxIdeal.nD → PrngReg), Pre_KvDxIdeal m →
    θ_run (Cert.KvDxIdeal.defs (F := Ideal)) (onTc (τ := Cert.KvDxIdeal.τ) (Cert.KvDxIdeal.main (F := Ideal))) ⟨m, fun _ => 0, g⟩ (fun r => (∀ c : Dev Cert.KvDxIdeal.nD,
      r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
      ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1)
      ∧ r.2.mem ((c.tc : Thread Cert.KvDxIdeal.nD Cert.KvDxIdeal.τ).loc Cert.KvDxIdeal.main_arg2) = m ((c.tc : Thread Cert.KvDxIdeal.nD Cert.KvDxIdeal.τ).loc Cert.KvDxIdeal.main_arg2)
      ∧ r.2.mem ((c.tc : Thread Cert.KvDxIdeal.nD Cert.KvDxIdeal.τ).loc Cert.KvDxIdeal.main_arg3) = m ((c.tc : Thread Cert.KvDxIdeal.nD Cert.KvDxIdeal.τ).loc Cert.KvDxIdeal.main_arg3))
      ∧ r.2.sem = fun _ => 0)

def quiescent_KvDxRefIdeal [hKvDxRefIdeal : Cert.KvDxRefIdeal.Facts] : Prop :=
  ∀ (m : (ℓ : Loc Cert.KvDxRefIdeal.nD Cert.KvDxRefIdeal.τ Cert.KvDxRefIdeal.sig) → Buf (Elt Ideal) ℓ) (g : Dev Cert.KvDxRefIdeal.nD → PrngReg), Pre_KvDxRefIdeal m →
    θ_run (Cert.KvDxRefIdeal.defs (F := Ideal)) (onTc (τ := Cert.KvDxRefIdeal.τ) (Cert.KvDxRefIdeal.main (F := Ideal))) ⟨m, fun _ => 0, g⟩ (fun r => (∀ c : Dev Cert.KvDxRefIdeal.nD,
      r.2.mem ((c.tc : Thread Cert.KvDxRefIdeal.nD Cert.KvDxRefIdeal.τ).loc Cert.KvDxRefIdeal.main_arg0) = m ((c.tc : Thread Cert.KvDxRefIdeal.nD Cert.KvDxRefIdeal.τ).loc Cert.KvDxRefIdeal.main_arg0)
      ∧ r.2.mem ((c.tc : Thread Cert.KvDxRefIdeal.nD Cert.KvDxRefIdeal.τ).loc Cert.KvDxRefIdeal.main_arg1) = m ((c.tc : Thread Cert.KvDxRefIdeal.nD Cert.KvDxRefIdeal.τ).loc Cert.KvDxRefIdeal.main_arg1)
      ∧ r.2.mem ((c.tc : Thread Cert.KvDxRefIdeal.nD Cert.KvDxRefIdeal.τ).loc Cert.KvDxRefIdeal.main_arg2) = m ((c.tc : Thread Cert.KvDxRefIdeal.nD Cert.KvDxRefIdeal.τ).loc Cert.KvDxRefIdeal.main_arg2)
      ∧ r.2.mem ((c.tc : Thread Cert.KvDxRefIdeal.nD Cert.KvDxRefIdeal.τ).loc Cert.KvDxRefIdeal.main_arg3) = m ((c.tc : Thread Cert.KvDxRefIdeal.nD Cert.KvDxRefIdeal.τ).loc Cert.KvDxRefIdeal.main_arg3))
      ∧ r.2.sem = fun _ => 0)

def quiescent_ConvTwoDx [hConvTwoDx : Cert.ConvTwoDx.Facts] : Prop :=
  ∀ (m : (ℓ : Loc Cert.ConvTwoDx.nD Cert.ConvTwoDx.τ Cert.ConvTwoDx.sig) → Buf (Elt Bits) ℓ) (g : Dev Cert.ConvTwoDx.nD → PrngReg), Pre_ConvTwoDx m →
    θ_run (Cert.ConvTwoDx.defs (F := Bits)) (onTc (τ := Cert.ConvTwoDx.τ) (Cert.ConvTwoDx.main (F := Bits))) ⟨m, fun _ => 0, g⟩ (fun r => (∀ c : Dev Cert.ConvTwoDx.nD,
      r.2.mem ((c.tc : Thread Cert.ConvTwoDx.nD Cert.ConvTwoDx.τ).loc Cert.ConvTwoDx.main_arg0) = m ((c.tc : Thread Cert.ConvTwoDx.nD Cert.ConvTwoDx.τ).loc Cert.ConvTwoDx.main_arg0)
      ∧ r.2.mem ((c.tc : Thread Cert.ConvTwoDx.nD Cert.ConvTwoDx.τ).loc Cert.ConvTwoDx.main_arg1) = m ((c.tc : Thread Cert.ConvTwoDx.nD Cert.ConvTwoDx.τ).loc Cert.ConvTwoDx.main_arg1))
      ∧ r.2.sem = fun _ => 0)

def quiescent_ConvTwoDxIdeal [hConvTwoDxIdeal : Cert.ConvTwoDxIdeal.Facts] : Prop :=
  ∀ (m : (ℓ : Loc Cert.ConvTwoDxIdeal.nD Cert.ConvTwoDxIdeal.τ Cert.ConvTwoDxIdeal.sig) → Buf (Elt Ideal) ℓ) (g : Dev Cert.ConvTwoDxIdeal.nD → PrngReg), Pre_ConvTwoDxIdeal m →
    θ_run (Cert.ConvTwoDxIdeal.defs (F := Ideal)) (onTc (τ := Cert.ConvTwoDxIdeal.τ) (Cert.ConvTwoDxIdeal.main (F := Ideal))) ⟨m, fun _ => 0, g⟩ (fun r => (∀ c : Dev Cert.ConvTwoDxIdeal.nD,
      r.2.mem ((c.tc : Thread Cert.ConvTwoDxIdeal.nD Cert.ConvTwoDxIdeal.τ).loc Cert.ConvTwoDxIdeal.main_arg0) = m ((c.tc : Thread Cert.ConvTwoDxIdeal.nD Cert.ConvTwoDxIdeal.τ).loc Cert.ConvTwoDxIdeal.main_arg0)
      ∧ r.2.mem ((c.tc : Thread Cert.ConvTwoDxIdeal.nD Cert.ConvTwoDxIdeal.τ).loc Cert.ConvTwoDxIdeal.main_arg1) = m ((c.tc : Thread Cert.ConvTwoDxIdeal.nD Cert.ConvTwoDxIdeal.τ).loc Cert.ConvTwoDxIdeal.main_arg1))
      ∧ r.2.sem = fun _ => 0)

def quiescent_ConvTwoDxRefIdeal [hConvTwoDxRefIdeal : Cert.ConvTwoDxRefIdeal.Facts] : Prop :=
  ∀ (m : (ℓ : Loc Cert.ConvTwoDxRefIdeal.nD Cert.ConvTwoDxRefIdeal.τ Cert.ConvTwoDxRefIdeal.sig) → Buf (Elt Ideal) ℓ) (g : Dev Cert.ConvTwoDxRefIdeal.nD → PrngReg), Pre_ConvTwoDxRefIdeal m →
    θ_run (Cert.ConvTwoDxRefIdeal.defs (F := Ideal)) (onTc (τ := Cert.ConvTwoDxRefIdeal.τ) (Cert.ConvTwoDxRefIdeal.main (F := Ideal))) ⟨m, fun _ => 0, g⟩ (fun r => (∀ c : Dev Cert.ConvTwoDxRefIdeal.nD,
      r.2.mem ((c.tc : Thread Cert.ConvTwoDxRefIdeal.nD Cert.ConvTwoDxRefIdeal.τ).loc Cert.ConvTwoDxRefIdeal.main_arg0) = m ((c.tc : Thread Cert.ConvTwoDxRefIdeal.nD Cert.ConvTwoDxRefIdeal.τ).loc Cert.ConvTwoDxRefIdeal.main_arg0)
      ∧ r.2.mem ((c.tc : Thread Cert.ConvTwoDxRefIdeal.nD Cert.ConvTwoDxRefIdeal.τ).loc Cert.ConvTwoDxRefIdeal.main_arg1) = m ((c.tc : Thread Cert.ConvTwoDxRefIdeal.nD Cert.ConvTwoDxRefIdeal.τ).loc Cert.ConvTwoDxRefIdeal.main_arg1))
      ∧ r.2.sem = fun _ => 0)

def quiescent_ConvOneDw [hConvOneDw : Cert.ConvOneDw.Facts] : Prop :=
  ∀ (m : (ℓ : Loc Cert.ConvOneDw.nD Cert.ConvOneDw.τ Cert.ConvOneDw.sig) → Buf (Elt Bits) ℓ) (g : Dev Cert.ConvOneDw.nD → PrngReg), Pre_ConvOneDw m →
    θ_run (Cert.ConvOneDw.defs (F := Bits)) (onTc (τ := Cert.ConvOneDw.τ) (Cert.ConvOneDw.main (F := Bits))) ⟨m, fun _ => 0, g⟩ (fun r => (∀ c : Dev Cert.ConvOneDw.nD,
      r.2.mem ((c.tc : Thread Cert.ConvOneDw.nD Cert.ConvOneDw.τ).loc Cert.ConvOneDw.main_arg0) = m ((c.tc : Thread Cert.ConvOneDw.nD Cert.ConvOneDw.τ).loc Cert.ConvOneDw.main_arg0)
      ∧ r.2.mem ((c.tc : Thread Cert.ConvOneDw.nD Cert.ConvOneDw.τ).loc Cert.ConvOneDw.main_arg1) = m ((c.tc : Thread Cert.ConvOneDw.nD Cert.ConvOneDw.τ).loc Cert.ConvOneDw.main_arg1))
      ∧ r.2.sem = fun _ => 0)

def quiescent_ConvOneDwIdeal [hConvOneDwIdeal : Cert.ConvOneDwIdeal.Facts] : Prop :=
  ∀ (m : (ℓ : Loc Cert.ConvOneDwIdeal.nD Cert.ConvOneDwIdeal.τ Cert.ConvOneDwIdeal.sig) → Buf (Elt Ideal) ℓ) (g : Dev Cert.ConvOneDwIdeal.nD → PrngReg), Pre_ConvOneDwIdeal m →
    θ_run (Cert.ConvOneDwIdeal.defs (F := Ideal)) (onTc (τ := Cert.ConvOneDwIdeal.τ) (Cert.ConvOneDwIdeal.main (F := Ideal))) ⟨m, fun _ => 0, g⟩ (fun r => (∀ c : Dev Cert.ConvOneDwIdeal.nD,
      r.2.mem ((c.tc : Thread Cert.ConvOneDwIdeal.nD Cert.ConvOneDwIdeal.τ).loc Cert.ConvOneDwIdeal.main_arg0) = m ((c.tc : Thread Cert.ConvOneDwIdeal.nD Cert.ConvOneDwIdeal.τ).loc Cert.ConvOneDwIdeal.main_arg0)
      ∧ r.2.mem ((c.tc : Thread Cert.ConvOneDwIdeal.nD Cert.ConvOneDwIdeal.τ).loc Cert.ConvOneDwIdeal.main_arg1) = m ((c.tc : Thread Cert.ConvOneDwIdeal.nD Cert.ConvOneDwIdeal.τ).loc Cert.ConvOneDwIdeal.main_arg1))
      ∧ r.2.sem = fun _ => 0)

def quiescent_ConvOneDwRefIdeal [hConvOneDwRefIdeal : Cert.ConvOneDwRefIdeal.Facts] : Prop :=
  ∀ (m : (ℓ : Loc Cert.ConvOneDwRefIdeal.nD Cert.ConvOneDwRefIdeal.τ Cert.ConvOneDwRefIdeal.sig) → Buf (Elt Ideal) ℓ) (g : Dev Cert.ConvOneDwRefIdeal.nD → PrngReg), Pre_ConvOneDwRefIdeal m →
    θ_run (Cert.ConvOneDwRefIdeal.defs (F := Ideal)) (onTc (τ := Cert.ConvOneDwRefIdeal.τ) (Cert.ConvOneDwRefIdeal.main (F := Ideal))) ⟨m, fun _ => 0, g⟩ (fun r => (∀ c : Dev Cert.ConvOneDwRefIdeal.nD,
      r.2.mem ((c.tc : Thread Cert.ConvOneDwRefIdeal.nD Cert.ConvOneDwRefIdeal.τ).loc Cert.ConvOneDwRefIdeal.main_arg0) = m ((c.tc : Thread Cert.ConvOneDwRefIdeal.nD Cert.ConvOneDwRefIdeal.τ).loc Cert.ConvOneDwRefIdeal.main_arg0)
      ∧ r.2.mem ((c.tc : Thread Cert.ConvOneDwRefIdeal.nD Cert.ConvOneDwRefIdeal.τ).loc Cert.ConvOneDwRefIdeal.main_arg1) = m ((c.tc : Thread Cert.ConvOneDwRefIdeal.nD Cert.ConvOneDwRefIdeal.τ).loc Cert.ConvOneDwRefIdeal.main_arg1))
      ∧ r.2.sem = fun _ => 0)

def quiescent_ConvOneDx [hConvOneDx : Cert.ConvOneDx.Facts] : Prop :=
  ∀ (m : (ℓ : Loc Cert.ConvOneDx.nD Cert.ConvOneDx.τ Cert.ConvOneDx.sig) → Buf (Elt Bits) ℓ) (g : Dev Cert.ConvOneDx.nD → PrngReg), Pre_ConvOneDx m →
    θ_run (Cert.ConvOneDx.defs (F := Bits)) (onTc (τ := Cert.ConvOneDx.τ) (Cert.ConvOneDx.main (F := Bits))) ⟨m, fun _ => 0, g⟩ (fun r => (∀ c : Dev Cert.ConvOneDx.nD,
      r.2.mem ((c.tc : Thread Cert.ConvOneDx.nD Cert.ConvOneDx.τ).loc Cert.ConvOneDx.main_arg0) = m ((c.tc : Thread Cert.ConvOneDx.nD Cert.ConvOneDx.τ).loc Cert.ConvOneDx.main_arg0)
      ∧ r.2.mem ((c.tc : Thread Cert.ConvOneDx.nD Cert.ConvOneDx.τ).loc Cert.ConvOneDx.main_arg1) = m ((c.tc : Thread Cert.ConvOneDx.nD Cert.ConvOneDx.τ).loc Cert.ConvOneDx.main_arg1))
      ∧ r.2.sem = fun _ => 0)

def quiescent_ConvOneDxIdeal [hConvOneDxIdeal : Cert.ConvOneDxIdeal.Facts] : Prop :=
  ∀ (m : (ℓ : Loc Cert.ConvOneDxIdeal.nD Cert.ConvOneDxIdeal.τ Cert.ConvOneDxIdeal.sig) → Buf (Elt Ideal) ℓ) (g : Dev Cert.ConvOneDxIdeal.nD → PrngReg), Pre_ConvOneDxIdeal m →
    θ_run (Cert.ConvOneDxIdeal.defs (F := Ideal)) (onTc (τ := Cert.ConvOneDxIdeal.τ) (Cert.ConvOneDxIdeal.main (F := Ideal))) ⟨m, fun _ => 0, g⟩ (fun r => (∀ c : Dev Cert.ConvOneDxIdeal.nD,
      r.2.mem ((c.tc : Thread Cert.ConvOneDxIdeal.nD Cert.ConvOneDxIdeal.τ).loc Cert.ConvOneDxIdeal.main_arg0) = m ((c.tc : Thread Cert.ConvOneDxIdeal.nD Cert.ConvOneDxIdeal.τ).loc Cert.ConvOneDxIdeal.main_arg0)
      ∧ r.2.mem ((c.tc : Thread Cert.ConvOneDxIdeal.nD Cert.ConvOneDxIdeal.τ).loc Cert.ConvOneDxIdeal.main_arg1) = m ((c.tc : Thread Cert.ConvOneDxIdeal.nD Cert.ConvOneDxIdeal.τ).loc Cert.ConvOneDxIdeal.main_arg1))
      ∧ r.2.sem = fun _ => 0)

def quiescent_ConvOneDxRefIdeal [hConvOneDxRefIdeal : Cert.ConvOneDxRefIdeal.Facts] : Prop :=
  ∀ (m : (ℓ : Loc Cert.ConvOneDxRefIdeal.nD Cert.ConvOneDxRefIdeal.τ Cert.ConvOneDxRefIdeal.sig) → Buf (Elt Ideal) ℓ) (g : Dev Cert.ConvOneDxRefIdeal.nD → PrngReg), Pre_ConvOneDxRefIdeal m →
    θ_run (Cert.ConvOneDxRefIdeal.defs (F := Ideal)) (onTc (τ := Cert.ConvOneDxRefIdeal.τ) (Cert.ConvOneDxRefIdeal.main (F := Ideal))) ⟨m, fun _ => 0, g⟩ (fun r => (∀ c : Dev Cert.ConvOneDxRefIdeal.nD,
      r.2.mem ((c.tc : Thread Cert.ConvOneDxRefIdeal.nD Cert.ConvOneDxRefIdeal.τ).loc Cert.ConvOneDxRefIdeal.main_arg0) = m ((c.tc : Thread Cert.ConvOneDxRefIdeal.nD Cert.ConvOneDxRefIdeal.τ).loc Cert.ConvOneDxRefIdeal.main_arg0)
      ∧ r.2.mem ((c.tc : Thread Cert.ConvOneDxRefIdeal.nD Cert.ConvOneDxRefIdeal.τ).loc Cert.ConvOneDxRefIdeal.main_arg1) = m ((c.tc : Thread Cert.ConvOneDxRefIdeal.nD Cert.ConvOneDxRefIdeal.τ).loc Cert.ConvOneDxRefIdeal.main_arg1))
      ∧ r.2.sem = fun _ => 0)

def quiescent_QProj [hQProj : Cert.QProj.Facts] : Prop :=
  ∀ (m : (ℓ : Loc Cert.QProj.nD Cert.QProj.τ Cert.QProj.sig) → Buf (Elt Bits) ℓ) (g : Dev Cert.QProj.nD → PrngReg), Pre_QProj m →
    θ_run (Cert.QProj.defs (F := Bits)) (onTc (τ := Cert.QProj.τ) (Cert.QProj.main (F := Bits))) ⟨m, fun _ => 0, g⟩ (fun r => (∀ c : Dev Cert.QProj.nD,
      r.2.mem ((c.tc : Thread Cert.QProj.nD Cert.QProj.τ).loc Cert.QProj.main_arg0) = m ((c.tc : Thread Cert.QProj.nD Cert.QProj.τ).loc Cert.QProj.main_arg0)
      ∧ r.2.mem ((c.tc : Thread Cert.QProj.nD Cert.QProj.τ).loc Cert.QProj.main_arg1) = m ((c.tc : Thread Cert.QProj.nD Cert.QProj.τ).loc Cert.QProj.main_arg1))
      ∧ r.2.sem = fun _ => 0)

def quiescent_QProjIdeal [hQProjIdeal : Cert.QProjIdeal.Facts] : Prop :=
  ∀ (m : (ℓ : Loc Cert.QProjIdeal.nD Cert.QProjIdeal.τ Cert.QProjIdeal.sig) → Buf (Elt Ideal) ℓ) (g : Dev Cert.QProjIdeal.nD → PrngReg), Pre_QProjIdeal m →
    θ_run (Cert.QProjIdeal.defs (F := Ideal)) (onTc (τ := Cert.QProjIdeal.τ) (Cert.QProjIdeal.main (F := Ideal))) ⟨m, fun _ => 0, g⟩ (fun r => (∀ c : Dev Cert.QProjIdeal.nD,
      r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
      ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1))
      ∧ r.2.sem = fun _ => 0)

def quiescent_QProjRefIdeal [hQProjRefIdeal : Cert.QProjRefIdeal.Facts] : Prop :=
  ∀ (m : (ℓ : Loc Cert.QProjRefIdeal.nD Cert.QProjRefIdeal.τ Cert.QProjRefIdeal.sig) → Buf (Elt Ideal) ℓ) (g : Dev Cert.QProjRefIdeal.nD → PrngReg), Pre_QProjRefIdeal m →
    θ_run (Cert.QProjRefIdeal.defs (F := Ideal)) (onTc (τ := Cert.QProjRefIdeal.τ) (Cert.QProjRefIdeal.main (F := Ideal))) ⟨m, fun _ => 0, g⟩ (fun r => (∀ c : Dev Cert.QProjRefIdeal.nD,
      r.2.mem ((c.tc : Thread Cert.QProjRefIdeal.nD Cert.QProjRefIdeal.τ).loc Cert.QProjRefIdeal.main_arg0) = m ((c.tc : Thread Cert.QProjRefIdeal.nD Cert.QProjRefIdeal.τ).loc Cert.QProjRefIdeal.main_arg0)
      ∧ r.2.mem ((c.tc : Thread Cert.QProjRefIdeal.nD Cert.QProjRefIdeal.τ).loc Cert.QProjRefIdeal.main_arg1) = m ((c.tc : Thread Cert.QProjRefIdeal.nD Cert.QProjRefIdeal.τ).loc Cert.QProjRefIdeal.main_arg1))
      ∧ r.2.sem = fun _ => 0)

def quiescent_KvProj [hKvProj : Cert.KvProj.Facts] : Prop :=
  ∀ (m : (ℓ : Loc Cert.KvProj.nD Cert.KvProj.τ Cert.KvProj.sig) → Buf (Elt Bits) ℓ) (g : Dev Cert.KvProj.nD → PrngReg), Pre_KvProj m →
    θ_run (Cert.KvProj.defs (F := Bits)) (onTc (τ := Cert.KvProj.τ) (Cert.KvProj.main (F := Bits))) ⟨m, fun _ => 0, g⟩ (fun r => (∀ c : Dev Cert.KvProj.nD,
      r.2.mem ((c.tc : Thread Cert.KvProj.nD Cert.KvProj.τ).loc Cert.KvProj.main_arg0) = m ((c.tc : Thread Cert.KvProj.nD Cert.KvProj.τ).loc Cert.KvProj.main_arg0)
      ∧ r.2.mem ((c.tc : Thread Cert.KvProj.nD Cert.KvProj.τ).loc Cert.KvProj.main_arg1) = m ((c.tc : Thread Cert.KvProj.nD Cert.KvProj.τ).loc Cert.KvProj.main_arg1)
      ∧ r.2.mem ((c.tc : Thread Cert.KvProj.nD Cert.KvProj.τ).loc Cert.KvProj.main_arg2) = m ((c.tc : Thread Cert.KvProj.nD Cert.KvProj.τ).loc Cert.KvProj.main_arg2))
      ∧ r.2.sem = fun _ => 0)

def quiescent_KvProjIdeal [hKvProjIdeal : Cert.KvProjIdeal.Facts] : Prop :=
  ∀ (m : (ℓ : Loc Cert.KvProjIdeal.nD Cert.KvProjIdeal.τ Cert.KvProjIdeal.sig) → Buf (Elt Ideal) ℓ) (g : Dev Cert.KvProjIdeal.nD → PrngReg), Pre_KvProjIdeal m →
    θ_run (Cert.KvProjIdeal.defs (F := Ideal)) (onTc (τ := Cert.KvProjIdeal.τ) (Cert.KvProjIdeal.main (F := Ideal))) ⟨m, fun _ => 0, g⟩ (fun r => (∀ c : Dev Cert.KvProjIdeal.nD,
      r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
      ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1)
      ∧ r.2.mem ((c.tc : Thread Cert.KvProjIdeal.nD Cert.KvProjIdeal.τ).loc Cert.KvProjIdeal.main_arg2) = m ((c.tc : Thread Cert.KvProjIdeal.nD Cert.KvProjIdeal.τ).loc Cert.KvProjIdeal.main_arg2))
      ∧ r.2.sem = fun _ => 0)

def quiescent_KvProjRefIdeal [hKvProjRefIdeal : Cert.KvProjRefIdeal.Facts] : Prop :=
  ∀ (m : (ℓ : Loc Cert.KvProjRefIdeal.nD Cert.KvProjRefIdeal.τ Cert.KvProjRefIdeal.sig) → Buf (Elt Ideal) ℓ) (g : Dev Cert.KvProjRefIdeal.nD → PrngReg), Pre_KvProjRefIdeal m →
    θ_run (Cert.KvProjRefIdeal.defs (F := Ideal)) (onTc (τ := Cert.KvProjRefIdeal.τ) (Cert.KvProjRefIdeal.main (F := Ideal))) ⟨m, fun _ => 0, g⟩ (fun r => (∀ c : Dev Cert.KvProjRefIdeal.nD,
      r.2.mem ((c.tc : Thread Cert.KvProjRefIdeal.nD Cert.KvProjRefIdeal.τ).loc Cert.KvProjRefIdeal.main_arg0) = m ((c.tc : Thread Cert.KvProjRefIdeal.nD Cert.KvProjRefIdeal.τ).loc Cert.KvProjRefIdeal.main_arg0)
      ∧ r.2.mem ((c.tc : Thread Cert.KvProjRefIdeal.nD Cert.KvProjRefIdeal.τ).loc Cert.KvProjRefIdeal.main_arg1) = m ((c.tc : Thread Cert.KvProjRefIdeal.nD Cert.KvProjRefIdeal.τ).loc Cert.KvProjRefIdeal.main_arg1)
      ∧ r.2.mem ((c.tc : Thread Cert.KvProjRefIdeal.nD Cert.KvProjRefIdeal.τ).loc Cert.KvProjRefIdeal.main_arg2) = m ((c.tc : Thread Cert.KvProjRefIdeal.nD Cert.KvProjRefIdeal.τ).loc Cert.KvProjRefIdeal.main_arg2))
      ∧ r.2.sem = fun _ => 0)

def quiescent_OProj [hOProj : Cert.OProj.Facts] : Prop :=
  ∀ (m : (ℓ : Loc Cert.OProj.nD Cert.OProj.τ Cert.OProj.sig) → Buf (Elt Bits) ℓ) (g : Dev Cert.OProj.nD → PrngReg), Pre_OProj m →
    θ_run (Cert.OProj.defs (F := Bits)) (onTc (τ := Cert.OProj.τ) (Cert.OProj.main (F := Bits))) ⟨m, fun _ => 0, g⟩ (fun r => (∀ c : Dev Cert.OProj.nD,
      r.2.mem ((c.tc : Thread Cert.OProj.nD Cert.OProj.τ).loc Cert.OProj.main_arg0) = m ((c.tc : Thread Cert.OProj.nD Cert.OProj.τ).loc Cert.OProj.main_arg0)
      ∧ r.2.mem ((c.tc : Thread Cert.OProj.nD Cert.OProj.τ).loc Cert.OProj.main_arg1) = m ((c.tc : Thread Cert.OProj.nD Cert.OProj.τ).loc Cert.OProj.main_arg1)
      ∧ r.2.mem ((c.tc : Thread Cert.OProj.nD Cert.OProj.τ).loc Cert.OProj.main_arg2) = m ((c.tc : Thread Cert.OProj.nD Cert.OProj.τ).loc Cert.OProj.main_arg2))
      ∧ r.2.sem = fun _ => 0)

def quiescent_OProjIdeal [hOProjIdeal : Cert.OProjIdeal.Facts] : Prop :=
  ∀ (m : (ℓ : Loc Cert.OProjIdeal.nD Cert.OProjIdeal.τ Cert.OProjIdeal.sig) → Buf (Elt Ideal) ℓ) (g : Dev Cert.OProjIdeal.nD → PrngReg), Pre_OProjIdeal m →
    θ_run (Cert.OProjIdeal.defs (F := Ideal)) (onTc (τ := Cert.OProjIdeal.τ) (Cert.OProjIdeal.main (F := Ideal))) ⟨m, fun _ => 0, g⟩ (fun r => (∀ c : Dev Cert.OProjIdeal.nD,
      r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
      ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
      ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2))
      ∧ r.2.sem = fun _ => 0)

def quiescent_OProjRefIdeal [hOProjRefIdeal : Cert.OProjRefIdeal.Facts] : Prop :=
  ∀ (m : (ℓ : Loc Cert.OProjRefIdeal.nD Cert.OProjRefIdeal.τ Cert.OProjRefIdeal.sig) → Buf (Elt Ideal) ℓ) (g : Dev Cert.OProjRefIdeal.nD → PrngReg), Pre_OProjRefIdeal m →
    θ_run (Cert.OProjRefIdeal.defs (F := Ideal)) (onTc (τ := Cert.OProjRefIdeal.τ) (Cert.OProjRefIdeal.main (F := Ideal))) ⟨m, fun _ => 0, g⟩ (fun r => (∀ c : Dev Cert.OProjRefIdeal.nD,
      r.2.mem ((c.tc : Thread Cert.OProjRefIdeal.nD Cert.OProjRefIdeal.τ).loc Cert.OProjRefIdeal.main_arg0) = m ((c.tc : Thread Cert.OProjRefIdeal.nD Cert.OProjRefIdeal.τ).loc Cert.OProjRefIdeal.main_arg0)
      ∧ r.2.mem ((c.tc : Thread Cert.OProjRefIdeal.nD Cert.OProjRefIdeal.τ).loc Cert.OProjRefIdeal.main_arg1) = m ((c.tc : Thread Cert.OProjRefIdeal.nD Cert.OProjRefIdeal.τ).loc Cert.OProjRefIdeal.main_arg1)
      ∧ r.2.mem ((c.tc : Thread Cert.OProjRefIdeal.nD Cert.OProjRefIdeal.τ).loc Cert.OProjRefIdeal.main_arg2) = m ((c.tc : Thread Cert.OProjRefIdeal.nD Cert.OProjRefIdeal.τ).loc Cert.OProjRefIdeal.main_arg2))
      ∧ r.2.sem = fun _ => 0)

def quiescent_ConvOne [hConvOne : Cert.ConvOne.Facts] : Prop :=
  ∀ (m : (ℓ : Loc Cert.ConvOne.nD Cert.ConvOne.τ Cert.ConvOne.sig) → Buf (Elt Bits) ℓ) (g : Dev Cert.ConvOne.nD → PrngReg), Pre_ConvOne m →
    θ_run (Cert.ConvOne.defs (F := Bits)) (onTc (τ := Cert.ConvOne.τ) (Cert.ConvOne.main (F := Bits))) ⟨m, fun _ => 0, g⟩ (fun r => (∀ c : Dev Cert.ConvOne.nD,
      r.2.mem ((c.tc : Thread Cert.ConvOne.nD Cert.ConvOne.τ).loc Cert.ConvOne.main_arg0) = m ((c.tc : Thread Cert.ConvOne.nD Cert.ConvOne.τ).loc Cert.ConvOne.main_arg0)
      ∧ r.2.mem ((c.tc : Thread Cert.ConvOne.nD Cert.ConvOne.τ).loc Cert.ConvOne.main_arg1) = m ((c.tc : Thread Cert.ConvOne.nD Cert.ConvOne.τ).loc Cert.ConvOne.main_arg1)
      ∧ r.2.mem ((c.tc : Thread Cert.ConvOne.nD Cert.ConvOne.τ).loc Cert.ConvOne.main_arg2) = m ((c.tc : Thread Cert.ConvOne.nD Cert.ConvOne.τ).loc Cert.ConvOne.main_arg2))
      ∧ r.2.sem = fun _ => 0)

def quiescent_ConvOneIdeal [hConvOneIdeal : Cert.ConvOneIdeal.Facts] : Prop :=
  ∀ (m : (ℓ : Loc Cert.ConvOneIdeal.nD Cert.ConvOneIdeal.τ Cert.ConvOneIdeal.sig) → Buf (Elt Ideal) ℓ) (g : Dev Cert.ConvOneIdeal.nD → PrngReg), Pre_ConvOneIdeal m →
    θ_run (Cert.ConvOneIdeal.defs (F := Ideal)) (onTc (τ := Cert.ConvOneIdeal.τ) (Cert.ConvOneIdeal.main (F := Ideal))) ⟨m, fun _ => 0, g⟩ (fun r => (∀ c : Dev Cert.ConvOneIdeal.nD,
      r.2.mem ((c.tc : Thread Cert.ConvOneIdeal.nD Cert.ConvOneIdeal.τ).loc Cert.ConvOneIdeal.main_arg0) = m ((c.tc : Thread Cert.ConvOneIdeal.nD Cert.ConvOneIdeal.τ).loc Cert.ConvOneIdeal.main_arg0)
      ∧ r.2.mem ((c.tc : Thread Cert.ConvOneIdeal.nD Cert.ConvOneIdeal.τ).loc Cert.ConvOneIdeal.main_arg1) = m ((c.tc : Thread Cert.ConvOneIdeal.nD Cert.ConvOneIdeal.τ).loc Cert.ConvOneIdeal.main_arg1)
      ∧ r.2.mem ((c.tc : Thread Cert.ConvOneIdeal.nD Cert.ConvOneIdeal.τ).loc Cert.ConvOneIdeal.main_arg2) = m ((c.tc : Thread Cert.ConvOneIdeal.nD Cert.ConvOneIdeal.τ).loc Cert.ConvOneIdeal.main_arg2))
      ∧ r.2.sem = fun _ => 0)

def quiescent_ConvOneRefIdeal [hConvOneRefIdeal : Cert.ConvOneRefIdeal.Facts] : Prop :=
  ∀ (m : (ℓ : Loc Cert.ConvOneRefIdeal.nD Cert.ConvOneRefIdeal.τ Cert.ConvOneRefIdeal.sig) → Buf (Elt Ideal) ℓ) (g : Dev Cert.ConvOneRefIdeal.nD → PrngReg), Pre_ConvOneRefIdeal m →
    θ_run (Cert.ConvOneRefIdeal.defs (F := Ideal)) (onTc (τ := Cert.ConvOneRefIdeal.τ) (Cert.ConvOneRefIdeal.main (F := Ideal))) ⟨m, fun _ => 0, g⟩ (fun r => (∀ c : Dev Cert.ConvOneRefIdeal.nD,
      r.2.mem ((c.tc : Thread Cert.ConvOneRefIdeal.nD Cert.ConvOneRefIdeal.τ).loc Cert.ConvOneRefIdeal.main_arg0) = m ((c.tc : Thread Cert.ConvOneRefIdeal.nD Cert.ConvOneRefIdeal.τ).loc Cert.ConvOneRefIdeal.main_arg0)
      ∧ r.2.mem ((c.tc : Thread Cert.ConvOneRefIdeal.nD Cert.ConvOneRefIdeal.τ).loc Cert.ConvOneRefIdeal.main_arg1) = m ((c.tc : Thread Cert.ConvOneRefIdeal.nD Cert.ConvOneRefIdeal.τ).loc Cert.ConvOneRefIdeal.main_arg1)
      ∧ r.2.mem ((c.tc : Thread Cert.ConvOneRefIdeal.nD Cert.ConvOneRefIdeal.τ).loc Cert.ConvOneRefIdeal.main_arg2) = m ((c.tc : Thread Cert.ConvOneRefIdeal.nD Cert.ConvOneRefIdeal.τ).loc Cert.ConvOneRefIdeal.main_arg2))
      ∧ r.2.sem = fun _ => 0)

def quiescent_ConvTwo [hConvTwo : Cert.ConvTwo.Facts] : Prop :=
  ∀ (m : (ℓ : Loc Cert.ConvTwo.nD Cert.ConvTwo.τ Cert.ConvTwo.sig) → Buf (Elt Bits) ℓ) (g : Dev Cert.ConvTwo.nD → PrngReg), Pre_ConvTwo m →
    θ_run (Cert.ConvTwo.defs (F := Bits)) (onTc (τ := Cert.ConvTwo.τ) (Cert.ConvTwo.main (F := Bits))) ⟨m, fun _ => 0, g⟩ (fun r => (∀ c : Dev Cert.ConvTwo.nD,
      r.2.mem ((c.tc : Thread Cert.ConvTwo.nD Cert.ConvTwo.τ).loc Cert.ConvTwo.main_arg0) = m ((c.tc : Thread Cert.ConvTwo.nD Cert.ConvTwo.τ).loc Cert.ConvTwo.main_arg0)
      ∧ r.2.mem ((c.tc : Thread Cert.ConvTwo.nD Cert.ConvTwo.τ).loc Cert.ConvTwo.main_arg1) = m ((c.tc : Thread Cert.ConvTwo.nD Cert.ConvTwo.τ).loc Cert.ConvTwo.main_arg1)
      ∧ r.2.mem ((c.tc : Thread Cert.ConvTwo.nD Cert.ConvTwo.τ).loc Cert.ConvTwo.main_arg2) = m ((c.tc : Thread Cert.ConvTwo.nD Cert.ConvTwo.τ).loc Cert.ConvTwo.main_arg2)
      ∧ r.2.mem ((c.tc : Thread Cert.ConvTwo.nD Cert.ConvTwo.τ).loc Cert.ConvTwo.main_arg3) = m ((c.tc : Thread Cert.ConvTwo.nD Cert.ConvTwo.τ).loc Cert.ConvTwo.main_arg3))
      ∧ r.2.sem = fun _ => 0)

def quiescent_ConvTwoIdeal [hConvTwoIdeal : Cert.ConvTwoIdeal.Facts] : Prop :=
  ∀ (m : (ℓ : Loc Cert.ConvTwoIdeal.nD Cert.ConvTwoIdeal.τ Cert.ConvTwoIdeal.sig) → Buf (Elt Ideal) ℓ) (g : Dev Cert.ConvTwoIdeal.nD → PrngReg), Pre_ConvTwoIdeal m →
    θ_run (Cert.ConvTwoIdeal.defs (F := Ideal)) (onTc (τ := Cert.ConvTwoIdeal.τ) (Cert.ConvTwoIdeal.main (F := Ideal))) ⟨m, fun _ => 0, g⟩ (fun r => (∀ c : Dev Cert.ConvTwoIdeal.nD,
      r.2.mem ((c.tc : Thread Cert.ConvTwoIdeal.nD Cert.ConvTwoIdeal.τ).loc Cert.ConvTwoIdeal.main_arg0) = m ((c.tc : Thread Cert.ConvTwoIdeal.nD Cert.ConvTwoIdeal.τ).loc Cert.ConvTwoIdeal.main_arg0)
      ∧ r.2.mem ((c.tc : Thread Cert.ConvTwoIdeal.nD Cert.ConvTwoIdeal.τ).loc Cert.ConvTwoIdeal.main_arg1) = m ((c.tc : Thread Cert.ConvTwoIdeal.nD Cert.ConvTwoIdeal.τ).loc Cert.ConvTwoIdeal.main_arg1)
      ∧ r.2.mem ((c.tc : Thread Cert.ConvTwoIdeal.nD Cert.ConvTwoIdeal.τ).loc Cert.ConvTwoIdeal.main_arg2) = m ((c.tc : Thread Cert.ConvTwoIdeal.nD Cert.ConvTwoIdeal.τ).loc Cert.ConvTwoIdeal.main_arg2)
      ∧ r.2.mem ((c.tc : Thread Cert.ConvTwoIdeal.nD Cert.ConvTwoIdeal.τ).loc Cert.ConvTwoIdeal.main_arg3) = m ((c.tc : Thread Cert.ConvTwoIdeal.nD Cert.ConvTwoIdeal.τ).loc Cert.ConvTwoIdeal.main_arg3))
      ∧ r.2.sem = fun _ => 0)

def quiescent_ConvTwoRefIdeal [hConvTwoRefIdeal : Cert.ConvTwoRefIdeal.Facts] : Prop :=
  ∀ (m : (ℓ : Loc Cert.ConvTwoRefIdeal.nD Cert.ConvTwoRefIdeal.τ Cert.ConvTwoRefIdeal.sig) → Buf (Elt Ideal) ℓ) (g : Dev Cert.ConvTwoRefIdeal.nD → PrngReg), Pre_ConvTwoRefIdeal m →
    θ_run (Cert.ConvTwoRefIdeal.defs (F := Ideal)) (onTc (τ := Cert.ConvTwoRefIdeal.τ) (Cert.ConvTwoRefIdeal.main (F := Ideal))) ⟨m, fun _ => 0, g⟩ (fun r => (∀ c : Dev Cert.ConvTwoRefIdeal.nD,
      r.2.mem ((c.tc : Thread Cert.ConvTwoRefIdeal.nD Cert.ConvTwoRefIdeal.τ).loc Cert.ConvTwoRefIdeal.main_arg0) = m ((c.tc : Thread Cert.ConvTwoRefIdeal.nD Cert.ConvTwoRefIdeal.τ).loc Cert.ConvTwoRefIdeal.main_arg0)
      ∧ r.2.mem ((c.tc : Thread Cert.ConvTwoRefIdeal.nD Cert.ConvTwoRefIdeal.τ).loc Cert.ConvTwoRefIdeal.main_arg1) = m ((c.tc : Thread Cert.ConvTwoRefIdeal.nD Cert.ConvTwoRefIdeal.τ).loc Cert.ConvTwoRefIdeal.main_arg1)
      ∧ r.2.mem ((c.tc : Thread Cert.ConvTwoRefIdeal.nD Cert.ConvTwoRefIdeal.τ).loc Cert.ConvTwoRefIdeal.main_arg2) = m ((c.tc : Thread Cert.ConvTwoRefIdeal.nD Cert.ConvTwoRefIdeal.τ).loc Cert.ConvTwoRefIdeal.main_arg2)
      ∧ r.2.mem ((c.tc : Thread Cert.ConvTwoRefIdeal.nD Cert.ConvTwoRefIdeal.τ).loc Cert.ConvTwoRefIdeal.main_arg3) = m ((c.tc : Thread Cert.ConvTwoRefIdeal.nD Cert.ConvTwoRefIdeal.τ).loc Cert.ConvTwoRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_FinalLoss [hFinalLoss : Cert.FinalLoss.Facts] : Prop :=
  ∀ (m : (ℓ : Loc Cert.FinalLoss.nD Cert.FinalLoss.τ Cert.FinalLoss.sig) → Buf (Elt Bits) ℓ) (g : Dev Cert.FinalLoss.nD → PrngReg), Pre_FinalLoss m →
    θ_run (Cert.FinalLoss.defs (F := Bits)) (onTc (τ := Cert.FinalLoss.τ) (Cert.FinalLoss.main (F := Bits))) ⟨m, fun _ => 0, g⟩ (fun r => (∀ c : Dev Cert.FinalLoss.nD,
      r.2.mem ((c.tc : Thread Cert.FinalLoss.nD Cert.FinalLoss.τ).loc Cert.FinalLoss.main_arg0) = m ((c.tc : Thread Cert.FinalLoss.nD Cert.FinalLoss.τ).loc Cert.FinalLoss.main_arg0)
      ∧ r.2.mem ((c.tc : Thread Cert.FinalLoss.nD Cert.FinalLoss.τ).loc Cert.FinalLoss.main_arg1) = m ((c.tc : Thread Cert.FinalLoss.nD Cert.FinalLoss.τ).loc Cert.FinalLoss.main_arg1)
      ∧ r.2.mem ((c.tc : Thread Cert.FinalLoss.nD Cert.FinalLoss.τ).loc Cert.FinalLoss.main_arg2) = m ((c.tc : Thread Cert.FinalLoss.nD Cert.FinalLoss.τ).loc Cert.FinalLoss.main_arg2))
      ∧ r.2.sem = fun _ => 0)

def quiescent_FinalLossIdeal [hFinalLossIdeal : Cert.FinalLossIdeal.Facts] : Prop :=
  ∀ (m : (ℓ : Loc Cert.FinalLossIdeal.nD Cert.FinalLossIdeal.τ Cert.FinalLossIdeal.sig) → Buf (Elt Ideal) ℓ) (g : Dev Cert.FinalLossIdeal.nD → PrngReg), Pre_FinalLossIdeal m →
    θ_run (Cert.FinalLossIdeal.defs (F := Ideal)) (onTc (τ := Cert.FinalLossIdeal.τ) (Cert.FinalLossIdeal.main (F := Ideal))) ⟨m, fun _ => 0, g⟩ (fun r => (∀ c : Dev Cert.FinalLossIdeal.nD,
      r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
      ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
      ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2))
      ∧ r.2.sem = fun _ => 0)

def quiescent_FinalLossRefIdeal [hFinalLossRefIdeal : Cert.FinalLossRefIdeal.Facts] : Prop :=
  ∀ (m : (ℓ : Loc Cert.FinalLossRefIdeal.nD Cert.FinalLossRefIdeal.τ Cert.FinalLossRefIdeal.sig) → Buf (Elt Ideal) ℓ) (g : Dev Cert.FinalLossRefIdeal.nD → PrngReg), Pre_FinalLossRefIdeal m →
    θ_run (Cert.FinalLossRefIdeal.defs (F := Ideal)) (onTc (τ := Cert.FinalLossRefIdeal.τ) (Cert.FinalLossRefIdeal.main (F := Ideal))) ⟨m, fun _ => 0, g⟩ (fun r => (∀ c : Dev Cert.FinalLossRefIdeal.nD,
      r.2.mem ((c.tc : Thread Cert.FinalLossRefIdeal.nD Cert.FinalLossRefIdeal.τ).loc Cert.FinalLossRefIdeal.main_arg0) = m ((c.tc : Thread Cert.FinalLossRefIdeal.nD Cert.FinalLossRefIdeal.τ).loc Cert.FinalLossRefIdeal.main_arg0)
      ∧ r.2.mem ((c.tc : Thread Cert.FinalLossRefIdeal.nD Cert.FinalLossRefIdeal.τ).loc Cert.FinalLossRefIdeal.main_arg1) = m ((c.tc : Thread Cert.FinalLossRefIdeal.nD Cert.FinalLossRefIdeal.τ).loc Cert.FinalLossRefIdeal.main_arg1)
      ∧ r.2.mem ((c.tc : Thread Cert.FinalLossRefIdeal.nD Cert.FinalLossRefIdeal.τ).loc Cert.FinalLossRefIdeal.main_arg2) = m ((c.tc : Thread Cert.FinalLossRefIdeal.nD Cert.FinalLossRefIdeal.τ).loc Cert.FinalLossRefIdeal.main_arg2))
      ∧ r.2.sem = fun _ => 0)

def quiescent_NormPair [hNormPair : Cert.NormPair.Facts] : Prop :=
  ∀ (m : (ℓ : Loc Cert.NormPair.nD Cert.NormPair.τ Cert.NormPair.sig) → Buf (Elt Bits) ℓ) (g : Dev Cert.NormPair.nD → PrngReg), Pre_NormPair m →
    θ_run (Cert.NormPair.defs (F := Bits)) (onTc (τ := Cert.NormPair.τ) (Cert.NormPair.main (F := Bits))) ⟨m, fun _ => 0, g⟩ (fun r => (∀ c : Dev Cert.NormPair.nD,
      r.2.mem ((c.tc : Thread Cert.NormPair.nD Cert.NormPair.τ).loc Cert.NormPair.main_arg0) = m ((c.tc : Thread Cert.NormPair.nD Cert.NormPair.τ).loc Cert.NormPair.main_arg0)
      ∧ r.2.mem ((c.tc : Thread Cert.NormPair.nD Cert.NormPair.τ).loc Cert.NormPair.main_arg1) = m ((c.tc : Thread Cert.NormPair.nD Cert.NormPair.τ).loc Cert.NormPair.main_arg1))
      ∧ r.2.sem = fun _ => 0)

def quiescent_NormPairIdeal [hNormPairIdeal : Cert.NormPairIdeal.Facts] : Prop :=
  ∀ (m : (ℓ : Loc Cert.NormPairIdeal.nD Cert.NormPairIdeal.τ Cert.NormPairIdeal.sig) → Buf (Elt Ideal) ℓ) (g : Dev Cert.NormPairIdeal.nD → PrngReg), Pre_NormPairIdeal m →
    θ_run (Cert.NormPairIdeal.defs (F := Ideal)) (onTc (τ := Cert.NormPairIdeal.τ) (Cert.NormPairIdeal.main (F := Ideal))) ⟨m, fun _ => 0, g⟩ (fun r => (∀ c : Dev Cert.NormPairIdeal.nD,
      r.2.mem ((c.tc : Thread Cert.NormPairIdeal.nD Cert.NormPairIdeal.τ).loc Cert.NormPairIdeal.main_arg0) = m ((c.tc : Thread Cert.NormPairIdeal.nD Cert.NormPairIdeal.τ).loc Cert.NormPairIdeal.main_arg0)
      ∧ r.2.mem ((c.tc : Thread Cert.NormPairIdeal.nD Cert.NormPairIdeal.τ).loc Cert.NormPairIdeal.main_arg1) = m ((c.tc : Thread Cert.NormPairIdeal.nD Cert.NormPairIdeal.τ).loc Cert.NormPairIdeal.main_arg1))
      ∧ r.2.sem = fun _ => 0)

def quiescent_NormPairRefIdeal [hNormPairRefIdeal : Cert.NormPairRefIdeal.Facts] : Prop :=
  ∀ (m : (ℓ : Loc Cert.NormPairRefIdeal.nD Cert.NormPairRefIdeal.τ Cert.NormPairRefIdeal.sig) → Buf (Elt Ideal) ℓ) (g : Dev Cert.NormPairRefIdeal.nD → PrngReg), Pre_NormPairRefIdeal m →
    θ_run (Cert.NormPairRefIdeal.defs (F := Ideal)) (onTc (τ := Cert.NormPairRefIdeal.τ) (Cert.NormPairRefIdeal.main (F := Ideal))) ⟨m, fun _ => 0, g⟩ (fun r => (∀ c : Dev Cert.NormPairRefIdeal.nD,
      r.2.mem ((c.tc : Thread Cert.NormPairRefIdeal.nD Cert.NormPairRefIdeal.τ).loc Cert.NormPairRefIdeal.main_arg0) = m ((c.tc : Thread Cert.NormPairRefIdeal.nD Cert.NormPairRefIdeal.τ).loc Cert.NormPairRefIdeal.main_arg0)
      ∧ r.2.mem ((c.tc : Thread Cert.NormPairRefIdeal.nD Cert.NormPairRefIdeal.τ).loc Cert.NormPairRefIdeal.main_arg1) = m ((c.tc : Thread Cert.NormPairRefIdeal.nD Cert.NormPairRefIdeal.τ).loc Cert.NormPairRefIdeal.main_arg1))
      ∧ r.2.sem = fun _ => 0)

def quiescent_NormPairBwd [hNormPairBwd : Cert.NormPairBwd.Facts] : Prop :=
  ∀ (m : (ℓ : Loc Cert.NormPairBwd.nD Cert.NormPairBwd.τ Cert.NormPairBwd.sig) → Buf (Elt Bits) ℓ) (g : Dev Cert.NormPairBwd.nD → PrngReg), Pre_NormPairBwd m →
    θ_run (Cert.NormPairBwd.defs (F := Bits)) (onTc (τ := Cert.NormPairBwd.τ) (Cert.NormPairBwd.main (F := Bits))) ⟨m, fun _ => 0, g⟩ (fun r => (∀ c : Dev Cert.NormPairBwd.nD,
      r.2.mem ((c.tc : Thread Cert.NormPairBwd.nD Cert.NormPairBwd.τ).loc Cert.NormPairBwd.main_arg0) = m ((c.tc : Thread Cert.NormPairBwd.nD Cert.NormPairBwd.τ).loc Cert.NormPairBwd.main_arg0)
      ∧ r.2.mem ((c.tc : Thread Cert.NormPairBwd.nD Cert.NormPairBwd.τ).loc Cert.NormPairBwd.main_arg1) = m ((c.tc : Thread Cert.NormPairBwd.nD Cert.NormPairBwd.τ).loc Cert.NormPairBwd.main_arg1)
      ∧ r.2.mem ((c.tc : Thread Cert.NormPairBwd.nD Cert.NormPairBwd.τ).loc Cert.NormPairBwd.main_arg2) = m ((c.tc : Thread Cert.NormPairBwd.nD Cert.NormPairBwd.τ).loc Cert.NormPairBwd.main_arg2)
      ∧ r.2.mem ((c.tc : Thread Cert.NormPairBwd.nD Cert.NormPairBwd.τ).loc Cert.NormPairBwd.main_arg3) = m ((c.tc : Thread Cert.NormPairBwd.nD Cert.NormPairBwd.τ).loc Cert.NormPairBwd.main_arg3)
      ∧ r.2.mem ((c.tc : Thread Cert.NormPairBwd.nD Cert.NormPairBwd.τ).loc Cert.NormPairBwd.main_arg4) = m ((c.tc : Thread Cert.NormPairBwd.nD Cert.NormPairBwd.τ).loc Cert.NormPairBwd.main_arg4))
      ∧ r.2.sem = fun _ => 0)

def quiescent_NormPairBwdIdeal [hNormPairBwdIdeal : Cert.NormPairBwdIdeal.Facts] : Prop :=
  ∀ (m : (ℓ : Loc Cert.NormPairBwdIdeal.nD Cert.NormPairBwdIdeal.τ Cert.NormPairBwdIdeal.sig) → Buf (Elt Ideal) ℓ) (g : Dev Cert.NormPairBwdIdeal.nD → PrngReg), Pre_NormPairBwdIdeal m →
    θ_run (Cert.NormPairBwdIdeal.defs (F := Ideal)) (onTc (τ := Cert.NormPairBwdIdeal.τ) (Cert.NormPairBwdIdeal.main (F := Ideal))) ⟨m, fun _ => 0, g⟩ (fun r => (∀ c : Dev Cert.NormPairBwdIdeal.nD,
      r.2.mem ((c.tc : Thread Cert.NormPairBwdIdeal.nD Cert.NormPairBwdIdeal.τ).loc Cert.NormPairBwdIdeal.main_arg0) = m ((c.tc : Thread Cert.NormPairBwdIdeal.nD Cert.NormPairBwdIdeal.τ).loc Cert.NormPairBwdIdeal.main_arg0)
      ∧ r.2.mem ((c.tc : Thread Cert.NormPairBwdIdeal.nD Cert.NormPairBwdIdeal.τ).loc Cert.NormPairBwdIdeal.main_arg1) = m ((c.tc : Thread Cert.NormPairBwdIdeal.nD Cert.NormPairBwdIdeal.τ).loc Cert.NormPairBwdIdeal.main_arg1)
      ∧ r.2.mem ((c.tc : Thread Cert.NormPairBwdIdeal.nD Cert.NormPairBwdIdeal.τ).loc Cert.NormPairBwdIdeal.main_arg2) = m ((c.tc : Thread Cert.NormPairBwdIdeal.nD Cert.NormPairBwdIdeal.τ).loc Cert.NormPairBwdIdeal.main_arg2)
      ∧ r.2.mem ((c.tc : Thread Cert.NormPairBwdIdeal.nD Cert.NormPairBwdIdeal.τ).loc Cert.NormPairBwdIdeal.main_arg3) = m ((c.tc : Thread Cert.NormPairBwdIdeal.nD Cert.NormPairBwdIdeal.τ).loc Cert.NormPairBwdIdeal.main_arg3)
      ∧ r.2.mem ((c.tc : Thread Cert.NormPairBwdIdeal.nD Cert.NormPairBwdIdeal.τ).loc Cert.NormPairBwdIdeal.main_arg4) = m ((c.tc : Thread Cert.NormPairBwdIdeal.nD Cert.NormPairBwdIdeal.τ).loc Cert.NormPairBwdIdeal.main_arg4))
      ∧ r.2.sem = fun _ => 0)

def quiescent_NormPairBwdRefIdeal [hNormPairBwdRefIdeal : Cert.NormPairBwdRefIdeal.Facts] : Prop :=
  ∀ (m : (ℓ : Loc Cert.NormPairBwdRefIdeal.nD Cert.NormPairBwdRefIdeal.τ Cert.NormPairBwdRefIdeal.sig) → Buf (Elt Ideal) ℓ) (g : Dev Cert.NormPairBwdRefIdeal.nD → PrngReg), Pre_NormPairBwdRefIdeal m →
    θ_run (Cert.NormPairBwdRefIdeal.defs (F := Ideal)) (onTc (τ := Cert.NormPairBwdRefIdeal.τ) (Cert.NormPairBwdRefIdeal.main (F := Ideal))) ⟨m, fun _ => 0, g⟩ (fun r => (∀ c : Dev Cert.NormPairBwdRefIdeal.nD,
      r.2.mem ((c.tc : Thread Cert.NormPairBwdRefIdeal.nD Cert.NormPairBwdRefIdeal.τ).loc Cert.NormPairBwdRefIdeal.main_arg0) = m ((c.tc : Thread Cert.NormPairBwdRefIdeal.nD Cert.NormPairBwdRefIdeal.τ).loc Cert.NormPairBwdRefIdeal.main_arg0)
      ∧ r.2.mem ((c.tc : Thread Cert.NormPairBwdRefIdeal.nD Cert.NormPairBwdRefIdeal.τ).loc Cert.NormPairBwdRefIdeal.main_arg1) = m ((c.tc : Thread Cert.NormPairBwdRefIdeal.nD Cert.NormPairBwdRefIdeal.τ).loc Cert.NormPairBwdRefIdeal.main_arg1)
      ∧ r.2.mem ((c.tc : Thread Cert.NormPairBwdRefIdeal.nD Cert.NormPairBwdRefIdeal.τ).loc Cert.NormPairBwdRefIdeal.main_arg2) = m ((c.tc : Thread Cert.NormPairBwdRefIdeal.nD Cert.NormPairBwdRefIdeal.τ).loc Cert.NormPairBwdRefIdeal.main_arg2)
      ∧ r.2.mem ((c.tc : Thread Cert.NormPairBwdRefIdeal.nD Cert.NormPairBwdRefIdeal.τ).loc Cert.NormPairBwdRefIdeal.main_arg3) = m ((c.tc : Thread Cert.NormPairBwdRefIdeal.nD Cert.NormPairBwdRefIdeal.τ).loc Cert.NormPairBwdRefIdeal.main_arg3)
      ∧ r.2.mem ((c.tc : Thread Cert.NormPairBwdRefIdeal.nD Cert.NormPairBwdRefIdeal.τ).loc Cert.NormPairBwdRefIdeal.main_arg4) = m ((c.tc : Thread Cert.NormPairBwdRefIdeal.nD Cert.NormPairBwdRefIdeal.τ).loc Cert.NormPairBwdRefIdeal.main_arg4))
      ∧ r.2.sem = fun _ => 0)

def quiescent_AdamWhole [hAdamWhole : Cert.AdamWhole.Facts] : Prop :=
  ∀ (m : (ℓ : Loc Cert.AdamWhole.nD Cert.AdamWhole.τ Cert.AdamWhole.sig) → Buf (Elt Bits) ℓ) (g : Dev Cert.AdamWhole.nD → PrngReg), Pre_AdamWhole m →
    θ_run (Cert.AdamWhole.defs (F := Bits)) (onTc (τ := Cert.AdamWhole.τ) (Cert.AdamWhole.main (F := Bits))) ⟨m, fun _ => 0, g⟩ (fun r => (∀ c : Dev Cert.AdamWhole.nD,
      r.2.mem ((c.tc : Thread Cert.AdamWhole.nD Cert.AdamWhole.τ).loc Cert.AdamWhole.main_arg0) = m ((c.tc : Thread Cert.AdamWhole.nD Cert.AdamWhole.τ).loc Cert.AdamWhole.main_arg0)
      ∧ r.2.mem ((c.tc : Thread Cert.AdamWhole.nD Cert.AdamWhole.τ).loc Cert.AdamWhole.main_arg1) = m ((c.tc : Thread Cert.AdamWhole.nD Cert.AdamWhole.τ).loc Cert.AdamWhole.main_arg1)
      ∧ r.2.mem ((c.tc : Thread Cert.AdamWhole.nD Cert.AdamWhole.τ).loc Cert.AdamWhole.main_arg2) = m ((c.tc : Thread Cert.AdamWhole.nD Cert.AdamWhole.τ).loc Cert.AdamWhole.main_arg2)
      ∧ r.2.mem ((c.tc : Thread Cert.AdamWhole.nD Cert.AdamWhole.τ).loc Cert.AdamWhole.main_arg3) = m ((c.tc : Thread Cert.AdamWhole.nD Cert.AdamWhole.τ).loc Cert.AdamWhole.main_arg3)
      ∧ r.2.mem ((c.tc : Thread Cert.AdamWhole.nD Cert.AdamWhole.τ).loc Cert.AdamWhole.main_arg4) = m ((c.tc : Thread Cert.AdamWhole.nD Cert.AdamWhole.τ).loc Cert.AdamWhole.main_arg4)
      ∧ r.2.mem ((c.tc : Thread Cert.AdamWhole.nD Cert.AdamWhole.τ).loc Cert.AdamWhole.main_arg5) = m ((c.tc : Thread Cert.AdamWhole.nD Cert.AdamWhole.τ).loc Cert.AdamWhole.main_arg5))
      ∧ r.2.sem = fun _ => 0)

def quiescent_AdamWholeIdeal [hAdamWholeIdeal : Cert.AdamWholeIdeal.Facts] : Prop :=
  ∀ (m : (ℓ : Loc Cert.AdamWholeIdeal.nD Cert.AdamWholeIdeal.τ Cert.AdamWholeIdeal.sig) → Buf (Elt Ideal) ℓ) (g : Dev Cert.AdamWholeIdeal.nD → PrngReg), Pre_AdamWholeIdeal m →
    θ_run (Cert.AdamWholeIdeal.defs (F := Ideal)) (onTc (τ := Cert.AdamWholeIdeal.τ) (Cert.AdamWholeIdeal.main (F := Ideal))) ⟨m, fun _ => 0, g⟩ (fun r => (∀ c : Dev Cert.AdamWholeIdeal.nD,
      r.2.mem ((c.tc : Thread Cert.AdamWholeIdeal.nD Cert.AdamWholeIdeal.τ).loc Cert.AdamWholeIdeal.main_arg0) = m ((c.tc : Thread Cert.AdamWholeIdeal.nD Cert.AdamWholeIdeal.τ).loc Cert.AdamWholeIdeal.main_arg0)
      ∧ r.2.mem ((c.tc : Thread Cert.AdamWholeIdeal.nD Cert.AdamWholeIdeal.τ).loc Cert.AdamWholeIdeal.main_arg1) = m ((c.tc : Thread Cert.AdamWholeIdeal.nD Cert.AdamWholeIdeal.τ).loc Cert.AdamWholeIdeal.main_arg1)
      ∧ r.2.mem ((c.tc : Thread Cert.AdamWholeIdeal.nD Cert.AdamWholeIdeal.τ).loc Cert.AdamWholeIdeal.main_arg2) = m ((c.tc : Thread Cert.AdamWholeIdeal.nD Cert.AdamWholeIdeal.τ).loc Cert.AdamWholeIdeal.main_arg2)
      ∧ r.2.mem ((c.tc : Thread Cert.AdamWholeIdeal.nD Cert.AdamWholeIdeal.τ).loc Cert.AdamWholeIdeal.main_arg3) = m ((c.tc : Thread Cert.AdamWholeIdeal.nD Cert.AdamWholeIdeal.τ).loc Cert.AdamWholeIdeal.main_arg3)
      ∧ r.2.mem ((c.tc : Thread Cert.AdamWholeIdeal.nD Cert.AdamWholeIdeal.τ).loc Cert.AdamWholeIdeal.main_arg4) = m ((c.tc : Thread Cert.AdamWholeIdeal.nD Cert.AdamWholeIdeal.τ).loc Cert.AdamWholeIdeal.main_arg4)
      ∧ r.2.mem ((c.tc : Thread Cert.AdamWholeIdeal.nD Cert.AdamWholeIdeal.τ).loc Cert.AdamWholeIdeal.main_arg5) = m ((c.tc : Thread Cert.AdamWholeIdeal.nD Cert.AdamWholeIdeal.τ).loc Cert.AdamWholeIdeal.main_arg5))
      ∧ r.2.sem = fun _ => 0)

def quiescent_AdamWholeRefIdeal [hAdamWholeRefIdeal : Cert.AdamWholeRefIdeal.Facts] : Prop :=
  ∀ (m : (ℓ : Loc Cert.AdamWholeRefIdeal.nD Cert.AdamWholeRefIdeal.τ Cert.AdamWholeRefIdeal.sig) → Buf (Elt Ideal) ℓ) (g : Dev Cert.AdamWholeRefIdeal.nD → PrngReg), Pre_AdamWholeRefIdeal m →
    θ_run (Cert.AdamWholeRefIdeal.defs (F := Ideal)) (onTc (τ := Cert.AdamWholeRefIdeal.τ) (Cert.AdamWholeRefIdeal.main (F := Ideal))) ⟨m, fun _ => 0, g⟩ (fun r => (∀ c : Dev Cert.AdamWholeRefIdeal.nD,
      r.2.mem ((c.tc : Thread Cert.AdamWholeRefIdeal.nD Cert.AdamWholeRefIdeal.τ).loc Cert.AdamWholeRefIdeal.main_arg0) = m ((c.tc : Thread Cert.AdamWholeRefIdeal.nD Cert.AdamWholeRefIdeal.τ).loc Cert.AdamWholeRefIdeal.main_arg0)
      ∧ r.2.mem ((c.tc : Thread Cert.AdamWholeRefIdeal.nD Cert.AdamWholeRefIdeal.τ).loc Cert.AdamWholeRefIdeal.main_arg1) = m ((c.tc : Thread Cert.AdamWholeRefIdeal.nD Cert.AdamWholeRefIdeal.τ).loc Cert.AdamWholeRefIdeal.main_arg1)
      ∧ r.2.mem ((c.tc : Thread Cert.AdamWholeRefIdeal.nD Cert.AdamWholeRefIdeal.τ).loc Cert.AdamWholeRefIdeal.main_arg2) = m ((c.tc : Thread Cert.AdamWholeRefIdeal.nD Cert.AdamWholeRefIdeal.τ).loc Cert.AdamWholeRefIdeal.main_arg2)
      ∧ r.2.mem ((c.tc : Thread Cert.AdamWholeRefIdeal.nD Cert.AdamWholeRefIdeal.τ).loc Cert.AdamWholeRefIdeal.main_arg3) = m ((c.tc : Thread Cert.AdamWholeRefIdeal.nD Cert.AdamWholeRefIdeal.τ).loc Cert.AdamWholeRefIdeal.main_arg3)
      ∧ r.2.mem ((c.tc : Thread Cert.AdamWholeRefIdeal.nD Cert.AdamWholeRefIdeal.τ).loc Cert.AdamWholeRefIdeal.main_arg4) = m ((c.tc : Thread Cert.AdamWholeRefIdeal.nD Cert.AdamWholeRefIdeal.τ).loc Cert.AdamWholeRefIdeal.main_arg4)
      ∧ r.2.mem ((c.tc : Thread Cert.AdamWholeRefIdeal.nD Cert.AdamWholeRefIdeal.τ).loc Cert.AdamWholeRefIdeal.main_arg5) = m ((c.tc : Thread Cert.AdamWholeRefIdeal.nD Cert.AdamWholeRefIdeal.τ).loc Cert.AdamWholeRefIdeal.main_arg5))
      ∧ r.2.sem = fun _ => 0)

def quiescent_AdamRows [hAdamRows : Cert.AdamRows.Facts] [hPre_chip_rows : Cert.Pre_chip_rows.Facts] : Prop :=
  ∀ (m : (ℓ : Loc Cert.AdamRows.nD Cert.AdamRows.τ Cert.AdamRows.sig) → Buf (Elt Bits) ℓ) (g : Dev Cert.AdamRows.nD → PrngReg), Pre_AdamRows m →
    θ_run (Cert.AdamRows.defs (F := Bits)) (onTc (τ := Cert.AdamRows.τ) (Cert.AdamRows.main (F := Bits))) ⟨m, fun _ => 0, g⟩ (fun r => (∀ c : Dev Cert.AdamRows.nD,
      r.2.mem ((c.tc : Thread Cert.AdamRows.nD Cert.AdamRows.τ).loc Cert.AdamRows.main_arg0) = m ((c.tc : Thread Cert.AdamRows.nD Cert.AdamRows.τ).loc Cert.AdamRows.main_arg0)
      ∧ r.2.mem ((c.tc : Thread Cert.AdamRows.nD Cert.AdamRows.τ).loc Cert.AdamRows.main_arg1) = m ((c.tc : Thread Cert.AdamRows.nD Cert.AdamRows.τ).loc Cert.AdamRows.main_arg1)
      ∧ r.2.mem ((c.tc : Thread Cert.AdamRows.nD Cert.AdamRows.τ).loc Cert.AdamRows.main_arg2) = m ((c.tc : Thread Cert.AdamRows.nD Cert.AdamRows.τ).loc Cert.AdamRows.main_arg2)
      ∧ r.2.mem ((c.tc : Thread Cert.AdamRows.nD Cert.AdamRows.τ).loc Cert.AdamRows.main_arg3) = m ((c.tc : Thread Cert.AdamRows.nD Cert.AdamRows.τ).loc Cert.AdamRows.main_arg3)
      ∧ r.2.mem ((c.tc : Thread Cert.AdamRows.nD Cert.AdamRows.τ).loc Cert.AdamRows.main_arg4) = m ((c.tc : Thread Cert.AdamRows.nD Cert.AdamRows.τ).loc Cert.AdamRows.main_arg4)
      ∧ r.2.mem ((c.tc : Thread Cert.AdamRows.nD Cert.AdamRows.τ).loc Cert.AdamRows.main_arg5) = m ((c.tc : Thread Cert.AdamRows.nD Cert.AdamRows.τ).loc Cert.AdamRows.main_arg5))
      ∧ r.2.sem = fun _ => 0)

def quiescent_AdamRowsIdeal [hAdamRowsIdeal : Cert.AdamRowsIdeal.Facts] [hPre_chip_rows : Cert.Pre_chip_rows.Facts] : Prop :=
  ∀ (m : (ℓ : Loc Cert.AdamRowsIdeal.nD Cert.AdamRowsIdeal.τ Cert.AdamRowsIdeal.sig) → Buf (Elt Ideal) ℓ) (g : Dev Cert.AdamRowsIdeal.nD → PrngReg), Pre_AdamRowsIdeal m →
    θ_run (Cert.AdamRowsIdeal.defs (F := Ideal)) (onTc (τ := Cert.AdamRowsIdeal.τ) (Cert.AdamRowsIdeal.main (F := Ideal))) ⟨m, fun _ => 0, g⟩ (fun r => (∀ c : Dev Cert.AdamRowsIdeal.nD,
      r.2.mem ((c.tc : Thread Cert.AdamRowsIdeal.nD Cert.AdamRowsIdeal.τ).loc Cert.AdamRowsIdeal.main_arg0) = m ((c.tc : Thread Cert.AdamRowsIdeal.nD Cert.AdamRowsIdeal.τ).loc Cert.AdamRowsIdeal.main_arg0)
      ∧ r.2.mem ((c.tc : Thread Cert.AdamRowsIdeal.nD Cert.AdamRowsIdeal.τ).loc Cert.AdamRowsIdeal.main_arg1) = m ((c.tc : Thread Cert.AdamRowsIdeal.nD Cert.AdamRowsIdeal.τ).loc Cert.AdamRowsIdeal.main_arg1)
      ∧ r.2.mem ((c.tc : Thread Cert.AdamRowsIdeal.nD Cert.AdamRowsIdeal.τ).loc Cert.AdamRowsIdeal.main_arg2) = m ((c.tc : Thread Cert.AdamRowsIdeal.nD Cert.AdamRowsIdeal.τ).loc Cert.AdamRowsIdeal.main_arg2)
      ∧ r.2.mem ((c.tc : Thread Cert.AdamRowsIdeal.nD Cert.AdamRowsIdeal.τ).loc Cert.AdamRowsIdeal.main_arg3) = m ((c.tc : Thread Cert.AdamRowsIdeal.nD Cert.AdamRowsIdeal.τ).loc Cert.AdamRowsIdeal.main_arg3)
      ∧ r.2.mem ((c.tc : Thread Cert.AdamRowsIdeal.nD Cert.AdamRowsIdeal.τ).loc Cert.AdamRowsIdeal.main_arg4) = m ((c.tc : Thread Cert.AdamRowsIdeal.nD Cert.AdamRowsIdeal.τ).loc Cert.AdamRowsIdeal.main_arg4)
      ∧ r.2.mem ((c.tc : Thread Cert.AdamRowsIdeal.nD Cert.AdamRowsIdeal.τ).loc Cert.AdamRowsIdeal.main_arg5) = m ((c.tc : Thread Cert.AdamRowsIdeal.nD Cert.AdamRowsIdeal.τ).loc Cert.AdamRowsIdeal.main_arg5))
      ∧ r.2.sem = fun _ => 0)

def quiescent_AdamRowsRefIdeal [hAdamRowsRefIdeal : Cert.AdamRowsRefIdeal.Facts] : Prop :=
  ∀ (m : (ℓ : Loc Cert.AdamRowsRefIdeal.nD Cert.AdamRowsRefIdeal.τ Cert.AdamRowsRefIdeal.sig) → Buf (Elt Ideal) ℓ) (g : Dev Cert.AdamRowsRefIdeal.nD → PrngReg), Pre_AdamRowsRefIdeal m →
    θ_run (Cert.AdamRowsRefIdeal.defs (F := Ideal)) (onTc (τ := Cert.AdamRowsRefIdeal.τ) (Cert.AdamRowsRefIdeal.main (F := Ideal))) ⟨m, fun _ => 0, g⟩ (fun r => (∀ c : Dev Cert.AdamRowsRefIdeal.nD,
      r.2.mem ((c.tc : Thread Cert.AdamRowsRefIdeal.nD Cert.AdamRowsRefIdeal.τ).loc Cert.AdamRowsRefIdeal.main_arg0) = m ((c.tc : Thread Cert.AdamRowsRefIdeal.nD Cert.AdamRowsRefIdeal.τ).loc Cert.AdamRowsRefIdeal.main_arg0)
      ∧ r.2.mem ((c.tc : Thread Cert.AdamRowsRefIdeal.nD Cert.AdamRowsRefIdeal.τ).loc Cert.AdamRowsRefIdeal.main_arg1) = m ((c.tc : Thread Cert.AdamRowsRefIdeal.nD Cert.AdamRowsRefIdeal.τ).loc Cert.AdamRowsRefIdeal.main_arg1)
      ∧ r.2.mem ((c.tc : Thread Cert.AdamRowsRefIdeal.nD Cert.AdamRowsRefIdeal.τ).loc Cert.AdamRowsRefIdeal.main_arg2) = m ((c.tc : Thread Cert.AdamRowsRefIdeal.nD Cert.AdamRowsRefIdeal.τ).loc Cert.AdamRowsRefIdeal.main_arg2)
      ∧ r.2.mem ((c.tc : Thread Cert.AdamRowsRefIdeal.nD Cert.AdamRowsRefIdeal.τ).loc Cert.AdamRowsRefIdeal.main_arg3) = m ((c.tc : Thread Cert.AdamRowsRefIdeal.nD Cert.AdamRowsRefIdeal.τ).loc Cert.AdamRowsRefIdeal.main_arg3)
      ∧ r.2.mem ((c.tc : Thread Cert.AdamRowsRefIdeal.nD Cert.AdamRowsRefIdeal.τ).loc Cert.AdamRowsRefIdeal.main_arg4) = m ((c.tc : Thread Cert.AdamRowsRefIdeal.nD Cert.AdamRowsRefIdeal.τ).loc Cert.AdamRowsRefIdeal.main_arg4)
      ∧ r.2.mem ((c.tc : Thread Cert.AdamRowsRefIdeal.nD Cert.AdamRowsRefIdeal.τ).loc Cert.AdamRowsRefIdeal.main_arg5) = m ((c.tc : Thread Cert.AdamRowsRefIdeal.nD Cert.AdamRowsRefIdeal.τ).loc Cert.AdamRowsRefIdeal.main_arg5))
      ∧ r.2.sem = fun _ => 0)

def quiescent_AdamRowsRefIdeal_pre_chip_rows [hAdamRowsRefIdeal : Cert.AdamRowsRefIdeal.Facts] [hPre_chip_rows : Cert.Pre_chip_rows.Facts] : Prop :=
  ∀ (m : (ℓ : Loc Cert.AdamRowsRefIdeal.nD Cert.AdamRowsRefIdeal.τ Cert.AdamRowsRefIdeal.sig) → Buf (Elt Ideal) ℓ) (g : Dev Cert.AdamRowsRefIdeal.nD → PrngReg), Pre_AdamRowsRefIdeal_chip_rows m →
    θ_run (Cert.AdamRowsRefIdeal.defs (F := Ideal)) (onTc (τ := Cert.AdamRowsRefIdeal.τ) (Cert.AdamRowsRefIdeal.main (F := Ideal))) ⟨m, fun _ => 0, g⟩ (fun r => (∀ c : Dev Cert.AdamRowsRefIdeal.nD,
      r.2.mem ((c.tc : Thread Cert.AdamRowsRefIdeal.nD Cert.AdamRowsRefIdeal.τ).loc Cert.AdamRowsRefIdeal.main_arg0) = m ((c.tc : Thread Cert.AdamRowsRefIdeal.nD Cert.AdamRowsRefIdeal.τ).loc Cert.AdamRowsRefIdeal.main_arg0)
      ∧ r.2.mem ((c.tc : Thread Cert.AdamRowsRefIdeal.nD Cert.AdamRowsRefIdeal.τ).loc Cert.AdamRowsRefIdeal.main_arg1) = m ((c.tc : Thread Cert.AdamRowsRefIdeal.nD Cert.AdamRowsRefIdeal.τ).loc Cert.AdamRowsRefIdeal.main_arg1)
      ∧ r.2.mem ((c.tc : Thread Cert.AdamRowsRefIdeal.nD Cert.AdamRowsRefIdeal.τ).loc Cert.AdamRowsRefIdeal.main_arg2) = m ((c.tc : Thread Cert.AdamRowsRefIdeal.nD Cert.AdamRowsRefIdeal.τ).loc Cert.AdamRowsRefIdeal.main_arg2)
      ∧ r.2.mem ((c.tc : Thread Cert.AdamRowsRefIdeal.nD Cert.AdamRowsRefIdeal.τ).loc Cert.AdamRowsRefIdeal.main_arg3) = m ((c.tc : Thread Cert.AdamRowsRefIdeal.nD Cert.AdamRowsRefIdeal.τ).loc Cert.AdamRowsRefIdeal.main_arg3)
      ∧ r.2.mem ((c.tc : Thread Cert.AdamRowsRefIdeal.nD Cert.AdamRowsRefIdeal.τ).loc Cert.AdamRowsRefIdeal.main_arg4) = m ((c.tc : Thread Cert.AdamRowsRefIdeal.nD Cert.AdamRowsRefIdeal.τ).loc Cert.AdamRowsRefIdeal.main_arg4)
      ∧ r.2.mem ((c.tc : Thread Cert.AdamRowsRefIdeal.nD Cert.AdamRowsRefIdeal.τ).loc Cert.AdamRowsRefIdeal.main_arg5) = m ((c.tc : Thread Cert.AdamRowsRefIdeal.nD Cert.AdamRowsRefIdeal.τ).loc Cert.AdamRowsRefIdeal.main_arg5))
      ∧ r.2.sem = fun _ => 0)

def quiescent_AdamColumns [hAdamColumns : Cert.AdamColumns.Facts] [hPre_chip_columns : Cert.Pre_chip_columns.Facts] : Prop :=
  ∀ (m : (ℓ : Loc Cert.AdamColumns.nD Cert.AdamColumns.τ Cert.AdamColumns.sig) → Buf (Elt Bits) ℓ) (g : Dev Cert.AdamColumns.nD → PrngReg), Pre_AdamColumns m →
    θ_run (Cert.AdamColumns.defs (F := Bits)) (onTc (τ := Cert.AdamColumns.τ) (Cert.AdamColumns.main (F := Bits))) ⟨m, fun _ => 0, g⟩ (fun r => (∀ c : Dev Cert.AdamColumns.nD,
      r.2.mem ((c.tc : Thread Cert.AdamColumns.nD Cert.AdamColumns.τ).loc Cert.AdamColumns.main_arg0) = m ((c.tc : Thread Cert.AdamColumns.nD Cert.AdamColumns.τ).loc Cert.AdamColumns.main_arg0)
      ∧ r.2.mem ((c.tc : Thread Cert.AdamColumns.nD Cert.AdamColumns.τ).loc Cert.AdamColumns.main_arg1) = m ((c.tc : Thread Cert.AdamColumns.nD Cert.AdamColumns.τ).loc Cert.AdamColumns.main_arg1)
      ∧ r.2.mem ((c.tc : Thread Cert.AdamColumns.nD Cert.AdamColumns.τ).loc Cert.AdamColumns.main_arg2) = m ((c.tc : Thread Cert.AdamColumns.nD Cert.AdamColumns.τ).loc Cert.AdamColumns.main_arg2)
      ∧ r.2.mem ((c.tc : Thread Cert.AdamColumns.nD Cert.AdamColumns.τ).loc Cert.AdamColumns.main_arg3) = m ((c.tc : Thread Cert.AdamColumns.nD Cert.AdamColumns.τ).loc Cert.AdamColumns.main_arg3)
      ∧ r.2.mem ((c.tc : Thread Cert.AdamColumns.nD Cert.AdamColumns.τ).loc Cert.AdamColumns.main_arg4) = m ((c.tc : Thread Cert.AdamColumns.nD Cert.AdamColumns.τ).loc Cert.AdamColumns.main_arg4)
      ∧ r.2.mem ((c.tc : Thread Cert.AdamColumns.nD Cert.AdamColumns.τ).loc Cert.AdamColumns.main_arg5) = m ((c.tc : Thread Cert.AdamColumns.nD Cert.AdamColumns.τ).loc Cert.AdamColumns.main_arg5))
      ∧ r.2.sem = fun _ => 0)

def quiescent_AdamColumnsIdeal [hAdamColumnsIdeal : Cert.AdamColumnsIdeal.Facts] [hPre_chip_columns : Cert.Pre_chip_columns.Facts] : Prop :=
  ∀ (m : (ℓ : Loc Cert.AdamColumnsIdeal.nD Cert.AdamColumnsIdeal.τ Cert.AdamColumnsIdeal.sig) → Buf (Elt Ideal) ℓ) (g : Dev Cert.AdamColumnsIdeal.nD → PrngReg), Pre_AdamColumnsIdeal m →
    θ_run (Cert.AdamColumnsIdeal.defs (F := Ideal)) (onTc (τ := Cert.AdamColumnsIdeal.τ) (Cert.AdamColumnsIdeal.main (F := Ideal))) ⟨m, fun _ => 0, g⟩ (fun r => (∀ c : Dev Cert.AdamColumnsIdeal.nD,
      r.2.mem ((c.tc : Thread Cert.AdamColumnsIdeal.nD Cert.AdamColumnsIdeal.τ).loc Cert.AdamColumnsIdeal.main_arg0) = m ((c.tc : Thread Cert.AdamColumnsIdeal.nD Cert.AdamColumnsIdeal.τ).loc Cert.AdamColumnsIdeal.main_arg0)
      ∧ r.2.mem ((c.tc : Thread Cert.AdamColumnsIdeal.nD Cert.AdamColumnsIdeal.τ).loc Cert.AdamColumnsIdeal.main_arg1) = m ((c.tc : Thread Cert.AdamColumnsIdeal.nD Cert.AdamColumnsIdeal.τ).loc Cert.AdamColumnsIdeal.main_arg1)
      ∧ r.2.mem ((c.tc : Thread Cert.AdamColumnsIdeal.nD Cert.AdamColumnsIdeal.τ).loc Cert.AdamColumnsIdeal.main_arg2) = m ((c.tc : Thread Cert.AdamColumnsIdeal.nD Cert.AdamColumnsIdeal.τ).loc Cert.AdamColumnsIdeal.main_arg2)
      ∧ r.2.mem ((c.tc : Thread Cert.AdamColumnsIdeal.nD Cert.AdamColumnsIdeal.τ).loc Cert.AdamColumnsIdeal.main_arg3) = m ((c.tc : Thread Cert.AdamColumnsIdeal.nD Cert.AdamColumnsIdeal.τ).loc Cert.AdamColumnsIdeal.main_arg3)
      ∧ r.2.mem ((c.tc : Thread Cert.AdamColumnsIdeal.nD Cert.AdamColumnsIdeal.τ).loc Cert.AdamColumnsIdeal.main_arg4) = m ((c.tc : Thread Cert.AdamColumnsIdeal.nD Cert.AdamColumnsIdeal.τ).loc Cert.AdamColumnsIdeal.main_arg4)
      ∧ r.2.mem ((c.tc : Thread Cert.AdamColumnsIdeal.nD Cert.AdamColumnsIdeal.τ).loc Cert.AdamColumnsIdeal.main_arg5) = m ((c.tc : Thread Cert.AdamColumnsIdeal.nD Cert.AdamColumnsIdeal.τ).loc Cert.AdamColumnsIdeal.main_arg5))
      ∧ r.2.sem = fun _ => 0)

def quiescent_AdamColumnsRefIdeal [hAdamColumnsRefIdeal : Cert.AdamColumnsRefIdeal.Facts] : Prop :=
  ∀ (m : (ℓ : Loc Cert.AdamColumnsRefIdeal.nD Cert.AdamColumnsRefIdeal.τ Cert.AdamColumnsRefIdeal.sig) → Buf (Elt Ideal) ℓ) (g : Dev Cert.AdamColumnsRefIdeal.nD → PrngReg), Pre_AdamColumnsRefIdeal m →
    θ_run (Cert.AdamColumnsRefIdeal.defs (F := Ideal)) (onTc (τ := Cert.AdamColumnsRefIdeal.τ) (Cert.AdamColumnsRefIdeal.main (F := Ideal))) ⟨m, fun _ => 0, g⟩ (fun r => (∀ c : Dev Cert.AdamColumnsRefIdeal.nD,
      r.2.mem ((c.tc : Thread Cert.AdamColumnsRefIdeal.nD Cert.AdamColumnsRefIdeal.τ).loc Cert.AdamColumnsRefIdeal.main_arg0) = m ((c.tc : Thread Cert.AdamColumnsRefIdeal.nD Cert.AdamColumnsRefIdeal.τ).loc Cert.AdamColumnsRefIdeal.main_arg0)
      ∧ r.2.mem ((c.tc : Thread Cert.AdamColumnsRefIdeal.nD Cert.AdamColumnsRefIdeal.τ).loc Cert.AdamColumnsRefIdeal.main_arg1) = m ((c.tc : Thread Cert.AdamColumnsRefIdeal.nD Cert.AdamColumnsRefIdeal.τ).loc Cert.AdamColumnsRefIdeal.main_arg1)
      ∧ r.2.mem ((c.tc : Thread Cert.AdamColumnsRefIdeal.nD Cert.AdamColumnsRefIdeal.τ).loc Cert.AdamColumnsRefIdeal.main_arg2) = m ((c.tc : Thread Cert.AdamColumnsRefIdeal.nD Cert.AdamColumnsRefIdeal.τ).loc Cert.AdamColumnsRefIdeal.main_arg2)
      ∧ r.2.mem ((c.tc : Thread Cert.AdamColumnsRefIdeal.nD Cert.AdamColumnsRefIdeal.τ).loc Cert.AdamColumnsRefIdeal.main_arg3) = m ((c.tc : Thread Cert.AdamColumnsRefIdeal.nD Cert.AdamColumnsRefIdeal.τ).loc Cert.AdamColumnsRefIdeal.main_arg3)
      ∧ r.2.mem ((c.tc : Thread Cert.AdamColumnsRefIdeal.nD Cert.AdamColumnsRefIdeal.τ).loc Cert.AdamColumnsRefIdeal.main_arg4) = m ((c.tc : Thread Cert.AdamColumnsRefIdeal.nD Cert.AdamColumnsRefIdeal.τ).loc Cert.AdamColumnsRefIdeal.main_arg4)
      ∧ r.2.mem ((c.tc : Thread Cert.AdamColumnsRefIdeal.nD Cert.AdamColumnsRefIdeal.τ).loc Cert.AdamColumnsRefIdeal.main_arg5) = m ((c.tc : Thread Cert.AdamColumnsRefIdeal.nD Cert.AdamColumnsRefIdeal.τ).loc Cert.AdamColumnsRefIdeal.main_arg5))
      ∧ r.2.sem = fun _ => 0)

def quiescent_AdamColumnsRefIdeal_pre_chip_columns [hAdamColumnsRefIdeal : Cert.AdamColumnsRefIdeal.Facts] [hPre_chip_columns : Cert.Pre_chip_columns.Facts] : Prop :=
  ∀ (m : (ℓ : Loc Cert.AdamColumnsRefIdeal.nD Cert.AdamColumnsRefIdeal.τ Cert.AdamColumnsRefIdeal.sig) → Buf (Elt Ideal) ℓ) (g : Dev Cert.AdamColumnsRefIdeal.nD → PrngReg), Pre_AdamColumnsRefIdeal_chip_columns m →
    θ_run (Cert.AdamColumnsRefIdeal.defs (F := Ideal)) (onTc (τ := Cert.AdamColumnsRefIdeal.τ) (Cert.AdamColumnsRefIdeal.main (F := Ideal))) ⟨m, fun _ => 0, g⟩ (fun r => (∀ c : Dev Cert.AdamColumnsRefIdeal.nD,
      r.2.mem ((c.tc : Thread Cert.AdamColumnsRefIdeal.nD Cert.AdamColumnsRefIdeal.τ).loc Cert.AdamColumnsRefIdeal.main_arg0) = m ((c.tc : Thread Cert.AdamColumnsRefIdeal.nD Cert.AdamColumnsRefIdeal.τ).loc Cert.AdamColumnsRefIdeal.main_arg0)
      ∧ r.2.mem ((c.tc : Thread Cert.AdamColumnsRefIdeal.nD Cert.AdamColumnsRefIdeal.τ).loc Cert.AdamColumnsRefIdeal.main_arg1) = m ((c.tc : Thread Cert.AdamColumnsRefIdeal.nD Cert.AdamColumnsRefIdeal.τ).loc Cert.AdamColumnsRefIdeal.main_arg1)
      ∧ r.2.mem ((c.tc : Thread Cert.AdamColumnsRefIdeal.nD Cert.AdamColumnsRefIdeal.τ).loc Cert.AdamColumnsRefIdeal.main_arg2) = m ((c.tc : Thread Cert.AdamColumnsRefIdeal.nD Cert.AdamColumnsRefIdeal.τ).loc Cert.AdamColumnsRefIdeal.main_arg2)
      ∧ r.2.mem ((c.tc : Thread Cert.AdamColumnsRefIdeal.nD Cert.AdamColumnsRefIdeal.τ).loc Cert.AdamColumnsRefIdeal.main_arg3) = m ((c.tc : Thread Cert.AdamColumnsRefIdeal.nD Cert.AdamColumnsRefIdeal.τ).loc Cert.AdamColumnsRefIdeal.main_arg3)
      ∧ r.2.mem ((c.tc : Thread Cert.AdamColumnsRefIdeal.nD Cert.AdamColumnsRefIdeal.τ).loc Cert.AdamColumnsRefIdeal.main_arg4) = m ((c.tc : Thread Cert.AdamColumnsRefIdeal.nD Cert.AdamColumnsRefIdeal.τ).loc Cert.AdamColumnsRefIdeal.main_arg4)
      ∧ r.2.mem ((c.tc : Thread Cert.AdamColumnsRefIdeal.nD Cert.AdamColumnsRefIdeal.τ).loc Cert.AdamColumnsRefIdeal.main_arg5) = m ((c.tc : Thread Cert.AdamColumnsRefIdeal.nD Cert.AdamColumnsRefIdeal.τ).loc Cert.AdamColumnsRefIdeal.main_arg5))
      ∧ r.2.sem = fun _ => 0)

def quiescent_AdamPacked [hAdamPacked : Cert.AdamPacked.Facts] [hPre_chip_packed : Cert.Pre_chip_packed.Facts] : Prop :=
  ∀ (m : (ℓ : Loc Cert.AdamPacked.nD Cert.AdamPacked.τ Cert.AdamPacked.sig) → Buf (Elt Bits) ℓ) (g : Dev Cert.AdamPacked.nD → PrngReg), Pre_AdamPacked m →
    θ_run (Cert.AdamPacked.defs (F := Bits)) (onTc (τ := Cert.AdamPacked.τ) (Cert.AdamPacked.main (F := Bits))) ⟨m, fun _ => 0, g⟩ (fun r => (∀ c : Dev Cert.AdamPacked.nD,
      r.2.mem ((c.tc : Thread Cert.AdamPacked.nD Cert.AdamPacked.τ).loc Cert.AdamPacked.main_arg0) = m ((c.tc : Thread Cert.AdamPacked.nD Cert.AdamPacked.τ).loc Cert.AdamPacked.main_arg0)
      ∧ r.2.mem ((c.tc : Thread Cert.AdamPacked.nD Cert.AdamPacked.τ).loc Cert.AdamPacked.main_arg1) = m ((c.tc : Thread Cert.AdamPacked.nD Cert.AdamPacked.τ).loc Cert.AdamPacked.main_arg1)
      ∧ r.2.mem ((c.tc : Thread Cert.AdamPacked.nD Cert.AdamPacked.τ).loc Cert.AdamPacked.main_arg2) = m ((c.tc : Thread Cert.AdamPacked.nD Cert.AdamPacked.τ).loc Cert.AdamPacked.main_arg2)
      ∧ r.2.mem ((c.tc : Thread Cert.AdamPacked.nD Cert.AdamPacked.τ).loc Cert.AdamPacked.main_arg3) = m ((c.tc : Thread Cert.AdamPacked.nD Cert.AdamPacked.τ).loc Cert.AdamPacked.main_arg3)
      ∧ r.2.mem ((c.tc : Thread Cert.AdamPacked.nD Cert.AdamPacked.τ).loc Cert.AdamPacked.main_arg4) = m ((c.tc : Thread Cert.AdamPacked.nD Cert.AdamPacked.τ).loc Cert.AdamPacked.main_arg4)
      ∧ r.2.mem ((c.tc : Thread Cert.AdamPacked.nD Cert.AdamPacked.τ).loc Cert.AdamPacked.main_arg5) = m ((c.tc : Thread Cert.AdamPacked.nD Cert.AdamPacked.τ).loc Cert.AdamPacked.main_arg5))
      ∧ r.2.sem = fun _ => 0)

def quiescent_AdamPackedIdeal [hAdamPackedIdeal : Cert.AdamPackedIdeal.Facts] [hPre_chip_packed : Cert.Pre_chip_packed.Facts] : Prop :=
  ∀ (m : (ℓ : Loc Cert.AdamPackedIdeal.nD Cert.AdamPackedIdeal.τ Cert.AdamPackedIdeal.sig) → Buf (Elt Ideal) ℓ) (g : Dev Cert.AdamPackedIdeal.nD → PrngReg), Pre_AdamPackedIdeal m →
    θ_run (Cert.AdamPackedIdeal.defs (F := Ideal)) (onTc (τ := Cert.AdamPackedIdeal.τ) (Cert.AdamPackedIdeal.main (F := Ideal))) ⟨m, fun _ => 0, g⟩ (fun r => (∀ c : Dev Cert.AdamPackedIdeal.nD,
      r.2.mem ((c.tc : Thread Cert.AdamPackedIdeal.nD Cert.AdamPackedIdeal.τ).loc Cert.AdamPackedIdeal.main_arg0) = m ((c.tc : Thread Cert.AdamPackedIdeal.nD Cert.AdamPackedIdeal.τ).loc Cert.AdamPackedIdeal.main_arg0)
      ∧ r.2.mem ((c.tc : Thread Cert.AdamPackedIdeal.nD Cert.AdamPackedIdeal.τ).loc Cert.AdamPackedIdeal.main_arg1) = m ((c.tc : Thread Cert.AdamPackedIdeal.nD Cert.AdamPackedIdeal.τ).loc Cert.AdamPackedIdeal.main_arg1)
      ∧ r.2.mem ((c.tc : Thread Cert.AdamPackedIdeal.nD Cert.AdamPackedIdeal.τ).loc Cert.AdamPackedIdeal.main_arg2) = m ((c.tc : Thread Cert.AdamPackedIdeal.nD Cert.AdamPackedIdeal.τ).loc Cert.AdamPackedIdeal.main_arg2)
      ∧ r.2.mem ((c.tc : Thread Cert.AdamPackedIdeal.nD Cert.AdamPackedIdeal.τ).loc Cert.AdamPackedIdeal.main_arg3) = m ((c.tc : Thread Cert.AdamPackedIdeal.nD Cert.AdamPackedIdeal.τ).loc Cert.AdamPackedIdeal.main_arg3)
      ∧ r.2.mem ((c.tc : Thread Cert.AdamPackedIdeal.nD Cert.AdamPackedIdeal.τ).loc Cert.AdamPackedIdeal.main_arg4) = m ((c.tc : Thread Cert.AdamPackedIdeal.nD Cert.AdamPackedIdeal.τ).loc Cert.AdamPackedIdeal.main_arg4)
      ∧ r.2.mem ((c.tc : Thread Cert.AdamPackedIdeal.nD Cert.AdamPackedIdeal.τ).loc Cert.AdamPackedIdeal.main_arg5) = m ((c.tc : Thread Cert.AdamPackedIdeal.nD Cert.AdamPackedIdeal.τ).loc Cert.AdamPackedIdeal.main_arg5))
      ∧ r.2.sem = fun _ => 0)

def quiescent_AdamPackedRefIdeal [hAdamPackedRefIdeal : Cert.AdamPackedRefIdeal.Facts] : Prop :=
  ∀ (m : (ℓ : Loc Cert.AdamPackedRefIdeal.nD Cert.AdamPackedRefIdeal.τ Cert.AdamPackedRefIdeal.sig) → Buf (Elt Ideal) ℓ) (g : Dev Cert.AdamPackedRefIdeal.nD → PrngReg), Pre_AdamPackedRefIdeal m →
    θ_run (Cert.AdamPackedRefIdeal.defs (F := Ideal)) (onTc (τ := Cert.AdamPackedRefIdeal.τ) (Cert.AdamPackedRefIdeal.main (F := Ideal))) ⟨m, fun _ => 0, g⟩ (fun r => (∀ c : Dev Cert.AdamPackedRefIdeal.nD,
      r.2.mem ((c.tc : Thread Cert.AdamPackedRefIdeal.nD Cert.AdamPackedRefIdeal.τ).loc Cert.AdamPackedRefIdeal.main_arg0) = m ((c.tc : Thread Cert.AdamPackedRefIdeal.nD Cert.AdamPackedRefIdeal.τ).loc Cert.AdamPackedRefIdeal.main_arg0)
      ∧ r.2.mem ((c.tc : Thread Cert.AdamPackedRefIdeal.nD Cert.AdamPackedRefIdeal.τ).loc Cert.AdamPackedRefIdeal.main_arg1) = m ((c.tc : Thread Cert.AdamPackedRefIdeal.nD Cert.AdamPackedRefIdeal.τ).loc Cert.AdamPackedRefIdeal.main_arg1)
      ∧ r.2.mem ((c.tc : Thread Cert.AdamPackedRefIdeal.nD Cert.AdamPackedRefIdeal.τ).loc Cert.AdamPackedRefIdeal.main_arg2) = m ((c.tc : Thread Cert.AdamPackedRefIdeal.nD Cert.AdamPackedRefIdeal.τ).loc Cert.AdamPackedRefIdeal.main_arg2)
      ∧ r.2.mem ((c.tc : Thread Cert.AdamPackedRefIdeal.nD Cert.AdamPackedRefIdeal.τ).loc Cert.AdamPackedRefIdeal.main_arg3) = m ((c.tc : Thread Cert.AdamPackedRefIdeal.nD Cert.AdamPackedRefIdeal.τ).loc Cert.AdamPackedRefIdeal.main_arg3)
      ∧ r.2.mem ((c.tc : Thread Cert.AdamPackedRefIdeal.nD Cert.AdamPackedRefIdeal.τ).loc Cert.AdamPackedRefIdeal.main_arg4) = m ((c.tc : Thread Cert.AdamPackedRefIdeal.nD Cert.AdamPackedRefIdeal.τ).loc Cert.AdamPackedRefIdeal.main_arg4)
      ∧ r.2.mem ((c.tc : Thread Cert.AdamPackedRefIdeal.nD Cert.AdamPackedRefIdeal.τ).loc Cert.AdamPackedRefIdeal.main_arg5) = m ((c.tc : Thread Cert.AdamPackedRefIdeal.nD Cert.AdamPackedRefIdeal.τ).loc Cert.AdamPackedRefIdeal.main_arg5))
      ∧ r.2.sem = fun _ => 0)

def quiescent_AdamPackedRefIdeal_pre_chip_packed [hAdamPackedRefIdeal : Cert.AdamPackedRefIdeal.Facts] [hPre_chip_packed : Cert.Pre_chip_packed.Facts] : Prop :=
  ∀ (m : (ℓ : Loc Cert.AdamPackedRefIdeal.nD Cert.AdamPackedRefIdeal.τ Cert.AdamPackedRefIdeal.sig) → Buf (Elt Ideal) ℓ) (g : Dev Cert.AdamPackedRefIdeal.nD → PrngReg), Pre_AdamPackedRefIdeal_chip_packed m →
    θ_run (Cert.AdamPackedRefIdeal.defs (F := Ideal)) (onTc (τ := Cert.AdamPackedRefIdeal.τ) (Cert.AdamPackedRefIdeal.main (F := Ideal))) ⟨m, fun _ => 0, g⟩ (fun r => (∀ c : Dev Cert.AdamPackedRefIdeal.nD,
      r.2.mem ((c.tc : Thread Cert.AdamPackedRefIdeal.nD Cert.AdamPackedRefIdeal.τ).loc Cert.AdamPackedRefIdeal.main_arg0) = m ((c.tc : Thread Cert.AdamPackedRefIdeal.nD Cert.AdamPackedRefIdeal.τ).loc Cert.AdamPackedRefIdeal.main_arg0)
      ∧ r.2.mem ((c.tc : Thread Cert.AdamPackedRefIdeal.nD Cert.AdamPackedRefIdeal.τ).loc Cert.AdamPackedRefIdeal.main_arg1) = m ((c.tc : Thread Cert.AdamPackedRefIdeal.nD Cert.AdamPackedRefIdeal.τ).loc Cert.AdamPackedRefIdeal.main_arg1)
      ∧ r.2.mem ((c.tc : Thread Cert.AdamPackedRefIdeal.nD Cert.AdamPackedRefIdeal.τ).loc Cert.AdamPackedRefIdeal.main_arg2) = m ((c.tc : Thread Cert.AdamPackedRefIdeal.nD Cert.AdamPackedRefIdeal.τ).loc Cert.AdamPackedRefIdeal.main_arg2)
      ∧ r.2.mem ((c.tc : Thread Cert.AdamPackedRefIdeal.nD Cert.AdamPackedRefIdeal.τ).loc Cert.AdamPackedRefIdeal.main_arg3) = m ((c.tc : Thread Cert.AdamPackedRefIdeal.nD Cert.AdamPackedRefIdeal.τ).loc Cert.AdamPackedRefIdeal.main_arg3)
      ∧ r.2.mem ((c.tc : Thread Cert.AdamPackedRefIdeal.nD Cert.AdamPackedRefIdeal.τ).loc Cert.AdamPackedRefIdeal.main_arg4) = m ((c.tc : Thread Cert.AdamPackedRefIdeal.nD Cert.AdamPackedRefIdeal.τ).loc Cert.AdamPackedRefIdeal.main_arg4)
      ∧ r.2.mem ((c.tc : Thread Cert.AdamPackedRefIdeal.nD Cert.AdamPackedRefIdeal.τ).loc Cert.AdamPackedRefIdeal.main_arg5) = m ((c.tc : Thread Cert.AdamPackedRefIdeal.nD Cert.AdamPackedRefIdeal.τ).loc Cert.AdamPackedRefIdeal.main_arg5))
      ∧ r.2.sem = fun _ => 0)

def quiescent_AdamGateFirst [hAdamGateFirst : Cert.AdamGateFirst.Facts] [hPre_chip_gate : Cert.Pre_chip_gate.Facts] : Prop :=
  ∀ (m : (ℓ : Loc Cert.AdamGateFirst.nD Cert.AdamGateFirst.τ Cert.AdamGateFirst.sig) → Buf (Elt Bits) ℓ) (g : Dev Cert.AdamGateFirst.nD → PrngReg), Pre_AdamGateFirst m →
    θ_run (Cert.AdamGateFirst.defs (F := Bits)) (onTc (τ := Cert.AdamGateFirst.τ) (Cert.AdamGateFirst.main (F := Bits))) ⟨m, fun _ => 0, g⟩ (fun r => (∀ c : Dev Cert.AdamGateFirst.nD,
      r.2.mem ((c.tc : Thread Cert.AdamGateFirst.nD Cert.AdamGateFirst.τ).loc Cert.AdamGateFirst.main_arg0) = m ((c.tc : Thread Cert.AdamGateFirst.nD Cert.AdamGateFirst.τ).loc Cert.AdamGateFirst.main_arg0)
      ∧ r.2.mem ((c.tc : Thread Cert.AdamGateFirst.nD Cert.AdamGateFirst.τ).loc Cert.AdamGateFirst.main_arg1) = m ((c.tc : Thread Cert.AdamGateFirst.nD Cert.AdamGateFirst.τ).loc Cert.AdamGateFirst.main_arg1)
      ∧ r.2.mem ((c.tc : Thread Cert.AdamGateFirst.nD Cert.AdamGateFirst.τ).loc Cert.AdamGateFirst.main_arg2) = m ((c.tc : Thread Cert.AdamGateFirst.nD Cert.AdamGateFirst.τ).loc Cert.AdamGateFirst.main_arg2)
      ∧ r.2.mem ((c.tc : Thread Cert.AdamGateFirst.nD Cert.AdamGateFirst.τ).loc Cert.AdamGateFirst.main_arg3) = m ((c.tc : Thread Cert.AdamGateFirst.nD Cert.AdamGateFirst.τ).loc Cert.AdamGateFirst.main_arg3)
      ∧ r.2.mem ((c.tc : Thread Cert.AdamGateFirst.nD Cert.AdamGateFirst.τ).loc Cert.AdamGateFirst.main_arg4) = m ((c.tc : Thread Cert.AdamGateFirst.nD Cert.AdamGateFirst.τ).loc Cert.AdamGateFirst.main_arg4)
      ∧ r.2.mem ((c.tc : Thread Cert.AdamGateFirst.nD Cert.AdamGateFirst.τ).loc Cert.AdamGateFirst.main_arg5) = m ((c.tc : Thread Cert.AdamGateFirst.nD Cert.AdamGateFirst.τ).loc Cert.AdamGateFirst.main_arg5))
      ∧ r.2.sem = fun _ => 0)

def quiescent_AdamGateFirstIdeal [hAdamGateFirstIdeal : Cert.AdamGateFirstIdeal.Facts] [hPre_chip_gate : Cert.Pre_chip_gate.Facts] : Prop :=
  ∀ (m : (ℓ : Loc Cert.AdamGateFirstIdeal.nD Cert.AdamGateFirstIdeal.τ Cert.AdamGateFirstIdeal.sig) → Buf (Elt Ideal) ℓ) (g : Dev Cert.AdamGateFirstIdeal.nD → PrngReg), Pre_AdamGateFirstIdeal m →
    θ_run (Cert.AdamGateFirstIdeal.defs (F := Ideal)) (onTc (τ := Cert.AdamGateFirstIdeal.τ) (Cert.AdamGateFirstIdeal.main (F := Ideal))) ⟨m, fun _ => 0, g⟩ (fun r => (∀ c : Dev Cert.AdamGateFirstIdeal.nD,
      r.2.mem ((c.tc : Thread Cert.AdamGateFirstIdeal.nD Cert.AdamGateFirstIdeal.τ).loc Cert.AdamGateFirstIdeal.main_arg0) = m ((c.tc : Thread Cert.AdamGateFirstIdeal.nD Cert.AdamGateFirstIdeal.τ).loc Cert.AdamGateFirstIdeal.main_arg0)
      ∧ r.2.mem ((c.tc : Thread Cert.AdamGateFirstIdeal.nD Cert.AdamGateFirstIdeal.τ).loc Cert.AdamGateFirstIdeal.main_arg1) = m ((c.tc : Thread Cert.AdamGateFirstIdeal.nD Cert.AdamGateFirstIdeal.τ).loc Cert.AdamGateFirstIdeal.main_arg1)
      ∧ r.2.mem ((c.tc : Thread Cert.AdamGateFirstIdeal.nD Cert.AdamGateFirstIdeal.τ).loc Cert.AdamGateFirstIdeal.main_arg2) = m ((c.tc : Thread Cert.AdamGateFirstIdeal.nD Cert.AdamGateFirstIdeal.τ).loc Cert.AdamGateFirstIdeal.main_arg2)
      ∧ r.2.mem ((c.tc : Thread Cert.AdamGateFirstIdeal.nD Cert.AdamGateFirstIdeal.τ).loc Cert.AdamGateFirstIdeal.main_arg3) = m ((c.tc : Thread Cert.AdamGateFirstIdeal.nD Cert.AdamGateFirstIdeal.τ).loc Cert.AdamGateFirstIdeal.main_arg3)
      ∧ r.2.mem ((c.tc : Thread Cert.AdamGateFirstIdeal.nD Cert.AdamGateFirstIdeal.τ).loc Cert.AdamGateFirstIdeal.main_arg4) = m ((c.tc : Thread Cert.AdamGateFirstIdeal.nD Cert.AdamGateFirstIdeal.τ).loc Cert.AdamGateFirstIdeal.main_arg4)
      ∧ r.2.mem ((c.tc : Thread Cert.AdamGateFirstIdeal.nD Cert.AdamGateFirstIdeal.τ).loc Cert.AdamGateFirstIdeal.main_arg5) = m ((c.tc : Thread Cert.AdamGateFirstIdeal.nD Cert.AdamGateFirstIdeal.τ).loc Cert.AdamGateFirstIdeal.main_arg5))
      ∧ r.2.sem = fun _ => 0)

def quiescent_AdamGateFirstRefIdeal [hAdamGateFirstRefIdeal : Cert.AdamGateFirstRefIdeal.Facts] : Prop :=
  ∀ (m : (ℓ : Loc Cert.AdamGateFirstRefIdeal.nD Cert.AdamGateFirstRefIdeal.τ Cert.AdamGateFirstRefIdeal.sig) → Buf (Elt Ideal) ℓ) (g : Dev Cert.AdamGateFirstRefIdeal.nD → PrngReg), Pre_AdamGateFirstRefIdeal m →
    θ_run (Cert.AdamGateFirstRefIdeal.defs (F := Ideal)) (onTc (τ := Cert.AdamGateFirstRefIdeal.τ) (Cert.AdamGateFirstRefIdeal.main (F := Ideal))) ⟨m, fun _ => 0, g⟩ (fun r => (∀ c : Dev Cert.AdamGateFirstRefIdeal.nD,
      r.2.mem ((c.tc : Thread Cert.AdamGateFirstRefIdeal.nD Cert.AdamGateFirstRefIdeal.τ).loc Cert.AdamGateFirstRefIdeal.main_arg0) = m ((c.tc : Thread Cert.AdamGateFirstRefIdeal.nD Cert.AdamGateFirstRefIdeal.τ).loc Cert.AdamGateFirstRefIdeal.main_arg0)
      ∧ r.2.mem ((c.tc : Thread Cert.AdamGateFirstRefIdeal.nD Cert.AdamGateFirstRefIdeal.τ).loc Cert.AdamGateFirstRefIdeal.main_arg1) = m ((c.tc : Thread Cert.AdamGateFirstRefIdeal.nD Cert.AdamGateFirstRefIdeal.τ).loc Cert.AdamGateFirstRefIdeal.main_arg1)
      ∧ r.2.mem ((c.tc : Thread Cert.AdamGateFirstRefIdeal.nD Cert.AdamGateFirstRefIdeal.τ).loc Cert.AdamGateFirstRefIdeal.main_arg2) = m ((c.tc : Thread Cert.AdamGateFirstRefIdeal.nD Cert.AdamGateFirstRefIdeal.τ).loc Cert.AdamGateFirstRefIdeal.main_arg2)
      ∧ r.2.mem ((c.tc : Thread Cert.AdamGateFirstRefIdeal.nD Cert.AdamGateFirstRefIdeal.τ).loc Cert.AdamGateFirstRefIdeal.main_arg3) = m ((c.tc : Thread Cert.AdamGateFirstRefIdeal.nD Cert.AdamGateFirstRefIdeal.τ).loc Cert.AdamGateFirstRefIdeal.main_arg3)
      ∧ r.2.mem ((c.tc : Thread Cert.AdamGateFirstRefIdeal.nD Cert.AdamGateFirstRefIdeal.τ).loc Cert.AdamGateFirstRefIdeal.main_arg4) = m ((c.tc : Thread Cert.AdamGateFirstRefIdeal.nD Cert.AdamGateFirstRefIdeal.τ).loc Cert.AdamGateFirstRefIdeal.main_arg4)
      ∧ r.2.mem ((c.tc : Thread Cert.AdamGateFirstRefIdeal.nD Cert.AdamGateFirstRefIdeal.τ).loc Cert.AdamGateFirstRefIdeal.main_arg5) = m ((c.tc : Thread Cert.AdamGateFirstRefIdeal.nD Cert.AdamGateFirstRefIdeal.τ).loc Cert.AdamGateFirstRefIdeal.main_arg5))
      ∧ r.2.sem = fun _ => 0)

def quiescent_AdamGateFirstRefIdeal_pre_chip_gate [hAdamGateFirstRefIdeal : Cert.AdamGateFirstRefIdeal.Facts] [hPre_chip_gate : Cert.Pre_chip_gate.Facts] : Prop :=
  ∀ (m : (ℓ : Loc Cert.AdamGateFirstRefIdeal.nD Cert.AdamGateFirstRefIdeal.τ Cert.AdamGateFirstRefIdeal.sig) → Buf (Elt Ideal) ℓ) (g : Dev Cert.AdamGateFirstRefIdeal.nD → PrngReg), Pre_AdamGateFirstRefIdeal_chip_gate m →
    θ_run (Cert.AdamGateFirstRefIdeal.defs (F := Ideal)) (onTc (τ := Cert.AdamGateFirstRefIdeal.τ) (Cert.AdamGateFirstRefIdeal.main (F := Ideal))) ⟨m, fun _ => 0, g⟩ (fun r => (∀ c : Dev Cert.AdamGateFirstRefIdeal.nD,
      r.2.mem ((c.tc : Thread Cert.AdamGateFirstRefIdeal.nD Cert.AdamGateFirstRefIdeal.τ).loc Cert.AdamGateFirstRefIdeal.main_arg0) = m ((c.tc : Thread Cert.AdamGateFirstRefIdeal.nD Cert.AdamGateFirstRefIdeal.τ).loc Cert.AdamGateFirstRefIdeal.main_arg0)
      ∧ r.2.mem ((c.tc : Thread Cert.AdamGateFirstRefIdeal.nD Cert.AdamGateFirstRefIdeal.τ).loc Cert.AdamGateFirstRefIdeal.main_arg1) = m ((c.tc : Thread Cert.AdamGateFirstRefIdeal.nD Cert.AdamGateFirstRefIdeal.τ).loc Cert.AdamGateFirstRefIdeal.main_arg1)
      ∧ r.2.mem ((c.tc : Thread Cert.AdamGateFirstRefIdeal.nD Cert.AdamGateFirstRefIdeal.τ).loc Cert.AdamGateFirstRefIdeal.main_arg2) = m ((c.tc : Thread Cert.AdamGateFirstRefIdeal.nD Cert.AdamGateFirstRefIdeal.τ).loc Cert.AdamGateFirstRefIdeal.main_arg2)
      ∧ r.2.mem ((c.tc : Thread Cert.AdamGateFirstRefIdeal.nD Cert.AdamGateFirstRefIdeal.τ).loc Cert.AdamGateFirstRefIdeal.main_arg3) = m ((c.tc : Thread Cert.AdamGateFirstRefIdeal.nD Cert.AdamGateFirstRefIdeal.τ).loc Cert.AdamGateFirstRefIdeal.main_arg3)
      ∧ r.2.mem ((c.tc : Thread Cert.AdamGateFirstRefIdeal.nD Cert.AdamGateFirstRefIdeal.τ).loc Cert.AdamGateFirstRefIdeal.main_arg4) = m ((c.tc : Thread Cert.AdamGateFirstRefIdeal.nD Cert.AdamGateFirstRefIdeal.τ).loc Cert.AdamGateFirstRefIdeal.main_arg4)
      ∧ r.2.mem ((c.tc : Thread Cert.AdamGateFirstRefIdeal.nD Cert.AdamGateFirstRefIdeal.τ).loc Cert.AdamGateFirstRefIdeal.main_arg5) = m ((c.tc : Thread Cert.AdamGateFirstRefIdeal.nD Cert.AdamGateFirstRefIdeal.τ).loc Cert.AdamGateFirstRefIdeal.main_arg5))
      ∧ r.2.sem = fun _ => 0)

def quiescent_AdamGateSecond [hAdamGateSecond : Cert.AdamGateSecond.Facts] [hPre_chip_gate_second : Cert.Pre_chip_gate_second.Facts] : Prop :=
  ∀ (m : (ℓ : Loc Cert.AdamGateSecond.nD Cert.AdamGateSecond.τ Cert.AdamGateSecond.sig) → Buf (Elt Bits) ℓ) (g : Dev Cert.AdamGateSecond.nD → PrngReg), Pre_AdamGateSecond m →
    θ_run (Cert.AdamGateSecond.defs (F := Bits)) (onTc (τ := Cert.AdamGateSecond.τ) (Cert.AdamGateSecond.main (F := Bits))) ⟨m, fun _ => 0, g⟩ (fun r => (∀ c : Dev Cert.AdamGateSecond.nD,
      r.2.mem ((c.tc : Thread Cert.AdamGateSecond.nD Cert.AdamGateSecond.τ).loc Cert.AdamGateSecond.main_arg0) = m ((c.tc : Thread Cert.AdamGateSecond.nD Cert.AdamGateSecond.τ).loc Cert.AdamGateSecond.main_arg0)
      ∧ r.2.mem ((c.tc : Thread Cert.AdamGateSecond.nD Cert.AdamGateSecond.τ).loc Cert.AdamGateSecond.main_arg1) = m ((c.tc : Thread Cert.AdamGateSecond.nD Cert.AdamGateSecond.τ).loc Cert.AdamGateSecond.main_arg1)
      ∧ r.2.mem ((c.tc : Thread Cert.AdamGateSecond.nD Cert.AdamGateSecond.τ).loc Cert.AdamGateSecond.main_arg2) = m ((c.tc : Thread Cert.AdamGateSecond.nD Cert.AdamGateSecond.τ).loc Cert.AdamGateSecond.main_arg2)
      ∧ r.2.mem ((c.tc : Thread Cert.AdamGateSecond.nD Cert.AdamGateSecond.τ).loc Cert.AdamGateSecond.main_arg3) = m ((c.tc : Thread Cert.AdamGateSecond.nD Cert.AdamGateSecond.τ).loc Cert.AdamGateSecond.main_arg3)
      ∧ r.2.mem ((c.tc : Thread Cert.AdamGateSecond.nD Cert.AdamGateSecond.τ).loc Cert.AdamGateSecond.main_arg4) = m ((c.tc : Thread Cert.AdamGateSecond.nD Cert.AdamGateSecond.τ).loc Cert.AdamGateSecond.main_arg4)
      ∧ r.2.mem ((c.tc : Thread Cert.AdamGateSecond.nD Cert.AdamGateSecond.τ).loc Cert.AdamGateSecond.main_arg5) = m ((c.tc : Thread Cert.AdamGateSecond.nD Cert.AdamGateSecond.τ).loc Cert.AdamGateSecond.main_arg5)
      ∧ r.2.mem ((c.tc : Thread Cert.AdamGateSecond.nD Cert.AdamGateSecond.τ).loc Cert.AdamGateSecond.main_arg6) = m ((c.tc : Thread Cert.AdamGateSecond.nD Cert.AdamGateSecond.τ).loc Cert.AdamGateSecond.main_arg6)
      ∧ r.2.mem ((c.tc : Thread Cert.AdamGateSecond.nD Cert.AdamGateSecond.τ).loc Cert.AdamGateSecond.main_arg7) = m ((c.tc : Thread Cert.AdamGateSecond.nD Cert.AdamGateSecond.τ).loc Cert.AdamGateSecond.main_arg7)
      ∧ r.2.mem ((c.tc : Thread Cert.AdamGateSecond.nD Cert.AdamGateSecond.τ).loc Cert.AdamGateSecond.main_arg8) = m ((c.tc : Thread Cert.AdamGateSecond.nD Cert.AdamGateSecond.τ).loc Cert.AdamGateSecond.main_arg8)
      ∧ r.2.mem ((c.tc : Thread Cert.AdamGateSecond.nD Cert.AdamGateSecond.τ).loc Cert.AdamGateSecond.main_arg9) = m ((c.tc : Thread Cert.AdamGateSecond.nD Cert.AdamGateSecond.τ).loc Cert.AdamGateSecond.main_arg9))
      ∧ r.2.sem = fun _ => 0)

def quiescent_AdamGateSecondIdeal [hAdamGateSecondIdeal : Cert.AdamGateSecondIdeal.Facts] [hPre_chip_gate_second : Cert.Pre_chip_gate_second.Facts] : Prop :=
  ∀ (m : (ℓ : Loc Cert.AdamGateSecondIdeal.nD Cert.AdamGateSecondIdeal.τ Cert.AdamGateSecondIdeal.sig) → Buf (Elt Ideal) ℓ) (g : Dev Cert.AdamGateSecondIdeal.nD → PrngReg), Pre_AdamGateSecondIdeal m →
    θ_run (Cert.AdamGateSecondIdeal.defs (F := Ideal)) (onTc (τ := Cert.AdamGateSecondIdeal.τ) (Cert.AdamGateSecondIdeal.main (F := Ideal))) ⟨m, fun _ => 0, g⟩ (fun r => (∀ c : Dev Cert.AdamGateSecondIdeal.nD,
      r.2.mem ((c.tc : Thread Cert.AdamGateSecondIdeal.nD Cert.AdamGateSecondIdeal.τ).loc Cert.AdamGateSecondIdeal.main_arg0) = m ((c.tc : Thread Cert.AdamGateSecondIdeal.nD Cert.AdamGateSecondIdeal.τ).loc Cert.AdamGateSecondIdeal.main_arg0)
      ∧ r.2.mem ((c.tc : Thread Cert.AdamGateSecondIdeal.nD Cert.AdamGateSecondIdeal.τ).loc Cert.AdamGateSecondIdeal.main_arg1) = m ((c.tc : Thread Cert.AdamGateSecondIdeal.nD Cert.AdamGateSecondIdeal.τ).loc Cert.AdamGateSecondIdeal.main_arg1)
      ∧ r.2.mem ((c.tc : Thread Cert.AdamGateSecondIdeal.nD Cert.AdamGateSecondIdeal.τ).loc Cert.AdamGateSecondIdeal.main_arg2) = m ((c.tc : Thread Cert.AdamGateSecondIdeal.nD Cert.AdamGateSecondIdeal.τ).loc Cert.AdamGateSecondIdeal.main_arg2)
      ∧ r.2.mem ((c.tc : Thread Cert.AdamGateSecondIdeal.nD Cert.AdamGateSecondIdeal.τ).loc Cert.AdamGateSecondIdeal.main_arg3) = m ((c.tc : Thread Cert.AdamGateSecondIdeal.nD Cert.AdamGateSecondIdeal.τ).loc Cert.AdamGateSecondIdeal.main_arg3)
      ∧ r.2.mem ((c.tc : Thread Cert.AdamGateSecondIdeal.nD Cert.AdamGateSecondIdeal.τ).loc Cert.AdamGateSecondIdeal.main_arg4) = m ((c.tc : Thread Cert.AdamGateSecondIdeal.nD Cert.AdamGateSecondIdeal.τ).loc Cert.AdamGateSecondIdeal.main_arg4)
      ∧ r.2.mem ((c.tc : Thread Cert.AdamGateSecondIdeal.nD Cert.AdamGateSecondIdeal.τ).loc Cert.AdamGateSecondIdeal.main_arg5) = m ((c.tc : Thread Cert.AdamGateSecondIdeal.nD Cert.AdamGateSecondIdeal.τ).loc Cert.AdamGateSecondIdeal.main_arg5)
      ∧ r.2.mem ((c.tc : Thread Cert.AdamGateSecondIdeal.nD Cert.AdamGateSecondIdeal.τ).loc Cert.AdamGateSecondIdeal.main_arg6) = m ((c.tc : Thread Cert.AdamGateSecondIdeal.nD Cert.AdamGateSecondIdeal.τ).loc Cert.AdamGateSecondIdeal.main_arg6)
      ∧ r.2.mem ((c.tc : Thread Cert.AdamGateSecondIdeal.nD Cert.AdamGateSecondIdeal.τ).loc Cert.AdamGateSecondIdeal.main_arg7) = m ((c.tc : Thread Cert.AdamGateSecondIdeal.nD Cert.AdamGateSecondIdeal.τ).loc Cert.AdamGateSecondIdeal.main_arg7)
      ∧ r.2.mem ((c.tc : Thread Cert.AdamGateSecondIdeal.nD Cert.AdamGateSecondIdeal.τ).loc Cert.AdamGateSecondIdeal.main_arg8) = m ((c.tc : Thread Cert.AdamGateSecondIdeal.nD Cert.AdamGateSecondIdeal.τ).loc Cert.AdamGateSecondIdeal.main_arg8)
      ∧ r.2.mem ((c.tc : Thread Cert.AdamGateSecondIdeal.nD Cert.AdamGateSecondIdeal.τ).loc Cert.AdamGateSecondIdeal.main_arg9) = m ((c.tc : Thread Cert.AdamGateSecondIdeal.nD Cert.AdamGateSecondIdeal.τ).loc Cert.AdamGateSecondIdeal.main_arg9))
      ∧ r.2.sem = fun _ => 0)

def quiescent_AdamGateSecondRefIdeal [hAdamGateSecondRefIdeal : Cert.AdamGateSecondRefIdeal.Facts] : Prop :=
  ∀ (m : (ℓ : Loc Cert.AdamGateSecondRefIdeal.nD Cert.AdamGateSecondRefIdeal.τ Cert.AdamGateSecondRefIdeal.sig) → Buf (Elt Ideal) ℓ) (g : Dev Cert.AdamGateSecondRefIdeal.nD → PrngReg), Pre_AdamGateSecondRefIdeal m →
    θ_run (Cert.AdamGateSecondRefIdeal.defs (F := Ideal)) (onTc (τ := Cert.AdamGateSecondRefIdeal.τ) (Cert.AdamGateSecondRefIdeal.main (F := Ideal))) ⟨m, fun _ => 0, g⟩ (fun r => (∀ c : Dev Cert.AdamGateSecondRefIdeal.nD,
      r.2.mem ((c.tc : Thread Cert.AdamGateSecondRefIdeal.nD Cert.AdamGateSecondRefIdeal.τ).loc Cert.AdamGateSecondRefIdeal.main_arg0) = m ((c.tc : Thread Cert.AdamGateSecondRefIdeal.nD Cert.AdamGateSecondRefIdeal.τ).loc Cert.AdamGateSecondRefIdeal.main_arg0)
      ∧ r.2.mem ((c.tc : Thread Cert.AdamGateSecondRefIdeal.nD Cert.AdamGateSecondRefIdeal.τ).loc Cert.AdamGateSecondRefIdeal.main_arg1) = m ((c.tc : Thread Cert.AdamGateSecondRefIdeal.nD Cert.AdamGateSecondRefIdeal.τ).loc Cert.AdamGateSecondRefIdeal.main_arg1)
      ∧ r.2.mem ((c.tc : Thread Cert.AdamGateSecondRefIdeal.nD Cert.AdamGateSecondRefIdeal.τ).loc Cert.AdamGateSecondRefIdeal.main_arg2) = m ((c.tc : Thread Cert.AdamGateSecondRefIdeal.nD Cert.AdamGateSecondRefIdeal.τ).loc Cert.AdamGateSecondRefIdeal.main_arg2)
      ∧ r.2.mem ((c.tc : Thread Cert.AdamGateSecondRefIdeal.nD Cert.AdamGateSecondRefIdeal.τ).loc Cert.AdamGateSecondRefIdeal.main_arg3) = m ((c.tc : Thread Cert.AdamGateSecondRefIdeal.nD Cert.AdamGateSecondRefIdeal.τ).loc Cert.AdamGateSecondRefIdeal.main_arg3)
      ∧ r.2.mem ((c.tc : Thread Cert.AdamGateSecondRefIdeal.nD Cert.AdamGateSecondRefIdeal.τ).loc Cert.AdamGateSecondRefIdeal.main_arg4) = m ((c.tc : Thread Cert.AdamGateSecondRefIdeal.nD Cert.AdamGateSecondRefIdeal.τ).loc Cert.AdamGateSecondRefIdeal.main_arg4)
      ∧ r.2.mem ((c.tc : Thread Cert.AdamGateSecondRefIdeal.nD Cert.AdamGateSecondRefIdeal.τ).loc Cert.AdamGateSecondRefIdeal.main_arg5) = m ((c.tc : Thread Cert.AdamGateSecondRefIdeal.nD Cert.AdamGateSecondRefIdeal.τ).loc Cert.AdamGateSecondRefIdeal.main_arg5)
      ∧ r.2.mem ((c.tc : Thread Cert.AdamGateSecondRefIdeal.nD Cert.AdamGateSecondRefIdeal.τ).loc Cert.AdamGateSecondRefIdeal.main_arg6) = m ((c.tc : Thread Cert.AdamGateSecondRefIdeal.nD Cert.AdamGateSecondRefIdeal.τ).loc Cert.AdamGateSecondRefIdeal.main_arg6)
      ∧ r.2.mem ((c.tc : Thread Cert.AdamGateSecondRefIdeal.nD Cert.AdamGateSecondRefIdeal.τ).loc Cert.AdamGateSecondRefIdeal.main_arg7) = m ((c.tc : Thread Cert.AdamGateSecondRefIdeal.nD Cert.AdamGateSecondRefIdeal.τ).loc Cert.AdamGateSecondRefIdeal.main_arg7)
      ∧ r.2.mem ((c.tc : Thread Cert.AdamGateSecondRefIdeal.nD Cert.AdamGateSecondRefIdeal.τ).loc Cert.AdamGateSecondRefIdeal.main_arg8) = m ((c.tc : Thread Cert.AdamGateSecondRefIdeal.nD Cert.AdamGateSecondRefIdeal.τ).loc Cert.AdamGateSecondRefIdeal.main_arg8)
      ∧ r.2.mem ((c.tc : Thread Cert.AdamGateSecondRefIdeal.nD Cert.AdamGateSecondRefIdeal.τ).loc Cert.AdamGateSecondRefIdeal.main_arg9) = m ((c.tc : Thread Cert.AdamGateSecondRefIdeal.nD Cert.AdamGateSecondRefIdeal.τ).loc Cert.AdamGateSecondRefIdeal.main_arg9))
      ∧ r.2.sem = fun _ => 0)

def quiescent_AdamGateSecondRefIdeal_pre_chip_gate_second [hAdamGateSecondRefIdeal : Cert.AdamGateSecondRefIdeal.Facts] [hPre_chip_gate_second : Cert.Pre_chip_gate_second.Facts] : Prop :=
  ∀ (m : (ℓ : Loc Cert.AdamGateSecondRefIdeal.nD Cert.AdamGateSecondRefIdeal.τ Cert.AdamGateSecondRefIdeal.sig) → Buf (Elt Ideal) ℓ) (g : Dev Cert.AdamGateSecondRefIdeal.nD → PrngReg), Pre_AdamGateSecondRefIdeal_chip_gate_second m →
    θ_run (Cert.AdamGateSecondRefIdeal.defs (F := Ideal)) (onTc (τ := Cert.AdamGateSecondRefIdeal.τ) (Cert.AdamGateSecondRefIdeal.main (F := Ideal))) ⟨m, fun _ => 0, g⟩ (fun r => (∀ c : Dev Cert.AdamGateSecondRefIdeal.nD,
      r.2.mem ((c.tc : Thread Cert.AdamGateSecondRefIdeal.nD Cert.AdamGateSecondRefIdeal.τ).loc Cert.AdamGateSecondRefIdeal.main_arg0) = m ((c.tc : Thread Cert.AdamGateSecondRefIdeal.nD Cert.AdamGateSecondRefIdeal.τ).loc Cert.AdamGateSecondRefIdeal.main_arg0)
      ∧ r.2.mem ((c.tc : Thread Cert.AdamGateSecondRefIdeal.nD Cert.AdamGateSecondRefIdeal.τ).loc Cert.AdamGateSecondRefIdeal.main_arg1) = m ((c.tc : Thread Cert.AdamGateSecondRefIdeal.nD Cert.AdamGateSecondRefIdeal.τ).loc Cert.AdamGateSecondRefIdeal.main_arg1)
      ∧ r.2.mem ((c.tc : Thread Cert.AdamGateSecondRefIdeal.nD Cert.AdamGateSecondRefIdeal.τ).loc Cert.AdamGateSecondRefIdeal.main_arg2) = m ((c.tc : Thread Cert.AdamGateSecondRefIdeal.nD Cert.AdamGateSecondRefIdeal.τ).loc Cert.AdamGateSecondRefIdeal.main_arg2)
      ∧ r.2.mem ((c.tc : Thread Cert.AdamGateSecondRefIdeal.nD Cert.AdamGateSecondRefIdeal.τ).loc Cert.AdamGateSecondRefIdeal.main_arg3) = m ((c.tc : Thread Cert.AdamGateSecondRefIdeal.nD Cert.AdamGateSecondRefIdeal.τ).loc Cert.AdamGateSecondRefIdeal.main_arg3)
      ∧ r.2.mem ((c.tc : Thread Cert.AdamGateSecondRefIdeal.nD Cert.AdamGateSecondRefIdeal.τ).loc Cert.AdamGateSecondRefIdeal.main_arg4) = m ((c.tc : Thread Cert.AdamGateSecondRefIdeal.nD Cert.AdamGateSecondRefIdeal.τ).loc Cert.AdamGateSecondRefIdeal.main_arg4)
      ∧ r.2.mem ((c.tc : Thread Cert.AdamGateSecondRefIdeal.nD Cert.AdamGateSecondRefIdeal.τ).loc Cert.AdamGateSecondRefIdeal.main_arg5) = m ((c.tc : Thread Cert.AdamGateSecondRefIdeal.nD Cert.AdamGateSecondRefIdeal.τ).loc Cert.AdamGateSecondRefIdeal.main_arg5)
      ∧ r.2.mem ((c.tc : Thread Cert.AdamGateSecondRefIdeal.nD Cert.AdamGateSecondRefIdeal.τ).loc Cert.AdamGateSecondRefIdeal.main_arg6) = m ((c.tc : Thread Cert.AdamGateSecondRefIdeal.nD Cert.AdamGateSecondRefIdeal.τ).loc Cert.AdamGateSecondRefIdeal.main_arg6)
      ∧ r.2.mem ((c.tc : Thread Cert.AdamGateSecondRefIdeal.nD Cert.AdamGateSecondRefIdeal.τ).loc Cert.AdamGateSecondRefIdeal.main_arg7) = m ((c.tc : Thread Cert.AdamGateSecondRefIdeal.nD Cert.AdamGateSecondRefIdeal.τ).loc Cert.AdamGateSecondRefIdeal.main_arg7)
      ∧ r.2.mem ((c.tc : Thread Cert.AdamGateSecondRefIdeal.nD Cert.AdamGateSecondRefIdeal.τ).loc Cert.AdamGateSecondRefIdeal.main_arg8) = m ((c.tc : Thread Cert.AdamGateSecondRefIdeal.nD Cert.AdamGateSecondRefIdeal.τ).loc Cert.AdamGateSecondRefIdeal.main_arg8)
      ∧ r.2.mem ((c.tc : Thread Cert.AdamGateSecondRefIdeal.nD Cert.AdamGateSecondRefIdeal.τ).loc Cert.AdamGateSecondRefIdeal.main_arg9) = m ((c.tc : Thread Cert.AdamGateSecondRefIdeal.nD Cert.AdamGateSecondRefIdeal.τ).loc Cert.AdamGateSecondRefIdeal.main_arg9))
      ∧ r.2.sem = fun _ => 0)

def quiescent_AdamDownFirst [hAdamDownFirst : Cert.AdamDownFirst.Facts] [hPre_chip_down : Cert.Pre_chip_down.Facts] : Prop :=
  ∀ (m : (ℓ : Loc Cert.AdamDownFirst.nD Cert.AdamDownFirst.τ Cert.AdamDownFirst.sig) → Buf (Elt Bits) ℓ) (g : Dev Cert.AdamDownFirst.nD → PrngReg), Pre_AdamDownFirst m →
    θ_run (Cert.AdamDownFirst.defs (F := Bits)) (onTc (τ := Cert.AdamDownFirst.τ) (Cert.AdamDownFirst.main (F := Bits))) ⟨m, fun _ => 0, g⟩ (fun r => (∀ c : Dev Cert.AdamDownFirst.nD,
      r.2.mem ((c.tc : Thread Cert.AdamDownFirst.nD Cert.AdamDownFirst.τ).loc Cert.AdamDownFirst.main_arg0) = m ((c.tc : Thread Cert.AdamDownFirst.nD Cert.AdamDownFirst.τ).loc Cert.AdamDownFirst.main_arg0)
      ∧ r.2.mem ((c.tc : Thread Cert.AdamDownFirst.nD Cert.AdamDownFirst.τ).loc Cert.AdamDownFirst.main_arg1) = m ((c.tc : Thread Cert.AdamDownFirst.nD Cert.AdamDownFirst.τ).loc Cert.AdamDownFirst.main_arg1)
      ∧ r.2.mem ((c.tc : Thread Cert.AdamDownFirst.nD Cert.AdamDownFirst.τ).loc Cert.AdamDownFirst.main_arg2) = m ((c.tc : Thread Cert.AdamDownFirst.nD Cert.AdamDownFirst.τ).loc Cert.AdamDownFirst.main_arg2)
      ∧ r.2.mem ((c.tc : Thread Cert.AdamDownFirst.nD Cert.AdamDownFirst.τ).loc Cert.AdamDownFirst.main_arg3) = m ((c.tc : Thread Cert.AdamDownFirst.nD Cert.AdamDownFirst.τ).loc Cert.AdamDownFirst.main_arg3)
      ∧ r.2.mem ((c.tc : Thread Cert.AdamDownFirst.nD Cert.AdamDownFirst.τ).loc Cert.AdamDownFirst.main_arg4) = m ((c.tc : Thread Cert.AdamDownFirst.nD Cert.AdamDownFirst.τ).loc Cert.AdamDownFirst.main_arg4)
      ∧ r.2.mem ((c.tc : Thread Cert.AdamDownFirst.nD Cert.AdamDownFirst.τ).loc Cert.AdamDownFirst.main_arg5) = m ((c.tc : Thread Cert.AdamDownFirst.nD Cert.AdamDownFirst.τ).loc Cert.AdamDownFirst.main_arg5))
      ∧ r.2.sem = fun _ => 0)

def quiescent_AdamDownFirstIdeal [hAdamDownFirstIdeal : Cert.AdamDownFirstIdeal.Facts] [hPre_chip_down : Cert.Pre_chip_down.Facts] : Prop :=
  ∀ (m : (ℓ : Loc Cert.AdamDownFirstIdeal.nD Cert.AdamDownFirstIdeal.τ Cert.AdamDownFirstIdeal.sig) → Buf (Elt Ideal) ℓ) (g : Dev Cert.AdamDownFirstIdeal.nD → PrngReg), Pre_AdamDownFirstIdeal m →
    θ_run (Cert.AdamDownFirstIdeal.defs (F := Ideal)) (onTc (τ := Cert.AdamDownFirstIdeal.τ) (Cert.AdamDownFirstIdeal.main (F := Ideal))) ⟨m, fun _ => 0, g⟩ (fun r => (∀ c : Dev Cert.AdamDownFirstIdeal.nD,
      r.2.mem ((c.tc : Thread Cert.AdamDownFirstIdeal.nD Cert.AdamDownFirstIdeal.τ).loc Cert.AdamDownFirstIdeal.main_arg0) = m ((c.tc : Thread Cert.AdamDownFirstIdeal.nD Cert.AdamDownFirstIdeal.τ).loc Cert.AdamDownFirstIdeal.main_arg0)
      ∧ r.2.mem ((c.tc : Thread Cert.AdamDownFirstIdeal.nD Cert.AdamDownFirstIdeal.τ).loc Cert.AdamDownFirstIdeal.main_arg1) = m ((c.tc : Thread Cert.AdamDownFirstIdeal.nD Cert.AdamDownFirstIdeal.τ).loc Cert.AdamDownFirstIdeal.main_arg1)
      ∧ r.2.mem ((c.tc : Thread Cert.AdamDownFirstIdeal.nD Cert.AdamDownFirstIdeal.τ).loc Cert.AdamDownFirstIdeal.main_arg2) = m ((c.tc : Thread Cert.AdamDownFirstIdeal.nD Cert.AdamDownFirstIdeal.τ).loc Cert.AdamDownFirstIdeal.main_arg2)
      ∧ r.2.mem ((c.tc : Thread Cert.AdamDownFirstIdeal.nD Cert.AdamDownFirstIdeal.τ).loc Cert.AdamDownFirstIdeal.main_arg3) = m ((c.tc : Thread Cert.AdamDownFirstIdeal.nD Cert.AdamDownFirstIdeal.τ).loc Cert.AdamDownFirstIdeal.main_arg3)
      ∧ r.2.mem ((c.tc : Thread Cert.AdamDownFirstIdeal.nD Cert.AdamDownFirstIdeal.τ).loc Cert.AdamDownFirstIdeal.main_arg4) = m ((c.tc : Thread Cert.AdamDownFirstIdeal.nD Cert.AdamDownFirstIdeal.τ).loc Cert.AdamDownFirstIdeal.main_arg4)
      ∧ r.2.mem ((c.tc : Thread Cert.AdamDownFirstIdeal.nD Cert.AdamDownFirstIdeal.τ).loc Cert.AdamDownFirstIdeal.main_arg5) = m ((c.tc : Thread Cert.AdamDownFirstIdeal.nD Cert.AdamDownFirstIdeal.τ).loc Cert.AdamDownFirstIdeal.main_arg5))
      ∧ r.2.sem = fun _ => 0)

def quiescent_AdamDownFirstRefIdeal [hAdamDownFirstRefIdeal : Cert.AdamDownFirstRefIdeal.Facts] : Prop :=
  ∀ (m : (ℓ : Loc Cert.AdamDownFirstRefIdeal.nD Cert.AdamDownFirstRefIdeal.τ Cert.AdamDownFirstRefIdeal.sig) → Buf (Elt Ideal) ℓ) (g : Dev Cert.AdamDownFirstRefIdeal.nD → PrngReg), Pre_AdamDownFirstRefIdeal m →
    θ_run (Cert.AdamDownFirstRefIdeal.defs (F := Ideal)) (onTc (τ := Cert.AdamDownFirstRefIdeal.τ) (Cert.AdamDownFirstRefIdeal.main (F := Ideal))) ⟨m, fun _ => 0, g⟩ (fun r => (∀ c : Dev Cert.AdamDownFirstRefIdeal.nD,
      r.2.mem ((c.tc : Thread Cert.AdamDownFirstRefIdeal.nD Cert.AdamDownFirstRefIdeal.τ).loc Cert.AdamDownFirstRefIdeal.main_arg0) = m ((c.tc : Thread Cert.AdamDownFirstRefIdeal.nD Cert.AdamDownFirstRefIdeal.τ).loc Cert.AdamDownFirstRefIdeal.main_arg0)
      ∧ r.2.mem ((c.tc : Thread Cert.AdamDownFirstRefIdeal.nD Cert.AdamDownFirstRefIdeal.τ).loc Cert.AdamDownFirstRefIdeal.main_arg1) = m ((c.tc : Thread Cert.AdamDownFirstRefIdeal.nD Cert.AdamDownFirstRefIdeal.τ).loc Cert.AdamDownFirstRefIdeal.main_arg1)
      ∧ r.2.mem ((c.tc : Thread Cert.AdamDownFirstRefIdeal.nD Cert.AdamDownFirstRefIdeal.τ).loc Cert.AdamDownFirstRefIdeal.main_arg2) = m ((c.tc : Thread Cert.AdamDownFirstRefIdeal.nD Cert.AdamDownFirstRefIdeal.τ).loc Cert.AdamDownFirstRefIdeal.main_arg2)
      ∧ r.2.mem ((c.tc : Thread Cert.AdamDownFirstRefIdeal.nD Cert.AdamDownFirstRefIdeal.τ).loc Cert.AdamDownFirstRefIdeal.main_arg3) = m ((c.tc : Thread Cert.AdamDownFirstRefIdeal.nD Cert.AdamDownFirstRefIdeal.τ).loc Cert.AdamDownFirstRefIdeal.main_arg3)
      ∧ r.2.mem ((c.tc : Thread Cert.AdamDownFirstRefIdeal.nD Cert.AdamDownFirstRefIdeal.τ).loc Cert.AdamDownFirstRefIdeal.main_arg4) = m ((c.tc : Thread Cert.AdamDownFirstRefIdeal.nD Cert.AdamDownFirstRefIdeal.τ).loc Cert.AdamDownFirstRefIdeal.main_arg4)
      ∧ r.2.mem ((c.tc : Thread Cert.AdamDownFirstRefIdeal.nD Cert.AdamDownFirstRefIdeal.τ).loc Cert.AdamDownFirstRefIdeal.main_arg5) = m ((c.tc : Thread Cert.AdamDownFirstRefIdeal.nD Cert.AdamDownFirstRefIdeal.τ).loc Cert.AdamDownFirstRefIdeal.main_arg5))
      ∧ r.2.sem = fun _ => 0)

def quiescent_AdamDownFirstRefIdeal_pre_chip_down [hAdamDownFirstRefIdeal : Cert.AdamDownFirstRefIdeal.Facts] [hPre_chip_down : Cert.Pre_chip_down.Facts] : Prop :=
  ∀ (m : (ℓ : Loc Cert.AdamDownFirstRefIdeal.nD Cert.AdamDownFirstRefIdeal.τ Cert.AdamDownFirstRefIdeal.sig) → Buf (Elt Ideal) ℓ) (g : Dev Cert.AdamDownFirstRefIdeal.nD → PrngReg), Pre_AdamDownFirstRefIdeal_chip_down m →
    θ_run (Cert.AdamDownFirstRefIdeal.defs (F := Ideal)) (onTc (τ := Cert.AdamDownFirstRefIdeal.τ) (Cert.AdamDownFirstRefIdeal.main (F := Ideal))) ⟨m, fun _ => 0, g⟩ (fun r => (∀ c : Dev Cert.AdamDownFirstRefIdeal.nD,
      r.2.mem ((c.tc : Thread Cert.AdamDownFirstRefIdeal.nD Cert.AdamDownFirstRefIdeal.τ).loc Cert.AdamDownFirstRefIdeal.main_arg0) = m ((c.tc : Thread Cert.AdamDownFirstRefIdeal.nD Cert.AdamDownFirstRefIdeal.τ).loc Cert.AdamDownFirstRefIdeal.main_arg0)
      ∧ r.2.mem ((c.tc : Thread Cert.AdamDownFirstRefIdeal.nD Cert.AdamDownFirstRefIdeal.τ).loc Cert.AdamDownFirstRefIdeal.main_arg1) = m ((c.tc : Thread Cert.AdamDownFirstRefIdeal.nD Cert.AdamDownFirstRefIdeal.τ).loc Cert.AdamDownFirstRefIdeal.main_arg1)
      ∧ r.2.mem ((c.tc : Thread Cert.AdamDownFirstRefIdeal.nD Cert.AdamDownFirstRefIdeal.τ).loc Cert.AdamDownFirstRefIdeal.main_arg2) = m ((c.tc : Thread Cert.AdamDownFirstRefIdeal.nD Cert.AdamDownFirstRefIdeal.τ).loc Cert.AdamDownFirstRefIdeal.main_arg2)
      ∧ r.2.mem ((c.tc : Thread Cert.AdamDownFirstRefIdeal.nD Cert.AdamDownFirstRefIdeal.τ).loc Cert.AdamDownFirstRefIdeal.main_arg3) = m ((c.tc : Thread Cert.AdamDownFirstRefIdeal.nD Cert.AdamDownFirstRefIdeal.τ).loc Cert.AdamDownFirstRefIdeal.main_arg3)
      ∧ r.2.mem ((c.tc : Thread Cert.AdamDownFirstRefIdeal.nD Cert.AdamDownFirstRefIdeal.τ).loc Cert.AdamDownFirstRefIdeal.main_arg4) = m ((c.tc : Thread Cert.AdamDownFirstRefIdeal.nD Cert.AdamDownFirstRefIdeal.τ).loc Cert.AdamDownFirstRefIdeal.main_arg4)
      ∧ r.2.mem ((c.tc : Thread Cert.AdamDownFirstRefIdeal.nD Cert.AdamDownFirstRefIdeal.τ).loc Cert.AdamDownFirstRefIdeal.main_arg5) = m ((c.tc : Thread Cert.AdamDownFirstRefIdeal.nD Cert.AdamDownFirstRefIdeal.τ).loc Cert.AdamDownFirstRefIdeal.main_arg5))
      ∧ r.2.sem = fun _ => 0)

def quiescent_AdamDownSecond [hAdamDownSecond : Cert.AdamDownSecond.Facts] [hPre_chip_down_second : Cert.Pre_chip_down_second.Facts] : Prop :=
  ∀ (m : (ℓ : Loc Cert.AdamDownSecond.nD Cert.AdamDownSecond.τ Cert.AdamDownSecond.sig) → Buf (Elt Bits) ℓ) (g : Dev Cert.AdamDownSecond.nD → PrngReg), Pre_AdamDownSecond m →
    θ_run (Cert.AdamDownSecond.defs (F := Bits)) (onTc (τ := Cert.AdamDownSecond.τ) (Cert.AdamDownSecond.main (F := Bits))) ⟨m, fun _ => 0, g⟩ (fun r => (∀ c : Dev Cert.AdamDownSecond.nD,
      r.2.mem ((c.tc : Thread Cert.AdamDownSecond.nD Cert.AdamDownSecond.τ).loc Cert.AdamDownSecond.main_arg0) = m ((c.tc : Thread Cert.AdamDownSecond.nD Cert.AdamDownSecond.τ).loc Cert.AdamDownSecond.main_arg0)
      ∧ r.2.mem ((c.tc : Thread Cert.AdamDownSecond.nD Cert.AdamDownSecond.τ).loc Cert.AdamDownSecond.main_arg1) = m ((c.tc : Thread Cert.AdamDownSecond.nD Cert.AdamDownSecond.τ).loc Cert.AdamDownSecond.main_arg1)
      ∧ r.2.mem ((c.tc : Thread Cert.AdamDownSecond.nD Cert.AdamDownSecond.τ).loc Cert.AdamDownSecond.main_arg2) = m ((c.tc : Thread Cert.AdamDownSecond.nD Cert.AdamDownSecond.τ).loc Cert.AdamDownSecond.main_arg2)
      ∧ r.2.mem ((c.tc : Thread Cert.AdamDownSecond.nD Cert.AdamDownSecond.τ).loc Cert.AdamDownSecond.main_arg3) = m ((c.tc : Thread Cert.AdamDownSecond.nD Cert.AdamDownSecond.τ).loc Cert.AdamDownSecond.main_arg3)
      ∧ r.2.mem ((c.tc : Thread Cert.AdamDownSecond.nD Cert.AdamDownSecond.τ).loc Cert.AdamDownSecond.main_arg4) = m ((c.tc : Thread Cert.AdamDownSecond.nD Cert.AdamDownSecond.τ).loc Cert.AdamDownSecond.main_arg4)
      ∧ r.2.mem ((c.tc : Thread Cert.AdamDownSecond.nD Cert.AdamDownSecond.τ).loc Cert.AdamDownSecond.main_arg5) = m ((c.tc : Thread Cert.AdamDownSecond.nD Cert.AdamDownSecond.τ).loc Cert.AdamDownSecond.main_arg5)
      ∧ r.2.mem ((c.tc : Thread Cert.AdamDownSecond.nD Cert.AdamDownSecond.τ).loc Cert.AdamDownSecond.main_arg6) = m ((c.tc : Thread Cert.AdamDownSecond.nD Cert.AdamDownSecond.τ).loc Cert.AdamDownSecond.main_arg6)
      ∧ r.2.mem ((c.tc : Thread Cert.AdamDownSecond.nD Cert.AdamDownSecond.τ).loc Cert.AdamDownSecond.main_arg7) = m ((c.tc : Thread Cert.AdamDownSecond.nD Cert.AdamDownSecond.τ).loc Cert.AdamDownSecond.main_arg7)
      ∧ r.2.mem ((c.tc : Thread Cert.AdamDownSecond.nD Cert.AdamDownSecond.τ).loc Cert.AdamDownSecond.main_arg8) = m ((c.tc : Thread Cert.AdamDownSecond.nD Cert.AdamDownSecond.τ).loc Cert.AdamDownSecond.main_arg8)
      ∧ r.2.mem ((c.tc : Thread Cert.AdamDownSecond.nD Cert.AdamDownSecond.τ).loc Cert.AdamDownSecond.main_arg9) = m ((c.tc : Thread Cert.AdamDownSecond.nD Cert.AdamDownSecond.τ).loc Cert.AdamDownSecond.main_arg9))
      ∧ r.2.sem = fun _ => 0)

def quiescent_AdamDownSecondIdeal [hAdamDownSecondIdeal : Cert.AdamDownSecondIdeal.Facts] [hPre_chip_down_second : Cert.Pre_chip_down_second.Facts] : Prop :=
  ∀ (m : (ℓ : Loc Cert.AdamDownSecondIdeal.nD Cert.AdamDownSecondIdeal.τ Cert.AdamDownSecondIdeal.sig) → Buf (Elt Ideal) ℓ) (g : Dev Cert.AdamDownSecondIdeal.nD → PrngReg), Pre_AdamDownSecondIdeal m →
    θ_run (Cert.AdamDownSecondIdeal.defs (F := Ideal)) (onTc (τ := Cert.AdamDownSecondIdeal.τ) (Cert.AdamDownSecondIdeal.main (F := Ideal))) ⟨m, fun _ => 0, g⟩ (fun r => (∀ c : Dev Cert.AdamDownSecondIdeal.nD,
      r.2.mem ((c.tc : Thread Cert.AdamDownSecondIdeal.nD Cert.AdamDownSecondIdeal.τ).loc Cert.AdamDownSecondIdeal.main_arg0) = m ((c.tc : Thread Cert.AdamDownSecondIdeal.nD Cert.AdamDownSecondIdeal.τ).loc Cert.AdamDownSecondIdeal.main_arg0)
      ∧ r.2.mem ((c.tc : Thread Cert.AdamDownSecondIdeal.nD Cert.AdamDownSecondIdeal.τ).loc Cert.AdamDownSecondIdeal.main_arg1) = m ((c.tc : Thread Cert.AdamDownSecondIdeal.nD Cert.AdamDownSecondIdeal.τ).loc Cert.AdamDownSecondIdeal.main_arg1)
      ∧ r.2.mem ((c.tc : Thread Cert.AdamDownSecondIdeal.nD Cert.AdamDownSecondIdeal.τ).loc Cert.AdamDownSecondIdeal.main_arg2) = m ((c.tc : Thread Cert.AdamDownSecondIdeal.nD Cert.AdamDownSecondIdeal.τ).loc Cert.AdamDownSecondIdeal.main_arg2)
      ∧ r.2.mem ((c.tc : Thread Cert.AdamDownSecondIdeal.nD Cert.AdamDownSecondIdeal.τ).loc Cert.AdamDownSecondIdeal.main_arg3) = m ((c.tc : Thread Cert.AdamDownSecondIdeal.nD Cert.AdamDownSecondIdeal.τ).loc Cert.AdamDownSecondIdeal.main_arg3)
      ∧ r.2.mem ((c.tc : Thread Cert.AdamDownSecondIdeal.nD Cert.AdamDownSecondIdeal.τ).loc Cert.AdamDownSecondIdeal.main_arg4) = m ((c.tc : Thread Cert.AdamDownSecondIdeal.nD Cert.AdamDownSecondIdeal.τ).loc Cert.AdamDownSecondIdeal.main_arg4)
      ∧ r.2.mem ((c.tc : Thread Cert.AdamDownSecondIdeal.nD Cert.AdamDownSecondIdeal.τ).loc Cert.AdamDownSecondIdeal.main_arg5) = m ((c.tc : Thread Cert.AdamDownSecondIdeal.nD Cert.AdamDownSecondIdeal.τ).loc Cert.AdamDownSecondIdeal.main_arg5)
      ∧ r.2.mem ((c.tc : Thread Cert.AdamDownSecondIdeal.nD Cert.AdamDownSecondIdeal.τ).loc Cert.AdamDownSecondIdeal.main_arg6) = m ((c.tc : Thread Cert.AdamDownSecondIdeal.nD Cert.AdamDownSecondIdeal.τ).loc Cert.AdamDownSecondIdeal.main_arg6)
      ∧ r.2.mem ((c.tc : Thread Cert.AdamDownSecondIdeal.nD Cert.AdamDownSecondIdeal.τ).loc Cert.AdamDownSecondIdeal.main_arg7) = m ((c.tc : Thread Cert.AdamDownSecondIdeal.nD Cert.AdamDownSecondIdeal.τ).loc Cert.AdamDownSecondIdeal.main_arg7)
      ∧ r.2.mem ((c.tc : Thread Cert.AdamDownSecondIdeal.nD Cert.AdamDownSecondIdeal.τ).loc Cert.AdamDownSecondIdeal.main_arg8) = m ((c.tc : Thread Cert.AdamDownSecondIdeal.nD Cert.AdamDownSecondIdeal.τ).loc Cert.AdamDownSecondIdeal.main_arg8)
      ∧ r.2.mem ((c.tc : Thread Cert.AdamDownSecondIdeal.nD Cert.AdamDownSecondIdeal.τ).loc Cert.AdamDownSecondIdeal.main_arg9) = m ((c.tc : Thread Cert.AdamDownSecondIdeal.nD Cert.AdamDownSecondIdeal.τ).loc Cert.AdamDownSecondIdeal.main_arg9))
      ∧ r.2.sem = fun _ => 0)

def quiescent_AdamDownSecondRefIdeal [hAdamDownSecondRefIdeal : Cert.AdamDownSecondRefIdeal.Facts] : Prop :=
  ∀ (m : (ℓ : Loc Cert.AdamDownSecondRefIdeal.nD Cert.AdamDownSecondRefIdeal.τ Cert.AdamDownSecondRefIdeal.sig) → Buf (Elt Ideal) ℓ) (g : Dev Cert.AdamDownSecondRefIdeal.nD → PrngReg), Pre_AdamDownSecondRefIdeal m →
    θ_run (Cert.AdamDownSecondRefIdeal.defs (F := Ideal)) (onTc (τ := Cert.AdamDownSecondRefIdeal.τ) (Cert.AdamDownSecondRefIdeal.main (F := Ideal))) ⟨m, fun _ => 0, g⟩ (fun r => (∀ c : Dev Cert.AdamDownSecondRefIdeal.nD,
      r.2.mem ((c.tc : Thread Cert.AdamDownSecondRefIdeal.nD Cert.AdamDownSecondRefIdeal.τ).loc Cert.AdamDownSecondRefIdeal.main_arg0) = m ((c.tc : Thread Cert.AdamDownSecondRefIdeal.nD Cert.AdamDownSecondRefIdeal.τ).loc Cert.AdamDownSecondRefIdeal.main_arg0)
      ∧ r.2.mem ((c.tc : Thread Cert.AdamDownSecondRefIdeal.nD Cert.AdamDownSecondRefIdeal.τ).loc Cert.AdamDownSecondRefIdeal.main_arg1) = m ((c.tc : Thread Cert.AdamDownSecondRefIdeal.nD Cert.AdamDownSecondRefIdeal.τ).loc Cert.AdamDownSecondRefIdeal.main_arg1)
      ∧ r.2.mem ((c.tc : Thread Cert.AdamDownSecondRefIdeal.nD Cert.AdamDownSecondRefIdeal.τ).loc Cert.AdamDownSecondRefIdeal.main_arg2) = m ((c.tc : Thread Cert.AdamDownSecondRefIdeal.nD Cert.AdamDownSecondRefIdeal.τ).loc Cert.AdamDownSecondRefIdeal.main_arg2)
      ∧ r.2.mem ((c.tc : Thread Cert.AdamDownSecondRefIdeal.nD Cert.AdamDownSecondRefIdeal.τ).loc Cert.AdamDownSecondRefIdeal.main_arg3) = m ((c.tc : Thread Cert.AdamDownSecondRefIdeal.nD Cert.AdamDownSecondRefIdeal.τ).loc Cert.AdamDownSecondRefIdeal.main_arg3)
      ∧ r.2.mem ((c.tc : Thread Cert.AdamDownSecondRefIdeal.nD Cert.AdamDownSecondRefIdeal.τ).loc Cert.AdamDownSecondRefIdeal.main_arg4) = m ((c.tc : Thread Cert.AdamDownSecondRefIdeal.nD Cert.AdamDownSecondRefIdeal.τ).loc Cert.AdamDownSecondRefIdeal.main_arg4)
      ∧ r.2.mem ((c.tc : Thread Cert.AdamDownSecondRefIdeal.nD Cert.AdamDownSecondRefIdeal.τ).loc Cert.AdamDownSecondRefIdeal.main_arg5) = m ((c.tc : Thread Cert.AdamDownSecondRefIdeal.nD Cert.AdamDownSecondRefIdeal.τ).loc Cert.AdamDownSecondRefIdeal.main_arg5)
      ∧ r.2.mem ((c.tc : Thread Cert.AdamDownSecondRefIdeal.nD Cert.AdamDownSecondRefIdeal.τ).loc Cert.AdamDownSecondRefIdeal.main_arg6) = m ((c.tc : Thread Cert.AdamDownSecondRefIdeal.nD Cert.AdamDownSecondRefIdeal.τ).loc Cert.AdamDownSecondRefIdeal.main_arg6)
      ∧ r.2.mem ((c.tc : Thread Cert.AdamDownSecondRefIdeal.nD Cert.AdamDownSecondRefIdeal.τ).loc Cert.AdamDownSecondRefIdeal.main_arg7) = m ((c.tc : Thread Cert.AdamDownSecondRefIdeal.nD Cert.AdamDownSecondRefIdeal.τ).loc Cert.AdamDownSecondRefIdeal.main_arg7)
      ∧ r.2.mem ((c.tc : Thread Cert.AdamDownSecondRefIdeal.nD Cert.AdamDownSecondRefIdeal.τ).loc Cert.AdamDownSecondRefIdeal.main_arg8) = m ((c.tc : Thread Cert.AdamDownSecondRefIdeal.nD Cert.AdamDownSecondRefIdeal.τ).loc Cert.AdamDownSecondRefIdeal.main_arg8)
      ∧ r.2.mem ((c.tc : Thread Cert.AdamDownSecondRefIdeal.nD Cert.AdamDownSecondRefIdeal.τ).loc Cert.AdamDownSecondRefIdeal.main_arg9) = m ((c.tc : Thread Cert.AdamDownSecondRefIdeal.nD Cert.AdamDownSecondRefIdeal.τ).loc Cert.AdamDownSecondRefIdeal.main_arg9))
      ∧ r.2.sem = fun _ => 0)

def quiescent_AdamDownSecondRefIdeal_pre_chip_down_second [hAdamDownSecondRefIdeal : Cert.AdamDownSecondRefIdeal.Facts] [hPre_chip_down_second : Cert.Pre_chip_down_second.Facts] : Prop :=
  ∀ (m : (ℓ : Loc Cert.AdamDownSecondRefIdeal.nD Cert.AdamDownSecondRefIdeal.τ Cert.AdamDownSecondRefIdeal.sig) → Buf (Elt Ideal) ℓ) (g : Dev Cert.AdamDownSecondRefIdeal.nD → PrngReg), Pre_AdamDownSecondRefIdeal_chip_down_second m →
    θ_run (Cert.AdamDownSecondRefIdeal.defs (F := Ideal)) (onTc (τ := Cert.AdamDownSecondRefIdeal.τ) (Cert.AdamDownSecondRefIdeal.main (F := Ideal))) ⟨m, fun _ => 0, g⟩ (fun r => (∀ c : Dev Cert.AdamDownSecondRefIdeal.nD,
      r.2.mem ((c.tc : Thread Cert.AdamDownSecondRefIdeal.nD Cert.AdamDownSecondRefIdeal.τ).loc Cert.AdamDownSecondRefIdeal.main_arg0) = m ((c.tc : Thread Cert.AdamDownSecondRefIdeal.nD Cert.AdamDownSecondRefIdeal.τ).loc Cert.AdamDownSecondRefIdeal.main_arg0)
      ∧ r.2.mem ((c.tc : Thread Cert.AdamDownSecondRefIdeal.nD Cert.AdamDownSecondRefIdeal.τ).loc Cert.AdamDownSecondRefIdeal.main_arg1) = m ((c.tc : Thread Cert.AdamDownSecondRefIdeal.nD Cert.AdamDownSecondRefIdeal.τ).loc Cert.AdamDownSecondRefIdeal.main_arg1)
      ∧ r.2.mem ((c.tc : Thread Cert.AdamDownSecondRefIdeal.nD Cert.AdamDownSecondRefIdeal.τ).loc Cert.AdamDownSecondRefIdeal.main_arg2) = m ((c.tc : Thread Cert.AdamDownSecondRefIdeal.nD Cert.AdamDownSecondRefIdeal.τ).loc Cert.AdamDownSecondRefIdeal.main_arg2)
      ∧ r.2.mem ((c.tc : Thread Cert.AdamDownSecondRefIdeal.nD Cert.AdamDownSecondRefIdeal.τ).loc Cert.AdamDownSecondRefIdeal.main_arg3) = m ((c.tc : Thread Cert.AdamDownSecondRefIdeal.nD Cert.AdamDownSecondRefIdeal.τ).loc Cert.AdamDownSecondRefIdeal.main_arg3)
      ∧ r.2.mem ((c.tc : Thread Cert.AdamDownSecondRefIdeal.nD Cert.AdamDownSecondRefIdeal.τ).loc Cert.AdamDownSecondRefIdeal.main_arg4) = m ((c.tc : Thread Cert.AdamDownSecondRefIdeal.nD Cert.AdamDownSecondRefIdeal.τ).loc Cert.AdamDownSecondRefIdeal.main_arg4)
      ∧ r.2.mem ((c.tc : Thread Cert.AdamDownSecondRefIdeal.nD Cert.AdamDownSecondRefIdeal.τ).loc Cert.AdamDownSecondRefIdeal.main_arg5) = m ((c.tc : Thread Cert.AdamDownSecondRefIdeal.nD Cert.AdamDownSecondRefIdeal.τ).loc Cert.AdamDownSecondRefIdeal.main_arg5)
      ∧ r.2.mem ((c.tc : Thread Cert.AdamDownSecondRefIdeal.nD Cert.AdamDownSecondRefIdeal.τ).loc Cert.AdamDownSecondRefIdeal.main_arg6) = m ((c.tc : Thread Cert.AdamDownSecondRefIdeal.nD Cert.AdamDownSecondRefIdeal.τ).loc Cert.AdamDownSecondRefIdeal.main_arg6)
      ∧ r.2.mem ((c.tc : Thread Cert.AdamDownSecondRefIdeal.nD Cert.AdamDownSecondRefIdeal.τ).loc Cert.AdamDownSecondRefIdeal.main_arg7) = m ((c.tc : Thread Cert.AdamDownSecondRefIdeal.nD Cert.AdamDownSecondRefIdeal.τ).loc Cert.AdamDownSecondRefIdeal.main_arg7)
      ∧ r.2.mem ((c.tc : Thread Cert.AdamDownSecondRefIdeal.nD Cert.AdamDownSecondRefIdeal.τ).loc Cert.AdamDownSecondRefIdeal.main_arg8) = m ((c.tc : Thread Cert.AdamDownSecondRefIdeal.nD Cert.AdamDownSecondRefIdeal.τ).loc Cert.AdamDownSecondRefIdeal.main_arg8)
      ∧ r.2.mem ((c.tc : Thread Cert.AdamDownSecondRefIdeal.nD Cert.AdamDownSecondRefIdeal.τ).loc Cert.AdamDownSecondRefIdeal.main_arg9) = m ((c.tc : Thread Cert.AdamDownSecondRefIdeal.nD Cert.AdamDownSecondRefIdeal.τ).loc Cert.AdamDownSecondRefIdeal.main_arg9))
      ∧ r.2.sem = fun _ => 0)

def preserves_FfnDact_FfnDactIdeal : Prop :=
  True

def algebraic_FfnDactIdeal_FfnDactRefIdeal_pre_finite_dact [hFfnDactIdeal : Cert.FfnDactIdeal.Facts] [hFfnDactRefIdeal : Cert.FfnDactRefIdeal.Facts] [hPre_finite_dact : Cert.Pre_finite_dact.Facts] : Prop :=
  ∀ (m : (ℓ : Loc Cert.FfnDactIdeal.nD Cert.FfnDactIdeal.τ Cert.FfnDactIdeal.sig) → Buf (Elt Ideal) ℓ) (g : Dev Cert.FfnDactIdeal.nD → PrngReg)
    (m' : (ℓ : Loc Cert.FfnDactRefIdeal.nD Cert.FfnDactRefIdeal.τ Cert.FfnDactRefIdeal.sig) → Buf (Elt Ideal) ℓ) (g' : Dev Cert.FfnDactRefIdeal.nD → PrngReg), Pre_FfnDactIdeal_finite_dact m →
    (∀ c : Dev Cert.FfnDactIdeal.nD,
      m' ((c.tc : Thread Cert.FfnDactRefIdeal.nD Cert.FfnDactRefIdeal.τ).loc Cert.FfnDactRefIdeal.main_arg0) = m ((c.tc : Thread Cert.FfnDactIdeal.nD Cert.FfnDactIdeal.τ).loc Cert.FfnDactIdeal.main_arg0)
      ∧ m' ((c.tc : Thread Cert.FfnDactRefIdeal.nD Cert.FfnDactRefIdeal.τ).loc Cert.FfnDactRefIdeal.main_arg1) = m ((c.tc : Thread Cert.FfnDactIdeal.nD Cert.FfnDactIdeal.τ).loc Cert.FfnDactIdeal.main_arg1)
      ∧ m' ((c.tc : Thread Cert.FfnDactRefIdeal.nD Cert.FfnDactRefIdeal.τ).loc Cert.FfnDactRefIdeal.main_arg2) = m ((c.tc : Thread Cert.FfnDactIdeal.nD Cert.FfnDactIdeal.τ).loc Cert.FfnDactIdeal.main_arg2)
      ∧ m' ((c.tc : Thread Cert.FfnDactRefIdeal.nD Cert.FfnDactRefIdeal.τ).loc Cert.FfnDactRefIdeal.main_arg3) = m ((c.tc : Thread Cert.FfnDactIdeal.nD Cert.FfnDactIdeal.τ).loc Cert.FfnDactIdeal.main_arg3)) →
    ∃ (v0 : (c : Dev Cert.FfnDactIdeal.nD) → Buf (Elt Ideal) ((c.tc : Thread Cert.FfnDactIdeal.nD Cert.FfnDactIdeal.τ).loc Cert.FfnDactIdeal.main_v0_0)) (v1 : (c : Dev Cert.FfnDactIdeal.nD) → Buf (Elt Ideal) ((c.tc : Thread Cert.FfnDactIdeal.nD Cert.FfnDactIdeal.τ).loc Cert.FfnDactIdeal.main_v0_1)),
      θ_run (Cert.FfnDactIdeal.defs (F := Ideal)) (onTc (τ := Cert.FfnDactIdeal.τ) (Cert.FfnDactIdeal.main (F := Ideal))) ⟨m, fun _ => 0, g⟩ (fun r => ∀ c : Dev Cert.FfnDactIdeal.nD,
          r.2.mem ((c.tc : Thread Cert.FfnDactIdeal.nD Cert.FfnDactIdeal.τ).loc Cert.FfnDactIdeal.main_v0_0) = v0 c
          ∧ r.2.mem ((c.tc : Thread Cert.FfnDactIdeal.nD Cert.FfnDactIdeal.τ).loc Cert.FfnDactIdeal.main_v0_1) = v1 c
          ∧ r.2.mem ((c.tc : Thread Cert.FfnDactIdeal.nD Cert.FfnDactIdeal.τ).loc Cert.FfnDactIdeal.main_arg0) = m ((c.tc : Thread Cert.FfnDactIdeal.nD Cert.FfnDactIdeal.τ).loc Cert.FfnDactIdeal.main_arg0)
          ∧ r.2.mem ((c.tc : Thread Cert.FfnDactIdeal.nD Cert.FfnDactIdeal.τ).loc Cert.FfnDactIdeal.main_arg1) = m ((c.tc : Thread Cert.FfnDactIdeal.nD Cert.FfnDactIdeal.τ).loc Cert.FfnDactIdeal.main_arg1)
          ∧ r.2.mem ((c.tc : Thread Cert.FfnDactIdeal.nD Cert.FfnDactIdeal.τ).loc Cert.FfnDactIdeal.main_arg2) = m ((c.tc : Thread Cert.FfnDactIdeal.nD Cert.FfnDactIdeal.τ).loc Cert.FfnDactIdeal.main_arg2)
          ∧ r.2.mem ((c.tc : Thread Cert.FfnDactIdeal.nD Cert.FfnDactIdeal.τ).loc Cert.FfnDactIdeal.main_arg3) = m ((c.tc : Thread Cert.FfnDactIdeal.nD Cert.FfnDactIdeal.τ).loc Cert.FfnDactIdeal.main_arg3))
      ∧ θ_run (Cert.FfnDactRefIdeal.defs (F := Ideal)) (onTc (τ := Cert.FfnDactRefIdeal.τ) (Cert.FfnDactRefIdeal.main (F := Ideal))) ⟨m', fun _ => 0, g'⟩ (fun r => ∀ c : Dev Cert.FfnDactRefIdeal.nD,
          r.2.mem ((c.tc : Thread Cert.FfnDactRefIdeal.nD Cert.FfnDactRefIdeal.τ).loc Cert.FfnDactRefIdeal.main_v11) = v0 c
          ∧ r.2.mem ((c.tc : Thread Cert.FfnDactRefIdeal.nD Cert.FfnDactRefIdeal.τ).loc Cert.FfnDactRefIdeal.main_v12) = v1 c
          ∧ r.2.mem ((c.tc : Thread Cert.FfnDactRefIdeal.nD Cert.FfnDactRefIdeal.τ).loc Cert.FfnDactRefIdeal.main_arg0) = m' ((c.tc : Thread Cert.FfnDactRefIdeal.nD Cert.FfnDactRefIdeal.τ).loc Cert.FfnDactRefIdeal.main_arg0)
          ∧ r.2.mem ((c.tc : Thread Cert.FfnDactRefIdeal.nD Cert.FfnDactRefIdeal.τ).loc Cert.FfnDactRefIdeal.main_arg1) = m' ((c.tc : Thread Cert.FfnDactRefIdeal.nD Cert.FfnDactRefIdeal.τ).loc Cert.FfnDactRefIdeal.main_arg1)
          ∧ r.2.mem ((c.tc : Thread Cert.FfnDactRefIdeal.nD Cert.FfnDactRefIdeal.τ).loc Cert.FfnDactRefIdeal.main_arg2) = m' ((c.tc : Thread Cert.FfnDactRefIdeal.nD Cert.FfnDactRefIdeal.τ).loc Cert.FfnDactRefIdeal.main_arg2)
          ∧ r.2.mem ((c.tc : Thread Cert.FfnDactRefIdeal.nD Cert.FfnDactRefIdeal.τ).loc Cert.FfnDactRefIdeal.main_arg3) = m' ((c.tc : Thread Cert.FfnDactRefIdeal.nD Cert.FfnDactRefIdeal.τ).loc Cert.FfnDactRefIdeal.main_arg3))

def preserves_FfnDwd_FfnDwdIdeal : Prop :=
  True

def algebraic_FfnDwdIdeal_FfnDwdRefIdeal [hFfnDwdIdeal : Cert.FfnDwdIdeal.Facts] [hFfnDwdRefIdeal : Cert.FfnDwdRefIdeal.Facts] : Prop :=
  ∀ (m : (ℓ : Loc Cert.FfnDwdIdeal.nD Cert.FfnDwdIdeal.τ Cert.FfnDwdIdeal.sig) → Buf (Elt Ideal) ℓ) (g : Dev Cert.FfnDwdIdeal.nD → PrngReg)
    (m' : (ℓ : Loc Cert.FfnDwdRefIdeal.nD Cert.FfnDwdRefIdeal.τ Cert.FfnDwdRefIdeal.sig) → Buf (Elt Ideal) ℓ) (g' : Dev Cert.FfnDwdRefIdeal.nD → PrngReg), Pre_FfnDwdIdeal m →
    (∀ c : Dev Cert.FfnDwdIdeal.nD,
      m' ((c.tc : Thread Cert.FfnDwdRefIdeal.nD Cert.FfnDwdRefIdeal.τ).loc Cert.FfnDwdRefIdeal.main_arg0) = m ((c.tc : Thread Cert.FfnDwdIdeal.nD Cert.FfnDwdIdeal.τ).loc Cert.FfnDwdIdeal.main_arg0)
      ∧ m' ((c.tc : Thread Cert.FfnDwdRefIdeal.nD Cert.FfnDwdRefIdeal.τ).loc Cert.FfnDwdRefIdeal.main_arg1) = m ((c.tc : Thread Cert.FfnDwdIdeal.nD Cert.FfnDwdIdeal.τ).loc Cert.FfnDwdIdeal.main_arg1)) →
    ∃ (v0 : (c : Dev Cert.FfnDwdIdeal.nD) → Buf (Elt Ideal) ((c.tc : Thread Cert.FfnDwdIdeal.nD Cert.FfnDwdIdeal.τ).loc Cert.FfnDwdIdeal.main_v0)),
      θ_run (Cert.FfnDwdIdeal.defs (F := Ideal)) (onTc (τ := Cert.FfnDwdIdeal.τ) (Cert.FfnDwdIdeal.main (F := Ideal))) ⟨m, fun _ => 0, g⟩ (fun r => ∀ c : Dev Cert.FfnDwdIdeal.nD,
          r.2.mem ((c.tc : Thread Cert.FfnDwdIdeal.nD Cert.FfnDwdIdeal.τ).loc Cert.FfnDwdIdeal.main_v0) = v0 c
          ∧ r.2.mem ((c.tc : Thread Cert.FfnDwdIdeal.nD Cert.FfnDwdIdeal.τ).loc Cert.FfnDwdIdeal.main_arg0) = m ((c.tc : Thread Cert.FfnDwdIdeal.nD Cert.FfnDwdIdeal.τ).loc Cert.FfnDwdIdeal.main_arg0)
          ∧ r.2.mem ((c.tc : Thread Cert.FfnDwdIdeal.nD Cert.FfnDwdIdeal.τ).loc Cert.FfnDwdIdeal.main_arg1) = m ((c.tc : Thread Cert.FfnDwdIdeal.nD Cert.FfnDwdIdeal.τ).loc Cert.FfnDwdIdeal.main_arg1))
      ∧ θ_run (Cert.FfnDwdRefIdeal.defs (F := Ideal)) (onTc (τ := Cert.FfnDwdRefIdeal.τ) (Cert.FfnDwdRefIdeal.main (F := Ideal))) ⟨m', fun _ => 0, g'⟩ (fun r => ∀ c : Dev Cert.FfnDwdRefIdeal.nD,
          r.2.mem ((c.tc : Thread Cert.FfnDwdRefIdeal.nD Cert.FfnDwdRefIdeal.τ).loc Cert.FfnDwdRefIdeal.main_v6) = v0 c
          ∧ r.2.mem ((c.tc : Thread Cert.FfnDwdRefIdeal.nD Cert.FfnDwdRefIdeal.τ).loc Cert.FfnDwdRefIdeal.main_arg0) = m' ((c.tc : Thread Cert.FfnDwdRefIdeal.nD Cert.FfnDwdRefIdeal.τ).loc Cert.FfnDwdRefIdeal.main_arg0)
          ∧ r.2.mem ((c.tc : Thread Cert.FfnDwdRefIdeal.nD Cert.FfnDwdRefIdeal.τ).loc Cert.FfnDwdRefIdeal.main_arg1) = m' ((c.tc : Thread Cert.FfnDwdRefIdeal.nD Cert.FfnDwdRefIdeal.τ).loc Cert.FfnDwdRefIdeal.main_arg1))

def preserves_FfnDwgu_FfnDwguIdeal : Prop :=
  True

def algebraic_FfnDwguIdeal_FfnDwguRefIdeal [hFfnDwguIdeal : Cert.FfnDwguIdeal.Facts] [hFfnDwguRefIdeal : Cert.FfnDwguRefIdeal.Facts] : Prop :=
  ∀ (m : (ℓ : Loc Cert.FfnDwguIdeal.nD Cert.FfnDwguIdeal.τ Cert.FfnDwguIdeal.sig) → Buf (Elt Ideal) ℓ) (g : Dev Cert.FfnDwguIdeal.nD → PrngReg)
    (m' : (ℓ : Loc Cert.FfnDwguRefIdeal.nD Cert.FfnDwguRefIdeal.τ Cert.FfnDwguRefIdeal.sig) → Buf (Elt Ideal) ℓ) (g' : Dev Cert.FfnDwguRefIdeal.nD → PrngReg), Pre_FfnDwguIdeal m →
    (∀ c : Dev Cert.FfnDwguIdeal.nD,
      m' ((c.tc : Thread Cert.FfnDwguRefIdeal.nD Cert.FfnDwguRefIdeal.τ).loc Cert.FfnDwguRefIdeal.main_arg0) = m ((c.tc : Thread Cert.FfnDwguIdeal.nD Cert.FfnDwguIdeal.τ).loc Cert.FfnDwguIdeal.main_arg0)
      ∧ m' ((c.tc : Thread Cert.FfnDwguRefIdeal.nD Cert.FfnDwguRefIdeal.τ).loc Cert.FfnDwguRefIdeal.main_arg1) = m ((c.tc : Thread Cert.FfnDwguIdeal.nD Cert.FfnDwguIdeal.τ).loc Cert.FfnDwguIdeal.main_arg1)
      ∧ m' ((c.tc : Thread Cert.FfnDwguRefIdeal.nD Cert.FfnDwguRefIdeal.τ).loc Cert.FfnDwguRefIdeal.main_arg2) = m ((c.tc : Thread Cert.FfnDwguIdeal.nD Cert.FfnDwguIdeal.τ).loc Cert.FfnDwguIdeal.main_arg2)) →
    ∃ (v0 : (c : Dev Cert.FfnDwguIdeal.nD) → Buf (Elt Ideal) ((c.tc : Thread Cert.FfnDwguIdeal.nD Cert.FfnDwguIdeal.τ).loc Cert.FfnDwguIdeal.main_v0_0)) (v1 : (c : Dev Cert.FfnDwguIdeal.nD) → Buf (Elt Ideal) ((c.tc : Thread Cert.FfnDwguIdeal.nD Cert.FfnDwguIdeal.τ).loc Cert.FfnDwguIdeal.main_v0_1)),
      θ_run (Cert.FfnDwguIdeal.defs (F := Ideal)) (onTc (τ := Cert.FfnDwguIdeal.τ) (Cert.FfnDwguIdeal.main (F := Ideal))) ⟨m, fun _ => 0, g⟩ (fun r => ∀ c : Dev Cert.FfnDwguIdeal.nD,
          r.2.mem ((c.tc : Thread Cert.FfnDwguIdeal.nD Cert.FfnDwguIdeal.τ).loc Cert.FfnDwguIdeal.main_v0_0) = v0 c
          ∧ r.2.mem ((c.tc : Thread Cert.FfnDwguIdeal.nD Cert.FfnDwguIdeal.τ).loc Cert.FfnDwguIdeal.main_v0_1) = v1 c
          ∧ r.2.mem ((c.tc : Thread Cert.FfnDwguIdeal.nD Cert.FfnDwguIdeal.τ).loc Cert.FfnDwguIdeal.main_arg0) = m ((c.tc : Thread Cert.FfnDwguIdeal.nD Cert.FfnDwguIdeal.τ).loc Cert.FfnDwguIdeal.main_arg0)
          ∧ r.2.mem ((c.tc : Thread Cert.FfnDwguIdeal.nD Cert.FfnDwguIdeal.τ).loc Cert.FfnDwguIdeal.main_arg1) = m ((c.tc : Thread Cert.FfnDwguIdeal.nD Cert.FfnDwguIdeal.τ).loc Cert.FfnDwguIdeal.main_arg1)
          ∧ r.2.mem ((c.tc : Thread Cert.FfnDwguIdeal.nD Cert.FfnDwguIdeal.τ).loc Cert.FfnDwguIdeal.main_arg2) = m ((c.tc : Thread Cert.FfnDwguIdeal.nD Cert.FfnDwguIdeal.τ).loc Cert.FfnDwguIdeal.main_arg2))
      ∧ θ_run (Cert.FfnDwguRefIdeal.defs (F := Ideal)) (onTc (τ := Cert.FfnDwguRefIdeal.τ) (Cert.FfnDwguRefIdeal.main (F := Ideal))) ⟨m', fun _ => 0, g'⟩ (fun r => ∀ c : Dev Cert.FfnDwguRefIdeal.nD,
          r.2.mem ((c.tc : Thread Cert.FfnDwguRefIdeal.nD Cert.FfnDwguRefIdeal.τ).loc Cert.FfnDwguRefIdeal.main_v10) = v0 c
          ∧ r.2.mem ((c.tc : Thread Cert.FfnDwguRefIdeal.nD Cert.FfnDwguRefIdeal.τ).loc Cert.FfnDwguRefIdeal.main_v11) = v1 c
          ∧ r.2.mem ((c.tc : Thread Cert.FfnDwguRefIdeal.nD Cert.FfnDwguRefIdeal.τ).loc Cert.FfnDwguRefIdeal.main_arg0) = m' ((c.tc : Thread Cert.FfnDwguRefIdeal.nD Cert.FfnDwguRefIdeal.τ).loc Cert.FfnDwguRefIdeal.main_arg0)
          ∧ r.2.mem ((c.tc : Thread Cert.FfnDwguRefIdeal.nD Cert.FfnDwguRefIdeal.τ).loc Cert.FfnDwguRefIdeal.main_arg1) = m' ((c.tc : Thread Cert.FfnDwguRefIdeal.nD Cert.FfnDwguRefIdeal.τ).loc Cert.FfnDwguRefIdeal.main_arg1)
          ∧ r.2.mem ((c.tc : Thread Cert.FfnDwguRefIdeal.nD Cert.FfnDwguRefIdeal.τ).loc Cert.FfnDwguRefIdeal.main_arg2) = m' ((c.tc : Thread Cert.FfnDwguRefIdeal.nD Cert.FfnDwguRefIdeal.τ).loc Cert.FfnDwguRefIdeal.main_arg2))

def preserves_FfnDn_FfnDnIdeal : Prop :=
  True

def algebraic_FfnDnIdeal_FfnDnRefIdeal [hFfnDnIdeal : Cert.FfnDnIdeal.Facts] [hFfnDnRefIdeal : Cert.FfnDnRefIdeal.Facts] : Prop :=
  ∀ (m : (ℓ : Loc Cert.FfnDnIdeal.nD Cert.FfnDnIdeal.τ Cert.FfnDnIdeal.sig) → Buf (Elt Ideal) ℓ) (g : Dev Cert.FfnDnIdeal.nD → PrngReg)
    (m' : (ℓ : Loc Cert.FfnDnRefIdeal.nD Cert.FfnDnRefIdeal.τ Cert.FfnDnRefIdeal.sig) → Buf (Elt Ideal) ℓ) (g' : Dev Cert.FfnDnRefIdeal.nD → PrngReg), Pre_FfnDnIdeal m →
    (∀ c : Dev Cert.FfnDnIdeal.nD,
      m' ((c.tc : Thread Cert.FfnDnRefIdeal.nD Cert.FfnDnRefIdeal.τ).loc Cert.FfnDnRefIdeal.main_arg0) = m ((c.tc : Thread Cert.FfnDnIdeal.nD Cert.FfnDnIdeal.τ).loc Cert.FfnDnIdeal.main_arg0)
      ∧ m' ((c.tc : Thread Cert.FfnDnRefIdeal.nD Cert.FfnDnRefIdeal.τ).loc Cert.FfnDnRefIdeal.main_arg1) = m ((c.tc : Thread Cert.FfnDnIdeal.nD Cert.FfnDnIdeal.τ).loc Cert.FfnDnIdeal.main_arg1)
      ∧ m' ((c.tc : Thread Cert.FfnDnRefIdeal.nD Cert.FfnDnRefIdeal.τ).loc Cert.FfnDnRefIdeal.main_arg2) = m ((c.tc : Thread Cert.FfnDnIdeal.nD Cert.FfnDnIdeal.τ).loc Cert.FfnDnIdeal.main_arg2)
      ∧ m' ((c.tc : Thread Cert.FfnDnRefIdeal.nD Cert.FfnDnRefIdeal.τ).loc Cert.FfnDnRefIdeal.main_arg3) = m ((c.tc : Thread Cert.FfnDnIdeal.nD Cert.FfnDnIdeal.τ).loc Cert.FfnDnIdeal.main_arg3)) →
    ∃ (v0 : (c : Dev Cert.FfnDnIdeal.nD) → Buf (Elt Ideal) ((c.tc : Thread Cert.FfnDnIdeal.nD Cert.FfnDnIdeal.τ).loc Cert.FfnDnIdeal.main_v0)),
      θ_run (Cert.FfnDnIdeal.defs (F := Ideal)) (onTc (τ := Cert.FfnDnIdeal.τ) (Cert.FfnDnIdeal.main (F := Ideal))) ⟨m, fun _ => 0, g⟩ (fun r => ∀ c : Dev Cert.FfnDnIdeal.nD,
          r.2.mem ((c.tc : Thread Cert.FfnDnIdeal.nD Cert.FfnDnIdeal.τ).loc Cert.FfnDnIdeal.main_v0) = v0 c
          ∧ r.2.mem ((c.tc : Thread Cert.FfnDnIdeal.nD Cert.FfnDnIdeal.τ).loc Cert.FfnDnIdeal.main_arg0) = m ((c.tc : Thread Cert.FfnDnIdeal.nD Cert.FfnDnIdeal.τ).loc Cert.FfnDnIdeal.main_arg0)
          ∧ r.2.mem ((c.tc : Thread Cert.FfnDnIdeal.nD Cert.FfnDnIdeal.τ).loc Cert.FfnDnIdeal.main_arg1) = m ((c.tc : Thread Cert.FfnDnIdeal.nD Cert.FfnDnIdeal.τ).loc Cert.FfnDnIdeal.main_arg1)
          ∧ r.2.mem ((c.tc : Thread Cert.FfnDnIdeal.nD Cert.FfnDnIdeal.τ).loc Cert.FfnDnIdeal.main_arg2) = m ((c.tc : Thread Cert.FfnDnIdeal.nD Cert.FfnDnIdeal.τ).loc Cert.FfnDnIdeal.main_arg2)
          ∧ r.2.mem ((c.tc : Thread Cert.FfnDnIdeal.nD Cert.FfnDnIdeal.τ).loc Cert.FfnDnIdeal.main_arg3) = m ((c.tc : Thread Cert.FfnDnIdeal.nD Cert.FfnDnIdeal.τ).loc Cert.FfnDnIdeal.main_arg3))
      ∧ θ_run (Cert.FfnDnRefIdeal.defs (F := Ideal)) (onTc (τ := Cert.FfnDnRefIdeal.τ) (Cert.FfnDnRefIdeal.main (F := Ideal))) ⟨m', fun _ => 0, g'⟩ (fun r => ∀ c : Dev Cert.FfnDnRefIdeal.nD,
          r.2.mem ((c.tc : Thread Cert.FfnDnRefIdeal.nD Cert.FfnDnRefIdeal.τ).loc Cert.FfnDnRefIdeal.main_v10) = v0 c
          ∧ r.2.mem ((c.tc : Thread Cert.FfnDnRefIdeal.nD Cert.FfnDnRefIdeal.τ).loc Cert.FfnDnRefIdeal.main_arg0) = m' ((c.tc : Thread Cert.FfnDnRefIdeal.nD Cert.FfnDnRefIdeal.τ).loc Cert.FfnDnRefIdeal.main_arg0)
          ∧ r.2.mem ((c.tc : Thread Cert.FfnDnRefIdeal.nD Cert.FfnDnRefIdeal.τ).loc Cert.FfnDnRefIdeal.main_arg1) = m' ((c.tc : Thread Cert.FfnDnRefIdeal.nD Cert.FfnDnRefIdeal.τ).loc Cert.FfnDnRefIdeal.main_arg1)
          ∧ r.2.mem ((c.tc : Thread Cert.FfnDnRefIdeal.nD Cert.FfnDnRefIdeal.τ).loc Cert.FfnDnRefIdeal.main_arg2) = m' ((c.tc : Thread Cert.FfnDnRefIdeal.nD Cert.FfnDnRefIdeal.τ).loc Cert.FfnDnRefIdeal.main_arg2)
          ∧ r.2.mem ((c.tc : Thread Cert.FfnDnRefIdeal.nD Cert.FfnDnRefIdeal.τ).loc Cert.FfnDnRefIdeal.main_arg3) = m' ((c.tc : Thread Cert.FfnDnRefIdeal.nD Cert.FfnDnRefIdeal.τ).loc Cert.FfnDnRefIdeal.main_arg3))

def preserves_FfnGateUp_FfnGateUpIdeal : Prop :=
  True

def algebraic_FfnGateUpIdeal_FfnGateUpRefIdeal [hFfnGateUpIdeal : Cert.FfnGateUpIdeal.Facts] [hFfnGateUpRefIdeal : Cert.FfnGateUpRefIdeal.Facts] : Prop :=
  ∀ (m : (ℓ : Loc Cert.FfnGateUpIdeal.nD Cert.FfnGateUpIdeal.τ Cert.FfnGateUpIdeal.sig) → Buf (Elt Ideal) ℓ) (g : Dev Cert.FfnGateUpIdeal.nD → PrngReg)
    (m' : (ℓ : Loc Cert.FfnGateUpRefIdeal.nD Cert.FfnGateUpRefIdeal.τ Cert.FfnGateUpRefIdeal.sig) → Buf (Elt Ideal) ℓ) (g' : Dev Cert.FfnGateUpRefIdeal.nD → PrngReg), Pre_FfnGateUpIdeal m →
    (∀ c : Dev Cert.FfnGateUpIdeal.nD,
      m' ((c.tc : Thread Cert.FfnGateUpRefIdeal.nD Cert.FfnGateUpRefIdeal.τ).loc Cert.FfnGateUpRefIdeal.main_arg0) = m ((c.tc : Thread Cert.FfnGateUpIdeal.nD Cert.FfnGateUpIdeal.τ).loc Cert.FfnGateUpIdeal.main_arg0)
      ∧ m' ((c.tc : Thread Cert.FfnGateUpRefIdeal.nD Cert.FfnGateUpRefIdeal.τ).loc Cert.FfnGateUpRefIdeal.main_arg1) = m ((c.tc : Thread Cert.FfnGateUpIdeal.nD Cert.FfnGateUpIdeal.τ).loc Cert.FfnGateUpIdeal.main_arg1)
      ∧ m' ((c.tc : Thread Cert.FfnGateUpRefIdeal.nD Cert.FfnGateUpRefIdeal.τ).loc Cert.FfnGateUpRefIdeal.main_arg2) = m ((c.tc : Thread Cert.FfnGateUpIdeal.nD Cert.FfnGateUpIdeal.τ).loc Cert.FfnGateUpIdeal.main_arg2)) →
    ∃ (v0 : (c : Dev Cert.FfnGateUpIdeal.nD) → Buf (Elt Ideal) ((c.tc : Thread Cert.FfnGateUpIdeal.nD Cert.FfnGateUpIdeal.τ).loc Cert.FfnGateUpIdeal.main_v0_0)) (v1 : (c : Dev Cert.FfnGateUpIdeal.nD) → Buf (Elt Ideal) ((c.tc : Thread Cert.FfnGateUpIdeal.nD Cert.FfnGateUpIdeal.τ).loc Cert.FfnGateUpIdeal.main_v0_1)) (v2 : (c : Dev Cert.FfnGateUpIdeal.nD) → Buf (Elt Ideal) ((c.tc : Thread Cert.FfnGateUpIdeal.nD Cert.FfnGateUpIdeal.τ).loc Cert.FfnGateUpIdeal.main_v0_2)),
      θ_run (Cert.FfnGateUpIdeal.defs (F := Ideal)) (onTc (τ := Cert.FfnGateUpIdeal.τ) (Cert.FfnGateUpIdeal.main (F := Ideal))) ⟨m, fun _ => 0, g⟩ (fun r => ∀ c : Dev Cert.FfnGateUpIdeal.nD,
          r.2.mem ((c.tc : Thread Cert.FfnGateUpIdeal.nD Cert.FfnGateUpIdeal.τ).loc Cert.FfnGateUpIdeal.main_v0_0) = v0 c
          ∧ r.2.mem ((c.tc : Thread Cert.FfnGateUpIdeal.nD Cert.FfnGateUpIdeal.τ).loc Cert.FfnGateUpIdeal.main_v0_1) = v1 c
          ∧ r.2.mem ((c.tc : Thread Cert.FfnGateUpIdeal.nD Cert.FfnGateUpIdeal.τ).loc Cert.FfnGateUpIdeal.main_v0_2) = v2 c
          ∧ r.2.mem ((c.tc : Thread Cert.FfnGateUpIdeal.nD Cert.FfnGateUpIdeal.τ).loc Cert.FfnGateUpIdeal.main_arg0) = m ((c.tc : Thread Cert.FfnGateUpIdeal.nD Cert.FfnGateUpIdeal.τ).loc Cert.FfnGateUpIdeal.main_arg0)
          ∧ r.2.mem ((c.tc : Thread Cert.FfnGateUpIdeal.nD Cert.FfnGateUpIdeal.τ).loc Cert.FfnGateUpIdeal.main_arg1) = m ((c.tc : Thread Cert.FfnGateUpIdeal.nD Cert.FfnGateUpIdeal.τ).loc Cert.FfnGateUpIdeal.main_arg1)
          ∧ r.2.mem ((c.tc : Thread Cert.FfnGateUpIdeal.nD Cert.FfnGateUpIdeal.τ).loc Cert.FfnGateUpIdeal.main_arg2) = m ((c.tc : Thread Cert.FfnGateUpIdeal.nD Cert.FfnGateUpIdeal.τ).loc Cert.FfnGateUpIdeal.main_arg2))
      ∧ θ_run (Cert.FfnGateUpRefIdeal.defs (F := Ideal)) (onTc (τ := Cert.FfnGateUpRefIdeal.τ) (Cert.FfnGateUpRefIdeal.main (F := Ideal))) ⟨m', fun _ => 0, g'⟩ (fun r => ∀ c : Dev Cert.FfnGateUpRefIdeal.nD,
          r.2.mem ((c.tc : Thread Cert.FfnGateUpRefIdeal.nD Cert.FfnGateUpRefIdeal.τ).loc Cert.FfnGateUpRefIdeal.main_v5) = v0 c
          ∧ r.2.mem ((c.tc : Thread Cert.FfnGateUpRefIdeal.nD Cert.FfnGateUpRefIdeal.τ).loc Cert.FfnGateUpRefIdeal.main_v6) = v1 c
          ∧ r.2.mem ((c.tc : Thread Cert.FfnGateUpRefIdeal.nD Cert.FfnGateUpRefIdeal.τ).loc Cert.FfnGateUpRefIdeal.main_v9) = v2 c
          ∧ r.2.mem ((c.tc : Thread Cert.FfnGateUpRefIdeal.nD Cert.FfnGateUpRefIdeal.τ).loc Cert.FfnGateUpRefIdeal.main_arg0) = m' ((c.tc : Thread Cert.FfnGateUpRefIdeal.nD Cert.FfnGateUpRefIdeal.τ).loc Cert.FfnGateUpRefIdeal.main_arg0)
          ∧ r.2.mem ((c.tc : Thread Cert.FfnGateUpRefIdeal.nD Cert.FfnGateUpRefIdeal.τ).loc Cert.FfnGateUpRefIdeal.main_arg1) = m' ((c.tc : Thread Cert.FfnGateUpRefIdeal.nD Cert.FfnGateUpRefIdeal.τ).loc Cert.FfnGateUpRefIdeal.main_arg1)
          ∧ r.2.mem ((c.tc : Thread Cert.FfnGateUpRefIdeal.nD Cert.FfnGateUpRefIdeal.τ).loc Cert.FfnGateUpRefIdeal.main_arg2) = m' ((c.tc : Thread Cert.FfnGateUpRefIdeal.nD Cert.FfnGateUpRefIdeal.τ).loc Cert.FfnGateUpRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v3) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_ProjDx_ProjDxIdeal : Prop :=
  True

def algebraic_ProjDxIdeal_ProjDxRefIdeal [hProjDxIdeal : Cert.ProjDxIdeal.Facts] [hProjDxRefIdeal : Cert.ProjDxRefIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg)
    (m' : (ℓ : Loc Cert.ProjDxRefIdeal.nD Cert.ProjDxRefIdeal.τ Cert.ProjDxRefIdeal.sig) → Buf (Elt Ideal) ℓ) (g' : Dev Cert.ProjDxRefIdeal.nD → PrngReg), Pre_ProjDxIdeal m →
    (∀ c : Dev Cert.ProjDxIdeal.nD,
      m' ((c.tc : Thread Cert.ProjDxRefIdeal.nD Cert.ProjDxRefIdeal.τ).loc Cert.ProjDxRefIdeal.main_arg0) = m ((c.tc : Thread Cert.ProjDxIdeal.nD Cert.ProjDxIdeal.τ).loc Cert.ProjDxIdeal.main_arg0)
      ∧ m' ((c.tc : Thread Cert.ProjDxRefIdeal.nD Cert.ProjDxRefIdeal.τ).loc Cert.ProjDxRefIdeal.main_arg1) = m ((c.tc : Thread Cert.ProjDxIdeal.nD Cert.ProjDxIdeal.τ).loc Cert.ProjDxIdeal.main_arg1)) →
    ∃ (v0 : (c : Dev Cert.ProjDxIdeal.nD) → Buf (Elt Ideal) ((c.tc : Thread Cert.ProjDxIdeal.nD Cert.ProjDxIdeal.τ).loc Cert.ProjDxIdeal.main_v0)),
      θ_run (Cert.ProjDxIdeal.defs (F := Ideal)) (onTc (τ := Cert.ProjDxIdeal.τ) (Cert.ProjDxIdeal.main (F := Ideal))) ⟨m, fun _ => 0, g⟩ (fun r => ∀ c : Dev Cert.ProjDxIdeal.nD,
          r.2.mem ((c.tc : Thread Cert.ProjDxIdeal.nD Cert.ProjDxIdeal.τ).loc Cert.ProjDxIdeal.main_v0) = v0 c
          ∧ r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
          ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1))
      ∧ θ_run (Cert.ProjDxRefIdeal.defs (F := Ideal)) (onTc (τ := Cert.ProjDxRefIdeal.τ) (Cert.ProjDxRefIdeal.main (F := Ideal))) ⟨m', fun _ => 0, g'⟩ (fun r => ∀ c : Dev Cert.ProjDxRefIdeal.nD,
          r.2.mem ((c.tc : Thread Cert.ProjDxRefIdeal.nD Cert.ProjDxRefIdeal.τ).loc Cert.ProjDxRefIdeal.main_v5) = v0 c
          ∧ r.2.mem ((c.tc : Thread Cert.ProjDxRefIdeal.nD Cert.ProjDxRefIdeal.τ).loc Cert.ProjDxRefIdeal.main_arg0) = m' ((c.tc : Thread Cert.ProjDxRefIdeal.nD Cert.ProjDxRefIdeal.τ).loc Cert.ProjDxRefIdeal.main_arg0)
          ∧ r.2.mem ((c.tc : Thread Cert.ProjDxRefIdeal.nD Cert.ProjDxRefIdeal.τ).loc Cert.ProjDxRefIdeal.main_arg1) = m' ((c.tc : Thread Cert.ProjDxRefIdeal.nD Cert.ProjDxRefIdeal.τ).loc Cert.ProjDxRefIdeal.main_arg1))

def preserves_ProjDw_ProjDwIdeal : Prop :=
  True

def algebraic_ProjDwIdeal_ProjDwRefIdeal [hProjDwIdeal : Cert.ProjDwIdeal.Facts] [hProjDwRefIdeal : Cert.ProjDwRefIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg)
    (m' : (ℓ : Loc Cert.ProjDwRefIdeal.nD Cert.ProjDwRefIdeal.τ Cert.ProjDwRefIdeal.sig) → Buf (Elt Ideal) ℓ) (g' : Dev Cert.ProjDwRefIdeal.nD → PrngReg), Pre_ProjDwIdeal m →
    (∀ c : Dev Cert.ProjDwIdeal.nD,
      m' ((c.tc : Thread Cert.ProjDwRefIdeal.nD Cert.ProjDwRefIdeal.τ).loc Cert.ProjDwRefIdeal.main_arg0) = m ((c.tc : Thread Cert.ProjDwIdeal.nD Cert.ProjDwIdeal.τ).loc Cert.ProjDwIdeal.main_arg0)
      ∧ m' ((c.tc : Thread Cert.ProjDwRefIdeal.nD Cert.ProjDwRefIdeal.τ).loc Cert.ProjDwRefIdeal.main_arg1) = m ((c.tc : Thread Cert.ProjDwIdeal.nD Cert.ProjDwIdeal.τ).loc Cert.ProjDwIdeal.main_arg1)) →
    ∃ (v0 : (c : Dev Cert.ProjDwIdeal.nD) → Buf (Elt Ideal) ((c.tc : Thread Cert.ProjDwIdeal.nD Cert.ProjDwIdeal.τ).loc Cert.ProjDwIdeal.main_v0)),
      θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
          r.2.mem ((c.tc : Thread Cert.ProjDwIdeal.nD Cert.ProjDwIdeal.τ).loc Cert.ProjDwIdeal.main_v0) = v0 c
          ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
          ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ θ_run (Cert.ProjDwRefIdeal.defs (F := Ideal)) (onTc (τ := Cert.ProjDwRefIdeal.τ) (Cert.ProjDwRefIdeal.main (F := Ideal))) ⟨m', fun _ => 0, g'⟩ (fun r => ∀ c : Dev Cert.ProjDwRefIdeal.nD,
          r.2.mem ((c.tc : Thread Cert.ProjDwRefIdeal.nD Cert.ProjDwRefIdeal.τ).loc Cert.ProjDwRefIdeal.main_v6) = v0 c
          ∧ r.2.mem ((c.tc : Thread Cert.ProjDwRefIdeal.nD Cert.ProjDwRefIdeal.τ).loc Cert.ProjDwRefIdeal.main_arg0) = m' ((c.tc : Thread Cert.ProjDwRefIdeal.nD Cert.ProjDwRefIdeal.τ).loc Cert.ProjDwRefIdeal.main_arg0)
          ∧ r.2.mem ((c.tc : Thread Cert.ProjDwRefIdeal.nD Cert.ProjDwRefIdeal.τ).loc Cert.ProjDwRefIdeal.main_arg1) = m' ((c.tc : Thread Cert.ProjDwRefIdeal.nD Cert.ProjDwRefIdeal.τ).loc Cert.ProjDwRefIdeal.main_arg1))

def preserves_KvDw_KvDwIdeal : Prop :=
  True

def algebraic_KvDwIdeal_KvDwRefIdeal [hKvDwIdeal : Cert.KvDwIdeal.Facts] [hKvDwRefIdeal : Cert.KvDwRefIdeal.Facts] : Prop :=
  ∀ (m : (ℓ : Loc Cert.KvDwIdeal.nD Cert.KvDwIdeal.τ Cert.KvDwIdeal.sig) → Buf (Elt Ideal) ℓ) (g : Dev Cert.KvDwIdeal.nD → PrngReg)
    (m' : (ℓ : Loc Cert.KvDwRefIdeal.nD Cert.KvDwRefIdeal.τ Cert.KvDwRefIdeal.sig) → Buf (Elt Ideal) ℓ) (g' : Dev Cert.KvDwRefIdeal.nD → PrngReg), Pre_KvDwIdeal m →
    (∀ c : Dev Cert.KvDwIdeal.nD,
      m' ((c.tc : Thread Cert.KvDwRefIdeal.nD Cert.KvDwRefIdeal.τ).loc Cert.KvDwRefIdeal.main_arg0) = m ((c.tc : Thread Cert.KvDwIdeal.nD Cert.KvDwIdeal.τ).loc Cert.KvDwIdeal.main_arg0)
      ∧ m' ((c.tc : Thread Cert.KvDwRefIdeal.nD Cert.KvDwRefIdeal.τ).loc Cert.KvDwRefIdeal.main_arg1) = m ((c.tc : Thread Cert.KvDwIdeal.nD Cert.KvDwIdeal.τ).loc Cert.KvDwIdeal.main_arg1)
      ∧ m' ((c.tc : Thread Cert.KvDwRefIdeal.nD Cert.KvDwRefIdeal.τ).loc Cert.KvDwRefIdeal.main_arg2) = m ((c.tc : Thread Cert.KvDwIdeal.nD Cert.KvDwIdeal.τ).loc Cert.KvDwIdeal.main_arg2)) →
    ∃ (v0 : (c : Dev Cert.KvDwIdeal.nD) → Buf (Elt Ideal) ((c.tc : Thread Cert.KvDwIdeal.nD Cert.KvDwIdeal.τ).loc Cert.KvDwIdeal.main_v0_0)) (v1 : (c : Dev Cert.KvDwIdeal.nD) → Buf (Elt Ideal) ((c.tc : Thread Cert.KvDwIdeal.nD Cert.KvDwIdeal.τ).loc Cert.KvDwIdeal.main_v0_1)),
      θ_run (Cert.KvDwIdeal.defs (F := Ideal)) (onTc (τ := Cert.KvDwIdeal.τ) (Cert.KvDwIdeal.main (F := Ideal))) ⟨m, fun _ => 0, g⟩ (fun r => ∀ c : Dev Cert.KvDwIdeal.nD,
          r.2.mem ((c.tc : Thread Cert.KvDwIdeal.nD Cert.KvDwIdeal.τ).loc Cert.KvDwIdeal.main_v0_0) = v0 c
          ∧ r.2.mem ((c.tc : Thread Cert.KvDwIdeal.nD Cert.KvDwIdeal.τ).loc Cert.KvDwIdeal.main_v0_1) = v1 c
          ∧ r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
          ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1)
          ∧ r.2.mem ((c.tc : Thread Cert.KvDwIdeal.nD Cert.KvDwIdeal.τ).loc Cert.KvDwIdeal.main_arg2) = m ((c.tc : Thread Cert.KvDwIdeal.nD Cert.KvDwIdeal.τ).loc Cert.KvDwIdeal.main_arg2))
      ∧ θ_run (Cert.KvDwRefIdeal.defs (F := Ideal)) (onTc (τ := Cert.KvDwRefIdeal.τ) (Cert.KvDwRefIdeal.main (F := Ideal))) ⟨m', fun _ => 0, g'⟩ (fun r => ∀ c : Dev Cert.KvDwRefIdeal.nD,
          r.2.mem ((c.tc : Thread Cert.KvDwRefIdeal.nD Cert.KvDwRefIdeal.τ).loc Cert.KvDwRefIdeal.main_v10) = v0 c
          ∧ r.2.mem ((c.tc : Thread Cert.KvDwRefIdeal.nD Cert.KvDwRefIdeal.τ).loc Cert.KvDwRefIdeal.main_v11) = v1 c
          ∧ r.2.mem ((c.tc : Thread Cert.KvDwRefIdeal.nD Cert.KvDwRefIdeal.τ).loc Cert.KvDwRefIdeal.main_arg0) = m' ((c.tc : Thread Cert.KvDwRefIdeal.nD Cert.KvDwRefIdeal.τ).loc Cert.KvDwRefIdeal.main_arg0)
          ∧ r.2.mem ((c.tc : Thread Cert.KvDwRefIdeal.nD Cert.KvDwRefIdeal.τ).loc Cert.KvDwRefIdeal.main_arg1) = m' ((c.tc : Thread Cert.KvDwRefIdeal.nD Cert.KvDwRefIdeal.τ).loc Cert.KvDwRefIdeal.main_arg1)
          ∧ r.2.mem ((c.tc : Thread Cert.KvDwRefIdeal.nD Cert.KvDwRefIdeal.τ).loc Cert.KvDwRefIdeal.main_arg2) = m' ((c.tc : Thread Cert.KvDwRefIdeal.nD Cert.KvDwRefIdeal.τ).loc Cert.KvDwRefIdeal.main_arg2))

def preserves_KvDx_KvDxIdeal : Prop :=
  True

def algebraic_KvDxIdeal_KvDxRefIdeal [hKvDxIdeal : Cert.KvDxIdeal.Facts] [hKvDxRefIdeal : Cert.KvDxRefIdeal.Facts] : Prop :=
  ∀ (m : (ℓ : Loc Cert.KvDxIdeal.nD Cert.KvDxIdeal.τ Cert.KvDxIdeal.sig) → Buf (Elt Ideal) ℓ) (g : Dev Cert.KvDxIdeal.nD → PrngReg)
    (m' : (ℓ : Loc Cert.KvDxRefIdeal.nD Cert.KvDxRefIdeal.τ Cert.KvDxRefIdeal.sig) → Buf (Elt Ideal) ℓ) (g' : Dev Cert.KvDxRefIdeal.nD → PrngReg), Pre_KvDxIdeal m →
    (∀ c : Dev Cert.KvDxIdeal.nD,
      m' ((c.tc : Thread Cert.KvDxRefIdeal.nD Cert.KvDxRefIdeal.τ).loc Cert.KvDxRefIdeal.main_arg0) = m ((c.tc : Thread Cert.KvDxIdeal.nD Cert.KvDxIdeal.τ).loc Cert.KvDxIdeal.main_arg0)
      ∧ m' ((c.tc : Thread Cert.KvDxRefIdeal.nD Cert.KvDxRefIdeal.τ).loc Cert.KvDxRefIdeal.main_arg1) = m ((c.tc : Thread Cert.KvDxIdeal.nD Cert.KvDxIdeal.τ).loc Cert.KvDxIdeal.main_arg1)
      ∧ m' ((c.tc : Thread Cert.KvDxRefIdeal.nD Cert.KvDxRefIdeal.τ).loc Cert.KvDxRefIdeal.main_arg2) = m ((c.tc : Thread Cert.KvDxIdeal.nD Cert.KvDxIdeal.τ).loc Cert.KvDxIdeal.main_arg2)
      ∧ m' ((c.tc : Thread Cert.KvDxRefIdeal.nD Cert.KvDxRefIdeal.τ).loc Cert.KvDxRefIdeal.main_arg3) = m ((c.tc : Thread Cert.KvDxIdeal.nD Cert.KvDxIdeal.τ).loc Cert.KvDxIdeal.main_arg3)) →
    ∃ (v0 : (c : Dev Cert.KvDxIdeal.nD) → Buf (Elt Ideal) ((c.tc : Thread Cert.KvDxIdeal.nD Cert.KvDxIdeal.τ).loc Cert.KvDxIdeal.main_v0)),
      θ_run (Cert.KvDxIdeal.defs (F := Ideal)) (onTc (τ := Cert.KvDxIdeal.τ) (Cert.KvDxIdeal.main (F := Ideal))) ⟨m, fun _ => 0, g⟩ (fun r => ∀ c : Dev Cert.KvDxIdeal.nD,
          r.2.mem ((c.tc : Thread Cert.KvDxIdeal.nD Cert.KvDxIdeal.τ).loc Cert.KvDxIdeal.main_v0) = v0 c
          ∧ r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
          ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1)
          ∧ r.2.mem ((c.tc : Thread Cert.KvDxIdeal.nD Cert.KvDxIdeal.τ).loc Cert.KvDxIdeal.main_arg2) = m ((c.tc : Thread Cert.KvDxIdeal.nD Cert.KvDxIdeal.τ).loc Cert.KvDxIdeal.main_arg2)
          ∧ r.2.mem ((c.tc : Thread Cert.KvDxIdeal.nD Cert.KvDxIdeal.τ).loc Cert.KvDxIdeal.main_arg3) = m ((c.tc : Thread Cert.KvDxIdeal.nD Cert.KvDxIdeal.τ).loc Cert.KvDxIdeal.main_arg3))
      ∧ θ_run (Cert.KvDxRefIdeal.defs (F := Ideal)) (onTc (τ := Cert.KvDxRefIdeal.τ) (Cert.KvDxRefIdeal.main (F := Ideal))) ⟨m', fun _ => 0, g'⟩ (fun r => ∀ c : Dev Cert.KvDxRefIdeal.nD,
          r.2.mem ((c.tc : Thread Cert.KvDxRefIdeal.nD Cert.KvDxRefIdeal.τ).loc Cert.KvDxRefIdeal.main_v10) = v0 c
          ∧ r.2.mem ((c.tc : Thread Cert.KvDxRefIdeal.nD Cert.KvDxRefIdeal.τ).loc Cert.KvDxRefIdeal.main_arg0) = m' ((c.tc : Thread Cert.KvDxRefIdeal.nD Cert.KvDxRefIdeal.τ).loc Cert.KvDxRefIdeal.main_arg0)
          ∧ r.2.mem ((c.tc : Thread Cert.KvDxRefIdeal.nD Cert.KvDxRefIdeal.τ).loc Cert.KvDxRefIdeal.main_arg1) = m' ((c.tc : Thread Cert.KvDxRefIdeal.nD Cert.KvDxRefIdeal.τ).loc Cert.KvDxRefIdeal.main_arg1)
          ∧ r.2.mem ((c.tc : Thread Cert.KvDxRefIdeal.nD Cert.KvDxRefIdeal.τ).loc Cert.KvDxRefIdeal.main_arg2) = m' ((c.tc : Thread Cert.KvDxRefIdeal.nD Cert.KvDxRefIdeal.τ).loc Cert.KvDxRefIdeal.main_arg2)
          ∧ r.2.mem ((c.tc : Thread Cert.KvDxRefIdeal.nD Cert.KvDxRefIdeal.τ).loc Cert.KvDxRefIdeal.main_arg3) = m' ((c.tc : Thread Cert.KvDxRefIdeal.nD Cert.KvDxRefIdeal.τ).loc Cert.KvDxRefIdeal.main_arg3))

def preserves_ConvTwoDx_ConvTwoDxIdeal : Prop :=
  True

def algebraic_ConvTwoDxIdeal_ConvTwoDxRefIdeal [hConvTwoDxIdeal : Cert.ConvTwoDxIdeal.Facts] [hConvTwoDxRefIdeal : Cert.ConvTwoDxRefIdeal.Facts] : Prop :=
  ∀ (m : (ℓ : Loc Cert.ConvTwoDxIdeal.nD Cert.ConvTwoDxIdeal.τ Cert.ConvTwoDxIdeal.sig) → Buf (Elt Ideal) ℓ) (g : Dev Cert.ConvTwoDxIdeal.nD → PrngReg)
    (m' : (ℓ : Loc Cert.ConvTwoDxRefIdeal.nD Cert.ConvTwoDxRefIdeal.τ Cert.ConvTwoDxRefIdeal.sig) → Buf (Elt Ideal) ℓ) (g' : Dev Cert.ConvTwoDxRefIdeal.nD → PrngReg), Pre_ConvTwoDxIdeal m →
    (∀ c : Dev Cert.ConvTwoDxIdeal.nD,
      m' ((c.tc : Thread Cert.ConvTwoDxRefIdeal.nD Cert.ConvTwoDxRefIdeal.τ).loc Cert.ConvTwoDxRefIdeal.main_arg0) = m ((c.tc : Thread Cert.ConvTwoDxIdeal.nD Cert.ConvTwoDxIdeal.τ).loc Cert.ConvTwoDxIdeal.main_arg0)
      ∧ m' ((c.tc : Thread Cert.ConvTwoDxRefIdeal.nD Cert.ConvTwoDxRefIdeal.τ).loc Cert.ConvTwoDxRefIdeal.main_arg1) = m ((c.tc : Thread Cert.ConvTwoDxIdeal.nD Cert.ConvTwoDxIdeal.τ).loc Cert.ConvTwoDxIdeal.main_arg1)) →
    ∃ (v0 : (c : Dev Cert.ConvTwoDxIdeal.nD) → Buf (Elt Ideal) ((c.tc : Thread Cert.ConvTwoDxIdeal.nD Cert.ConvTwoDxIdeal.τ).loc Cert.ConvTwoDxIdeal.main_v0)),
      θ_run (Cert.ConvTwoDxIdeal.defs (F := Ideal)) (onTc (τ := Cert.ConvTwoDxIdeal.τ) (Cert.ConvTwoDxIdeal.main (F := Ideal))) ⟨m, fun _ => 0, g⟩ (fun r => ∀ c : Dev Cert.ConvTwoDxIdeal.nD,
          r.2.mem ((c.tc : Thread Cert.ConvTwoDxIdeal.nD Cert.ConvTwoDxIdeal.τ).loc Cert.ConvTwoDxIdeal.main_v0) = v0 c
          ∧ r.2.mem ((c.tc : Thread Cert.ConvTwoDxIdeal.nD Cert.ConvTwoDxIdeal.τ).loc Cert.ConvTwoDxIdeal.main_arg0) = m ((c.tc : Thread Cert.ConvTwoDxIdeal.nD Cert.ConvTwoDxIdeal.τ).loc Cert.ConvTwoDxIdeal.main_arg0)
          ∧ r.2.mem ((c.tc : Thread Cert.ConvTwoDxIdeal.nD Cert.ConvTwoDxIdeal.τ).loc Cert.ConvTwoDxIdeal.main_arg1) = m ((c.tc : Thread Cert.ConvTwoDxIdeal.nD Cert.ConvTwoDxIdeal.τ).loc Cert.ConvTwoDxIdeal.main_arg1))
      ∧ θ_run (Cert.ConvTwoDxRefIdeal.defs (F := Ideal)) (onTc (τ := Cert.ConvTwoDxRefIdeal.τ) (Cert.ConvTwoDxRefIdeal.main (F := Ideal))) ⟨m', fun _ => 0, g'⟩ (fun r => ∀ c : Dev Cert.ConvTwoDxRefIdeal.nD,
          r.2.mem ((c.tc : Thread Cert.ConvTwoDxRefIdeal.nD Cert.ConvTwoDxRefIdeal.τ).loc Cert.ConvTwoDxRefIdeal.main_v4) = v0 c
          ∧ r.2.mem ((c.tc : Thread Cert.ConvTwoDxRefIdeal.nD Cert.ConvTwoDxRefIdeal.τ).loc Cert.ConvTwoDxRefIdeal.main_arg0) = m' ((c.tc : Thread Cert.ConvTwoDxRefIdeal.nD Cert.ConvTwoDxRefIdeal.τ).loc Cert.ConvTwoDxRefIdeal.main_arg0)
          ∧ r.2.mem ((c.tc : Thread Cert.ConvTwoDxRefIdeal.nD Cert.ConvTwoDxRefIdeal.τ).loc Cert.ConvTwoDxRefIdeal.main_arg1) = m' ((c.tc : Thread Cert.ConvTwoDxRefIdeal.nD Cert.ConvTwoDxRefIdeal.τ).loc Cert.ConvTwoDxRefIdeal.main_arg1))

def preserves_ConvOneDw_ConvOneDwIdeal : Prop :=
  True

def algebraic_ConvOneDwIdeal_ConvOneDwRefIdeal [hConvOneDwIdeal : Cert.ConvOneDwIdeal.Facts] [hConvOneDwRefIdeal : Cert.ConvOneDwRefIdeal.Facts] : Prop :=
  ∀ (m : (ℓ : Loc Cert.ConvOneDwIdeal.nD Cert.ConvOneDwIdeal.τ Cert.ConvOneDwIdeal.sig) → Buf (Elt Ideal) ℓ) (g : Dev Cert.ConvOneDwIdeal.nD → PrngReg)
    (m' : (ℓ : Loc Cert.ConvOneDwRefIdeal.nD Cert.ConvOneDwRefIdeal.τ Cert.ConvOneDwRefIdeal.sig) → Buf (Elt Ideal) ℓ) (g' : Dev Cert.ConvOneDwRefIdeal.nD → PrngReg), Pre_ConvOneDwIdeal m →
    (∀ c : Dev Cert.ConvOneDwIdeal.nD,
      m' ((c.tc : Thread Cert.ConvOneDwRefIdeal.nD Cert.ConvOneDwRefIdeal.τ).loc Cert.ConvOneDwRefIdeal.main_arg0) = m ((c.tc : Thread Cert.ConvOneDwIdeal.nD Cert.ConvOneDwIdeal.τ).loc Cert.ConvOneDwIdeal.main_arg0)
      ∧ m' ((c.tc : Thread Cert.ConvOneDwRefIdeal.nD Cert.ConvOneDwRefIdeal.τ).loc Cert.ConvOneDwRefIdeal.main_arg1) = m ((c.tc : Thread Cert.ConvOneDwIdeal.nD Cert.ConvOneDwIdeal.τ).loc Cert.ConvOneDwIdeal.main_arg1)) →
    ∃ (v0 : (c : Dev Cert.ConvOneDwIdeal.nD) → Buf (Elt Ideal) ((c.tc : Thread Cert.ConvOneDwIdeal.nD Cert.ConvOneDwIdeal.τ).loc Cert.ConvOneDwIdeal.main_v0)),
      θ_run (Cert.ConvOneDwIdeal.defs (F := Ideal)) (onTc (τ := Cert.ConvOneDwIdeal.τ) (Cert.ConvOneDwIdeal.main (F := Ideal))) ⟨m, fun _ => 0, g⟩ (fun r => ∀ c : Dev Cert.ConvOneDwIdeal.nD,
          r.2.mem ((c.tc : Thread Cert.ConvOneDwIdeal.nD Cert.ConvOneDwIdeal.τ).loc Cert.ConvOneDwIdeal.main_v0) = v0 c
          ∧ r.2.mem ((c.tc : Thread Cert.ConvOneDwIdeal.nD Cert.ConvOneDwIdeal.τ).loc Cert.ConvOneDwIdeal.main_arg0) = m ((c.tc : Thread Cert.ConvOneDwIdeal.nD Cert.ConvOneDwIdeal.τ).loc Cert.ConvOneDwIdeal.main_arg0)
          ∧ r.2.mem ((c.tc : Thread Cert.ConvOneDwIdeal.nD Cert.ConvOneDwIdeal.τ).loc Cert.ConvOneDwIdeal.main_arg1) = m ((c.tc : Thread Cert.ConvOneDwIdeal.nD Cert.ConvOneDwIdeal.τ).loc Cert.ConvOneDwIdeal.main_arg1))
      ∧ θ_run (Cert.ConvOneDwRefIdeal.defs (F := Ideal)) (onTc (τ := Cert.ConvOneDwRefIdeal.τ) (Cert.ConvOneDwRefIdeal.main (F := Ideal))) ⟨m', fun _ => 0, g'⟩ (fun r => ∀ c : Dev Cert.ConvOneDwRefIdeal.nD,
          r.2.mem ((c.tc : Thread Cert.ConvOneDwRefIdeal.nD Cert.ConvOneDwRefIdeal.τ).loc Cert.ConvOneDwRefIdeal.main_v6) = v0 c
          ∧ r.2.mem ((c.tc : Thread Cert.ConvOneDwRefIdeal.nD Cert.ConvOneDwRefIdeal.τ).loc Cert.ConvOneDwRefIdeal.main_arg0) = m' ((c.tc : Thread Cert.ConvOneDwRefIdeal.nD Cert.ConvOneDwRefIdeal.τ).loc Cert.ConvOneDwRefIdeal.main_arg0)
          ∧ r.2.mem ((c.tc : Thread Cert.ConvOneDwRefIdeal.nD Cert.ConvOneDwRefIdeal.τ).loc Cert.ConvOneDwRefIdeal.main_arg1) = m' ((c.tc : Thread Cert.ConvOneDwRefIdeal.nD Cert.ConvOneDwRefIdeal.τ).loc Cert.ConvOneDwRefIdeal.main_arg1))

def preserves_ConvOneDx_ConvOneDxIdeal : Prop :=
  True

def algebraic_ConvOneDxIdeal_ConvOneDxRefIdeal [hConvOneDxIdeal : Cert.ConvOneDxIdeal.Facts] [hConvOneDxRefIdeal : Cert.ConvOneDxRefIdeal.Facts] : Prop :=
  ∀ (m : (ℓ : Loc Cert.ConvOneDxIdeal.nD Cert.ConvOneDxIdeal.τ Cert.ConvOneDxIdeal.sig) → Buf (Elt Ideal) ℓ) (g : Dev Cert.ConvOneDxIdeal.nD → PrngReg)
    (m' : (ℓ : Loc Cert.ConvOneDxRefIdeal.nD Cert.ConvOneDxRefIdeal.τ Cert.ConvOneDxRefIdeal.sig) → Buf (Elt Ideal) ℓ) (g' : Dev Cert.ConvOneDxRefIdeal.nD → PrngReg), Pre_ConvOneDxIdeal m →
    (∀ c : Dev Cert.ConvOneDxIdeal.nD,
      m' ((c.tc : Thread Cert.ConvOneDxRefIdeal.nD Cert.ConvOneDxRefIdeal.τ).loc Cert.ConvOneDxRefIdeal.main_arg0) = m ((c.tc : Thread Cert.ConvOneDxIdeal.nD Cert.ConvOneDxIdeal.τ).loc Cert.ConvOneDxIdeal.main_arg0)
      ∧ m' ((c.tc : Thread Cert.ConvOneDxRefIdeal.nD Cert.ConvOneDxRefIdeal.τ).loc Cert.ConvOneDxRefIdeal.main_arg1) = m ((c.tc : Thread Cert.ConvOneDxIdeal.nD Cert.ConvOneDxIdeal.τ).loc Cert.ConvOneDxIdeal.main_arg1)) →
    ∃ (v0 : (c : Dev Cert.ConvOneDxIdeal.nD) → Buf (Elt Ideal) ((c.tc : Thread Cert.ConvOneDxIdeal.nD Cert.ConvOneDxIdeal.τ).loc Cert.ConvOneDxIdeal.main_v0)),
      θ_run (Cert.ConvOneDxIdeal.defs (F := Ideal)) (onTc (τ := Cert.ConvOneDxIdeal.τ) (Cert.ConvOneDxIdeal.main (F := Ideal))) ⟨m, fun _ => 0, g⟩ (fun r => ∀ c : Dev Cert.ConvOneDxIdeal.nD,
          r.2.mem ((c.tc : Thread Cert.ConvOneDxIdeal.nD Cert.ConvOneDxIdeal.τ).loc Cert.ConvOneDxIdeal.main_v0) = v0 c
          ∧ r.2.mem ((c.tc : Thread Cert.ConvOneDxIdeal.nD Cert.ConvOneDxIdeal.τ).loc Cert.ConvOneDxIdeal.main_arg0) = m ((c.tc : Thread Cert.ConvOneDxIdeal.nD Cert.ConvOneDxIdeal.τ).loc Cert.ConvOneDxIdeal.main_arg0)
          ∧ r.2.mem ((c.tc : Thread Cert.ConvOneDxIdeal.nD Cert.ConvOneDxIdeal.τ).loc Cert.ConvOneDxIdeal.main_arg1) = m ((c.tc : Thread Cert.ConvOneDxIdeal.nD Cert.ConvOneDxIdeal.τ).loc Cert.ConvOneDxIdeal.main_arg1))
      ∧ θ_run (Cert.ConvOneDxRefIdeal.defs (F := Ideal)) (onTc (τ := Cert.ConvOneDxRefIdeal.τ) (Cert.ConvOneDxRefIdeal.main (F := Ideal))) ⟨m', fun _ => 0, g'⟩ (fun r => ∀ c : Dev Cert.ConvOneDxRefIdeal.nD,
          r.2.mem ((c.tc : Thread Cert.ConvOneDxRefIdeal.nD Cert.ConvOneDxRefIdeal.τ).loc Cert.ConvOneDxRefIdeal.main_v5) = v0 c
          ∧ r.2.mem ((c.tc : Thread Cert.ConvOneDxRefIdeal.nD Cert.ConvOneDxRefIdeal.τ).loc Cert.ConvOneDxRefIdeal.main_arg0) = m' ((c.tc : Thread Cert.ConvOneDxRefIdeal.nD Cert.ConvOneDxRefIdeal.τ).loc Cert.ConvOneDxRefIdeal.main_arg0)
          ∧ r.2.mem ((c.tc : Thread Cert.ConvOneDxRefIdeal.nD Cert.ConvOneDxRefIdeal.τ).loc Cert.ConvOneDxRefIdeal.main_arg1) = m' ((c.tc : Thread Cert.ConvOneDxRefIdeal.nD Cert.ConvOneDxRefIdeal.τ).loc Cert.ConvOneDxRefIdeal.main_arg1))

def preserves_QProj_QProjIdeal : Prop :=
  True

def algebraic_QProjIdeal_QProjRefIdeal [hQProjIdeal : Cert.QProjIdeal.Facts] [hQProjRefIdeal : Cert.QProjRefIdeal.Facts] : Prop :=
  ∀ (m : (ℓ : Loc Cert.QProjIdeal.nD Cert.QProjIdeal.τ Cert.QProjIdeal.sig) → Buf (Elt Ideal) ℓ) (g : Dev Cert.QProjIdeal.nD → PrngReg)
    (m' : (ℓ : Loc Cert.QProjRefIdeal.nD Cert.QProjRefIdeal.τ Cert.QProjRefIdeal.sig) → Buf (Elt Ideal) ℓ) (g' : Dev Cert.QProjRefIdeal.nD → PrngReg), Pre_QProjIdeal m →
    (∀ c : Dev Cert.QProjIdeal.nD,
      m' ((c.tc : Thread Cert.QProjRefIdeal.nD Cert.QProjRefIdeal.τ).loc Cert.QProjRefIdeal.main_arg0) = m ((c.tc : Thread Cert.QProjIdeal.nD Cert.QProjIdeal.τ).loc Cert.QProjIdeal.main_arg0)
      ∧ m' ((c.tc : Thread Cert.QProjRefIdeal.nD Cert.QProjRefIdeal.τ).loc Cert.QProjRefIdeal.main_arg1) = m ((c.tc : Thread Cert.QProjIdeal.nD Cert.QProjIdeal.τ).loc Cert.QProjIdeal.main_arg1)) →
    ∃ (v0 : (c : Dev Cert.QProjIdeal.nD) → Buf (Elt Ideal) ((c.tc : Thread Cert.QProjIdeal.nD Cert.QProjIdeal.τ).loc Cert.QProjIdeal.main_v0)),
      θ_run (Cert.QProjIdeal.defs (F := Ideal)) (onTc (τ := Cert.QProjIdeal.τ) (Cert.QProjIdeal.main (F := Ideal))) ⟨m, fun _ => 0, g⟩ (fun r => ∀ c : Dev Cert.QProjIdeal.nD,
          r.2.mem ((c.tc : Thread Cert.QProjIdeal.nD Cert.QProjIdeal.τ).loc Cert.QProjIdeal.main_v0) = v0 c
          ∧ r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
          ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1))
      ∧ θ_run (Cert.QProjRefIdeal.defs (F := Ideal)) (onTc (τ := Cert.QProjRefIdeal.τ) (Cert.QProjRefIdeal.main (F := Ideal))) ⟨m', fun _ => 0, g'⟩ (fun r => ∀ c : Dev Cert.QProjRefIdeal.nD,
          r.2.mem ((c.tc : Thread Cert.QProjRefIdeal.nD Cert.QProjRefIdeal.τ).loc Cert.QProjRefIdeal.main_v3) = v0 c
          ∧ r.2.mem ((c.tc : Thread Cert.QProjRefIdeal.nD Cert.QProjRefIdeal.τ).loc Cert.QProjRefIdeal.main_arg0) = m' ((c.tc : Thread Cert.QProjRefIdeal.nD Cert.QProjRefIdeal.τ).loc Cert.QProjRefIdeal.main_arg0)
          ∧ r.2.mem ((c.tc : Thread Cert.QProjRefIdeal.nD Cert.QProjRefIdeal.τ).loc Cert.QProjRefIdeal.main_arg1) = m' ((c.tc : Thread Cert.QProjRefIdeal.nD Cert.QProjRefIdeal.τ).loc Cert.QProjRefIdeal.main_arg1))

def preserves_KvProj_KvProjIdeal : Prop :=
  True

def algebraic_KvProjIdeal_KvProjRefIdeal [hKvProjIdeal : Cert.KvProjIdeal.Facts] [hKvProjRefIdeal : Cert.KvProjRefIdeal.Facts] : Prop :=
  ∀ (m : (ℓ : Loc Cert.KvProjIdeal.nD Cert.KvProjIdeal.τ Cert.KvProjIdeal.sig) → Buf (Elt Ideal) ℓ) (g : Dev Cert.KvProjIdeal.nD → PrngReg)
    (m' : (ℓ : Loc Cert.KvProjRefIdeal.nD Cert.KvProjRefIdeal.τ Cert.KvProjRefIdeal.sig) → Buf (Elt Ideal) ℓ) (g' : Dev Cert.KvProjRefIdeal.nD → PrngReg), Pre_KvProjIdeal m →
    (∀ c : Dev Cert.KvProjIdeal.nD,
      m' ((c.tc : Thread Cert.KvProjRefIdeal.nD Cert.KvProjRefIdeal.τ).loc Cert.KvProjRefIdeal.main_arg0) = m ((c.tc : Thread Cert.KvProjIdeal.nD Cert.KvProjIdeal.τ).loc Cert.KvProjIdeal.main_arg0)
      ∧ m' ((c.tc : Thread Cert.KvProjRefIdeal.nD Cert.KvProjRefIdeal.τ).loc Cert.KvProjRefIdeal.main_arg1) = m ((c.tc : Thread Cert.KvProjIdeal.nD Cert.KvProjIdeal.τ).loc Cert.KvProjIdeal.main_arg1)
      ∧ m' ((c.tc : Thread Cert.KvProjRefIdeal.nD Cert.KvProjRefIdeal.τ).loc Cert.KvProjRefIdeal.main_arg2) = m ((c.tc : Thread Cert.KvProjIdeal.nD Cert.KvProjIdeal.τ).loc Cert.KvProjIdeal.main_arg2)) →
    ∃ (v0 : (c : Dev Cert.KvProjIdeal.nD) → Buf (Elt Ideal) ((c.tc : Thread Cert.KvProjIdeal.nD Cert.KvProjIdeal.τ).loc Cert.KvProjIdeal.main_v0_0)) (v1 : (c : Dev Cert.KvProjIdeal.nD) → Buf (Elt Ideal) ((c.tc : Thread Cert.KvProjIdeal.nD Cert.KvProjIdeal.τ).loc Cert.KvProjIdeal.main_v0_1)),
      θ_run (Cert.KvProjIdeal.defs (F := Ideal)) (onTc (τ := Cert.KvProjIdeal.τ) (Cert.KvProjIdeal.main (F := Ideal))) ⟨m, fun _ => 0, g⟩ (fun r => ∀ c : Dev Cert.KvProjIdeal.nD,
          r.2.mem ((c.tc : Thread Cert.KvProjIdeal.nD Cert.KvProjIdeal.τ).loc Cert.KvProjIdeal.main_v0_0) = v0 c
          ∧ r.2.mem ((c.tc : Thread Cert.KvProjIdeal.nD Cert.KvProjIdeal.τ).loc Cert.KvProjIdeal.main_v0_1) = v1 c
          ∧ r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
          ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1)
          ∧ r.2.mem ((c.tc : Thread Cert.KvProjIdeal.nD Cert.KvProjIdeal.τ).loc Cert.KvProjIdeal.main_arg2) = m ((c.tc : Thread Cert.KvProjIdeal.nD Cert.KvProjIdeal.τ).loc Cert.KvProjIdeal.main_arg2))
      ∧ θ_run (Cert.KvProjRefIdeal.defs (F := Ideal)) (onTc (τ := Cert.KvProjRefIdeal.τ) (Cert.KvProjRefIdeal.main (F := Ideal))) ⟨m', fun _ => 0, g'⟩ (fun r => ∀ c : Dev Cert.KvProjRefIdeal.nD,
          r.2.mem ((c.tc : Thread Cert.KvProjRefIdeal.nD Cert.KvProjRefIdeal.τ).loc Cert.KvProjRefIdeal.main_v5) = v0 c
          ∧ r.2.mem ((c.tc : Thread Cert.KvProjRefIdeal.nD Cert.KvProjRefIdeal.τ).loc Cert.KvProjRefIdeal.main_v6) = v1 c
          ∧ r.2.mem ((c.tc : Thread Cert.KvProjRefIdeal.nD Cert.KvProjRefIdeal.τ).loc Cert.KvProjRefIdeal.main_arg0) = m' ((c.tc : Thread Cert.KvProjRefIdeal.nD Cert.KvProjRefIdeal.τ).loc Cert.KvProjRefIdeal.main_arg0)
          ∧ r.2.mem ((c.tc : Thread Cert.KvProjRefIdeal.nD Cert.KvProjRefIdeal.τ).loc Cert.KvProjRefIdeal.main_arg1) = m' ((c.tc : Thread Cert.KvProjRefIdeal.nD Cert.KvProjRefIdeal.τ).loc Cert.KvProjRefIdeal.main_arg1)
          ∧ r.2.mem ((c.tc : Thread Cert.KvProjRefIdeal.nD Cert.KvProjRefIdeal.τ).loc Cert.KvProjRefIdeal.main_arg2) = m' ((c.tc : Thread Cert.KvProjRefIdeal.nD Cert.KvProjRefIdeal.τ).loc Cert.KvProjRefIdeal.main_arg2))

def preserves_OProj_OProjIdeal : Prop :=
  True

def algebraic_OProjIdeal_OProjRefIdeal [hOProjIdeal : Cert.OProjIdeal.Facts] [hOProjRefIdeal : Cert.OProjRefIdeal.Facts] : Prop :=
  ∀ (m : (ℓ : Loc Cert.OProjIdeal.nD Cert.OProjIdeal.τ Cert.OProjIdeal.sig) → Buf (Elt Ideal) ℓ) (g : Dev Cert.OProjIdeal.nD → PrngReg)
    (m' : (ℓ : Loc Cert.OProjRefIdeal.nD Cert.OProjRefIdeal.τ Cert.OProjRefIdeal.sig) → Buf (Elt Ideal) ℓ) (g' : Dev Cert.OProjRefIdeal.nD → PrngReg), Pre_OProjIdeal m →
    (∀ c : Dev Cert.OProjIdeal.nD,
      m' ((c.tc : Thread Cert.OProjRefIdeal.nD Cert.OProjRefIdeal.τ).loc Cert.OProjRefIdeal.main_arg0) = m ((c.tc : Thread Cert.OProjIdeal.nD Cert.OProjIdeal.τ).loc Cert.OProjIdeal.main_arg0)
      ∧ m' ((c.tc : Thread Cert.OProjRefIdeal.nD Cert.OProjRefIdeal.τ).loc Cert.OProjRefIdeal.main_arg1) = m ((c.tc : Thread Cert.OProjIdeal.nD Cert.OProjIdeal.τ).loc Cert.OProjIdeal.main_arg1)
      ∧ m' ((c.tc : Thread Cert.OProjRefIdeal.nD Cert.OProjRefIdeal.τ).loc Cert.OProjRefIdeal.main_arg2) = m ((c.tc : Thread Cert.OProjIdeal.nD Cert.OProjIdeal.τ).loc Cert.OProjIdeal.main_arg2)) →
    ∃ (v0 : (c : Dev Cert.OProjIdeal.nD) → Buf (Elt Ideal) ((c.tc : Thread Cert.OProjIdeal.nD Cert.OProjIdeal.τ).loc Cert.OProjIdeal.main_v0)),
      θ_run (Cert.OProjIdeal.defs (F := Ideal)) (onTc (τ := Cert.OProjIdeal.τ) (Cert.OProjIdeal.main (F := Ideal))) ⟨m, fun _ => 0, g⟩ (fun r => ∀ c : Dev Cert.OProjIdeal.nD,
          r.2.mem ((c.tc : Thread Cert.OProjIdeal.nD Cert.OProjIdeal.τ).loc Cert.OProjIdeal.main_v0) = v0 c
          ∧ r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
          ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
          ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2))
      ∧ θ_run (Cert.OProjRefIdeal.defs (F := Ideal)) (onTc (τ := Cert.OProjRefIdeal.τ) (Cert.OProjRefIdeal.main (F := Ideal))) ⟨m', fun _ => 0, g'⟩ (fun r => ∀ c : Dev Cert.OProjRefIdeal.nD,
          r.2.mem ((c.tc : Thread Cert.OProjRefIdeal.nD Cert.OProjRefIdeal.τ).loc Cert.OProjRefIdeal.main_v3) = v0 c
          ∧ r.2.mem ((c.tc : Thread Cert.OProjRefIdeal.nD Cert.OProjRefIdeal.τ).loc Cert.OProjRefIdeal.main_arg0) = m' ((c.tc : Thread Cert.OProjRefIdeal.nD Cert.OProjRefIdeal.τ).loc Cert.OProjRefIdeal.main_arg0)
          ∧ r.2.mem ((c.tc : Thread Cert.OProjRefIdeal.nD Cert.OProjRefIdeal.τ).loc Cert.OProjRefIdeal.main_arg1) = m' ((c.tc : Thread Cert.OProjRefIdeal.nD Cert.OProjRefIdeal.τ).loc Cert.OProjRefIdeal.main_arg1)
          ∧ r.2.mem ((c.tc : Thread Cert.OProjRefIdeal.nD Cert.OProjRefIdeal.τ).loc Cert.OProjRefIdeal.main_arg2) = m' ((c.tc : Thread Cert.OProjRefIdeal.nD Cert.OProjRefIdeal.τ).loc Cert.OProjRefIdeal.main_arg2))

def preserves_ConvOne_ConvOneIdeal : Prop :=
  True

def algebraic_ConvOneIdeal_ConvOneRefIdeal [hConvOneIdeal : Cert.ConvOneIdeal.Facts] [hConvOneRefIdeal : Cert.ConvOneRefIdeal.Facts] : Prop :=
  ∀ (m : (ℓ : Loc Cert.ConvOneIdeal.nD Cert.ConvOneIdeal.τ Cert.ConvOneIdeal.sig) → Buf (Elt Ideal) ℓ) (g : Dev Cert.ConvOneIdeal.nD → PrngReg)
    (m' : (ℓ : Loc Cert.ConvOneRefIdeal.nD Cert.ConvOneRefIdeal.τ Cert.ConvOneRefIdeal.sig) → Buf (Elt Ideal) ℓ) (g' : Dev Cert.ConvOneRefIdeal.nD → PrngReg), Pre_ConvOneIdeal m →
    (∀ c : Dev Cert.ConvOneIdeal.nD,
      m' ((c.tc : Thread Cert.ConvOneRefIdeal.nD Cert.ConvOneRefIdeal.τ).loc Cert.ConvOneRefIdeal.main_arg0) = m ((c.tc : Thread Cert.ConvOneIdeal.nD Cert.ConvOneIdeal.τ).loc Cert.ConvOneIdeal.main_arg0)
      ∧ m' ((c.tc : Thread Cert.ConvOneRefIdeal.nD Cert.ConvOneRefIdeal.τ).loc Cert.ConvOneRefIdeal.main_arg1) = m ((c.tc : Thread Cert.ConvOneIdeal.nD Cert.ConvOneIdeal.τ).loc Cert.ConvOneIdeal.main_arg1)
      ∧ m' ((c.tc : Thread Cert.ConvOneRefIdeal.nD Cert.ConvOneRefIdeal.τ).loc Cert.ConvOneRefIdeal.main_arg2) = m ((c.tc : Thread Cert.ConvOneIdeal.nD Cert.ConvOneIdeal.τ).loc Cert.ConvOneIdeal.main_arg2)) →
    ∃ (v0 : (c : Dev Cert.ConvOneIdeal.nD) → Buf (Elt Ideal) ((c.tc : Thread Cert.ConvOneIdeal.nD Cert.ConvOneIdeal.τ).loc Cert.ConvOneIdeal.main_v0_0)) (v1 : (c : Dev Cert.ConvOneIdeal.nD) → Buf (Elt Ideal) ((c.tc : Thread Cert.ConvOneIdeal.nD Cert.ConvOneIdeal.τ).loc Cert.ConvOneIdeal.main_v0_1)) (v2 : (c : Dev Cert.ConvOneIdeal.nD) → Buf (Elt Ideal) ((c.tc : Thread Cert.ConvOneIdeal.nD Cert.ConvOneIdeal.τ).loc Cert.ConvOneIdeal.main_v0_2)),
      θ_run (Cert.ConvOneIdeal.defs (F := Ideal)) (onTc (τ := Cert.ConvOneIdeal.τ) (Cert.ConvOneIdeal.main (F := Ideal))) ⟨m, fun _ => 0, g⟩ (fun r => ∀ c : Dev Cert.ConvOneIdeal.nD,
          r.2.mem ((c.tc : Thread Cert.ConvOneIdeal.nD Cert.ConvOneIdeal.τ).loc Cert.ConvOneIdeal.main_v0_0) = v0 c
          ∧ r.2.mem ((c.tc : Thread Cert.ConvOneIdeal.nD Cert.ConvOneIdeal.τ).loc Cert.ConvOneIdeal.main_v0_1) = v1 c
          ∧ r.2.mem ((c.tc : Thread Cert.ConvOneIdeal.nD Cert.ConvOneIdeal.τ).loc Cert.ConvOneIdeal.main_v0_2) = v2 c
          ∧ r.2.mem ((c.tc : Thread Cert.ConvOneIdeal.nD Cert.ConvOneIdeal.τ).loc Cert.ConvOneIdeal.main_arg0) = m ((c.tc : Thread Cert.ConvOneIdeal.nD Cert.ConvOneIdeal.τ).loc Cert.ConvOneIdeal.main_arg0)
          ∧ r.2.mem ((c.tc : Thread Cert.ConvOneIdeal.nD Cert.ConvOneIdeal.τ).loc Cert.ConvOneIdeal.main_arg1) = m ((c.tc : Thread Cert.ConvOneIdeal.nD Cert.ConvOneIdeal.τ).loc Cert.ConvOneIdeal.main_arg1)
          ∧ r.2.mem ((c.tc : Thread Cert.ConvOneIdeal.nD Cert.ConvOneIdeal.τ).loc Cert.ConvOneIdeal.main_arg2) = m ((c.tc : Thread Cert.ConvOneIdeal.nD Cert.ConvOneIdeal.τ).loc Cert.ConvOneIdeal.main_arg2))
      ∧ θ_run (Cert.ConvOneRefIdeal.defs (F := Ideal)) (onTc (τ := Cert.ConvOneRefIdeal.τ) (Cert.ConvOneRefIdeal.main (F := Ideal))) ⟨m', fun _ => 0, g'⟩ (fun r => ∀ c : Dev Cert.ConvOneRefIdeal.nD,
          r.2.mem ((c.tc : Thread Cert.ConvOneRefIdeal.nD Cert.ConvOneRefIdeal.τ).loc Cert.ConvOneRefIdeal.main_v13) = v0 c
          ∧ r.2.mem ((c.tc : Thread Cert.ConvOneRefIdeal.nD Cert.ConvOneRefIdeal.τ).loc Cert.ConvOneRefIdeal.main_v14) = v1 c
          ∧ r.2.mem ((c.tc : Thread Cert.ConvOneRefIdeal.nD Cert.ConvOneRefIdeal.τ).loc Cert.ConvOneRefIdeal.main_v15) = v2 c
          ∧ r.2.mem ((c.tc : Thread Cert.ConvOneRefIdeal.nD Cert.ConvOneRefIdeal.τ).loc Cert.ConvOneRefIdeal.main_arg0) = m' ((c.tc : Thread Cert.ConvOneRefIdeal.nD Cert.ConvOneRefIdeal.τ).loc Cert.ConvOneRefIdeal.main_arg0)
          ∧ r.2.mem ((c.tc : Thread Cert.ConvOneRefIdeal.nD Cert.ConvOneRefIdeal.τ).loc Cert.ConvOneRefIdeal.main_arg1) = m' ((c.tc : Thread Cert.ConvOneRefIdeal.nD Cert.ConvOneRefIdeal.τ).loc Cert.ConvOneRefIdeal.main_arg1)
          ∧ r.2.mem ((c.tc : Thread Cert.ConvOneRefIdeal.nD Cert.ConvOneRefIdeal.τ).loc Cert.ConvOneRefIdeal.main_arg2) = m' ((c.tc : Thread Cert.ConvOneRefIdeal.nD Cert.ConvOneRefIdeal.τ).loc Cert.ConvOneRefIdeal.main_arg2))

def preserves_ConvTwo_ConvTwoIdeal : Prop :=
  True

def algebraic_ConvTwoIdeal_ConvTwoRefIdeal [hConvTwoIdeal : Cert.ConvTwoIdeal.Facts] [hConvTwoRefIdeal : Cert.ConvTwoRefIdeal.Facts] : Prop :=
  ∀ (m : (ℓ : Loc Cert.ConvTwoIdeal.nD Cert.ConvTwoIdeal.τ Cert.ConvTwoIdeal.sig) → Buf (Elt Ideal) ℓ) (g : Dev Cert.ConvTwoIdeal.nD → PrngReg)
    (m' : (ℓ : Loc Cert.ConvTwoRefIdeal.nD Cert.ConvTwoRefIdeal.τ Cert.ConvTwoRefIdeal.sig) → Buf (Elt Ideal) ℓ) (g' : Dev Cert.ConvTwoRefIdeal.nD → PrngReg), Pre_ConvTwoIdeal m →
    (∀ c : Dev Cert.ConvTwoIdeal.nD,
      m' ((c.tc : Thread Cert.ConvTwoRefIdeal.nD Cert.ConvTwoRefIdeal.τ).loc Cert.ConvTwoRefIdeal.main_arg0) = m ((c.tc : Thread Cert.ConvTwoIdeal.nD Cert.ConvTwoIdeal.τ).loc Cert.ConvTwoIdeal.main_arg0)
      ∧ m' ((c.tc : Thread Cert.ConvTwoRefIdeal.nD Cert.ConvTwoRefIdeal.τ).loc Cert.ConvTwoRefIdeal.main_arg1) = m ((c.tc : Thread Cert.ConvTwoIdeal.nD Cert.ConvTwoIdeal.τ).loc Cert.ConvTwoIdeal.main_arg1)
      ∧ m' ((c.tc : Thread Cert.ConvTwoRefIdeal.nD Cert.ConvTwoRefIdeal.τ).loc Cert.ConvTwoRefIdeal.main_arg2) = m ((c.tc : Thread Cert.ConvTwoIdeal.nD Cert.ConvTwoIdeal.τ).loc Cert.ConvTwoIdeal.main_arg2)
      ∧ m' ((c.tc : Thread Cert.ConvTwoRefIdeal.nD Cert.ConvTwoRefIdeal.τ).loc Cert.ConvTwoRefIdeal.main_arg3) = m ((c.tc : Thread Cert.ConvTwoIdeal.nD Cert.ConvTwoIdeal.τ).loc Cert.ConvTwoIdeal.main_arg3)) →
    ∃ (v0 : (c : Dev Cert.ConvTwoIdeal.nD) → Buf (Elt Ideal) ((c.tc : Thread Cert.ConvTwoIdeal.nD Cert.ConvTwoIdeal.τ).loc Cert.ConvTwoIdeal.main_v0)),
      θ_run (Cert.ConvTwoIdeal.defs (F := Ideal)) (onTc (τ := Cert.ConvTwoIdeal.τ) (Cert.ConvTwoIdeal.main (F := Ideal))) ⟨m, fun _ => 0, g⟩ (fun r => ∀ c : Dev Cert.ConvTwoIdeal.nD,
          r.2.mem ((c.tc : Thread Cert.ConvTwoIdeal.nD Cert.ConvTwoIdeal.τ).loc Cert.ConvTwoIdeal.main_v0) = v0 c
          ∧ r.2.mem ((c.tc : Thread Cert.ConvTwoIdeal.nD Cert.ConvTwoIdeal.τ).loc Cert.ConvTwoIdeal.main_arg0) = m ((c.tc : Thread Cert.ConvTwoIdeal.nD Cert.ConvTwoIdeal.τ).loc Cert.ConvTwoIdeal.main_arg0)
          ∧ r.2.mem ((c.tc : Thread Cert.ConvTwoIdeal.nD Cert.ConvTwoIdeal.τ).loc Cert.ConvTwoIdeal.main_arg1) = m ((c.tc : Thread Cert.ConvTwoIdeal.nD Cert.ConvTwoIdeal.τ).loc Cert.ConvTwoIdeal.main_arg1)
          ∧ r.2.mem ((c.tc : Thread Cert.ConvTwoIdeal.nD Cert.ConvTwoIdeal.τ).loc Cert.ConvTwoIdeal.main_arg2) = m ((c.tc : Thread Cert.ConvTwoIdeal.nD Cert.ConvTwoIdeal.τ).loc Cert.ConvTwoIdeal.main_arg2)
          ∧ r.2.mem ((c.tc : Thread Cert.ConvTwoIdeal.nD Cert.ConvTwoIdeal.τ).loc Cert.ConvTwoIdeal.main_arg3) = m ((c.tc : Thread Cert.ConvTwoIdeal.nD Cert.ConvTwoIdeal.τ).loc Cert.ConvTwoIdeal.main_arg3))
      ∧ θ_run (Cert.ConvTwoRefIdeal.defs (F := Ideal)) (onTc (τ := Cert.ConvTwoRefIdeal.τ) (Cert.ConvTwoRefIdeal.main (F := Ideal))) ⟨m', fun _ => 0, g'⟩ (fun r => ∀ c : Dev Cert.ConvTwoRefIdeal.nD,
          r.2.mem ((c.tc : Thread Cert.ConvTwoRefIdeal.nD Cert.ConvTwoRefIdeal.τ).loc Cert.ConvTwoRefIdeal.main_v5) = v0 c
          ∧ r.2.mem ((c.tc : Thread Cert.ConvTwoRefIdeal.nD Cert.ConvTwoRefIdeal.τ).loc Cert.ConvTwoRefIdeal.main_arg0) = m' ((c.tc : Thread Cert.ConvTwoRefIdeal.nD Cert.ConvTwoRefIdeal.τ).loc Cert.ConvTwoRefIdeal.main_arg0)
          ∧ r.2.mem ((c.tc : Thread Cert.ConvTwoRefIdeal.nD Cert.ConvTwoRefIdeal.τ).loc Cert.ConvTwoRefIdeal.main_arg1) = m' ((c.tc : Thread Cert.ConvTwoRefIdeal.nD Cert.ConvTwoRefIdeal.τ).loc Cert.ConvTwoRefIdeal.main_arg1)
          ∧ r.2.mem ((c.tc : Thread Cert.ConvTwoRefIdeal.nD Cert.ConvTwoRefIdeal.τ).loc Cert.ConvTwoRefIdeal.main_arg2) = m' ((c.tc : Thread Cert.ConvTwoRefIdeal.nD Cert.ConvTwoRefIdeal.τ).loc Cert.ConvTwoRefIdeal.main_arg2)
          ∧ r.2.mem ((c.tc : Thread Cert.ConvTwoRefIdeal.nD Cert.ConvTwoRefIdeal.τ).loc Cert.ConvTwoRefIdeal.main_arg3) = m' ((c.tc : Thread Cert.ConvTwoRefIdeal.nD Cert.ConvTwoRefIdeal.τ).loc Cert.ConvTwoRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)) (v2 : (c : Dev Cert.NormBwdIdeal.nD) → Buf (Elt Ideal) ((c.tc : Thread Cert.NormBwdIdeal.nD Cert.NormBwdIdeal.τ).loc Cert.NormBwdIdeal.main_v0_2)) (v3 : (c : Dev Cert.NormBwdIdeal.nD) → Buf (Elt Ideal) ((c.tc : Thread Cert.NormBwdIdeal.nD Cert.NormBwdIdeal.τ).loc Cert.NormBwdIdeal.main_v0_3)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_v0_2) = v2 c
          ∧ r.2.mem ((c.tc : Thread Cert.NormBwdIdeal.nD Cert.NormBwdIdeal.τ).loc Cert.NormBwdIdeal.main_v0_3) = v3 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v35) = v0 c
          ∧ r.2.mem ((c.tc : Thread Cert.NormBwdRefIdeal.nD Cert.NormBwdRefIdeal.τ).loc Cert.NormBwdRefIdeal.main_v36) = v1 c
          ∧ r.2.mem ((c.tc : Thread Cert.NormBwdRefIdeal.nD Cert.NormBwdRefIdeal.τ).loc Cert.NormBwdRefIdeal.main_v18) = v2 c
          ∧ r.2.mem ((c.tc : Thread Cert.NormBwdRefIdeal.nD Cert.NormBwdRefIdeal.τ).loc Cert.NormBwdRefIdeal.main_v38) = v3 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_FinalLoss_FinalLossIdeal : Prop :=
  True

def algebraic_FinalLossIdeal_FinalLossRefIdeal [hFinalLossIdeal : Cert.FinalLossIdeal.Facts] [hFinalLossRefIdeal : Cert.FinalLossRefIdeal.Facts] : Prop :=
  ∀ (m : (ℓ : Loc Cert.FinalLossIdeal.nD Cert.FinalLossIdeal.τ Cert.FinalLossIdeal.sig) → Buf (Elt Ideal) ℓ) (g : Dev Cert.FinalLossIdeal.nD → PrngReg)
    (m' : (ℓ : Loc Cert.FinalLossRefIdeal.nD Cert.FinalLossRefIdeal.τ Cert.FinalLossRefIdeal.sig) → Buf (Elt Ideal) ℓ) (g' : Dev Cert.FinalLossRefIdeal.nD → PrngReg), Pre_FinalLossIdeal m →
    (∀ c : Dev Cert.FinalLossIdeal.nD,
      m' ((c.tc : Thread Cert.FinalLossRefIdeal.nD Cert.FinalLossRefIdeal.τ).loc Cert.FinalLossRefIdeal.main_arg0) = m ((c.tc : Thread Cert.FinalLossIdeal.nD Cert.FinalLossIdeal.τ).loc Cert.FinalLossIdeal.main_arg0)
      ∧ m' ((c.tc : Thread Cert.FinalLossRefIdeal.nD Cert.FinalLossRefIdeal.τ).loc Cert.FinalLossRefIdeal.main_arg1) = m ((c.tc : Thread Cert.FinalLossIdeal.nD Cert.FinalLossIdeal.τ).loc Cert.FinalLossIdeal.main_arg1)
      ∧ m' ((c.tc : Thread Cert.FinalLossRefIdeal.nD Cert.FinalLossRefIdeal.τ).loc Cert.FinalLossRefIdeal.main_arg2) = m ((c.tc : Thread Cert.FinalLossIdeal.nD Cert.FinalLossIdeal.τ).loc Cert.FinalLossIdeal.main_arg2)) →
    ∃ (v0 : (c : Dev Cert.FinalLossIdeal.nD) → Buf (Elt Ideal) ((c.tc : Thread Cert.FinalLossIdeal.nD Cert.FinalLossIdeal.τ).loc Cert.FinalLossIdeal.main_v0_0)) (v1 : (c : Dev Cert.FinalLossIdeal.nD) → Buf (Elt Ideal) ((c.tc : Thread Cert.FinalLossIdeal.nD Cert.FinalLossIdeal.τ).loc Cert.FinalLossIdeal.main_v0_1)) (v2 : (c : Dev Cert.FinalLossIdeal.nD) → Buf (Elt Ideal) ((c.tc : Thread Cert.FinalLossIdeal.nD Cert.FinalLossIdeal.τ).loc Cert.FinalLossIdeal.main_v0_2)) (v3 : (c : Dev Cert.FinalLossIdeal.nD) → Buf (Elt Ideal) ((c.tc : Thread Cert.FinalLossIdeal.nD Cert.FinalLossIdeal.τ).loc Cert.FinalLossIdeal.main_v0_3)),
      θ_run (Cert.FinalLossIdeal.defs (F := Ideal)) (onTc (τ := Cert.FinalLossIdeal.τ) (Cert.FinalLossIdeal.main (F := Ideal))) ⟨m, fun _ => 0, g⟩ (fun r => ∀ c : Dev Cert.FinalLossIdeal.nD,
          r.2.mem ((c.tc : Thread Cert.FinalLossIdeal.nD Cert.FinalLossIdeal.τ).loc Cert.FinalLossIdeal.main_v0_0) = v0 c
          ∧ r.2.mem ((c.tc : Thread Cert.FinalLossIdeal.nD Cert.FinalLossIdeal.τ).loc Cert.FinalLossIdeal.main_v0_1) = v1 c
          ∧ r.2.mem ((c.tc : Thread Cert.FinalLossIdeal.nD Cert.FinalLossIdeal.τ).loc Cert.FinalLossIdeal.main_v0_2) = v2 c
          ∧ r.2.mem ((c.tc : Thread Cert.FinalLossIdeal.nD Cert.FinalLossIdeal.τ).loc Cert.FinalLossIdeal.main_v0_3) = v3 c
          ∧ r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
          ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
          ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2))
      ∧ θ_run (Cert.FinalLossRefIdeal.defs (F := Ideal)) (onTc (τ := Cert.FinalLossRefIdeal.τ) (Cert.FinalLossRefIdeal.main (F := Ideal))) ⟨m', fun _ => 0, g'⟩ (fun r => ∀ c : Dev Cert.FinalLossRefIdeal.nD,
          r.2.mem ((c.tc : Thread Cert.FinalLossRefIdeal.nD Cert.FinalLossRefIdeal.τ).loc Cert.FinalLossRefIdeal.main_v51) = v0 c
          ∧ r.2.mem ((c.tc : Thread Cert.FinalLossRefIdeal.nD Cert.FinalLossRefIdeal.τ).loc Cert.FinalLossRefIdeal.main_v52) = v1 c
          ∧ r.2.mem ((c.tc : Thread Cert.FinalLossRefIdeal.nD Cert.FinalLossRefIdeal.τ).loc Cert.FinalLossRefIdeal.main_v35) = v2 c
          ∧ r.2.mem ((c.tc : Thread Cert.FinalLossRefIdeal.nD Cert.FinalLossRefIdeal.τ).loc Cert.FinalLossRefIdeal.main_v24) = v3 c
          ∧ r.2.mem ((c.tc : Thread Cert.FinalLossRefIdeal.nD Cert.FinalLossRefIdeal.τ).loc Cert.FinalLossRefIdeal.main_arg0) = m' ((c.tc : Thread Cert.FinalLossRefIdeal.nD Cert.FinalLossRefIdeal.τ).loc Cert.FinalLossRefIdeal.main_arg0)
          ∧ r.2.mem ((c.tc : Thread Cert.FinalLossRefIdeal.nD Cert.FinalLossRefIdeal.τ).loc Cert.FinalLossRefIdeal.main_arg1) = m' ((c.tc : Thread Cert.FinalLossRefIdeal.nD Cert.FinalLossRefIdeal.τ).loc Cert.FinalLossRefIdeal.main_arg1)
          ∧ r.2.mem ((c.tc : Thread Cert.FinalLossRefIdeal.nD Cert.FinalLossRefIdeal.τ).loc Cert.FinalLossRefIdeal.main_arg2) = m' ((c.tc : Thread Cert.FinalLossRefIdeal.nD Cert.FinalLossRefIdeal.τ).loc Cert.FinalLossRefIdeal.main_arg2))

def preserves_NormPair_NormPairIdeal : Prop :=
  True

def algebraic_NormPairIdeal_NormPairRefIdeal [hNormPairIdeal : Cert.NormPairIdeal.Facts] [hNormPairRefIdeal : Cert.NormPairRefIdeal.Facts] : Prop :=
  ∀ (m : (ℓ : Loc Cert.NormPairIdeal.nD Cert.NormPairIdeal.τ Cert.NormPairIdeal.sig) → Buf (Elt Ideal) ℓ) (g : Dev Cert.NormPairIdeal.nD → PrngReg)
    (m' : (ℓ : Loc Cert.NormPairRefIdeal.nD Cert.NormPairRefIdeal.τ Cert.NormPairRefIdeal.sig) → Buf (Elt Ideal) ℓ) (g' : Dev Cert.NormPairRefIdeal.nD → PrngReg), Pre_NormPairIdeal m →
    (∀ c : Dev Cert.NormPairIdeal.nD,
      m' ((c.tc : Thread Cert.NormPairRefIdeal.nD Cert.NormPairRefIdeal.τ).loc Cert.NormPairRefIdeal.main_arg0) = m ((c.tc : Thread Cert.NormPairIdeal.nD Cert.NormPairIdeal.τ).loc Cert.NormPairIdeal.main_arg0)
      ∧ m' ((c.tc : Thread Cert.NormPairRefIdeal.nD Cert.NormPairRefIdeal.τ).loc Cert.NormPairRefIdeal.main_arg1) = m ((c.tc : Thread Cert.NormPairIdeal.nD Cert.NormPairIdeal.τ).loc Cert.NormPairIdeal.main_arg1)) →
    ∃ (v0 : (c : Dev Cert.NormPairIdeal.nD) → Buf (Elt Ideal) ((c.tc : Thread Cert.NormPairIdeal.nD Cert.NormPairIdeal.τ).loc Cert.NormPairIdeal.main_v0_0)) (v1 : (c : Dev Cert.NormPairIdeal.nD) → Buf (Elt Ideal) ((c.tc : Thread Cert.NormPairIdeal.nD Cert.NormPairIdeal.τ).loc Cert.NormPairIdeal.main_v0_1)),
      θ_run (Cert.NormPairIdeal.defs (F := Ideal)) (onTc (τ := Cert.NormPairIdeal.τ) (Cert.NormPairIdeal.main (F := Ideal))) ⟨m, fun _ => 0, g⟩ (fun r => ∀ c : Dev Cert.NormPairIdeal.nD,
          r.2.mem ((c.tc : Thread Cert.NormPairIdeal.nD Cert.NormPairIdeal.τ).loc Cert.NormPairIdeal.main_v0_0) = v0 c
          ∧ r.2.mem ((c.tc : Thread Cert.NormPairIdeal.nD Cert.NormPairIdeal.τ).loc Cert.NormPairIdeal.main_v0_1) = v1 c
          ∧ r.2.mem ((c.tc : Thread Cert.NormPairIdeal.nD Cert.NormPairIdeal.τ).loc Cert.NormPairIdeal.main_arg0) = m ((c.tc : Thread Cert.NormPairIdeal.nD Cert.NormPairIdeal.τ).loc Cert.NormPairIdeal.main_arg0)
          ∧ r.2.mem ((c.tc : Thread Cert.NormPairIdeal.nD Cert.NormPairIdeal.τ).loc Cert.NormPairIdeal.main_arg1) = m ((c.tc : Thread Cert.NormPairIdeal.nD Cert.NormPairIdeal.τ).loc Cert.NormPairIdeal.main_arg1))
      ∧ θ_run (Cert.NormPairRefIdeal.defs (F := Ideal)) (onTc (τ := Cert.NormPairRefIdeal.τ) (Cert.NormPairRefIdeal.main (F := Ideal))) ⟨m', fun _ => 0, g'⟩ (fun r => ∀ c : Dev Cert.NormPairRefIdeal.nD,
          r.2.mem ((c.tc : Thread Cert.NormPairRefIdeal.nD Cert.NormPairRefIdeal.τ).loc Cert.NormPairRefIdeal.main_v14) = v0 c
          ∧ r.2.mem ((c.tc : Thread Cert.NormPairRefIdeal.nD Cert.NormPairRefIdeal.τ).loc Cert.NormPairRefIdeal.main_v27) = v1 c
          ∧ r.2.mem ((c.tc : Thread Cert.NormPairRefIdeal.nD Cert.NormPairRefIdeal.τ).loc Cert.NormPairRefIdeal.main_arg0) = m' ((c.tc : Thread Cert.NormPairRefIdeal.nD Cert.NormPairRefIdeal.τ).loc Cert.NormPairRefIdeal.main_arg0)
          ∧ r.2.mem ((c.tc : Thread Cert.NormPairRefIdeal.nD Cert.NormPairRefIdeal.τ).loc Cert.NormPairRefIdeal.main_arg1) = m' ((c.tc : Thread Cert.NormPairRefIdeal.nD Cert.NormPairRefIdeal.τ).loc Cert.NormPairRefIdeal.main_arg1))

def preserves_NormPairBwd_NormPairBwdIdeal : Prop :=
  True

def algebraic_NormPairBwdIdeal_NormPairBwdRefIdeal [hNormPairBwdIdeal : Cert.NormPairBwdIdeal.Facts] [hNormPairBwdRefIdeal : Cert.NormPairBwdRefIdeal.Facts] : Prop :=
  ∀ (m : (ℓ : Loc Cert.NormPairBwdIdeal.nD Cert.NormPairBwdIdeal.τ Cert.NormPairBwdIdeal.sig) → Buf (Elt Ideal) ℓ) (g : Dev Cert.NormPairBwdIdeal.nD → PrngReg)
    (m' : (ℓ : Loc Cert.NormPairBwdRefIdeal.nD Cert.NormPairBwdRefIdeal.τ Cert.NormPairBwdRefIdeal.sig) → Buf (Elt Ideal) ℓ) (g' : Dev Cert.NormPairBwdRefIdeal.nD → PrngReg), Pre_NormPairBwdIdeal m →
    (∀ c : Dev Cert.NormPairBwdIdeal.nD,
      m' ((c.tc : Thread Cert.NormPairBwdRefIdeal.nD Cert.NormPairBwdRefIdeal.τ).loc Cert.NormPairBwdRefIdeal.main_arg0) = m ((c.tc : Thread Cert.NormPairBwdIdeal.nD Cert.NormPairBwdIdeal.τ).loc Cert.NormPairBwdIdeal.main_arg0)
      ∧ m' ((c.tc : Thread Cert.NormPairBwdRefIdeal.nD Cert.NormPairBwdRefIdeal.τ).loc Cert.NormPairBwdRefIdeal.main_arg1) = m ((c.tc : Thread Cert.NormPairBwdIdeal.nD Cert.NormPairBwdIdeal.τ).loc Cert.NormPairBwdIdeal.main_arg1)
      ∧ m' ((c.tc : Thread Cert.NormPairBwdRefIdeal.nD Cert.NormPairBwdRefIdeal.τ).loc Cert.NormPairBwdRefIdeal.main_arg2) = m ((c.tc : Thread Cert.NormPairBwdIdeal.nD Cert.NormPairBwdIdeal.τ).loc Cert.NormPairBwdIdeal.main_arg2)
      ∧ m' ((c.tc : Thread Cert.NormPairBwdRefIdeal.nD Cert.NormPairBwdRefIdeal.τ).loc Cert.NormPairBwdRefIdeal.main_arg3) = m ((c.tc : Thread Cert.NormPairBwdIdeal.nD Cert.NormPairBwdIdeal.τ).loc Cert.NormPairBwdIdeal.main_arg3)
      ∧ m' ((c.tc : Thread Cert.NormPairBwdRefIdeal.nD Cert.NormPairBwdRefIdeal.τ).loc Cert.NormPairBwdRefIdeal.main_arg4) = m ((c.tc : Thread Cert.NormPairBwdIdeal.nD Cert.NormPairBwdIdeal.τ).loc Cert.NormPairBwdIdeal.main_arg4)) →
    ∃ (v0 : (c : Dev Cert.NormPairBwdIdeal.nD) → Buf (Elt Ideal) ((c.tc : Thread Cert.NormPairBwdIdeal.nD Cert.NormPairBwdIdeal.τ).loc Cert.NormPairBwdIdeal.main_v0_0)) (v1 : (c : Dev Cert.NormPairBwdIdeal.nD) → Buf (Elt Ideal) ((c.tc : Thread Cert.NormPairBwdIdeal.nD Cert.NormPairBwdIdeal.τ).loc Cert.NormPairBwdIdeal.main_v0_1)) (v2 : (c : Dev Cert.NormPairBwdIdeal.nD) → Buf (Elt Ideal) ((c.tc : Thread Cert.NormPairBwdIdeal.nD Cert.NormPairBwdIdeal.τ).loc Cert.NormPairBwdIdeal.main_v0_2)) (v3 : (c : Dev Cert.NormPairBwdIdeal.nD) → Buf (Elt Ideal) ((c.tc : Thread Cert.NormPairBwdIdeal.nD Cert.NormPairBwdIdeal.τ).loc Cert.NormPairBwdIdeal.main_v0_3)),
      θ_run (Cert.NormPairBwdIdeal.defs (F := Ideal)) (onTc (τ := Cert.NormPairBwdIdeal.τ) (Cert.NormPairBwdIdeal.main (F := Ideal))) ⟨m, fun _ => 0, g⟩ (fun r => ∀ c : Dev Cert.NormPairBwdIdeal.nD,
          r.2.mem ((c.tc : Thread Cert.NormPairBwdIdeal.nD Cert.NormPairBwdIdeal.τ).loc Cert.NormPairBwdIdeal.main_v0_0) = v0 c
          ∧ r.2.mem ((c.tc : Thread Cert.NormPairBwdIdeal.nD Cert.NormPairBwdIdeal.τ).loc Cert.NormPairBwdIdeal.main_v0_1) = v1 c
          ∧ r.2.mem ((c.tc : Thread Cert.NormPairBwdIdeal.nD Cert.NormPairBwdIdeal.τ).loc Cert.NormPairBwdIdeal.main_v0_2) = v2 c
          ∧ r.2.mem ((c.tc : Thread Cert.NormPairBwdIdeal.nD Cert.NormPairBwdIdeal.τ).loc Cert.NormPairBwdIdeal.main_v0_3) = v3 c
          ∧ r.2.mem ((c.tc : Thread Cert.NormPairBwdIdeal.nD Cert.NormPairBwdIdeal.τ).loc Cert.NormPairBwdIdeal.main_arg0) = m ((c.tc : Thread Cert.NormPairBwdIdeal.nD Cert.NormPairBwdIdeal.τ).loc Cert.NormPairBwdIdeal.main_arg0)
          ∧ r.2.mem ((c.tc : Thread Cert.NormPairBwdIdeal.nD Cert.NormPairBwdIdeal.τ).loc Cert.NormPairBwdIdeal.main_arg1) = m ((c.tc : Thread Cert.NormPairBwdIdeal.nD Cert.NormPairBwdIdeal.τ).loc Cert.NormPairBwdIdeal.main_arg1)
          ∧ r.2.mem ((c.tc : Thread Cert.NormPairBwdIdeal.nD Cert.NormPairBwdIdeal.τ).loc Cert.NormPairBwdIdeal.main_arg2) = m ((c.tc : Thread Cert.NormPairBwdIdeal.nD Cert.NormPairBwdIdeal.τ).loc Cert.NormPairBwdIdeal.main_arg2)
          ∧ r.2.mem ((c.tc : Thread Cert.NormPairBwdIdeal.nD Cert.NormPairBwdIdeal.τ).loc Cert.NormPairBwdIdeal.main_arg3) = m ((c.tc : Thread Cert.NormPairBwdIdeal.nD Cert.NormPairBwdIdeal.τ).loc Cert.NormPairBwdIdeal.main_arg3)
          ∧ r.2.mem ((c.tc : Thread Cert.NormPairBwdIdeal.nD Cert.NormPairBwdIdeal.τ).loc Cert.NormPairBwdIdeal.main_arg4) = m ((c.tc : Thread Cert.NormPairBwdIdeal.nD Cert.NormPairBwdIdeal.τ).loc Cert.NormPairBwdIdeal.main_arg4))
      ∧ θ_run (Cert.NormPairBwdRefIdeal.defs (F := Ideal)) (onTc (τ := Cert.NormPairBwdRefIdeal.τ) (Cert.NormPairBwdRefIdeal.main (F := Ideal))) ⟨m', fun _ => 0, g'⟩ (fun r => ∀ c : Dev Cert.NormPairBwdRefIdeal.nD,
          r.2.mem ((c.tc : Thread Cert.NormPairBwdRefIdeal.nD Cert.NormPairBwdRefIdeal.τ).loc Cert.NormPairBwdRefIdeal.main_v73) = v0 c
          ∧ r.2.mem ((c.tc : Thread Cert.NormPairBwdRefIdeal.nD Cert.NormPairBwdRefIdeal.τ).loc Cert.NormPairBwdRefIdeal.main_v74) = v1 c
          ∧ r.2.mem ((c.tc : Thread Cert.NormPairBwdRefIdeal.nD Cert.NormPairBwdRefIdeal.τ).loc Cert.NormPairBwdRefIdeal.main_v75) = v2 c
          ∧ r.2.mem ((c.tc : Thread Cert.NormPairBwdRefIdeal.nD Cert.NormPairBwdRefIdeal.τ).loc Cert.NormPairBwdRefIdeal.main_v77) = v3 c
          ∧ r.2.mem ((c.tc : Thread Cert.NormPairBwdRefIdeal.nD Cert.NormPairBwdRefIdeal.τ).loc Cert.NormPairBwdRefIdeal.main_arg0) = m' ((c.tc : Thread Cert.NormPairBwdRefIdeal.nD Cert.NormPairBwdRefIdeal.τ).loc Cert.NormPairBwdRefIdeal.main_arg0)
          ∧ r.2.mem ((c.tc : Thread Cert.NormPairBwdRefIdeal.nD Cert.NormPairBwdRefIdeal.τ).loc Cert.NormPairBwdRefIdeal.main_arg1) = m' ((c.tc : Thread Cert.NormPairBwdRefIdeal.nD Cert.NormPairBwdRefIdeal.τ).loc Cert.NormPairBwdRefIdeal.main_arg1)
          ∧ r.2.mem ((c.tc : Thread Cert.NormPairBwdRefIdeal.nD Cert.NormPairBwdRefIdeal.τ).loc Cert.NormPairBwdRefIdeal.main_arg2) = m' ((c.tc : Thread Cert.NormPairBwdRefIdeal.nD Cert.NormPairBwdRefIdeal.τ).loc Cert.NormPairBwdRefIdeal.main_arg2)
          ∧ r.2.mem ((c.tc : Thread Cert.NormPairBwdRefIdeal.nD Cert.NormPairBwdRefIdeal.τ).loc Cert.NormPairBwdRefIdeal.main_arg3) = m' ((c.tc : Thread Cert.NormPairBwdRefIdeal.nD Cert.NormPairBwdRefIdeal.τ).loc Cert.NormPairBwdRefIdeal.main_arg3)
          ∧ r.2.mem ((c.tc : Thread Cert.NormPairBwdRefIdeal.nD Cert.NormPairBwdRefIdeal.τ).loc Cert.NormPairBwdRefIdeal.main_arg4) = m' ((c.tc : Thread Cert.NormPairBwdRefIdeal.nD Cert.NormPairBwdRefIdeal.τ).loc Cert.NormPairBwdRefIdeal.main_arg4))

def preserves_AdamWhole_AdamWholeIdeal : Prop :=
  True

def algebraic_AdamWholeIdeal_AdamWholeRefIdeal [hAdamWholeIdeal : Cert.AdamWholeIdeal.Facts] [hAdamWholeRefIdeal : Cert.AdamWholeRefIdeal.Facts] : Prop :=
  ∀ (m : (ℓ : Loc Cert.AdamWholeIdeal.nD Cert.AdamWholeIdeal.τ Cert.AdamWholeIdeal.sig) → Buf (Elt Ideal) ℓ) (g : Dev Cert.AdamWholeIdeal.nD → PrngReg)
    (m' : (ℓ : Loc Cert.AdamWholeRefIdeal.nD Cert.AdamWholeRefIdeal.τ Cert.AdamWholeRefIdeal.sig) → Buf (Elt Ideal) ℓ) (g' : Dev Cert.AdamWholeRefIdeal.nD → PrngReg), Pre_AdamWholeIdeal m →
    (∀ c : Dev Cert.AdamWholeIdeal.nD,
      m' ((c.tc : Thread Cert.AdamWholeRefIdeal.nD Cert.AdamWholeRefIdeal.τ).loc Cert.AdamWholeRefIdeal.main_arg0) = m ((c.tc : Thread Cert.AdamWholeIdeal.nD Cert.AdamWholeIdeal.τ).loc Cert.AdamWholeIdeal.main_arg0)
      ∧ m' ((c.tc : Thread Cert.AdamWholeRefIdeal.nD Cert.AdamWholeRefIdeal.τ).loc Cert.AdamWholeRefIdeal.main_arg1) = m ((c.tc : Thread Cert.AdamWholeIdeal.nD Cert.AdamWholeIdeal.τ).loc Cert.AdamWholeIdeal.main_arg1)
      ∧ m' ((c.tc : Thread Cert.AdamWholeRefIdeal.nD Cert.AdamWholeRefIdeal.τ).loc Cert.AdamWholeRefIdeal.main_arg2) = m ((c.tc : Thread Cert.AdamWholeIdeal.nD Cert.AdamWholeIdeal.τ).loc Cert.AdamWholeIdeal.main_arg2)
      ∧ m' ((c.tc : Thread Cert.AdamWholeRefIdeal.nD Cert.AdamWholeRefIdeal.τ).loc Cert.AdamWholeRefIdeal.main_arg3) = m ((c.tc : Thread Cert.AdamWholeIdeal.nD Cert.AdamWholeIdeal.τ).loc Cert.AdamWholeIdeal.main_arg3)
      ∧ m' ((c.tc : Thread Cert.AdamWholeRefIdeal.nD Cert.AdamWholeRefIdeal.τ).loc Cert.AdamWholeRefIdeal.main_arg4) = m ((c.tc : Thread Cert.AdamWholeIdeal.nD Cert.AdamWholeIdeal.τ).loc Cert.AdamWholeIdeal.main_arg4)
      ∧ m' ((c.tc : Thread Cert.AdamWholeRefIdeal.nD Cert.AdamWholeRefIdeal.τ).loc Cert.AdamWholeRefIdeal.main_arg5) = m ((c.tc : Thread Cert.AdamWholeIdeal.nD Cert.AdamWholeIdeal.τ).loc Cert.AdamWholeIdeal.main_arg5)) →
    ∃ (v0 : (c : Dev Cert.AdamWholeIdeal.nD) → Buf (Elt Ideal) ((c.tc : Thread Cert.AdamWholeIdeal.nD Cert.AdamWholeIdeal.τ).loc Cert.AdamWholeIdeal.main_v0_0)) (v1 : (c : Dev Cert.AdamWholeIdeal.nD) → Buf (Elt Ideal) ((c.tc : Thread Cert.AdamWholeIdeal.nD Cert.AdamWholeIdeal.τ).loc Cert.AdamWholeIdeal.main_v0_1)) (v2 : (c : Dev Cert.AdamWholeIdeal.nD) → Buf (Elt Ideal) ((c.tc : Thread Cert.AdamWholeIdeal.nD Cert.AdamWholeIdeal.τ).loc Cert.AdamWholeIdeal.main_v0_2)) (v3 : (c : Dev Cert.AdamWholeIdeal.nD) → Buf (Elt Ideal) ((c.tc : Thread Cert.AdamWholeIdeal.nD Cert.AdamWholeIdeal.τ).loc Cert.AdamWholeIdeal.main_v0_3)),
      θ_run (Cert.AdamWholeIdeal.defs (F := Ideal)) (onTc (τ := Cert.AdamWholeIdeal.τ) (Cert.AdamWholeIdeal.main (F := Ideal))) ⟨m, fun _ => 0, g⟩ (fun r => ∀ c : Dev Cert.AdamWholeIdeal.nD,
          r.2.mem ((c.tc : Thread Cert.AdamWholeIdeal.nD Cert.AdamWholeIdeal.τ).loc Cert.AdamWholeIdeal.main_v0_0) = v0 c
          ∧ r.2.mem ((c.tc : Thread Cert.AdamWholeIdeal.nD Cert.AdamWholeIdeal.τ).loc Cert.AdamWholeIdeal.main_v0_1) = v1 c
          ∧ r.2.mem ((c.tc : Thread Cert.AdamWholeIdeal.nD Cert.AdamWholeIdeal.τ).loc Cert.AdamWholeIdeal.main_v0_2) = v2 c
          ∧ r.2.mem ((c.tc : Thread Cert.AdamWholeIdeal.nD Cert.AdamWholeIdeal.τ).loc Cert.AdamWholeIdeal.main_v0_3) = v3 c
          ∧ r.2.mem ((c.tc : Thread Cert.AdamWholeIdeal.nD Cert.AdamWholeIdeal.τ).loc Cert.AdamWholeIdeal.main_arg0) = m ((c.tc : Thread Cert.AdamWholeIdeal.nD Cert.AdamWholeIdeal.τ).loc Cert.AdamWholeIdeal.main_arg0)
          ∧ r.2.mem ((c.tc : Thread Cert.AdamWholeIdeal.nD Cert.AdamWholeIdeal.τ).loc Cert.AdamWholeIdeal.main_arg1) = m ((c.tc : Thread Cert.AdamWholeIdeal.nD Cert.AdamWholeIdeal.τ).loc Cert.AdamWholeIdeal.main_arg1)
          ∧ r.2.mem ((c.tc : Thread Cert.AdamWholeIdeal.nD Cert.AdamWholeIdeal.τ).loc Cert.AdamWholeIdeal.main_arg2) = m ((c.tc : Thread Cert.AdamWholeIdeal.nD Cert.AdamWholeIdeal.τ).loc Cert.AdamWholeIdeal.main_arg2)
          ∧ r.2.mem ((c.tc : Thread Cert.AdamWholeIdeal.nD Cert.AdamWholeIdeal.τ).loc Cert.AdamWholeIdeal.main_arg3) = m ((c.tc : Thread Cert.AdamWholeIdeal.nD Cert.AdamWholeIdeal.τ).loc Cert.AdamWholeIdeal.main_arg3)
          ∧ r.2.mem ((c.tc : Thread Cert.AdamWholeIdeal.nD Cert.AdamWholeIdeal.τ).loc Cert.AdamWholeIdeal.main_arg4) = m ((c.tc : Thread Cert.AdamWholeIdeal.nD Cert.AdamWholeIdeal.τ).loc Cert.AdamWholeIdeal.main_arg4)
          ∧ r.2.mem ((c.tc : Thread Cert.AdamWholeIdeal.nD Cert.AdamWholeIdeal.τ).loc Cert.AdamWholeIdeal.main_arg5) = m ((c.tc : Thread Cert.AdamWholeIdeal.nD Cert.AdamWholeIdeal.τ).loc Cert.AdamWholeIdeal.main_arg5))
      ∧ θ_run (Cert.AdamWholeRefIdeal.defs (F := Ideal)) (onTc (τ := Cert.AdamWholeRefIdeal.τ) (Cert.AdamWholeRefIdeal.main (F := Ideal))) ⟨m', fun _ => 0, g'⟩ (fun r => ∀ c : Dev Cert.AdamWholeRefIdeal.nD,
          r.2.mem ((c.tc : Thread Cert.AdamWholeRefIdeal.nD Cert.AdamWholeRefIdeal.τ).loc Cert.AdamWholeRefIdeal.main_v8) = v0 c
          ∧ r.2.mem ((c.tc : Thread Cert.AdamWholeRefIdeal.nD Cert.AdamWholeRefIdeal.τ).loc Cert.AdamWholeRefIdeal.main_v32) = v1 c
          ∧ r.2.mem ((c.tc : Thread Cert.AdamWholeRefIdeal.nD Cert.AdamWholeRefIdeal.τ).loc Cert.AdamWholeRefIdeal.main_v13) = v2 c
          ∧ r.2.mem ((c.tc : Thread Cert.AdamWholeRefIdeal.nD Cert.AdamWholeRefIdeal.τ).loc Cert.AdamWholeRefIdeal.main_v19) = v3 c
          ∧ r.2.mem ((c.tc : Thread Cert.AdamWholeRefIdeal.nD Cert.AdamWholeRefIdeal.τ).loc Cert.AdamWholeRefIdeal.main_arg0) = m' ((c.tc : Thread Cert.AdamWholeRefIdeal.nD Cert.AdamWholeRefIdeal.τ).loc Cert.AdamWholeRefIdeal.main_arg0)
          ∧ r.2.mem ((c.tc : Thread Cert.AdamWholeRefIdeal.nD Cert.AdamWholeRefIdeal.τ).loc Cert.AdamWholeRefIdeal.main_arg1) = m' ((c.tc : Thread Cert.AdamWholeRefIdeal.nD Cert.AdamWholeRefIdeal.τ).loc Cert.AdamWholeRefIdeal.main_arg1)
          ∧ r.2.mem ((c.tc : Thread Cert.AdamWholeRefIdeal.nD Cert.AdamWholeRefIdeal.τ).loc Cert.AdamWholeRefIdeal.main_arg2) = m' ((c.tc : Thread Cert.AdamWholeRefIdeal.nD Cert.AdamWholeRefIdeal.τ).loc Cert.AdamWholeRefIdeal.main_arg2)
          ∧ r.2.mem ((c.tc : Thread Cert.AdamWholeRefIdeal.nD Cert.AdamWholeRefIdeal.τ).loc Cert.AdamWholeRefIdeal.main_arg3) = m' ((c.tc : Thread Cert.AdamWholeRefIdeal.nD Cert.AdamWholeRefIdeal.τ).loc Cert.AdamWholeRefIdeal.main_arg3)
          ∧ r.2.mem ((c.tc : Thread Cert.AdamWholeRefIdeal.nD Cert.AdamWholeRefIdeal.τ).loc Cert.AdamWholeRefIdeal.main_arg4) = m' ((c.tc : Thread Cert.AdamWholeRefIdeal.nD Cert.AdamWholeRefIdeal.τ).loc Cert.AdamWholeRefIdeal.main_arg4)
          ∧ r.2.mem ((c.tc : Thread Cert.AdamWholeRefIdeal.nD Cert.AdamWholeRefIdeal.τ).loc Cert.AdamWholeRefIdeal.main_arg5) = m' ((c.tc : Thread Cert.AdamWholeRefIdeal.nD Cert.AdamWholeRefIdeal.τ).loc Cert.AdamWholeRefIdeal.main_arg5))

def preserves_AdamRows_AdamRowsIdeal : Prop :=
  True

def algebraic_AdamRowsIdeal_AdamRowsRefIdeal [hAdamRowsIdeal : Cert.AdamRowsIdeal.Facts] [hAdamRowsRefIdeal : Cert.AdamRowsRefIdeal.Facts] [hPre_chip_rows : Cert.Pre_chip_rows.Facts] : Prop :=
  ∀ (m : (ℓ : Loc Cert.AdamRowsIdeal.nD Cert.AdamRowsIdeal.τ Cert.AdamRowsIdeal.sig) → Buf (Elt Ideal) ℓ) (g : Dev Cert.AdamRowsIdeal.nD → PrngReg)
    (m' : (ℓ : Loc Cert.AdamRowsRefIdeal.nD Cert.AdamRowsRefIdeal.τ Cert.AdamRowsRefIdeal.sig) → Buf (Elt Ideal) ℓ) (g' : Dev Cert.AdamRowsRefIdeal.nD → PrngReg), Pre_AdamRowsIdeal m →
    (∀ c : Dev Cert.AdamRowsIdeal.nD,
      m' ((c.tc : Thread Cert.AdamRowsRefIdeal.nD Cert.AdamRowsRefIdeal.τ).loc Cert.AdamRowsRefIdeal.main_arg0) = m ((c.tc : Thread Cert.AdamRowsIdeal.nD Cert.AdamRowsIdeal.τ).loc Cert.AdamRowsIdeal.main_arg0)
      ∧ m' ((c.tc : Thread Cert.AdamRowsRefIdeal.nD Cert.AdamRowsRefIdeal.τ).loc Cert.AdamRowsRefIdeal.main_arg1) = m ((c.tc : Thread Cert.AdamRowsIdeal.nD Cert.AdamRowsIdeal.τ).loc Cert.AdamRowsIdeal.main_arg1)
      ∧ m' ((c.tc : Thread Cert.AdamRowsRefIdeal.nD Cert.AdamRowsRefIdeal.τ).loc Cert.AdamRowsRefIdeal.main_arg2) = m ((c.tc : Thread Cert.AdamRowsIdeal.nD Cert.AdamRowsIdeal.τ).loc Cert.AdamRowsIdeal.main_arg2)
      ∧ m' ((c.tc : Thread Cert.AdamRowsRefIdeal.nD Cert.AdamRowsRefIdeal.τ).loc Cert.AdamRowsRefIdeal.main_arg3) = m ((c.tc : Thread Cert.AdamRowsIdeal.nD Cert.AdamRowsIdeal.τ).loc Cert.AdamRowsIdeal.main_arg3)
      ∧ m' ((c.tc : Thread Cert.AdamRowsRefIdeal.nD Cert.AdamRowsRefIdeal.τ).loc Cert.AdamRowsRefIdeal.main_arg4) = m ((c.tc : Thread Cert.AdamRowsIdeal.nD Cert.AdamRowsIdeal.τ).loc Cert.AdamRowsIdeal.main_arg4)
      ∧ m' ((c.tc : Thread Cert.AdamRowsRefIdeal.nD Cert.AdamRowsRefIdeal.τ).loc Cert.AdamRowsRefIdeal.main_arg5) = m ((c.tc : Thread Cert.AdamRowsIdeal.nD Cert.AdamRowsIdeal.τ).loc Cert.AdamRowsIdeal.main_arg5)) →
    ∃ (v0 : (c : Dev Cert.AdamRowsIdeal.nD) → Buf (Elt Ideal) ((c.tc : Thread Cert.AdamRowsIdeal.nD Cert.AdamRowsIdeal.τ).loc Cert.AdamRowsIdeal.main_v0_0)) (v1 : (c : Dev Cert.AdamRowsIdeal.nD) → Buf (Elt Ideal) ((c.tc : Thread Cert.AdamRowsIdeal.nD Cert.AdamRowsIdeal.τ).loc Cert.AdamRowsIdeal.main_v0_1)) (v2 : (c : Dev Cert.AdamRowsIdeal.nD) → Buf (Elt Ideal) ((c.tc : Thread Cert.AdamRowsIdeal.nD Cert.AdamRowsIdeal.τ).loc Cert.AdamRowsIdeal.main_v0_2)) (v3 : (c : Dev Cert.AdamRowsIdeal.nD) → Buf (Elt Ideal) ((c.tc : Thread Cert.AdamRowsIdeal.nD Cert.AdamRowsIdeal.τ).loc Cert.AdamRowsIdeal.main_v0_3)),
      θ_run (Cert.AdamRowsIdeal.defs (F := Ideal)) (onTc (τ := Cert.AdamRowsIdeal.τ) (Cert.AdamRowsIdeal.main (F := Ideal))) ⟨m, fun _ => 0, g⟩ (fun r => ∀ c : Dev Cert.AdamRowsIdeal.nD,
          r.2.mem ((c.tc : Thread Cert.AdamRowsIdeal.nD Cert.AdamRowsIdeal.τ).loc Cert.AdamRowsIdeal.main_v0_0) = v0 c
          ∧ r.2.mem ((c.tc : Thread Cert.AdamRowsIdeal.nD Cert.AdamRowsIdeal.τ).loc Cert.AdamRowsIdeal.main_v0_1) = v1 c
          ∧ r.2.mem ((c.tc : Thread Cert.AdamRowsIdeal.nD Cert.AdamRowsIdeal.τ).loc Cert.AdamRowsIdeal.main_v0_2) = v2 c
          ∧ r.2.mem ((c.tc : Thread Cert.AdamRowsIdeal.nD Cert.AdamRowsIdeal.τ).loc Cert.AdamRowsIdeal.main_v0_3) = v3 c
          ∧ r.2.mem ((c.tc : Thread Cert.AdamRowsIdeal.nD Cert.AdamRowsIdeal.τ).loc Cert.AdamRowsIdeal.main_arg0) = m ((c.tc : Thread Cert.AdamRowsIdeal.nD Cert.AdamRowsIdeal.τ).loc Cert.AdamRowsIdeal.main_arg0)
          ∧ r.2.mem ((c.tc : Thread Cert.AdamRowsIdeal.nD Cert.AdamRowsIdeal.τ).loc Cert.AdamRowsIdeal.main_arg1) = m ((c.tc : Thread Cert.AdamRowsIdeal.nD Cert.AdamRowsIdeal.τ).loc Cert.AdamRowsIdeal.main_arg1)
          ∧ r.2.mem ((c.tc : Thread Cert.AdamRowsIdeal.nD Cert.AdamRowsIdeal.τ).loc Cert.AdamRowsIdeal.main_arg2) = m ((c.tc : Thread Cert.AdamRowsIdeal.nD Cert.AdamRowsIdeal.τ).loc Cert.AdamRowsIdeal.main_arg2)
          ∧ r.2.mem ((c.tc : Thread Cert.AdamRowsIdeal.nD Cert.AdamRowsIdeal.τ).loc Cert.AdamRowsIdeal.main_arg3) = m ((c.tc : Thread Cert.AdamRowsIdeal.nD Cert.AdamRowsIdeal.τ).loc Cert.AdamRowsIdeal.main_arg3)
          ∧ r.2.mem ((c.tc : Thread Cert.AdamRowsIdeal.nD Cert.AdamRowsIdeal.τ).loc Cert.AdamRowsIdeal.main_arg4) = m ((c.tc : Thread Cert.AdamRowsIdeal.nD Cert.AdamRowsIdeal.τ).loc Cert.AdamRowsIdeal.main_arg4)
          ∧ r.2.mem ((c.tc : Thread Cert.AdamRowsIdeal.nD Cert.AdamRowsIdeal.τ).loc Cert.AdamRowsIdeal.main_arg5) = m ((c.tc : Thread Cert.AdamRowsIdeal.nD Cert.AdamRowsIdeal.τ).loc Cert.AdamRowsIdeal.main_arg5))
      ∧ θ_run (Cert.AdamRowsRefIdeal.defs (F := Ideal)) (onTc (τ := Cert.AdamRowsRefIdeal.τ) (Cert.AdamRowsRefIdeal.main (F := Ideal))) ⟨m', fun _ => 0, g'⟩ (fun r => ∀ c : Dev Cert.AdamRowsRefIdeal.nD,
          r.2.mem ((c.tc : Thread Cert.AdamRowsRefIdeal.nD Cert.AdamRowsRefIdeal.τ).loc Cert.AdamRowsRefIdeal.main_v26) = v0 c
          ∧ r.2.mem ((c.tc : Thread Cert.AdamRowsRefIdeal.nD Cert.AdamRowsRefIdeal.τ).loc Cert.AdamRowsRefIdeal.main_v50) = v1 c
          ∧ r.2.mem ((c.tc : Thread Cert.AdamRowsRefIdeal.nD Cert.AdamRowsRefIdeal.τ).loc Cert.AdamRowsRefIdeal.main_v31) = v2 c
          ∧ r.2.mem ((c.tc : Thread Cert.AdamRowsRefIdeal.nD Cert.AdamRowsRefIdeal.τ).loc Cert.AdamRowsRefIdeal.main_v37) = v3 c
          ∧ r.2.mem ((c.tc : Thread Cert.AdamRowsRefIdeal.nD Cert.AdamRowsRefIdeal.τ).loc Cert.AdamRowsRefIdeal.main_arg0) = m' ((c.tc : Thread Cert.AdamRowsRefIdeal.nD Cert.AdamRowsRefIdeal.τ).loc Cert.AdamRowsRefIdeal.main_arg0)
          ∧ r.2.mem ((c.tc : Thread Cert.AdamRowsRefIdeal.nD Cert.AdamRowsRefIdeal.τ).loc Cert.AdamRowsRefIdeal.main_arg1) = m' ((c.tc : Thread Cert.AdamRowsRefIdeal.nD Cert.AdamRowsRefIdeal.τ).loc Cert.AdamRowsRefIdeal.main_arg1)
          ∧ r.2.mem ((c.tc : Thread Cert.AdamRowsRefIdeal.nD Cert.AdamRowsRefIdeal.τ).loc Cert.AdamRowsRefIdeal.main_arg2) = m' ((c.tc : Thread Cert.AdamRowsRefIdeal.nD Cert.AdamRowsRefIdeal.τ).loc Cert.AdamRowsRefIdeal.main_arg2)
          ∧ r.2.mem ((c.tc : Thread Cert.AdamRowsRefIdeal.nD Cert.AdamRowsRefIdeal.τ).loc Cert.AdamRowsRefIdeal.main_arg3) = m' ((c.tc : Thread Cert.AdamRowsRefIdeal.nD Cert.AdamRowsRefIdeal.τ).loc Cert.AdamRowsRefIdeal.main_arg3)
          ∧ r.2.mem ((c.tc : Thread Cert.AdamRowsRefIdeal.nD Cert.AdamRowsRefIdeal.τ).loc Cert.AdamRowsRefIdeal.main_arg4) = m' ((c.tc : Thread Cert.AdamRowsRefIdeal.nD Cert.AdamRowsRefIdeal.τ).loc Cert.AdamRowsRefIdeal.main_arg4)
          ∧ r.2.mem ((c.tc : Thread Cert.AdamRowsRefIdeal.nD Cert.AdamRowsRefIdeal.τ).loc Cert.AdamRowsRefIdeal.main_arg5) = m' ((c.tc : Thread Cert.AdamRowsRefIdeal.nD Cert.AdamRowsRefIdeal.τ).loc Cert.AdamRowsRefIdeal.main_arg5))

def preserves_AdamColumns_AdamColumnsIdeal : Prop :=
  True

def algebraic_AdamColumnsIdeal_AdamColumnsRefIdeal [hAdamColumnsIdeal : Cert.AdamColumnsIdeal.Facts] [hAdamColumnsRefIdeal : Cert.AdamColumnsRefIdeal.Facts] [hPre_chip_columns : Cert.Pre_chip_columns.Facts] : Prop :=
  ∀ (m : (ℓ : Loc Cert.AdamColumnsIdeal.nD Cert.AdamColumnsIdeal.τ Cert.AdamColumnsIdeal.sig) → Buf (Elt Ideal) ℓ) (g : Dev Cert.AdamColumnsIdeal.nD → PrngReg)
    (m' : (ℓ : Loc Cert.AdamColumnsRefIdeal.nD Cert.AdamColumnsRefIdeal.τ Cert.AdamColumnsRefIdeal.sig) → Buf (Elt Ideal) ℓ) (g' : Dev Cert.AdamColumnsRefIdeal.nD → PrngReg), Pre_AdamColumnsIdeal m →
    (∀ c : Dev Cert.AdamColumnsIdeal.nD,
      m' ((c.tc : Thread Cert.AdamColumnsRefIdeal.nD Cert.AdamColumnsRefIdeal.τ).loc Cert.AdamColumnsRefIdeal.main_arg0) = m ((c.tc : Thread Cert.AdamColumnsIdeal.nD Cert.AdamColumnsIdeal.τ).loc Cert.AdamColumnsIdeal.main_arg0)
      ∧ m' ((c.tc : Thread Cert.AdamColumnsRefIdeal.nD Cert.AdamColumnsRefIdeal.τ).loc Cert.AdamColumnsRefIdeal.main_arg1) = m ((c.tc : Thread Cert.AdamColumnsIdeal.nD Cert.AdamColumnsIdeal.τ).loc Cert.AdamColumnsIdeal.main_arg1)
      ∧ m' ((c.tc : Thread Cert.AdamColumnsRefIdeal.nD Cert.AdamColumnsRefIdeal.τ).loc Cert.AdamColumnsRefIdeal.main_arg2) = m ((c.tc : Thread Cert.AdamColumnsIdeal.nD Cert.AdamColumnsIdeal.τ).loc Cert.AdamColumnsIdeal.main_arg2)
      ∧ m' ((c.tc : Thread Cert.AdamColumnsRefIdeal.nD Cert.AdamColumnsRefIdeal.τ).loc Cert.AdamColumnsRefIdeal.main_arg3) = m ((c.tc : Thread Cert.AdamColumnsIdeal.nD Cert.AdamColumnsIdeal.τ).loc Cert.AdamColumnsIdeal.main_arg3)
      ∧ m' ((c.tc : Thread Cert.AdamColumnsRefIdeal.nD Cert.AdamColumnsRefIdeal.τ).loc Cert.AdamColumnsRefIdeal.main_arg4) = m ((c.tc : Thread Cert.AdamColumnsIdeal.nD Cert.AdamColumnsIdeal.τ).loc Cert.AdamColumnsIdeal.main_arg4)
      ∧ m' ((c.tc : Thread Cert.AdamColumnsRefIdeal.nD Cert.AdamColumnsRefIdeal.τ).loc Cert.AdamColumnsRefIdeal.main_arg5) = m ((c.tc : Thread Cert.AdamColumnsIdeal.nD Cert.AdamColumnsIdeal.τ).loc Cert.AdamColumnsIdeal.main_arg5)) →
    ∃ (v0 : (c : Dev Cert.AdamColumnsIdeal.nD) → Buf (Elt Ideal) ((c.tc : Thread Cert.AdamColumnsIdeal.nD Cert.AdamColumnsIdeal.τ).loc Cert.AdamColumnsIdeal.main_v0_0)) (v1 : (c : Dev Cert.AdamColumnsIdeal.nD) → Buf (Elt Ideal) ((c.tc : Thread Cert.AdamColumnsIdeal.nD Cert.AdamColumnsIdeal.τ).loc Cert.AdamColumnsIdeal.main_v0_1)) (v2 : (c : Dev Cert.AdamColumnsIdeal.nD) → Buf (Elt Ideal) ((c.tc : Thread Cert.AdamColumnsIdeal.nD Cert.AdamColumnsIdeal.τ).loc Cert.AdamColumnsIdeal.main_v0_2)) (v3 : (c : Dev Cert.AdamColumnsIdeal.nD) → Buf (Elt Ideal) ((c.tc : Thread Cert.AdamColumnsIdeal.nD Cert.AdamColumnsIdeal.τ).loc Cert.AdamColumnsIdeal.main_v0_3)),
      θ_run (Cert.AdamColumnsIdeal.defs (F := Ideal)) (onTc (τ := Cert.AdamColumnsIdeal.τ) (Cert.AdamColumnsIdeal.main (F := Ideal))) ⟨m, fun _ => 0, g⟩ (fun r => ∀ c : Dev Cert.AdamColumnsIdeal.nD,
          r.2.mem ((c.tc : Thread Cert.AdamColumnsIdeal.nD Cert.AdamColumnsIdeal.τ).loc Cert.AdamColumnsIdeal.main_v0_0) = v0 c
          ∧ r.2.mem ((c.tc : Thread Cert.AdamColumnsIdeal.nD Cert.AdamColumnsIdeal.τ).loc Cert.AdamColumnsIdeal.main_v0_1) = v1 c
          ∧ r.2.mem ((c.tc : Thread Cert.AdamColumnsIdeal.nD Cert.AdamColumnsIdeal.τ).loc Cert.AdamColumnsIdeal.main_v0_2) = v2 c
          ∧ r.2.mem ((c.tc : Thread Cert.AdamColumnsIdeal.nD Cert.AdamColumnsIdeal.τ).loc Cert.AdamColumnsIdeal.main_v0_3) = v3 c
          ∧ r.2.mem ((c.tc : Thread Cert.AdamColumnsIdeal.nD Cert.AdamColumnsIdeal.τ).loc Cert.AdamColumnsIdeal.main_arg0) = m ((c.tc : Thread Cert.AdamColumnsIdeal.nD Cert.AdamColumnsIdeal.τ).loc Cert.AdamColumnsIdeal.main_arg0)
          ∧ r.2.mem ((c.tc : Thread Cert.AdamColumnsIdeal.nD Cert.AdamColumnsIdeal.τ).loc Cert.AdamColumnsIdeal.main_arg1) = m ((c.tc : Thread Cert.AdamColumnsIdeal.nD Cert.AdamColumnsIdeal.τ).loc Cert.AdamColumnsIdeal.main_arg1)
          ∧ r.2.mem ((c.tc : Thread Cert.AdamColumnsIdeal.nD Cert.AdamColumnsIdeal.τ).loc Cert.AdamColumnsIdeal.main_arg2) = m ((c.tc : Thread Cert.AdamColumnsIdeal.nD Cert.AdamColumnsIdeal.τ).loc Cert.AdamColumnsIdeal.main_arg2)
          ∧ r.2.mem ((c.tc : Thread Cert.AdamColumnsIdeal.nD Cert.AdamColumnsIdeal.τ).loc Cert.AdamColumnsIdeal.main_arg3) = m ((c.tc : Thread Cert.AdamColumnsIdeal.nD Cert.AdamColumnsIdeal.τ).loc Cert.AdamColumnsIdeal.main_arg3)
          ∧ r.2.mem ((c.tc : Thread Cert.AdamColumnsIdeal.nD Cert.AdamColumnsIdeal.τ).loc Cert.AdamColumnsIdeal.main_arg4) = m ((c.tc : Thread Cert.AdamColumnsIdeal.nD Cert.AdamColumnsIdeal.τ).loc Cert.AdamColumnsIdeal.main_arg4)
          ∧ r.2.mem ((c.tc : Thread Cert.AdamColumnsIdeal.nD Cert.AdamColumnsIdeal.τ).loc Cert.AdamColumnsIdeal.main_arg5) = m ((c.tc : Thread Cert.AdamColumnsIdeal.nD Cert.AdamColumnsIdeal.τ).loc Cert.AdamColumnsIdeal.main_arg5))
      ∧ θ_run (Cert.AdamColumnsRefIdeal.defs (F := Ideal)) (onTc (τ := Cert.AdamColumnsRefIdeal.τ) (Cert.AdamColumnsRefIdeal.main (F := Ideal))) ⟨m', fun _ => 0, g'⟩ (fun r => ∀ c : Dev Cert.AdamColumnsRefIdeal.nD,
          r.2.mem ((c.tc : Thread Cert.AdamColumnsRefIdeal.nD Cert.AdamColumnsRefIdeal.τ).loc Cert.AdamColumnsRefIdeal.main_v26) = v0 c
          ∧ r.2.mem ((c.tc : Thread Cert.AdamColumnsRefIdeal.nD Cert.AdamColumnsRefIdeal.τ).loc Cert.AdamColumnsRefIdeal.main_v50) = v1 c
          ∧ r.2.mem ((c.tc : Thread Cert.AdamColumnsRefIdeal.nD Cert.AdamColumnsRefIdeal.τ).loc Cert.AdamColumnsRefIdeal.main_v31) = v2 c
          ∧ r.2.mem ((c.tc : Thread Cert.AdamColumnsRefIdeal.nD Cert.AdamColumnsRefIdeal.τ).loc Cert.AdamColumnsRefIdeal.main_v37) = v3 c
          ∧ r.2.mem ((c.tc : Thread Cert.AdamColumnsRefIdeal.nD Cert.AdamColumnsRefIdeal.τ).loc Cert.AdamColumnsRefIdeal.main_arg0) = m' ((c.tc : Thread Cert.AdamColumnsRefIdeal.nD Cert.AdamColumnsRefIdeal.τ).loc Cert.AdamColumnsRefIdeal.main_arg0)
          ∧ r.2.mem ((c.tc : Thread Cert.AdamColumnsRefIdeal.nD Cert.AdamColumnsRefIdeal.τ).loc Cert.AdamColumnsRefIdeal.main_arg1) = m' ((c.tc : Thread Cert.AdamColumnsRefIdeal.nD Cert.AdamColumnsRefIdeal.τ).loc Cert.AdamColumnsRefIdeal.main_arg1)
          ∧ r.2.mem ((c.tc : Thread Cert.AdamColumnsRefIdeal.nD Cert.AdamColumnsRefIdeal.τ).loc Cert.AdamColumnsRefIdeal.main_arg2) = m' ((c.tc : Thread Cert.AdamColumnsRefIdeal.nD Cert.AdamColumnsRefIdeal.τ).loc Cert.AdamColumnsRefIdeal.main_arg2)
          ∧ r.2.mem ((c.tc : Thread Cert.AdamColumnsRefIdeal.nD Cert.AdamColumnsRefIdeal.τ).loc Cert.AdamColumnsRefIdeal.main_arg3) = m' ((c.tc : Thread Cert.AdamColumnsRefIdeal.nD Cert.AdamColumnsRefIdeal.τ).loc Cert.AdamColumnsRefIdeal.main_arg3)
          ∧ r.2.mem ((c.tc : Thread Cert.AdamColumnsRefIdeal.nD Cert.AdamColumnsRefIdeal.τ).loc Cert.AdamColumnsRefIdeal.main_arg4) = m' ((c.tc : Thread Cert.AdamColumnsRefIdeal.nD Cert.AdamColumnsRefIdeal.τ).loc Cert.AdamColumnsRefIdeal.main_arg4)
          ∧ r.2.mem ((c.tc : Thread Cert.AdamColumnsRefIdeal.nD Cert.AdamColumnsRefIdeal.τ).loc Cert.AdamColumnsRefIdeal.main_arg5) = m' ((c.tc : Thread Cert.AdamColumnsRefIdeal.nD Cert.AdamColumnsRefIdeal.τ).loc Cert.AdamColumnsRefIdeal.main_arg5))

def preserves_AdamPacked_AdamPackedIdeal : Prop :=
  True

def algebraic_AdamPackedIdeal_AdamPackedRefIdeal [hAdamPackedIdeal : Cert.AdamPackedIdeal.Facts] [hAdamPackedRefIdeal : Cert.AdamPackedRefIdeal.Facts] [hPre_chip_packed : Cert.Pre_chip_packed.Facts] : Prop :=
  ∀ (m : (ℓ : Loc Cert.AdamPackedIdeal.nD Cert.AdamPackedIdeal.τ Cert.AdamPackedIdeal.sig) → Buf (Elt Ideal) ℓ) (g : Dev Cert.AdamPackedIdeal.nD → PrngReg)
    (m' : (ℓ : Loc Cert.AdamPackedRefIdeal.nD Cert.AdamPackedRefIdeal.τ Cert.AdamPackedRefIdeal.sig) → Buf (Elt Ideal) ℓ) (g' : Dev Cert.AdamPackedRefIdeal.nD → PrngReg), Pre_AdamPackedIdeal m →
    (∀ c : Dev Cert.AdamPackedIdeal.nD,
      m' ((c.tc : Thread Cert.AdamPackedRefIdeal.nD Cert.AdamPackedRefIdeal.τ).loc Cert.AdamPackedRefIdeal.main_arg0) = m ((c.tc : Thread Cert.AdamPackedIdeal.nD Cert.AdamPackedIdeal.τ).loc Cert.AdamPackedIdeal.main_arg0)
      ∧ m' ((c.tc : Thread Cert.AdamPackedRefIdeal.nD Cert.AdamPackedRefIdeal.τ).loc Cert.AdamPackedRefIdeal.main_arg1) = m ((c.tc : Thread Cert.AdamPackedIdeal.nD Cert.AdamPackedIdeal.τ).loc Cert.AdamPackedIdeal.main_arg1)
      ∧ m' ((c.tc : Thread Cert.AdamPackedRefIdeal.nD Cert.AdamPackedRefIdeal.τ).loc Cert.AdamPackedRefIdeal.main_arg2) = m ((c.tc : Thread Cert.AdamPackedIdeal.nD Cert.AdamPackedIdeal.τ).loc Cert.AdamPackedIdeal.main_arg2)
      ∧ m' ((c.tc : Thread Cert.AdamPackedRefIdeal.nD Cert.AdamPackedRefIdeal.τ).loc Cert.AdamPackedRefIdeal.main_arg3) = m ((c.tc : Thread Cert.AdamPackedIdeal.nD Cert.AdamPackedIdeal.τ).loc Cert.AdamPackedIdeal.main_arg3)
      ∧ m' ((c.tc : Thread Cert.AdamPackedRefIdeal.nD Cert.AdamPackedRefIdeal.τ).loc Cert.AdamPackedRefIdeal.main_arg4) = m ((c.tc : Thread Cert.AdamPackedIdeal.nD Cert.AdamPackedIdeal.τ).loc Cert.AdamPackedIdeal.main_arg4)
      ∧ m' ((c.tc : Thread Cert.AdamPackedRefIdeal.nD Cert.AdamPackedRefIdeal.τ).loc Cert.AdamPackedRefIdeal.main_arg5) = m ((c.tc : Thread Cert.AdamPackedIdeal.nD Cert.AdamPackedIdeal.τ).loc Cert.AdamPackedIdeal.main_arg5)) →
    ∃ (v0 : (c : Dev Cert.AdamPackedIdeal.nD) → Buf (Elt Ideal) ((c.tc : Thread Cert.AdamPackedIdeal.nD Cert.AdamPackedIdeal.τ).loc Cert.AdamPackedIdeal.main_v0_0)) (v1 : (c : Dev Cert.AdamPackedIdeal.nD) → Buf (Elt Ideal) ((c.tc : Thread Cert.AdamPackedIdeal.nD Cert.AdamPackedIdeal.τ).loc Cert.AdamPackedIdeal.main_v0_1)) (v2 : (c : Dev Cert.AdamPackedIdeal.nD) → Buf (Elt Ideal) ((c.tc : Thread Cert.AdamPackedIdeal.nD Cert.AdamPackedIdeal.τ).loc Cert.AdamPackedIdeal.main_v0_2)) (v3 : (c : Dev Cert.AdamPackedIdeal.nD) → Buf (Elt Ideal) ((c.tc : Thread Cert.AdamPackedIdeal.nD Cert.AdamPackedIdeal.τ).loc Cert.AdamPackedIdeal.main_v0_3)),
      θ_run (Cert.AdamPackedIdeal.defs (F := Ideal)) (onTc (τ := Cert.AdamPackedIdeal.τ) (Cert.AdamPackedIdeal.main (F := Ideal))) ⟨m, fun _ => 0, g⟩ (fun r => ∀ c : Dev Cert.AdamPackedIdeal.nD,
          r.2.mem ((c.tc : Thread Cert.AdamPackedIdeal.nD Cert.AdamPackedIdeal.τ).loc Cert.AdamPackedIdeal.main_v0_0) = v0 c
          ∧ r.2.mem ((c.tc : Thread Cert.AdamPackedIdeal.nD Cert.AdamPackedIdeal.τ).loc Cert.AdamPackedIdeal.main_v0_1) = v1 c
          ∧ r.2.mem ((c.tc : Thread Cert.AdamPackedIdeal.nD Cert.AdamPackedIdeal.τ).loc Cert.AdamPackedIdeal.main_v0_2) = v2 c
          ∧ r.2.mem ((c.tc : Thread Cert.AdamPackedIdeal.nD Cert.AdamPackedIdeal.τ).loc Cert.AdamPackedIdeal.main_v0_3) = v3 c
          ∧ r.2.mem ((c.tc : Thread Cert.AdamPackedIdeal.nD Cert.AdamPackedIdeal.τ).loc Cert.AdamPackedIdeal.main_arg0) = m ((c.tc : Thread Cert.AdamPackedIdeal.nD Cert.AdamPackedIdeal.τ).loc Cert.AdamPackedIdeal.main_arg0)
          ∧ r.2.mem ((c.tc : Thread Cert.AdamPackedIdeal.nD Cert.AdamPackedIdeal.τ).loc Cert.AdamPackedIdeal.main_arg1) = m ((c.tc : Thread Cert.AdamPackedIdeal.nD Cert.AdamPackedIdeal.τ).loc Cert.AdamPackedIdeal.main_arg1)
          ∧ r.2.mem ((c.tc : Thread Cert.AdamPackedIdeal.nD Cert.AdamPackedIdeal.τ).loc Cert.AdamPackedIdeal.main_arg2) = m ((c.tc : Thread Cert.AdamPackedIdeal.nD Cert.AdamPackedIdeal.τ).loc Cert.AdamPackedIdeal.main_arg2)
          ∧ r.2.mem ((c.tc : Thread Cert.AdamPackedIdeal.nD Cert.AdamPackedIdeal.τ).loc Cert.AdamPackedIdeal.main_arg3) = m ((c.tc : Thread Cert.AdamPackedIdeal.nD Cert.AdamPackedIdeal.τ).loc Cert.AdamPackedIdeal.main_arg3)
          ∧ r.2.mem ((c.tc : Thread Cert.AdamPackedIdeal.nD Cert.AdamPackedIdeal.τ).loc Cert.AdamPackedIdeal.main_arg4) = m ((c.tc : Thread Cert.AdamPackedIdeal.nD Cert.AdamPackedIdeal.τ).loc Cert.AdamPackedIdeal.main_arg4)
          ∧ r.2.mem ((c.tc : Thread Cert.AdamPackedIdeal.nD Cert.AdamPackedIdeal.τ).loc Cert.AdamPackedIdeal.main_arg5) = m ((c.tc : Thread Cert.AdamPackedIdeal.nD Cert.AdamPackedIdeal.τ).loc Cert.AdamPackedIdeal.main_arg5))
      ∧ θ_run (Cert.AdamPackedRefIdeal.defs (F := Ideal)) (onTc (τ := Cert.AdamPackedRefIdeal.τ) (Cert.AdamPackedRefIdeal.main (F := Ideal))) ⟨m', fun _ => 0, g'⟩ (fun r => ∀ c : Dev Cert.AdamPackedRefIdeal.nD,
          r.2.mem ((c.tc : Thread Cert.AdamPackedRefIdeal.nD Cert.AdamPackedRefIdeal.τ).loc Cert.AdamPackedRefIdeal.main_v24) = v0 c
          ∧ r.2.mem ((c.tc : Thread Cert.AdamPackedRefIdeal.nD Cert.AdamPackedRefIdeal.τ).loc Cert.AdamPackedRefIdeal.main_v48) = v1 c
          ∧ r.2.mem ((c.tc : Thread Cert.AdamPackedRefIdeal.nD Cert.AdamPackedRefIdeal.τ).loc Cert.AdamPackedRefIdeal.main_v29) = v2 c
          ∧ r.2.mem ((c.tc : Thread Cert.AdamPackedRefIdeal.nD Cert.AdamPackedRefIdeal.τ).loc Cert.AdamPackedRefIdeal.main_v35) = v3 c
          ∧ r.2.mem ((c.tc : Thread Cert.AdamPackedRefIdeal.nD Cert.AdamPackedRefIdeal.τ).loc Cert.AdamPackedRefIdeal.main_arg0) = m' ((c.tc : Thread Cert.AdamPackedRefIdeal.nD Cert.AdamPackedRefIdeal.τ).loc Cert.AdamPackedRefIdeal.main_arg0)
          ∧ r.2.mem ((c.tc : Thread Cert.AdamPackedRefIdeal.nD Cert.AdamPackedRefIdeal.τ).loc Cert.AdamPackedRefIdeal.main_arg1) = m' ((c.tc : Thread Cert.AdamPackedRefIdeal.nD Cert.AdamPackedRefIdeal.τ).loc Cert.AdamPackedRefIdeal.main_arg1)
          ∧ r.2.mem ((c.tc : Thread Cert.AdamPackedRefIdeal.nD Cert.AdamPackedRefIdeal.τ).loc Cert.AdamPackedRefIdeal.main_arg2) = m' ((c.tc : Thread Cert.AdamPackedRefIdeal.nD Cert.AdamPackedRefIdeal.τ).loc Cert.AdamPackedRefIdeal.main_arg2)
          ∧ r.2.mem ((c.tc : Thread Cert.AdamPackedRefIdeal.nD Cert.AdamPackedRefIdeal.τ).loc Cert.AdamPackedRefIdeal.main_arg3) = m' ((c.tc : Thread Cert.AdamPackedRefIdeal.nD Cert.AdamPackedRefIdeal.τ).loc Cert.AdamPackedRefIdeal.main_arg3)
          ∧ r.2.mem ((c.tc : Thread Cert.AdamPackedRefIdeal.nD Cert.AdamPackedRefIdeal.τ).loc Cert.AdamPackedRefIdeal.main_arg4) = m' ((c.tc : Thread Cert.AdamPackedRefIdeal.nD Cert.AdamPackedRefIdeal.τ).loc Cert.AdamPackedRefIdeal.main_arg4)
          ∧ r.2.mem ((c.tc : Thread Cert.AdamPackedRefIdeal.nD Cert.AdamPackedRefIdeal.τ).loc Cert.AdamPackedRefIdeal.main_arg5) = m' ((c.tc : Thread Cert.AdamPackedRefIdeal.nD Cert.AdamPackedRefIdeal.τ).loc Cert.AdamPackedRefIdeal.main_arg5))

def preserves_AdamGateFirst_AdamGateFirstIdeal : Prop :=
  True

def algebraic_AdamGateFirstIdeal_AdamGateFirstRefIdeal_on_first_layer_gate [hAdamGateFirstIdeal : Cert.AdamGateFirstIdeal.Facts] [hAdamGateFirstRefIdeal : Cert.AdamGateFirstRefIdeal.Facts] [hPre_chip_gate : Cert.Pre_chip_gate.Facts] [hOn_first_layer_gate : Cert.On_first_layer_gate.Facts] : Prop :=
  ∀ (m : (ℓ : Loc Cert.AdamGateFirstIdeal.nD Cert.AdamGateFirstIdeal.τ Cert.AdamGateFirstIdeal.sig) → Buf (Elt Ideal) ℓ) (g : Dev Cert.AdamGateFirstIdeal.nD → PrngReg)
    (m' : (ℓ : Loc Cert.AdamGateFirstRefIdeal.nD Cert.AdamGateFirstRefIdeal.τ Cert.AdamGateFirstRefIdeal.sig) → Buf (Elt Ideal) ℓ) (g' : Dev Cert.AdamGateFirstRefIdeal.nD → PrngReg), Pre_AdamGateFirstIdeal m →
    (∀ c : Dev Cert.AdamGateFirstIdeal.nD,
      m' ((c.tc : Thread Cert.AdamGateFirstRefIdeal.nD Cert.AdamGateFirstRefIdeal.τ).loc Cert.AdamGateFirstRefIdeal.main_arg0) = m ((c.tc : Thread Cert.AdamGateFirstIdeal.nD Cert.AdamGateFirstIdeal.τ).loc Cert.AdamGateFirstIdeal.main_arg0)
      ∧ m' ((c.tc : Thread Cert.AdamGateFirstRefIdeal.nD Cert.AdamGateFirstRefIdeal.τ).loc Cert.AdamGateFirstRefIdeal.main_arg1) = m ((c.tc : Thread Cert.AdamGateFirstIdeal.nD Cert.AdamGateFirstIdeal.τ).loc Cert.AdamGateFirstIdeal.main_arg1)
      ∧ m' ((c.tc : Thread Cert.AdamGateFirstRefIdeal.nD Cert.AdamGateFirstRefIdeal.τ).loc Cert.AdamGateFirstRefIdeal.main_arg2) = m ((c.tc : Thread Cert.AdamGateFirstIdeal.nD Cert.AdamGateFirstIdeal.τ).loc Cert.AdamGateFirstIdeal.main_arg2)
      ∧ m' ((c.tc : Thread Cert.AdamGateFirstRefIdeal.nD Cert.AdamGateFirstRefIdeal.τ).loc Cert.AdamGateFirstRefIdeal.main_arg3) = m ((c.tc : Thread Cert.AdamGateFirstIdeal.nD Cert.AdamGateFirstIdeal.τ).loc Cert.AdamGateFirstIdeal.main_arg3)
      ∧ m' ((c.tc : Thread Cert.AdamGateFirstRefIdeal.nD Cert.AdamGateFirstRefIdeal.τ).loc Cert.AdamGateFirstRefIdeal.main_arg4) = m ((c.tc : Thread Cert.AdamGateFirstIdeal.nD Cert.AdamGateFirstIdeal.τ).loc Cert.AdamGateFirstIdeal.main_arg4)
      ∧ m' ((c.tc : Thread Cert.AdamGateFirstRefIdeal.nD Cert.AdamGateFirstRefIdeal.τ).loc Cert.AdamGateFirstRefIdeal.main_arg5) = m ((c.tc : Thread Cert.AdamGateFirstIdeal.nD Cert.AdamGateFirstIdeal.τ).loc Cert.AdamGateFirstIdeal.main_arg5)) →
    ∃ (v0 : (c : Dev Cert.AdamGateFirstIdeal.nD) → Buf (Elt Ideal) ((c.tc : Thread Cert.AdamGateFirstIdeal.nD Cert.AdamGateFirstIdeal.τ).loc Cert.AdamGateFirstIdeal.main_v0_0)) (v1 : (c : Dev Cert.AdamGateFirstIdeal.nD) → Buf (Elt Ideal) ((c.tc : Thread Cert.AdamGateFirstIdeal.nD Cert.AdamGateFirstIdeal.τ).loc Cert.AdamGateFirstIdeal.main_v0_1)) (v2 : (c : Dev Cert.AdamGateFirstIdeal.nD) → Buf (Elt Ideal) ((c.tc : Thread Cert.AdamGateFirstIdeal.nD Cert.AdamGateFirstIdeal.τ).loc Cert.AdamGateFirstIdeal.main_v0_2)) (v3 : (c : Dev Cert.AdamGateFirstIdeal.nD) → Buf (Elt Ideal) ((c.tc : Thread Cert.AdamGateFirstIdeal.nD Cert.AdamGateFirstIdeal.τ).loc Cert.AdamGateFirstIdeal.main_v0_3)),
      θ_run (Cert.AdamGateFirstIdeal.defs (F := Ideal)) (onTc (τ := Cert.AdamGateFirstIdeal.τ) (Cert.AdamGateFirstIdeal.main (F := Ideal))) ⟨m, fun _ => 0, g⟩ (fun r => ∀ c : Dev Cert.AdamGateFirstIdeal.nD,
          (∀ i : (⟨3, ![2, 2048, 1408]⟩ : Shape).Idx, (Cert.On_first_layer_gate.fn (F := Ideal) (m ((c.tc : Thread Cert.AdamGateFirstIdeal.nD Cert.AdamGateFirstIdeal.τ).loc Cert.AdamGateFirstIdeal.main_arg0)) (m ((c.tc : Thread Cert.AdamGateFirstIdeal.nD Cert.AdamGateFirstIdeal.τ).loc Cert.AdamGateFirstIdeal.main_arg1)) (m ((c.tc : Thread Cert.AdamGateFirstIdeal.nD Cert.AdamGateFirstIdeal.τ).loc Cert.AdamGateFirstIdeal.main_arg2)) (m ((c.tc : Thread Cert.AdamGateFirstIdeal.nD Cert.AdamGateFirstIdeal.τ).loc Cert.AdamGateFirstIdeal.main_arg3)) (m ((c.tc : Thread Cert.AdamGateFirstIdeal.nD Cert.AdamGateFirstIdeal.τ).loc Cert.AdamGateFirstIdeal.main_arg4)) (m ((c.tc : Thread Cert.AdamGateFirstIdeal.nD Cert.AdamGateFirstIdeal.τ).loc Cert.AdamGateFirstIdeal.main_arg5))).1 i = 1#1 → r.2.mem ((c.tc : Thread Cert.AdamGateFirstIdeal.nD Cert.AdamGateFirstIdeal.τ).loc Cert.AdamGateFirstIdeal.main_v0_0) i = v0 c i)
          ∧ (∀ i : (⟨3, ![2, 2048, 1408]⟩ : Shape).Idx, (Cert.On_first_layer_gate.fn (F := Ideal) (m ((c.tc : Thread Cert.AdamGateFirstIdeal.nD Cert.AdamGateFirstIdeal.τ).loc Cert.AdamGateFirstIdeal.main_arg0)) (m ((c.tc : Thread Cert.AdamGateFirstIdeal.nD Cert.AdamGateFirstIdeal.τ).loc Cert.AdamGateFirstIdeal.main_arg1)) (m ((c.tc : Thread Cert.AdamGateFirstIdeal.nD Cert.AdamGateFirstIdeal.τ).loc Cert.AdamGateFirstIdeal.main_arg2)) (m ((c.tc : Thread Cert.AdamGateFirstIdeal.nD Cert.AdamGateFirstIdeal.τ).loc Cert.AdamGateFirstIdeal.main_arg3)) (m ((c.tc : Thread Cert.AdamGateFirstIdeal.nD Cert.AdamGateFirstIdeal.τ).loc Cert.AdamGateFirstIdeal.main_arg4)) (m ((c.tc : Thread Cert.AdamGateFirstIdeal.nD Cert.AdamGateFirstIdeal.τ).loc Cert.AdamGateFirstIdeal.main_arg5))).2.1 i = 1#1 → r.2.mem ((c.tc : Thread Cert.AdamGateFirstIdeal.nD Cert.AdamGateFirstIdeal.τ).loc Cert.AdamGateFirstIdeal.main_v0_1) i = v1 c i)
          ∧ (∀ i : (⟨3, ![2, 2048, 1408]⟩ : Shape).Idx, (Cert.On_first_layer_gate.fn (F := Ideal) (m ((c.tc : Thread Cert.AdamGateFirstIdeal.nD Cert.AdamGateFirstIdeal.τ).loc Cert.AdamGateFirstIdeal.main_arg0)) (m ((c.tc : Thread Cert.AdamGateFirstIdeal.nD Cert.AdamGateFirstIdeal.τ).loc Cert.AdamGateFirstIdeal.main_arg1)) (m ((c.tc : Thread Cert.AdamGateFirstIdeal.nD Cert.AdamGateFirstIdeal.τ).loc Cert.AdamGateFirstIdeal.main_arg2)) (m ((c.tc : Thread Cert.AdamGateFirstIdeal.nD Cert.AdamGateFirstIdeal.τ).loc Cert.AdamGateFirstIdeal.main_arg3)) (m ((c.tc : Thread Cert.AdamGateFirstIdeal.nD Cert.AdamGateFirstIdeal.τ).loc Cert.AdamGateFirstIdeal.main_arg4)) (m ((c.tc : Thread Cert.AdamGateFirstIdeal.nD Cert.AdamGateFirstIdeal.τ).loc Cert.AdamGateFirstIdeal.main_arg5))).2.2.1 i = 1#1 → r.2.mem ((c.tc : Thread Cert.AdamGateFirstIdeal.nD Cert.AdamGateFirstIdeal.τ).loc Cert.AdamGateFirstIdeal.main_v0_2) i = v2 c i)
          ∧ (∀ i : (⟨3, ![2, 2048, 1408]⟩ : Shape).Idx, (Cert.On_first_layer_gate.fn (F := Ideal) (m ((c.tc : Thread Cert.AdamGateFirstIdeal.nD Cert.AdamGateFirstIdeal.τ).loc Cert.AdamGateFirstIdeal.main_arg0)) (m ((c.tc : Thread Cert.AdamGateFirstIdeal.nD Cert.AdamGateFirstIdeal.τ).loc Cert.AdamGateFirstIdeal.main_arg1)) (m ((c.tc : Thread Cert.AdamGateFirstIdeal.nD Cert.AdamGateFirstIdeal.τ).loc Cert.AdamGateFirstIdeal.main_arg2)) (m ((c.tc : Thread Cert.AdamGateFirstIdeal.nD Cert.AdamGateFirstIdeal.τ).loc Cert.AdamGateFirstIdeal.main_arg3)) (m ((c.tc : Thread Cert.AdamGateFirstIdeal.nD Cert.AdamGateFirstIdeal.τ).loc Cert.AdamGateFirstIdeal.main_arg4)) (m ((c.tc : Thread Cert.AdamGateFirstIdeal.nD Cert.AdamGateFirstIdeal.τ).loc Cert.AdamGateFirstIdeal.main_arg5))).2.2.2 i = 1#1 → r.2.mem ((c.tc : Thread Cert.AdamGateFirstIdeal.nD Cert.AdamGateFirstIdeal.τ).loc Cert.AdamGateFirstIdeal.main_v0_3) i = v3 c i)
          ∧ r.2.mem ((c.tc : Thread Cert.AdamGateFirstIdeal.nD Cert.AdamGateFirstIdeal.τ).loc Cert.AdamGateFirstIdeal.main_arg0) = m ((c.tc : Thread Cert.AdamGateFirstIdeal.nD Cert.AdamGateFirstIdeal.τ).loc Cert.AdamGateFirstIdeal.main_arg0)
          ∧ r.2.mem ((c.tc : Thread Cert.AdamGateFirstIdeal.nD Cert.AdamGateFirstIdeal.τ).loc Cert.AdamGateFirstIdeal.main_arg1) = m ((c.tc : Thread Cert.AdamGateFirstIdeal.nD Cert.AdamGateFirstIdeal.τ).loc Cert.AdamGateFirstIdeal.main_arg1)
          ∧ r.2.mem ((c.tc : Thread Cert.AdamGateFirstIdeal.nD Cert.AdamGateFirstIdeal.τ).loc Cert.AdamGateFirstIdeal.main_arg2) = m ((c.tc : Thread Cert.AdamGateFirstIdeal.nD Cert.AdamGateFirstIdeal.τ).loc Cert.AdamGateFirstIdeal.main_arg2)
          ∧ r.2.mem ((c.tc : Thread Cert.AdamGateFirstIdeal.nD Cert.AdamGateFirstIdeal.τ).loc Cert.AdamGateFirstIdeal.main_arg3) = m ((c.tc : Thread Cert.AdamGateFirstIdeal.nD Cert.AdamGateFirstIdeal.τ).loc Cert.AdamGateFirstIdeal.main_arg3)
          ∧ r.2.mem ((c.tc : Thread Cert.AdamGateFirstIdeal.nD Cert.AdamGateFirstIdeal.τ).loc Cert.AdamGateFirstIdeal.main_arg4) = m ((c.tc : Thread Cert.AdamGateFirstIdeal.nD Cert.AdamGateFirstIdeal.τ).loc Cert.AdamGateFirstIdeal.main_arg4)
          ∧ r.2.mem ((c.tc : Thread Cert.AdamGateFirstIdeal.nD Cert.AdamGateFirstIdeal.τ).loc Cert.AdamGateFirstIdeal.main_arg5) = m ((c.tc : Thread Cert.AdamGateFirstIdeal.nD Cert.AdamGateFirstIdeal.τ).loc Cert.AdamGateFirstIdeal.main_arg5))
      ∧ θ_run (Cert.AdamGateFirstRefIdeal.defs (F := Ideal)) (onTc (τ := Cert.AdamGateFirstRefIdeal.τ) (Cert.AdamGateFirstRefIdeal.main (F := Ideal))) ⟨m', fun _ => 0, g'⟩ (fun r => ∀ c : Dev Cert.AdamGateFirstRefIdeal.nD,
          (∀ i : (⟨3, ![2, 2048, 1408]⟩ : Shape).Idx, (Cert.On_first_layer_gate.fn (F := Ideal) (m ((c.tc : Thread Cert.AdamGateFirstIdeal.nD Cert.AdamGateFirstIdeal.τ).loc Cert.AdamGateFirstIdeal.main_arg0)) (m ((c.tc : Thread Cert.AdamGateFirstIdeal.nD Cert.AdamGateFirstIdeal.τ).loc Cert.AdamGateFirstIdeal.main_arg1)) (m ((c.tc : Thread Cert.AdamGateFirstIdeal.nD Cert.AdamGateFirstIdeal.τ).loc Cert.AdamGateFirstIdeal.main_arg2)) (m ((c.tc : Thread Cert.AdamGateFirstIdeal.nD Cert.AdamGateFirstIdeal.τ).loc Cert.AdamGateFirstIdeal.main_arg3)) (m ((c.tc : Thread Cert.AdamGateFirstIdeal.nD Cert.AdamGateFirstIdeal.τ).loc Cert.AdamGateFirstIdeal.main_arg4)) (m ((c.tc : Thread Cert.AdamGateFirstIdeal.nD Cert.AdamGateFirstIdeal.τ).loc Cert.AdamGateFirstIdeal.main_arg5))).1 i = 1#1 → r.2.mem ((c.tc : Thread Cert.AdamGateFirstRefIdeal.nD Cert.AdamGateFirstRefIdeal.τ).loc Cert.AdamGateFirstRefIdeal.main_v60) i = v0 c i)
          ∧ (∀ i : (⟨3, ![2, 2048, 1408]⟩ : Shape).Idx, (Cert.On_first_layer_gate.fn (F := Ideal) (m ((c.tc : Thread Cert.AdamGateFirstIdeal.nD Cert.AdamGateFirstIdeal.τ).loc Cert.AdamGateFirstIdeal.main_arg0)) (m ((c.tc : Thread Cert.AdamGateFirstIdeal.nD Cert.AdamGateFirstIdeal.τ).loc Cert.AdamGateFirstIdeal.main_arg1)) (m ((c.tc : Thread Cert.AdamGateFirstIdeal.nD Cert.AdamGateFirstIdeal.τ).loc Cert.AdamGateFirstIdeal.main_arg2)) (m ((c.tc : Thread Cert.AdamGateFirstIdeal.nD Cert.AdamGateFirstIdeal.τ).loc Cert.AdamGateFirstIdeal.main_arg3)) (m ((c.tc : Thread Cert.AdamGateFirstIdeal.nD Cert.AdamGateFirstIdeal.τ).loc Cert.AdamGateFirstIdeal.main_arg4)) (m ((c.tc : Thread Cert.AdamGateFirstIdeal.nD Cert.AdamGateFirstIdeal.τ).loc Cert.AdamGateFirstIdeal.main_arg5))).2.1 i = 1#1 → r.2.mem ((c.tc : Thread Cert.AdamGateFirstRefIdeal.nD Cert.AdamGateFirstRefIdeal.τ).loc Cert.AdamGateFirstRefIdeal.main_v64) i = v1 c i)
          ∧ (∀ i : (⟨3, ![2, 2048, 1408]⟩ : Shape).Idx, (Cert.On_first_layer_gate.fn (F := Ideal) (m ((c.tc : Thread Cert.AdamGateFirstIdeal.nD Cert.AdamGateFirstIdeal.τ).loc Cert.AdamGateFirstIdeal.main_arg0)) (m ((c.tc : Thread Cert.AdamGateFirstIdeal.nD Cert.AdamGateFirstIdeal.τ).loc Cert.AdamGateFirstIdeal.main_arg1)) (m ((c.tc : Thread Cert.AdamGateFirstIdeal.nD Cert.AdamGateFirstIdeal.τ).loc Cert.AdamGateFirstIdeal.main_arg2)) (m ((c.tc : Thread Cert.AdamGateFirstIdeal.nD Cert.AdamGateFirstIdeal.τ).loc Cert.AdamGateFirstIdeal.main_arg3)) (m ((c.tc : Thread Cert.AdamGateFirstIdeal.nD Cert.AdamGateFirstIdeal.τ).loc Cert.AdamGateFirstIdeal.main_arg4)) (m ((c.tc : Thread Cert.AdamGateFirstIdeal.nD Cert.AdamGateFirstIdeal.τ).loc Cert.AdamGateFirstIdeal.main_arg5))).2.2.1 i = 1#1 → r.2.mem ((c.tc : Thread Cert.AdamGateFirstRefIdeal.nD Cert.AdamGateFirstRefIdeal.τ).loc Cert.AdamGateFirstRefIdeal.main_v68) i = v2 c i)
          ∧ (∀ i : (⟨3, ![2, 2048, 1408]⟩ : Shape).Idx, (Cert.On_first_layer_gate.fn (F := Ideal) (m ((c.tc : Thread Cert.AdamGateFirstIdeal.nD Cert.AdamGateFirstIdeal.τ).loc Cert.AdamGateFirstIdeal.main_arg0)) (m ((c.tc : Thread Cert.AdamGateFirstIdeal.nD Cert.AdamGateFirstIdeal.τ).loc Cert.AdamGateFirstIdeal.main_arg1)) (m ((c.tc : Thread Cert.AdamGateFirstIdeal.nD Cert.AdamGateFirstIdeal.τ).loc Cert.AdamGateFirstIdeal.main_arg2)) (m ((c.tc : Thread Cert.AdamGateFirstIdeal.nD Cert.AdamGateFirstIdeal.τ).loc Cert.AdamGateFirstIdeal.main_arg3)) (m ((c.tc : Thread Cert.AdamGateFirstIdeal.nD Cert.AdamGateFirstIdeal.τ).loc Cert.AdamGateFirstIdeal.main_arg4)) (m ((c.tc : Thread Cert.AdamGateFirstIdeal.nD Cert.AdamGateFirstIdeal.τ).loc Cert.AdamGateFirstIdeal.main_arg5))).2.2.2 i = 1#1 → r.2.mem ((c.tc : Thread Cert.AdamGateFirstRefIdeal.nD Cert.AdamGateFirstRefIdeal.τ).loc Cert.AdamGateFirstRefIdeal.main_v72) i = v3 c i)
          ∧ r.2.mem ((c.tc : Thread Cert.AdamGateFirstRefIdeal.nD Cert.AdamGateFirstRefIdeal.τ).loc Cert.AdamGateFirstRefIdeal.main_arg0) = m' ((c.tc : Thread Cert.AdamGateFirstRefIdeal.nD Cert.AdamGateFirstRefIdeal.τ).loc Cert.AdamGateFirstRefIdeal.main_arg0)
          ∧ r.2.mem ((c.tc : Thread Cert.AdamGateFirstRefIdeal.nD Cert.AdamGateFirstRefIdeal.τ).loc Cert.AdamGateFirstRefIdeal.main_arg1) = m' ((c.tc : Thread Cert.AdamGateFirstRefIdeal.nD Cert.AdamGateFirstRefIdeal.τ).loc Cert.AdamGateFirstRefIdeal.main_arg1)
          ∧ r.2.mem ((c.tc : Thread Cert.AdamGateFirstRefIdeal.nD Cert.AdamGateFirstRefIdeal.τ).loc Cert.AdamGateFirstRefIdeal.main_arg2) = m' ((c.tc : Thread Cert.AdamGateFirstRefIdeal.nD Cert.AdamGateFirstRefIdeal.τ).loc Cert.AdamGateFirstRefIdeal.main_arg2)
          ∧ r.2.mem ((c.tc : Thread Cert.AdamGateFirstRefIdeal.nD Cert.AdamGateFirstRefIdeal.τ).loc Cert.AdamGateFirstRefIdeal.main_arg3) = m' ((c.tc : Thread Cert.AdamGateFirstRefIdeal.nD Cert.AdamGateFirstRefIdeal.τ).loc Cert.AdamGateFirstRefIdeal.main_arg3)
          ∧ r.2.mem ((c.tc : Thread Cert.AdamGateFirstRefIdeal.nD Cert.AdamGateFirstRefIdeal.τ).loc Cert.AdamGateFirstRefIdeal.main_arg4) = m' ((c.tc : Thread Cert.AdamGateFirstRefIdeal.nD Cert.AdamGateFirstRefIdeal.τ).loc Cert.AdamGateFirstRefIdeal.main_arg4)
          ∧ r.2.mem ((c.tc : Thread Cert.AdamGateFirstRefIdeal.nD Cert.AdamGateFirstRefIdeal.τ).loc Cert.AdamGateFirstRefIdeal.main_arg5) = m' ((c.tc : Thread Cert.AdamGateFirstRefIdeal.nD Cert.AdamGateFirstRefIdeal.τ).loc Cert.AdamGateFirstRefIdeal.main_arg5))

def preserves_AdamGateSecond_AdamGateSecondIdeal : Prop :=
  True

def algebraic_AdamGateSecondIdeal_AdamGateSecondRefIdeal [hAdamGateSecondIdeal : Cert.AdamGateSecondIdeal.Facts] [hAdamGateSecondRefIdeal : Cert.AdamGateSecondRefIdeal.Facts] [hPre_chip_gate_second : Cert.Pre_chip_gate_second.Facts] : Prop :=
  ∀ (m : (ℓ : Loc Cert.AdamGateSecondIdeal.nD Cert.AdamGateSecondIdeal.τ Cert.AdamGateSecondIdeal.sig) → Buf (Elt Ideal) ℓ) (g : Dev Cert.AdamGateSecondIdeal.nD → PrngReg)
    (m' : (ℓ : Loc Cert.AdamGateSecondRefIdeal.nD Cert.AdamGateSecondRefIdeal.τ Cert.AdamGateSecondRefIdeal.sig) → Buf (Elt Ideal) ℓ) (g' : Dev Cert.AdamGateSecondRefIdeal.nD → PrngReg), Pre_AdamGateSecondIdeal m →
    (∀ c : Dev Cert.AdamGateSecondIdeal.nD,
      m' ((c.tc : Thread Cert.AdamGateSecondRefIdeal.nD Cert.AdamGateSecondRefIdeal.τ).loc Cert.AdamGateSecondRefIdeal.main_arg0) = m ((c.tc : Thread Cert.AdamGateSecondIdeal.nD Cert.AdamGateSecondIdeal.τ).loc Cert.AdamGateSecondIdeal.main_arg0)
      ∧ m' ((c.tc : Thread Cert.AdamGateSecondRefIdeal.nD Cert.AdamGateSecondRefIdeal.τ).loc Cert.AdamGateSecondRefIdeal.main_arg1) = m ((c.tc : Thread Cert.AdamGateSecondIdeal.nD Cert.AdamGateSecondIdeal.τ).loc Cert.AdamGateSecondIdeal.main_arg1)
      ∧ m' ((c.tc : Thread Cert.AdamGateSecondRefIdeal.nD Cert.AdamGateSecondRefIdeal.τ).loc Cert.AdamGateSecondRefIdeal.main_arg2) = m ((c.tc : Thread Cert.AdamGateSecondIdeal.nD Cert.AdamGateSecondIdeal.τ).loc Cert.AdamGateSecondIdeal.main_arg2)
      ∧ m' ((c.tc : Thread Cert.AdamGateSecondRefIdeal.nD Cert.AdamGateSecondRefIdeal.τ).loc Cert.AdamGateSecondRefIdeal.main_arg3) = m ((c.tc : Thread Cert.AdamGateSecondIdeal.nD Cert.AdamGateSecondIdeal.τ).loc Cert.AdamGateSecondIdeal.main_arg3)
      ∧ m' ((c.tc : Thread Cert.AdamGateSecondRefIdeal.nD Cert.AdamGateSecondRefIdeal.τ).loc Cert.AdamGateSecondRefIdeal.main_arg4) = m ((c.tc : Thread Cert.AdamGateSecondIdeal.nD Cert.AdamGateSecondIdeal.τ).loc Cert.AdamGateSecondIdeal.main_arg4)
      ∧ m' ((c.tc : Thread Cert.AdamGateSecondRefIdeal.nD Cert.AdamGateSecondRefIdeal.τ).loc Cert.AdamGateSecondRefIdeal.main_arg5) = m ((c.tc : Thread Cert.AdamGateSecondIdeal.nD Cert.AdamGateSecondIdeal.τ).loc Cert.AdamGateSecondIdeal.main_arg5)
      ∧ m' ((c.tc : Thread Cert.AdamGateSecondRefIdeal.nD Cert.AdamGateSecondRefIdeal.τ).loc Cert.AdamGateSecondRefIdeal.main_arg6) = m ((c.tc : Thread Cert.AdamGateSecondIdeal.nD Cert.AdamGateSecondIdeal.τ).loc Cert.AdamGateSecondIdeal.main_arg6)
      ∧ m' ((c.tc : Thread Cert.AdamGateSecondRefIdeal.nD Cert.AdamGateSecondRefIdeal.τ).loc Cert.AdamGateSecondRefIdeal.main_arg7) = m ((c.tc : Thread Cert.AdamGateSecondIdeal.nD Cert.AdamGateSecondIdeal.τ).loc Cert.AdamGateSecondIdeal.main_arg7)
      ∧ m' ((c.tc : Thread Cert.AdamGateSecondRefIdeal.nD Cert.AdamGateSecondRefIdeal.τ).loc Cert.AdamGateSecondRefIdeal.main_arg8) = m ((c.tc : Thread Cert.AdamGateSecondIdeal.nD Cert.AdamGateSecondIdeal.τ).loc Cert.AdamGateSecondIdeal.main_arg8)
      ∧ m' ((c.tc : Thread Cert.AdamGateSecondRefIdeal.nD Cert.AdamGateSecondRefIdeal.τ).loc Cert.AdamGateSecondRefIdeal.main_arg9) = m ((c.tc : Thread Cert.AdamGateSecondIdeal.nD Cert.AdamGateSecondIdeal.τ).loc Cert.AdamGateSecondIdeal.main_arg9)) →
    ∃ (v0 : (c : Dev Cert.AdamGateSecondIdeal.nD) → Buf (Elt Ideal) ((c.tc : Thread Cert.AdamGateSecondIdeal.nD Cert.AdamGateSecondIdeal.τ).loc Cert.AdamGateSecondIdeal.main_v0_0)) (v1 : (c : Dev Cert.AdamGateSecondIdeal.nD) → Buf (Elt Ideal) ((c.tc : Thread Cert.AdamGateSecondIdeal.nD Cert.AdamGateSecondIdeal.τ).loc Cert.AdamGateSecondIdeal.main_v0_1)) (v2 : (c : Dev Cert.AdamGateSecondIdeal.nD) → Buf (Elt Ideal) ((c.tc : Thread Cert.AdamGateSecondIdeal.nD Cert.AdamGateSecondIdeal.τ).loc Cert.AdamGateSecondIdeal.main_v0_2)) (v3 : (c : Dev Cert.AdamGateSecondIdeal.nD) → Buf (Elt Ideal) ((c.tc : Thread Cert.AdamGateSecondIdeal.nD Cert.AdamGateSecondIdeal.τ).loc Cert.AdamGateSecondIdeal.main_v0_3)),
      θ_run (Cert.AdamGateSecondIdeal.defs (F := Ideal)) (onTc (τ := Cert.AdamGateSecondIdeal.τ) (Cert.AdamGateSecondIdeal.main (F := Ideal))) ⟨m, fun _ => 0, g⟩ (fun r => ∀ c : Dev Cert.AdamGateSecondIdeal.nD,
          r.2.mem ((c.tc : Thread Cert.AdamGateSecondIdeal.nD Cert.AdamGateSecondIdeal.τ).loc Cert.AdamGateSecondIdeal.main_v0_0) = v0 c
          ∧ r.2.mem ((c.tc : Thread Cert.AdamGateSecondIdeal.nD Cert.AdamGateSecondIdeal.τ).loc Cert.AdamGateSecondIdeal.main_v0_1) = v1 c
          ∧ r.2.mem ((c.tc : Thread Cert.AdamGateSecondIdeal.nD Cert.AdamGateSecondIdeal.τ).loc Cert.AdamGateSecondIdeal.main_v0_2) = v2 c
          ∧ r.2.mem ((c.tc : Thread Cert.AdamGateSecondIdeal.nD Cert.AdamGateSecondIdeal.τ).loc Cert.AdamGateSecondIdeal.main_v0_3) = v3 c
          ∧ r.2.mem ((c.tc : Thread Cert.AdamGateSecondIdeal.nD Cert.AdamGateSecondIdeal.τ).loc Cert.AdamGateSecondIdeal.main_arg0) = m ((c.tc : Thread Cert.AdamGateSecondIdeal.nD Cert.AdamGateSecondIdeal.τ).loc Cert.AdamGateSecondIdeal.main_arg0)
          ∧ r.2.mem ((c.tc : Thread Cert.AdamGateSecondIdeal.nD Cert.AdamGateSecondIdeal.τ).loc Cert.AdamGateSecondIdeal.main_arg1) = m ((c.tc : Thread Cert.AdamGateSecondIdeal.nD Cert.AdamGateSecondIdeal.τ).loc Cert.AdamGateSecondIdeal.main_arg1)
          ∧ r.2.mem ((c.tc : Thread Cert.AdamGateSecondIdeal.nD Cert.AdamGateSecondIdeal.τ).loc Cert.AdamGateSecondIdeal.main_arg2) = m ((c.tc : Thread Cert.AdamGateSecondIdeal.nD Cert.AdamGateSecondIdeal.τ).loc Cert.AdamGateSecondIdeal.main_arg2)
          ∧ r.2.mem ((c.tc : Thread Cert.AdamGateSecondIdeal.nD Cert.AdamGateSecondIdeal.τ).loc Cert.AdamGateSecondIdeal.main_arg3) = m ((c.tc : Thread Cert.AdamGateSecondIdeal.nD Cert.AdamGateSecondIdeal.τ).loc Cert.AdamGateSecondIdeal.main_arg3)
          ∧ r.2.mem ((c.tc : Thread Cert.AdamGateSecondIdeal.nD Cert.AdamGateSecondIdeal.τ).loc Cert.AdamGateSecondIdeal.main_arg4) = m ((c.tc : Thread Cert.AdamGateSecondIdeal.nD Cert.AdamGateSecondIdeal.τ).loc Cert.AdamGateSecondIdeal.main_arg4)
          ∧ r.2.mem ((c.tc : Thread Cert.AdamGateSecondIdeal.nD Cert.AdamGateSecondIdeal.τ).loc Cert.AdamGateSecondIdeal.main_arg5) = m ((c.tc : Thread Cert.AdamGateSecondIdeal.nD Cert.AdamGateSecondIdeal.τ).loc Cert.AdamGateSecondIdeal.main_arg5)
          ∧ r.2.mem ((c.tc : Thread Cert.AdamGateSecondIdeal.nD Cert.AdamGateSecondIdeal.τ).loc Cert.AdamGateSecondIdeal.main_arg6) = m ((c.tc : Thread Cert.AdamGateSecondIdeal.nD Cert.AdamGateSecondIdeal.τ).loc Cert.AdamGateSecondIdeal.main_arg6)
          ∧ r.2.mem ((c.tc : Thread Cert.AdamGateSecondIdeal.nD Cert.AdamGateSecondIdeal.τ).loc Cert.AdamGateSecondIdeal.main_arg7) = m ((c.tc : Thread Cert.AdamGateSecondIdeal.nD Cert.AdamGateSecondIdeal.τ).loc Cert.AdamGateSecondIdeal.main_arg7)
          ∧ r.2.mem ((c.tc : Thread Cert.AdamGateSecondIdeal.nD Cert.AdamGateSecondIdeal.τ).loc Cert.AdamGateSecondIdeal.main_arg8) = m ((c.tc : Thread Cert.AdamGateSecondIdeal.nD Cert.AdamGateSecondIdeal.τ).loc Cert.AdamGateSecondIdeal.main_arg8)
          ∧ r.2.mem ((c.tc : Thread Cert.AdamGateSecondIdeal.nD Cert.AdamGateSecondIdeal.τ).loc Cert.AdamGateSecondIdeal.main_arg9) = m ((c.tc : Thread Cert.AdamGateSecondIdeal.nD Cert.AdamGateSecondIdeal.τ).loc Cert.AdamGateSecondIdeal.main_arg9))
      ∧ θ_run (Cert.AdamGateSecondRefIdeal.defs (F := Ideal)) (onTc (τ := Cert.AdamGateSecondRefIdeal.τ) (Cert.AdamGateSecondRefIdeal.main (F := Ideal))) ⟨m', fun _ => 0, g'⟩ (fun r => ∀ c : Dev Cert.AdamGateSecondRefIdeal.nD,
          r.2.mem ((c.tc : Thread Cert.AdamGateSecondRefIdeal.nD Cert.AdamGateSecondRefIdeal.τ).loc Cert.AdamGateSecondRefIdeal.main_v61) = v0 c
          ∧ r.2.mem ((c.tc : Thread Cert.AdamGateSecondRefIdeal.nD Cert.AdamGateSecondRefIdeal.τ).loc Cert.AdamGateSecondRefIdeal.main_v66) = v1 c
          ∧ r.2.mem ((c.tc : Thread Cert.AdamGateSecondRefIdeal.nD Cert.AdamGateSecondRefIdeal.τ).loc Cert.AdamGateSecondRefIdeal.main_v71) = v2 c
          ∧ r.2.mem ((c.tc : Thread Cert.AdamGateSecondRefIdeal.nD Cert.AdamGateSecondRefIdeal.τ).loc Cert.AdamGateSecondRefIdeal.main_v76) = v3 c
          ∧ r.2.mem ((c.tc : Thread Cert.AdamGateSecondRefIdeal.nD Cert.AdamGateSecondRefIdeal.τ).loc Cert.AdamGateSecondRefIdeal.main_arg0) = m' ((c.tc : Thread Cert.AdamGateSecondRefIdeal.nD Cert.AdamGateSecondRefIdeal.τ).loc Cert.AdamGateSecondRefIdeal.main_arg0)
          ∧ r.2.mem ((c.tc : Thread Cert.AdamGateSecondRefIdeal.nD Cert.AdamGateSecondRefIdeal.τ).loc Cert.AdamGateSecondRefIdeal.main_arg1) = m' ((c.tc : Thread Cert.AdamGateSecondRefIdeal.nD Cert.AdamGateSecondRefIdeal.τ).loc Cert.AdamGateSecondRefIdeal.main_arg1)
          ∧ r.2.mem ((c.tc : Thread Cert.AdamGateSecondRefIdeal.nD Cert.AdamGateSecondRefIdeal.τ).loc Cert.AdamGateSecondRefIdeal.main_arg2) = m' ((c.tc : Thread Cert.AdamGateSecondRefIdeal.nD Cert.AdamGateSecondRefIdeal.τ).loc Cert.AdamGateSecondRefIdeal.main_arg2)
          ∧ r.2.mem ((c.tc : Thread Cert.AdamGateSecondRefIdeal.nD Cert.AdamGateSecondRefIdeal.τ).loc Cert.AdamGateSecondRefIdeal.main_arg3) = m' ((c.tc : Thread Cert.AdamGateSecondRefIdeal.nD Cert.AdamGateSecondRefIdeal.τ).loc Cert.AdamGateSecondRefIdeal.main_arg3)
          ∧ r.2.mem ((c.tc : Thread Cert.AdamGateSecondRefIdeal.nD Cert.AdamGateSecondRefIdeal.τ).loc Cert.AdamGateSecondRefIdeal.main_arg4) = m' ((c.tc : Thread Cert.AdamGateSecondRefIdeal.nD Cert.AdamGateSecondRefIdeal.τ).loc Cert.AdamGateSecondRefIdeal.main_arg4)
          ∧ r.2.mem ((c.tc : Thread Cert.AdamGateSecondRefIdeal.nD Cert.AdamGateSecondRefIdeal.τ).loc Cert.AdamGateSecondRefIdeal.main_arg5) = m' ((c.tc : Thread Cert.AdamGateSecondRefIdeal.nD Cert.AdamGateSecondRefIdeal.τ).loc Cert.AdamGateSecondRefIdeal.main_arg5)
          ∧ r.2.mem ((c.tc : Thread Cert.AdamGateSecondRefIdeal.nD Cert.AdamGateSecondRefIdeal.τ).loc Cert.AdamGateSecondRefIdeal.main_arg6) = m' ((c.tc : Thread Cert.AdamGateSecondRefIdeal.nD Cert.AdamGateSecondRefIdeal.τ).loc Cert.AdamGateSecondRefIdeal.main_arg6)
          ∧ r.2.mem ((c.tc : Thread Cert.AdamGateSecondRefIdeal.nD Cert.AdamGateSecondRefIdeal.τ).loc Cert.AdamGateSecondRefIdeal.main_arg7) = m' ((c.tc : Thread Cert.AdamGateSecondRefIdeal.nD Cert.AdamGateSecondRefIdeal.τ).loc Cert.AdamGateSecondRefIdeal.main_arg7)
          ∧ r.2.mem ((c.tc : Thread Cert.AdamGateSecondRefIdeal.nD Cert.AdamGateSecondRefIdeal.τ).loc Cert.AdamGateSecondRefIdeal.main_arg8) = m' ((c.tc : Thread Cert.AdamGateSecondRefIdeal.nD Cert.AdamGateSecondRefIdeal.τ).loc Cert.AdamGateSecondRefIdeal.main_arg8)
          ∧ r.2.mem ((c.tc : Thread Cert.AdamGateSecondRefIdeal.nD Cert.AdamGateSecondRefIdeal.τ).loc Cert.AdamGateSecondRefIdeal.main_arg9) = m' ((c.tc : Thread Cert.AdamGateSecondRefIdeal.nD Cert.AdamGateSecondRefIdeal.τ).loc Cert.AdamGateSecondRefIdeal.main_arg9))

def preserves_AdamDownFirst_AdamDownFirstIdeal : Prop :=
  True

def algebraic_AdamDownFirstIdeal_AdamDownFirstRefIdeal_on_first_layer_down [hAdamDownFirstIdeal : Cert.AdamDownFirstIdeal.Facts] [hAdamDownFirstRefIdeal : Cert.AdamDownFirstRefIdeal.Facts] [hPre_chip_down : Cert.Pre_chip_down.Facts] [hOn_first_layer_down : Cert.On_first_layer_down.Facts] : Prop :=
  ∀ (m : (ℓ : Loc Cert.AdamDownFirstIdeal.nD Cert.AdamDownFirstIdeal.τ Cert.AdamDownFirstIdeal.sig) → Buf (Elt Ideal) ℓ) (g : Dev Cert.AdamDownFirstIdeal.nD → PrngReg)
    (m' : (ℓ : Loc Cert.AdamDownFirstRefIdeal.nD Cert.AdamDownFirstRefIdeal.τ Cert.AdamDownFirstRefIdeal.sig) → Buf (Elt Ideal) ℓ) (g' : Dev Cert.AdamDownFirstRefIdeal.nD → PrngReg), Pre_AdamDownFirstIdeal m →
    (∀ c : Dev Cert.AdamDownFirstIdeal.nD,
      m' ((c.tc : Thread Cert.AdamDownFirstRefIdeal.nD Cert.AdamDownFirstRefIdeal.τ).loc Cert.AdamDownFirstRefIdeal.main_arg0) = m ((c.tc : Thread Cert.AdamDownFirstIdeal.nD Cert.AdamDownFirstIdeal.τ).loc Cert.AdamDownFirstIdeal.main_arg0)
      ∧ m' ((c.tc : Thread Cert.AdamDownFirstRefIdeal.nD Cert.AdamDownFirstRefIdeal.τ).loc Cert.AdamDownFirstRefIdeal.main_arg1) = m ((c.tc : Thread Cert.AdamDownFirstIdeal.nD Cert.AdamDownFirstIdeal.τ).loc Cert.AdamDownFirstIdeal.main_arg1)
      ∧ m' ((c.tc : Thread Cert.AdamDownFirstRefIdeal.nD Cert.AdamDownFirstRefIdeal.τ).loc Cert.AdamDownFirstRefIdeal.main_arg2) = m ((c.tc : Thread Cert.AdamDownFirstIdeal.nD Cert.AdamDownFirstIdeal.τ).loc Cert.AdamDownFirstIdeal.main_arg2)
      ∧ m' ((c.tc : Thread Cert.AdamDownFirstRefIdeal.nD Cert.AdamDownFirstRefIdeal.τ).loc Cert.AdamDownFirstRefIdeal.main_arg3) = m ((c.tc : Thread Cert.AdamDownFirstIdeal.nD Cert.AdamDownFirstIdeal.τ).loc Cert.AdamDownFirstIdeal.main_arg3)
      ∧ m' ((c.tc : Thread Cert.AdamDownFirstRefIdeal.nD Cert.AdamDownFirstRefIdeal.τ).loc Cert.AdamDownFirstRefIdeal.main_arg4) = m ((c.tc : Thread Cert.AdamDownFirstIdeal.nD Cert.AdamDownFirstIdeal.τ).loc Cert.AdamDownFirstIdeal.main_arg4)
      ∧ m' ((c.tc : Thread Cert.AdamDownFirstRefIdeal.nD Cert.AdamDownFirstRefIdeal.τ).loc Cert.AdamDownFirstRefIdeal.main_arg5) = m ((c.tc : Thread Cert.AdamDownFirstIdeal.nD Cert.AdamDownFirstIdeal.τ).loc Cert.AdamDownFirstIdeal.main_arg5)) →
    ∃ (v0 : (c : Dev Cert.AdamDownFirstIdeal.nD) → Buf (Elt Ideal) ((c.tc : Thread Cert.AdamDownFirstIdeal.nD Cert.AdamDownFirstIdeal.τ).loc Cert.AdamDownFirstIdeal.main_v0_0)) (v1 : (c : Dev Cert.AdamDownFirstIdeal.nD) → Buf (Elt Ideal) ((c.tc : Thread Cert.AdamDownFirstIdeal.nD Cert.AdamDownFirstIdeal.τ).loc Cert.AdamDownFirstIdeal.main_v0_1)) (v2 : (c : Dev Cert.AdamDownFirstIdeal.nD) → Buf (Elt Ideal) ((c.tc : Thread Cert.AdamDownFirstIdeal.nD Cert.AdamDownFirstIdeal.τ).loc Cert.AdamDownFirstIdeal.main_v0_2)) (v3 : (c : Dev Cert.AdamDownFirstIdeal.nD) → Buf (Elt Ideal) ((c.tc : Thread Cert.AdamDownFirstIdeal.nD Cert.AdamDownFirstIdeal.τ).loc Cert.AdamDownFirstIdeal.main_v0_3)),
      θ_run (Cert.AdamDownFirstIdeal.defs (F := Ideal)) (onTc (τ := Cert.AdamDownFirstIdeal.τ) (Cert.AdamDownFirstIdeal.main (F := Ideal))) ⟨m, fun _ => 0, g⟩ (fun r => ∀ c : Dev Cert.AdamDownFirstIdeal.nD,
          (∀ i : (⟨3, ![2, 1408, 2048]⟩ : Shape).Idx, (Cert.On_first_layer_down.fn (F := Ideal) (m ((c.tc : Thread Cert.AdamDownFirstIdeal.nD Cert.AdamDownFirstIdeal.τ).loc Cert.AdamDownFirstIdeal.main_arg0)) (m ((c.tc : Thread Cert.AdamDownFirstIdeal.nD Cert.AdamDownFirstIdeal.τ).loc Cert.AdamDownFirstIdeal.main_arg1)) (m ((c.tc : Thread Cert.AdamDownFirstIdeal.nD Cert.AdamDownFirstIdeal.τ).loc Cert.AdamDownFirstIdeal.main_arg2)) (m ((c.tc : Thread Cert.AdamDownFirstIdeal.nD Cert.AdamDownFirstIdeal.τ).loc Cert.AdamDownFirstIdeal.main_arg3)) (m ((c.tc : Thread Cert.AdamDownFirstIdeal.nD Cert.AdamDownFirstIdeal.τ).loc Cert.AdamDownFirstIdeal.main_arg4)) (m ((c.tc : Thread Cert.AdamDownFirstIdeal.nD Cert.AdamDownFirstIdeal.τ).loc Cert.AdamDownFirstIdeal.main_arg5))).1 i = 1#1 → r.2.mem ((c.tc : Thread Cert.AdamDownFirstIdeal.nD Cert.AdamDownFirstIdeal.τ).loc Cert.AdamDownFirstIdeal.main_v0_0) i = v0 c i)
          ∧ (∀ i : (⟨3, ![2, 1408, 2048]⟩ : Shape).Idx, (Cert.On_first_layer_down.fn (F := Ideal) (m ((c.tc : Thread Cert.AdamDownFirstIdeal.nD Cert.AdamDownFirstIdeal.τ).loc Cert.AdamDownFirstIdeal.main_arg0)) (m ((c.tc : Thread Cert.AdamDownFirstIdeal.nD Cert.AdamDownFirstIdeal.τ).loc Cert.AdamDownFirstIdeal.main_arg1)) (m ((c.tc : Thread Cert.AdamDownFirstIdeal.nD Cert.AdamDownFirstIdeal.τ).loc Cert.AdamDownFirstIdeal.main_arg2)) (m ((c.tc : Thread Cert.AdamDownFirstIdeal.nD Cert.AdamDownFirstIdeal.τ).loc Cert.AdamDownFirstIdeal.main_arg3)) (m ((c.tc : Thread Cert.AdamDownFirstIdeal.nD Cert.AdamDownFirstIdeal.τ).loc Cert.AdamDownFirstIdeal.main_arg4)) (m ((c.tc : Thread Cert.AdamDownFirstIdeal.nD Cert.AdamDownFirstIdeal.τ).loc Cert.AdamDownFirstIdeal.main_arg5))).2.1 i = 1#1 → r.2.mem ((c.tc : Thread Cert.AdamDownFirstIdeal.nD Cert.AdamDownFirstIdeal.τ).loc Cert.AdamDownFirstIdeal.main_v0_1) i = v1 c i)
          ∧ (∀ i : (⟨3, ![2, 1408, 2048]⟩ : Shape).Idx, (Cert.On_first_layer_down.fn (F := Ideal) (m ((c.tc : Thread Cert.AdamDownFirstIdeal.nD Cert.AdamDownFirstIdeal.τ).loc Cert.AdamDownFirstIdeal.main_arg0)) (m ((c.tc : Thread Cert.AdamDownFirstIdeal.nD Cert.AdamDownFirstIdeal.τ).loc Cert.AdamDownFirstIdeal.main_arg1)) (m ((c.tc : Thread Cert.AdamDownFirstIdeal.nD Cert.AdamDownFirstIdeal.τ).loc Cert.AdamDownFirstIdeal.main_arg2)) (m ((c.tc : Thread Cert.AdamDownFirstIdeal.nD Cert.AdamDownFirstIdeal.τ).loc Cert.AdamDownFirstIdeal.main_arg3)) (m ((c.tc : Thread Cert.AdamDownFirstIdeal.nD Cert.AdamDownFirstIdeal.τ).loc Cert.AdamDownFirstIdeal.main_arg4)) (m ((c.tc : Thread Cert.AdamDownFirstIdeal.nD Cert.AdamDownFirstIdeal.τ).loc Cert.AdamDownFirstIdeal.main_arg5))).2.2.1 i = 1#1 → r.2.mem ((c.tc : Thread Cert.AdamDownFirstIdeal.nD Cert.AdamDownFirstIdeal.τ).loc Cert.AdamDownFirstIdeal.main_v0_2) i = v2 c i)
          ∧ (∀ i : (⟨3, ![2, 1408, 2048]⟩ : Shape).Idx, (Cert.On_first_layer_down.fn (F := Ideal) (m ((c.tc : Thread Cert.AdamDownFirstIdeal.nD Cert.AdamDownFirstIdeal.τ).loc Cert.AdamDownFirstIdeal.main_arg0)) (m ((c.tc : Thread Cert.AdamDownFirstIdeal.nD Cert.AdamDownFirstIdeal.τ).loc Cert.AdamDownFirstIdeal.main_arg1)) (m ((c.tc : Thread Cert.AdamDownFirstIdeal.nD Cert.AdamDownFirstIdeal.τ).loc Cert.AdamDownFirstIdeal.main_arg2)) (m ((c.tc : Thread Cert.AdamDownFirstIdeal.nD Cert.AdamDownFirstIdeal.τ).loc Cert.AdamDownFirstIdeal.main_arg3)) (m ((c.tc : Thread Cert.AdamDownFirstIdeal.nD Cert.AdamDownFirstIdeal.τ).loc Cert.AdamDownFirstIdeal.main_arg4)) (m ((c.tc : Thread Cert.AdamDownFirstIdeal.nD Cert.AdamDownFirstIdeal.τ).loc Cert.AdamDownFirstIdeal.main_arg5))).2.2.2 i = 1#1 → r.2.mem ((c.tc : Thread Cert.AdamDownFirstIdeal.nD Cert.AdamDownFirstIdeal.τ).loc Cert.AdamDownFirstIdeal.main_v0_3) i = v3 c i)
          ∧ r.2.mem ((c.tc : Thread Cert.AdamDownFirstIdeal.nD Cert.AdamDownFirstIdeal.τ).loc Cert.AdamDownFirstIdeal.main_arg0) = m ((c.tc : Thread Cert.AdamDownFirstIdeal.nD Cert.AdamDownFirstIdeal.τ).loc Cert.AdamDownFirstIdeal.main_arg0)
          ∧ r.2.mem ((c.tc : Thread Cert.AdamDownFirstIdeal.nD Cert.AdamDownFirstIdeal.τ).loc Cert.AdamDownFirstIdeal.main_arg1) = m ((c.tc : Thread Cert.AdamDownFirstIdeal.nD Cert.AdamDownFirstIdeal.τ).loc Cert.AdamDownFirstIdeal.main_arg1)
          ∧ r.2.mem ((c.tc : Thread Cert.AdamDownFirstIdeal.nD Cert.AdamDownFirstIdeal.τ).loc Cert.AdamDownFirstIdeal.main_arg2) = m ((c.tc : Thread Cert.AdamDownFirstIdeal.nD Cert.AdamDownFirstIdeal.τ).loc Cert.AdamDownFirstIdeal.main_arg2)
          ∧ r.2.mem ((c.tc : Thread Cert.AdamDownFirstIdeal.nD Cert.AdamDownFirstIdeal.τ).loc Cert.AdamDownFirstIdeal.main_arg3) = m ((c.tc : Thread Cert.AdamDownFirstIdeal.nD Cert.AdamDownFirstIdeal.τ).loc Cert.AdamDownFirstIdeal.main_arg3)
          ∧ r.2.mem ((c.tc : Thread Cert.AdamDownFirstIdeal.nD Cert.AdamDownFirstIdeal.τ).loc Cert.AdamDownFirstIdeal.main_arg4) = m ((c.tc : Thread Cert.AdamDownFirstIdeal.nD Cert.AdamDownFirstIdeal.τ).loc Cert.AdamDownFirstIdeal.main_arg4)
          ∧ r.2.mem ((c.tc : Thread Cert.AdamDownFirstIdeal.nD Cert.AdamDownFirstIdeal.τ).loc Cert.AdamDownFirstIdeal.main_arg5) = m ((c.tc : Thread Cert.AdamDownFirstIdeal.nD Cert.AdamDownFirstIdeal.τ).loc Cert.AdamDownFirstIdeal.main_arg5))
      ∧ θ_run (Cert.AdamDownFirstRefIdeal.defs (F := Ideal)) (onTc (τ := Cert.AdamDownFirstRefIdeal.τ) (Cert.AdamDownFirstRefIdeal.main (F := Ideal))) ⟨m', fun _ => 0, g'⟩ (fun r => ∀ c : Dev Cert.AdamDownFirstRefIdeal.nD,
          (∀ i : (⟨3, ![2, 1408, 2048]⟩ : Shape).Idx, (Cert.On_first_layer_down.fn (F := Ideal) (m ((c.tc : Thread Cert.AdamDownFirstIdeal.nD Cert.AdamDownFirstIdeal.τ).loc Cert.AdamDownFirstIdeal.main_arg0)) (m ((c.tc : Thread Cert.AdamDownFirstIdeal.nD Cert.AdamDownFirstIdeal.τ).loc Cert.AdamDownFirstIdeal.main_arg1)) (m ((c.tc : Thread Cert.AdamDownFirstIdeal.nD Cert.AdamDownFirstIdeal.τ).loc Cert.AdamDownFirstIdeal.main_arg2)) (m ((c.tc : Thread Cert.AdamDownFirstIdeal.nD Cert.AdamDownFirstIdeal.τ).loc Cert.AdamDownFirstIdeal.main_arg3)) (m ((c.tc : Thread Cert.AdamDownFirstIdeal.nD Cert.AdamDownFirstIdeal.τ).loc Cert.AdamDownFirstIdeal.main_arg4)) (m ((c.tc : Thread Cert.AdamDownFirstIdeal.nD Cert.AdamDownFirstIdeal.τ).loc Cert.AdamDownFirstIdeal.main_arg5))).1 i = 1#1 → r.2.mem ((c.tc : Thread Cert.AdamDownFirstRefIdeal.nD Cert.AdamDownFirstRefIdeal.τ).loc Cert.AdamDownFirstRefIdeal.main_v60) i = v0 c i)
          ∧ (∀ i : (⟨3, ![2, 1408, 2048]⟩ : Shape).Idx, (Cert.On_first_layer_down.fn (F := Ideal) (m ((c.tc : Thread Cert.AdamDownFirstIdeal.nD Cert.AdamDownFirstIdeal.τ).loc Cert.AdamDownFirstIdeal.main_arg0)) (m ((c.tc : Thread Cert.AdamDownFirstIdeal.nD Cert.AdamDownFirstIdeal.τ).loc Cert.AdamDownFirstIdeal.main_arg1)) (m ((c.tc : Thread Cert.AdamDownFirstIdeal.nD Cert.AdamDownFirstIdeal.τ).loc Cert.AdamDownFirstIdeal.main_arg2)) (m ((c.tc : Thread Cert.AdamDownFirstIdeal.nD Cert.AdamDownFirstIdeal.τ).loc Cert.AdamDownFirstIdeal.main_arg3)) (m ((c.tc : Thread Cert.AdamDownFirstIdeal.nD Cert.AdamDownFirstIdeal.τ).loc Cert.AdamDownFirstIdeal.main_arg4)) (m ((c.tc : Thread Cert.AdamDownFirstIdeal.nD Cert.AdamDownFirstIdeal.τ).loc Cert.AdamDownFirstIdeal.main_arg5))).2.1 i = 1#1 → r.2.mem ((c.tc : Thread Cert.AdamDownFirstRefIdeal.nD Cert.AdamDownFirstRefIdeal.τ).loc Cert.AdamDownFirstRefIdeal.main_v64) i = v1 c i)
          ∧ (∀ i : (⟨3, ![2, 1408, 2048]⟩ : Shape).Idx, (Cert.On_first_layer_down.fn (F := Ideal) (m ((c.tc : Thread Cert.AdamDownFirstIdeal.nD Cert.AdamDownFirstIdeal.τ).loc Cert.AdamDownFirstIdeal.main_arg0)) (m ((c.tc : Thread Cert.AdamDownFirstIdeal.nD Cert.AdamDownFirstIdeal.τ).loc Cert.AdamDownFirstIdeal.main_arg1)) (m ((c.tc : Thread Cert.AdamDownFirstIdeal.nD Cert.AdamDownFirstIdeal.τ).loc Cert.AdamDownFirstIdeal.main_arg2)) (m ((c.tc : Thread Cert.AdamDownFirstIdeal.nD Cert.AdamDownFirstIdeal.τ).loc Cert.AdamDownFirstIdeal.main_arg3)) (m ((c.tc : Thread Cert.AdamDownFirstIdeal.nD Cert.AdamDownFirstIdeal.τ).loc Cert.AdamDownFirstIdeal.main_arg4)) (m ((c.tc : Thread Cert.AdamDownFirstIdeal.nD Cert.AdamDownFirstIdeal.τ).loc Cert.AdamDownFirstIdeal.main_arg5))).2.2.1 i = 1#1 → r.2.mem ((c.tc : Thread Cert.AdamDownFirstRefIdeal.nD Cert.AdamDownFirstRefIdeal.τ).loc Cert.AdamDownFirstRefIdeal.main_v68) i = v2 c i)
          ∧ (∀ i : (⟨3, ![2, 1408, 2048]⟩ : Shape).Idx, (Cert.On_first_layer_down.fn (F := Ideal) (m ((c.tc : Thread Cert.AdamDownFirstIdeal.nD Cert.AdamDownFirstIdeal.τ).loc Cert.AdamDownFirstIdeal.main_arg0)) (m ((c.tc : Thread Cert.AdamDownFirstIdeal.nD Cert.AdamDownFirstIdeal.τ).loc Cert.AdamDownFirstIdeal.main_arg1)) (m ((c.tc : Thread Cert.AdamDownFirstIdeal.nD Cert.AdamDownFirstIdeal.τ).loc Cert.AdamDownFirstIdeal.main_arg2)) (m ((c.tc : Thread Cert.AdamDownFirstIdeal.nD Cert.AdamDownFirstIdeal.τ).loc Cert.AdamDownFirstIdeal.main_arg3)) (m ((c.tc : Thread Cert.AdamDownFirstIdeal.nD Cert.AdamDownFirstIdeal.τ).loc Cert.AdamDownFirstIdeal.main_arg4)) (m ((c.tc : Thread Cert.AdamDownFirstIdeal.nD Cert.AdamDownFirstIdeal.τ).loc Cert.AdamDownFirstIdeal.main_arg5))).2.2.2 i = 1#1 → r.2.mem ((c.tc : Thread Cert.AdamDownFirstRefIdeal.nD Cert.AdamDownFirstRefIdeal.τ).loc Cert.AdamDownFirstRefIdeal.main_v72) i = v3 c i)
          ∧ r.2.mem ((c.tc : Thread Cert.AdamDownFirstRefIdeal.nD Cert.AdamDownFirstRefIdeal.τ).loc Cert.AdamDownFirstRefIdeal.main_arg0) = m' ((c.tc : Thread Cert.AdamDownFirstRefIdeal.nD Cert.AdamDownFirstRefIdeal.τ).loc Cert.AdamDownFirstRefIdeal.main_arg0)
          ∧ r.2.mem ((c.tc : Thread Cert.AdamDownFirstRefIdeal.nD Cert.AdamDownFirstRefIdeal.τ).loc Cert.AdamDownFirstRefIdeal.main_arg1) = m' ((c.tc : Thread Cert.AdamDownFirstRefIdeal.nD Cert.AdamDownFirstRefIdeal.τ).loc Cert.AdamDownFirstRefIdeal.main_arg1)
          ∧ r.2.mem ((c.tc : Thread Cert.AdamDownFirstRefIdeal.nD Cert.AdamDownFirstRefIdeal.τ).loc Cert.AdamDownFirstRefIdeal.main_arg2) = m' ((c.tc : Thread Cert.AdamDownFirstRefIdeal.nD Cert.AdamDownFirstRefIdeal.τ).loc Cert.AdamDownFirstRefIdeal.main_arg2)
          ∧ r.2.mem ((c.tc : Thread Cert.AdamDownFirstRefIdeal.nD Cert.AdamDownFirstRefIdeal.τ).loc Cert.AdamDownFirstRefIdeal.main_arg3) = m' ((c.tc : Thread Cert.AdamDownFirstRefIdeal.nD Cert.AdamDownFirstRefIdeal.τ).loc Cert.AdamDownFirstRefIdeal.main_arg3)
          ∧ r.2.mem ((c.tc : Thread Cert.AdamDownFirstRefIdeal.nD Cert.AdamDownFirstRefIdeal.τ).loc Cert.AdamDownFirstRefIdeal.main_arg4) = m' ((c.tc : Thread Cert.AdamDownFirstRefIdeal.nD Cert.AdamDownFirstRefIdeal.τ).loc Cert.AdamDownFirstRefIdeal.main_arg4)
          ∧ r.2.mem ((c.tc : Thread Cert.AdamDownFirstRefIdeal.nD Cert.AdamDownFirstRefIdeal.τ).loc Cert.AdamDownFirstRefIdeal.main_arg5) = m' ((c.tc : Thread Cert.AdamDownFirstRefIdeal.nD Cert.AdamDownFirstRefIdeal.τ).loc Cert.AdamDownFirstRefIdeal.main_arg5))

def preserves_AdamDownSecond_AdamDownSecondIdeal : Prop :=
  True

def algebraic_AdamDownSecondIdeal_AdamDownSecondRefIdeal [hAdamDownSecondIdeal : Cert.AdamDownSecondIdeal.Facts] [hAdamDownSecondRefIdeal : Cert.AdamDownSecondRefIdeal.Facts] [hPre_chip_down_second : Cert.Pre_chip_down_second.Facts] : Prop :=
  ∀ (m : (ℓ : Loc Cert.AdamDownSecondIdeal.nD Cert.AdamDownSecondIdeal.τ Cert.AdamDownSecondIdeal.sig) → Buf (Elt Ideal) ℓ) (g : Dev Cert.AdamDownSecondIdeal.nD → PrngReg)
    (m' : (ℓ : Loc Cert.AdamDownSecondRefIdeal.nD Cert.AdamDownSecondRefIdeal.τ Cert.AdamDownSecondRefIdeal.sig) → Buf (Elt Ideal) ℓ) (g' : Dev Cert.AdamDownSecondRefIdeal.nD → PrngReg), Pre_AdamDownSecondIdeal m →
    (∀ c : Dev Cert.AdamDownSecondIdeal.nD,
      m' ((c.tc : Thread Cert.AdamDownSecondRefIdeal.nD Cert.AdamDownSecondRefIdeal.τ).loc Cert.AdamDownSecondRefIdeal.main_arg0) = m ((c.tc : Thread Cert.AdamDownSecondIdeal.nD Cert.AdamDownSecondIdeal.τ).loc Cert.AdamDownSecondIdeal.main_arg0)
      ∧ m' ((c.tc : Thread Cert.AdamDownSecondRefIdeal.nD Cert.AdamDownSecondRefIdeal.τ).loc Cert.AdamDownSecondRefIdeal.main_arg1) = m ((c.tc : Thread Cert.AdamDownSecondIdeal.nD Cert.AdamDownSecondIdeal.τ).loc Cert.AdamDownSecondIdeal.main_arg1)
      ∧ m' ((c.tc : Thread Cert.AdamDownSecondRefIdeal.nD Cert.AdamDownSecondRefIdeal.τ).loc Cert.AdamDownSecondRefIdeal.main_arg2) = m ((c.tc : Thread Cert.AdamDownSecondIdeal.nD Cert.AdamDownSecondIdeal.τ).loc Cert.AdamDownSecondIdeal.main_arg2)
      ∧ m' ((c.tc : Thread Cert.AdamDownSecondRefIdeal.nD Cert.AdamDownSecondRefIdeal.τ).loc Cert.AdamDownSecondRefIdeal.main_arg3) = m ((c.tc : Thread Cert.AdamDownSecondIdeal.nD Cert.AdamDownSecondIdeal.τ).loc Cert.AdamDownSecondIdeal.main_arg3)
      ∧ m' ((c.tc : Thread Cert.AdamDownSecondRefIdeal.nD Cert.AdamDownSecondRefIdeal.τ).loc Cert.AdamDownSecondRefIdeal.main_arg4) = m ((c.tc : Thread Cert.AdamDownSecondIdeal.nD Cert.AdamDownSecondIdeal.τ).loc Cert.AdamDownSecondIdeal.main_arg4)
      ∧ m' ((c.tc : Thread Cert.AdamDownSecondRefIdeal.nD Cert.AdamDownSecondRefIdeal.τ).loc Cert.AdamDownSecondRefIdeal.main_arg5) = m ((c.tc : Thread Cert.AdamDownSecondIdeal.nD Cert.AdamDownSecondIdeal.τ).loc Cert.AdamDownSecondIdeal.main_arg5)
      ∧ m' ((c.tc : Thread Cert.AdamDownSecondRefIdeal.nD Cert.AdamDownSecondRefIdeal.τ).loc Cert.AdamDownSecondRefIdeal.main_arg6) = m ((c.tc : Thread Cert.AdamDownSecondIdeal.nD Cert.AdamDownSecondIdeal.τ).loc Cert.AdamDownSecondIdeal.main_arg6)
      ∧ m' ((c.tc : Thread Cert.AdamDownSecondRefIdeal.nD Cert.AdamDownSecondRefIdeal.τ).loc Cert.AdamDownSecondRefIdeal.main_arg7) = m ((c.tc : Thread Cert.AdamDownSecondIdeal.nD Cert.AdamDownSecondIdeal.τ).loc Cert.AdamDownSecondIdeal.main_arg7)
      ∧ m' ((c.tc : Thread Cert.AdamDownSecondRefIdeal.nD Cert.AdamDownSecondRefIdeal.τ).loc Cert.AdamDownSecondRefIdeal.main_arg8) = m ((c.tc : Thread Cert.AdamDownSecondIdeal.nD Cert.AdamDownSecondIdeal.τ).loc Cert.AdamDownSecondIdeal.main_arg8)
      ∧ m' ((c.tc : Thread Cert.AdamDownSecondRefIdeal.nD Cert.AdamDownSecondRefIdeal.τ).loc Cert.AdamDownSecondRefIdeal.main_arg9) = m ((c.tc : Thread Cert.AdamDownSecondIdeal.nD Cert.AdamDownSecondIdeal.τ).loc Cert.AdamDownSecondIdeal.main_arg9)) →
    ∃ (v0 : (c : Dev Cert.AdamDownSecondIdeal.nD) → Buf (Elt Ideal) ((c.tc : Thread Cert.AdamDownSecondIdeal.nD Cert.AdamDownSecondIdeal.τ).loc Cert.AdamDownSecondIdeal.main_v0_0)) (v1 : (c : Dev Cert.AdamDownSecondIdeal.nD) → Buf (Elt Ideal) ((c.tc : Thread Cert.AdamDownSecondIdeal.nD Cert.AdamDownSecondIdeal.τ).loc Cert.AdamDownSecondIdeal.main_v0_1)) (v2 : (c : Dev Cert.AdamDownSecondIdeal.nD) → Buf (Elt Ideal) ((c.tc : Thread Cert.AdamDownSecondIdeal.nD Cert.AdamDownSecondIdeal.τ).loc Cert.AdamDownSecondIdeal.main_v0_2)) (v3 : (c : Dev Cert.AdamDownSecondIdeal.nD) → Buf (Elt Ideal) ((c.tc : Thread Cert.AdamDownSecondIdeal.nD Cert.AdamDownSecondIdeal.τ).loc Cert.AdamDownSecondIdeal.main_v0_3)),
      θ_run (Cert.AdamDownSecondIdeal.defs (F := Ideal)) (onTc (τ := Cert.AdamDownSecondIdeal.τ) (Cert.AdamDownSecondIdeal.main (F := Ideal))) ⟨m, fun _ => 0, g⟩ (fun r => ∀ c : Dev Cert.AdamDownSecondIdeal.nD,
          r.2.mem ((c.tc : Thread Cert.AdamDownSecondIdeal.nD Cert.AdamDownSecondIdeal.τ).loc Cert.AdamDownSecondIdeal.main_v0_0) = v0 c
          ∧ r.2.mem ((c.tc : Thread Cert.AdamDownSecondIdeal.nD Cert.AdamDownSecondIdeal.τ).loc Cert.AdamDownSecondIdeal.main_v0_1) = v1 c
          ∧ r.2.mem ((c.tc : Thread Cert.AdamDownSecondIdeal.nD Cert.AdamDownSecondIdeal.τ).loc Cert.AdamDownSecondIdeal.main_v0_2) = v2 c
          ∧ r.2.mem ((c.tc : Thread Cert.AdamDownSecondIdeal.nD Cert.AdamDownSecondIdeal.τ).loc Cert.AdamDownSecondIdeal.main_v0_3) = v3 c
          ∧ r.2.mem ((c.tc : Thread Cert.AdamDownSecondIdeal.nD Cert.AdamDownSecondIdeal.τ).loc Cert.AdamDownSecondIdeal.main_arg0) = m ((c.tc : Thread Cert.AdamDownSecondIdeal.nD Cert.AdamDownSecondIdeal.τ).loc Cert.AdamDownSecondIdeal.main_arg0)
          ∧ r.2.mem ((c.tc : Thread Cert.AdamDownSecondIdeal.nD Cert.AdamDownSecondIdeal.τ).loc Cert.AdamDownSecondIdeal.main_arg1) = m ((c.tc : Thread Cert.AdamDownSecondIdeal.nD Cert.AdamDownSecondIdeal.τ).loc Cert.AdamDownSecondIdeal.main_arg1)
          ∧ r.2.mem ((c.tc : Thread Cert.AdamDownSecondIdeal.nD Cert.AdamDownSecondIdeal.τ).loc Cert.AdamDownSecondIdeal.main_arg2) = m ((c.tc : Thread Cert.AdamDownSecondIdeal.nD Cert.AdamDownSecondIdeal.τ).loc Cert.AdamDownSecondIdeal.main_arg2)
          ∧ r.2.mem ((c.tc : Thread Cert.AdamDownSecondIdeal.nD Cert.AdamDownSecondIdeal.τ).loc Cert.AdamDownSecondIdeal.main_arg3) = m ((c.tc : Thread Cert.AdamDownSecondIdeal.nD Cert.AdamDownSecondIdeal.τ).loc Cert.AdamDownSecondIdeal.main_arg3)
          ∧ r.2.mem ((c.tc : Thread Cert.AdamDownSecondIdeal.nD Cert.AdamDownSecondIdeal.τ).loc Cert.AdamDownSecondIdeal.main_arg4) = m ((c.tc : Thread Cert.AdamDownSecondIdeal.nD Cert.AdamDownSecondIdeal.τ).loc Cert.AdamDownSecondIdeal.main_arg4)
          ∧ r.2.mem ((c.tc : Thread Cert.AdamDownSecondIdeal.nD Cert.AdamDownSecondIdeal.τ).loc Cert.AdamDownSecondIdeal.main_arg5) = m ((c.tc : Thread Cert.AdamDownSecondIdeal.nD Cert.AdamDownSecondIdeal.τ).loc Cert.AdamDownSecondIdeal.main_arg5)
          ∧ r.2.mem ((c.tc : Thread Cert.AdamDownSecondIdeal.nD Cert.AdamDownSecondIdeal.τ).loc Cert.AdamDownSecondIdeal.main_arg6) = m ((c.tc : Thread Cert.AdamDownSecondIdeal.nD Cert.AdamDownSecondIdeal.τ).loc Cert.AdamDownSecondIdeal.main_arg6)
          ∧ r.2.mem ((c.tc : Thread Cert.AdamDownSecondIdeal.nD Cert.AdamDownSecondIdeal.τ).loc Cert.AdamDownSecondIdeal.main_arg7) = m ((c.tc : Thread Cert.AdamDownSecondIdeal.nD Cert.AdamDownSecondIdeal.τ).loc Cert.AdamDownSecondIdeal.main_arg7)
          ∧ r.2.mem ((c.tc : Thread Cert.AdamDownSecondIdeal.nD Cert.AdamDownSecondIdeal.τ).loc Cert.AdamDownSecondIdeal.main_arg8) = m ((c.tc : Thread Cert.AdamDownSecondIdeal.nD Cert.AdamDownSecondIdeal.τ).loc Cert.AdamDownSecondIdeal.main_arg8)
          ∧ r.2.mem ((c.tc : Thread Cert.AdamDownSecondIdeal.nD Cert.AdamDownSecondIdeal.τ).loc Cert.AdamDownSecondIdeal.main_arg9) = m ((c.tc : Thread Cert.AdamDownSecondIdeal.nD Cert.AdamDownSecondIdeal.τ).loc Cert.AdamDownSecondIdeal.main_arg9))
      ∧ θ_run (Cert.AdamDownSecondRefIdeal.defs (F := Ideal)) (onTc (τ := Cert.AdamDownSecondRefIdeal.τ) (Cert.AdamDownSecondRefIdeal.main (F := Ideal))) ⟨m', fun _ => 0, g'⟩ (fun r => ∀ c : Dev Cert.AdamDownSecondRefIdeal.nD,
          r.2.mem ((c.tc : Thread Cert.AdamDownSecondRefIdeal.nD Cert.AdamDownSecondRefIdeal.τ).loc Cert.AdamDownSecondRefIdeal.main_v61) = v0 c
          ∧ r.2.mem ((c.tc : Thread Cert.AdamDownSecondRefIdeal.nD Cert.AdamDownSecondRefIdeal.τ).loc Cert.AdamDownSecondRefIdeal.main_v66) = v1 c
          ∧ r.2.mem ((c.tc : Thread Cert.AdamDownSecondRefIdeal.nD Cert.AdamDownSecondRefIdeal.τ).loc Cert.AdamDownSecondRefIdeal.main_v71) = v2 c
          ∧ r.2.mem ((c.tc : Thread Cert.AdamDownSecondRefIdeal.nD Cert.AdamDownSecondRefIdeal.τ).loc Cert.AdamDownSecondRefIdeal.main_v76) = v3 c
          ∧ r.2.mem ((c.tc : Thread Cert.AdamDownSecondRefIdeal.nD Cert.AdamDownSecondRefIdeal.τ).loc Cert.AdamDownSecondRefIdeal.main_arg0) = m' ((c.tc : Thread Cert.AdamDownSecondRefIdeal.nD Cert.AdamDownSecondRefIdeal.τ).loc Cert.AdamDownSecondRefIdeal.main_arg0)
          ∧ r.2.mem ((c.tc : Thread Cert.AdamDownSecondRefIdeal.nD Cert.AdamDownSecondRefIdeal.τ).loc Cert.AdamDownSecondRefIdeal.main_arg1) = m' ((c.tc : Thread Cert.AdamDownSecondRefIdeal.nD Cert.AdamDownSecondRefIdeal.τ).loc Cert.AdamDownSecondRefIdeal.main_arg1)
          ∧ r.2.mem ((c.tc : Thread Cert.AdamDownSecondRefIdeal.nD Cert.AdamDownSecondRefIdeal.τ).loc Cert.AdamDownSecondRefIdeal.main_arg2) = m' ((c.tc : Thread Cert.AdamDownSecondRefIdeal.nD Cert.AdamDownSecondRefIdeal.τ).loc Cert.AdamDownSecondRefIdeal.main_arg2)
          ∧ r.2.mem ((c.tc : Thread Cert.AdamDownSecondRefIdeal.nD Cert.AdamDownSecondRefIdeal.τ).loc Cert.AdamDownSecondRefIdeal.main_arg3) = m' ((c.tc : Thread Cert.AdamDownSecondRefIdeal.nD Cert.AdamDownSecondRefIdeal.τ).loc Cert.AdamDownSecondRefIdeal.main_arg3)
          ∧ r.2.mem ((c.tc : Thread Cert.AdamDownSecondRefIdeal.nD Cert.AdamDownSecondRefIdeal.τ).loc Cert.AdamDownSecondRefIdeal.main_arg4) = m' ((c.tc : Thread Cert.AdamDownSecondRefIdeal.nD Cert.AdamDownSecondRefIdeal.τ).loc Cert.AdamDownSecondRefIdeal.main_arg4)
          ∧ r.2.mem ((c.tc : Thread Cert.AdamDownSecondRefIdeal.nD Cert.AdamDownSecondRefIdeal.τ).loc Cert.AdamDownSecondRefIdeal.main_arg5) = m' ((c.tc : Thread Cert.AdamDownSecondRefIdeal.nD Cert.AdamDownSecondRefIdeal.τ).loc Cert.AdamDownSecondRefIdeal.main_arg5)
          ∧ r.2.mem ((c.tc : Thread Cert.AdamDownSecondRefIdeal.nD Cert.AdamDownSecondRefIdeal.τ).loc Cert.AdamDownSecondRefIdeal.main_arg6) = m' ((c.tc : Thread Cert.AdamDownSecondRefIdeal.nD Cert.AdamDownSecondRefIdeal.τ).loc Cert.AdamDownSecondRefIdeal.main_arg6)
          ∧ r.2.mem ((c.tc : Thread Cert.AdamDownSecondRefIdeal.nD Cert.AdamDownSecondRefIdeal.τ).loc Cert.AdamDownSecondRefIdeal.main_arg7) = m' ((c.tc : Thread Cert.AdamDownSecondRefIdeal.nD Cert.AdamDownSecondRefIdeal.τ).loc Cert.AdamDownSecondRefIdeal.main_arg7)
          ∧ r.2.mem ((c.tc : Thread Cert.AdamDownSecondRefIdeal.nD Cert.AdamDownSecondRefIdeal.τ).loc Cert.AdamDownSecondRefIdeal.main_arg8) = m' ((c.tc : Thread Cert.AdamDownSecondRefIdeal.nD Cert.AdamDownSecondRefIdeal.τ).loc Cert.AdamDownSecondRefIdeal.main_arg8)
          ∧ r.2.mem ((c.tc : Thread Cert.AdamDownSecondRefIdeal.nD Cert.AdamDownSecondRefIdeal.τ).loc Cert.AdamDownSecondRefIdeal.main_arg9) = m' ((c.tc : Thread Cert.AdamDownSecondRefIdeal.nD Cert.AdamDownSecondRefIdeal.τ).loc Cert.AdamDownSecondRefIdeal.main_arg9))

def Claim : Prop :=
  ∃ (hFfnDact : Cert.FfnDact.Facts) (hFfnDactIdeal : Cert.FfnDactIdeal.Facts) (hFfnDactRefIdeal : Cert.FfnDactRefIdeal.Facts) (hFfnDwd : Cert.FfnDwd.Facts) (hFfnDwdIdeal : Cert.FfnDwdIdeal.Facts) (hFfnDwdRefIdeal : Cert.FfnDwdRefIdeal.Facts) (hFfnDwgu : Cert.FfnDwgu.Facts) (hFfnDwguIdeal : Cert.FfnDwguIdeal.Facts) (hFfnDwguRefIdeal : Cert.FfnDwguRefIdeal.Facts) (hFfnDn : Cert.FfnDn.Facts) (hFfnDnIdeal : Cert.FfnDnIdeal.Facts) (hFfnDnRefIdeal : Cert.FfnDnRefIdeal.Facts) (hFfnGateUp : Cert.FfnGateUp.Facts) (hFfnGateUpIdeal : Cert.FfnGateUpIdeal.Facts) (hFfnGateUpRefIdeal : Cert.FfnGateUpRefIdeal.Facts) (hFfnDown : Cert.FfnDown.Facts) (hFfnDownIdeal : Cert.FfnDownIdeal.Facts) (hFfnDownRefIdeal : Cert.FfnDownRefIdeal.Facts) (hProjDx : Cert.ProjDx.Facts) (hProjDxIdeal : Cert.ProjDxIdeal.Facts) (hProjDxRefIdeal : Cert.ProjDxRefIdeal.Facts) (hProjDw : Cert.ProjDw.Facts) (hProjDwIdeal : Cert.ProjDwIdeal.Facts) (hProjDwRefIdeal : Cert.ProjDwRefIdeal.Facts) (hKvDw : Cert.KvDw.Facts) (hKvDwIdeal : Cert.KvDwIdeal.Facts) (hKvDwRefIdeal : Cert.KvDwRefIdeal.Facts) (hKvDx : Cert.KvDx.Facts) (hKvDxIdeal : Cert.KvDxIdeal.Facts) (hKvDxRefIdeal : Cert.KvDxRefIdeal.Facts) (hConvTwoDx : Cert.ConvTwoDx.Facts) (hConvTwoDxIdeal : Cert.ConvTwoDxIdeal.Facts) (hConvTwoDxRefIdeal : Cert.ConvTwoDxRefIdeal.Facts) (hConvOneDw : Cert.ConvOneDw.Facts) (hConvOneDwIdeal : Cert.ConvOneDwIdeal.Facts) (hConvOneDwRefIdeal : Cert.ConvOneDwRefIdeal.Facts) (hConvOneDx : Cert.ConvOneDx.Facts) (hConvOneDxIdeal : Cert.ConvOneDxIdeal.Facts) (hConvOneDxRefIdeal : Cert.ConvOneDxRefIdeal.Facts) (hQProj : Cert.QProj.Facts) (hQProjIdeal : Cert.QProjIdeal.Facts) (hQProjRefIdeal : Cert.QProjRefIdeal.Facts) (hKvProj : Cert.KvProj.Facts) (hKvProjIdeal : Cert.KvProjIdeal.Facts) (hKvProjRefIdeal : Cert.KvProjRefIdeal.Facts) (hOProj : Cert.OProj.Facts) (hOProjIdeal : Cert.OProjIdeal.Facts) (hOProjRefIdeal : Cert.OProjRefIdeal.Facts) (hConvOne : Cert.ConvOne.Facts) (hConvOneIdeal : Cert.ConvOneIdeal.Facts) (hConvOneRefIdeal : Cert.ConvOneRefIdeal.Facts) (hConvTwo : Cert.ConvTwo.Facts) (hConvTwoIdeal : Cert.ConvTwoIdeal.Facts) (hConvTwoRefIdeal : Cert.ConvTwoRefIdeal.Facts) (hNorm : Cert.Norm.Facts) (hNormIdeal : Cert.NormIdeal.Facts) (hNormRefIdeal : Cert.NormRefIdeal.Facts) (hNormBwd : Cert.NormBwd.Facts) (hNormBwdIdeal : Cert.NormBwdIdeal.Facts) (hNormBwdRefIdeal : Cert.NormBwdRefIdeal.Facts) (hFinalLoss : Cert.FinalLoss.Facts) (hFinalLossIdeal : Cert.FinalLossIdeal.Facts) (hFinalLossRefIdeal : Cert.FinalLossRefIdeal.Facts) (hNormPair : Cert.NormPair.Facts) (hNormPairIdeal : Cert.NormPairIdeal.Facts) (hNormPairRefIdeal : Cert.NormPairRefIdeal.Facts) (hNormPairBwd : Cert.NormPairBwd.Facts) (hNormPairBwdIdeal : Cert.NormPairBwdIdeal.Facts) (hNormPairBwdRefIdeal : Cert.NormPairBwdRefIdeal.Facts) (hAdamWhole : Cert.AdamWhole.Facts) (hAdamWholeIdeal : Cert.AdamWholeIdeal.Facts) (hAdamWholeRefIdeal : Cert.AdamWholeRefIdeal.Facts) (hAdamRows : Cert.AdamRows.Facts) (hAdamRowsIdeal : Cert.AdamRowsIdeal.Facts) (hAdamRowsRefIdeal : Cert.AdamRowsRefIdeal.Facts) (hAdamColumns : Cert.AdamColumns.Facts) (hAdamColumnsIdeal : Cert.AdamColumnsIdeal.Facts) (hAdamColumnsRefIdeal : Cert.AdamColumnsRefIdeal.Facts) (hAdamPacked : Cert.AdamPacked.Facts) (hAdamPackedIdeal : Cert.AdamPackedIdeal.Facts) (hAdamPackedRefIdeal : Cert.AdamPackedRefIdeal.Facts) (hAdamGateFirst : Cert.AdamGateFirst.Facts) (hAdamGateFirstIdeal : Cert.AdamGateFirstIdeal.Facts) (hAdamGateFirstRefIdeal : Cert.AdamGateFirstRefIdeal.Facts) (hAdamGateSecond : Cert.AdamGateSecond.Facts) (hAdamGateSecondIdeal : Cert.AdamGateSecondIdeal.Facts) (hAdamGateSecondRefIdeal : Cert.AdamGateSecondRefIdeal.Facts) (hAdamDownFirst : Cert.AdamDownFirst.Facts) (hAdamDownFirstIdeal : Cert.AdamDownFirstIdeal.Facts) (hAdamDownFirstRefIdeal : Cert.AdamDownFirstRefIdeal.Facts) (hAdamDownSecond : Cert.AdamDownSecond.Facts) (hAdamDownSecondIdeal : Cert.AdamDownSecondIdeal.Facts) (hAdamDownSecondRefIdeal : Cert.AdamDownSecondRefIdeal.Facts) (hPre_finite_dact : Cert.Pre_finite_dact.Facts) (hPre_chip_rows : Cert.Pre_chip_rows.Facts) (hPre_chip_columns : Cert.Pre_chip_columns.Facts) (hPre_chip_packed : Cert.Pre_chip_packed.Facts) (hPre_chip_gate : Cert.Pre_chip_gate.Facts) (hPre_chip_gate_second : Cert.Pre_chip_gate_second.Facts) (hPre_chip_down : Cert.Pre_chip_down.Facts) (hPre_chip_down_second : Cert.Pre_chip_down_second.Facts) (hOn_first_layer_gate : Cert.On_first_layer_gate.Facts) (hOn_first_layer_down : Cert.On_first_layer_down.Facts),
    quiescent_FfnDact (hFfnDact := hFfnDact)
    ∧ quiescent_FfnDactIdeal (hFfnDactIdeal := hFfnDactIdeal)
    ∧ quiescent_FfnDactIdeal_pre_finite_dact (hFfnDactIdeal := hFfnDactIdeal) (hPre_finite_dact := hPre_finite_dact)
    ∧ quiescent_FfnDactRefIdeal (hFfnDactRefIdeal := hFfnDactRefIdeal)
    ∧ quiescent_FfnDactRefIdeal_pre_finite_dact (hFfnDactRefIdeal := hFfnDactRefIdeal) (hPre_finite_dact := hPre_finite_dact)
    ∧ quiescent_FfnDwd (hFfnDwd := hFfnDwd)
    ∧ quiescent_FfnDwdIdeal (hFfnDwdIdeal := hFfnDwdIdeal)
    ∧ quiescent_FfnDwdRefIdeal (hFfnDwdRefIdeal := hFfnDwdRefIdeal)
    ∧ quiescent_FfnDwgu (hFfnDwgu := hFfnDwgu)
    ∧ quiescent_FfnDwguIdeal (hFfnDwguIdeal := hFfnDwguIdeal)
    ∧ quiescent_FfnDwguRefIdeal (hFfnDwguRefIdeal := hFfnDwguRefIdeal)
    ∧ quiescent_FfnDn (hFfnDn := hFfnDn)
    ∧ quiescent_FfnDnIdeal (hFfnDnIdeal := hFfnDnIdeal)
    ∧ quiescent_FfnDnRefIdeal (hFfnDnRefIdeal := hFfnDnRefIdeal)
    ∧ quiescent_FfnGateUp (hFfnGateUp := hFfnGateUp)
    ∧ quiescent_FfnGateUpIdeal (hFfnGateUpIdeal := hFfnGateUpIdeal)
    ∧ quiescent_FfnGateUpRefIdeal (hFfnGateUpRefIdeal := hFfnGateUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_ProjDx (hProjDx := hProjDx)
    ∧ quiescent_ProjDxIdeal (hProjDxIdeal := hProjDxIdeal)
    ∧ quiescent_ProjDxRefIdeal (hProjDxRefIdeal := hProjDxRefIdeal)
    ∧ quiescent_ProjDw (hProjDw := hProjDw)
    ∧ quiescent_ProjDwIdeal (hProjDwIdeal := hProjDwIdeal)
    ∧ quiescent_ProjDwRefIdeal (hProjDwRefIdeal := hProjDwRefIdeal)
    ∧ quiescent_KvDw (hKvDw := hKvDw)
    ∧ quiescent_KvDwIdeal (hKvDwIdeal := hKvDwIdeal)
    ∧ quiescent_KvDwRefIdeal (hKvDwRefIdeal := hKvDwRefIdeal)
    ∧ quiescent_KvDx (hKvDx := hKvDx)
    ∧ quiescent_KvDxIdeal (hKvDxIdeal := hKvDxIdeal)
    ∧ quiescent_KvDxRefIdeal (hKvDxRefIdeal := hKvDxRefIdeal)
    ∧ quiescent_ConvTwoDx (hConvTwoDx := hConvTwoDx)
    ∧ quiescent_ConvTwoDxIdeal (hConvTwoDxIdeal := hConvTwoDxIdeal)
    ∧ quiescent_ConvTwoDxRefIdeal (hConvTwoDxRefIdeal := hConvTwoDxRefIdeal)
    ∧ quiescent_ConvOneDw (hConvOneDw := hConvOneDw)
    ∧ quiescent_ConvOneDwIdeal (hConvOneDwIdeal := hConvOneDwIdeal)
    ∧ quiescent_ConvOneDwRefIdeal (hConvOneDwRefIdeal := hConvOneDwRefIdeal)
    ∧ quiescent_ConvOneDx (hConvOneDx := hConvOneDx)
    ∧ quiescent_ConvOneDxIdeal (hConvOneDxIdeal := hConvOneDxIdeal)
    ∧ quiescent_ConvOneDxRefIdeal (hConvOneDxRefIdeal := hConvOneDxRefIdeal)
    ∧ quiescent_QProj (hQProj := hQProj)
    ∧ quiescent_QProjIdeal (hQProjIdeal := hQProjIdeal)
    ∧ quiescent_QProjRefIdeal (hQProjRefIdeal := hQProjRefIdeal)
    ∧ quiescent_KvProj (hKvProj := hKvProj)
    ∧ quiescent_KvProjIdeal (hKvProjIdeal := hKvProjIdeal)
    ∧ quiescent_KvProjRefIdeal (hKvProjRefIdeal := hKvProjRefIdeal)
    ∧ quiescent_OProj (hOProj := hOProj)
    ∧ quiescent_OProjIdeal (hOProjIdeal := hOProjIdeal)
    ∧ quiescent_OProjRefIdeal (hOProjRefIdeal := hOProjRefIdeal)
    ∧ quiescent_ConvOne (hConvOne := hConvOne)
    ∧ quiescent_ConvOneIdeal (hConvOneIdeal := hConvOneIdeal)
    ∧ quiescent_ConvOneRefIdeal (hConvOneRefIdeal := hConvOneRefIdeal)
    ∧ quiescent_ConvTwo (hConvTwo := hConvTwo)
    ∧ quiescent_ConvTwoIdeal (hConvTwoIdeal := hConvTwoIdeal)
    ∧ quiescent_ConvTwoRefIdeal (hConvTwoRefIdeal := hConvTwoRefIdeal)
    ∧ quiescent_Norm (hNorm := hNorm)
    ∧ quiescent_NormIdeal (hNormIdeal := hNormIdeal)
    ∧ quiescent_NormRefIdeal (hNormRefIdeal := hNormRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_FinalLoss (hFinalLoss := hFinalLoss)
    ∧ quiescent_FinalLossIdeal (hFinalLossIdeal := hFinalLossIdeal)
    ∧ quiescent_FinalLossRefIdeal (hFinalLossRefIdeal := hFinalLossRefIdeal)
    ∧ quiescent_NormPair (hNormPair := hNormPair)
    ∧ quiescent_NormPairIdeal (hNormPairIdeal := hNormPairIdeal)
    ∧ quiescent_NormPairRefIdeal (hNormPairRefIdeal := hNormPairRefIdeal)
    ∧ quiescent_NormPairBwd (hNormPairBwd := hNormPairBwd)
    ∧ quiescent_NormPairBwdIdeal (hNormPairBwdIdeal := hNormPairBwdIdeal)
    ∧ quiescent_NormPairBwdRefIdeal (hNormPairBwdRefIdeal := hNormPairBwdRefIdeal)
    ∧ quiescent_AdamWhole (hAdamWhole := hAdamWhole)
    ∧ quiescent_AdamWholeIdeal (hAdamWholeIdeal := hAdamWholeIdeal)
    ∧ quiescent_AdamWholeRefIdeal (hAdamWholeRefIdeal := hAdamWholeRefIdeal)
    ∧ quiescent_AdamRows (hAdamRows := hAdamRows) (hPre_chip_rows := hPre_chip_rows)
    ∧ quiescent_AdamRowsIdeal (hAdamRowsIdeal := hAdamRowsIdeal) (hPre_chip_rows := hPre_chip_rows)
    ∧ quiescent_AdamRowsRefIdeal (hAdamRowsRefIdeal := hAdamRowsRefIdeal)
    ∧ quiescent_AdamRowsRefIdeal_pre_chip_rows (hAdamRowsRefIdeal := hAdamRowsRefIdeal) (hPre_chip_rows := hPre_chip_rows)
    ∧ quiescent_AdamColumns (hAdamColumns := hAdamColumns) (hPre_chip_columns := hPre_chip_columns)
    ∧ quiescent_AdamColumnsIdeal (hAdamColumnsIdeal := hAdamColumnsIdeal) (hPre_chip_columns := hPre_chip_columns)
    ∧ quiescent_AdamColumnsRefIdeal (hAdamColumnsRefIdeal := hAdamColumnsRefIdeal)
    ∧ quiescent_AdamColumnsRefIdeal_pre_chip_columns (hAdamColumnsRefIdeal := hAdamColumnsRefIdeal) (hPre_chip_columns := hPre_chip_columns)
    ∧ quiescent_AdamPacked (hAdamPacked := hAdamPacked) (hPre_chip_packed := hPre_chip_packed)
    ∧ quiescent_AdamPackedIdeal (hAdamPackedIdeal := hAdamPackedIdeal) (hPre_chip_packed := hPre_chip_packed)
    ∧ quiescent_AdamPackedRefIdeal (hAdamPackedRefIdeal := hAdamPackedRefIdeal)
    ∧ quiescent_AdamPackedRefIdeal_pre_chip_packed (hAdamPackedRefIdeal := hAdamPackedRefIdeal) (hPre_chip_packed := hPre_chip_packed)
    ∧ quiescent_AdamGateFirst (hAdamGateFirst := hAdamGateFirst) (hPre_chip_gate := hPre_chip_gate)
    ∧ quiescent_AdamGateFirstIdeal (hAdamGateFirstIdeal := hAdamGateFirstIdeal) (hPre_chip_gate := hPre_chip_gate)
    ∧ quiescent_AdamGateFirstRefIdeal (hAdamGateFirstRefIdeal := hAdamGateFirstRefIdeal)
    ∧ quiescent_AdamGateFirstRefIdeal_pre_chip_gate (hAdamGateFirstRefIdeal := hAdamGateFirstRefIdeal) (hPre_chip_gate := hPre_chip_gate)
    ∧ quiescent_AdamGateSecond (hAdamGateSecond := hAdamGateSecond) (hPre_chip_gate_second := hPre_chip_gate_second)
    ∧ quiescent_AdamGateSecondIdeal (hAdamGateSecondIdeal := hAdamGateSecondIdeal) (hPre_chip_gate_second := hPre_chip_gate_second)
    ∧ quiescent_AdamGateSecondRefIdeal (hAdamGateSecondRefIdeal := hAdamGateSecondRefIdeal)
    ∧ quiescent_AdamGateSecondRefIdeal_pre_chip_gate_second (hAdamGateSecondRefIdeal := hAdamGateSecondRefIdeal) (hPre_chip_gate_second := hPre_chip_gate_second)
    ∧ quiescent_AdamDownFirst (hAdamDownFirst := hAdamDownFirst) (hPre_chip_down := hPre_chip_down)
    ∧ quiescent_AdamDownFirstIdeal (hAdamDownFirstIdeal := hAdamDownFirstIdeal) (hPre_chip_down := hPre_chip_down)
    ∧ quiescent_AdamDownFirstRefIdeal (hAdamDownFirstRefIdeal := hAdamDownFirstRefIdeal)
    ∧ quiescent_AdamDownFirstRefIdeal_pre_chip_down (hAdamDownFirstRefIdeal := hAdamDownFirstRefIdeal) (hPre_chip_down := hPre_chip_down)
    ∧ quiescent_AdamDownSecond (hAdamDownSecond := hAdamDownSecond) (hPre_chip_down_second := hPre_chip_down_second)
    ∧ quiescent_AdamDownSecondIdeal (hAdamDownSecondIdeal := hAdamDownSecondIdeal) (hPre_chip_down_second := hPre_chip_down_second)
    ∧ quiescent_AdamDownSecondRefIdeal (hAdamDownSecondRefIdeal := hAdamDownSecondRefIdeal)
    ∧ quiescent_AdamDownSecondRefIdeal_pre_chip_down_second (hAdamDownSecondRefIdeal := hAdamDownSecondRefIdeal) (hPre_chip_down_second := hPre_chip_down_second)
    ∧ preserves_FfnDact_FfnDactIdeal
    ∧ algebraic_FfnDactIdeal_FfnDactRefIdeal_pre_finite_dact (hFfnDactIdeal := hFfnDactIdeal) (hFfnDactRefIdeal := hFfnDactRefIdeal) (hPre_finite_dact := hPre_finite_dact)
    ∧ preserves_FfnDwd_FfnDwdIdeal
    ∧ algebraic_FfnDwdIdeal_FfnDwdRefIdeal (hFfnDwdIdeal := hFfnDwdIdeal) (hFfnDwdRefIdeal := hFfnDwdRefIdeal)
    ∧ preserves_FfnDwgu_FfnDwguIdeal
    ∧ algebraic_FfnDwguIdeal_FfnDwguRefIdeal (hFfnDwguIdeal := hFfnDwguIdeal) (hFfnDwguRefIdeal := hFfnDwguRefIdeal)
    ∧ preserves_FfnDn_FfnDnIdeal
    ∧ algebraic_FfnDnIdeal_FfnDnRefIdeal (hFfnDnIdeal := hFfnDnIdeal) (hFfnDnRefIdeal := hFfnDnRefIdeal)
    ∧ preserves_FfnGateUp_FfnGateUpIdeal
    ∧ algebraic_FfnGateUpIdeal_FfnGateUpRefIdeal (hFfnGateUpIdeal := hFfnGateUpIdeal) (hFfnGateUpRefIdeal := hFfnGateUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_ProjDx_ProjDxIdeal
    ∧ algebraic_ProjDxIdeal_ProjDxRefIdeal (hProjDxIdeal := hProjDxIdeal) (hProjDxRefIdeal := hProjDxRefIdeal)
    ∧ preserves_ProjDw_ProjDwIdeal
    ∧ algebraic_ProjDwIdeal_ProjDwRefIdeal (hProjDwIdeal := hProjDwIdeal) (hProjDwRefIdeal := hProjDwRefIdeal)
    ∧ preserves_KvDw_KvDwIdeal
    ∧ algebraic_KvDwIdeal_KvDwRefIdeal (hKvDwIdeal := hKvDwIdeal) (hKvDwRefIdeal := hKvDwRefIdeal)
    ∧ preserves_KvDx_KvDxIdeal
    ∧ algebraic_KvDxIdeal_KvDxRefIdeal (hKvDxIdeal := hKvDxIdeal) (hKvDxRefIdeal := hKvDxRefIdeal)
    ∧ preserves_ConvTwoDx_ConvTwoDxIdeal
    ∧ algebraic_ConvTwoDxIdeal_ConvTwoDxRefIdeal (hConvTwoDxIdeal := hConvTwoDxIdeal) (hConvTwoDxRefIdeal := hConvTwoDxRefIdeal)
    ∧ preserves_ConvOneDw_ConvOneDwIdeal
    ∧ algebraic_ConvOneDwIdeal_ConvOneDwRefIdeal (hConvOneDwIdeal := hConvOneDwIdeal) (hConvOneDwRefIdeal := hConvOneDwRefIdeal)
    ∧ preserves_ConvOneDx_ConvOneDxIdeal
    ∧ algebraic_ConvOneDxIdeal_ConvOneDxRefIdeal (hConvOneDxIdeal := hConvOneDxIdeal) (hConvOneDxRefIdeal := hConvOneDxRefIdeal)
    ∧ preserves_QProj_QProjIdeal
    ∧ algebraic_QProjIdeal_QProjRefIdeal (hQProjIdeal := hQProjIdeal) (hQProjRefIdeal := hQProjRefIdeal)
    ∧ preserves_KvProj_KvProjIdeal
    ∧ algebraic_KvProjIdeal_KvProjRefIdeal (hKvProjIdeal := hKvProjIdeal) (hKvProjRefIdeal := hKvProjRefIdeal)
    ∧ preserves_OProj_OProjIdeal
    ∧ algebraic_OProjIdeal_OProjRefIdeal (hOProjIdeal := hOProjIdeal) (hOProjRefIdeal := hOProjRefIdeal)
    ∧ preserves_ConvOne_ConvOneIdeal
    ∧ algebraic_ConvOneIdeal_ConvOneRefIdeal (hConvOneIdeal := hConvOneIdeal) (hConvOneRefIdeal := hConvOneRefIdeal)
    ∧ preserves_ConvTwo_ConvTwoIdeal
    ∧ algebraic_ConvTwoIdeal_ConvTwoRefIdeal (hConvTwoIdeal := hConvTwoIdeal) (hConvTwoRefIdeal := hConvTwoRefIdeal)
    ∧ preserves_Norm_NormIdeal
    ∧ algebraic_NormIdeal_NormRefIdeal (hNormIdeal := hNormIdeal) (hNormRefIdeal := hNormRefIdeal)
    ∧ preserves_NormBwd_NormBwdIdeal
    ∧ algebraic_NormBwdIdeal_NormBwdRefIdeal (hNormBwdIdeal := hNormBwdIdeal) (hNormBwdRefIdeal := hNormBwdRefIdeal)
    ∧ preserves_FinalLoss_FinalLossIdeal
    ∧ algebraic_FinalLossIdeal_FinalLossRefIdeal (hFinalLossIdeal := hFinalLossIdeal) (hFinalLossRefIdeal := hFinalLossRefIdeal)
    ∧ preserves_NormPair_NormPairIdeal
    ∧ algebraic_NormPairIdeal_NormPairRefIdeal (hNormPairIdeal := hNormPairIdeal) (hNormPairRefIdeal := hNormPairRefIdeal)
    ∧ preserves_NormPairBwd_NormPairBwdIdeal
    ∧ algebraic_NormPairBwdIdeal_NormPairBwdRefIdeal (hNormPairBwdIdeal := hNormPairBwdIdeal) (hNormPairBwdRefIdeal := hNormPairBwdRefIdeal)
    ∧ preserves_AdamWhole_AdamWholeIdeal
    ∧ algebraic_AdamWholeIdeal_AdamWholeRefIdeal (hAdamWholeIdeal := hAdamWholeIdeal) (hAdamWholeRefIdeal := hAdamWholeRefIdeal)
    ∧ preserves_AdamRows_AdamRowsIdeal
    ∧ algebraic_AdamRowsIdeal_AdamRowsRefIdeal (hAdamRowsIdeal := hAdamRowsIdeal) (hAdamRowsRefIdeal := hAdamRowsRefIdeal) (hPre_chip_rows := hPre_chip_rows)
    ∧ preserves_AdamColumns_AdamColumnsIdeal
    ∧ algebraic_AdamColumnsIdeal_AdamColumnsRefIdeal (hAdamColumnsIdeal := hAdamColumnsIdeal) (hAdamColumnsRefIdeal := hAdamColumnsRefIdeal) (hPre_chip_columns := hPre_chip_columns)
    ∧ preserves_AdamPacked_AdamPackedIdeal
    ∧ algebraic_AdamPackedIdeal_AdamPackedRefIdeal (hAdamPackedIdeal := hAdamPackedIdeal) (hAdamPackedRefIdeal := hAdamPackedRefIdeal) (hPre_chip_packed := hPre_chip_packed)
    ∧ preserves_AdamGateFirst_AdamGateFirstIdeal
    ∧ algebraic_AdamGateFirstIdeal_AdamGateFirstRefIdeal_on_first_layer_gate (hAdamGateFirstIdeal := hAdamGateFirstIdeal) (hAdamGateFirstRefIdeal := hAdamGateFirstRefIdeal) (hPre_chip_gate := hPre_chip_gate) (hOn_first_layer_gate := hOn_first_layer_gate)
    ∧ preserves_AdamGateSecond_AdamGateSecondIdeal
    ∧ algebraic_AdamGateSecondIdeal_AdamGateSecondRefIdeal (hAdamGateSecondIdeal := hAdamGateSecondIdeal) (hAdamGateSecondRefIdeal := hAdamGateSecondRefIdeal) (hPre_chip_gate_second := hPre_chip_gate_second)
    ∧ preserves_AdamDownFirst_AdamDownFirstIdeal
    ∧ algebraic_AdamDownFirstIdeal_AdamDownFirstRefIdeal_on_first_layer_down (hAdamDownFirstIdeal := hAdamDownFirstIdeal) (hAdamDownFirstRefIdeal := hAdamDownFirstRefIdeal) (hPre_chip_down := hPre_chip_down) (hOn_first_layer_down := hOn_first_layer_down)
    ∧ preserves_AdamDownSecond_AdamDownSecondIdeal
    ∧ algebraic_AdamDownSecondIdeal_AdamDownSecondRefIdeal (hAdamDownSecondIdeal := hAdamDownSecondIdeal) (hAdamDownSecondRefIdeal := hAdamDownSecondRefIdeal) (hPre_chip_down_second := hPre_chip_down_second)
-- ==== On_first_layer_down.lean ====
abbrev S2 : Shape := ⟨1, ![2]⟩
abbrev S8x1408x2048 : Shape := ⟨3, ![8, 1408, 2048]⟩
abbrev S5632x2048 : Shape := ⟨2, ![5632, 2048]⟩
abbrev S2x1408x2048 : Shape := ⟨3, ![2, 1408, 2048]⟩
abbrev S_ : Shape := ⟨0, ![]⟩

class Facts : Prop where
  bcast_S_S2x1408x2048 : S_.BroadcastsInDim S2x1408x2048 (![] : Fin 0 → Fin S2x1408x2048.rank)

variable [Facts]

def fn {F : FTy → Type} [FloatOps F] (main_arg0 : IVec S2 32) (main_arg1 : FVec F S8x1408x2048 .bf16) (main_arg2 : FVec F S5632x2048 .bf16) (main_arg3 : FVec F S2x1408x2048 .f32) (main_arg4 : FVec F S2x1408x2048 .f32) (main_arg5 : FVec F S2x1408x2048 .f32) : IVec S2x1408x2048 1 × IVec S2x1408x2048 1 × IVec S2x1408x2048 1 × IVec S2x1408x2048 1 :=
  let main_v0 : IVec S2x1408x2048 32 := iotaInDim S2x1408x2048 32 0
  let main_c : IVec S_ 32 := constantI S_ 32 0#32
  let main_v1 : IVec S2x1408x2048 32 := broadcastInDim S2x1408x2048 ![] bcast_S_S2x1408x2048 main_c
  let main_v2 : IVec S2x1408x2048 1 := cmpi .eq main_v0 main_v1
  (main_v2, main_v2, main_v2, main_v2)
-- ==== On_first_layer_gate.lean ====
abbrev S2 : Shape := ⟨1, ![2]⟩
abbrev S8x2048x1408 : Shape := ⟨3, ![8, 2048, 1408]⟩
abbrev S2048x5632 : Shape := ⟨2, ![2048, 5632]⟩
abbrev S2x2048x1408 : Shape := ⟨3, ![2, 2048, 1408]⟩
abbrev S_ : Shape := ⟨0, ![]⟩

class Facts : Prop where
  bcast_S_S2x2048x1408 : S_.BroadcastsInDim S2x2048x1408 (![] : Fin 0 → Fin S2x2048x1408.rank)

variable [Facts]

def fn {F : FTy → Type} [FloatOps F] (main_arg0 : IVec S2 32) (main_arg1 : FVec F S8x2048x1408 .bf16) (main_arg2 : FVec F S2048x5632 .bf16) (main_arg3 : FVec F S2x2048x1408 .f32) (main_arg4 : FVec F S2x2048x1408 .f32) (main_arg5 : FVec F S2x2048x1408 .f32) : IVec S2x2048x1408 1 × IVec S2x2048x1408 1 × IVec S2x2048x1408 1 × IVec S2x2048x1408 1 :=
  let main_v0 : IVec S2x2048x1408 32 := iotaInDim S2x2048x1408 32 0
  let main_c : IVec S_ 32 := constantI S_ 32 0#32
  let main_v1 : IVec S2x2048x1408 32 := broadcastInDim S2x2048x1408 ![] bcast_S_S2x2048x1408 main_c
  let main_v2 : IVec S2x2048x1408 1 := cmpi .eq main_v0 main_v1
  (main_v2, main_v2, main_v2, main_v2)
-- ==== Pre_chip_columns.lean ====
abbrev S2 : Shape := ⟨1, ![2]⟩
abbrev S8x2048x1024 : Shape := ⟨3, ![8, 2048, 1024]⟩
abbrev S2048x4096 : Shape := ⟨2, ![2048, 4096]⟩
abbrev S2048x1024 : Shape := ⟨2, ![2048, 1024]⟩
abbrev S1 : Shape := ⟨1, ![1]⟩
abbrev S_ : Shape := ⟨0, ![]⟩

class Facts : Prop where
  slices_S2_S1_0 : S2.Slices ![0] S1
  shapeCasts_S1_S_ : S1.ShapeCasts S_

variable [Facts]

def fn {F : FTy → Type} [FloatOps F] (main_arg0 : IVec S2 32) (main_arg1 : FVec F S8x2048x1024 .bf16) (main_arg2 : FVec F S2048x4096 .bf16) (main_arg3 : FVec F S2048x1024 .f32) (main_arg4 : FVec F S2048x1024 .f32) (main_arg5 : FVec F S2048x1024 .f32) : IVec S_ 1 :=
  let main_v0 : IVec S1 32 := (extractStridedSlice S1 ![0] · slices_S2_S1_0) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![0] · slices_S2_S1_0) main_arg0
  let main_v4 : IVec S_ 32 := shapeCast S_ main_v3 shapeCasts_S1_S_
  let main_c_0 : IVec S_ 32 := constantI S_ 32 4#32
  let main_v5 : IVec S_ 1 := cmpi .slt main_v4 main_c_0
  let main_v6 : IVec S_ 1 := andi main_v2 main_v5
  main_v6
-- ==== Pre_chip_down.lean ====
abbrev S2 : Shape := ⟨1, ![2]⟩
abbrev S8x1408x2048 : Shape := ⟨3, ![8, 1408, 2048]⟩
abbrev S5632x2048 : Shape := ⟨2, ![5632, 2048]⟩
abbrev S2x1408x2048 : Shape := ⟨3, ![2, 1408, 2048]⟩
abbrev S1 : Shape := ⟨1, ![1]⟩
abbrev S_ : Shape := ⟨0, ![]⟩

class Facts : Prop where
  slices_S2_S1_0 : S2.Slices ![0] S1
  shapeCasts_S1_S_ : S1.ShapeCasts S_

variable [Facts]

def fn {F : FTy → Type} [FloatOps F] (main_arg0 : IVec S2 32) (main_arg1 : FVec F S8x1408x2048 .bf16) (main_arg2 : FVec F S5632x2048 .bf16) (main_arg3 : FVec F S2x1408x2048 .f32) (main_arg4 : FVec F S2x1408x2048 .f32) (main_arg5 : FVec F S2x1408x2048 .f32) : IVec S_ 1 :=
  let main_v0 : IVec S1 32 := (extractStridedSlice S1 ![0] · slices_S2_S1_0) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![0] · slices_S2_S1_0) main_arg0
  let main_v4 : IVec S_ 32 := shapeCast S_ main_v3 shapeCasts_S1_S_
  let main_c_0 : IVec S_ 32 := constantI S_ 32 4#32
  let main_v5 : IVec S_ 1 := cmpi .slt main_v4 main_c_0
  let main_v6 : IVec S_ 1 := andi main_v2 main_v5
  main_v6
-- ==== Pre_chip_down_second.lean ====
abbrev S2 : Shape := ⟨1, ![2]⟩
abbrev S8x1408x2048 : Shape := ⟨3, ![8, 1408, 2048]⟩
abbrev S5632x2048 : Shape := ⟨2, ![5632, 2048]⟩
abbrev S2x1408x2048 : Shape := ⟨3, ![2, 1408, 2048]⟩
abbrev S1 : Shape := ⟨1, ![1]⟩
abbrev S_ : Shape := ⟨0, ![]⟩

class Facts : Prop where
  slices_S2_S1_0 : S2.Slices ![0] S1
  shapeCasts_S1_S_ : S1.ShapeCasts S_

variable [Facts]

def fn {F : FTy → Type} [FloatOps F] (main_arg0 : IVec S2 32) (main_arg1 : FVec F S8x1408x2048 .bf16) (main_arg2 : FVec F S5632x2048 .bf16) (main_arg3 : FVec F S2x1408x2048 .f32) (main_arg4 : FVec F S2x1408x2048 .f32) (main_arg5 : FVec F S2x1408x2048 .f32) (main_arg6 : FVec F S2x1408x2048 .f32) (main_arg7 : FVec F S2x1408x2048 .f32) (main_arg8 : FVec F S2x1408x2048 .f32) (main_arg9 : FVec F S2x1408x2048 .f32) : IVec S_ 1 :=
  let main_v0 : IVec S1 32 := (extractStridedSlice S1 ![0] · slices_S2_S1_0) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![0] · slices_S2_S1_0) main_arg0
  let main_v4 : IVec S_ 32 := shapeCast S_ main_v3 shapeCasts_S1_S_
  let main_c_0 : IVec S_ 32 := constantI S_ 32 4#32
  let main_v5 : IVec S_ 1 := cmpi .slt main_v4 main_c_0
  let main_v6 : IVec S_ 1 := andi main_v2 main_v5
  main_v6
-- ==== Pre_chip_gate.lean ====
abbrev S2 : Shape := ⟨1, ![2]⟩
abbrev S8x2048x1408 : Shape := ⟨3, ![8, 2048, 1408]⟩
abbrev S2048x5632 : Shape := ⟨2, ![2048, 5632]⟩
abbrev S2x2048x1408 : Shape := ⟨3, ![2, 2048, 1408]⟩
abbrev S1 : Shape := ⟨1, ![1]⟩
abbrev S_ : Shape := ⟨0, ![]⟩

class Facts : Prop where
  slices_S2_S1_0 : S2.Slices ![0] S1
  shapeCasts_S1_S_ : S1.ShapeCasts S_

variable [Facts]

def fn {F : FTy → Type} [FloatOps F] (main_arg0 : IVec S2 32) (main_arg1 : FVec F S8x2048x1408 .bf16) (main_arg2 : FVec F S2048x5632 .bf16) (main_arg3 : FVec F S2x2048x1408 .f32) (main_arg4 : FVec F S2x2048x1408 .f32) (main_arg5 : FVec F S2x2048x1408 .f32) : IVec S_ 1 :=
  let main_v0 : IVec S1 32 := (extractStridedSlice S1 ![0] · slices_S2_S1_0) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![0] · slices_S2_S1_0) main_arg0
  let main_v4 : IVec S_ 32 := shapeCast S_ main_v3 shapeCasts_S1_S_
  let main_c_0 : IVec S_ 32 := constantI S_ 32 4#32
  let main_v5 : IVec S_ 1 := cmpi .slt main_v4 main_c_0
  let main_v6 : IVec S_ 1 := andi main_v2 main_v5
  main_v6
-- ==== Pre_chip_gate_second.lean ====
abbrev S2 : Shape := ⟨1, ![2]⟩
abbrev S8x2048x1408 : Shape := ⟨3, ![8, 2048, 1408]⟩
abbrev S2048x5632 : Shape := ⟨2, ![2048, 5632]⟩
abbrev S2x2048x1408 : Shape := ⟨3, ![2, 2048, 1408]⟩
abbrev S1 : Shape := ⟨1, ![1]⟩
abbrev S_ : Shape := ⟨0, ![]⟩

class Facts : Prop where
  slices_S2_S1_0 : S2.Slices ![0] S1
  shapeCasts_S1_S_ : S1.ShapeCasts S_

variable [Facts]

def fn {F : FTy → Type} [FloatOps F] (main_arg0 : IVec S2 32) (main_arg1 : FVec F S8x2048x1408 .bf16) (main_arg2 : FVec F S2048x5632 .bf16) (main_arg3 : FVec F S2x2048x1408 .f32) (main_arg4 : FVec F S2x2048x1408 .f32) (main_arg5 : FVec F S2x2048x1408 .f32) (main_arg6 : FVec F S2x2048x1408 .f32) (main_arg7 : FVec F S2x2048x1408 .f32) (main_arg8 : FVec F S2x2048x1408 .f32) (main_arg9 : FVec F S2x2048x1408 .f32) : IVec S_ 1 :=
  let main_v0 : IVec S1 32 := (extractStridedSlice S1 ![0] · slices_S2_S1_0) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![0] · slices_S2_S1_0) main_arg0
  let main_v4 : IVec S_ 32 := shapeCast S_ main_v3 shapeCasts_S1_S_
  let main_c_0 : IVec S_ 32 := constantI S_ 32 4#32
  let main_v5 : IVec S_ 1 := cmpi .slt main_v4 main_c_0
  let main_v6 : IVec S_ 1 := andi main_v2 main_v5
  main_v6
-- ==== Pre_chip_packed.lean ====
abbrev S2 : Shape := ⟨1, ![2]⟩
abbrev S8x80x512 : Shape := ⟨3, ![8, 80, 512]⟩
abbrev S320x512 : Shape := ⟨2, ![320, 512]⟩
abbrev S80x512 : Shape := ⟨2, ![80, 512]⟩
abbrev S1 : Shape := ⟨1, ![1]⟩
abbrev S_ : Shape := ⟨0, ![]⟩

class Facts : Prop where
  slices_S2_S1_0 : S2.Slices ![0] S1
  shapeCasts_S1_S_ : S1.ShapeCasts S_

variable [Facts]

def fn {F : FTy → Type} [FloatOps F] (main_arg0 : IVec S2 32) (main_arg1 : FVec F S8x80x512 .f32) (main_arg2 : FVec F S320x512 .f32) (main_arg3 : FVec F S80x512 .f32) (main_arg4 : FVec F S80x512 .f32) (main_arg5 : FVec F S80x512 .f32) : IVec S_ 1 :=
  let main_v0 : IVec S1 32 := (extractStridedSlice S1 ![0] · slices_S2_S1_0) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![0] · slices_S2_S1_0) main_arg0
  let main_v4 : IVec S_ 32 := shapeCast S_ main_v3 shapeCasts_S1_S_
  let main_c_0 : IVec S_ 32 := constantI S_ 32 4#32
  let main_v5 : IVec S_ 1 := cmpi .slt main_v4 main_c_0
  let main_v6 : IVec S_ 1 := andi main_v2 main_v5
  main_v6
-- ==== Pre_chip_rows.lean ====
abbrev S2 : Shape := ⟨1, ![2]⟩
abbrev S8x512x2048 : Shape := ⟨3, ![8, 512, 2048]⟩
abbrev S2048x2048 : Shape := ⟨2, ![2048, 2048]⟩
abbrev S512x2048 : Shape := ⟨2, ![512, 2048]⟩
abbrev S1 : Shape := ⟨1, ![1]⟩
abbrev S_ : Shape := ⟨0, ![]⟩

class Facts : Prop where
  slices_S2_S1_0 : S2.Slices ![0] S1
  shapeCasts_S1_S_ : S1.ShapeCasts S_

variable [Facts]

def fn {F : FTy → Type} [FloatOps F] (main_arg0 : IVec S2 32) (main_arg1 : FVec F S8x512x2048 .bf16) (main_arg2 : FVec F S2048x2048 .bf16) (main_arg3 : FVec F S512x2048 .f32) (main_arg4 : FVec F S512x2048 .f32) (main_arg5 : FVec F S512x2048 .f32) : IVec S_ 1 :=
  let main_v0 : IVec S1 32 := (extractStridedSlice S1 ![0] · slices_S2_S1_0) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![0] · slices_S2_S1_0) main_arg0
  let main_v4 : IVec S_ 32 := shapeCast S_ main_v3 shapeCasts_S1_S_
  let main_c_0 : IVec S_ 32 := constantI S_ 32 4#32
  let main_v5 : IVec S_ 1 := cmpi .slt main_v4 main_c_0
  let main_v6 : IVec S_ 1 := andi main_v2 main_v5
  main_v6
-- ==== Pre_finite_dact.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  bcast_S_S5632x2048 : S_.BroadcastsInDim S5632x2048 (![] : Fin 0 → Fin S5632x2048.rank)
  bcast_S_S4096x5632 : S_.BroadcastsInDim S4096x5632 (![] : Fin 0 → Fin S4096x5632.rank)

variable [Facts]

def fn {F : FTy → Type} [FloatOps F] (main_arg0 : FVec F S4096x2048 .bf16) (main_arg1 : FVec F S5632x2048 .bf16) (main_arg2 : FVec F S4096x5632 .bf16) (main_arg3 : FVec F S4096x5632 .bf16) : IVec S4096x2048 1 × IVec S5632x2048 1 × IVec S4096x5632 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_v4 : FVec F S5632x2048 .f32 := (extf .f32 · bitsLt_bf16_f32) main_arg1
  let main_v5 : FVec F S5632x2048 .f32 := Host.absf main_v4
  let main_cst_0 : FVec F S_ .f32 := constant S_ .f32 0x7F800000#32
  let main_v6 : FVec F S5632x2048 .f32 := broadcastInDim S5632x2048 ![] bcast_S_S5632x2048 main_cst_0
  let main_v7 : IVec S5632x2048 1 := cmpf .olt main_v5 main_v6
  let main_v8 : FVec F S4096x5632 .f32 := (extf .f32 · bitsLt_bf16_f32) main_arg3
  let main_v9 : FVec F S4096x5632 .f32 := Host.absf main_v8
  let main_cst_1 : FVec F S_ .f32 := constant S_ .f32 0x7F800000#32
  let main_v10 : FVec F S4096x5632 .f32 := broadcastInDim S4096x5632 ![] bcast_S_S4096x5632 main_cst_1
  let main_v11 : IVec S4096x5632 1 := cmpf .olt main_v9 main_v10
  (main_v3, main_v7, main_v11)
-- ==== FfnDact.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .hbm, ⟨3, _⟩ => ⟨S4096x5632, .bf16⟩
  | .hbm, ⟨4, _⟩ => ⟨S4096x5632, .bf16⟩
  | .hbm, ⟨5, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== FfnDactRefIdeal.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .hbm, ⟨3, _⟩ => ⟨S4096x5632, .bf16⟩
  | .hbm, ⟨4, _⟩ => ⟨S5632x2048, .f32⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x2048, .f32⟩
  | .hbm, ⟨22, _⟩ => ⟨S4096x2048, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x5632, .bf16⟩
  | .hbm, ⟨31, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== FfnDwd.lean ====
abbrev S4096x5632 : Shape := ⟨2, ![4096, 5632]⟩
abbrev S4096x2048 : Shape := ⟨2, ![4096, 2048]⟩
abbrev S5632x2048 : Shape := ⟨2, ![5632, 2048]⟩
abbrev S4096x1408 : Shape := ⟨2, ![4096, 1408]⟩
abbrev S4096x512 : Shape := ⟨2, ![4096, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S4096x1408, .bf16⟩
  | .local _ .vmem, ⟨1, _⟩ => ⟨S4096x1408, .bf16⟩
  | .local _ .vmem, ⟨2, _⟩ => ⟨S4096x512, .bf16⟩
  | .local _ .vmem, ⟨3, _⟩ => ⟨S4096x512, .bf16⟩
  | .local _ .vmem, ⟨4, _⟩ => ⟨S1408x512, .bf16⟩
  | .local _ .vmem, ⟨5, _⟩ => ⟨S1408x512, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDwdRefIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnDwgu.lean ====
abbrev S4096x2048 : Shape := ⟨2, ![4096, 2048]⟩
abbrev S4096x5632 : Shape := ⟨2, ![4096, 5632]⟩
abbrev S2048x5632 : Shape := ⟨2, ![2048, 5632]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4096x5632, .bf16⟩
  | .hbm, ⟨3, _⟩ => ⟨S2048x5632, .bf16⟩
  | .hbm, ⟨4, _⟩ => ⟨S2048x5632, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== FfnDwguRefIdeal.lean ====
abbrev S4096x2048 : Shape := ⟨2, ![4096, 2048]⟩
abbrev S4096x5632 : Shape := ⟨2, ![4096, 5632]⟩
abbrev S_ : Shape := ⟨0, ![]⟩
abbrev S2048x5632 : Shape := ⟨2, ![2048, 5632]⟩
abbrev S5632x2048 : Shape := ⟨2, ![5632, 2048]⟩

abbrev nBuf : Space → Nat
  | .hbm => 16
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4096x5632, .bf16⟩
  | .hbm, ⟨3, _⟩ => ⟨S_, .f32⟩
  | .hbm, ⟨4, _⟩ => ⟨S2048x5632, .f32⟩
  | .hbm, ⟨5, _⟩ => ⟨S4096x2048, .f32⟩
  | .hbm, ⟨6, _⟩ => ⟨S4096x5632, .f32⟩
  | .hbm, ⟨7, _⟩ => ⟨S4096x5632, .f32⟩
  | .hbm, ⟨8, _⟩ => ⟨S4096x5632, .f32⟩
  | .hbm, ⟨9, _⟩ => ⟨S4096x5632, .f32⟩
  | .hbm, ⟨10, _⟩ => ⟨S5632x2048, .f32⟩
  | .hbm, ⟨11, _⟩ => ⟨S2048x5632, .f32⟩
  | .hbm, ⟨12, _⟩ => ⟨S5632x2048, .f32⟩
  | .hbm, ⟨13, _⟩ => ⟨S2048x5632, .f32⟩
  | .hbm, ⟨14, _⟩ => ⟨S2048x5632, .bf16⟩
  | .hbm, ⟨15, _⟩ => ⟨S2048x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== FfnDn.lean ====
abbrev S4096x5632 : Shape := ⟨2, ![4096, 5632]⟩
abbrev S2048x5632 : Shape := ⟨2, ![2048, 5632]⟩
abbrev S4096x2048 : Shape := ⟨2, ![4096, 2048]⟩
abbrev S512x5632 : Shape := ⟨2, ![512, 5632]⟩
abbrev S256x5632 : Shape := ⟨2, ![256, 5632]⟩
abbrev S512x256 : Shape := ⟨2, ![512, 256]⟩

abbrev nBuf : Space → Nat
  | .hbm => 5
  | .vmem => 10
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S2048x5632, .bf16⟩
  | .hbm, ⟨3, _⟩ => ⟨S2048x5632, .bf16⟩
  | .hbm, ⟨4, _⟩ => ⟨S4096x2048, .bf16⟩
  | .local _ .vmem, ⟨0, _⟩ => ⟨S512x5632, .bf16⟩
  | .local _ .vmem, ⟨1, _⟩ => ⟨S512x5632, .bf16⟩
  | .local _ .vmem, ⟨2, _⟩ => ⟨S512x5632, .bf16⟩
  | .local _ .vmem, ⟨3, _⟩ => ⟨S512x5632, .bf16⟩
  | .local _ .vmem, ⟨4, _⟩ => ⟨S256x5632, .bf16⟩
  | .local _ .vmem, ⟨5, _⟩ => ⟨S256x5632, .bf16⟩
  | .local _ .vmem, ⟨6, _⟩ => ⟨S256x5632, .bf16⟩
  | .local _ .vmem, ⟨7, _⟩ => ⟨S256x5632, .bf16⟩
  | .local _ .vmem, ⟨8, _⟩ => ⟨S512x256, .bf16⟩
  | .local _ .vmem, ⟨9, _⟩ => ⟨S512x256, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== FfnDnRefIdeal.lean ====
abbrev S4096x5632 : Shape := ⟨2, ![4096, 5632]⟩
abbrev S2048x5632 : Shape := ⟨2, ![2048, 5632]⟩
abbrev S_ : Shape := ⟨0, ![]⟩
abbrev S4096x2048 : Shape := ⟨2, ![4096, 2048]⟩

abbrev nBuf : Space → Nat
  | .hbm => 16
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S2048x5632, .bf16⟩
  | .hbm, ⟨3, _⟩ => ⟨S2048x5632, .bf16⟩
  | .hbm, ⟨4, _⟩ => ⟨S2048x5632, .f32⟩
  | .hbm, ⟨5, _⟩ => ⟨S2048x5632, .f32⟩
  | .hbm, ⟨6, _⟩ => ⟨S_, .f32⟩
  | .hbm, ⟨7, _⟩ => ⟨S4096x2048, .f32⟩
  | .hbm, ⟨8, _⟩ => ⟨S4096x5632, .f32⟩
  | .hbm, ⟨9, _⟩ => ⟨S4096x5632, .f32⟩
  | .hbm, ⟨10, _⟩ => ⟨S4096x5632, .f32⟩
  | .hbm, ⟨11, _⟩ => ⟨S4096x5632, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== FfnGateUp.lean ====
abbrev S4096x2048 : Shape := ⟨2, ![4096, 2048]⟩
abbrev S2048x5632 : Shape := ⟨2, ![2048, 5632]⟩
abbrev S4096x5632 : Shape := ⟨2, ![4096, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .bf16⟩
  | .hbm, ⟨2, _⟩ => ⟨S2048x5632, .bf16⟩
  | .hbm, ⟨3, _⟩ => ⟨S4096x5632, .bf16⟩
  | .hbm, ⟨4, _⟩ => ⟨S4096x5632, .bf16⟩
  | .hbm, ⟨5, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== FfnGateUpRefIdeal.lean ====
abbrev S4096x2048 : Shape := ⟨2, ![4096, 2048]⟩
abbrev S2048x5632 : Shape := ⟨2, ![2048, 5632]⟩
abbrev S4096x5632 : Shape := ⟨2, ![4096, 5632]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .bf16⟩
  | .hbm, ⟨2, _⟩ => ⟨S2048x5632, .bf16⟩
  | .hbm, ⟨3, _⟩ => ⟨S4096x2048, .f32⟩
  | .hbm, ⟨4, _⟩ => ⟨S2048x5632, .f32⟩
  | .hbm, ⟨5, _⟩ => ⟨S2048x5632, .f32⟩
  | .hbm, ⟨6, _⟩ => ⟨S4096x5632, .f32⟩
  | .hbm, ⟨7, _⟩ => ⟨S4096x5632, .f32⟩
  | .hbm, ⟨8, _⟩ => ⟨S4096x5632, .bf16⟩
  | .hbm, ⟨9, _⟩ => ⟨S4096x5632, .bf16⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== FfnDown.lean ====
abbrev S4096x5632 : Shape := ⟨2, ![4096, 5632]⟩
abbrev S5632x2048 : Shape := ⟨2, ![5632, 2048]⟩
abbrev S4096x2048 : Shape := ⟨2, ![4096, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownRefIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ProjDx.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDxRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ProjDw.lean ====
abbrev S4096x2048 : Shape := ⟨2, ![4096, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDwRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KvDw.lean ====
abbrev S4096x2048 : Shape := ⟨2, ![4096, 2048]⟩
abbrev S2048x2048 : Shape := ⟨2, ![2048, 2048]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .bf16⟩
  | .hbm, ⟨3, _⟩ => ⟨S2048x2048, .bf16⟩
  | .hbm, ⟨4, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== KvDwRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 16
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .bf16⟩
  | .hbm, ⟨3, _⟩ => ⟨S_, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .bf16⟩
  | .hbm, ⟨15, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== KvDx.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .hbm, ⟨3, _⟩ => ⟨S2048x2048, .bf16⟩
  | .hbm, ⟨4, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S1024x1024, .bf16⟩
  | .local _ .vmem, ⟨9, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== KvDxRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .hbm, ⟨3, _⟩ => ⟨S2048x2048, .bf16⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== ConvTwoDx.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvTwoDxRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ConvOneDw.lean ====
abbrev S4096x2048 : Shape := ⟨2, ![4096, 2048]⟩
abbrev S4096x4096 : Shape := ⟨2, ![4096, 4096]⟩
abbrev S2048x4096 : Shape := ⟨2, ![2048, 4096]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S2048x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvOneDwRefIdeal.lean ====
abbrev S4096x2048 : Shape := ⟨2, ![4096, 2048]⟩
abbrev S4096x4096 : Shape := ⟨2, ![4096, 4096]⟩
abbrev S_ : Shape := ⟨0, ![]⟩
abbrev S2048x4096 : Shape := ⟨2, ![2048, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S_, .f32⟩
  | .hbm, ⟨3, _⟩ => ⟨S2048x4096, .f32⟩
  | .hbm, ⟨4, _⟩ => ⟨S4096x2048, .f32⟩
  | .hbm, ⟨5, _⟩ => ⟨S4096x4096, .f32⟩
  | .hbm, ⟨6, _⟩ => ⟨S4096x4096, .f32⟩
  | .hbm, ⟨7, _⟩ => ⟨S4096x2048, .f32⟩
  | .hbm, ⟨8, _⟩ => ⟨S2048x4096, .f32⟩
  | .hbm, ⟨9, _⟩ => ⟨S2048x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ConvOneDx.lean ====
abbrev S4096x4096 : Shape := ⟨2, ![4096, 4096]⟩
abbrev S2048x4096 : Shape := ⟨2, ![2048, 4096]⟩
abbrev S4096x2048 : Shape := ⟨2, ![4096, 2048]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S2048x4096, .bf16⟩
  | .hbm, ⟨2, _⟩ => ⟨S4096x2048, .bf16⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .bf16⟩
  | .local _ .vmem, ⟨5, _⟩ => ⟨S1024x512, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvOneDxRefIdeal.lean ====
abbrev S4096x4096 : Shape := ⟨2, ![4096, 4096]⟩
abbrev S2048x4096 : Shape := ⟨2, ![2048, 4096]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S2048x4096, .bf16⟩
  | .hbm, ⟨2, _⟩ => ⟨S_, .f32⟩
  | .hbm, ⟨3, _⟩ => ⟨S4096x2048, .f32⟩
  | .hbm, ⟨4, _⟩ => ⟨S2048x4096, .f32⟩
  | .hbm, ⟨5, _⟩ => ⟨S4096x4096, .f32⟩
  | .hbm, ⟨6, _⟩ => ⟨S4096x4096, .f32⟩
  | .hbm, ⟨7, _⟩ => ⟨S4096x2048, .f32⟩
  | .hbm, ⟨8, _⟩ => ⟨S4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== QProj.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QProjRefIdeal.lean ====
abbrev S4096x2048 : Shape := ⟨2, ![4096, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | .hbm, ⟨5, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KvProj.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S2048x2048, .bf16⟩
  | .hbm, ⟨3, _⟩ => ⟨S4096x2048, .bf16⟩
  | .hbm, ⟨4, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== KvProjRefIdeal.lean ====
abbrev S4096x2048 : Shape := ⟨2, ![4096, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S2048x2048, .bf16⟩
  | .hbm, ⟨3, _⟩ => ⟨S4096x2048, .f32⟩
  | .hbm, ⟨4, _⟩ => ⟨S2048x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | .hbm, ⟨9, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OProj.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OProjRefIdeal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ConvOne.lean ====
abbrev S4096x2048 : Shape := ⟨2, ![4096, 2048]⟩
abbrev S2048x4096 : Shape := ⟨2, ![2048, 4096]⟩
abbrev S1x4096 : Shape := ⟨2, ![1, 4096]⟩
abbrev S1024x2048 : Shape := ⟨2, ![1024, 2048]⟩
abbrev S2048x512 : Shape := ⟨2, ![2048, 512]⟩
abbrev S1x512 : Shape := ⟨2, ![1, 512]⟩
abbrev S1024x512 : Shape := ⟨2, ![1024, 512]⟩

abbrev nBuf : Space → Nat
  | .hbm => 6
  | .vmem => 16
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S1x4096, .f32⟩
  | .hbm, ⟨3, _⟩ => ⟨S4096x2048, .f32⟩
  | .hbm, ⟨4, _⟩ => ⟨S4096x2048, .bf16⟩
  | .hbm, ⟨5, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg1 c4_i32
  let c0_i32 : BitVec 32 := 0#32
  ![arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== ConvOneRefIdeal.lean ====
abbrev S4096x2048 : Shape := ⟨2, ![4096, 2048]⟩
abbrev S2048x4096 : Shape := ⟨2, ![2048, 4096]⟩
abbrev S1x4096 : Shape := ⟨2, ![1, 4096]⟩
abbrev S4096x4096 : Shape := ⟨2, ![4096, 4096]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S1x4096, .f32⟩
  | .hbm, ⟨3, _⟩ => ⟨S4096x2048, .f32⟩
  | .hbm, ⟨4, _⟩ => ⟨S2048x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | .hbm, ⟨20, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== ConvTwo.lean ====
abbrev S4096x2048 : Shape := ⟨2, ![4096, 2048]⟩
abbrev S2048x2048 : Shape := ⟨2, ![2048, 2048]⟩
abbrev S1x2048 : Shape := ⟨2, ![1, 2048]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S1x2048, .f32⟩
  | .hbm, ⟨3, _⟩ => ⟨S4096x2048, .f32⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== ConvTwoRefIdeal.lean ====
abbrev S4096x2048 : Shape := ⟨2, ![4096, 2048]⟩
abbrev S2048x2048 : Shape := ⟨2, ![2048, 2048]⟩
abbrev S1x2048 : Shape := ⟨2, ![1, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Norm.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormBwd.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 8
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .bf16⟩
  | .local _ .vmem, ⟨6, _⟩ => ⟨S256x2048, .bf16⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | .local _ .vmem, ⟨12, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v36 : BitVec 1 := Scalar.cmpi .eq arg0 c0_i32
  let v37 : BitVec 32 := Scalar.extui v36
  let c0_i32_17 : BitVec 32 := 0#32
  let v38 : BitVec 1 := Scalar.cmpi .ne v37 c0_i32_17
  v38

def k0_cond2 (i : grid0.Coords) : BitVec 1 :=
  let arg0 : BitVec 32 := BitVec.ofNat 32 (i 0).val
  let c0_i32_18 : BitVec 32 := 0#32
  let v39 : BitVec 1 := Scalar.cmpi .sgt arg0 c0_i32_18
  let v40 : BitVec 32 := Scalar.extui v39
  let c0_i32_19 : BitVec 32 := 0#32
  let v41 : BitVec 1 := Scalar.cmpi .ne v40 c0_i32_19
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== NormBwdRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x2048, .f32⟩
  | .hbm, ⟨35, _⟩ => ⟨S4096x2048, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .bf16⟩
  | .hbm, ⟨49, _⟩ => ⟨S_, .f32⟩
  | .hbm, ⟨50, _⟩ => ⟨S2048, .f32⟩
  | .hbm, ⟨51, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== FinalLoss.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .bf16⟩
  | .hbm, ⟨5, _⟩ => ⟨S1x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S1x2048, .f32⟩
  | .local _ .vmem, ⟨10, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v41 : BitVec 1 := Scalar.cmpi .eq arg0 c0_i32
  let v42 : BitVec 32 := Scalar.extui v41
  let c0_i32_17 : BitVec 32 := 0#32
  let v43 : BitVec 1 := Scalar.cmpi .ne v42 c0_i32_17
  v43

def k0_cond2 (i : grid0.Coords) : BitVec 1 :=
  let arg0 : BitVec 32 := BitVec.ofNat 32 (i 0).val
  let c0_i32_18 : BitVec 32 := 0#32
  let v44 : BitVec 1 := Scalar.cmpi .sgt arg0 c0_i32_18
  let v45 : BitVec 32 := Scalar.extui v44
  let c0_i32_19 : BitVec 32 := 0#32
  let v46 : BitVec 1 := Scalar.cmpi .ne v45 c0_i32_19
  v46

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== FinalLossRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 72
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S1x2048, .f32⟩
  | .hbm, ⟨33, _⟩ => ⟨S_, .f32⟩
  | .hbm, ⟨34, _⟩ => ⟨S1x2048, .f32⟩
  | .hbm, ⟨35, _⟩ => ⟨S1x2048, .f32⟩
  | .hbm, ⟨36, _⟩ => ⟨S_, .f32⟩
  | .hbm, ⟨37, _⟩ => ⟨S1x2048, .f32⟩
  | .hbm, ⟨38, _⟩ => ⟨S_, .f32⟩
  | .hbm, ⟨39, _⟩ => ⟨S1x2048, .f32⟩
  | .hbm, ⟨40, _⟩ => ⟨S1x2048, .f32⟩
  | .hbm, ⟨41, _⟩ => ⟨S_, .f32⟩
  | .hbm, ⟨42, _⟩ => ⟨S2048, .f32⟩
  | .hbm, ⟨43, _⟩ => ⟨S4096x2048, .f32⟩
  | .hbm, ⟨44, _⟩ => ⟨S_, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S_, .f32⟩
  | .hbm, ⟨50, _⟩ => ⟨S2048, .f32⟩
  | .hbm, ⟨51, _⟩ => ⟨S1x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x2048, .f32⟩
  | .hbm, ⟨59, _⟩ => ⟨S4096x2048, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_v27 : Ref sig .tc := ⟨.hbm, 40, rfl⟩
abbrev main_cst_9 : Ref sig .tc := ⟨.hbm, 41, rfl⟩
abbrev main_v28 : Ref sig .tc := ⟨.hbm, 42, rfl⟩
abbrev main_v29 : Ref sig .tc := ⟨.hbm, 43, rfl⟩
abbrev main_cst_10 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_11 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_12 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_13 : Ref sig .tc := ⟨.hbm, 61, rfl⟩
abbrev main_v44 : Ref sig .tc := ⟨.hbm, 62, rfl⟩
abbrev main_v45 : Ref sig .tc := ⟨.hbm, 63, rfl⟩
abbrev main_cst_14 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]
-- ==== NormPair.lean ====
abbrev S4096x2048 : Shape := ⟨2, ![4096, 2048]⟩
abbrev S2x2048 : Shape := ⟨2, ![2, 2048]⟩
abbrev S256x2048 : Shape := ⟨2, ![256, 2048]⟩
abbrev S256 : Shape := ⟨1, ![256]⟩
abbrev S256x1 : Shape := ⟨2, ![256, 1]⟩
abbrev S1x2048 : Shape := ⟨2, ![1, 2048]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2x2048, .f32⟩
  | .hbm, ⟨2, _⟩ => ⟨S4096x2048, .bf16⟩
  | .hbm, ⟨3, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S2x2048, .f32⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormPairRefIdeal.lean ====
abbrev S4096x2048 : Shape := ⟨2, ![4096, 2048]⟩
abbrev S2x2048 : Shape := ⟨2, ![2, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 36
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | .hbm, ⟨20, _⟩ => ⟨S4096x2048, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== NormPairBwd.lean ====
abbrev S4096x2048 : Shape := ⟨2, ![4096, 2048]⟩
abbrev S2x2048 : Shape := ⟨2, ![2, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 9
  | .vmem => 15
  | .smem => 0
  | _ => 0

abbrev bufTy : (tb : Table) → Fin (tcTables nBuf tb) → BufTy
  | .hbm, ⟨0, _⟩ => ⟨S4096x2048, .f32⟩
  | .hbm, ⟨1, _⟩ => ⟨S2x2048, .f32⟩
  | .hbm, ⟨2, _⟩ => ⟨S4096x2048, .bf16⟩
  | .hbm, ⟨3, _⟩ => ⟨S4096x2048, .bf16⟩
  | .hbm, ⟨4, _⟩ => ⟨S4096x2048, .f32⟩
  | .hbm, ⟨5, _⟩ => ⟨S4096x2048, .f32⟩
  | .hbm, ⟨6, _⟩ => ⟨S4096x2048, .bf16⟩
  | .hbm, ⟨7, _⟩ => ⟨S2x2048, .f32⟩
  | .hbm, ⟨8, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S2x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S2x2048, .f32⟩
  | .local _ .vmem, ⟨14, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v56 : BitVec 1 := Scalar.cmpi .eq arg0 c0_i32
  let v57 : BitVec 32 := Scalar.extui v56
  let c0_i32_23 : BitVec 32 := 0#32
  let v58 : BitVec 1 := Scalar.cmpi .ne v57 c0_i32_23
  v58

def k0_cond2 (i : grid0.Coords) : BitVec 1 :=
  let arg0 : BitVec 32 := BitVec.ofNat 32 (i 0).val
  let c0_i32_24 : BitVec 32 := 0#32
  let v59 : BitVec 1 := Scalar.cmpi .sgt arg0 c0_i32_24
  let v60 : BitVec 32 := Scalar.extui v59
  let c0_i32_25 : BitVec 32 := 0#32
  let v61 : BitVec 1 := Scalar.cmpi .ne v60 c0_i32_25
  v61

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== NormPairBwdRefIdeal.lean ====
abbrev S4096x2048 : Shape := ⟨2, ![4096, 2048]⟩
abbrev S2x2048 : Shape := ⟨2, ![2, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 100
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2x2048, .f32⟩
  | .hbm, ⟨2, _⟩ => ⟨S4096x2048, .bf16⟩
  | .hbm, ⟨3, _⟩ => ⟨S4096x2048, .bf16⟩
  | .hbm, ⟨4, _⟩ => ⟨S4096x2048, .f32⟩
  | .hbm, ⟨5, _⟩ => ⟨S1x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S1x2048, .f32⟩
  | .hbm, ⟨50, _⟩ => ⟨S4096x2048, .f32⟩
  | .hbm, ⟨51, _⟩ => ⟨S_, .f32⟩
  | .hbm, ⟨52, _⟩ => ⟨S4096, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S4096x1, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S_, .f32⟩
  | .hbm, ⟨72, _⟩ => ⟨S2048, .f32⟩
  | .hbm, ⟨73, _⟩ => ⟨S1x2048, .f32⟩
  | .hbm, ⟨74, _⟩ => ⟨S4096x2048, .f32⟩
  | .hbm, ⟨75, _⟩ => ⟨S4096x2048, .f32⟩
  | .hbm, ⟨76, _⟩ => ⟨S4096x2048, .f32⟩
  | .hbm, ⟨77, _⟩ => ⟨S_, .f32⟩
  | .hbm, ⟨78, _⟩ => ⟨S4096, .f32⟩
  | .hbm, ⟨79, _⟩ => ⟨S4096x1, .f32⟩
  | .hbm, ⟨80, _⟩ => ⟨S4096x2048, .f32⟩
  | .hbm, ⟨81, _⟩ => ⟨S4096x2048, .f32⟩
  | .hbm, ⟨82, _⟩ => ⟨S4096x1, .f32⟩
  | .hbm, ⟨83, _⟩ => ⟨S_, .f32⟩
  | .hbm, ⟨84, _⟩ => ⟨S4096x1, .f32⟩
  | .hbm, ⟨85, _⟩ => ⟨S4096x1, .f32⟩
  | .hbm, ⟨86, _⟩ => ⟨S_, .f32⟩
  | .hbm, ⟨87, _⟩ => ⟨S4096, .f32⟩
  | .hbm, ⟨88, _⟩ => ⟨S4096x2048, .f32⟩
  | .hbm, ⟨89, _⟩ => ⟨S4096x2048, .f32⟩
  | .hbm, ⟨90, _⟩ => ⟨S4096x2048, .f32⟩
  | .hbm, ⟨91, _⟩ => ⟨S4096x2048, .f32⟩
  | .hbm, ⟨92, _⟩ => ⟨S4096x2048, .f32⟩
  | .hbm, ⟨93, _⟩ => ⟨S4096x2048, .f32⟩
  | .hbm, ⟨94, _⟩ => ⟨S4096x2048, .f32⟩
  | .hbm, ⟨95, _⟩ => ⟨S4096x2048, .bf16⟩
  | .hbm, ⟨96, _⟩ => ⟨S2x2048, .f32⟩
  | .hbm, ⟨97, _⟩ => ⟨S_, .f32⟩
  | .hbm, ⟨98, _⟩ => ⟨S2048, .f32⟩
  | .hbm, ⟨99, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_10 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_12 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_13 : Ref sig .tc := ⟨.hbm, 83, rfl⟩
abbrev main_v64 : Ref sig .tc := ⟨.hbm, 84, rfl⟩
abbrev main_v65 : Ref sig .tc := ⟨.hbm, 85, rfl⟩
abbrev main_cst_14 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_15 : Ref sig .tc := ⟨.hbm, 97, rfl⟩
abbrev main_v76 : Ref sig .tc := ⟨.hbm, 98, rfl⟩
abbrev main_v77 : Ref sig .tc := ⟨.hbm, 99, rfl⟩

abbrev nD : Nat := 1
abbrev τ : Topo := Topo.v7x

variable {F : FTy → Type} [FloatOps F]
-- ==== AdamWhole.lean ====
abbrev S2 : Shape := ⟨1, ![2]⟩
abbrev S8x8x2048 : Shape := ⟨3, ![8, 8, 2048]⟩
abbrev S8x2048 : Shape := ⟨2, ![8, 2048]⟩
abbrev S1 : Shape := ⟨1, ![1]⟩
abbrev S1x8x2048 : Shape := ⟨3, ![1, 8, 2048]⟩

abbrev nBuf : Space → Nat
  | .hbm => 9
  | .vmem => 9
  | .smem => 1
  | _ => 0

abbrev bufTy : (tb : Table) → Fin (tcTables nBuf tb) → BufTy
  | .hbm, ⟨0, _⟩ => ⟨S8x8x2048, .f32⟩
  | .hbm, ⟨1, _⟩ => ⟨S8x2048, .f32⟩
  | .hbm, ⟨2, _⟩ => ⟨S8x2048, .f32⟩
  | .hbm, ⟨3, _⟩ => ⟨S8x2048, .f32⟩
  | .hbm, ⟨4, _⟩ => ⟨S8x2048, .f32⟩
  | .hbm, ⟨5, _⟩ => ⟨S8x2048, .f32⟩
  | .hbm, ⟨6, _⟩ => ⟨S8x2048, .f32⟩
  | .hbm, ⟨7, _⟩ => ⟨S8x2048, .f32⟩
  | .hbm, ⟨8, _⟩ => ⟨S8x2048, .f32⟩
  | .local _ .vmem, ⟨0, _⟩ => ⟨S8x8x2048, .f32⟩
  | .local _ .vmem, ⟨1, _⟩ => ⟨S8x2048, .f32⟩
  | .local _ .vmem, ⟨2, _⟩ => ⟨S8x2048, .f32⟩
  | .local _ .vmem, ⟨3, _⟩ => ⟨S8x2048, .f32⟩
  | .local _ .vmem, ⟨4, _⟩ => ⟨S8x2048, .f32⟩
  | .local _ .vmem, ⟨5, _⟩ => ⟨S8x2048, .f32⟩
  | .local _ .vmem, ⟨6, _⟩ => ⟨S8x2048, .f32⟩
  | .local _ .vmem, ⟨7, _⟩ => ⟨S8x2048, .f32⟩
  | .local _ .vmem, ⟨8, _⟩ => ⟨S8x2048, .f32⟩
  | .local _ .smem, ⟨0, _⟩ => ⟨S2, .i32⟩
  | _, _ => ⟨S8x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S8x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamWholeRefIdeal.lean ====
abbrev S2 : Shape := ⟨1, ![2]⟩
abbrev S8x8x2048 : Shape := ⟨3, ![8, 8, 2048]⟩
abbrev S8x2048 : Shape := ⟨2, ![8, 2048]⟩
abbrev S8 : Shape := ⟨1, ![8]⟩
abbrev S8x1x1 : Shape := ⟨3, ![8, 1, 1]⟩
abbrev S1 : Shape := ⟨1, ![1]⟩
abbrev S_ : Shape := ⟨0, ![]⟩
abbrev S1x8x2048 : Shape := ⟨3, ![1, 8, 2048]⟩

abbrev nBuf : Space → Nat
  | .hbm => 51
  | .vmem => 0
  | .smem => 0
  | _ => 0

abbrev bufTy : (tb : Table) → Fin (tcTables nBuf tb) → BufTy
  | .hbm, ⟨0, _⟩ => ⟨S2, .i32⟩
  | .hbm, ⟨1, _⟩ => ⟨S8x8x2048, .f32⟩
  | .hbm, ⟨2, _⟩ => ⟨S8x2048, .f32⟩
  | .hbm, ⟨3, _⟩ => ⟨S8x2048, .f32⟩
  | .hbm, ⟨4, _⟩ => ⟨S8x2048, .f32⟩
  | .hbm, ⟨5, _⟩ => ⟨S8x2048, .f32⟩
  | .hbm, ⟨6, _⟩ => ⟨S8, .i32⟩
  | .hbm, ⟨7, _⟩ => ⟨S8x1x1, .i32⟩
  | .hbm, ⟨8, _⟩ => ⟨S1, .i32⟩
  | .hbm, ⟨9, _⟩ => ⟨S_, .i32⟩
  | .hbm, ⟨10, _⟩ => ⟨S8x1x1, .i32⟩
  | .hbm, ⟨11, _⟩ => ⟨S8x1x1, .i1⟩
  | .hbm, ⟨12, _⟩ => ⟨S1x8x2048, .f32⟩
  | .hbm, ⟨13, _⟩ => ⟨S8x8x2048, .i1⟩
  | .hbm, ⟨14, _⟩ => ⟨S8x8x2048, .f32⟩
  | .hbm, ⟨15, _⟩ => ⟨S8x8x2048, .f32⟩
  | .hbm, ⟨16, _⟩ => ⟨S_, .f32⟩
  | .hbm, ⟨17, _⟩ => ⟨S8x2048, .f32⟩
  | .hbm, ⟨18, _⟩ => ⟨S_, .f32⟩
  | .hbm, ⟨19, _⟩ => ⟨S8x2048, .f32⟩
  | .hbm, ⟨20, _⟩ => ⟨S8x2048, .f32⟩
  | .hbm, ⟨21, _⟩ => ⟨S_, .f32⟩
  | .hbm, ⟨22, _⟩ => ⟨S8x2048, .f32⟩
  | .hbm, ⟨23, _⟩ => ⟨S8x2048, .f32⟩
  | .hbm, ⟨24, _⟩ => ⟨S8x2048, .f32⟩
  | .hbm, ⟨25, _⟩ => ⟨S_, .f32⟩
  | .hbm, ⟨26, _⟩ => ⟨S8x2048, .f32⟩
  | .hbm, ⟨27, _⟩ => ⟨S8x2048, .f32⟩
  | .hbm, ⟨28, _⟩ => ⟨S8x2048, .f32⟩
  | .hbm, ⟨29, _⟩ => ⟨S_, .f32⟩
  | .hbm, ⟨30, _⟩ => ⟨S8x2048, .f32⟩
  | .hbm, ⟨31, _⟩ => ⟨S8x2048, .f32⟩
  | .hbm, ⟨32, _⟩ => ⟨S8x2048, .f32⟩
  | .hbm, ⟨33, _⟩ => ⟨S_, .f32⟩
  | .hbm, ⟨34, _⟩ => ⟨S8x2048, .f32⟩
  | .hbm, ⟨35, _⟩ => ⟨S8x2048, .f32⟩
  | .hbm, ⟨36, _⟩ => ⟨S_, .f32⟩
  | .hbm, ⟨37, _⟩ => ⟨S8x2048, .f32⟩
  | .hbm, ⟨38, _⟩ => ⟨S8x2048, .f32⟩
  | .hbm, ⟨39, _⟩ => ⟨S8x2048, .f32⟩
  | .hbm, ⟨40, _⟩ => ⟨S_, .f32⟩
  | .hbm, ⟨41, _⟩ => ⟨S8x2048, .f32⟩
  | .hbm, ⟨42, _⟩ => ⟨S8x2048, .f32⟩
  | .hbm, ⟨43, _⟩ => ⟨S8x2048, .f32⟩
  | .hbm, ⟨44, _⟩ => ⟨S_, .f32⟩
  | .hbm, ⟨45, _⟩ => ⟨S8x2048, .f32⟩
  | .hbm, ⟨46, _⟩ => ⟨S8x2048, .f32⟩
  | .hbm, ⟨47, _⟩ => ⟨S8x2048, .f32⟩
  | .hbm, ⟨48, _⟩ => ⟨S_, .f32⟩
  | .hbm, ⟨49, _⟩ => ⟨S8x2048, .f32⟩
  | .hbm, ⟨50, _⟩ => ⟨S8x2048, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]
-- ==== AdamRows.lean ====
abbrev S2 : Shape := ⟨1, ![2]⟩
abbrev S8x512x2048 : Shape := ⟨3, ![8, 512, 2048]⟩
abbrev S2048x2048 : Shape := ⟨2, ![2048, 2048]⟩
abbrev S512x2048 : Shape := ⟨2, ![512, 2048]⟩
abbrev S8x128x2048 : Shape := ⟨3, ![8, 128, 2048]⟩
abbrev S128x2048 : Shape := ⟨2, ![128, 2048]⟩
abbrev S1 : Shape := ⟨1, ![1]⟩
abbrev S1x128x2048 : Shape := ⟨3, ![1, 128, 2048]⟩

abbrev nBuf : Space → Nat
  | .hbm => 9
  | .vmem => 18
  | .smem => 1
  | _ => 0

abbrev bufTy : (tb : Table) → Fin (tcTables nBuf tb) → BufTy
  | .hbm, ⟨0, _⟩ => ⟨S8x512x2048, .bf16⟩
  | .hbm, ⟨1, _⟩ => ⟨S2048x2048, .bf16⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S128x2048, .bf16⟩
  | .local _ .vmem, ⟨3, _⟩ => ⟨S128x2048, .bf16⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .smem, ⟨0, _⟩ => ⟨S2, .i32⟩
  | _, _ => ⟨S8x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S2) ![0] S1.size inb_S2_S1_0) numel1_S1
  let c4_i32 : BitVec 32 := 4#32
  let v1 : BitVec 32 := Scalar.muli v0 c4_i32
  let v2 : BitVec 32 := Scalar.addi v1 arg0
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamRowsRefIdeal.lean ====
abbrev S2 : Shape := ⟨1, ![2]⟩
abbrev S8x512x2048 : Shape := ⟨3, ![8, 512, 2048]⟩
abbrev S2048x2048 : Shape := ⟨2, ![2048, 2048]⟩
abbrev S512x2048 : Shape := ⟨2, ![512, 2048]⟩
abbrev S1 : Shape := ⟨1, ![1]⟩
abbrev S_ : Shape := ⟨0, ![]⟩
abbrev S8 : Shape := ⟨1, ![8]⟩
abbrev S8x1x1 : Shape := ⟨3, ![8, 1, 1]⟩
abbrev S1x512x2048 : Shape := ⟨3, ![1, 512, 2048]⟩

abbrev nBuf : Space → Nat
  | .hbm => 72
  | .vmem => 0
  | .smem => 0
  | _ => 0

abbrev bufTy : (tb : Table) → Fin (tcTables nBuf tb) → BufTy
  | .hbm, ⟨0, _⟩ => ⟨S2, .i32⟩
  | .hbm, ⟨1, _⟩ => ⟨S8x512x2048, .bf16⟩
  | .hbm, ⟨2, _⟩ => ⟨S2048x2048, .bf16⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .bf16⟩
  | .hbm, ⟨7, _⟩ => ⟨S512x2048, .bf16⟩
  | .hbm, ⟨8, _⟩ => ⟨S512x2048, .bf16⟩
  | .hbm, ⟨9, _⟩ => ⟨S512x2048, .bf16⟩
  | .hbm, ⟨10, _⟩ => ⟨S1, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S1, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S1, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S512x2048, .bf16⟩
  | .hbm, ⟨23, _⟩ => ⟨S512x2048, .bf16⟩
  | .hbm, ⟨24, _⟩ => ⟨S512x2048, .bf16⟩
  | .hbm, ⟨25, _⟩ => ⟨S8, .i32⟩
  | .hbm, ⟨26, _⟩ => ⟨S8x1x1, .i32⟩
  | .hbm, ⟨27, _⟩ => ⟨S1, .i32⟩
  | .hbm, ⟨28, _⟩ => ⟨S_, .i32⟩
  | .hbm, ⟨29, _⟩ => ⟨S8x1x1, .i32⟩
  | .hbm, ⟨30, _⟩ => ⟨S8x1x1, .i1⟩
  | .hbm, ⟨31, _⟩ => ⟨S8x512x2048, .f32⟩
  | .hbm, ⟨32, _⟩ => ⟨S512x2048, .f32⟩
  | .hbm, ⟨33, _⟩ => ⟨S1x512x2048, .f32⟩
  | .hbm, ⟨34, _⟩ => ⟨S8x512x2048, .i1⟩
  | .hbm, ⟨35, _⟩ => ⟨S8x512x2048, .f32⟩
  | .hbm, ⟨36, _⟩ => ⟨S8x512x2048, .f32⟩
  | .hbm, ⟨37, _⟩ => ⟨S_, .f32⟩
  | .hbm, ⟨38, _⟩ => ⟨S512x2048, .f32⟩
  | .hbm, ⟨39, _⟩ => ⟨S_, .f32⟩
  | .hbm, ⟨40, _⟩ => ⟨S512x2048, .f32⟩
  | .hbm, ⟨41, _⟩ => ⟨S512x2048, .f32⟩
  | .hbm, ⟨42, _⟩ => ⟨S_, .f32⟩
  | .hbm, ⟨43, _⟩ => ⟨S512x2048, .f32⟩
  | .hbm, ⟨44, _⟩ => ⟨S512x2048, .f32⟩
  | .hbm, ⟨45, _⟩ => ⟨S512x2048, .f32⟩
  | .hbm, ⟨46, _⟩ => ⟨S_, .f32⟩
  | .hbm, ⟨47, _⟩ => ⟨S512x2048, .f32⟩
  | .hbm, ⟨48, _⟩ => ⟨S512x2048, .f32⟩
  | .hbm, ⟨49, _⟩ => ⟨S512x2048, .f32⟩
  | .hbm, ⟨50, _⟩ => ⟨S_, .f32⟩
  | .hbm, ⟨51, _⟩ => ⟨S512x2048, .f32⟩
  | .hbm, ⟨52, _⟩ => ⟨S512x2048, .f32⟩
  | .hbm, ⟨53, _⟩ => ⟨S512x2048, .f32⟩
  | .hbm, ⟨54, _⟩ => ⟨S_, .f32⟩
  | .hbm, ⟨55, _⟩ => ⟨S512x2048, .f32⟩
  | .hbm, ⟨56, _⟩ => ⟨S512x2048, .f32⟩
  | .hbm, ⟨57, _⟩ => ⟨S_, .f32⟩
  | .hbm, ⟨58, _⟩ => ⟨S512x2048, .f32⟩
  | .hbm, ⟨59, _⟩ => ⟨S512x2048, .f32⟩
  | .hbm, ⟨60, _⟩ => ⟨S512x2048, .f32⟩
  | .hbm, ⟨61, _⟩ => ⟨S_, .f32⟩
  | .hbm, ⟨62, _⟩ => ⟨S512x2048, .f32⟩
  | .hbm, ⟨63, _⟩ => ⟨S512x2048, .f32⟩
  | .hbm, ⟨64, _⟩ => ⟨S512x2048, .f32⟩
  | .hbm, ⟨65, _⟩ => ⟨S_, .f32⟩
  | .hbm, ⟨66, _⟩ => ⟨S512x2048, .f32⟩
  | .hbm, ⟨67, _⟩ => ⟨S512x2048, .f32⟩
  | .hbm, ⟨68, _⟩ => ⟨S512x2048, .f32⟩
  | .hbm, ⟨69, _⟩ => ⟨S_, .f32⟩
  | .hbm, ⟨70, _⟩ => ⟨S512x2048, .f32⟩
  | .hbm, ⟨71, _⟩ => ⟨S512x2048, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_call3_v0 : Ref sig .tc := ⟨.hbm, 34, rfl⟩
abbrev main_call3_v1 : Ref sig .tc := ⟨.hbm, 35, rfl⟩
abbrev main_v25 : Ref sig .tc := ⟨.hbm, 36, rfl⟩
abbrev main_cst : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_v50 : Ref sig .tc := ⟨.hbm, 71, rfl⟩

abbrev nD : Nat := 1
abbrev τ : Topo := Topo.v7x

variable {F : FTy → Type} [FloatOps F]
-- ==== AdamColumns.lean ====
abbrev S2 : Shape := ⟨1, ![2]⟩
abbrev S8x2048x1024 : Shape := ⟨3, ![8, 2048, 1024]⟩
abbrev S2048x4096 : Shape := ⟨2, ![2048, 4096]⟩
abbrev S2048x1024 : Shape := ⟨2, ![2048, 1024]⟩
abbrev S8x256x1024 : Shape := ⟨3, ![8, 256, 1024]⟩
abbrev S256x1024 : Shape := ⟨2, ![256, 1024]⟩
abbrev S1 : Shape := ⟨1, ![1]⟩
abbrev S1x256x1024 : Shape := ⟨3, ![1, 256, 1024]⟩

abbrev nBuf : Space → Nat
  | .hbm => 9
  | .vmem => 18
  | .smem => 1
  | _ => 0

abbrev bufTy : (tb : Table) → Fin (tcTables nBuf tb) → BufTy
  | .hbm, ⟨0, _⟩ => ⟨S8x2048x1024, .bf16⟩
  | .hbm, ⟨1, _⟩ => ⟨S2048x4096, .bf16⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .smem, ⟨0, _⟩ => ⟨S2, .i32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  ![arg0.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamColumnsRefIdeal.lean ====
abbrev S2 : Shape := ⟨1, ![2]⟩
abbrev S8x2048x1024 : Shape := ⟨3, ![8, 2048, 1024]⟩
abbrev S2048x4096 : Shape := ⟨2, ![2048, 4096]⟩
abbrev S2048x1024 : Shape := ⟨2, ![2048, 1024]⟩
abbrev S1 : Shape := ⟨1, ![1]⟩
abbrev S_ : Shape := ⟨0, ![]⟩
abbrev S8 : Shape := ⟨1, ![8]⟩
abbrev S8x1x1 : Shape := ⟨3, ![8, 1, 1]⟩
abbrev S1x2048x1024 : Shape := ⟨3, ![1, 2048, 1024]⟩

abbrev nBuf : Space → Nat
  | .hbm => 72
  | .vmem => 0
  | .smem => 0
  | _ => 0

abbrev bufTy : (tb : Table) → Fin (tcTables nBuf tb) → BufTy
  | .hbm, ⟨0, _⟩ => ⟨S2, .i32⟩
  | .hbm, ⟨1, _⟩ => ⟨S8x2048x1024, .bf16⟩
  | .hbm, ⟨2, _⟩ => ⟨S2048x4096, .bf16⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .bf16⟩
  | .hbm, ⟨7, _⟩ => ⟨S2048x1024, .bf16⟩
  | .hbm, ⟨8, _⟩ => ⟨S2048x1024, .bf16⟩
  | .hbm, ⟨9, _⟩ => ⟨S2048x1024, .bf16⟩
  | .hbm, ⟨10, _⟩ => ⟨S1, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S1, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S1, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S2048x1024, .bf16⟩
  | .hbm, ⟨23, _⟩ => ⟨S2048x1024, .bf16⟩
  | .hbm, ⟨24, _⟩ => ⟨S2048x1024, .bf16⟩
  | .hbm, ⟨25, _⟩ => ⟨S8, .i32⟩
  | .hbm, ⟨26, _⟩ => ⟨S8x1x1, .i32⟩
  | .hbm, ⟨27, _⟩ => ⟨S1, .i32⟩
  | .hbm, ⟨28, _⟩ => ⟨S_, .i32⟩
  | .hbm, ⟨29, _⟩ => ⟨S8x1x1, .i32⟩
  | .hbm, ⟨30, _⟩ => ⟨S8x1x1, .i1⟩
  | .hbm, ⟨31, _⟩ => ⟨S8x2048x1024, .f32⟩
  | .hbm, ⟨32, _⟩ => ⟨S2048x1024, .f32⟩
  | .hbm, ⟨33, _⟩ => ⟨S1x2048x1024, .f32⟩
  | .hbm, ⟨34, _⟩ => ⟨S8x2048x1024, .i1⟩
  | .hbm, ⟨35, _⟩ => ⟨S8x2048x1024, .f32⟩
  | .hbm, ⟨36, _⟩ => ⟨S8x2048x1024, .f32⟩
  | .hbm, ⟨37, _⟩ => ⟨S_, .f32⟩
  | .hbm, ⟨38, _⟩ => ⟨S2048x1024, .f32⟩
  | .hbm, ⟨39, _⟩ => ⟨S_, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S_, .f32⟩
  | .hbm, ⟨55, _⟩ => ⟨S2048x1024, .f32⟩
  | .hbm, ⟨56, _⟩ => ⟨S2048x1024, .f32⟩
  | .hbm, ⟨57, _⟩ => ⟨S_, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S_, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S_, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S_, .f32⟩
  | .hbm, ⟨70, _⟩ => ⟨S2048x1024, .f32⟩
  | .hbm, ⟨71, _⟩ => ⟨S2048x1024, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_call3_v0 : Ref sig .tc := ⟨.hbm, 34, rfl⟩
abbrev main_call3_v1 : Ref sig .tc := ⟨.hbm, 35, rfl⟩
abbrev main_v25 : Ref sig .tc := ⟨.hbm, 36, rfl⟩
abbrev main_cst : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_v50 : Ref sig .tc := ⟨.hbm, 71, rfl⟩

abbrev nD : Nat := 1
abbrev τ : Topo := Topo.v7x

variable {F : FTy → Type} [FloatOps F]
-- ==== AdamPacked.lean ====
abbrev S2 : Shape := ⟨1, ![2]⟩
abbrev S8x80x512 : Shape := ⟨3, ![8, 80, 512]⟩
abbrev S320x512 : Shape := ⟨2, ![320, 512]⟩
abbrev S80x512 : Shape := ⟨2, ![80, 512]⟩
abbrev S1 : Shape := ⟨1, ![1]⟩
abbrev S1x80x512 : Shape := ⟨3, ![1, 80, 512]⟩

abbrev nBuf : Space → Nat
  | .hbm => 9
  | .vmem => 9
  | .smem => 1
  | _ => 0

abbrev bufTy : (tb : Table) → Fin (tcTables nBuf tb) → BufTy
  | .hbm, ⟨0, _⟩ => ⟨S8x80x512, .f32⟩
  | .hbm, ⟨1, _⟩ => ⟨S320x512, .f32⟩
  | .hbm, ⟨2, _⟩ => ⟨S80x512, .f32⟩
  | .hbm, ⟨3, _⟩ => ⟨S80x512, .f32⟩
  | .hbm, ⟨4, _⟩ => ⟨S80x512, .f32⟩
  | .hbm, ⟨5, _⟩ => ⟨S80x512, .f32⟩
  | .hbm, ⟨6, _⟩ => ⟨S80x512, .f32⟩
  | .hbm, ⟨7, _⟩ => ⟨S80x512, .f32⟩
  | .hbm, ⟨8, _⟩ => ⟨S80x512, .f32⟩
  | .local _ .vmem, ⟨0, _⟩ => ⟨S8x80x512, .f32⟩
  | .local _ .vmem, ⟨1, _⟩ => ⟨S80x512, .f32⟩
  | .local _ .vmem, ⟨2, _⟩ => ⟨S80x512, .f32⟩
  | .local _ .vmem, ⟨3, _⟩ => ⟨S80x512, .f32⟩
  | .local _ .vmem, ⟨4, _⟩ => ⟨S80x512, .f32⟩
  | .local _ .vmem, ⟨5, _⟩ => ⟨S80x512, .f32⟩
  | .local _ .vmem, ⟨6, _⟩ => ⟨S80x512, .f32⟩
  | .local _ .vmem, ⟨7, _⟩ => ⟨S80x512, .f32⟩
  | .local _ .vmem, ⟨8, _⟩ => ⟨S80x512, .f32⟩
  | .local _ .smem, ⟨0, _⟩ => ⟨S2, .i32⟩
  | _, _ => ⟨S8x80x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S2) ![0] S1.size inb_S2_S1_0) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x80x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S80x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S80x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S80x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S80x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S80x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S80x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S80x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S80x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamPackedRefIdeal.lean ====
abbrev S2 : Shape := ⟨1, ![2]⟩
abbrev S8x80x512 : Shape := ⟨3, ![8, 80, 512]⟩
abbrev S320x512 : Shape := ⟨2, ![320, 512]⟩
abbrev S80x512 : Shape := ⟨2, ![80, 512]⟩
abbrev S1 : Shape := ⟨1, ![1]⟩
abbrev S_ : Shape := ⟨0, ![]⟩
abbrev S8 : Shape := ⟨1, ![8]⟩
abbrev S8x1x1 : Shape := ⟨3, ![8, 1, 1]⟩
abbrev S1x80x512 : Shape := ⟨3, ![1, 80, 512]⟩

abbrev nBuf : Space → Nat
  | .hbm => 70
  | .vmem => 0
  | .smem => 0
  | _ => 0

abbrev bufTy : (tb : Table) → Fin (tcTables nBuf tb) → BufTy
  | .hbm, ⟨0, _⟩ => ⟨S2, .i32⟩
  | .hbm, ⟨1, _⟩ => ⟨S8x80x512, .f32⟩
  | .hbm, ⟨2, _⟩ => ⟨S320x512, .f32⟩
  | .hbm, ⟨3, _⟩ => ⟨S80x512, .f32⟩
  | .hbm, ⟨4, _⟩ => ⟨S80x512, .f32⟩
  | .hbm, ⟨5, _⟩ => ⟨S80x512, .f32⟩
  | .hbm, ⟨6, _⟩ => ⟨S80x512, .f32⟩
  | .hbm, ⟨7, _⟩ => ⟨S80x512, .f32⟩
  | .hbm, ⟨8, _⟩ => ⟨S80x512, .f32⟩
  | .hbm, ⟨9, _⟩ => ⟨S80x512, .f32⟩
  | .hbm, ⟨10, _⟩ => ⟨S1, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S1, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S1, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S80x512, .f32⟩
  | .hbm, ⟨23, _⟩ => ⟨S80x512, .f32⟩
  | .hbm, ⟨24, _⟩ => ⟨S80x512, .f32⟩
  | .hbm, ⟨25, _⟩ => ⟨S8, .i32⟩
  | .hbm, ⟨26, _⟩ => ⟨S8x1x1, .i32⟩
  | .hbm, ⟨27, _⟩ => ⟨S1, .i32⟩
  | .hbm, ⟨28, _⟩ => ⟨S_, .i32⟩
  | .hbm, ⟨29, _⟩ => ⟨S8x1x1, .i32⟩
  | .hbm, ⟨30, _⟩ => ⟨S8x1x1, .i1⟩
  | .hbm, ⟨31, _⟩ => ⟨S1x80x512, .f32⟩
  | .hbm, ⟨32, _⟩ => ⟨S8x80x512, .i1⟩
  | .hbm, ⟨33, _⟩ => ⟨S8x80x512, .f32⟩
  | .hbm, ⟨34, _⟩ => ⟨S8x80x512, .f32⟩
  | .hbm, ⟨35, _⟩ => ⟨S_, .f32⟩
  | .hbm, ⟨36, _⟩ => ⟨S80x512, .f32⟩
  | .hbm, ⟨37, _⟩ => ⟨S_, .f32⟩
  | .hbm, ⟨38, _⟩ => ⟨S80x512, .f32⟩
  | .hbm, ⟨39, _⟩ => ⟨S80x512, .f32⟩
  | .hbm, ⟨40, _⟩ => ⟨S_, .f32⟩
  | .hbm, ⟨41, _⟩ => ⟨S80x512, .f32⟩
  | .hbm, ⟨42, _⟩ => ⟨S80x512, .f32⟩
  | .hbm, ⟨43, _⟩ => ⟨S80x512, .f32⟩
  | .hbm, ⟨44, _⟩ => ⟨S_, .f32⟩
  | .hbm, ⟨45, _⟩ => ⟨S80x512, .f32⟩
  | .hbm, ⟨46, _⟩ => ⟨S80x512, .f32⟩
  | .hbm, ⟨47, _⟩ => ⟨S80x512, .f32⟩
  | .hbm, ⟨48, _⟩ => ⟨S_, .f32⟩
  | .hbm, ⟨49, _⟩ => ⟨S80x512, .f32⟩
  | .hbm, ⟨50, _⟩ => ⟨S80x512, .f32⟩
  | .hbm, ⟨51, _⟩ => ⟨S80x512, .f32⟩
  | .hbm, ⟨52, _⟩ => ⟨S_, .f32⟩
  | .hbm, ⟨53, _⟩ => ⟨S80x512, .f32⟩
  | .hbm, ⟨54, _⟩ => ⟨S80x512, .f32⟩
  | .hbm, ⟨55, _⟩ => ⟨S_, .f32⟩
  | .hbm, ⟨56, _⟩ => ⟨S80x512, .f32⟩
  | .hbm, ⟨57, _⟩ => ⟨S80x512, .f32⟩
  | .hbm, ⟨58, _⟩ => ⟨S80x512, .f32⟩
  | .hbm, ⟨59, _⟩ => ⟨S_, .f32⟩
  | .hbm, ⟨60, _⟩ => ⟨S80x512, .f32⟩
  | .hbm, ⟨61, _⟩ => ⟨S80x512, .f32⟩
  | .hbm, ⟨62, _⟩ => ⟨S80x512, .f32⟩
  | .hbm, ⟨63, _⟩ => ⟨S_, .f32⟩
  | .hbm, ⟨64, _⟩ => ⟨S80x512, .f32⟩
  | .hbm, ⟨65, _⟩ => ⟨S80x512, .f32⟩
  | .hbm, ⟨66, _⟩ => ⟨S80x512, .f32⟩
  | .hbm, ⟨67, _⟩ => ⟨S_, .f32⟩
  | .hbm, ⟨68, _⟩ => ⟨S80x512, .f32⟩
  | .hbm, ⟨69, _⟩ => ⟨S80x512, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call3_v0 : Ref sig .tc := ⟨.hbm, 32, rfl⟩
abbrev main_call3_v1 : Ref sig .tc := ⟨.hbm, 33, rfl⟩
abbrev main_v23 : Ref sig .tc := ⟨.hbm, 34, rfl⟩
abbrev main_cst : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_10 : Ref sig .tc := ⟨.hbm, 67, rfl⟩
abbrev main_v47 : Ref sig .tc := ⟨.hbm, 68, rfl⟩
abbrev main_v48 : Ref sig .tc := ⟨.hbm, 69, rfl⟩

abbrev nD : Nat := 1
abbrev τ : Topo := Topo.v7x

variable {F : FTy → Type} [FloatOps F]
-- ==== AdamGateFirst.lean ====
abbrev S2 : Shape := ⟨1, ![2]⟩
abbrev S8x2048x1408 : Shape := ⟨3, ![8, 2048, 1408]⟩
abbrev S2048x5632 : Shape := ⟨2, ![2048, 5632]⟩
abbrev S2x2048x1408 : Shape := ⟨3, ![2, 2048, 1408]⟩
abbrev S8x256x1408 : Shape := ⟨3, ![8, 256, 1408]⟩
abbrev S256x1408 : Shape := ⟨2, ![256, 1408]⟩
abbrev S1 : Shape := ⟨1, ![1]⟩
abbrev S1x256x1408 : Shape := ⟨3, ![1, 256, 1408]⟩

abbrev nBuf : Space → Nat
  | .hbm => 9
  | .vmem => 18
  | .smem => 1
  | _ => 0

abbrev bufTy : (tb : Table) → Fin (tcTables nBuf tb) → BufTy
  | .hbm, ⟨0, _⟩ => ⟨S8x2048x1408, .bf16⟩
  | .hbm, ⟨1, _⟩ => ⟨S2048x5632, .bf16⟩
  | .hbm, ⟨2, _⟩ => ⟨S2x2048x1408, .f32⟩
  | .hbm, ⟨3, _⟩ => ⟨S2x2048x1408, .f32⟩
  | .hbm, ⟨4, _⟩ => ⟨S2x2048x1408, .f32⟩
  | .hbm, ⟨5, _⟩ => ⟨S2x2048x1408, .f32⟩
  | .hbm, ⟨6, _⟩ => ⟨S2x2048x1408, .f32⟩
  | .hbm, ⟨7, _⟩ => ⟨S2x2048x1408, .f32⟩
  | .hbm, ⟨8, _⟩ => ⟨S2x2048x1408, .f32⟩
  | .local _ .vmem, ⟨0, _⟩ => ⟨S8x256x1408, .bf16⟩
  | .local _ .vmem, ⟨1, _⟩ => ⟨S8x256x1408, .bf16⟩
  | .local _ .vmem, ⟨2, _⟩ => ⟨S256x1408, .bf16⟩
  | .local _ .vmem, ⟨3, _⟩ => ⟨S256x1408, .bf16⟩
  | .local _ .vmem, ⟨4, _⟩ => ⟨S1x256x1408, .f32⟩
  | .local _ .vmem, ⟨5, _⟩ => ⟨S1x256x1408, .f32⟩
  | .local _ .vmem, ⟨6, _⟩ => ⟨S1x256x1408, .f32⟩
  | .local _ .vmem, ⟨7, _⟩ => ⟨S1x256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | .local _ .smem, ⟨0, _⟩ => ⟨S2, .i32⟩
  | _, _ => ⟨S8x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  ![arg0.toNat, v0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamGateFirstRefIdeal.lean ====
abbrev S2 : Shape := ⟨1, ![2]⟩
abbrev S8x2048x1408 : Shape := ⟨3, ![8, 2048, 1408]⟩
abbrev S2048x5632 : Shape := ⟨2, ![2048, 5632]⟩
abbrev S2x2048x1408 : Shape := ⟨3, ![2, 2048, 1408]⟩
abbrev S2048x1408 : Shape := ⟨2, ![2048, 1408]⟩
abbrev S1 : Shape := ⟨1, ![1]⟩
abbrev S_ : Shape := ⟨0, ![]⟩
abbrev S1x2048x1408 : Shape := ⟨3, ![1, 2048, 1408]⟩
abbrev S8 : Shape := ⟨1, ![8]⟩
abbrev S8x1x1 : Shape := ⟨3, ![8, 1, 1]⟩

abbrev nBuf : Space → Nat
  | .hbm => 98
  | .vmem => 0
  | .smem => 0
  | _ => 0

abbrev bufTy : (tb : Table) → Fin (tcTables nBuf tb) → BufTy
  | .hbm, ⟨0, _⟩ => ⟨S2, .i32⟩
  | .hbm, ⟨1, _⟩ => ⟨S8x2048x1408, .bf16⟩
  | .hbm, ⟨2, _⟩ => ⟨S2048x5632, .bf16⟩
  | .hbm, ⟨3, _⟩ => ⟨S2x2048x1408, .f32⟩
  | .hbm, ⟨4, _⟩ => ⟨S2x2048x1408, .f32⟩
  | .hbm, ⟨5, _⟩ => ⟨S2x2048x1408, .f32⟩
  | .hbm, ⟨6, _⟩ => ⟨S2048x1408, .bf16⟩
  | .hbm, ⟨7, _⟩ => ⟨S2048x1408, .bf16⟩
  | .hbm, ⟨8, _⟩ => ⟨S2048x1408, .bf16⟩
  | .hbm, ⟨9, _⟩ => ⟨S2048x1408, .bf16⟩
  | .hbm, ⟨10, _⟩ => ⟨S1, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S1, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S1, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S2048x1408, .bf16⟩
  | .hbm, ⟨23, _⟩ => ⟨S2048x1408, .bf16⟩
  | .hbm, ⟨24, _⟩ => ⟨S2048x1408, .bf16⟩
  | .hbm, ⟨25, _⟩ => ⟨S1x2048x1408, .f32⟩
  | .hbm, ⟨26, _⟩ => ⟨S2048x1408, .f32⟩
  | .hbm, ⟨27, _⟩ => ⟨S1x2048x1408, .f32⟩
  | .hbm, ⟨28, _⟩ => ⟨S2048x1408, .f32⟩
  | .hbm, ⟨29, _⟩ => ⟨S1x2048x1408, .f32⟩
  | .hbm, ⟨30, _⟩ => ⟨S2048x1408, .f32⟩
  | .hbm, ⟨31, _⟩ => ⟨S8, .i32⟩
  | .hbm, ⟨32, _⟩ => ⟨S8x1x1, .i32⟩
  | .hbm, ⟨33, _⟩ => ⟨S1, .i32⟩
  | .hbm, ⟨34, _⟩ => ⟨S_, .i32⟩
  | .hbm, ⟨35, _⟩ => ⟨S8x1x1, .i32⟩
  | .hbm, ⟨36, _⟩ => ⟨S8x1x1, .i1⟩
  | .hbm, ⟨37, _⟩ => ⟨S8x2048x1408, .f32⟩
  | .hbm, ⟨38, _⟩ => ⟨S2048x1408, .f32⟩
  | .hbm, ⟨39, _⟩ => ⟨S1x2048x1408, .f32⟩
  | .hbm, ⟨40, _⟩ => ⟨S8x2048x1408, .i1⟩
  | .hbm, ⟨41, _⟩ => ⟨S8x2048x1408, .f32⟩
  | .hbm, ⟨42, _⟩ => ⟨S8x2048x1408, .f32⟩
  | .hbm, ⟨43, _⟩ => ⟨S_, .f32⟩
  | .hbm, ⟨44, _⟩ => ⟨S2048x1408, .f32⟩
  | .hbm, ⟨45, _⟩ => ⟨S_, .f32⟩
  | .hbm, ⟨46, _⟩ => ⟨S2048x1408, .f32⟩
  | .hbm, ⟨47, _⟩ => ⟨S2048x1408, .f32⟩
  | .hbm, ⟨48, _⟩ => ⟨S_, .f32⟩
  | .hbm, ⟨49, _⟩ => ⟨S2048x1408, .f32⟩
  | .hbm, ⟨50, _⟩ => ⟨S2048x1408, .f32⟩
  | .hbm, ⟨51, _⟩ => ⟨S2048x1408, .f32⟩
  | .hbm, ⟨52, _⟩ => ⟨S_, .f32⟩
  | .hbm, ⟨53, _⟩ => ⟨S2048x1408, .f32⟩
  | .hbm, ⟨54, _⟩ => ⟨S2048x1408, .f32⟩
  | .hbm, ⟨55, _⟩ => ⟨S2048x1408, .f32⟩
  | .hbm, ⟨56, _⟩ => ⟨S_, .f32⟩
  | .hbm, ⟨57, _⟩ => ⟨S2048x1408, .f32⟩
  | .hbm, ⟨58, _⟩ => ⟨S2048x1408, .f32⟩
  | .hbm, ⟨59, _⟩ => ⟨S2048x1408, .f32⟩
  | .hbm, ⟨60, _⟩ => ⟨S_, .f32⟩
  | .hbm, ⟨61, _⟩ => ⟨S2048x1408, .f32⟩
  | .hbm, ⟨62, _⟩ => ⟨S2048x1408, .f32⟩
  | .hbm, ⟨63, _⟩ => ⟨S_, .f32⟩
  | .hbm, ⟨64, _⟩ => ⟨S2048x1408, .f32⟩
  | .hbm, ⟨65, _⟩ => ⟨S2048x1408, .f32⟩
  | .hbm, ⟨66, _⟩ => ⟨S2048x1408, .f32⟩
  | .hbm, ⟨67, _⟩ => ⟨S_, .f32⟩
  | .hbm, ⟨68, _⟩ => ⟨S2048x1408, .f32⟩
  | .hbm, ⟨69, _⟩ => ⟨S2048x1408, .f32⟩
  | .hbm, ⟨70, _⟩ => ⟨S2048x1408, .f32⟩
  | .hbm, ⟨71, _⟩ => ⟨S_, .f32⟩
  | .hbm, ⟨72, _⟩ => ⟨S2048x1408, .f32⟩
  | .hbm, ⟨73, _⟩ => ⟨S2048x1408, .f32⟩
  | .hbm, ⟨74, _⟩ => ⟨S2048x1408, .f32⟩
  | .hbm, ⟨75, _⟩ => ⟨S_, .f32⟩
  | .hbm, ⟨76, _⟩ => ⟨S2048x1408, .f32⟩
  | .hbm, ⟨77, _⟩ => ⟨S2048x1408, .f32⟩
  | .hbm, ⟨78, _⟩ => ⟨S_, .f32⟩
  | .hbm, ⟨79, _⟩ => ⟨S2048x1408, .f32⟩
  | .hbm, ⟨80, _⟩ => ⟨S1x2048x1408, .f32⟩
  | .hbm, ⟨81, _⟩ => ⟨S1x2048x1408, .f32⟩
  | .hbm, ⟨82, _⟩ => ⟨S2x2048x1408, .f32⟩
  | .hbm, ⟨83, _⟩ => ⟨S_, .f32⟩
  | .hbm, ⟨84, _⟩ => ⟨S2048x1408, .f32⟩
  | .hbm, ⟨85, _⟩ => ⟨S1x2048x1408, .f32⟩
  | .hbm, ⟨86, _⟩ => ⟨S1x2048x1408, .f32⟩
  | .hbm, ⟨87, _⟩ => ⟨S2x2048x1408, .f32⟩
  | .hbm, ⟨88, _⟩ => ⟨S_, .f32⟩
  | .hbm, ⟨89, _⟩ => ⟨S2048x1408, .f32⟩
  | .hbm, ⟨90, _⟩ => ⟨S1x2048x1408, .f32⟩
  | .hbm, ⟨91, _⟩ => ⟨S1x2048x1408, .f32⟩
  | .hbm, ⟨92, _⟩ => ⟨S2x2048x1408, .f32⟩
  | .hbm, ⟨93, _⟩ => ⟨S_, .f32⟩
  | .hbm, ⟨94, _⟩ => ⟨S2048x1408, .f32⟩
  | .hbm, ⟨95, _⟩ => ⟨S1x2048x1408, .f32⟩
  | .hbm, ⟨96, _⟩ => ⟨S1x2048x1408, .f32⟩
  | .hbm, ⟨97, _⟩ => ⟨S2x2048x1408, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_call3_v0 : Ref sig .tc := ⟨.hbm, 40, rfl⟩
abbrev main_call3_v1 : Ref sig .tc := ⟨.hbm, 41, rfl⟩
abbrev main_v31 : Ref sig .tc := ⟨.hbm, 42, rfl⟩
abbrev main_cst : Ref sig .tc := ⟨.hbm, 43, rfl⟩
abbrev main_v32 : Ref sig .tc := ⟨.hbm, 44, rfl⟩
abbrev main_cst_2 : Ref sig .tc := ⟨.hbm, 45, rfl⟩
abbrev main_v33 : Ref sig .tc := ⟨.hbm, 46, rfl⟩
abbrev main_v34 : Ref sig .tc := ⟨.hbm, 47, rfl⟩
abbrev main_cst_3 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_4 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_13 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_14 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩

abbrev nD : Nat := 1
abbrev τ : Topo := Topo.v7x

variable {F : FTy → Type} [FloatOps F]
-- ==== AdamGateSecond.lean ====
abbrev S2 : Shape := ⟨1, ![2]⟩
abbrev S8x2048x1408 : Shape := ⟨3, ![8, 2048, 1408]⟩
abbrev S2048x5632 : Shape := ⟨2, ![2048, 5632]⟩
abbrev S2x2048x1408 : Shape := ⟨3, ![2, 2048, 1408]⟩
abbrev S8x256x1408 : Shape := ⟨3, ![8, 256, 1408]⟩
abbrev S256x1408 : Shape := ⟨2, ![256, 1408]⟩
abbrev S1 : Shape := ⟨1, ![1]⟩
abbrev S1x256x1408 : Shape := ⟨3, ![1, 256, 1408]⟩

abbrev nBuf : Space → Nat
  | .hbm => 13
  | .vmem => 18
  | .smem => 1
  | _ => 0

abbrev bufTy : (tb : Table) → Fin (tcTables nBuf tb) → BufTy
  | .hbm, ⟨0, _⟩ => ⟨S8x2048x1408, .bf16⟩
  | .hbm, ⟨1, _⟩ => ⟨S2048x5632, .bf16⟩
  | .hbm, ⟨2, _⟩ => ⟨S2x2048x1408, .f32⟩
  | .hbm, ⟨3, _⟩ => ⟨S2x2048x1408, .f32⟩
  | .hbm, ⟨4, _⟩ => ⟨S2x2048x1408, .f32⟩
  | .hbm, ⟨5, _⟩ => ⟨S2x2048x1408, .f32⟩
  | .hbm, ⟨6, _⟩ => ⟨S2x2048x1408, .f32⟩
  | .hbm, ⟨7, _⟩ => ⟨S2x2048x1408, .f32⟩
  | .hbm, ⟨8, _⟩ => ⟨S2x2048x1408, .f32⟩
  | .hbm, ⟨9, _⟩ => ⟨S2x2048x1408, .f32⟩
  | .hbm, ⟨10, _⟩ => ⟨S2x2048x1408, .f32⟩
  | .hbm, ⟨11, _⟩ => ⟨S2x2048x1408, .f32⟩
  | .hbm, ⟨12, _⟩ => ⟨S2x2048x1408, .f32⟩
  | .local _ .vmem, ⟨0, _⟩ => ⟨S8x256x1408, .bf16⟩
  | .local _ .vmem, ⟨1, _⟩ => ⟨S8x256x1408, .bf16⟩
  | .local _ .vmem, ⟨2, _⟩ => ⟨S256x1408, .bf16⟩
  | .local _ .vmem, ⟨3, _⟩ => ⟨S256x1408, .bf16⟩
  | .local _ .vmem, ⟨4, _⟩ => ⟨S1x256x1408, .f32⟩
  | .local _ .vmem, ⟨5, _⟩ => ⟨S1x256x1408, .f32⟩
  | .local _ .vmem, ⟨6, _⟩ => ⟨S1x256x1408, .f32⟩
  | .local _ .vmem, ⟨7, _⟩ => ⟨S1x256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | .local _ .smem, ⟨0, _⟩ => ⟨S2, .i32⟩
  | _, _ => ⟨S8x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  ![arg0.toNat, v0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S8x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamGateSecondRefIdeal.lean ====
abbrev S2 : Shape := ⟨1, ![2]⟩
abbrev S8x2048x1408 : Shape := ⟨3, ![8, 2048, 1408]⟩
abbrev S2048x5632 : Shape := ⟨2, ![2048, 5632]⟩
abbrev S2x2048x1408 : Shape := ⟨3, ![2, 2048, 1408]⟩
abbrev S2048x1408 : Shape := ⟨2, ![2048, 1408]⟩
abbrev S1 : Shape := ⟨1, ![1]⟩
abbrev S_ : Shape := ⟨0, ![]⟩
abbrev S1x2048x1408 : Shape := ⟨3, ![1, 2048, 1408]⟩
abbrev S8 : Shape := ⟨1, ![8]⟩
abbrev S8x1x1 : Shape := ⟨3, ![8, 1, 1]⟩

abbrev nBuf : Space → Nat
  | .hbm => 102
  | .vmem => 0
  | .smem => 0
  | _ => 0

abbrev bufTy : (tb : Table) → Fin (tcTables nBuf tb) → BufTy
  | .hbm, ⟨0, _⟩ => ⟨S2, .i32⟩
  | .hbm, ⟨1, _⟩ => ⟨S8x2048x1408, .bf16⟩
  | .hbm, ⟨2, _⟩ => ⟨S2048x5632, .bf16⟩
  | .hbm, ⟨3, _⟩ => ⟨S2x2048x1408, .f32⟩
  | .hbm, ⟨4, _⟩ => ⟨S2x2048x1408, .f32⟩
  | .hbm, ⟨5, _⟩ => ⟨S2x2048x1408, .f32⟩
  | .hbm, ⟨6, _⟩ => ⟨S2x2048x1408, .f32⟩
  | .hbm, ⟨7, _⟩ => ⟨S2x2048x1408, .f32⟩
  | .hbm, ⟨8, _⟩ => ⟨S2x2048x1408, .f32⟩
  | .hbm, ⟨9, _⟩ => ⟨S2x2048x1408, .f32⟩
  | .hbm, ⟨10, _⟩ => ⟨S2048x1408, .bf16⟩
  | .hbm, ⟨11, _⟩ => ⟨S2048x1408, .bf16⟩
  | .hbm, ⟨12, _⟩ => ⟨S2048x1408, .bf16⟩
  | .hbm, ⟨13, _⟩ => ⟨S2048x1408, .bf16⟩
  | .hbm, ⟨14, _⟩ => ⟨S1, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S1, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S1, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S2048x1408, .bf16⟩
  | .hbm, ⟨27, _⟩ => ⟨S2048x1408, .bf16⟩
  | .hbm, ⟨28, _⟩ => ⟨S2048x1408, .bf16⟩
  | .hbm, ⟨29, _⟩ => ⟨S1x2048x1408, .f32⟩
  | .hbm, ⟨30, _⟩ => ⟨S2048x1408, .f32⟩
  | .hbm, ⟨31, _⟩ => ⟨S1x2048x1408, .f32⟩
  | .hbm, ⟨32, _⟩ => ⟨S2048x1408, .f32⟩
  | .hbm, ⟨33, _⟩ => ⟨S1x2048x1408, .f32⟩
  | .hbm, ⟨34, _⟩ => ⟨S2048x1408, .f32⟩
  | .hbm, ⟨35, _⟩ => ⟨S8, .i32⟩
  | .hbm, ⟨36, _⟩ => ⟨S8x1x1, .i32⟩
  | .hbm, ⟨37, _⟩ => ⟨S1, .i32⟩
  | .hbm, ⟨38, _⟩ => ⟨S_, .i32⟩
  | .hbm, ⟨39, _⟩ => ⟨S8x1x1, .i32⟩
  | .hbm, ⟨40, _⟩ => ⟨S8x1x1, .i1⟩
  | .hbm, ⟨41, _⟩ => ⟨S8x2048x1408, .f32⟩
  | .hbm, ⟨42, _⟩ => ⟨S2048x1408, .f32⟩
  | .hbm, ⟨43, _⟩ => ⟨S1x2048x1408, .f32⟩
  | .hbm, ⟨44, _⟩ => ⟨S8x2048x1408, .i1⟩
  | .hbm, ⟨45, _⟩ => ⟨S8x2048x1408, .f32⟩
  | .hbm, ⟨46, _⟩ => ⟨S8x2048x1408, .f32⟩
  | .hbm, ⟨47, _⟩ => ⟨S_, .f32⟩
  | .hbm, ⟨48, _⟩ => ⟨S2048x1408, .f32⟩
  | .hbm, ⟨49, _⟩ => ⟨S_, .f32⟩
  | .hbm, ⟨50, _⟩ => ⟨S2048x1408, .f32⟩
  | .hbm, ⟨51, _⟩ => ⟨S2048x1408, .f32⟩
  | .hbm, ⟨52, _⟩ => ⟨S_, .f32⟩
  | .hbm, ⟨53, _⟩ => ⟨S2048x1408, .f32⟩
  | .hbm, ⟨54, _⟩ => ⟨S2048x1408, .f32⟩
  | .hbm, ⟨55, _⟩ => ⟨S2048x1408, .f32⟩
  | .hbm, ⟨56, _⟩ => ⟨S_, .f32⟩
  | .hbm, ⟨57, _⟩ => ⟨S2048x1408, .f32⟩
  | .hbm, ⟨58, _⟩ => ⟨S2048x1408, .f32⟩
  | .hbm, ⟨59, _⟩ => ⟨S2048x1408, .f32⟩
  | .hbm, ⟨60, _⟩ => ⟨S_, .f32⟩
  | .hbm, ⟨61, _⟩ => ⟨S2048x1408, .f32⟩
  | .hbm, ⟨62, _⟩ => ⟨S2048x1408, .f32⟩
  | .hbm, ⟨63, _⟩ => ⟨S2048x1408, .f32⟩
  | .hbm, ⟨64, _⟩ => ⟨S_, .f32⟩
  | .hbm, ⟨65, _⟩ => ⟨S2048x1408, .f32⟩
  | .hbm, ⟨66, _⟩ => ⟨S2048x1408, .f32⟩
  | .hbm, ⟨67, _⟩ => ⟨S_, .f32⟩
  | .hbm, ⟨68, _⟩ => ⟨S2048x1408, .f32⟩
  | .hbm, ⟨69, _⟩ => ⟨S2048x1408, .f32⟩
  | .hbm, ⟨70, _⟩ => ⟨S2048x1408, .f32⟩
  | .hbm, ⟨71, _⟩ => ⟨S_, .f32⟩
  | .hbm, ⟨72, _⟩ => ⟨S2048x1408, .f32⟩
  | .hbm, ⟨73, _⟩ => ⟨S2048x1408, .f32⟩
  | .hbm, ⟨74, _⟩ => ⟨S2048x1408, .f32⟩
  | .hbm, ⟨75, _⟩ => ⟨S_, .f32⟩
  | .hbm, ⟨76, _⟩ => ⟨S2048x1408, .f32⟩
  | .hbm, ⟨77, _⟩ => ⟨S2048x1408, .f32⟩
  | .hbm, ⟨78, _⟩ => ⟨S2048x1408, .f32⟩
  | .hbm, ⟨79, _⟩ => ⟨S_, .f32⟩
  | .hbm, ⟨80, _⟩ => ⟨S2048x1408, .f32⟩
  | .hbm, ⟨81, _⟩ => ⟨S2048x1408, .f32⟩
  | .hbm, ⟨82, _⟩ => ⟨S1x2048x1408, .f32⟩
  | .hbm, ⟨83, _⟩ => ⟨S2048x1408, .f32⟩
  | .hbm, ⟨84, _⟩ => ⟨S1x2048x1408, .f32⟩
  | .hbm, ⟨85, _⟩ => ⟨S1x2048x1408, .f32⟩
  | .hbm, ⟨86, _⟩ => ⟨S2x2048x1408, .f32⟩
  | .hbm, ⟨87, _⟩ => ⟨S1x2048x1408, .f32⟩
  | .hbm, ⟨88, _⟩ => ⟨S2048x1408, .f32⟩
  | .hbm, ⟨89, _⟩ => ⟨S1x2048x1408, .f32⟩
  | .hbm, ⟨90, _⟩ => ⟨S1x2048x1408, .f32⟩
  | .hbm, ⟨91, _⟩ => ⟨S2x2048x1408, .f32⟩
  | .hbm, ⟨92, _⟩ => ⟨S1x2048x1408, .f32⟩
  | .hbm, ⟨93, _⟩ => ⟨S2048x1408, .f32⟩
  | .hbm, ⟨94, _⟩ => ⟨S1x2048x1408, .f32⟩
  | .hbm, ⟨95, _⟩ => ⟨S1x2048x1408, .f32⟩
  | .hbm, ⟨96, _⟩ => ⟨S2x2048x1408, .f32⟩
  | .hbm, ⟨97, _⟩ => ⟨S1x2048x1408, .f32⟩
  | .hbm, ⟨98, _⟩ => ⟨S2048x1408, .f32⟩
  | .hbm, ⟨99, _⟩ => ⟨S1x2048x1408, .f32⟩
  | .hbm, ⟨100, _⟩ => ⟨S1x2048x1408, .f32⟩
  | .hbm, ⟨101, _⟩ => ⟨S2x2048x1408, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_call3_v0 : Ref sig .tc := ⟨.hbm, 44, rfl⟩
abbrev main_call3_v1 : Ref sig .tc := ⟨.hbm, 45, rfl⟩
abbrev main_v31 : Ref sig .tc := ⟨.hbm, 46, rfl⟩
abbrev main_cst : Ref sig .tc := ⟨.hbm, 47, rfl⟩
abbrev main_v32 : Ref sig .tc := ⟨.hbm, 48, rfl⟩
abbrev main_cst_2 : Ref sig .tc := ⟨.hbm, 49, rfl⟩
abbrev main_v33 : Ref sig .tc := ⟨.hbm, 50, rfl⟩
abbrev main_v34 : Ref sig .tc := ⟨.hbm, 51, rfl⟩
abbrev main_cst_3 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_4 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_5 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_6 : Ref sig .tc := ⟨.hbm, 64, rfl⟩
abbrev main_v44 : Ref sig .tc := ⟨.hbm, 65, rfl⟩
abbrev main_v45 : Ref sig .tc := ⟨.hbm, 66, rfl⟩
abbrev main_cst_7 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_8 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_10 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩

abbrev nD : Nat := 1
abbrev τ : Topo := Topo.v7x

variable {F : FTy → Type} [FloatOps F]
-- ==== AdamDownFirst.lean ====
abbrev S2 : Shape := ⟨1, ![2]⟩
abbrev S8x1408x2048 : Shape := ⟨3, ![8, 1408, 2048]⟩
abbrev S5632x2048 : Shape := ⟨2, ![5632, 2048]⟩
abbrev S2x1408x2048 : Shape := ⟨3, ![2, 1408, 2048]⟩
abbrev S8x128x2048 : Shape := ⟨3, ![8, 128, 2048]⟩
abbrev S128x2048 : Shape := ⟨2, ![128, 2048]⟩
abbrev S1 : Shape := ⟨1, ![1]⟩
abbrev S1x128x2048 : Shape := ⟨3, ![1, 128, 2048]⟩

abbrev nBuf : Space → Nat
  | .hbm => 9
  | .vmem => 18
  | .smem => 1
  | _ => 0

abbrev bufTy : (tb : Table) → Fin (tcTables nBuf tb) → BufTy
  | .hbm, ⟨0, _⟩ => ⟨S8x1408x2048, .bf16⟩
  | .hbm, ⟨1, _⟩ => ⟨S5632x2048, .bf16⟩
  | .hbm, ⟨2, _⟩ => ⟨S2x1408x2048, .f32⟩
  | .hbm, ⟨3, _⟩ => ⟨S2x1408x2048, .f32⟩
  | .hbm, ⟨4, _⟩ => ⟨S2x1408x2048, .f32⟩
  | .hbm, ⟨5, _⟩ => ⟨S2x1408x2048, .f32⟩
  | .hbm, ⟨6, _⟩ => ⟨S2x1408x2048, .f32⟩
  | .hbm, ⟨7, _⟩ => ⟨S2x1408x2048, .f32⟩
  | .hbm, ⟨8, _⟩ => ⟨S2x1408x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S128x2048, .bf16⟩
  | .local _ .vmem, ⟨3, _⟩ => ⟨S128x2048, .bf16⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .smem, ⟨0, _⟩ => ⟨S2, .i32⟩
  | _, _ => ⟨S8x1408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![11], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S2) ![0] S1.size inb_S2_S1_0) numel1_S1
  let c11_i32 : BitVec 32 := 11#32
  let v1 : BitVec 32 := Scalar.muli v0 c11_i32
  let v2 : BitVec 32 := Scalar.addi v1 arg0
  let c0_i32 : BitVec 32 := 0#32
  let c0_i32_0 : BitVec 32 := 0#32
  ![v2.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamDownFirstRefIdeal.lean ====
abbrev S2 : Shape := ⟨1, ![2]⟩
abbrev S8x1408x2048 : Shape := ⟨3, ![8, 1408, 2048]⟩
abbrev S5632x2048 : Shape := ⟨2, ![5632, 2048]⟩
abbrev S2x1408x2048 : Shape := ⟨3, ![2, 1408, 2048]⟩
abbrev S1408x2048 : Shape := ⟨2, ![1408, 2048]⟩
abbrev S1 : Shape := ⟨1, ![1]⟩
abbrev S_ : Shape := ⟨0, ![]⟩
abbrev S1x1408x2048 : Shape := ⟨3, ![1, 1408, 2048]⟩
abbrev S8 : Shape := ⟨1, ![8]⟩
abbrev S8x1x1 : Shape := ⟨3, ![8, 1, 1]⟩

abbrev nBuf : Space → Nat
  | .hbm => 98
  | .vmem => 0
  | .smem => 0
  | _ => 0

abbrev bufTy : (tb : Table) → Fin (tcTables nBuf tb) → BufTy
  | .hbm, ⟨0, _⟩ => ⟨S2, .i32⟩
  | .hbm, ⟨1, _⟩ => ⟨S8x1408x2048, .bf16⟩
  | .hbm, ⟨2, _⟩ => ⟨S5632x2048, .bf16⟩
  | .hbm, ⟨3, _⟩ => ⟨S2x1408x2048, .f32⟩
  | .hbm, ⟨4, _⟩ => ⟨S2x1408x2048, .f32⟩
  | .hbm, ⟨5, _⟩ => ⟨S2x1408x2048, .f32⟩
  | .hbm, ⟨6, _⟩ => ⟨S1408x2048, .bf16⟩
  | .hbm, ⟨7, _⟩ => ⟨S1408x2048, .bf16⟩
  | .hbm, ⟨8, _⟩ => ⟨S1408x2048, .bf16⟩
  | .hbm, ⟨9, _⟩ => ⟨S1408x2048, .bf16⟩
  | .hbm, ⟨10, _⟩ => ⟨S1, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S1, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S1, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S1408x2048, .bf16⟩
  | .hbm, ⟨23, _⟩ => ⟨S1408x2048, .bf16⟩
  | .hbm, ⟨24, _⟩ => ⟨S1408x2048, .bf16⟩
  | .hbm, ⟨25, _⟩ => ⟨S1x1408x2048, .f32⟩
  | .hbm, ⟨26, _⟩ => ⟨S1408x2048, .f32⟩
  | .hbm, ⟨27, _⟩ => ⟨S1x1408x2048, .f32⟩
  | .hbm, ⟨28, _⟩ => ⟨S1408x2048, .f32⟩
  | .hbm, ⟨29, _⟩ => ⟨S1x1408x2048, .f32⟩
  | .hbm, ⟨30, _⟩ => ⟨S1408x2048, .f32⟩
  | .hbm, ⟨31, _⟩ => ⟨S8, .i32⟩
  | .hbm, ⟨32, _⟩ => ⟨S8x1x1, .i32⟩
  | .hbm, ⟨33, _⟩ => ⟨S1, .i32⟩
  | .hbm, ⟨34, _⟩ => ⟨S_, .i32⟩
  | .hbm, ⟨35, _⟩ => ⟨S8x1x1, .i32⟩
  | .hbm, ⟨36, _⟩ => ⟨S8x1x1, .i1⟩
  | .hbm, ⟨37, _⟩ => ⟨S8x1408x2048, .f32⟩
  | .hbm, ⟨38, _⟩ => ⟨S1408x2048, .f32⟩
  | .hbm, ⟨39, _⟩ => ⟨S1x1408x2048, .f32⟩
  | .hbm, ⟨40, _⟩ => ⟨S8x1408x2048, .i1⟩
  | .hbm, ⟨41, _⟩ => ⟨S8x1408x2048, .f32⟩
  | .hbm, ⟨42, _⟩ => ⟨S8x1408x2048, .f32⟩
  | .hbm, ⟨43, _⟩ => ⟨S_, .f32⟩
  | .hbm, ⟨44, _⟩ => ⟨S1408x2048, .f32⟩
  | .hbm, ⟨45, _⟩ => ⟨S_, .f32⟩
  | .hbm, ⟨46, _⟩ => ⟨S1408x2048, .f32⟩
  | .hbm, ⟨47, _⟩ => ⟨S1408x2048, .f32⟩
  | .hbm, ⟨48, _⟩ => ⟨S_, .f32⟩
  | .hbm, ⟨49, _⟩ => ⟨S1408x2048, .f32⟩
  | .hbm, ⟨50, _⟩ => ⟨S1408x2048, .f32⟩
  | .hbm, ⟨51, _⟩ => ⟨S1408x2048, .f32⟩
  | .hbm, ⟨52, _⟩ => ⟨S_, .f32⟩
  | .hbm, ⟨53, _⟩ => ⟨S1408x2048, .f32⟩
  | .hbm, ⟨54, _⟩ => ⟨S1408x2048, .f32⟩
  | .hbm, ⟨55, _⟩ => ⟨S1408x2048, .f32⟩
  | .hbm, ⟨56, _⟩ => ⟨S_, .f32⟩
  | .hbm, ⟨57, _⟩ => ⟨S1408x2048, .f32⟩
  | .hbm, ⟨58, _⟩ => ⟨S1408x2048, .f32⟩
  | .hbm, ⟨59, _⟩ => ⟨S1408x2048, .f32⟩
  | .hbm, ⟨60, _⟩ => ⟨S_, .f32⟩
  | .hbm, ⟨61, _⟩ => ⟨S1408x2048, .f32⟩
  | .hbm, ⟨62, _⟩ => ⟨S1408x2048, .f32⟩
  | .hbm, ⟨63, _⟩ => ⟨S_, .f32⟩
  | .hbm, ⟨64, _⟩ => ⟨S1408x2048, .f32⟩
  | .hbm, ⟨65, _⟩ => ⟨S1408x2048, .f32⟩
  | .hbm, ⟨66, _⟩ => ⟨S1408x2048, .f32⟩
  | .hbm, ⟨67, _⟩ => ⟨S_, .f32⟩
  | .hbm, ⟨68, _⟩ => ⟨S1408x2048, .f32⟩
  | .hbm, ⟨69, _⟩ => ⟨S1408x2048, .f32⟩
  | .hbm, ⟨70, _⟩ => ⟨S1408x2048, .f32⟩
  | .hbm, ⟨71, _⟩ => ⟨S_, .f32⟩
  | .hbm, ⟨72, _⟩ => ⟨S1408x2048, .f32⟩
  | .hbm, ⟨73, _⟩ => ⟨S1408x2048, .f32⟩
  | .hbm, ⟨74, _⟩ => ⟨S1408x2048, .f32⟩
  | .hbm, ⟨75, _⟩ => ⟨S_, .f32⟩
  | .hbm, ⟨76, _⟩ => ⟨S1408x2048, .f32⟩
  | .hbm, ⟨77, _⟩ => ⟨S1408x2048, .f32⟩
  | .hbm, ⟨78, _⟩ => ⟨S_, .f32⟩
  | .hbm, ⟨79, _⟩ => ⟨S1408x2048, .f32⟩
  | .hbm, ⟨80, _⟩ => ⟨S1x1408x2048, .f32⟩
  | .hbm, ⟨81, _⟩ => ⟨S1x1408x2048, .f32⟩
  | .hbm, ⟨82, _⟩ => ⟨S2x1408x2048, .f32⟩
  | .hbm, ⟨83, _⟩ => ⟨S_, .f32⟩
  | .hbm, ⟨84, _⟩ => ⟨S1408x2048, .f32⟩
  | .hbm, ⟨85, _⟩ => ⟨S1x1408x2048, .f32⟩
  | .hbm, ⟨86, _⟩ => ⟨S1x1408x2048, .f32⟩
  | .hbm, ⟨87, _⟩ => ⟨S2x1408x2048, .f32⟩
  | .hbm, ⟨88, _⟩ => ⟨S_, .f32⟩
  | .hbm, ⟨89, _⟩ => ⟨S1408x2048, .f32⟩
  | .hbm, ⟨90, _⟩ => ⟨S1x1408x2048, .f32⟩
  | .hbm, ⟨91, _⟩ => ⟨S1x1408x2048, .f32⟩
  | .hbm, ⟨92, _⟩ => ⟨S2x1408x2048, .f32⟩
  | .hbm, ⟨93, _⟩ => ⟨S_, .f32⟩
  | .hbm, ⟨94, _⟩ => ⟨S1408x2048, .f32⟩
  | .hbm, ⟨95, _⟩ => ⟨S1x1408x2048, .f32⟩
  | .hbm, ⟨96, _⟩ => ⟨S1x1408x2048, .f32⟩
  | .hbm, ⟨97, _⟩ => ⟨S2x1408x2048, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_call3_v0 : Ref sig .tc := ⟨.hbm, 40, rfl⟩
abbrev main_call3_v1 : Ref sig .tc := ⟨.hbm, 41, rfl⟩
abbrev main_v31 : Ref sig .tc := ⟨.hbm, 42, rfl⟩
abbrev main_cst : Ref sig .tc := ⟨.hbm, 43, rfl⟩
abbrev main_v32 : Ref sig .tc := ⟨.hbm, 44, rfl⟩
abbrev main_cst_2 : Ref sig .tc := ⟨.hbm, 45, rfl⟩
abbrev main_v33 : Ref sig .tc := ⟨.hbm, 46, rfl⟩
abbrev main_v34 : Ref sig .tc := ⟨.hbm, 47, rfl⟩
abbrev main_cst_3 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_4 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_13 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_14 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩

abbrev nD : Nat := 1
abbrev τ : Topo := Topo.v7x

variable {F : FTy → Type} [FloatOps F]
-- ==== AdamDownSecond.lean ====
abbrev S2 : Shape := ⟨1, ![2]⟩
abbrev S8x1408x2048 : Shape := ⟨3, ![8, 1408, 2048]⟩
abbrev S5632x2048 : Shape := ⟨2, ![5632, 2048]⟩
abbrev S2x1408x2048 : Shape := ⟨3, ![2, 1408, 2048]⟩
abbrev S8x128x2048 : Shape := ⟨3, ![8, 128, 2048]⟩
abbrev S128x2048 : Shape := ⟨2, ![128, 2048]⟩
abbrev S1 : Shape := ⟨1, ![1]⟩
abbrev S1x128x2048 : Shape := ⟨3, ![1, 128, 2048]⟩

abbrev nBuf : Space → Nat
  | .hbm => 13
  | .vmem => 18
  | .smem => 1
  | _ => 0

abbrev bufTy : (tb : Table) → Fin (tcTables nBuf tb) → BufTy
  | .hbm, ⟨0, _⟩ => ⟨S8x1408x2048, .bf16⟩
  | .hbm, ⟨1, _⟩ => ⟨S5632x2048, .bf16⟩
  | .hbm, ⟨2, _⟩ => ⟨S2x1408x2048, .f32⟩
  | .hbm, ⟨3, _⟩ => ⟨S2x1408x2048, .f32⟩
  | .hbm, ⟨4, _⟩ => ⟨S2x1408x2048, .f32⟩
  | .hbm, ⟨5, _⟩ => ⟨S2x1408x2048, .f32⟩
  | .hbm, ⟨6, _⟩ => ⟨S2x1408x2048, .f32⟩
  | .hbm, ⟨7, _⟩ => ⟨S2x1408x2048, .f32⟩
  | .hbm, ⟨8, _⟩ => ⟨S2x1408x2048, .f32⟩
  | .hbm, ⟨9, _⟩ => ⟨S2x1408x2048, .f32⟩
  | .hbm, ⟨10, _⟩ => ⟨S2x1408x2048, .f32⟩
  | .hbm, ⟨11, _⟩ => ⟨S2x1408x2048, .f32⟩
  | .hbm, ⟨12, _⟩ => ⟨S2x1408x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S128x2048, .bf16⟩
  | .local _ .vmem, ⟨3, _⟩ => ⟨S128x2048, .bf16⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .smem, ⟨0, _⟩ => ⟨S2, .i32⟩
  | _, _ => ⟨S8x1408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![11], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S2) ![0] S1.size inb_S2_S1_0) numel1_S1
  let c11_i32 : BitVec 32 := 11#32
  let v1 : BitVec 32 := Scalar.muli v0 c11_i32
  let v2 : BitVec 32 := Scalar.addi v1 arg0
  let c0_i32 : BitVec 32 := 0#32
  let c0_i32_0 : BitVec 32 := 0#32
  ![v2.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamDownSecondRefIdeal.lean ====
abbrev S2 : Shape := ⟨1, ![2]⟩
abbrev S8x1408x2048 : Shape := ⟨3, ![8, 1408, 2048]⟩
abbrev S5632x2048 : Shape := ⟨2, ![5632, 2048]⟩
abbrev S2x1408x2048 : Shape := ⟨3, ![2, 1408, 2048]⟩
abbrev S1408x2048 : Shape := ⟨2, ![1408, 2048]⟩
abbrev S1 : Shape := ⟨1, ![1]⟩
abbrev S_ : Shape := ⟨0, ![]⟩
abbrev S1x1408x2048 : Shape := ⟨3, ![1, 1408, 2048]⟩
abbrev S8 : Shape := ⟨1, ![8]⟩
abbrev S8x1x1 : Shape := ⟨3, ![8, 1, 1]⟩

abbrev nBuf : Space → Nat
  | .hbm => 102
  | .vmem => 0
  | .smem => 0
  | _ => 0

abbrev bufTy : (tb : Table) → Fin (tcTables nBuf tb) → BufTy
  | .hbm, ⟨0, _⟩ => ⟨S2, .i32⟩
  | .hbm, ⟨1, _⟩ => ⟨S8x1408x2048, .bf16⟩
  | .hbm, ⟨2, _⟩ => ⟨S5632x2048, .bf16⟩
  | .hbm, ⟨3, _⟩ => ⟨S2x1408x2048, .f32⟩
  | .hbm, ⟨4, _⟩ => ⟨S2x1408x2048, .f32⟩
  | .hbm, ⟨5, _⟩ => ⟨S2x1408x2048, .f32⟩
  | .hbm, ⟨6, _⟩ => ⟨S2x1408x2048, .f32⟩
  | .hbm, ⟨7, _⟩ => ⟨S2x1408x2048, .f32⟩
  | .hbm, ⟨8, _⟩ => ⟨S2x1408x2048, .f32⟩
  | .hbm, ⟨9, _⟩ => ⟨S2x1408x2048, .f32⟩
  | .hbm, ⟨10, _⟩ => ⟨S1408x2048, .bf16⟩
  | .hbm, ⟨11, _⟩ => ⟨S1408x2048, .bf16⟩
  | .hbm, ⟨12, _⟩ => ⟨S1408x2048, .bf16⟩
  | .hbm, ⟨13, _⟩ => ⟨S1408x2048, .bf16⟩
  | .hbm, ⟨14, _⟩ => ⟨S1, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S1, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S1, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S1408x2048, .bf16⟩
  | .hbm, ⟨27, _⟩ => ⟨S1408x2048, .bf16⟩
  | .hbm, ⟨28, _⟩ => ⟨S1408x2048, .bf16⟩
  | .hbm, ⟨29, _⟩ => ⟨S1x1408x2048, .f32⟩
  | .hbm, ⟨30, _⟩ => ⟨S1408x2048, .f32⟩
  | .hbm, ⟨31, _⟩ => ⟨S1x1408x2048, .f32⟩
  | .hbm, ⟨32, _⟩ => ⟨S1408x2048, .f32⟩
  | .hbm, ⟨33, _⟩ => ⟨S1x1408x2048, .f32⟩
  | .hbm, ⟨34, _⟩ => ⟨S1408x2048, .f32⟩
  | .hbm, ⟨35, _⟩ => ⟨S8, .i32⟩
  | .hbm, ⟨36, _⟩ => ⟨S8x1x1, .i32⟩
  | .hbm, ⟨37, _⟩ => ⟨S1, .i32⟩
  | .hbm, ⟨38, _⟩ => ⟨S_, .i32⟩
  | .hbm, ⟨39, _⟩ => ⟨S8x1x1, .i32⟩
  | .hbm, ⟨40, _⟩ => ⟨S8x1x1, .i1⟩
  | .hbm, ⟨41, _⟩ => ⟨S8x1408x2048, .f32⟩
  | .hbm, ⟨42, _⟩ => ⟨S1408x2048, .f32⟩
  | .hbm, ⟨43, _⟩ => ⟨S1x1408x2048, .f32⟩
  | .hbm, ⟨44, _⟩ => ⟨S8x1408x2048, .i1⟩
  | .hbm, ⟨45, _⟩ => ⟨S8x1408x2048, .f32⟩
  | .hbm, ⟨46, _⟩ => ⟨S8x1408x2048, .f32⟩
  | .hbm, ⟨47, _⟩ => ⟨S_, .f32⟩
  | .hbm, ⟨48, _⟩ => ⟨S1408x2048, .f32⟩
  | .hbm, ⟨49, _⟩ => ⟨S_, .f32⟩
  | .hbm, ⟨50, _⟩ => ⟨S1408x2048, .f32⟩
  | .hbm, ⟨51, _⟩ => ⟨S1408x2048, .f32⟩
  | .hbm, ⟨52, _⟩ => ⟨S_, .f32⟩
  | .hbm, ⟨53, _⟩ => ⟨S1408x2048, .f32⟩
  | .hbm, ⟨54, _⟩ => ⟨S1408x2048, .f32⟩
  | .hbm, ⟨55, _⟩ => ⟨S1408x2048, .f32⟩
  | .hbm, ⟨56, _⟩ => ⟨S_, .f32⟩
  | .hbm, ⟨57, _⟩ => ⟨S1408x2048, .f32⟩
  | .hbm, ⟨58, _⟩ => ⟨S1408x2048, .f32⟩
  | .hbm, ⟨59, _⟩ => ⟨S1408x2048, .f32⟩
  | .hbm, ⟨60, _⟩ => ⟨S_, .f32⟩
  | .hbm, ⟨61, _⟩ => ⟨S1408x2048, .f32⟩
  | .hbm, ⟨62, _⟩ => ⟨S1408x2048, .f32⟩
  | .hbm, ⟨63, _⟩ => ⟨S1408x2048, .f32⟩
  | .hbm, ⟨64, _⟩ => ⟨S_, .f32⟩
  | .hbm, ⟨65, _⟩ => ⟨S1408x2048, .f32⟩
  | .hbm, ⟨66, _⟩ => ⟨S1408x2048, .f32⟩
  | .hbm, ⟨67, _⟩ => ⟨S_, .f32⟩
  | .hbm, ⟨68, _⟩ => ⟨S1408x2048, .f32⟩
  | .hbm, ⟨69, _⟩ => ⟨S1408x2048, .f32⟩
  | .hbm, ⟨70, _⟩ => ⟨S1408x2048, .f32⟩
  | .hbm, ⟨71, _⟩ => ⟨S_, .f32⟩
  | .hbm, ⟨72, _⟩ => ⟨S1408x2048, .f32⟩
  | .hbm, ⟨73, _⟩ => ⟨S1408x2048, .f32⟩
  | .hbm, ⟨74, _⟩ => ⟨S1408x2048, .f32⟩
  | .hbm, ⟨75, _⟩ => ⟨S_, .f32⟩
  | .hbm, ⟨76, _⟩ => ⟨S1408x2048, .f32⟩
  | .hbm, ⟨77, _⟩ => ⟨S1408x2048, .f32⟩
  | .hbm, ⟨78, _⟩ => ⟨S1408x2048, .f32⟩
  | .hbm, ⟨79, _⟩ => ⟨S_, .f32⟩
  | .hbm, ⟨80, _⟩ => ⟨S1408x2048, .f32⟩
  | .hbm, ⟨81, _⟩ => ⟨S1408x2048, .f32⟩
  | .hbm, ⟨82, _⟩ => ⟨S1x1408x2048, .f32⟩
  | .hbm, ⟨83, _⟩ => ⟨S1408x2048, .f32⟩
  | .hbm, ⟨84, _⟩ => ⟨S1x1408x2048, .f32⟩
  | .hbm, ⟨85, _⟩ => ⟨S1x1408x2048, .f32⟩
  | .hbm, ⟨86, _⟩ => ⟨S2x1408x2048, .f32⟩
  | .hbm, ⟨87, _⟩ => ⟨S1x1408x2048, .f32⟩
  | .hbm, ⟨88, _⟩ => ⟨S1408x2048, .f32⟩
  | .hbm, ⟨89, _⟩ => ⟨S1x1408x2048, .f32⟩
  | .hbm, ⟨90, _⟩ => ⟨S1x1408x2048, .f32⟩
  | .hbm, ⟨91, _⟩ => ⟨S2x1408x2048, .f32⟩
  | .hbm, ⟨92, _⟩ => ⟨S1x1408x2048, .f32⟩
  | .hbm, ⟨93, _⟩ => ⟨S1408x2048, .f32⟩
  | .hbm, ⟨94, _⟩ => ⟨S1x1408x2048, .f32⟩
  | .hbm, ⟨95, _⟩ => ⟨S1x1408x2048, .f32⟩
  | .hbm, ⟨96, _⟩ => ⟨S2x1408x2048, .f32⟩
  | .hbm, ⟨97, _⟩ => ⟨S1x1408x2048, .f32⟩
  | .hbm, ⟨98, _⟩ => ⟨S1408x2048, .f32⟩
  | .hbm, ⟨99, _⟩ => ⟨S1x1408x2048, .f32⟩
  | .hbm, ⟨100, _⟩ => ⟨S1x1408x2048, .f32⟩
  | .hbm, ⟨101, _⟩ => ⟨S2x1408x2048, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_call3_v0 : Ref sig .tc := ⟨.hbm, 44, rfl⟩
abbrev main_call3_v1 : Ref sig .tc := ⟨.hbm, 45, rfl⟩
abbrev main_v31 : Ref sig .tc := ⟨.hbm, 46, rfl⟩
abbrev main_cst : Ref sig .tc := ⟨.hbm, 47, rfl⟩
abbrev main_v32 : Ref sig .tc := ⟨.hbm, 48, rfl⟩
abbrev main_cst_2 : Ref sig .tc := ⟨.hbm, 49, rfl⟩
abbrev main_v33 : Ref sig .tc := ⟨.hbm, 50, rfl⟩
abbrev main_v34 : Ref sig .tc := ⟨.hbm, 51, rfl⟩
abbrev main_cst_3 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_4 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_5 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_6 : Ref sig .tc := ⟨.hbm, 64, rfl⟩
abbrev main_v44 : Ref sig .tc := ⟨.hbm, 65, rfl⟩
abbrev main_v45 : Ref sig .tc := ⟨.hbm, 66, rfl⟩
abbrev main_cst_7 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_8 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_10 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩

abbrev nD : Nat := 1
abbrev τ : Topo := Topo.v7x

variable {F : FTy → Type} [FloatOps F]
-- ==== Proof.Products.lean ====
/- The three plain matrix products (rows by columns, rows by rows, columns by columns) as functions of whole matrices over
   the extended reals, the two printed product operations read as them, and the fact a blocked product rests on: an entry
   of a block of the product reads the same sum as the entry of the whole product it stands for. -/
module

public import Idealize.ShloMosaic.Lib.MatmulPlain
public import Idealize.ShloMosaic.Lib.Pipeline.Value
public import Idealize.ShloMosaic.Lib.Pipeline.ValueKit.Geometry
public import Idealize.ShloMosaic.Lib.ValueIdx

@[expose] public section

noncomputable section

namespace Cert.Products

open Idealize.ShloMosaic Idealize.ShloMosaic.ValueIdx
open scoped BigOperators

/-- A matrix of extended reals. -/
abbrev Mat (M N : ℕ) : Type := (⟨2, ![M, N]⟩ : Shape).Idx → EReal

variable {M K N M' N' : ℕ}

/-- Rows of `A` times columns of `B`. -/
def nn (A : Mat M K) (B : Mat K N) : Mat M N := fun i => ∑ k : Fin K, A (ix2 (i 0) k) * B (ix2 k (i 1))
/-- Rows of `A` times rows of `B`. -/
def nt (A : Mat M K) (B : Mat N K) : Mat M N := fun i => ∑ k : Fin K, A (ix2 (i 0) k) * B (ix2 (i 1) k)
/-- Columns of `A` times columns of `B`. -/
def tn (A : Mat K M) (B : Mat K N) : Mat M N := fun i => ∑ k : Fin K, A (ix2 k (i 0)) * B (ix2 k (i 1))

/-- Two rows-by-columns products agree at entries whose row and column agree. -/
theorem nn_congr {a : Mat M' K} {b : Mat K N'} {A : Mat M K} {B : Mat K N} {j : (⟨2, ![M', N']⟩ : Shape).Idx}
    {i : (⟨2, ![M, N]⟩ : Shape).Idx} (ha : ∀ k, a (ix2 (j 0) k) = A (ix2 (i 0) k)) (hb : ∀ k, b (ix2 k (j 1)) = B (ix2 k (i 1))) :
    nn a b j = nn A B i :=
  Finset.sum_congr rfl fun k _ => by rw [ha k, hb k]
/-- Two rows-by-rows products agree at entries whose two rows agree. -/
theorem nt_congr {a : Mat M' K} {b : Mat N' K} {A : Mat M K} {B : Mat N K} {j : (⟨2, ![M', N']⟩ : Shape).Idx}
    {i : (⟨2, ![M, N]⟩ : Shape).Idx} (ha : ∀ k, a (ix2 (j 0) k) = A (ix2 (i 0) k)) (hb : ∀ k, b (ix2 (j 1) k) = B (ix2 (i 1) k)) :
    nt a b j = nt A B i :=
  Finset.sum_congr rfl fun k _ => by rw [ha k, hb k]
/-- Two columns-by-columns products agree at entries whose two columns agree. -/
theorem tn_congr {a : Mat K M'} {b : Mat K N'} {A : Mat K M} {B : Mat K N} {j : (⟨2, ![M', N']⟩ : Shape).Idx}
    {i : (⟨2, ![M, N]⟩ : Shape).Idx} (ha : ∀ k, a (ix2 k (j 0)) = A (ix2 k (i 0))) (hb : ∀ k, b (ix2 k (j 1)) = B (ix2 k (i 1))) :
    tn a b j = tn A B i :=
  Finset.sum_congr rfl fun k _ => by rw [ha k, hb k]

/-- The dimension numbers of a product of columns by columns. -/
def tnDims (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- The contraction sum of rows by columns, over the one contracted coordinate. -/
theorem sum_nn (A : Mat M K) (B : Mat K N) (i : (⟨2, ![M, N]⟩ : Shape).Idx) :
    ∑ k, A ((DotDims.plain M K N).lhsIdx i k) * B ((DotDims.plain M K N).rhsIdx i k) = nn A B i := by
  rw [← Equiv.sum_comp (contrEquiv1 (DotDims.plain M K N) K rfl rfl).symm]
  refine Finset.sum_congr rfl fun k _ => ?_
  have hk := contrEquiv1_symm_val (DotDims.plain M K N) K rfl rfl k
  refine congrArg₂ (· * ·) (congrArg A (funext fun a => Fin.ext ?_)) (congrArg B (funext fun a => Fin.ext ?_))
  · match a with
    | ⟨0, _⟩ => rfl
    | ⟨1, _⟩ => exact hk
  · match a with
    | ⟨0, _⟩ => exact hk
    | ⟨1, _⟩ => rfl
/-- The contraction sum of rows by rows, over the one contracted coordinate. -/
theorem sum_nt (A : Mat M K) (B : Mat N K) (i : (⟨2, ![M, N]⟩ : Shape).Idx) :
    ∑ k, A ((DotDims.transposedRhs M K N).lhsIdx i k) * B ((DotDims.transposedRhs M K N).rhsIdx i k) = nt A B i := by
  rw [← Equiv.sum_comp (contrEquiv1 (DotDims.transposedRhs M K N) K rfl rfl).symm]
  refine Finset.sum_congr rfl fun k _ => ?_
  have hk := contrEquiv1_symm_val (DotDims.transposedRhs M K N) K rfl rfl k
  refine congrArg₂ (· * ·) (congrArg A (funext fun a => Fin.ext ?_)) (congrArg B (funext fun a => Fin.ext ?_))
  · match a with
    | ⟨0, _⟩ => rfl
    | ⟨1, _⟩ => exact hk
  · match a with
    | ⟨0, _⟩ => rfl
    | ⟨1, _⟩ => exact hk
/-- The contraction sum of columns by columns, over the one contracted coordinate. -/
theorem sum_tn (A : Mat K M) (B : Mat K N) (i : (⟨2, ![M, N]⟩ : Shape).Idx) :
    ∑ k, A ((tnDims M K N).lhsIdx i k) * B ((tnDims M K N).rhsIdx i k) = tn A B i := by
  rw [← Equiv.sum_comp (contrEquiv1 (tnDims M K N) K rfl rfl).symm]
  refine Finset.sum_congr rfl fun k _ => ?_
  have hk := contrEquiv1_symm_val (tnDims M K N) K rfl rfl k
  refine congrArg₂ (· * ·) (congrArg A (funext fun a => Fin.ext ?_)) (congrArg B (funext fun a => Fin.ext ?_))
  · match a with
    | ⟨0, _⟩ => exact hk
    | ⟨1, _⟩ => rfl
  · match a with
    | ⟨0, _⟩ => exact hk
    | ⟨1, _⟩ => rfl

variable {φ₁ φ₂ : FTy}

/-- The kernel's product of rows by columns into zeros. -/
theorem matmul_nn (d : DotDims ⟨2, ![M, K]⟩ ⟨2, ![K, N]⟩ ⟨2, ![M, N]⟩) (hd : d = DotDims.plain M K N) (p : Option ContractPrecision)
    (A : FVec Ideal ⟨2, ![M, K]⟩ φ₁) (B : FVec Ideal ⟨2, ![K, N]⟩ φ₂) :
    matmul d p A B (constant ⟨2, ![M, N]⟩ .f32 0x00000000#32) = nn A B := by
  subst hd; funext i; unfold matmul; rw [Ideal.matmul_constant_zero_apply]; exact sum_nn A B i
/-- The kernel's product of rows by rows into zeros. -/
theorem matmul_nt (d : DotDims ⟨2, ![M, K]⟩ ⟨2, ![N, K]⟩ ⟨2, ![M, N]⟩) (hd : d = DotDims.transposedRhs M K N)
    (p : Option ContractPrecision) (A : FVec Ideal ⟨2, ![M, K]⟩ φ₁) (B : FVec Ideal ⟨2, ![N, K]⟩ φ₂) :
    matmul d p A B (constant ⟨2, ![M, N]⟩ .f32 0x00000000#32) = nt A B := by
  subst hd; funext i; unfold matmul; rw [Ideal.matmul_constant_zero_apply]; exact sum_nt A B i
/-- The kernel's product of columns by columns into zeros. -/
theorem matmul_tn (d : DotDims ⟨2, ![K, M]⟩ ⟨2, ![K, N]⟩ ⟨2, ![M, N]⟩) (hd : d = tnDims M K N) (p : Option ContractPrecision)
    (A : FVec Ideal ⟨2, ![K, M]⟩ φ₁) (B : FVec Ideal ⟨2, ![K, N]⟩ φ₂) :
    matmul d p A B (constant ⟨2, ![M, N]⟩ .f32 0x00000000#32) = tn A B := by
  subst hd; funext i; unfold matmul; rw [Ideal.matmul_constant_zero_apply]; exact sum_tn A B i
/-- The host's product of rows by columns. -/
theorem host_nn (d : DotDims ⟨2, ![M, K]⟩ ⟨2, ![K, N]⟩ ⟨2, ![M, N]⟩) (hd : d = DotDims.plain M K N) (p : Option ContractPrecision)
    (A : FVec Ideal ⟨2, ![M, K]⟩ φ₁) (B : FVec Ideal ⟨2, ![K, N]⟩ φ₂) :
    Host.dotGeneral d p A B = nn A B := by
  subst hd; funext i; unfold Host.dotGeneral; rw [Ideal.dotGeneral_apply]; exact sum_nn A B i
/-- The host's product of rows by rows. -/
theorem host_nt (d : DotDims ⟨2, ![M, K]⟩ ⟨2, ![N, K]⟩ ⟨2, ![M, N]⟩) (hd : d = DotDims.transposedRhs M K N)
    (p : Option ContractPrecision) (A : FVec Ideal ⟨2, ![M, K]⟩ φ₁) (B : FVec Ideal ⟨2, ![N, K]⟩ φ₂) :
    Host.dotGeneral d p A B = nt A B := by
  subst hd; funext i; unfold Host.dotGeneral; rw [Ideal.dotGeneral_apply]; exact sum_nt A B i
/-- The host's product of columns by columns. -/
theorem host_tn (d : DotDims ⟨2, ![K, M]⟩ ⟨2, ![K, N]⟩ ⟨2, ![M, N]⟩) (hd : d = tnDims M K N) (p : Option ContractPrecision)
    (A : FVec Ideal ⟨2, ![K, M]⟩ φ₁) (B : FVec Ideal ⟨2, ![K, N]⟩ φ₂) :
    Host.dotGeneral d p A B = tn A B := by
  subst hd; funext i; unfold Host.dotGeneral; rw [Ideal.dotGeneral_apply]; exact sum_tn A B i

/-- A product of columns by columns, transposed, is the product with its factors exchanged. -/
theorem host_tn_transposed (d : DotDims ⟨2, ![K, N]⟩ ⟨2, ![K, M]⟩ ⟨2, ![N, M]⟩) (hd : d = tnDims N K M)
    (p : Option ContractPrecision) (B : FVec Ideal ⟨2, ![K, N]⟩ φ₁) (A : FVec Ideal ⟨2, ![K, M]⟩ φ₂)
    (h : (⟨2, ![N, M]⟩ : Shape).Transposes [1, 0] ⟨2, ![M, N]⟩) :
    transpose ⟨2, ![M, N]⟩ [1, 0] (Host.dotGeneral d p B A) h = tn A B := by
  rw [host_tn d hd]
  refine funext fun i => (transpose_apply [1, 0] _ h i (ix2 (i 1) (i 0)) fun a => ?_).trans (Finset.sum_congr rfl fun k _ => mul_comm _ _)
  match a with
  | ⟨0, _⟩ => rfl
  | ⟨1, _⟩ => rfl

/-! ## Entrywise -/

/-- The entrywise sum. -/
def plus (P Q : Mat M N) : Mat M N := fun i => P i + Q i

/-- One row, repeated in every row. -/
def ofRow (b : Mat 1 N) : Mat M N := fun i => b (ix2 0 (i 1))

/-- The columns from `o` on. -/
def cols {N' : ℕ} (o : ℕ) (h : o + N ≤ N') (A : Mat M N') : Mat M N :=
  fun i => A (ix2 (i 0) ⟨o + (i 1).val, Nat.lt_of_lt_of_le (Nat.add_lt_add_left (i 1).isLt o) h⟩)

/-- A row spread over the rows of a matrix, as the kernel prints it. -/
theorem kernel_row (b : Mat 1 N) (hN : N ≠ 1) (h : (⟨2, ![1, N]⟩ : Shape).Broadcasts ⟨2, ![M, N]⟩) :
    broadcastTo ⟨2, ![M, N]⟩ b h = ofRow b :=
  funext fun i => broadcastTo_apply b h i (ix2 0 (i 1)) fun a => match a with
    | ⟨0, _⟩ => rfl
    | ⟨1, _⟩ => (if_neg hN).symm

/-- A row spread over the rows of a matrix, as the reference prints it. -/
theorem host_row (b : Mat 1 N) (hN : N ≠ 1) (h : (⟨2, ![1, N]⟩ : Shape).BroadcastsInDim ⟨2, ![M, N]⟩ (![0, 1] : Fin 2 → Fin 2)) :
    broadcastInDim ⟨2, ![M, N]⟩ ![0, 1] h b = ofRow b :=
  funext fun i => broadcastInDim_apply _ h b i (ix2 0 (i 1)) fun a => match a with
    | ⟨0, _⟩ => rfl
    | ⟨1, _⟩ => (if_neg hN).symm

/-- A slice of columns, as the reference prints it. -/
theorem host_cols {N' : ℕ} (o : ℕ) (ho : o + N ≤ N') (A : Mat M N') (h : (⟨2, ![M, N']⟩ : Shape).Slices ![0, o] ⟨2, ![M, N]⟩) :
    extractStridedSlice ⟨2, ![M, N]⟩ ![0, o] A h = cols o ho A :=
  funext fun i => extractStridedSlice_apply _ A h i (ix2 (i 0) ⟨o + (i 1).val, _⟩) fun a => match a with
    | ⟨0, _⟩ => (Nat.zero_add _).symm
    | ⟨1, _⟩ => rfl

/-! ## Blocks -/

/-- The zero corner of a whole staging buffer. -/
theorem hz : (![0, 0] : Fin 2 → Nat) = fun _ => 0 := funext fun a => by fin_cases a <;> rfl

/-- A window's block lies inside its array. -/
theorem within {sig : RefSig} {G : Pipeline.Grid} (w : Pipeline.Window sig G) (t : Fin G.N) (a : Fin w.shape.rank) :
    w.kind.off (w.index t a) (w.size a) + w.xsize (G.coords t) a ≤ w.shape.size a :=
  Pipeline.Clip.OkAt.inb (w.hclip (G.coords t) a)

/-- A block of a matrix: the block of `bm` by `bn` whose place among such blocks is `ix`. -/
abbrev blockOf {M N bm bn : ℕ} (A : Mat M N) (ix : Fin 2 → ℕ)
    (inb : ∀ a : Fin 2, ix a * (![bm, bn] : Fin 2 → ℕ) a + (![bm, bn] : Fin 2 → ℕ) a ≤ (⟨2, ![M, N]⟩ : Shape).size a) : Mat bm bn :=
  fun j => A ((Rect.unit (s := ⟨2, ![M, N]⟩) (fun a => ix a * (![bm, bn] : Fin 2 → ℕ) a) ![bm, bn] inb).emb j)

/-- Where a rectangle of unit strides puts its index `j`: at `i`, when `i` is `j` moved by the rectangle's corner. -/
theorem emb_eq {M N bm bn : ℕ} {off : Fin 2 → ℕ}
    {inb : ∀ a : Fin 2, off a + (![bm, bn] : Fin 2 → ℕ) a ≤ (⟨2, ![M, N]⟩ : Shape).size a}
    (j : (⟨2, ![bm, bn]⟩ : Shape).Idx) (i : (⟨2, ![M, N]⟩ : Shape).Idx)
    (h0 : (i 0).val = off 0 + (j 0).val) (h1 : (i 1).val = off 1 + (j 1).val) :
    (Rect.unit (s := ⟨2, ![M, N]⟩) off ![bm, bn] inb).emb j = i :=
  funext fun a => Fin.ext (by
    rw [Rect.emb_apply]; show off a + 1 * (j a).val = _; rw [one_mul]
    match a with
    | ⟨0, _⟩ => exact h0.symm
    | ⟨1, _⟩ => exact h1.symm)

/-- The coordinates of the place a rectangle puts its index `j`. -/
theorem emb_val {M N bm bn : ℕ} {off : Fin 2 → ℕ}
    {inb : ∀ a : Fin 2, off a + (![bm, bn] : Fin 2 → ℕ) a ≤ (⟨2, ![M, N]⟩ : Shape).size a}
    (j : (⟨2, ![bm, bn]⟩ : Shape).Idx) (a : Fin 2) :
    ((Rect.unit (s := ⟨2, ![M, N]⟩) off ![bm, bn] inb).emb j a).val = off a + (j a).val := by
  rw [Rect.emb_apply]; show off a + 1 * (j a).val = _; rw [one_mul]

/-- A whole axis is its block number zero. -/
theorem whole_axis {q : ℕ} (h : q = 0) (n : ℕ) {K : ℕ} (k : Fin K) : k.val = q * n + k.val := by
  rw [h, Nat.zero_mul, Nat.zero_add]

/-- An entry of a block, as an entry of the matrix. -/
theorem block_apply {M N bm bn : ℕ} (A : Mat M N) (ix : Fin 2 → ℕ)
    (inb : ∀ a : Fin 2, ix a * (![bm, bn] : Fin 2 → ℕ) a + (![bm, bn] : Fin 2 → ℕ) a ≤ (⟨2, ![M, N]⟩ : Shape).size a)
    (r : Fin bm) (k : Fin bn) (R : Fin M) (C : Fin N) (h0 : R.val = ix 0 * bm + r.val) (h1 : C.val = ix 1 * bn + k.val) :
    blockOf A ix inb (ix2 r k) = A (ix2 R C) :=
  congrArg A (emb_eq _ _ h0 h1)

section Blocks

variable {bm bn : ℕ} {ia ib ic : Fin 2 → ℕ}
  (inc : ∀ a : Fin 2, ic a * (![bm, bn] : Fin 2 → ℕ) a + (![bm, bn] : Fin 2 → ℕ) a ≤ (⟨2, ![M, N]⟩ : Shape).size a)

/-- A block of a product of rows by columns: the block row of `A` times the block column of `B`. -/
theorem nn_block (A : Mat M K) (B : Mat K N)
    (ina : ∀ a : Fin 2, ia a * (![bm, K] : Fin 2 → ℕ) a + (![bm, K] : Fin 2 → ℕ) a ≤ (⟨2, ![M, K]⟩ : Shape).size a)
    (inb : ∀ a : Fin 2, ib a * (![K, bn] : Fin 2 → ℕ) a + (![K, bn] : Fin 2 → ℕ) a ≤ (⟨2, ![K, N]⟩ : Shape).size a)
    (ha : ia 0 = ic 0) (ha' : ia 1 = 0) (hb : ib 0 = 0) (hb' : ib 1 = ic 1) :
    nn (blockOf A ia ina) (blockOf B ib inb) = blockOf (nn A B) ic inc :=
  funext fun j => nn_congr (fun k => block_apply A ia ina _ _ _ _ ((emb_val j 0).trans (congrArg (· * bm + (j 0).val) ha.symm)) (whole_axis ha' _ k))
    (fun k => block_apply B ib inb _ _ _ _ (whole_axis hb _ k) ((emb_val j 1).trans (congrArg (· * bn + (j 1).val) hb'.symm)))

/-- A block of a product of rows by rows: the block row of `A` times the block row of `B`. -/
theorem nt_block (A : Mat M K) (B : Mat N K)
    (ina : ∀ a : Fin 2, ia a * (![bm, K] : Fin 2 → ℕ) a + (![bm, K] : Fin 2 → ℕ) a ≤ (⟨2, ![M, K]⟩ : Shape).size a)
    (inb : ∀ a : Fin 2, ib a * (![bn, K] : Fin 2 → ℕ) a + (![bn, K] : Fin 2 → ℕ) a ≤ (⟨2, ![N, K]⟩ : Shape).size a)
    (ha : ia 0 = ic 0) (ha' : ia 1 = 0) (hb : ib 0 = ic 1) (hb' : ib 1 = 0) :
    nt (blockOf A ia ina) (blockOf B ib inb) = blockOf (nt A B) ic inc :=
  funext fun j => nt_congr (fun k => block_apply A ia ina _ _ _ _ ((emb_val j 0).trans (congrArg (· * bm + (j 0).val) ha.symm)) (whole_axis ha' _ k))
    (fun k => block_apply B ib inb _ _ _ _ ((emb_val j 1).trans (congrArg (· * bn + (j 1).val) hb.symm)) (whole_axis hb' _ k))

/-- A block of a product of columns by columns: the block column of `A` times the block column of `B`. -/
theorem tn_block (A : Mat K M) (B : Mat K N)
    (ina : ∀ a : Fin 2, ia a * (![K, bm] : Fin 2 → ℕ) a + (![K, bm] : Fin 2 → ℕ) a ≤ (⟨2, ![K, M]⟩ : Shape).size a)
    (inb : ∀ a : Fin 2, ib a * (![K, bn] : Fin 2 → ℕ) a + (![K, bn] : Fin 2 → ℕ) a ≤ (⟨2, ![K, N]⟩ : Shape).size a)
    (ha : ia 0 = 0) (ha' : ia 1 = ic 0) (hb : ib 0 = 0) (hb' : ib 1 = ic 1) :
    tn (blockOf A ia ina) (blockOf B ib inb) = blockOf (tn A B) ic inc :=
  funext fun j => tn_congr (fun k => block_apply A ia ina _ _ _ _ (whole_axis ha _ k) ((emb_val j 0).trans (congrArg (· * bm + (j 0).val) ha'.symm)))
    (fun k => block_apply B ib inb _ _ _ _ (whole_axis hb _ k) ((emb_val j 1).trans (congrArg (· * bn + (j 1).val) hb'.symm)))

/-- The same block of the same matrix, its corner spelt twice. -/
theorem same_block (A : Mat M N) (ina : ∀ a : Fin 2, ia a * (![bm, bn] : Fin 2 → ℕ) a + (![bm, bn] : Fin 2 → ℕ) a ≤ (⟨2, ![M, N]⟩ : Shape).size a)
    (h0 : ia 0 = ic 0) (h1 : ia 1 = ic 1) : blockOf A ia ina = blockOf A ic inc :=
  funext fun j => congrArg A (emb_eq _ _ ((emb_val j 0).trans (congrArg (· * bm + (j 0).val) h0.symm)) ((emb_val j 1).trans (congrArg (· * bn + (j 1).val) h1.symm)))

/-- A block of the columns from `o` on of a product: the block row of `A` times the block column of `B`, `o` further right. -/
theorem nn_cols_block {N' o : ℕ} (ho : o + N ≤ N') (A : Mat M K) (B : Mat K N')
    (ina : ∀ a : Fin 2, ia a * (![bm, K] : Fin 2 → ℕ) a + (![bm, K] : Fin 2 → ℕ) a ≤ (⟨2, ![M, K]⟩ : Shape).size a)
    (inb : ∀ a : Fin 2, ib a * (![K, bn] : Fin 2 → ℕ) a + (![K, bn] : Fin 2 → ℕ) a ≤ (⟨2, ![K, N']⟩ : Shape).size a)
    (ha : ia 0 = ic 0) (ha' : ia 1 = 0) (hb : ib 0 = 0) (hb' : ib 1 * bn = o + ic 1 * bn) :
    nn (blockOf A ia ina) (blockOf B ib inb) = blockOf (cols o ho (nn A B)) ic inc :=
  funext fun j => nn_congr (fun k => block_apply A ia ina _ _ _ _ ((emb_val j 0).trans (congrArg (· * bm + (j 0).val) ha.symm)) (whole_axis ha' _ k))
    (fun k => block_apply B ib inb _ _ _ _ (whole_axis hb _ k)
      ((congrArg (o + ·) (emb_val j 1)).trans ((Nat.add_assoc _ _ _).symm.trans (congrArg (· + (j 1).val) hb'.symm))))

/-- A block of the columns from `o` on of a repeated row: the row's block, `o` further right, repeated. -/
theorem row_cols_block {N' o : ℕ} (ho : o + N ≤ N') (b : Mat 1 N')
    (inb : ∀ a : Fin 2, ib a * (![1, bn] : Fin 2 → ℕ) a + (![1, bn] : Fin 2 → ℕ) a ≤ (⟨2, ![1, N']⟩ : Shape).size a)
    (hb : ib 0 = 0) (hb' : ib 1 * bn = o + ic 1 * bn) :
    ofRow (M := bm) (blockOf b ib inb) = blockOf (cols o ho (ofRow (M := M) b)) ic inc :=
  funext fun j => block_apply b ib inb _ _ _ _ (whole_axis hb _ 0)
    ((congrArg (o + ·) (emb_val j 1)).trans ((Nat.add_assoc _ _ _).symm.trans (congrArg (· + (j 1).val) hb'.symm)))

/-- A block of a repeated row: the row's block, repeated. -/
theorem row_block (b : Mat 1 N)
    (inb : ∀ a : Fin 2, ib a * (![1, bn] : Fin 2 → ℕ) a + (![1, bn] : Fin 2 → ℕ) a ≤ (⟨2, ![1, N]⟩ : Shape).size a)
    (hb : ib 0 = 0) (hb' : ib 1 = ic 1) :
    ofRow (M := bm) (blockOf b ib inb) = blockOf (ofRow (M := M) b) ic inc :=
  funext fun j => block_apply b ib inb _ _ _ _ (whole_axis hb _ 0) ((emb_val j 1).trans (congrArg (· * bn + (j 1).val) hb'.symm))

end Blocks

end Cert.Products

end
-- ==== Proof.Gate.lean ====
/- The logistic gate, as the kernels write it (half a hyperbolic tangent of half the argument, plus a half) and as the
   references do (one over one plus an exponential): the same function on all extended reals. -/
module

public import proofs.«01_k».proof.Proof.Products
public import Idealize.ShloMosaic.Lib.IdealHost
public import Idealize.ShloMosaic.Lib.Pointwise

@[expose] public section

noncomputable section

namespace Cert.Gate

open Idealize.ShloMosaic

/-- The word of one half is one half. -/
theorem half : Ideal.ofBits .f32 0x3F000000#32 = ((1 / 2 : ℝ) : EReal) := by
  simp only [Ideal.ofBits, Ideal.ieee]; simp; rw [← EReal.coe_mul]; norm_num

/-- Over the reals the logistic function is a half plus half the tangent of half the argument. -/
theorem logistic_real (r : ℝ) : 1 / 2 * Real.tanh (1 / 2 * r) + 1 / 2 = (1 + Real.exp (-r))⁻¹ := by
  have e : Real.exp (-r) = Real.exp (-(1 / 2 * r)) * Real.exp (-(1 / 2 * r)) := by rw [← Real.exp_add]; ring_nf
  have p : Real.exp (1 / 2 * r) * Real.exp (-(1 / 2 * r)) = 1 := by rw [← Real.exp_add]; simp
  have h1 := Real.exp_pos (1 / 2 * r)
  have h2 := Real.exp_pos (-(1 / 2 * r))
  rw [Real.tanh_eq_sinh_div_cosh, Real.sinh_eq, Real.cosh_eq, e]
  generalize Real.exp (1 / 2 * r) = a at *
  generalize Real.exp (-(1 / 2 * r)) = b at *
  have h3 : a + b ≠ 0 := (add_pos h1 h2).ne'
  have h4 : 1 + b * b ≠ 0 := (add_pos one_pos (mul_pos h2 h2)).ne'
  field_simp
  linear_combination 2 * b * p

/-- And so over the extended reals: the infinities go to one and to zero. -/
theorem logistic_eq (x : EReal) :
    ((1 / 2 : ℝ) : EReal) * Ideal.tanh (((1 / 2 : ℝ) : EReal) * x) + ((1 / 2 : ℝ) : EReal) = Ideal.logistic x := by
  have h : (0 : ℝ) < 1 / 2 := by norm_num
  induction x with
  | bot =>
    rw [EReal.coe_mul_bot_of_pos h, Ideal.tanh_bot, Ideal.logistic_bot, mul_neg, mul_one, ← EReal.coe_neg, ← EReal.coe_add]
    norm_num
  | top =>
    rw [EReal.coe_mul_top_of_pos h, Ideal.tanh_top, Ideal.logistic_top, mul_one, ← EReal.coe_add]
    norm_num
  | coe r =>
    rw [← EReal.coe_mul, Ideal.tanh_coe, Ideal.logistic_coe, ← EReal.coe_mul, ← EReal.coe_add, logistic_real]

variable {s : Shape}

/-- The kernels' gate is the logistic function of each entry. -/
theorem kernel_gate (v : FVec Ideal s .f32) :
    addf (mulf (broadcast s (Scalar.ofBits .f32 0x3F000000#32)) (tanh (mulf (broadcast s (Scalar.ofBits .f32 0x3F000000#32)) v)))
      (broadcast s (Scalar.ofBits .f32 0x3F000000#32)) = fun i => Ideal.logistic (v i) := by
  funext i
  show Ideal.ofBits .f32 0x3F000000#32 * Ideal.tanh (Ideal.ofBits .f32 0x3F000000#32 * v i) + Ideal.ofBits .f32 0x3F000000#32 = _
  rw [half]; exact logistic_eq _

/-- The references' gate is the logistic function of each entry. -/
theorem host_gate {s' : Shape} (d : Fin s'.rank → Fin s.rank) (h : s'.BroadcastsInDim s d) (v : FVec Ideal s .f32) :
    Host.divf (broadcastInDim s d h (constant s' .f32 0x3F800000#32))
      (addf (broadcastInDim s d h (constant s' .f32 0x3F800000#32)) (Host.exp (Host.negf v))) = fun i => Ideal.logistic (v i) := by
  funext i
  show Ideal.div (Ideal.ofBits .f32 0x3F800000#32) (Ideal.ofBits .f32 0x3F800000#32 + Ideal.exp (-(v i))) = _
  rw [Ideal.ofBits_one_f32]; rfl

section Entrywise

variable {M N K : ℕ}

open Cert.Products

/-- The gated unit: the gate's swish times the other half. -/
def swish (g u : Mat M N) : Mat M N := fun i => g i * Ideal.logistic (g i) * u i
/-- The gated linear unit: one half times the gate of the other. -/
def glu (a b : Mat M N) : Mat M N := fun i => a i * Ideal.logistic (b i)
/-- The gradient of the gated unit in its gate. -/
def gateGrad (dact g u : Mat M N) : Mat M N :=
  fun i => dact i * u i * (Ideal.logistic (g i) * (1 + g i * (1 - Ideal.logistic (g i))))
/-- The gradient of the gated unit in its other half. -/
def upGrad (dact g : Mat M N) : Mat M N := fun i => dact i * g i * Ideal.logistic (g i)

/-- The gradient in the gate, as the kernel prints it, its gate already read as the logistic function. -/
theorem kernel_gateGrad (P g u : FVec Ideal ⟨2, ![M, N]⟩ .f32) :
    mulf (mulf P u) (mulf (fun i => Ideal.logistic (g i)) (addf (broadcast ⟨2, ![M, N]⟩ (Scalar.ofBits .f32 0x3F800000#32))
      (mulf g (subf (broadcast ⟨2, ![M, N]⟩ (Scalar.ofBits .f32 0x3F800000#32)) (fun i => Ideal.logistic (g i)))))) = gateGrad P g u := by
  funext i
  show P i * u i * (Ideal.logistic (g i) * (Ideal.ofBits .f32 0x3F800000#32 + g i * (Ideal.ofBits .f32 0x3F800000#32 - Ideal.logistic (g i)))) = _
  rw [Ideal.ofBits_one_f32]
  rfl

/-- The two spellings of the gradient in the gate agree where the incoming gradient is a real number: at an infinite gate
    both read the gradient or zero. -/
theorem gateGrad_real (a : ℝ) (g : EReal) :
    (a : EReal) * Ideal.logistic g + g * a * (Ideal.logistic g * (1 - Ideal.logistic g))
      = a * (Ideal.logistic g * (1 + g * (1 - Ideal.logistic g))) := by
  induction g using EReal.rec with
  | bot => rw [Ideal.logistic_bot]; simp
  | coe g =>
    rw [Ideal.logistic_coe]
    norm_cast
    ring
  | top =>
    rw [Ideal.logistic_top]
    have h : (1 : EReal) - 1 = 0 := by rw [← EReal.coe_one, ← EReal.coe_sub, sub_self, EReal.coe_zero]
    simp [h]

/-- Every entry is a real number. -/
def IsReal {s : Shape} (x : s.Idx → EReal) : Prop := ∀ i, ∃ r : ℝ, x i = r

/-- The gradient in the gate, as the reference prints it, where the incoming gradient is a real number. -/
theorem host_gateGrad (P g u : FVec Ideal ⟨2, ![M, N]⟩ .f32) (hP : IsReal P) (hu : IsReal u)
    (d : Fin (⟨0, ![]⟩ : Shape).rank → Fin (⟨2, ![M, N]⟩ : Shape).rank) (h : (⟨0, ![]⟩ : Shape).BroadcastsInDim ⟨2, ![M, N]⟩ d) :
    addf (mulf (mulf P u) (fun i => Ideal.logistic (g i))) (mulf (mulf g (mulf P u)) (mulf (fun i => Ideal.logistic (g i))
      (subf (broadcastInDim ⟨2, ![M, N]⟩ d h (constant ⟨0, ![]⟩ .f32 0x3F800000#32)) (fun i => Ideal.logistic (g i))))) = gateGrad P g u := by
  funext i
  show P i * u i * Ideal.logistic (g i) + g i * (P i * u i) * (Ideal.logistic (g i) * (Ideal.ofBits .f32 0x3F800000#32 - Ideal.logistic (g i))) = _
  rw [Ideal.ofBits_one_f32]
  unfold gateGrad
  obtain ⟨p, hp⟩ := hP i
  obtain ⟨q, hq⟩ := hu i
  rw [hp, hq, ← EReal.coe_mul]
  exact gateGrad_real (p * q) (g i)

/-- The gradient in the other half, as the reference prints it. -/
theorem host_upGrad (P g : FVec Ideal ⟨2, ![M, N]⟩ .f32) :
    mulf (mulf g (fun i => Ideal.logistic (g i))) P = upGrad P g :=
  funext fun i => (mul_comm (g i * Ideal.logistic (g i)) (P i)).trans (mul_assoc _ _ _).symm

/-- An entry the comparison of its magnitude with infinity passes is a real number. -/
theorem real_of_lt (s s' : Shape) (d) (h : s'.BroadcastsInDim s d) (x : FVec Ideal s .f32)
    (hx : cmpf .olt (Host.absf x) (broadcastInDim s d h (constant s' .f32 0x7F800000#32)) = fun _ => 1#1) :
    IsReal x := by
  intro i
  have e : Ideal.cmp .olt (max (x i : EReal) (-(x i : EReal))) (Ideal.ofBits .f32 0x7F800000#32) = 1#1 := congrFun hx i
  have htop : Ideal.ofBits .f32 0x7F800000#32 = ⊤ := by simp [Ideal.ofBits, Ideal.ieee]
  rw [htop] at e
  generalize x i = y at e ⊢
  induction y using EReal.rec with
  | bot => simp [Ideal.cmp] at e
  | coe r => exact ⟨r, rfl⟩
  | top => simp [Ideal.cmp] at e

/-- A rows-by-rows product of real matrices is real. -/
theorem nt_real (A : Mat M K) (B : Mat N K) (hA : IsReal A) (hB : IsReal B) : IsReal (nt A B) := by
  intro i
  refine Finset.sum_induction _ (fun x : EReal => ∃ r : ℝ, x = r) ?_ ⟨0, rfl⟩ fun k _ => ?_
  · rintro _ _ ⟨a, rfl⟩ ⟨b, rfl⟩
    exact ⟨a + b, (EReal.coe_add a b).symm⟩
  · obtain ⟨a, ha⟩ := hA (ValueIdx.ix2 (i 0) k)
    obtain ⟨b, hb⟩ := hB (ValueIdx.ix2 (i 1) k)
    exact ⟨a * b, by rw [ha, hb, EReal.coe_mul]⟩

end Entrywise

end Cert.Gate

end
-- ==== Proof.FfnDact.lean ====
/- The cotangents of the gate and up projections, through the gated unit. -/
module

public import proofs.«01_k».proof.Proof.Gen.FfnDactIdeal.Value
public import proofs.«01_k».proof.Proof.Gen.FfnDactRefIdeal.Run
public import proofs.«01_k».proof.Proof.Gate
public import proofs.«01_k».proof.Proof.Gen.Pre_finite_dact
public import proofs.«01_k».proof.Defs

@[expose] public section

set_option maxRecDepth 16384

noncomputable section

namespace Cert.FfnDactIdeal.Product

open Cert.FfnDactIdeal Cert.FfnDactIdeal.Gen Cert.Products Cert.Gate
open Idealize.ShloMosaic Idealize.ShloMosaic.TcCoe Idealize.ShloMosaic.ValueIdx Idealize.SL.Sem

variable (m : (ℓ : Loc nD τ sig) → Buf (Elt Ideal) ℓ) (c : Dev nD)

/-- The cotangent of the gate projection. -/
def dg : Mat 4096 5632 :=
  gateGrad (nt (K := 2048) (m (c.tc.loc main_arg0)) (m (c.tc.loc main_arg1))) (m (c.tc.loc main_arg2)) (m (c.tc.loc main_arg3))

/-- Which block of each operand a point reads, for output window 4. -/
theorem idx4 : ∀ t : Fin cfg0.N,
    (win0_0.index t 0 = win0_4.index t 0 ∧ win0_0.index t 1 = 0)
    ∧ (win0_1.index t 0 = win0_4.index t 1 ∧ win0_1.index t 1 = 0)
    ∧ (win0_2.index t 0 = win0_4.index t 0 ∧ win0_2.index t 1 = win0_4.index t 1)
    ∧ (win0_3.index t 0 = win0_4.index t 0 ∧ win0_3.index t 1 = win0_4.index t 1) :=
  (by decide +kernel : ∀ t : Fin grid0.N, _)

/-- What a point leaves in output window 4. -/
theorem out4_eq (x0 : Vec Ideal S1024x2048 .bf16) (x1 : Vec Ideal S512x2048 .bf16) (x2 : Vec Ideal S1024x512 .bf16) (x3 : Vec Ideal S1024x512 .bf16) :
    out0_4 x0 x1 x2 x3 = gateGrad (nt (K := 2048) x0 x1) x2 x3 := by
  unfold out0_4 k0_pay4 k0_pay3 k0_pay2 k0_pay1
  dsimp only
  rw [View.canon_unit_zero hz, View.ld_unit_zero hz, View.ld_unit_zero hz, View.ld_unit_zero hz, View.ld_unit_zero hz]
  rw [kernel_gate, matmul_nt]
  · exact kernel_gateGrad _ _ _
  all_goals rfl

/-- The array of output window 4 after the run. -/
theorem final4 : (dats m 0 c).arrAt 4 cfg0.N = dg m c := by
  refine (dats m 0 c).arrAt_eq_of_cover 4 _ (fun t _ => ?_) ((by decide +kernel : (cfg0.win 4).Covers).cover _ (Memref.isWhole_whole _))
  obtain ⟨⟨a0, a1⟩, ⟨b0, b1⟩, ⟨c0, c1⟩, ⟨d0, d1⟩⟩ := idx4 t
  rw [Value.flushed4, out4_eq]
  have h0 := nt_block (within win0_4 t) (m (c.tc.loc main_arg0)) (m (c.tc.loc main_arg1)) (within win0_0 t) (within win0_1 t)
    a0 a1 b0 b1
  have h1 := same_block (within win0_4 t) (m (c.tc.loc main_arg2)) (within win0_2 t) c0 c1
  have h2 := same_block (within win0_4 t) (m (c.tc.loc main_arg3)) (within win0_3 t) d0 d1
  exact (congrArg₂ (fun P Q : Mat 1024 512 => gateGrad P Q _) h0 h1).trans (congrArg (fun R : Mat 1024 512 => gateGrad _ _ R) h2)

/-- The cotangent of the up projection. -/
def du : Mat 4096 5632 :=
  upGrad (nt (K := 2048) (m (c.tc.loc main_arg0)) (m (c.tc.loc main_arg1))) (m (c.tc.loc main_arg2))

/-- Which block of each operand a point reads, for output window 5. -/
theorem idx5 : ∀ t : Fin cfg0.N,
    (win0_0.index t 0 = win0_5.index t 0 ∧ win0_0.index t 1 = 0)
    ∧ (win0_1.index t 0 = win0_5.index t 1 ∧ win0_1.index t 1 = 0)
    ∧ (win0_2.index t 0 = win0_5.index t 0 ∧ win0_2.index t 1 = win0_5.index t 1) :=
  (by decide +kernel : ∀ t : Fin grid0.N, _)

/-- What a point leaves in output window 5. -/
theorem out5_eq (x0 : Vec Ideal S1024x2048 .bf16) (x1 : Vec Ideal S512x2048 .bf16) (x2 : Vec Ideal S1024x512 .bf16) (x3 : Vec Ideal S1024x512 .bf16) :
    out0_5 x0 x1 x2 x3 = upGrad (nt (K := 2048) x0 x1) x2 := by
  unfold out0_5 k0_pay5 k0_pay3 k0_pay2 k0_pay1
  dsimp only
  rw [View.canon_unit_zero hz, View.ld_unit_zero hz, View.ld_unit_zero hz, View.ld_unit_zero hz]
  rw [kernel_gate, matmul_nt]
  all_goals rfl

/-- The array of output window 5 after the run. -/
theorem final5 : (dats m 0 c).arrAt 5 cfg0.N = du m c := by
  refine (dats m 0 c).arrAt_eq_of_cover 5 _ (fun t _ => ?_) ((by decide +kernel : (cfg0.win 5).Covers).cover _ (Memref.isWhole_whole _))
  obtain ⟨⟨a0, a1⟩, ⟨b0, b1⟩, ⟨c0, c1⟩⟩ := idx5 t
  rw [Value.flushed5, out5_eq]
  have h0 := nt_block (within win0_5 t) (m (c.tc.loc main_arg0)) (m (c.tc.loc main_arg1)) (within win0_0 t) (within win0_1 t)
    a0 a1 b0 b1
  have h1 := same_block (within win0_5 t) (m (c.tc.loc main_arg2)) (within win0_2 t) c0 c1
  exact congrArg₂ (fun P Q : Mat 1024 512 => upGrad P Q) h0 h1

end Cert.FfnDactIdeal.Product

namespace Cert.Proof

open Idealize.ShloMosaic Idealize.ShloMosaic.TcCoe Idealize.SL.Sem Cert.Products Cert.Gate

/-- The precondition: cotangent, down weight and up projection are real. -/
theorem real_of_finite (m : (ℓ : Loc Cert.FfnDactIdeal.nD Cert.FfnDactIdeal.τ Cert.FfnDactIdeal.sig) → Buf (Elt Ideal) ℓ)
    (h : Cert.Pre_FfnDactIdeal_finite_dact m) (c : Dev Cert.FfnDactIdeal.nD) :
    IsReal (s := ⟨2, ![4096, 2048]⟩) (m (c.tc.loc Cert.FfnDactIdeal.main_arg0))
    ∧ IsReal (s := ⟨2, ![5632, 2048]⟩) (m (c.tc.loc Cert.FfnDactIdeal.main_arg1))
    ∧ IsReal (s := ⟨2, ![4096, 5632]⟩) (m (c.tc.loc Cert.FfnDactIdeal.main_arg3)) :=
  ⟨real_of_lt _ _ _ _ _ (h c).1, real_of_lt _ _ _ _ _ (h c).2.1, real_of_lt _ _ _ _ _ (h c).2.2⟩

/-- The kernel computes what its reference does, on real cotangents, down weights and up projections. -/
theorem algebraic_dact : Cert.algebraic_FfnDactIdeal_FfnDactRefIdeal_pre_finite_dact := by
  intro m ρ m' ρ' hpre hagree
  refine ⟨fun c => Cert.FfnDactIdeal.Product.dg m c, fun c => Cert.FfnDactIdeal.Product.du m c, ?_, ?_⟩
  · refine (θ_run _ _ _).mono (fun r h c => ?_) (Cert.FfnDactIdeal.Value.run_blocks (F := Ideal) m ρ)
    exact ⟨(h c).1.trans (Cert.FfnDactIdeal.Product.final4 m c), (h c).2.1.trans (Cert.FfnDactIdeal.Product.final5 m c), (h c).2.2⟩
  · refine (θ_run _ _ _).mono (fun r h c => ?_) (Cert.FfnDactRefIdeal.Value.run (F := Ideal) m' ρ')
    obtain ⟨e0, e1, e2, e3⟩ := hagree c
    obtain ⟨f0, f1, f2⟩ := real_of_finite m hpre c
    refine ⟨(h c).1.trans ?_, (h c).2.1.trans ?_, (h c).2.2⟩ <;> clear h
    · rw [e0, e1, e2, e3]
      rw [host_gate, host_nt]
      · exact host_gateGrad _ _ _ (nt_real _ _ f0 f1) f2 _ _
      all_goals rfl
    · rw [e0, e1, e2]
      rw [host_nt, host_gate (s := ⟨2, ![4096, 5632]⟩) (s' := ⟨0, ![]⟩) ![] Cert.FfnDactRefIdeal.Gen.bcast_S_S4096x5632]
      · exact host_upGrad _ _
      all_goals rfl

/-- The reference runs, keeps its arguments and leaves no semaphore raised. -/
theorem frame_dact_ref : Cert.quiescent_FfnDactRefIdeal := fun m ρ _ =>
  (θ_run _ _ _).mono (fun r h => ⟨fun c => (h c).2.2, sem_eq_zero_of_no_sems (by decide) r.2⟩)
    (Cert.FfnDactRefIdeal.Value.run (F := Ideal) m ρ)

end Cert.Proof

end
-- ==== Proof.FfnDwd.lean ====
/- The gradient of the down weight of the gated layer. -/
module

public import proofs.«01_k».proof.Proof.Gen.FfnDwdIdeal.Value
public import proofs.«01_k».proof.Proof.Gen.FfnDwdRefIdeal.Run
public import proofs.«01_k».proof.Proof.Products
public import proofs.«01_k».proof.Defs

@[expose] public section

set_option maxRecDepth 16384

noncomputable section

namespace Cert.FfnDwdIdeal.Product

open Cert.FfnDwdIdeal Cert.FfnDwdIdeal.Gen Cert.Products
open Idealize.ShloMosaic Idealize.ShloMosaic.TcCoe Idealize.ShloMosaic.ValueIdx Idealize.SL.Sem

variable (m : (ℓ : Loc nD τ sig) → Buf (Elt Ideal) ℓ) (c : Dev nD)

/-- The gradient of the down weight: the gated unit, transposed, times the cotangent. -/
def dwd : Mat 5632 2048 :=
  (tn (K := 4096) (m (c.tc.loc main_arg0)) (m (c.tc.loc main_arg1)))

/-- Which block of each operand a point reads, for output window 2. -/
theorem idx2 : ∀ t : Fin cfg0.N,
    (win0_0.index t 0 = 0 ∧ win0_0.index t 1 = win0_2.index t 0)
    ∧ (win0_1.index t 0 = 0 ∧ win0_1.index t 1 = win0_2.index t 1) :=
  (by decide +kernel : ∀ t : Fin grid0.N, _)

/-- What a point leaves in output window 2. -/
theorem out2_eq (x0 : Vec Ideal S4096x1408 .bf16) (x1 : Vec Ideal S4096x512 .bf16) :
    out0_2 x0 x1 = (tn (K := 4096) x0 x1) := by
  unfold out0_2 k0_pay1
  dsimp only
  rw [View.canon_unit_zero hz, View.ld_unit_zero hz, View.ld_unit_zero hz]
  rw [matmul_tn]
  all_goals rfl

/-- The array of output window 2 after the run. -/
theorem final2 : (dats m 0 c).arrAt 2 cfg0.N = dwd m c := by
  refine (dats m 0 c).arrAt_eq_of_cover 2 _ (fun t _ => ?_) ((by decide +kernel : (cfg0.win 2).Covers).cover _ (Memref.isWhole_whole _))
  obtain ⟨⟨a0, a1⟩, ⟨b0, b1⟩⟩ := idx2 t
  rw [Value.flushed2, out2_eq]
  have h0 := tn_block (within win0_2 t) (m (c.tc.loc main_arg0)) (m (c.tc.loc main_arg1)) (within win0_0 t) (within win0_1 t)
    a0 a1 b0 b1
  exact h0

end Cert.FfnDwdIdeal.Product

namespace Cert.Proof

open Idealize.ShloMosaic Idealize.ShloMosaic.TcCoe Idealize.SL.Sem Cert.Products

/-- The kernel computes what its reference does. -/
theorem algebraic_dwd : Cert.algebraic_FfnDwdIdeal_FfnDwdRefIdeal := by
  intro m ρ m' ρ' _ hagree
  refine ⟨fun c => Cert.FfnDwdIdeal.Product.dwd m c, ?_, ?_⟩
  · refine (θ_run _ _ _).mono (fun r h c => ?_) (Cert.FfnDwdIdeal.Value.run_blocks (F := Ideal) m ρ)
    exact ⟨(h c).1.trans (Cert.FfnDwdIdeal.Product.final2 m c), (h c).2⟩
  · refine (θ_run _ _ _).mono (fun r h c => ?_) (Cert.FfnDwdRefIdeal.Value.run (F := Ideal) m' ρ')
    obtain ⟨e0, e1⟩ := hagree c
    refine ⟨(h c).1.trans ?_, (h c).2⟩
    rw [e0, e1]
    exact host_tn_transposed _ rfl none _ _ _

/-- The reference runs, keeps its arguments and leaves no semaphore raised. -/
theorem frame_dwd_ref : Cert.quiescent_FfnDwdRefIdeal := fun m ρ _ =>
  (θ_run _ _ _).mono (fun r h => ⟨fun c => (h c).2, sem_eq_zero_of_no_sems (by decide) r.2⟩)
    (Cert.FfnDwdRefIdeal.Value.run (F := Ideal) m ρ)

end Cert.Proof

end
-- ==== Proof.FfnDwgu.lean ====
/- The gradients of the gate and up weights of the gated layer. -/
module

public import proofs.«01_k».proof.Proof.Gen.FfnDwguIdeal.Value
public import proofs.«01_k».proof.Proof.Gen.FfnDwguRefIdeal.Run
public import proofs.«01_k».proof.Proof.Products
public import proofs.«01_k».proof.Defs

@[expose] public section

set_option maxRecDepth 16384

noncomputable section

namespace Cert.FfnDwguIdeal.Product

open Cert.FfnDwguIdeal Cert.FfnDwguIdeal.Gen Cert.Products
open Idealize.ShloMosaic Idealize.ShloMosaic.TcCoe Idealize.ShloMosaic.ValueIdx Idealize.SL.Sem

variable (m : (ℓ : Loc nD τ sig) → Buf (Elt Ideal) ℓ) (c : Dev nD)

/-- The gradient of the gate weight. -/
def dwg : Mat 2048 5632 :=
  (tn (K := 4096) (m (c.tc.loc main_arg0)) (m (c.tc.loc main_arg1)))

/-- Which block of each operand a point reads, for output window 3. -/
theorem idx3 : ∀ t : Fin cfg0.N,
    (win0_0.index t 0 = 0 ∧ win0_0.index t 1 = win0_3.index t 0)
    ∧ (win0_1.index t 0 = 0 ∧ win0_1.index t 1 = win0_3.index t 1) :=
  (by decide +kernel : ∀ t : Fin grid0.N, _)

/-- What a point leaves in output window 3. -/
theorem out3_eq (x0 : Vec Ideal S4096x1024 .bf16) (x1 : Vec Ideal S4096x512 .bf16) (x2 : Vec Ideal S4096x512 .bf16) :
    out0_3 x0 x1 x2 = (tn (K := 4096) x0 x1) := by
  unfold out0_3 k0_pay1
  dsimp only
  rw [View.canon_unit_zero hz, View.ld_unit_zero hz, View.ld_unit_zero hz]
  rw [matmul_tn]
  all_goals rfl

/-- The array of output window 3 after the run. -/
theorem final3 : (dats m 0 c).arrAt 3 cfg0.N = dwg m c := by
  refine (dats m 0 c).arrAt_eq_of_cover 3 _ (fun t _ => ?_) ((by decide +kernel : (cfg0.win 3).Covers).cover _ (Memref.isWhole_whole _))
  obtain ⟨⟨a0, a1⟩, ⟨b0, b1⟩⟩ := idx3 t
  rw [Value.flushed3, out3_eq]
  have h0 := tn_block (within win0_3 t) (m (c.tc.loc main_arg0)) (m (c.tc.loc main_arg1)) (within win0_0 t) (within win0_1 t)
    a0 a1 b0 b1
  exact h0

/-- The gradient of the up weight. -/
def dwu : Mat 2048 5632 :=
  (tn (K := 4096) (m (c.tc.loc main_arg0)) (m (c.tc.loc main_arg2)))

/-- Which block of each operand a point reads, for output window 4. -/
theorem idx4 : ∀ t : Fin cfg0.N,
    (win0_0.index t 0 = 0 ∧ win0_0.index t 1 = win0_4.index t 0)
    ∧ (win0_2.index t 0 = 0 ∧ win0_2.index t 1 = win0_4.index t 1) :=
  (by decide +kernel : ∀ t : Fin grid0.N, _)

/-- What a point leaves in output window 4. -/
theorem out4_eq (x0 : Vec Ideal S4096x1024 .bf16) (x1 : Vec Ideal S4096x512 .bf16) (x2 : Vec Ideal S4096x512 .bf16) :
    out0_4 x0 x1 x2 = (tn (K := 4096) x0 x2) := by
  unfold out0_4 k0_pay2
  dsimp only
  rw [View.canon_unit_zero hz, View.ld_unit_zero hz, View.ld_unit_zero hz]
  rw [matmul_tn]
  all_goals rfl

/-- The array of output window 4 after the run. -/
theorem final4 : (dats m 0 c).arrAt 4 cfg0.N = dwu m c := by
  refine (dats m 0 c).arrAt_eq_of_cover 4 _ (fun t _ => ?_) ((by decide +kernel : (cfg0.win 4).Covers).cover _ (Memref.isWhole_whole _))
  obtain ⟨⟨a0, a1⟩, ⟨c0, c1⟩⟩ := idx4 t
  rw [Value.flushed4, out4_eq]
  have h0 := tn_block (within win0_4 t) (m (c.tc.loc main_arg0)) (m (c.tc.loc main_arg2)) (within win0_0 t) (within win0_2 t)
    a0 a1 c0 c1
  exact h0

end Cert.FfnDwguIdeal.Product

namespace Cert.Proof

open Idealize.ShloMosaic Idealize.ShloMosaic.TcCoe Idealize.SL.Sem Cert.Products

/-- The kernel computes what its reference does. -/
theorem algebraic_dwgu : Cert.algebraic_FfnDwguIdeal_FfnDwguRefIdeal := by
  intro m ρ m' ρ' _ hagree
  refine ⟨fun c => Cert.FfnDwguIdeal.Product.dwg m c, fun c => Cert.FfnDwguIdeal.Product.dwu m c, ?_, ?_⟩
  · refine (θ_run _ _ _).mono (fun r h c => ?_) (Cert.FfnDwguIdeal.Value.run_blocks (F := Ideal) m ρ)
    exact ⟨(h c).1.trans (Cert.FfnDwguIdeal.Product.final3 m c), (h c).2.1.trans (Cert.FfnDwguIdeal.Product.final4 m c), (h c).2.2⟩
  · refine (θ_run _ _ _).mono (fun r h c => ?_) (Cert.FfnDwguRefIdeal.Value.run (F := Ideal) m' ρ')
    obtain ⟨e0, e1, e2⟩ := hagree c
    refine ⟨(h c).1.trans ?_, (h c).2.1.trans ?_, (h c).2.2⟩
    · rw [e0, e1]
      exact host_tn_transposed _ rfl none _ _ _
    · rw [e0, e2]
      exact host_tn_transposed _ rfl none _ _ _

/-- The reference runs, keeps its arguments and leaves no semaphore raised. -/
theorem frame_dwgu_ref : Cert.quiescent_FfnDwguRefIdeal := fun m ρ _ =>
  (θ_run _ _ _).mono (fun r h => ⟨fun c => (h c).2.2, sem_eq_zero_of_no_sems (by decide) r.2⟩)
    (Cert.FfnDwguRefIdeal.Value.run (F := Ideal) m ρ)

end Cert.Proof

end
-- ==== Proof.FfnDn.lean ====
/- The cotangent of the gated layer's rows, from its gate and its up projection. -/
module

public import proofs.«01_k».proof.Proof.Gen.FfnDnIdeal.Value
public import proofs.«01_k».proof.Proof.Gen.FfnDnRefIdeal.Run
public import proofs.«01_k».proof.Proof.Products
public import proofs.«01_k».proof.Defs

@[expose] public section

set_option maxRecDepth 16384

noncomputable section

namespace Cert.FfnDnIdeal.Product

open Cert.FfnDnIdeal Cert.FfnDnIdeal.Gen Cert.Products
open Idealize.ShloMosaic Idealize.ShloMosaic.TcCoe Idealize.ShloMosaic.ValueIdx Idealize.SL.Sem

variable (m : (ℓ : Loc nD τ sig) → Buf (Elt Ideal) ℓ) (c : Dev nD)

/-- The sum of the two products. -/
def dn : Mat 4096 2048 :=
  plus (nt (K := 5632) (m (c.tc.loc main_arg0)) (m (c.tc.loc main_arg2))) (nt (K := 5632) (m (c.tc.loc main_arg1)) (m (c.tc.loc main_arg3)))

/-- Which block of each operand a point reads, for output window 4. -/
theorem idx4 : ∀ t : Fin cfg0.N,
    (win0_0.index t 0 = win0_4.index t 0 ∧ win0_0.index t 1 = 0)
    ∧ (win0_1.index t 0 = win0_4.index t 0 ∧ win0_1.index t 1 = 0)
    ∧ (win0_2.index t 0 = win0_4.index t 1 ∧ win0_2.index t 1 = 0)
    ∧ (win0_3.index t 0 = win0_4.index t 1 ∧ win0_3.index t 1 = 0) :=
  (by decide +kernel : ∀ t : Fin grid0.N, _)

/-- What a point leaves in output window 4. -/
theorem out4_eq (x0 : Vec Ideal S512x5632 .bf16) (x1 : Vec Ideal S512x5632 .bf16) (x2 : Vec Ideal S256x5632 .bf16) (x3 : Vec Ideal S256x5632 .bf16) :
    out0_4 x0 x1 x2 x3 = plus (nt (K := 5632) x0 x2) (nt (K := 5632) x1 x3) := by
  unfold out0_4 k0_pay1
  dsimp only
  rw [View.canon_unit_zero hz, View.ld_unit_zero hz, View.ld_unit_zero hz, View.ld_unit_zero hz, View.ld_unit_zero hz]
  rw [matmul_nt, matmul_nt]
  all_goals rfl

/-- The array of output window 4 after the run. -/
theorem final4 : (dats m 0 c).arrAt 4 cfg0.N = dn m c := by
  refine (dats m 0 c).arrAt_eq_of_cover 4 _ (fun t _ => ?_) ((by decide +kernel : (cfg0.win 4).Covers).cover _ (Memref.isWhole_whole _))
  obtain ⟨⟨a0, a1⟩, ⟨b0, b1⟩, ⟨c0, c1⟩, ⟨d0, d1⟩⟩ := idx4 t
  rw [Value.flushed4, out4_eq]
  have h0 := nt_block (within win0_4 t) (m (c.tc.loc main_arg0)) (m (c.tc.loc main_arg2)) (within win0_0 t) (within win0_2 t)
    a0 a1 c0 c1
  have h1 := nt_block (within win0_4 t) (m (c.tc.loc main_arg1)) (m (c.tc.loc main_arg3)) (within win0_1 t) (within win0_3 t)
    b0 b1 d0 d1
  exact congrArg₂ (fun P Q : Mat 512 256 => plus P Q) h0 h1

end Cert.FfnDnIdeal.Product

namespace Cert.Proof

open Idealize.ShloMosaic Idealize.ShloMosaic.TcCoe Idealize.SL.Sem Cert.Products

/-- The kernel computes what its reference does. -/
theorem algebraic_dn : Cert.algebraic_FfnDnIdeal_FfnDnRefIdeal := by
  intro m ρ m' ρ' _ hagree
  refine ⟨fun c => Cert.FfnDnIdeal.Product.dn m c, ?_, ?_⟩
  · refine (θ_run _ _ _).mono (fun r h c => ?_) (Cert.FfnDnIdeal.Value.run_blocks (F := Ideal) m ρ)
    exact ⟨(h c).1.trans (Cert.FfnDnIdeal.Product.final4 m c), (h c).2⟩
  · refine (θ_run _ _ _).mono (fun r h c => ?_) (Cert.FfnDnRefIdeal.Value.run (F := Ideal) m' ρ')
    obtain ⟨e0, e1, e2, e3⟩ := hagree c
    refine ⟨(h c).1.trans ?_, (h c).2⟩
    rw [e0, e1, e2, e3]
    rw [host_nt, host_nt]
    · exact funext fun i => add_comm _ _
    all_goals rfl

/-- The reference runs, keeps its arguments and leaves no semaphore raised. -/
theorem frame_dn_ref : Cert.quiescent_FfnDnRefIdeal := fun m ρ _ =>
  (θ_run _ _ _).mono (fun r h => ⟨fun c => (h c).2, sem_eq_zero_of_no_sems (by decide) r.2⟩)
    (Cert.FfnDnRefIdeal.Value.run (F := Ideal) m ρ)

end Cert.Proof

end
-- ==== Proof.FfnGateUp.lean ====
/- The gate and up projections of the gated layer and its gated unit. -/
module

public import proofs.«01_k».proof.Proof.Gen.FfnGateUpIdeal.Value
public import proofs.«01_k».proof.Proof.Gen.FfnGateUpRefIdeal.Run
public import proofs.«01_k».proof.Proof.Gate
public import proofs.«01_k».proof.Defs

@[expose] public section

set_option maxRecDepth 16384

noncomputable section

namespace Cert.FfnGateUpIdeal.Product

open Cert.FfnGateUpIdeal Cert.FfnGateUpIdeal.Gen Cert.Products Cert.Gate
open Idealize.ShloMosaic Idealize.ShloMosaic.TcCoe Idealize.ShloMosaic.ValueIdx Idealize.SL.Sem

variable (m : (ℓ : Loc nD τ sig) → Buf (Elt Ideal) ℓ) (c : Dev nD)

/-- The gate projection. -/
def g : Mat 4096 5632 :=
  (nn (K := 2048) (m (c.tc.loc main_arg0)) (m (c.tc.loc main_arg1)))

/-- Which block of each operand a point reads, for output window 3. -/
theorem idx3 : ∀ t : Fin cfg0.N,
    (win0_0.index t 0 = win0_3.index t 0 ∧ win0_0.index t 1 = 0)
    ∧ (win0_1.index t 0 = 0 ∧ win0_1.index t 1 = win0_3.index t 1) :=
  (by decide +kernel : ∀ t : Fin grid0.N, _)

/-- What a point leaves in output window 3. -/
theorem out3_eq (x0 : Vec Ideal S1024x2048 .bf16) (x1 : Vec Ideal S2048x512 .bf16) (x2 : Vec Ideal S2048x512 .bf16) :
    out0_3 x0 x1 x2 = (nn (K := 2048) x0 x1) := by
  unfold out0_3 k0_pay3 k0_pay1
  dsimp only
  rw [View.canon_unit_zero hz, View.ld_unit_zero hz, View.ld_unit_zero hz]
  rw [matmul_nn]
  all_goals rfl

/-- The array of output window 3 after the run. -/
theorem final3 : (dats m 0 c).arrAt 3 cfg0.N = g m c := by
  refine (dats m 0 c).arrAt_eq_of_cover 3 _ (fun t _ => ?_) ((by decide +kernel : (cfg0.win 3).Covers).cover _ (Memref.isWhole_whole _))
  obtain ⟨⟨a0, a1⟩, ⟨b0, b1⟩⟩ := idx3 t
  rw [Value.flushed3, out3_eq]
  have h0 := nn_block (within win0_3 t) (m (c.tc.loc main_arg0)) (m (c.tc.loc main_arg1)) (within win0_0 t) (within win0_1 t)
    a0 a1 b0 b1
  exact h0

/-- The up projection. -/
def u : Mat 4096 5632 :=
  (nn (K := 2048) (m (c.tc.loc main_arg0)) (m (c.tc.loc main_arg2)))

/-- Which block of each operand a point reads, for output window 4. -/
theorem idx4 : ∀ t : Fin cfg0.N,
    (win0_0.index t 0 = win0_4.index t 0 ∧ win0_0.index t 1 = 0)
    ∧ (win0_2.index t 0 = 0 ∧ win0_2.index t 1 = win0_4.index t 1) :=
  (by decide +kernel : ∀ t : Fin grid0.N, _)

/-- What a point leaves in output window 4. -/
theorem out4_eq (x0 : Vec Ideal S1024x2048 .bf16) (x1 : Vec Ideal S2048x512 .bf16) (x2 : Vec Ideal S2048x512 .bf16) :
    out0_4 x0 x1 x2 = (nn (K := 2048) x0 x2) := by
  unfold out0_4 k0_pay4 k0_pay2
  dsimp only
  rw [View.canon_unit_zero hz, View.ld_unit_zero hz, View.ld_unit_zero hz]
  rw [matmul_nn]
  all_goals rfl

/-- The array of output window 4 after the run. -/
theorem final4 : (dats m 0 c).arrAt 4 cfg0.N = u m c := by
  refine (dats m 0 c).arrAt_eq_of_cover 4 _ (fun t _ => ?_) ((by decide +kernel : (cfg0.win 4).Covers).cover _ (Memref.isWhole_whole _))
  obtain ⟨⟨a0, a1⟩, ⟨c0, c1⟩⟩ := idx4 t
  rw [Value.flushed4, out4_eq]
  have h0 := nn_block (within win0_4 t) (m (c.tc.loc main_arg0)) (m (c.tc.loc main_arg2)) (within win0_0 t) (within win0_2 t)
    a0 a1 c0 c1
  exact h0

/-- The gated unit. -/
def act : Mat 4096 5632 :=
  swish (nn (K := 2048) (m (c.tc.loc main_arg0)) (m (c.tc.loc main_arg1))) (nn (K := 2048) (m (c.tc.loc main_arg0)) (m (c.tc.loc main_arg2)))

/-- Which block of each operand a point reads, for output window 5. -/
theorem idx5 : ∀ t : Fin cfg0.N,
    (win0_0.index t 0 = win0_5.index t 0 ∧ win0_0.index t 1 = 0)
    ∧ (win0_1.index t 0 = 0 ∧ win0_1.index t 1 = win0_5.index t 1)
    ∧ (win0_2.index t 0 = 0 ∧ win0_2.index t 1 = win0_5.index t 1) :=
  (by decide +kernel : ∀ t : Fin grid0.N, _)

/-- What a point leaves in output window 5. -/
theorem out5_eq (x0 : Vec Ideal S1024x2048 .bf16) (x1 : Vec Ideal S2048x512 .bf16) (x2 : Vec Ideal S2048x512 .bf16) :
    out0_5 x0 x1 x2 = swish (nn (K := 2048) x0 x1) (nn (K := 2048) x0 x2) := by
  unfold out0_5 k0_pay5 k0_pay2 k0_pay1
  dsimp only
  rw [View.canon_unit_zero hz, View.ld_unit_zero hz, View.ld_unit_zero hz, View.ld_unit_zero hz]
  rw [kernel_gate, matmul_nn, matmul_nn]
  all_goals rfl

/-- The array of output window 5 after the run. -/
theorem final5 : (dats m 0 c).arrAt 5 cfg0.N = act m c := by
  refine (dats m 0 c).arrAt_eq_of_cover 5 _ (fun t _ => ?_) ((by decide +kernel : (cfg0.win 5).Covers).cover _ (Memref.isWhole_whole _))
  obtain ⟨⟨a0, a1⟩, ⟨b0, b1⟩, ⟨c0, c1⟩⟩ := idx5 t
  rw [Value.flushed5, out5_eq]
  have h0 := nn_block (within win0_5 t) (m (c.tc.loc main_arg0)) (m (c.tc.loc main_arg1)) (within win0_0 t) (within win0_1 t)
    a0 a1 b0 b1
  have h1 := nn_block (within win0_5 t) (m (c.tc.loc main_arg0)) (m (c.tc.loc main_arg2)) (within win0_0 t) (within win0_2 t)
    a0 a1 c0 c1
  exact congrArg₂ (fun P Q : Mat 1024 512 => swish P Q) h0 h1

end Cert.FfnGateUpIdeal.Product

namespace Cert.Proof

open Idealize.ShloMosaic Idealize.ShloMosaic.TcCoe Idealize.SL.Sem Cert.Products Cert.Gate

/-- The kernel computes what its reference does. -/
theorem algebraic_gate_up : Cert.algebraic_FfnGateUpIdeal_FfnGateUpRefIdeal := by
  intro m ρ m' ρ' _ hagree
  refine ⟨fun c => Cert.FfnGateUpIdeal.Product.g m c, fun c => Cert.FfnGateUpIdeal.Product.u m c, fun c => Cert.FfnGateUpIdeal.Product.act m c, ?_, ?_⟩
  · refine (θ_run _ _ _).mono (fun r h c => ?_) (Cert.FfnGateUpIdeal.Value.run_blocks (F := Ideal) m ρ)
    exact ⟨(h c).1.trans (Cert.FfnGateUpIdeal.Product.final3 m c), (h c).2.1.trans (Cert.FfnGateUpIdeal.Product.final4 m c), (h c).2.2.1.trans (Cert.FfnGateUpIdeal.Product.final5 m c), (h c).2.2.2⟩
  · refine (θ_run _ _ _).mono (fun r h c => ?_) (Cert.FfnGateUpRefIdeal.Value.run (F := Ideal) m' ρ')
    obtain ⟨e0, e1, e2⟩ := hagree c
    refine ⟨(h c).1.trans ?_, (h c).2.1.trans ?_, (h c).2.2.1.trans ?_, (h c).2.2.2⟩
    · rw [e0, e1]
      rw [host_nn]
      all_goals rfl
    · rw [e0, e2]
      rw [host_nn]
      all_goals rfl
    · rw [e0, e1, e2]
      rw [host_gate, host_nn, host_nn]
      all_goals rfl

/-- The reference runs, keeps its arguments and leaves no semaphore raised. -/
theorem frame_gate_up_ref : Cert.quiescent_FfnGateUpRefIdeal := fun m ρ _ =>
  (θ_run _ _ _).mono (fun r h => ⟨fun c => (h c).2.2.2, sem_eq_zero_of_no_sems (by decide) r.2⟩)
    (Cert.FfnGateUpRefIdeal.Value.run (F := Ideal) m ρ)

end Cert.Proof

end
-- ==== Proof.FfnDown.lean ====
/- The down projection of the gated layer, added to the residual. -/
module

public import proofs.«01_k».proof.Proof.Gen.FfnDownIdeal.Value
public import proofs.«01_k».proof.Proof.Gen.FfnDownRefIdeal.Run
public import proofs.«01_k».proof.Proof.Products
public import proofs.«01_k».proof.Defs

@[expose] public section

set_option maxRecDepth 16384

noncomputable section

namespace Cert.FfnDownIdeal.Product

open Cert.FfnDownIdeal Cert.FfnDownIdeal.Gen Cert.Products
open Idealize.ShloMosaic Idealize.ShloMosaic.TcCoe Idealize.ShloMosaic.ValueIdx Idealize.SL.Sem

variable (m : (ℓ : Loc nD τ sig) → Buf (Elt Ideal) ℓ) (c : Dev nD)

/-- The residual plus the product. -/
def down : Mat 4096 2048 :=
  plus (nn (K := 5632) (m (c.tc.loc main_arg0)) (m (c.tc.loc main_arg1))) (m (c.tc.loc main_arg2))

/-- Which block of each operand a point reads, for output window 3. -/
theorem idx3 : ∀ t : Fin cfg0.N,
    (win0_0.index t 0 = win0_3.index t 0 ∧ win0_0.index t 1 = 0)
    ∧ (win0_1.index t 0 = 0 ∧ win0_1.index t 1 = win0_3.index t 1)
    ∧ (win0_2.index t 0 = win0_3.index t 0 ∧ win0_2.index t 1 = win0_3.index t 1) :=
  (by decide +kernel : ∀ t : Fin grid0.N, _)

/-- What a point leaves in output window 3. -/
theorem out3_eq (x0 : Vec Ideal S1024x5632 .bf16) (x1 : Vec Ideal S5632x512 .bf16) (x2 : Vec Ideal S1024x512 .f32) :
    out0_3 x0 x1 x2 = plus (nn (K := 5632) x0 x1) x2 := by
  unfold out0_3 k0_pay1
  dsimp only
  rw [View.canon_unit_zero hz, View.ld_unit_zero hz, View.ld_unit_zero hz, View.ld_unit_zero hz]
  rw [matmul_nn]
  all_goals rfl

/-- The array of output window 3 after the run. -/
theorem final3 : (dats m 0 c).arrAt 3 cfg0.N = down m c := by
  refine (dats m 0 c).arrAt_eq_of_cover 3 _ (fun t _ => ?_) ((by decide +kernel : (cfg0.win 3).Covers).cover _ (Memref.isWhole_whole _))
  obtain ⟨⟨a0, a1⟩, ⟨b0, b1⟩, ⟨c0, c1⟩⟩ := idx3 t
  rw [Value.flushed3, out3_eq]
  have h0 := nn_block (within win0_3 t) (m (c.tc.loc main_arg0)) (m (c.tc.loc main_arg1)) (within win0_0 t) (within win0_1 t)
    a0 a1 b0 b1
  have h1 := same_block (within win0_3 t) (m (c.tc.loc main_arg2)) (within win0_2 t) c0 c1
  exact congrArg₂ (fun P Q : Mat 1024 512 => plus P Q) h0 h1

end Cert.FfnDownIdeal.Product

namespace Cert.Proof

open Idealize.ShloMosaic Idealize.ShloMosaic.TcCoe Idealize.SL.Sem Cert.Products

/-- The kernel computes what its reference does. -/
theorem algebraic_down : Cert.algebraic_FfnDownIdeal_FfnDownRefIdeal := by
  intro m ρ m' ρ' _ hagree
  refine ⟨fun c => Cert.FfnDownIdeal.Product.down m c, ?_, ?_⟩
  · refine (θ_run _ _ _).mono (fun r h c => ?_) (Cert.FfnDownIdeal.Value.run_blocks (F := Ideal) m ρ)
    exact ⟨(h c).1.trans (Cert.FfnDownIdeal.Product.final3 m c), (h c).2⟩
  · refine (θ_run _ _ _).mono (fun r h c => ?_) (Cert.FfnDownRefIdeal.Value.run (F := Ideal) m' ρ')
    obtain ⟨e0, e1, e2⟩ := hagree c
    refine ⟨(h c).1.trans ?_, (h c).2⟩
    rw [e0, e1, e2]
    rw [host_nn]
    · exact funext fun i => add_comm _ _
    all_goals rfl

/-- The reference runs, keeps its arguments and leaves no semaphore raised. -/
theorem frame_down_ref : Cert.quiescent_FfnDownRefIdeal := fun m ρ _ =>
  (θ_run _ _ _).mono (fun r h => ⟨fun c => (h c).2, sem_eq_zero_of_no_sems (by decide) r.2⟩)
    (Cert.FfnDownRefIdeal.Value.run (F := Ideal) m ρ)

end Cert.Proof

end
-- ==== Proof.ProjDx.lean ====
/- The cotangent of a projection's rows. -/
module

public import proofs.«01_k».proof.Proof.Gen.ProjDxIdeal.Value
public import proofs.«01_k».proof.Proof.Gen.ProjDxRefIdeal.Run
public import proofs.«01_k».proof.Proof.Products
public import proofs.«01_k».proof.Defs

@[expose] public section

set_option maxRecDepth 16384

noncomputable section

namespace Cert.ProjDxIdeal.Product

open Cert.ProjDxIdeal Cert.ProjDxIdeal.Gen Cert.Products
open Idealize.ShloMosaic Idealize.ShloMosaic.TcCoe Idealize.ShloMosaic.ValueIdx Idealize.SL.Sem

variable (m : (ℓ : Loc nD τ sig) → Buf (Elt Ideal) ℓ) (c : Dev nD)

/-- The cotangent times the transposed weight. -/
def dx : Mat 4096 2048 :=
  (nt (K := 2048) (m (c.tc.loc main_arg0)) (m (c.tc.loc main_arg1)))

/-- Which block of each operand a point reads, for output window 2. -/
theorem idx2 : ∀ t : Fin cfg0.N,
    (win0_0.index t 0 = win0_2.index t 0 ∧ win0_0.index t 1 = 0)
    ∧ (win0_1.index t 0 = win0_2.index t 1 ∧ win0_1.index t 1 = 0) :=
  (by decide +kernel : ∀ t : Fin grid0.N, _)

/-- What a point leaves in output window 2. -/
theorem out2_eq (x0 : Vec Ideal S1024x2048 .bf16) (x1 : Vec Ideal S1024x2048 .bf16) :
    out0_2 x0 x1 = (nt (K := 2048) x0 x1) := by
  unfold out0_2 k0_pay1
  dsimp only
  rw [View.canon_unit_zero hz, View.ld_unit_zero hz, View.ld_unit_zero hz]
  rw [matmul_nt]
  all_goals rfl

/-- The array of output window 2 after the run. -/
theorem final2 : (dats m 0 c).arrAt 2 cfg0.N = dx m c := by
  refine (dats m 0 c).arrAt_eq_of_cover 2 _ (fun t _ => ?_) ((by decide +kernel : (cfg0.win 2).Covers).cover _ (Memref.isWhole_whole _))
  obtain ⟨⟨a0, a1⟩, ⟨b0, b1⟩⟩ := idx2 t
  rw [Value.flushed2, out2_eq]
  have h0 := nt_block (within win0_2 t) (m (c.tc.loc main_arg0)) (m (c.tc.loc main_arg1)) (within win0_0 t) (within win0_1 t)
    a0 a1 b0 b1
  exact h0

end Cert.ProjDxIdeal.Product

namespace Cert.Proof

open Idealize.ShloMosaic Idealize.ShloMosaic.TcCoe Idealize.SL.Sem Cert.Products

/-- The kernel computes what its reference does. -/
theorem algebraic_proj_dx : Cert.algebraic_ProjDxIdeal_ProjDxRefIdeal := by
  intro m ρ m' ρ' _ hagree
  refine ⟨fun c => Cert.ProjDxIdeal.Product.dx m c, ?_, ?_⟩
  · refine (θ_run _ _ _).mono (fun r h c => ?_) (Cert.ProjDxIdeal.Value.run_blocks (F := Ideal) m ρ)
    exact ⟨(h c).1.trans (Cert.ProjDxIdeal.Product.final2 m c), (h c).2⟩
  · refine (θ_run _ _ _).mono (fun r h c => ?_) (Cert.ProjDxRefIdeal.Value.run (F := Ideal) m' ρ')
    obtain ⟨e0, e1⟩ := hagree c
    refine ⟨(h c).1.trans ?_, (h c).2⟩
    rw [e0, e1]
    rw [host_nt]
    all_goals rfl

/-- The reference runs, keeps its arguments and leaves no semaphore raised. -/
theorem frame_proj_dx_ref : Cert.quiescent_ProjDxRefIdeal := fun m ρ _ =>
  (θ_run _ _ _).mono (fun r h => ⟨fun c => (h c).2, sem_eq_zero_of_no_sems (by decide) r.2⟩)
    (Cert.ProjDxRefIdeal.Value.run (F := Ideal) m ρ)

end Cert.Proof

end
-- ==== Proof.ProjDw.lean ====
/- The gradient of a projection's weight. -/
module

public import proofs.«01_k».proof.Proof.Gen.ProjDwIdeal.Value
public import proofs.«01_k».proof.Proof.Gen.ProjDwRefIdeal.Run
public import proofs.«01_k».proof.Proof.Products
public import proofs.«01_k».proof.Defs

@[expose] public section

set_option maxRecDepth 16384

noncomputable section

namespace Cert.ProjDwIdeal.Product

open Cert.ProjDwIdeal Cert.ProjDwIdeal.Gen Cert.Products
open Idealize.ShloMosaic Idealize.ShloMosaic.TcCoe Idealize.ShloMosaic.ValueIdx Idealize.SL.Sem

variable (m : (ℓ : Loc nD τ sig) → Buf (Elt Ideal) ℓ) (c : Dev nD)

/-- The transposed rows times the cotangent. -/
def dw : Mat 2048 2048 :=
  (tn (K := 4096) (m (c.tc.loc main_arg0)) (m (c.tc.loc main_arg1)))

/-- Which block of each operand a point reads, for output window 2. -/
theorem idx2 : ∀ t : Fin cfg0.N,
    (win0_0.index t 0 = 0 ∧ win0_0.index t 1 = win0_2.index t 0)
    ∧ (win0_1.index t 0 = 0 ∧ win0_1.index t 1 = win0_2.index t 1) :=
  (by decide +kernel : ∀ t : Fin grid0.N, _)

/-- What a point leaves in output window 2. -/
theorem out2_eq (x0 : Vec Ideal S4096x1024 .bf16) (x1 : Vec Ideal S4096x1024 .bf16) :
    out0_2 x0 x1 = (tn (K := 4096) x0 x1) := by
  unfold out0_2 k0_pay1
  dsimp only
  rw [View.canon_unit_zero hz, View.ld_unit_zero hz, View.ld_unit_zero hz]
  rw [matmul_tn]
  all_goals rfl

/-- The array of output window 2 after the run. -/
theorem final2 : (dats m 0 c).arrAt 2 cfg0.N = dw m c := by
  refine (dats m 0 c).arrAt_eq_of_cover 2 _ (fun t _ => ?_) ((by decide +kernel : (cfg0.win 2).Covers).cover _ (Memref.isWhole_whole _))
  obtain ⟨⟨a0, a1⟩, ⟨b0, b1⟩⟩ := idx2 t
  rw [Value.flushed2, out2_eq]
  have h0 := tn_block (within win0_2 t) (m (c.tc.loc main_arg0)) (m (c.tc.loc main_arg1)) (within win0_0 t) (within win0_1 t)
    a0 a1 b0 b1
  exact h0

end Cert.ProjDwIdeal.Product

namespace Cert.Proof

open Idealize.ShloMosaic Idealize.ShloMosaic.TcCoe Idealize.SL.Sem Cert.Products

/-- The kernel computes what its reference does. -/
theorem algebraic_proj_dw : Cert.algebraic_ProjDwIdeal_ProjDwRefIdeal := by
  intro m ρ m' ρ' _ hagree
  refine ⟨fun c => Cert.ProjDwIdeal.Product.dw m c, ?_, ?_⟩
  · refine (θ_run _ _ _).mono (fun r h c => ?_) (Cert.ProjDwIdeal.Value.run_blocks (F := Ideal) m ρ)
    exact ⟨(h c).1.trans (Cert.ProjDwIdeal.Product.final2 m c), (h c).2⟩
  · refine (θ_run _ _ _).mono (fun r h c => ?_) (Cert.ProjDwRefIdeal.Value.run (F := Ideal) m' ρ')
    obtain ⟨e0, e1⟩ := hagree c
    refine ⟨(h c).1.trans ?_, (h c).2⟩
    rw [e0, e1]
    exact host_tn_transposed _ rfl none _ _ _

/-- The reference runs, keeps its arguments and leaves no semaphore raised. -/
theorem frame_proj_dw_ref : Cert.quiescent_ProjDwRefIdeal := fun m ρ _ =>
  (θ_run _ _ _).mono (fun r h => ⟨fun c => (h c).2, sem_eq_zero_of_no_sems (by decide) r.2⟩)
    (Cert.ProjDwRefIdeal.Value.run (F := Ideal) m ρ)

end Cert.Proof

end
-- ==== Proof.KvDw.lean ====
/- The gradients of the key and value weights. -/
module

public import proofs.«01_k».proof.Proof.Gen.KvDwIdeal.Value
public import proofs.«01_k».proof.Proof.Gen.KvDwRefIdeal.Run
public import proofs.«01_k».proof.Proof.Products
public import proofs.«01_k».proof.Defs

@[expose] public section

set_option maxRecDepth 16384

noncomputable section

namespace Cert.KvDwIdeal.Product

open Cert.KvDwIdeal Cert.KvDwIdeal.Gen Cert.Products
open Idealize.ShloMosaic Idealize.ShloMosaic.TcCoe Idealize.ShloMosaic.ValueIdx Idealize.SL.Sem

variable (m : (ℓ : Loc nD τ sig) → Buf (Elt Ideal) ℓ) (c : Dev nD)

/-- The gradient of the key weight. -/
def dwk : Mat 2048 2048 :=
  (tn (K := 4096) (m (c.tc.loc main_arg0)) (m (c.tc.loc main_arg1)))

/-- Which block of each operand a point reads, for output window 3. -/
theorem idx3 : ∀ t : Fin cfg0.N,
    (win0_0.index t 0 = 0 ∧ win0_0.index t 1 = win0_3.index t 0)
    ∧ (win0_1.index t 0 = 0 ∧ win0_1.index t 1 = win0_3.index t 1) :=
  (by decide +kernel : ∀ t : Fin grid0.N, _)

/-- What a point leaves in output window 3. -/
theorem out3_eq (x0 : Vec Ideal S4096x1024 .bf16) (x1 : Vec Ideal S4096x512 .bf16) (x2 : Vec Ideal S4096x512 .bf16) :
    out0_3 x0 x1 x2 = (tn (K := 4096) x0 x1) := by
  unfold out0_3 k0_pay1
  dsimp only
  rw [View.canon_unit_zero hz, View.ld_unit_zero hz, View.ld_unit_zero hz]
  rw [matmul_tn]
  all_goals rfl

/-- The array of output window 3 after the run. -/
theorem final3 : (dats m 0 c).arrAt 3 cfg0.N = dwk m c := by
  refine (dats m 0 c).arrAt_eq_of_cover 3 _ (fun t _ => ?_) ((by decide +kernel : (cfg0.win 3).Covers).cover _ (Memref.isWhole_whole _))
  obtain ⟨⟨a0, a1⟩, ⟨b0, b1⟩⟩ := idx3 t
  rw [Value.flushed3, out3_eq]
  have h0 := tn_block (within win0_3 t) (m (c.tc.loc main_arg0)) (m (c.tc.loc main_arg1)) (within win0_0 t) (within win0_1 t)
    a0 a1 b0 b1
  exact h0

/-- The gradient of the value weight. -/
def dwv : Mat 2048 2048 :=
  (tn (K := 4096) (m (c.tc.loc main_arg0)) (m (c.tc.loc main_arg2)))

/-- Which block of each operand a point reads, for output window 4. -/
theorem idx4 : ∀ t : Fin cfg0.N,
    (win0_0.index t 0 = 0 ∧ win0_0.index t 1 = win0_4.index t 0)
    ∧ (win0_2.index t 0 = 0 ∧ win0_2.index t 1 = win0_4.index t 1) :=
  (by decide +kernel : ∀ t : Fin grid0.N, _)

/-- What a point leaves in output window 4. -/
theorem out4_eq (x0 : Vec Ideal S4096x1024 .bf16) (x1 : Vec Ideal S4096x512 .bf16) (x2 : Vec Ideal S4096x512 .bf16) :
    out0_4 x0 x1 x2 = (tn (K := 4096) x0 x2) := by
  unfold out0_4 k0_pay2
  dsimp only
  rw [View.canon_unit_zero hz, View.ld_unit_zero hz, View.ld_unit_zero hz]
  rw [matmul_tn]
  all_goals rfl

/-- The array of output window 4 after the run. -/
theorem final4 : (dats m 0 c).arrAt 4 cfg0.N = dwv m c := by
  refine (dats m 0 c).arrAt_eq_of_cover 4 _ (fun t _ => ?_) ((by decide +kernel : (cfg0.win 4).Covers).cover _ (Memref.isWhole_whole _))
  obtain ⟨⟨a0, a1⟩, ⟨c0, c1⟩⟩ := idx4 t
  rw [Value.flushed4, out4_eq]
  have h0 := tn_block (within win0_4 t) (m (c.tc.loc main_arg0)) (m (c.tc.loc main_arg2)) (within win0_0 t) (within win0_2 t)
    a0 a1 c0 c1
  exact h0

end Cert.KvDwIdeal.Product

namespace Cert.Proof

open Idealize.ShloMosaic Idealize.ShloMosaic.TcCoe Idealize.SL.Sem Cert.Products

/-- The kernel computes what its reference does. -/
theorem algebraic_kv_dw : Cert.algebraic_KvDwIdeal_KvDwRefIdeal := by
  intro m ρ m' ρ' _ hagree
  refine ⟨fun c => Cert.KvDwIdeal.Product.dwk m c, fun c => Cert.KvDwIdeal.Product.dwv m c, ?_, ?_⟩
  · refine (θ_run _ _ _).mono (fun r h c => ?_) (Cert.KvDwIdeal.Value.run_blocks (F := Ideal) m ρ)
    exact ⟨(h c).1.trans (Cert.KvDwIdeal.Product.final3 m c), (h c).2.1.trans (Cert.KvDwIdeal.Product.final4 m c), (h c).2.2⟩
  · refine (θ_run _ _ _).mono (fun r h c => ?_) (Cert.KvDwRefIdeal.Value.run (F := Ideal) m' ρ')
    obtain ⟨e0, e1, e2⟩ := hagree c
    refine ⟨(h c).1.trans ?_, (h c).2.1.trans ?_, (h c).2.2⟩
    · rw [e0, e1]
      exact host_tn_transposed _ rfl none _ _ _
    · rw [e0, e2]
      exact host_tn_transposed _ rfl none _ _ _

/-- The reference runs, keeps its arguments and leaves no semaphore raised. -/
theorem frame_kv_dw_ref : Cert.quiescent_KvDwRefIdeal := fun m ρ _ =>
  (θ_run _ _ _).mono (fun r h => ⟨fun c => (h c).2.2, sem_eq_zero_of_no_sems (by decide) r.2⟩)
    (Cert.KvDwRefIdeal.Value.run (F := Ideal) m ρ)

end Cert.Proof

end
-- ==== Proof.KvDx.lean ====
/- The cotangent of the rows the keys and values read. -/
module

public import proofs.«01_k».proof.Proof.Gen.KvDxIdeal.Value
public import proofs.«01_k».proof.Proof.Gen.KvDxRefIdeal.Run
public import proofs.«01_k».proof.Proof.Products
public import proofs.«01_k».proof.Defs

@[expose] public section

set_option maxRecDepth 16384

noncomputable section

namespace Cert.KvDxIdeal.Product

open Cert.KvDxIdeal Cert.KvDxIdeal.Gen Cert.Products
open Idealize.ShloMosaic Idealize.ShloMosaic.TcCoe Idealize.ShloMosaic.ValueIdx Idealize.SL.Sem

variable (m : (ℓ : Loc nD τ sig) → Buf (Elt Ideal) ℓ) (c : Dev nD)

/-- The sum of the two products. -/
def dx : Mat 4096 2048 :=
  plus (nt (K := 2048) (m (c.tc.loc main_arg0)) (m (c.tc.loc main_arg2))) (nt (K := 2048) (m (c.tc.loc main_arg1)) (m (c.tc.loc main_arg3)))

/-- Which block of each operand a point reads, for output window 4. -/
theorem idx4 : ∀ t : Fin cfg0.N,
    (win0_0.index t 0 = win0_4.index t 0 ∧ win0_0.index t 1 = 0)
    ∧ (win0_1.index t 0 = win0_4.index t 0 ∧ win0_1.index t 1 = 0)
    ∧ (win0_2.index t 0 = win0_4.index t 1 ∧ win0_2.index t 1 = 0)
    ∧ (win0_3.index t 0 = win0_4.index t 1 ∧ win0_3.index t 1 = 0) :=
  (by decide +kernel : ∀ t : Fin grid0.N, _)

/-- What a point leaves in output window 4. -/
theorem out4_eq (x0 : Vec Ideal S1024x2048 .bf16) (x1 : Vec Ideal S1024x2048 .bf16) (x2 : Vec Ideal S1024x2048 .bf16) (x3 : Vec Ideal S1024x2048 .bf16) :
    out0_4 x0 x1 x2 x3 = plus (nt (K := 2048) x0 x2) (nt (K := 2048) x1 x3) := by
  unfold out0_4 k0_pay1
  dsimp only
  rw [View.canon_unit_zero hz, View.ld_unit_zero hz, View.ld_unit_zero hz, View.ld_unit_zero hz, View.ld_unit_zero hz]
  rw [matmul_nt, matmul_nt]
  all_goals rfl

/-- The array of output window 4 after the run. -/
theorem final4 : (dats m 0 c).arrAt 4 cfg0.N = dx m c := by
  refine (dats m 0 c).arrAt_eq_of_cover 4 _ (fun t _ => ?_) ((by decide +kernel : (cfg0.win 4).Covers).cover _ (Memref.isWhole_whole _))
  obtain ⟨⟨a0, a1⟩, ⟨b0, b1⟩, ⟨c0, c1⟩, ⟨d0, d1⟩⟩ := idx4 t
  rw [Value.flushed4, out4_eq]
  have h0 := nt_block (within win0_4 t) (m (c.tc.loc main_arg0)) (m (c.tc.loc main_arg2)) (within win0_0 t) (within win0_2 t)
    a0 a1 c0 c1
  have h1 := nt_block (within win0_4 t) (m (c.tc.loc main_arg1)) (m (c.tc.loc main_arg3)) (within win0_1 t) (within win0_3 t)
    b0 b1 d0 d1
  exact congrArg₂ (fun P Q : Mat 1024 1024 => plus P Q) h0 h1

end Cert.KvDxIdeal.Product

namespace Cert.Proof

open Idealize.ShloMosaic Idealize.ShloMosaic.TcCoe Idealize.SL.Sem Cert.Products

/-- The kernel computes what its reference does. -/
theorem algebraic_kv_dx : Cert.algebraic_KvDxIdeal_KvDxRefIdeal := by
  intro m ρ m' ρ' _ hagree
  refine ⟨fun c => Cert.KvDxIdeal.Product.dx m c, ?_, ?_⟩
  · refine (θ_run _ _ _).mono (fun r h c => ?_) (Cert.KvDxIdeal.Value.run_blocks (F := Ideal) m ρ)
    exact ⟨(h c).1.trans (Cert.KvDxIdeal.Product.final4 m c), (h c).2⟩
  · refine (θ_run _ _ _).mono (fun r h c => ?_) (Cert.KvDxRefIdeal.Value.run (F := Ideal) m' ρ')
    obtain ⟨e0, e1, e2, e3⟩ := hagree c
    refine ⟨(h c).1.trans ?_, (h c).2⟩
    rw [e0, e1, e2, e3]
    rw [host_nt, host_nt]
    · exact funext fun i => add_comm _ _
    all_goals rfl

/-- The reference runs, keeps its arguments and leaves no semaphore raised. -/
theorem frame_kv_dx_ref : Cert.quiescent_KvDxRefIdeal := fun m ρ _ =>
  (θ_run _ _ _).mono (fun r h => ⟨fun c => (h c).2, sem_eq_zero_of_no_sems (by decide) r.2⟩)
    (Cert.KvDxRefIdeal.Value.run (F := Ideal) m ρ)

end Cert.Proof

end
-- ==== Proof.ConvTwoDx.lean ====
/- The cotangent of the rows of the convolution module's second layer. -/
module

public import proofs.«01_k».proof.Proof.Gen.ConvTwoDxIdeal.Value
public import proofs.«01_k».proof.Proof.Gen.ConvTwoDxRefIdeal.Run
public import proofs.«01_k».proof.Proof.Products
public import proofs.«01_k».proof.Defs

@[expose] public section

set_option maxRecDepth 16384

noncomputable section

namespace Cert.ConvTwoDxIdeal.Product

open Cert.ConvTwoDxIdeal Cert.ConvTwoDxIdeal.Gen Cert.Products
open Idealize.ShloMosaic Idealize.ShloMosaic.TcCoe Idealize.ShloMosaic.ValueIdx Idealize.SL.Sem

variable (m : (ℓ : Loc nD τ sig) → Buf (Elt Ideal) ℓ) (c : Dev nD)

/-- The cotangent times the transposed weight. -/
def dx : Mat 4096 2048 :=
  (nt (K := 2048) (m (c.tc.loc main_arg0)) (m (c.tc.loc main_arg1)))

/-- Which block of each operand a point reads, for output window 2. -/
theorem idx2 : ∀ t : Fin cfg0.N,
    (win0_0.index t 0 = win0_2.index t 0 ∧ win0_0.index t 1 = 0)
    ∧ (win0_1.index t 0 = win0_2.index t 1 ∧ win0_1.index t 1 = 0) :=
  (by decide +kernel : ∀ t : Fin grid0.N, _)

/-- What a point leaves in output window 2. -/
theorem out2_eq (x0 : Vec Ideal S1024x2048 .bf16) (x1 : Vec Ideal S1024x2048 .bf16) :
    out0_2 x0 x1 = (nt (K := 2048) x0 x1) := by
  unfold out0_2 k0_pay1
  dsimp only
  rw [View.canon_unit_zero hz, View.ld_unit_zero hz, View.ld_unit_zero hz]
  rw [matmul_nt]
  all_goals rfl

/-- The array of output window 2 after the run. -/
theorem final2 : (dats m 0 c).arrAt 2 cfg0.N = dx m c := by
  refine (dats m 0 c).arrAt_eq_of_cover 2 _ (fun t _ => ?_) ((by decide +kernel : (cfg0.win 2).Covers).cover _ (Memref.isWhole_whole _))
  obtain ⟨⟨a0, a1⟩, ⟨b0, b1⟩⟩ := idx2 t
  rw [Value.flushed2, out2_eq]
  have h0 := nt_block (within win0_2 t) (m (c.tc.loc main_arg0)) (m (c.tc.loc main_arg1)) (within win0_0 t) (within win0_1 t)
    a0 a1 b0 b1
  exact h0

end Cert.ConvTwoDxIdeal.Product

namespace Cert.Proof

open Idealize.ShloMosaic Idealize.ShloMosaic.TcCoe Idealize.SL.Sem Cert.Products

/-- The kernel computes what its reference does. -/
theorem algebraic_conv_two_dx : Cert.algebraic_ConvTwoDxIdeal_ConvTwoDxRefIdeal := by
  intro m ρ m' ρ' _ hagree
  refine ⟨fun c => Cert.ConvTwoDxIdeal.Product.dx m c, ?_, ?_⟩
  · refine (θ_run _ _ _).mono (fun r h c => ?_) (Cert.ConvTwoDxIdeal.Value.run_blocks (F := Ideal) m ρ)
    exact ⟨(h c).1.trans (Cert.ConvTwoDxIdeal.Product.final2 m c), (h c).2⟩
  · refine (θ_run _ _ _).mono (fun r h c => ?_) (Cert.ConvTwoDxRefIdeal.Value.run (F := Ideal) m' ρ')
    obtain ⟨e0, e1⟩ := hagree c
    refine ⟨(h c).1.trans ?_, (h c).2⟩
    rw [e0, e1]
    rw [host_nt]
    all_goals rfl

/-- The reference runs, keeps its arguments and leaves no semaphore raised. -/
theorem frame_conv_two_dx_ref : Cert.quiescent_ConvTwoDxRefIdeal := fun m ρ _ =>
  (θ_run _ _ _).mono (fun r h => ⟨fun c => (h c).2, sem_eq_zero_of_no_sems (by decide) r.2⟩)
    (Cert.ConvTwoDxRefIdeal.Value.run (F := Ideal) m ρ)

end Cert.Proof

end
-- ==== Proof.ConvOneDw.lean ====
/- The gradient of the weight of the convolution module's first layer. -/
module

public import proofs.«01_k».proof.Proof.Gen.ConvOneDwIdeal.Value
public import proofs.«01_k».proof.Proof.Gen.ConvOneDwRefIdeal.Run
public import proofs.«01_k».proof.Proof.Products
public import proofs.«01_k».proof.Defs

@[expose] public section

set_option maxRecDepth 16384

noncomputable section

namespace Cert.ConvOneDwIdeal.Product

open Cert.ConvOneDwIdeal Cert.ConvOneDwIdeal.Gen Cert.Products
open Idealize.ShloMosaic Idealize.ShloMosaic.TcCoe Idealize.ShloMosaic.ValueIdx Idealize.SL.Sem

variable (m : (ℓ : Loc nD τ sig) → Buf (Elt Ideal) ℓ) (c : Dev nD)

/-- The transposed rows times the cotangent. -/
def dw : Mat 2048 4096 :=
  (tn (K := 4096) (m (c.tc.loc main_arg0)) (m (c.tc.loc main_arg1)))

/-- Which block of each operand a point reads, for output window 2. -/
theorem idx2 : ∀ t : Fin cfg0.N,
    (win0_0.index t 0 = 0 ∧ win0_0.index t 1 = win0_2.index t 0)
    ∧ (win0_1.index t 0 = 0 ∧ win0_1.index t 1 = win0_2.index t 1) :=
  (by decide +kernel : ∀ t : Fin grid0.N, _)

/-- What a point leaves in output window 2. -/
theorem out2_eq (x0 : Vec Ideal S4096x1024 .bf16) (x1 : Vec Ideal S4096x512 .bf16) :
    out0_2 x0 x1 = (tn (K := 4096) x0 x1) := by
  unfold out0_2 k0_pay1
  dsimp only
  rw [View.canon_unit_zero hz, View.ld_unit_zero hz, View.ld_unit_zero hz]
  rw [matmul_tn]
  all_goals rfl

/-- The array of output window 2 after the run. -/
theorem final2 : (dats m 0 c).arrAt 2 cfg0.N = dw m c := by
  refine (dats m 0 c).arrAt_eq_of_cover 2 _ (fun t _ => ?_) ((by decide +kernel : (cfg0.win 2).Covers).cover _ (Memref.isWhole_whole _))
  obtain ⟨⟨a0, a1⟩, ⟨b0, b1⟩⟩ := idx2 t
  rw [Value.flushed2, out2_eq]
  have h0 := tn_block (within win0_2 t) (m (c.tc.loc main_arg0)) (m (c.tc.loc main_arg1)) (within win0_0 t) (within win0_1 t)
    a0 a1 b0 b1
  exact h0

end Cert.ConvOneDwIdeal.Product

namespace Cert.Proof

open Idealize.ShloMosaic Idealize.ShloMosaic.TcCoe Idealize.SL.Sem Cert.Products

/-- The kernel computes what its reference does. -/
theorem algebraic_conv_one_dw : Cert.algebraic_ConvOneDwIdeal_ConvOneDwRefIdeal := by
  intro m ρ m' ρ' _ hagree
  refine ⟨fun c => Cert.ConvOneDwIdeal.Product.dw m c, ?_, ?_⟩
  · refine (θ_run _ _ _).mono (fun r h c => ?_) (Cert.ConvOneDwIdeal.Value.run_blocks (F := Ideal) m ρ)
    exact ⟨(h c).1.trans (Cert.ConvOneDwIdeal.Product.final2 m c), (h c).2⟩
  · refine (θ_run _ _ _).mono (fun r h c => ?_) (Cert.ConvOneDwRefIdeal.Value.run (F := Ideal) m' ρ')
    obtain ⟨e0, e1⟩ := hagree c
    refine ⟨(h c).1.trans ?_, (h c).2⟩
    rw [e0, e1]
    exact host_tn_transposed _ rfl none _ _ _

/-- The reference runs, keeps its arguments and leaves no semaphore raised. -/
theorem frame_conv_one_dw_ref : Cert.quiescent_ConvOneDwRefIdeal := fun m ρ _ =>
  (θ_run _ _ _).mono (fun r h => ⟨fun c => (h c).2, sem_eq_zero_of_no_sems (by decide) r.2⟩)
    (Cert.ConvOneDwRefIdeal.Value.run (F := Ideal) m ρ)

end Cert.Proof

end
-- ==== Proof.ConvOneDx.lean ====
/- The cotangent of the rows of the convolution module's first layer. -/
module

public import proofs.«01_k».proof.Proof.Gen.ConvOneDxIdeal.Value
public import proofs.«01_k».proof.Proof.Gen.ConvOneDxRefIdeal.Run
public import proofs.«01_k».proof.Proof.Products
public import proofs.«01_k».proof.Defs

@[expose] public section

set_option maxRecDepth 16384

noncomputable section

namespace Cert.ConvOneDxIdeal.Product

open Cert.ConvOneDxIdeal Cert.ConvOneDxIdeal.Gen Cert.Products
open Idealize.ShloMosaic Idealize.ShloMosaic.TcCoe Idealize.ShloMosaic.ValueIdx Idealize.SL.Sem

variable (m : (ℓ : Loc nD τ sig) → Buf (Elt Ideal) ℓ) (c : Dev nD)

/-- The cotangent times the transposed weight. -/
def dx : Mat 4096 2048 :=
  (nt (K := 4096) (m (c.tc.loc main_arg0)) (m (c.tc.loc main_arg1)))

/-- Which block of each operand a point reads, for output window 2. -/
theorem idx2 : ∀ t : Fin cfg0.N,
    (win0_0.index t 0 = win0_2.index t 0 ∧ win0_0.index t 1 = 0)
    ∧ (win0_1.index t 0 = win0_2.index t 1 ∧ win0_1.index t 1 = 0) :=
  (by decide +kernel : ∀ t : Fin grid0.N, _)

/-- What a point leaves in output window 2. -/
theorem out2_eq (x0 : Vec Ideal S1024x4096 .bf16) (x1 : Vec Ideal S512x4096 .bf16) :
    out0_2 x0 x1 = (nt (K := 4096) x0 x1) := by
  unfold out0_2 k0_pay1
  dsimp only
  rw [View.canon_unit_zero hz, View.ld_unit_zero hz, View.ld_unit_zero hz]
  rw [matmul_nt]
  all_goals rfl

/-- The array of output window 2 after the run. -/
theorem final2 : (dats m 0 c).arrAt 2 cfg0.N = dx m c := by
  refine (dats m 0 c).arrAt_eq_of_cover 2 _ (fun t _ => ?_) ((by decide +kernel : (cfg0.win 2).Covers).cover _ (Memref.isWhole_whole _))
  obtain ⟨⟨a0, a1⟩, ⟨b0, b1⟩⟩ := idx2 t
  rw [Value.flushed2, out2_eq]
  have h0 := nt_block (within win0_2 t) (m (c.tc.loc main_arg0)) (m (c.tc.loc main_arg1)) (within win0_0 t) (within win0_1 t)
    a0 a1 b0 b1
  exact h0

end Cert.ConvOneDxIdeal.Product

namespace Cert.Proof

open Idealize.ShloMosaic Idealize.ShloMosaic.TcCoe Idealize.SL.Sem Cert.Products

/-- The kernel computes what its reference does. -/
theorem algebraic_conv_one_dx : Cert.algebraic_ConvOneDxIdeal_ConvOneDxRefIdeal := by
  intro m ρ m' ρ' _ hagree
  refine ⟨fun c => Cert.ConvOneDxIdeal.Product.dx m c, ?_, ?_⟩
  · refine (θ_run _ _ _).mono (fun r h c => ?_) (Cert.ConvOneDxIdeal.Value.run_blocks (F := Ideal) m ρ)
    exact ⟨(h c).1.trans (Cert.ConvOneDxIdeal.Product.final2 m c), (h c).2⟩
  · refine (θ_run _ _ _).mono (fun r h c => ?_) (Cert.ConvOneDxRefIdeal.Value.run (F := Ideal) m' ρ')
    obtain ⟨e0, e1⟩ := hagree c
    refine ⟨(h c).1.trans ?_, (h c).2⟩
    rw [e0, e1]
    rw [host_nt]
    all_goals rfl

/-- The reference runs, keeps its arguments and leaves no semaphore raised. -/
theorem frame_conv_one_dx_ref : Cert.quiescent_ConvOneDxRefIdeal := fun m ρ _ =>
  (θ_run _ _ _).mono (fun r h => ⟨fun c => (h c).2, sem_eq_zero_of_no_sems (by decide) r.2⟩)
    (Cert.ConvOneDxRefIdeal.Value.run (F := Ideal) m ρ)

end Cert.Proof

end
-- ==== Proof.QProj.lean ====
/- The query projection. -/
module

public import proofs.«01_k».proof.Proof.Gen.QProjIdeal.Value
public import proofs.«01_k».proof.Proof.Gen.QProjRefIdeal.Run
public import proofs.«01_k».proof.Proof.Products
public import proofs.«01_k».proof.Defs

@[expose] public section

set_option maxRecDepth 16384

noncomputable section

namespace Cert.QProjIdeal.Product

open Cert.QProjIdeal Cert.QProjIdeal.Gen Cert.Products
open Idealize.ShloMosaic Idealize.ShloMosaic.TcCoe Idealize.ShloMosaic.ValueIdx Idealize.SL.Sem

variable (m : (ℓ : Loc nD τ sig) → Buf (Elt Ideal) ℓ) (c : Dev nD)

/-- The rows times the query weight. -/
def q : Mat 4096 2048 :=
  (nn (K := 2048) (m (c.tc.loc main_arg0)) (m (c.tc.loc main_arg1)))

/-- Which block of each operand a point reads, for output window 2. -/
theorem idx2 : ∀ t : Fin cfg0.N,
    (win0_0.index t 0 = win0_2.index t 0 ∧ win0_0.index t 1 = 0)
    ∧ (win0_1.index t 0 = 0 ∧ win0_1.index t 1 = win0_2.index t 1) :=
  (by decide +kernel : ∀ t : Fin grid0.N, _)

/-- What a point leaves in output window 2. -/
theorem out2_eq (x0 : Vec Ideal S1024x2048 .bf16) (x1 : Vec Ideal S2048x1024 .bf16) :
    out0_2 x0 x1 = (nn (K := 2048) x0 x1) := by
  unfold out0_2 k0_pay1
  dsimp only
  rw [View.canon_unit_zero hz, View.ld_unit_zero hz, View.ld_unit_zero hz]
  rw [matmul_nn]
  all_goals rfl

/-- The array of output window 2 after the run. -/
theorem final2 : (dats m 0 c).arrAt 2 cfg0.N = q m c := by
  refine (dats m 0 c).arrAt_eq_of_cover 2 _ (fun t _ => ?_) ((by decide +kernel : (cfg0.win 2).Covers).cover _ (Memref.isWhole_whole _))
  obtain ⟨⟨a0, a1⟩, ⟨b0, b1⟩⟩ := idx2 t
  rw [Value.flushed2, out2_eq]
  have h0 := nn_block (within win0_2 t) (m (c.tc.loc main_arg0)) (m (c.tc.loc main_arg1)) (within win0_0 t) (within win0_1 t)
    a0 a1 b0 b1
  exact h0

end Cert.QProjIdeal.Product

namespace Cert.Proof

open Idealize.ShloMosaic Idealize.ShloMosaic.TcCoe Idealize.SL.Sem Cert.Products

/-- The kernel computes what its reference does. -/
theorem algebraic_q_proj : Cert.algebraic_QProjIdeal_QProjRefIdeal := by
  intro m ρ m' ρ' _ hagree
  refine ⟨fun c => Cert.QProjIdeal.Product.q m c, ?_, ?_⟩
  · refine (θ_run _ _ _).mono (fun r h c => ?_) (Cert.QProjIdeal.Value.run_blocks (F := Ideal) m ρ)
    exact ⟨(h c).1.trans (Cert.QProjIdeal.Product.final2 m c), (h c).2⟩
  · refine (θ_run _ _ _).mono (fun r h c => ?_) (Cert.QProjRefIdeal.Value.run (F := Ideal) m' ρ')
    obtain ⟨e0, e1⟩ := hagree c
    refine ⟨(h c).1.trans ?_, (h c).2⟩
    rw [e0, e1]
    rw [host_nn]
    all_goals rfl

/-- The reference runs, keeps its arguments and leaves no semaphore raised. -/
theorem frame_q_proj_ref : Cert.quiescent_QProjRefIdeal := fun m ρ _ =>
  (θ_run _ _ _).mono (fun r h => ⟨fun c => (h c).2, sem_eq_zero_of_no_sems (by decide) r.2⟩)
    (Cert.QProjRefIdeal.Value.run (F := Ideal) m ρ)

end Cert.Proof

end
-- ==== Proof.KvProj.lean ====
/- The key and value projections. -/
module

public import proofs.«01_k».proof.Proof.Gen.KvProjIdeal.Value
public import proofs.«01_k».proof.Proof.Gen.KvProjRefIdeal.Run
public import proofs.«01_k».proof.Proof.Products
public import proofs.«01_k».proof.Defs

@[expose] public section

set_option maxRecDepth 16384

noncomputable section

namespace Cert.KvProjIdeal.Product

open Cert.KvProjIdeal Cert.KvProjIdeal.Gen Cert.Products
open Idealize.ShloMosaic Idealize.ShloMosaic.TcCoe Idealize.ShloMosaic.ValueIdx Idealize.SL.Sem

variable (m : (ℓ : Loc nD τ sig) → Buf (Elt Ideal) ℓ) (c : Dev nD)

/-- The rows times the key weight. -/
def k : Mat 4096 2048 :=
  (nn (K := 2048) (m (c.tc.loc main_arg0)) (m (c.tc.loc main_arg1)))

/-- Which block of each operand a point reads, for output window 3. -/
theorem idx3 : ∀ t : Fin cfg0.N,
    (win0_0.index t 0 = win0_3.index t 0 ∧ win0_0.index t 1 = 0)
    ∧ (win0_1.index t 0 = 0 ∧ win0_1.index t 1 = win0_3.index t 1) :=
  (by decide +kernel : ∀ t : Fin grid0.N, _)

/-- What a point leaves in output window 3. -/
theorem out3_eq (x0 : Vec Ideal S1024x2048 .bf16) (x1 : Vec Ideal S2048x1024 .bf16) (x2 : Vec Ideal S2048x1024 .bf16) :
    out0_3 x0 x1 x2 = (nn (K := 2048) x0 x1) := by
  unfold out0_3 k0_pay1
  dsimp only
  rw [View.canon_unit_zero hz, View.ld_unit_zero hz, View.ld_unit_zero hz]
  rw [matmul_nn]
  all_goals rfl

/-- The array of output window 3 after the run. -/
theorem final3 : (dats m 0 c).arrAt 3 cfg0.N = k m c := by
  refine (dats m 0 c).arrAt_eq_of_cover 3 _ (fun t _ => ?_) ((by decide +kernel : (cfg0.win 3).Covers).cover _ (Memref.isWhole_whole _))
  obtain ⟨⟨a0, a1⟩, ⟨b0, b1⟩⟩ := idx3 t
  rw [Value.flushed3, out3_eq]
  have h0 := nn_block (within win0_3 t) (m (c.tc.loc main_arg0)) (m (c.tc.loc main_arg1)) (within win0_0 t) (within win0_1 t)
    a0 a1 b0 b1
  exact h0

/-- The rows times the value weight. -/
def v : Mat 4096 2048 :=
  (nn (K := 2048) (m (c.tc.loc main_arg0)) (m (c.tc.loc main_arg2)))

/-- Which block of each operand a point reads, for output window 4. -/
theorem idx4 : ∀ t : Fin cfg0.N,
    (win0_0.index t 0 = win0_4.index t 0 ∧ win0_0.index t 1 = 0)
    ∧ (win0_2.index t 0 = 0 ∧ win0_2.index t 1 = win0_4.index t 1) :=
  (by decide +kernel : ∀ t : Fin grid0.N, _)

/-- What a point leaves in output window 4. -/
theorem out4_eq (x0 : Vec Ideal S1024x2048 .bf16) (x1 : Vec Ideal S2048x1024 .bf16) (x2 : Vec Ideal S2048x1024 .bf16) :
    out0_4 x0 x1 x2 = (nn (K := 2048) x0 x2) := by
  unfold out0_4 k0_pay2
  dsimp only
  rw [View.canon_unit_zero hz, View.ld_unit_zero hz, View.ld_unit_zero hz]
  rw [matmul_nn]
  all_goals rfl

/-- The array of output window 4 after the run. -/
theorem final4 : (dats m 0 c).arrAt 4 cfg0.N = v m c := by
  refine (dats m 0 c).arrAt_eq_of_cover 4 _ (fun t _ => ?_) ((by decide +kernel : (cfg0.win 4).Covers).cover _ (Memref.isWhole_whole _))
  obtain ⟨⟨a0, a1⟩, ⟨c0, c1⟩⟩ := idx4 t
  rw [Value.flushed4, out4_eq]
  have h0 := nn_block (within win0_4 t) (m (c.tc.loc main_arg0)) (m (c.tc.loc main_arg2)) (within win0_0 t) (within win0_2 t)
    a0 a1 c0 c1
  exact h0

end Cert.KvProjIdeal.Product

namespace Cert.Proof

open Idealize.ShloMosaic Idealize.ShloMosaic.TcCoe Idealize.SL.Sem Cert.Products

/-- The kernel computes what its reference does. -/
theorem algebraic_kv_proj : Cert.algebraic_KvProjIdeal_KvProjRefIdeal := by
  intro m ρ m' ρ' _ hagree
  refine ⟨fun c => Cert.KvProjIdeal.Product.k m c, fun c => Cert.KvProjIdeal.Product.v m c, ?_, ?_⟩
  · refine (θ_run _ _ _).mono (fun r h c => ?_) (Cert.KvProjIdeal.Value.run_blocks (F := Ideal) m ρ)
    exact ⟨(h c).1.trans (Cert.KvProjIdeal.Product.final3 m c), (h c).2.1.trans (Cert.KvProjIdeal.Product.final4 m c), (h c).2.2⟩
  · refine (θ_run _ _ _).mono (fun r h c => ?_) (Cert.KvProjRefIdeal.Value.run (F := Ideal) m' ρ')
    obtain ⟨e0, e1, e2⟩ := hagree c
    refine ⟨(h c).1.trans ?_, (h c).2.1.trans ?_, (h c).2.2⟩
    · rw [e0, e1]
      rw [host_nn]
      all_goals rfl
    · rw [e0, e2]
      rw [host_nn]
      all_goals rfl

/-- The reference runs, keeps its arguments and leaves no semaphore raised. -/
theorem frame_kv_proj_ref : Cert.quiescent_KvProjRefIdeal := fun m ρ _ =>
  (θ_run _ _ _).mono (fun r h => ⟨fun c => (h c).2.2, sem_eq_zero_of_no_sems (by decide) r.2⟩)
    (Cert.KvProjRefIdeal.Value.run (F := Ideal) m ρ)

end Cert.Proof

end
-- ==== Proof.OProj.lean ====
/- The output projection of the attention, added to the residual. -/
module

public import proofs.«01_k».proof.Proof.Gen.OProjIdeal.Value
public import proofs.«01_k».proof.Proof.Gen.OProjRefIdeal.Run
public import proofs.«01_k».proof.Proof.Products
public import proofs.«01_k».proof.Defs

@[expose] public section

set_option maxRecDepth 16384

noncomputable section

namespace Cert.OProjIdeal.Product

open Cert.OProjIdeal Cert.OProjIdeal.Gen Cert.Products
open Idealize.ShloMosaic Idealize.ShloMosaic.TcCoe Idealize.ShloMosaic.ValueIdx Idealize.SL.Sem

variable (m : (ℓ : Loc nD τ sig) → Buf (Elt Ideal) ℓ) (c : Dev nD)

/-- The residual plus the product. -/
def o : Mat 4096 2048 :=
  plus (nn (K := 2048) (m (c.tc.loc main_arg0)) (m (c.tc.loc main_arg1))) (m (c.tc.loc main_arg2))

/-- Which block of each operand a point reads, for output window 3. -/
theorem idx3 : ∀ t : Fin cfg0.N,
    (win0_0.index t 0 = win0_3.index t 0 ∧ win0_0.index t 1 = 0)
    ∧ (win0_1.index t 0 = 0 ∧ win0_1.index t 1 = win0_3.index t 1)
    ∧ (win0_2.index t 0 = win0_3.index t 0 ∧ win0_2.index t 1 = win0_3.index t 1) :=
  (by decide +kernel : ∀ t : Fin grid0.N, _)

/-- What a point leaves in output window 3. -/
theorem out3_eq (x0 : Vec Ideal S1024x2048 .bf16) (x1 : Vec Ideal S2048x1024 .bf16) (x2 : Vec Ideal S1024x1024 .f32) :
    out0_3 x0 x1 x2 = plus (nn (K := 2048) x0 x1) x2 := by
  unfold out0_3 k0_pay1
  dsimp only
  rw [View.canon_unit_zero hz, View.ld_unit_zero hz, View.ld_unit_zero hz, View.ld_unit_zero hz]
  rw [matmul_nn]
  all_goals rfl

/-- The array of output window 3 after the run. -/
theorem final3 : (dats m 0 c).arrAt 3 cfg0.N = o m c := by
  refine (dats m 0 c).arrAt_eq_of_cover 3 _ (fun t _ => ?_) ((by decide +kernel : (cfg0.win 3).Covers).cover _ (Memref.isWhole_whole _))
  obtain ⟨⟨a0, a1⟩, ⟨b0, b1⟩, ⟨c0, c1⟩⟩ := idx3 t
  rw [Value.flushed3, out3_eq]
  have h0 := nn_block (within win0_3 t) (m (c.tc.loc main_arg0)) (m (c.tc.loc main_arg1)) (within win0_0 t) (within win0_1 t)
    a0 a1 b0 b1
  have h1 := same_block (within win0_3 t) (m (c.tc.loc main_arg2)) (within win0_2 t) c0 c1
  exact congrArg₂ (fun P Q : Mat 1024 1024 => plus P Q) h0 h1

end Cert.OProjIdeal.Product

namespace Cert.Proof

open Idealize.ShloMosaic Idealize.ShloMosaic.TcCoe Idealize.SL.Sem Cert.Products

/-- The kernel computes what its reference does. -/
theorem algebraic_o_proj : Cert.algebraic_OProjIdeal_OProjRefIdeal := by
  intro m ρ m' ρ' _ hagree
  refine ⟨fun c => Cert.OProjIdeal.Product.o m c, ?_, ?_⟩
  · refine (θ_run _ _ _).mono (fun r h c => ?_) (Cert.OProjIdeal.Value.run_blocks (F := Ideal) m ρ)
    exact ⟨(h c).1.trans (Cert.OProjIdeal.Product.final3 m c), (h c).2⟩
  · refine (θ_run _ _ _).mono (fun r h c => ?_) (Cert.OProjRefIdeal.Value.run (F := Ideal) m' ρ')
    obtain ⟨e0, e1, e2⟩ := hagree c
    refine ⟨(h c).1.trans ?_, (h c).2⟩
    rw [e0, e1, e2]
    rw [host_nn]
    · exact funext fun i => add_comm _ _
    all_goals rfl

/-- The reference runs, keeps its arguments and leaves no semaphore raised. -/
theorem frame_o_proj_ref : Cert.quiescent_OProjRefIdeal := fun m ρ _ =>
  (θ_run _ _ _).mono (fun r h => ⟨fun c => (h c).2, sem_eq_zero_of_no_sems (by decide) r.2⟩)
    (Cert.OProjRefIdeal.Value.run (F := Ideal) m ρ)

end Cert.Proof

end
-- ==== Proof.ConvOne.lean ====
/- The first layer of the convolution module and its gated linear unit. The kernel reads the two halves of the weight and of
   the bias as separate blocks; the reference computes the whole layer and slices it. -/
module

public import proofs.«01_k».proof.Proof.Gen.ConvOneIdeal.Value
public import proofs.«01_k».proof.Proof.Gen.ConvOneRefIdeal.Run
public import proofs.«01_k».proof.Proof.Gate
public import proofs.«01_k».proof.Defs

@[expose] public section

set_option maxRecDepth 16384

noncomputable section

namespace Cert.ConvOneIdeal.Product

open Cert.ConvOneIdeal Cert.ConvOneIdeal.Gen Cert.Products Cert.Gate
open Idealize.ShloMosaic Idealize.ShloMosaic.TcCoe Idealize.ShloMosaic.ValueIdx Idealize.SL.Sem

variable (m : (ℓ : Loc nD τ sig) → Buf (Elt Ideal) ℓ) (c : Dev nD)

/-- The columns of the layer from `o` on: the product, the bias added to every row. -/
def part (o : ℕ) (ho : o + 2048 ≤ 4096) : Mat 4096 2048 :=
  plus (cols o ho (nn (K := 2048) (m (c.tc.loc main_arg0)) (m (c.tc.loc main_arg1)))) (cols o ho (ofRow (m (c.tc.loc main_arg2))))
/-- The half the gate multiplies. -/
def value : Mat 4096 2048 := part m c 0 (by decide)
/-- The half the gate is read from. -/
def gate : Mat 4096 2048 := part m c 2048 (by decide)

/-- Which block of each operand a point reads, for output window 6. -/
theorem idx6 : ∀ t : Fin cfg0.N,
    (win0_0.index t 0 = win0_6.index t 0 ∧ win0_0.index t 1 = 0)
    ∧ (win0_1.index t 0 = 0 ∧ win0_1.index t 1 * 512 = 0 + win0_6.index t 1 * 512)
    ∧ (win0_3.index t 0 = 0 ∧ win0_3.index t 1 * 512 = 0 + win0_6.index t 1 * 512) :=
  (by decide +kernel : ∀ t : Fin grid0.N, _)

/-- Which block of each operand a point reads, for output window 7. -/
theorem idx7 : ∀ t : Fin cfg0.N,
    (win0_0.index t 0 = win0_7.index t 0 ∧ win0_0.index t 1 = 0)
    ∧ (win0_2.index t 0 = 0 ∧ win0_2.index t 1 * 512 = 2048 + win0_7.index t 1 * 512)
    ∧ (win0_4.index t 0 = 0 ∧ win0_4.index t 1 * 512 = 2048 + win0_7.index t 1 * 512) :=
  (by decide +kernel : ∀ t : Fin grid0.N, _)

/-- The three output windows lie alike. -/
theorem idx5 : ∀ t : Fin cfg0.N, (win0_6.index t 0 = win0_5.index t 0 ∧ win0_6.index t 1 = win0_5.index t 1)
    ∧ (win0_7.index t 0 = win0_5.index t 0 ∧ win0_7.index t 1 = win0_5.index t 1) :=
  (by decide +kernel : ∀ t : Fin grid0.N, _)

/-- What a point leaves in output window 6. -/
theorem out6_eq (x0 : Vec Ideal S1024x2048 .bf16) (x1 : Vec Ideal S2048x512 .bf16) (x2 : Vec Ideal S2048x512 .bf16)
    (x3 : Vec Ideal S1x512 .f32) (x4 : Vec Ideal S1x512 .f32) :
    out0_6 x0 x1 x2 x3 x4 = plus (nn (K := 2048) x0 x1) (ofRow x3) := by
  unfold out0_6 k0_pay4 k0_pay1
  dsimp only
  rw [View.canon_unit_zero hz, View.ld_unit_zero hz, View.ld_unit_zero hz, View.ld_unit_zero hz]
  rw [matmul_nn, kernel_row _ (by decide)]
  all_goals rfl

/-- What a point leaves in output window 7. -/
theorem out7_eq (x0 : Vec Ideal S1024x2048 .bf16) (x1 : Vec Ideal S2048x512 .bf16) (x2 : Vec Ideal S2048x512 .bf16)
    (x3 : Vec Ideal S1x512 .f32) (x4 : Vec Ideal S1x512 .f32) :
    out0_7 x0 x1 x2 x3 x4 = plus (nn (K := 2048) x0 x2) (ofRow x4) := by
  unfold out0_7 k0_pay5 k0_pay2
  dsimp only
  rw [View.canon_unit_zero hz, View.ld_unit_zero hz, View.ld_unit_zero hz, View.ld_unit_zero hz]
  rw [matmul_nn, kernel_row _ (by decide)]
  all_goals rfl

/-- What a point leaves in output window 5: the gated linear unit of what it leaves in the other two. -/
theorem out5_eq (x0 : Vec Ideal S1024x2048 .bf16) (x1 : Vec Ideal S2048x512 .bf16) (x2 : Vec Ideal S2048x512 .bf16)
    (x3 : Vec Ideal S1x512 .f32) (x4 : Vec Ideal S1x512 .f32) :
    out0_5 x0 x1 x2 x3 x4 = glu (M := 1024) (N := 512) (out0_6 x0 x1 x2 x3 x4) (out0_7 x0 x1 x2 x3 x4) := by
  rw [out6_eq, out7_eq]
  unfold out0_5 k0_pay3 k0_pay2 k0_pay1
  dsimp only
  rw [View.canon_unit_zero hz, View.ld_unit_zero hz, View.ld_unit_zero hz, View.ld_unit_zero hz, View.ld_unit_zero hz,
    View.ld_unit_zero hz]
  rw [kernel_gate, matmul_nn, matmul_nn, kernel_row _ (by decide), kernel_row _ (by decide)]
  all_goals rfl

/-- The block of output window 6 at a point. -/
theorem block6 (t : Fin cfg0.N) : out0_6 (iblk m c 0 t) (iblk m c 1 t) (iblk m c 2 t) (iblk m c 3 t) (iblk m c 4 t)
    = blockOf (value m c) (win0_6.index t) (within win0_6 t) := by
  obtain ⟨⟨a0, a1⟩, ⟨b0, b1⟩, d0, d1⟩ := idx6 t
  rw [out6_eq]
  exact congrArg₂ (fun P Q : Mat 1024 512 => plus P Q)
    (nn_cols_block (within win0_6 t) (by decide) (m (c.tc.loc main_arg0)) (m (c.tc.loc main_arg1)) (within win0_0 t) (within win0_1 t) a0 a1 b0 b1)
    (row_cols_block (within win0_6 t) (by decide) (m (c.tc.loc main_arg2)) (within win0_3 t) d0 d1)

/-- The block of output window 7 at a point. -/
theorem block7 (t : Fin cfg0.N) : out0_7 (iblk m c 0 t) (iblk m c 1 t) (iblk m c 2 t) (iblk m c 3 t) (iblk m c 4 t)
    = blockOf (gate m c) (win0_7.index t) (within win0_7 t) := by
  obtain ⟨⟨a0, a1⟩, ⟨b0, b1⟩, d0, d1⟩ := idx7 t
  rw [out7_eq]
  exact congrArg₂ (fun P Q : Mat 1024 512 => plus P Q)
    (nn_cols_block (within win0_7 t) (by decide) (m (c.tc.loc main_arg0)) (m (c.tc.loc main_arg1)) (within win0_0 t) (within win0_2 t) a0 a1 b0 b1)
    (row_cols_block (within win0_7 t) (by decide) (m (c.tc.loc main_arg2)) (within win0_4 t) d0 d1)

/-- The array of output window 6 after the run. -/
theorem final6 : (dats m 0 c).arrAt 6 cfg0.N = value m c := by
  refine (dats m 0 c).arrAt_eq_of_cover 6 _ (fun t _ => ?_) ((by decide +kernel : (cfg0.win 6).Covers).cover _ (Memref.isWhole_whole _))
  rw [Value.flushed6, block6]
  rfl

/-- The array of output window 7 after the run. -/
theorem final7 : (dats m 0 c).arrAt 7 cfg0.N = gate m c := by
  refine (dats m 0 c).arrAt_eq_of_cover 7 _ (fun t _ => ?_) ((by decide +kernel : (cfg0.win 7).Covers).cover _ (Memref.isWhole_whole _))
  rw [Value.flushed7, block7]
  rfl

/-- The array of output window 5 after the run. -/
theorem final5 : (dats m 0 c).arrAt 5 cfg0.N = glu (value m c) (gate m c) := by
  refine (dats m 0 c).arrAt_eq_of_cover 5 _ (fun t _ => ?_) ((by decide +kernel : (cfg0.win 5).Covers).cover _ (Memref.isWhole_whole _))
  obtain ⟨⟨a0, a1⟩, b0, b1⟩ := idx5 t
  rw [Value.flushed5, out5_eq, block6, block7]
  exact congrArg₂ (fun P Q : Mat 1024 512 => glu P Q) (same_block (within win0_5 t) (value m c) (within win0_6 t) a0 a1)
    (same_block (within win0_5 t) (gate m c) (within win0_7 t) b0 b1)

end Cert.ConvOneIdeal.Product

namespace Cert.Proof

open Idealize.ShloMosaic Idealize.ShloMosaic.TcCoe Idealize.SL.Sem Cert.Products Cert.Gate

/-- The kernel computes what its reference does. -/
theorem algebraic_conv_one : Cert.algebraic_ConvOneIdeal_ConvOneRefIdeal := by
  intro m ρ m' ρ' _ hagree
  refine ⟨fun c => glu (Cert.ConvOneIdeal.Product.value m c) (Cert.ConvOneIdeal.Product.gate m c),
    fun c => Cert.ConvOneIdeal.Product.value m c, fun c => Cert.ConvOneIdeal.Product.gate m c, ?_, ?_⟩
  · refine (θ_run _ _ _).mono (fun r h c => ?_) (Cert.ConvOneIdeal.Value.run_blocks (F := Ideal) m ρ)
    exact ⟨(h c).1.trans (Cert.ConvOneIdeal.Product.final5 m c), (h c).2.1.trans (Cert.ConvOneIdeal.Product.final6 m c),
      (h c).2.2.1.trans (Cert.ConvOneIdeal.Product.final7 m c), (h c).2.2.2⟩
  · refine (θ_run _ _ _).mono (fun r h c => ?_) (Cert.ConvOneRefIdeal.Value.run (F := Ideal) m' ρ')
    obtain ⟨e0, e1, e2⟩ := hagree c
    refine ⟨(h c).1.trans ?_, (h c).2.1.trans ?_, (h c).2.2.1.trans ?_, (h c).2.2.2⟩
    · rw [e0, e1, e2, host_gate, host_nn, host_row _ (by decide), host_cols 0 (by decide), host_cols 2048 (by decide)]
      all_goals rfl
    · rw [e0, e1, e2, host_nn, host_row _ (by decide), host_cols 0 (by decide)]
      all_goals rfl
    · rw [e0, e1, e2, host_nn, host_row _ (by decide), host_cols 2048 (by decide)]
      all_goals rfl

/-- The reference runs, keeps its arguments and leaves no semaphore raised. -/
theorem frame_conv_one_ref : Cert.quiescent_ConvOneRefIdeal := fun m ρ _ =>
  (θ_run _ _ _).mono (fun r h => ⟨fun c => (h c).2.2.2, sem_eq_zero_of_no_sems (by decide) r.2⟩)
    (Cert.ConvOneRefIdeal.Value.run (F := Ideal) m ρ)

end Cert.Proof

end
-- ==== Proof.ConvTwo.lean ====
/- The second layer of the convolution module, its bias and the residual added. -/
module

public import proofs.«01_k».proof.Proof.Gen.ConvTwoIdeal.Value
public import proofs.«01_k».proof.Proof.Gen.ConvTwoRefIdeal.Run
public import proofs.«01_k».proof.Proof.Products
public import proofs.«01_k».proof.Defs

@[expose] public section

set_option maxRecDepth 16384

noncomputable section

namespace Cert.ConvTwoIdeal.Product

open Cert.ConvTwoIdeal Cert.ConvTwoIdeal.Gen Cert.Products
open Idealize.ShloMosaic Idealize.ShloMosaic.TcCoe Idealize.ShloMosaic.ValueIdx Idealize.SL.Sem

variable (m : (ℓ : Loc nD τ sig) → Buf (Elt Ideal) ℓ) (c : Dev nD)

/-- The product, the bias added to every row, and the residual. -/
def out : Mat 4096 2048 :=
  plus (plus (nn (K := 2048) (m (c.tc.loc main_arg0)) (m (c.tc.loc main_arg1))) (ofRow (m (c.tc.loc main_arg2)))) (m (c.tc.loc main_arg3))

/-- Which block of each operand a point reads, for output window 4. -/
theorem idx4 : ∀ t : Fin cfg0.N,
    (win0_0.index t 0 = win0_4.index t 0 ∧ win0_0.index t 1 = 0)
    ∧ (win0_1.index t 0 = 0 ∧ win0_1.index t 1 = win0_4.index t 1)
    ∧ (win0_2.index t 0 = 0 ∧ win0_2.index t 1 = win0_4.index t 1)
    ∧ (win0_3.index t 0 = win0_4.index t 0 ∧ win0_3.index t 1 = win0_4.index t 1) :=
  (by decide +kernel : ∀ t : Fin grid0.N, _)

/-- What a point leaves in output window 4. -/
theorem out4_eq (x0 : Vec Ideal S1024x2048 .bf16) (x1 : Vec Ideal S2048x1024 .bf16) (x2 : Vec Ideal S1x1024 .f32) (x3 : Vec Ideal S1024x1024 .f32) :
    out0_4 x0 x1 x2 x3 = plus (plus (nn (K := 2048) x0 x1) (ofRow x2)) x3 := by
  unfold out0_4 k0_pay1
  dsimp only
  rw [View.canon_unit_zero hz, View.ld_unit_zero hz, View.ld_unit_zero hz, View.ld_unit_zero hz, View.ld_unit_zero hz]
  rw [matmul_nn, kernel_row _ (by decide)]
  all_goals rfl

/-- The array of output window 4 after the run. -/
theorem final4 : (dats m 0 c).arrAt 4 cfg0.N = out m c := by
  refine (dats m 0 c).arrAt_eq_of_cover 4 _ (fun t _ => ?_) ((by decide +kernel : (cfg0.win 4).Covers).cover _ (Memref.isWhole_whole _))
  obtain ⟨⟨a0, a1⟩, ⟨b0, b1⟩, ⟨c0, c1⟩, ⟨d0, d1⟩⟩ := idx4 t
  rw [Value.flushed4, out4_eq]
  have h0 := nn_block (within win0_4 t) (m (c.tc.loc main_arg0)) (m (c.tc.loc main_arg1)) (within win0_0 t) (within win0_1 t)
    a0 a1 b0 b1
  have h1 := row_block (within win0_4 t) (m (c.tc.loc main_arg2)) (within win0_2 t) c0 c1
  have h2 := same_block (within win0_4 t) (m (c.tc.loc main_arg3)) (within win0_3 t) d0 d1
  exact (congrArg₂ (fun P Q : Mat 1024 1024 => plus (plus P Q) _) h0 h1).trans (congrArg (fun R : Mat 1024 1024 => plus (plus _ _) R) h2)

end Cert.ConvTwoIdeal.Product

namespace Cert.Proof

open Idealize.ShloMosaic Idealize.ShloMosaic.TcCoe Idealize.SL.Sem Cert.Products

/-- The kernel computes what its reference does. -/
theorem algebraic_conv_two : Cert.algebraic_ConvTwoIdeal_ConvTwoRefIdeal := by
  intro m ρ m' ρ' _ hagree
  refine ⟨fun c => Cert.ConvTwoIdeal.Product.out m c, ?_, ?_⟩
  · refine (θ_run _ _ _).mono (fun r h c => ?_) (Cert.ConvTwoIdeal.Value.run_blocks (F := Ideal) m ρ)
    exact ⟨(h c).1.trans (Cert.ConvTwoIdeal.Product.final4 m c), (h c).2⟩
  · refine (θ_run _ _ _).mono (fun r h c => ?_) (Cert.ConvTwoRefIdeal.Value.run (F := Ideal) m' ρ')
    obtain ⟨e0, e1, e2, e3⟩ := hagree c
    refine ⟨(h c).1.trans ?_, (h c).2⟩
    rw [e0, e1, e2, e3]
    rw [host_nn, host_row _ (by decide)]
    · exact funext fun i => add_comm _ _
    all_goals rfl

/-- The reference runs, keeps its arguments and leaves no semaphore raised. -/
theorem frame_conv_two_ref : Cert.quiescent_ConvTwoRefIdeal := fun m ρ _ =>
  (θ_run _ _ _).mono (fun r h => ⟨fun c => (h c).2, sem_eq_zero_of_no_sems (by decide) r.2⟩)
    (Cert.ConvTwoRefIdeal.Value.run (F := Ideal) m ρ)

end Cert.Proof

end
-- ==== Proof.Norms.lean ====
/- The root mean square norm of the rows of a matrix and its gradient, as functions of whole matrices over the extended
   reals: the kernels' and the references' spellings read as them, and the sum over a column added up block by block. -/
module

public import proofs.«01_k».proof.Proof.Products
public import proofs.«01_k».proof.Proof.Gate

@[expose] public section

noncomputable section

namespace Cert.Norms

open Idealize.ShloMosaic hiding ix1 ix2
open Idealize.ShloMosaic.ValueIdx Cert.Products Cert.Gate
open scoped BigOperators

variable {M N M' : ℕ}

/-- A row's mean square and the small constant. -/
def meanSq (x : Mat M N) (i : Fin M) : EReal :=
  Ideal.div (∑ q : Fin N, x (ix2 i q) * x (ix2 i q)) (Ideal.ofBits .f32 0x45000000#32) + Ideal.ofBits .f32 0x358637BD#32
/-- One over the root of a row's mean square. -/
def rms (x : Mat M N) (i : Fin M) : EReal := Ideal.rsqrt (meanSq x i)
/-- Every row over the root of its mean square. -/
def normed (x : Mat M N) : Mat M N := fun i => x i * rms x (i 0)
/-- The entrywise product. -/
def times (x y : Mat M N) : Mat M N := fun i => x i * y i
/-- The gradient of the norm, from its input and the gradient of its output. -/
def normGrad (x y : Mat M N) : Mat M N := fun i =>
  rms x (i 0) * (y i - normed x i * Ideal.div (∑ q : Fin N, y (ix2 (i 0) q) * normed x (ix2 (i 0) q)) (Ideal.ofBits .f32 0x45000000#32))
/-- The sum of every column. -/
def colSum (A : Mat M N) : Mat 1 N := fun i => ∑ k : Fin M, A (ix2 k (i 1))

/-! ## Constants -/

/-- The word of 2048. -/
theorem w2048 : Ideal.ofBits .f32 0x45000000#32 = ((2048 : ℝ) : EReal) := by
  simp only [Ideal.ofBits, Ideal.ieee]; simp; rw [← EReal.coe_mul]; norm_num
/-- The word of minus one half. -/
theorem wNegHalf : Ideal.ofBits .f32 0xBF000000#32 = ((-(1 / 2) : ℝ) : EReal) := by
  simp only [Ideal.ofBits, Ideal.ieee]; simp; rw [← EReal.coe_mul]; norm_num
/-- The small constant is a positive real number. -/
theorem wEps : ∃ e : ℝ, 0 < e ∧ Ideal.ofBits .f32 0x358637BD#32 = (e : EReal) := by
  refine ⟨8796093 * 2 ^ (-43 : ℤ), by positivity, ?_⟩
  simp only [Ideal.ofBits, Ideal.ieee]; simp

/-! ## Extended real numbers -/

/-- A sum of real numbers is a real number. -/
theorem sum_coe {n : ℕ} (f : Fin n → ℝ) : ∑ q, (f q : EReal) = ((∑ q, f q : ℝ) : EReal) := by
  induction n with
  | zero => simp
  | succ n ih => rw [Fin.sum_univ_castSucc, Fin.sum_univ_castSucc, ih, EReal.coe_add]

/-- A sum times a number that is neither negative nor infinite. -/
theorem sum_scale {n : ℕ} (f : Fin n → EReal) (r : ℝ) (h : 0 ≤ r) : (∑ q, f q) * (r : EReal) = ∑ q, f q * (r : EReal) :=
  map_sum ({ toFun := fun z => z * (r : EReal), map_zero' := zero_mul _,
             map_add' := EReal.right_distrib_of_nonneg_of_ne_top (EReal.coe_nonneg.2 h) (EReal.coe_ne_top r) } : EReal →+ EReal) f Finset.univ

/-- Twice a number. -/
theorem double (b : EReal) : b + b = ((2 : ℝ) : EReal) * b := by
  have h : ((2 : ℝ) : EReal) = 1 + 1 := by rw [← EReal.coe_one, ← EReal.coe_add]; norm_num
  rw [h, EReal.right_distrib_of_nonneg zero_le_one zero_le_one, one_mul]

/-! ## The gradient of the norm -/

/-- On a real row the mean square is positive and the reciprocal root is positive and squares to its reciprocal. -/
theorem rms_real (x : Mat M N) (i : Fin M) (a : Fin N → ℝ) (hx : ∀ q, x (ix2 i q) = a q) :
    ∃ r v : ℝ, 0 < v ∧ 0 < r ∧ r * r * v = 1 ∧ meanSq x i = v ∧ rms x i = r := by
  obtain ⟨e, he, hw⟩ := wEps
  have hs : 0 ≤ ∑ q, a q * a q := Finset.sum_nonneg fun q _ => mul_self_nonneg _
  have hm : meanSq x i = (((∑ q, a q * a q) * (1 / 2048) + e : ℝ) : EReal) := by
    unfold meanSq
    rw [w2048, hw, Ideal.div_coe (by norm_num : (2048 : ℝ) ≠ 0)]
    simp only [hx, ← EReal.coe_mul, sum_coe, ← EReal.coe_add]
  have hv : 0 < (∑ q, a q * a q) * (1 / 2048) + e := by positivity
  refine ⟨(Real.sqrt ((∑ q, a q * a q) * (1 / 2048) + e))⁻¹, _, hv, inv_pos.2 (Real.sqrt_pos.2 hv), ?_, hm, ?_⟩
  · rw [← mul_inv, Real.mul_self_sqrt hv.le, inv_mul_cancel₀ hv.ne']
  · unfold rms
    rw [hm, Ideal.rsqrt_coe, if_neg (not_lt.2 hv.le), if_neg hv.ne']

/-- A square is not negative. -/
theorem square_nonneg (z : EReal) : 0 ≤ z * z := by
  induction z using EReal.rec with
  | bot => simp
  | coe r => rw [← EReal.coe_mul]; exact EReal.coe_nonneg.2 (mul_self_nonneg r)
  | top => simp

/-- A row is real, or its mean square is infinite. -/
theorem row_cases (x : Mat M N) (i : Fin M) : (∃ a : Fin N → ℝ, ∀ q, x (ix2 i q) = a q) ∨ meanSq x i = ⊤ := by
  by_cases h : ∀ q, ∃ r : ℝ, x (ix2 i q) = r
  · exact .inl ⟨fun q => (h q).choose, fun q => (h q).choose_spec⟩
  · refine .inr ?_
    obtain ⟨q, hq⟩ := not_forall.1 h
    have ht : x (ix2 i q) * x (ix2 i q) = ⊤ := by
      generalize x (ix2 i q) = z at hq
      induction z using EReal.rec with
      | bot => simp
      | coe r => exact absurd ⟨r, rfl⟩ hq
      | top => simp
    have hsum : ∑ q, x (ix2 i q) * x (ix2 i q) = ⊤ :=
      top_le_iff.1 (ht ▸ Finset.single_le_sum (f := fun q => x (ix2 i q) * x (ix2 i q)) (fun q _ => square_nonneg _) (Finset.mem_univ q))
    obtain ⟨e, _, hw⟩ := wEps
    unfold meanSq
    rw [hsum, w2048, hw, Ideal.div_coe (by norm_num : (2048 : ℝ) ≠ 0), EReal.top_mul_coe_of_pos (by norm_num), EReal.top_add_coe]

/-- The gradient of the norm in the reference's spelling: a row with an infinite entry has gradient zero in both. -/
theorem normGrad_eq (x y : Mat M N) (i : (⟨2, ![M, N]⟩ : Shape).Idx) :
    (let C : EReal := Ideal.div ((∑ q : Fin N, x (ix2 (i 0) q) * y (ix2 (i 0) q))
        * (Ideal.ofBits .f32 0xBF000000#32 * Ideal.div (rms x (i 0)) (meanSq x (i 0)))) (Ideal.ofBits .f32 0x45000000#32)
     y i * rms x (i 0) + x i * C + C * x i) = normGrad x y i := by
  rcases row_cases x (i 0) with ⟨a, ha⟩ | ht
  · obtain ⟨r, v, hv, hr, hrv, h1, h2⟩ := rms_real x (i 0) a ha
    have h2' : ∀ q : Fin N, rms x ((ix2 (i 0) q : (⟨2, ![M, N]⟩ : Shape).Idx) 0) = r := fun _ => h2
    have hi : x i = a (i 1) := (congrArg x (show i = ix2 (i 0) (i 1) by funext k; fin_cases k <;> rfl)).trans (ha (i 1))
    have hT : ∑ q : Fin N, y (ix2 (i 0) q) * (x (ix2 (i 0) q) * r) = (∑ q : Fin N, x (ix2 (i 0) q) * y (ix2 (i 0) q)) * r := by
      rw [sum_scale _ _ hr.le]
      exact Finset.sum_congr rfl fun q _ => by rw [mul_left_comm, mul_assoc]
    have hk : 1 / v = r * r := by rw [eq_comm, eq_div_iff hv.ne']; exact hrv
    unfold normGrad normed
    simp only [h1, h2, h2', hT, w2048, wNegHalf, hi]
    generalize ∑ q : Fin N, x (ix2 (i 0) q) * y (ix2 (i 0) q) = S
    rw [Ideal.div_coe hv.ne', Ideal.div_coe (by norm_num : (2048 : ℝ) ≠ 0), Ideal.div_coe (by norm_num : (2048 : ℝ) ≠ 0), hk,
      sub_eq_add_neg, EReal.left_distrib_of_nonneg_of_ne_top (EReal.coe_nonneg.2 hr.le) (EReal.coe_ne_top r), add_assoc,
      mul_comm (a (i 1) : EReal) (_ * _), double]
    refine congrArg₂ (· + ·) (mul_comm _ _) ?_
    have hL : ((2 : ℝ) : EReal) * (S * (((-(1 / 2) : ℝ) : EReal) * ((r : EReal) * ((r * r : ℝ) : EReal))) * ((1 / 2048 : ℝ) : EReal) * (a (i 1) : EReal))
        = S * ((2 * (-(1 / 2) * (r * (r * r))) * (1 / 2048) * a (i 1) : ℝ) : EReal) := by
      simp only [EReal.coe_mul]; ac_rfl
    have hR : (r : EReal) * -((a (i 1) : EReal) * (r : EReal) * (S * (r : EReal) * ((1 / 2048 : ℝ) : EReal)))
        = S * ((-(r * a (i 1) * r * r * (1 / 2048)) : ℝ) : EReal) := by
      rw [mul_neg, EReal.coe_neg, mul_neg]
      refine congrArg _ ?_
      simp only [EReal.coe_mul]; ac_rfl
    rw [hL, hR]
    refine congrArg (fun z : ℝ => S * (z : EReal)) ?_
    ring
  · have hr : rms x (i 0) = 0 := by unfold rms; rw [ht]; rfl
    have hd : Ideal.div 0 ⊤ = 0 := by simp [Ideal.div]
    unfold normGrad
    simp only [ht, hr, hd, w2048, mul_zero, zero_mul, add_zero, Ideal.div_coe (by norm_num : (2048 : ℝ) ≠ 0)]

/-! ## The printed operations -/

/-- A column spread over the columns of a matrix, as the kernels print it. -/
theorem kernel_col (v : Mat M 1) (h : (⟨2, ![M, 1]⟩ : Shape).Broadcasts ⟨2, ![M, N]⟩) :
    broadcastTo ⟨2, ![M, N]⟩ v h = fun i => v (ix2 (i 0) 0) :=
  funext fun i => broadcastTo_apply v h i (ix2 (i 0) 0) fun a => match a with
    | ⟨0, _⟩ => by
      show (i 0).val = if M = 1 then 0 else (i 0).val
      split
      · next e => have := (i 0).isLt; exact Nat.lt_one_iff.1 (e ▸ this)
      · rfl
    | ⟨1, _⟩ => rfl
/-- The same, as the references print it. -/
theorem host_col (v : Mat M 1) (h : (⟨2, ![M, 1]⟩ : Shape).BroadcastsInDim ⟨2, ![M, N]⟩ (![0, 1] : Fin 2 → Fin 2)) :
    broadcastInDim ⟨2, ![M, N]⟩ ![0, 1] h v = fun i => v (ix2 (i 0) 0) :=
  funext fun i => broadcastInDim_apply _ h v i (ix2 (i 0) 0) fun a => match a with
    | ⟨0, _⟩ => by
      show (i 0).val = if M = 1 then 0 else (i 0).val
      split
      · next e => have := (i 0).isLt; exact Nat.lt_one_iff.1 (e ▸ this)
      · rfl
    | ⟨1, _⟩ => rfl

/-- A vector of row values spread over `K` columns, as the references print it. -/
theorem host_spread {K : ℕ} (v : (⟨1, ![M]⟩ : Shape).Idx → EReal) (h : (⟨1, ![M]⟩ : Shape).BroadcastsInDim ⟨2, ![M, K]⟩ (![0] : Fin 1 → Fin 2)) :
    broadcastInDim ⟨2, ![M, K]⟩ ![0] h v = fun i => v (ix1 (i 0)) :=
  funext fun i => broadcastInDim_apply _ h v i (ix1 (i 0)) fun a => match a with
    | ⟨0, _⟩ => by
      show (i 0).val = if M = 1 then 0 else (i 0).val
      split
      · next e => have := (i 0).isLt; exact Nat.lt_one_iff.1 (e ▸ this)
      · rfl

/-- A vector of row values as a column. -/
theorem cast_col (v : (⟨1, ![M]⟩ : Shape).Idx → EReal) (h : (⟨1, ![M]⟩ : Shape).ShapeCasts ⟨2, ![M, 1]⟩) :
    shapeCast ⟨2, ![M, 1]⟩ v h = fun i => v (ix1 (i 0)) :=
  funext fun i => shapeCast_apply v h i (ix1 (i 0)) (by
    rw [Shape.rowMajor_val_one, Shape.rowMajor_val_two]
    show (i 0).val = (i 0).val * 1 + (i 1).val
    have h1 : (i 1).val < 1 := (i 1).isLt
    omega)
/-- A vector of column values as a row. -/
theorem cast_row (v : (⟨1, ![N]⟩ : Shape).Idx → EReal) (h : (⟨1, ![N]⟩ : Shape).ShapeCasts ⟨2, ![1, N]⟩) :
    shapeCast ⟨2, ![1, N]⟩ v h = fun i => v (ix1 (i 1)) :=
  funext fun i => (shapeCast_addUnit_apply ![N] v h i).trans (congrArg v (funext fun b => by fin_cases b; rfl))
/-- The same, as a broadcast. -/
theorem host_row1 (v : (⟨1, ![N]⟩ : Shape).Idx → EReal) (hN : N ≠ 1) (h : (⟨1, ![N]⟩ : Shape).BroadcastsInDim ⟨2, ![M, N]⟩ (![1] : Fin 1 → Fin 2)) :
    broadcastInDim ⟨2, ![M, N]⟩ ![1] h v = fun i => v (ix1 (i 1)) :=
  funext fun i => broadcastInDim_apply _ h v i (ix1 (i 1)) fun a => match a with
    | ⟨0, _⟩ => (if_neg hN).symm

/-- The kernels' sum of every row. -/
theorem kernel_rowSum (v : FVec Ideal ⟨2, ![M, N]⟩ .f32) (h : (⟨2, ![M, N]⟩ : Shape).Reduces [1] ⟨1, ![M]⟩) (h1) (h2 : (0x00000000#32 : BitVec 32) = 0x00000000#32) (hc) :
    shapeCast ⟨2, ![M, 1]⟩ (multiReduction .add [1] ⟨1, ![M]⟩ v 0x00000000#32 h h1 h2) hc = fun i => ∑ q : Fin N, v (ix2 (i 0) q) := by
  rw [cast_col]; funext i
  simp only [pointwise, Ideal.reduceAdd_def]; rfl
/-- The kernels' sum of every column. -/
theorem kernel_colSum (v : FVec Ideal ⟨2, ![M, N]⟩ .f32) (h : (⟨2, ![M, N]⟩ : Shape).Reduces [0] ⟨1, ![N]⟩) (h1) (h2 : (0x00000000#32 : BitVec 32) = 0x00000000#32) (hc) :
    shapeCast ⟨2, ![1, N]⟩ (multiReduction .add [0] ⟨1, ![N]⟩ v 0x00000000#32 h h1 h2) hc = colSum v := by
  rw [cast_row]; funext i
  simp only [pointwise, Ideal.reduceAdd_def]; rfl
/-- The references' sum of a row. -/
theorem host_rowSum (v : FVec Ideal ⟨2, ![M, N]⟩ .f32) (h : (⟨2, ![M, N]⟩ : Shape).ReducesTo [1] ⟨1, ![M]⟩) (hu) :
    Host.reduceAdd v (constant ⟨0, ![]⟩ .f32 0x00000000#32) h hu = fun i => ∑ q : Fin N, v (ix2 (i 0) q) := by
  funext i
  simp only [pointwise, Ideal.hostReduceAdd_def]
  exact zero_add _
/-- The references' sum of a column. -/
theorem host_colSum (v : FVec Ideal ⟨2, ![M, N]⟩ .f32) (h : (⟨2, ![M, N]⟩ : Shape).ReducesTo [0] ⟨1, ![N]⟩) (hu) :
    Host.reduceAdd v (constant ⟨0, ![]⟩ .f32 0x00000000#32) h hu = fun i => ∑ k : Fin M, v (ix2 k (i 0)) := by
  funext i
  simp only [pointwise, Ideal.hostReduceAdd_def]
  exact zero_add _

/-! ## The norm as it is printed -/

/-- One over the root of every row's mean square, as the kernels print it. -/
theorem kernel_rms (x : FVec Ideal ⟨2, ![M, N]⟩ .f32) (h : (⟨2, ![M, N]⟩ : Shape).Reduces [1] ⟨1, ![M]⟩) (h1) (h2 : (0x00000000#32 : BitVec 32) = 0x00000000#32) (hc) :
    rsqrt (addf (divf (shapeCast ⟨2, ![M, 1]⟩ (multiReduction .add [1] ⟨1, ![M]⟩ (mulf x x) 0x00000000#32 h h1 h2) hc)
      (broadcast ⟨2, ![M, 1]⟩ (Scalar.ofBits .f32 0x45000000#32))) (broadcast ⟨2, ![M, 1]⟩ (Scalar.ofBits .f32 0x358637BD#32)))
      = fun i => rms x (i 0) := by
  rw [kernel_rowSum]; rfl
/-- The normed rows, as the kernels print them. -/
theorem kernel_normed (x : FVec Ideal ⟨2, ![M, N]⟩ .f32) (hb : (⟨2, ![M, 1]⟩ : Shape).Broadcasts ⟨2, ![M, N]⟩) :
    mulf x (broadcastTo ⟨2, ![M, N]⟩ (fun i => rms x (i 0) : Mat M 1) hb) = normed x := by
  rw [kernel_col]; rfl
/-- The gradient of the norm, as the kernels print it. -/
theorem kernel_normGrad (x y : FVec Ideal ⟨2, ![M, N]⟩ .f32) (hb : (⟨2, ![M, 1]⟩ : Shape).Broadcasts ⟨2, ![M, N]⟩)
    (h : (⟨2, ![M, N]⟩ : Shape).Reduces [1] ⟨1, ![M]⟩) (h1) (h2 : (0x00000000#32 : BitVec 32) = 0x00000000#32) (hc) :
    mulf (broadcastTo ⟨2, ![M, N]⟩ (fun i => rms x (i 0) : FVec Ideal ⟨2, ![M, 1]⟩ .f32) hb)
      (subf y (mulf (normed x : FVec Ideal ⟨2, ![M, N]⟩ .f32) (broadcastTo ⟨2, ![M, N]⟩ (divf (shapeCast ⟨2, ![M, 1]⟩
        (multiReduction .add [1] ⟨1, ![M]⟩ (mulf y (normed x : FVec Ideal ⟨2, ![M, N]⟩ .f32)) 0x00000000#32 h h1 h2) hc)
        (broadcast ⟨2, ![M, 1]⟩ (Scalar.ofBits .f32 0x45000000#32))) hb))) = normGrad x y := by
  rw [kernel_rowSum, kernel_col, kernel_col]; rfl

/-- A number spread over a matrix, as the references print it. -/
theorem host_const {s s' : Shape} (d : Fin s'.rank → Fin s.rank) (h : s'.BroadcastsInDim s d) (w : BitVec 32) :
    broadcastInDim s d h (constant (F := Ideal) s' .f32 w) = fun _ => Ideal.ofBits .f32 w := rfl
/-- Every row's mean square, as the references print it. -/
theorem host_meanSq (x : FVec Ideal ⟨2, ![M, N]⟩ .f32) (h : (⟨2, ![M, N]⟩ : Shape).ReducesTo [1] ⟨1, ![M]⟩) (hu)
    (hs : (⟨1, ![M]⟩ : Shape).BroadcastsInDim ⟨2, ![M, 1]⟩ (![0] : Fin 1 → Fin 2))
    (d : Fin (⟨0, ![]⟩ : Shape).rank → Fin (⟨2, ![M, 1]⟩ : Shape).rank) (hd : (⟨0, ![]⟩ : Shape).BroadcastsInDim ⟨2, ![M, 1]⟩ d) :
    addf (Host.divf (broadcastInDim ⟨2, ![M, 1]⟩ ![0] hs (Host.reduceAdd (mulf x x) (constant ⟨0, ![]⟩ .f32 0x00000000#32) h hu))
      (broadcastInDim ⟨2, ![M, 1]⟩ d hd (constant ⟨0, ![]⟩ .f32 0x45000000#32)))
      (broadcastInDim ⟨2, ![M, 1]⟩ d hd (constant ⟨0, ![]⟩ .f32 0x358637BD#32)) = fun i => meanSq x (i 0) := by
  rw [host_rowSum, host_spread]; rfl
/-- The normed rows, as the references print them. -/
theorem host_normed (x : FVec Ideal ⟨2, ![M, N]⟩ .f32) (hb : (⟨2, ![M, 1]⟩ : Shape).BroadcastsInDim ⟨2, ![M, N]⟩ (![0, 1] : Fin 2 → Fin 2)) :
    mulf x (broadcastInDim ⟨2, ![M, N]⟩ ![0, 1] hb (Host.rsqrt (fun i => meanSq x (i 0) : FVec Ideal ⟨2, ![M, 1]⟩ .f32))) = normed x := by
  rw [host_col]; rfl
/-- The gradient of the norm, as the references print it. -/
theorem host_normGrad (x y : FVec Ideal ⟨2, ![M, N]⟩ .f32)
    (hb : (⟨2, ![M, 1]⟩ : Shape).BroadcastsInDim ⟨2, ![M, N]⟩ (![0, 1] : Fin 2 → Fin 2))
    (hs : (⟨1, ![M]⟩ : Shape).BroadcastsInDim ⟨2, ![M, N]⟩ (![0] : Fin 1 → Fin 2))
    (h : (⟨2, ![M, N]⟩ : Shape).ReducesTo [1] ⟨1, ![M]⟩) (h' : (⟨2, ![M, 1]⟩ : Shape).ReducesTo [1] ⟨1, ![M]⟩) (hu) (hc)
    (d : Fin (⟨0, ![]⟩ : Shape).rank → Fin (⟨2, ![M, 1]⟩ : Shape).rank) (hd : (⟨0, ![]⟩ : Shape).BroadcastsInDim ⟨2, ![M, 1]⟩ d) :
    (let V : FVec Ideal ⟨2, ![M, 1]⟩ .f32 := fun i => meanSq x (i 0)
     let C : FVec Ideal ⟨2, ![M, N]⟩ .f32 := broadcastInDim ⟨2, ![M, N]⟩ ![0] hs (Host.reduceAdd (Host.divf
        (mulf (shapeCast ⟨2, ![M, 1]⟩ (Host.reduceAdd (mulf x y) (constant ⟨0, ![]⟩ .f32 0x00000000#32) h hu) hc)
          (mulf (broadcastInDim ⟨2, ![M, 1]⟩ d hd (constant ⟨0, ![]⟩ .f32 0xBF000000#32)) (Host.divf (Host.rsqrt V) V)))
        (broadcastInDim ⟨2, ![M, 1]⟩ d hd (constant ⟨0, ![]⟩ .f32 0x45000000#32))) (constant ⟨0, ![]⟩ .f32 0x00000000#32) h' hu)
     addf (addf (mulf y (broadcastInDim ⟨2, ![M, N]⟩ ![0, 1] hb (Host.rsqrt V))) (mulf x C)) (mulf C x)) = normGrad x y := by
  dsimp only
  rw [host_rowSum (mulf x y), cast_col, host_rowSum, host_spread, host_col]
  refine Eq.trans ?_ (funext fun i => normGrad_eq x y i)
  funext i
  simp only [Fin.sum_univ_one]
  rfl

/-! ## Blocks of rows -/

/-- Some rows of a matrix. -/
def rowsOf (f : Fin M' → Fin M) (x : Mat M N) : Mat M' N := fun j => x (ix2 (f (j 0)) (j 1))
/-- The rows of block `n`. -/
def rowAt (n : ℕ) (h : n * M' + M' ≤ M) : Fin M' → Fin M := fun i => ⟨n * M' + i.val, by omega⟩

theorem rows_times (f : Fin M' → Fin M) (x y : Mat M N) : times (rowsOf f x) (rowsOf f y) = rowsOf f (times x y) := rfl
theorem rows_plus (f : Fin M' → Fin M) (x y : Mat M N) : plus (rowsOf f x) (rowsOf f y) = rowsOf f (plus x y) := rfl
theorem rows_ofRow (f : Fin M' → Fin M) (b : Mat 1 N) : ofRow (M := M') b = rowsOf f (ofRow (M := M) b) := rfl
theorem rows_normed (f : Fin M' → Fin M) (x : Mat M N) : normed (rowsOf f x) = rowsOf f (normed x) := rfl
theorem rows_normGrad (f : Fin M' → Fin M) (x y : Mat M N) : normGrad (rowsOf f x) (rowsOf f y) = rowsOf f (normGrad x y) := rfl

/-- A window's block of whole rows. -/
theorem block_rows (A : Mat M N) (ix : Fin 2 → ℕ)
    (inb : ∀ a : Fin 2, ix a * (![M', N] : Fin 2 → ℕ) a + (![M', N] : Fin 2 → ℕ) a ≤ (⟨2, ![M, N]⟩ : Shape).size a)
    (n : ℕ) (h : n * M' + M' ≤ M) (h0 : ix 0 = n) (h1 : ix 1 = 0) : blockOf A ix inb = rowsOf (rowAt n h) A :=
  funext fun j => congrArg A (emb_eq j (ix2 (rowAt n h (j 0)) (j 1)) (by subst h0; rfl) (whole_axis h1 _ _))
/-- A window's block that is the whole matrix. -/
theorem block_whole (A : Mat M N) (ix : Fin 2 → ℕ)
    (inb : ∀ a : Fin 2, ix a * (![M, N] : Fin 2 → ℕ) a + (![M, N] : Fin 2 → ℕ) a ≤ (⟨2, ![M, N]⟩ : Shape).size a)
    (h0 : ix 0 = 0) (h1 : ix 1 = 0) : blockOf A ix inb = A :=
  funext fun j => congrArg A (emb_eq j j (whole_axis h0 _ _) (whole_axis h1 _ _))

/-- The sum of every column over the first `n` rows. -/
def part (A : Mat M N) (n : ℕ) : Mat 1 N := fun i => ∑ k ∈ Finset.range n, if h : k < M then A (ix2 ⟨k, h⟩ (i 1)) else 0

/-- The first block. -/
theorem part_first (A : Mat M N) (h : 0 * M' + M' ≤ M) : colSum (rowsOf (rowAt (M' := M') 0 h) A) = part A M' := by
  funext i
  unfold part
  rw [Finset.sum_range]
  refine Finset.sum_congr rfl fun k _ => ?_
  have hk : k.val < M := by have := k.isLt; omega
  rw [dif_pos hk]
  exact congrArg A (congrArg (fun r => ix2 r (i 1)) (Fin.ext (show 0 * M' + k.val = k.val by omega)))
/-- One block more. -/
theorem part_step (A : Mat M N) (n : ℕ) (h : n * M' + M' ≤ M) :
    plus (part A (n * M')) (colSum (rowsOf (rowAt (M' := M') n h) A)) = part A ((n + 1) * M') := by
  funext i
  unfold part
  rw [Nat.succ_mul, Finset.sum_range_add, Finset.sum_range (n := M')]
  refine congrArg (_ + ·) (Finset.sum_congr rfl fun k _ => ?_)
  have hk : n * M' + k.val < M := by have := k.isLt; omega
  rw [dif_pos hk]
  rfl
/-- All rows. -/
theorem part_all (A : Mat M N) : part A M = colSum A := by
  funext i
  unfold part
  rw [Finset.sum_range]
  exact Finset.sum_congr rfl fun k _ => dif_pos k.isLt

end Cert.Norms

end
-- ==== Proof.Norm.lean ====
/- The norm before the feed-forward layer: every row over the root of its mean square, times the gain. -/
module

public import proofs.«01_k».proof.Proof.Gen.NormIdeal.Value
public import proofs.«01_k».proof.Proof.Gen.NormRefIdeal.Run
public import proofs.«01_k».proof.Proof.Norms
public import proofs.«01_k».proof.Defs

@[expose] public section

set_option maxRecDepth 16384

noncomputable section

namespace Cert.NormIdeal.Product

open Cert.NormIdeal Cert.NormIdeal.Gen Cert.Products Cert.Norms
open Idealize.ShloMosaic Idealize.ShloMosaic.TcCoe Idealize.ShloMosaic.ValueIdx Idealize.SL.Sem

variable (m : (ℓ : Loc nD τ sig) → Buf (Elt Ideal) ℓ) (c : Dev nD)

/-- The normed rows times the gain. -/
def result : Mat 4096 2048 := times (normed (m (c.tc.loc main_arg0))) (ofRow (m (c.tc.loc main_arg1)))

/-- Which block of each operand a point reads. -/
theorem idx : ∀ t : Fin cfg0.N,
    (win0_0.index t 0 = t.val ∧ win0_0.index t 1 = 0) ∧ (win0_1.index t 0 = 0 ∧ win0_1.index t 1 = 0)
    ∧ (win0_2.index t 0 = t.val ∧ win0_2.index t 1 = 0) ∧ t.val * 256 + 256 ≤ 4096 :=
  (by decide +kernel : ∀ t : Fin grid0.N, _)

/-- What a point leaves. -/
theorem out_eq (x0 : Vec Ideal S256x2048 .f32) (x1 : Vec Ideal S1x2048 .f32) :
    out0_2 x0 x1 = times (normed x0) (ofRow x1) := by
  unfold out0_2 k0_pay1
  dsimp only
  rw [View.canon_unit_zero hz, View.ld_unit_zero hz, View.ld_unit_zero hz, kernel_rms, kernel_row _ (by decide)]
  exact congrArg (times · (ofRow x1)) (kernel_normed x0 _)

/-- The array after the run. -/
theorem final : (dats m 0 c).arrAt 2 cfg0.N = result m c := by
  refine (dats m 0 c).arrAt_eq_of_cover 2 _ (fun t _ => ?_) ((by decide +kernel : (cfg0.win 2).Covers).cover _ (Memref.isWhole_whole _))
  obtain ⟨⟨a0, a1⟩, ⟨b0, b1⟩, ⟨e0, e1⟩, hn⟩ := idx t
  rw [Value.flushed2, out_eq]
  have p0 := block_rows (M' := 256) (m (c.tc.loc main_arg0)) _ (within win0_0 t) t.val hn a0 a1
  have p1 := block_whole (m (c.tc.loc main_arg1)) _ (within win0_1 t) b0 b1
  have p2 := block_rows (M' := 256) (result m c) _ (within win0_2 t) t.val hn e0 e1
  exact (congrArg₂ (fun (P : Mat 256 2048) (Q : Mat 1 2048) => times (normed P) (ofRow Q)) p0 p1).trans p2.symm

end Cert.NormIdeal.Product

namespace Cert.Proof

open Idealize.ShloMosaic Idealize.ShloMosaic.TcCoe Idealize.SL.Sem Cert.Products Cert.Norms

/-- The kernel computes what its reference does. -/
theorem algebraic_norm : Cert.algebraic_NormIdeal_NormRefIdeal := by
  intro m ρ m' ρ' _ hagree
  refine ⟨fun c => Cert.NormIdeal.Product.result m c, ?_, ?_⟩
  · refine (θ_run _ _ _).mono (fun r h c => ?_) (Cert.NormIdeal.Value.run_blocks (F := Ideal) m ρ)
    exact ⟨(h c).1.trans (Cert.NormIdeal.Product.final m c), (h c).2⟩
  · refine (θ_run _ _ _).mono (fun r h c => ?_) (Cert.NormRefIdeal.Value.run (F := Ideal) m' ρ')
    obtain ⟨e0, e1⟩ := hagree c
    refine ⟨(h c).1.trans ?_, (h c).2⟩
    clear h
    rw [e0, e1, host_meanSq, host_normed, host_row _ (by decide)]
    rfl

/-- The reference runs, keeps its arguments and leaves no semaphore raised. -/
theorem frame_norm_ref : Cert.quiescent_NormRefIdeal := fun m ρ _ =>
  (θ_run _ _ _).mono (fun r h => ⟨fun c => (h c).2, sem_eq_zero_of_no_sems (by decide) r.2⟩)
    (Cert.NormRefIdeal.Value.run (F := Ideal) m ρ)

end Cert.Proof

end
-- ==== Proof.NormBwd.lean ====
/- The gradient of the norm: its input's gradient on top of the residual one, the gain's, and the column sums. -/
module

public import proofs.«01_k».proof.Proof.Gen.NormBwdIdeal.Value
public import proofs.«01_k».proof.Proof.Gen.NormBwdRefIdeal.Run
public import proofs.«01_k».proof.Proof.Norms
public import proofs.«01_k».proof.Defs
public import Idealize.ShloMosaic.Lib.Tactic

@[expose] public section

set_option maxRecDepth 16384

noncomputable section

namespace Cert.NormBwdIdeal.Product

open Cert.NormBwdIdeal Cert.NormBwdIdeal.Gen Cert.Products Cert.Norms
open Idealize.ShloMosaic Idealize.ShloMosaic.TcCoe Idealize.ShloMosaic.ValueIdx Idealize.SL.Sem

/-! ## What a point computes -/

section Point

variable (x0 : Vec Ideal S256x2048 .f32) (x1 : Vec Ideal S1x2048 .f32) (x2 : Vec Ideal S256x2048 .f32) (x3 : Vec Ideal S256x2048 .bf16)

/-- The gradient of a block of rows. -/
def dxOf {M : ℕ} (x : Mat M 2048) (g : Mat 1 2048) (dres dn : Mat M 2048) : Mat M 2048 :=
  plus dres (normGrad x (times dn (ofRow g)))

theorem normed_eq : k0_pay4 (F := Ideal) x0 = normed x0 := by
  unfold k0_pay4 k0_pay3
  dsimp only
  rw [kernel_rms]
  exact kernel_normed _ _
theorem dgain_eq : k0_pay6 (F := Ideal) x0 x3 = colSum (times x3 (normed x0)) := by
  unfold k0_pay6 k0_pay5
  dsimp only
  rw [normed_eq, kernel_colSum]
  rfl
theorem dx_eq : k0_pay7 (F := Ideal) x0 x2 x3 x1 = dxOf x0 x1 x2 x3 := by
  unfold k0_pay7 k0_pay5
  dsimp only
  rw [normed_eq, kernel_row _ (by decide)]
  unfold k0_pay3
  dsimp only
  rw [kernel_rms]
  exact congrArg (plus x2) (kernel_normGrad x0 (times x3 (ofRow x1)) _ _ _ _ _)
theorem cs_eq : k0_pay9 (F := Ideal) x0 x2 x3 x1 = colSum (dxOf x0 x1 x2 x3) := by
  unfold k0_pay9
  dsimp only
  rw [dx_eq, kernel_colSum]

/-! ## What a point leaves -/

variable (c : Dev nD) (i : grid0.Coords) (a1 : Memref sig .tc .vmem S256x2048 .f32) (h1 : a1.IsWhole)
  (a2 : Memref sig .tc .vmem S1x2048 .f32) (h2 : a2.IsWhole) (a3 : Memref sig .tc .vmem S256x2048 .f32) (h3 : a3.IsWhole)
  (a4 : Memref sig .tc .vmem S256x2048 .bf16) (h4 : a4.IsWhole) (a5 : Memref sig .tc .vmem S256x2048 .f32) (h5 : a5.IsWhole)
  (a6 : Memref sig .tc .vmem S256x2048 .bf16) (h6 : a6.IsWhole) (a7 : Memref sig .tc .vmem S1x2048 .f32) (h7 : a7.IsWhole)
  (a8 : Memref sig .tc .vmem S1x2048 .f32) (h8 : a8.IsWhole)

section First

variable (c0 : cond0_0 i) (c1 : ¬cond0_1 i)

theorem first4 : out0_A_4 (F := Ideal) c i a1 h1 a2 h2 a3 h3 a4 h4 a5 h5 a6 h6 a7 h7 a8 h8 c0 c1 x0 x1 x2 x3 = dxOf x0 x1 x2 x3 := by
  unfold out0_A_4
  rw [View.read_writes_eq_canon _ _ _ (cover0_A_4 c i a1 h1 a2 h2 a3 h3 a4 h4 a5 h5 a6 h6 a7 h7 a8 h8 c0 c1 x0 x1 x2 x3)]
  unfold kernelRun0_A
  dsimp only
  sl_unfold_words
  rw [View.canon_unit_zero hz]
  simp only [View.readAt_eq_ld, h1.read_unread, h2.read_unread, h3.read_unread, h4.read_unread, View.ld_unit_zero (S := S256x2048) hz,
    View.ld_unit_zero (S := S1x2048) hz]
  exact dx_eq _ _ _ _
theorem first5 : out0_A_5 (F := Ideal) c i a1 h1 a2 h2 a3 h3 a4 h4 a5 h5 a6 h6 a7 h7 a8 h8 c0 c1 x0 x1 x2 x3 = dxOf x0 x1 x2 x3 := by
  unfold out0_A_5
  rw [View.read_writes_eq_canon _ _ _ (cover0_A_5 c i a1 h1 a2 h2 a3 h3 a4 h4 a5 h5 a6 h6 a7 h7 a8 h8 c0 c1 x0 x1 x2 x3)]
  unfold kernelRun0_A
  dsimp only
  sl_unfold_words
  rw [View.canon_unit_zero hz]
  simp only [View.readAt_eq_ld, h1.read_unread, h2.read_unread, h3.read_unread, h4.read_unread, View.ld_unit_zero (S := S256x2048) hz,
    View.ld_unit_zero (S := S1x2048) hz]
  exact dx_eq _ _ _ _
theorem first6 : out0_A_6 (F := Ideal) c i a1 h1 a2 h2 a3 h3 a4 h4 a5 h5 a6 h6 a7 h7 a8 h8 c0 c1 x0 x1 x2 x3 = colSum (times x3 (normed x0)) := by
  unfold out0_A_6
  rw [View.read_writes_eq_canon _ _ _ (cover0_A_6 c i a1 h1 a2 h2 a3 h3 a4 h4 a5 h5 a6 h6 a7 h7 a8 h8 c0 c1 x0 x1 x2 x3)]
  unfold kernelRun0_A
  dsimp only
  sl_unfold_words
  rw [View.canon_unit_zero hz]
  simp only [View.readAt_eq_ld, h1.read_unread, h2.read_unread, h3.read_unread, h4.read_unread, View.ld_unit_zero (S := S256x2048) hz,
    View.ld_unit_zero (S := S1x2048) hz]
  exact dgain_eq _ _
theorem first7 : out0_A_7 (F := Ideal) c i a1 h1 a2 h2 a3 h3 a4 h4 a5 h5 a6 h6 a7 h7 a8 h8 c0 c1 x0 x1 x2 x3 = colSum (dxOf x0 x1 x2 x3) := by
  unfold out0_A_7
  rw [View.read_writes_eq_canon _ _ _ (cover0_A_7 c i a1 h1 a2 h2 a3 h3 a4 h4 a5 h5 a6 h6 a7 h7 a8 h8 c0 c1 x0 x1 x2 x3)]
  unfold kernelRun0_A
  dsimp only
  sl_unfold_words
  rw [View.canon_unit_zero hz]
  simp only [View.readAt_eq_ld, h1.read_unread, h2.read_unread, h3.read_unread, h4.read_unread, View.ld_unit_zero (S := S256x2048) hz,
    View.ld_unit_zero (S := S1x2048) hz]
  exact cs_eq _ _ _ _

end First

section Later

variable (c0 : ¬cond0_0 i) (c1 : cond0_1 i) (p q : Vec Ideal S1x2048 .f32)

theorem later4 : out0_B_4 (F := Ideal) c i a1 h1 a2 h2 a3 h3 a4 h4 a5 h5 a6 h6 a7 h7 a8 h8 c0 c1 x0 x1 x2 x3 p q = dxOf x0 x1 x2 x3 := by
  unfold out0_B_4
  rw [View.read_writes_eq_canon _ _ _ (cover0_B_4 c i a1 h1 a2 h2 a3 h3 a4 h4 a5 h5 a6 h6 a7 h7 a8 h8 c0 c1 x0 x1 x2 x3 p q)]
  unfold kernelRun0_B
  dsimp only
  sl_unfold_words
  rw [View.canon_unit_zero hz]
  simp only [View.readAt_eq_ld, h1.read_unread, h2.read_unread, h3.read_unread, h4.read_unread, View.ld_unit_zero (S := S256x2048) hz,
    View.ld_unit_zero (S := S1x2048) hz]
  exact dx_eq _ _ _ _
theorem later5 : out0_B_5 (F := Ideal) c i a1 h1 a2 h2 a3 h3 a4 h4 a5 h5 a6 h6 a7 h7 a8 h8 c0 c1 x0 x1 x2 x3 p q = dxOf x0 x1 x2 x3 := by
  unfold out0_B_5
  rw [View.read_writes_eq_canon _ _ _ (cover0_B_5 c i a1 h1 a2 h2 a3 h3 a4 h4 a5 h5 a6 h6 a7 h7 a8 h8 c0 c1 x0 x1 x2 x3 p q)]
  unfold kernelRun0_B
  dsimp only
  sl_unfold_words
  rw [View.canon_unit_zero hz]
  simp only [View.readAt_eq_ld, h1.read_unread, h2.read_unread, h3.read_unread, h4.read_unread, View.ld_unit_zero (S := S256x2048) hz,
    View.ld_unit_zero (S := S1x2048) hz]
  exact dx_eq _ _ _ _
theorem later6 : out0_B_6 (F := Ideal) c i a1 h1 a2 h2 a3 h3 a4 h4 a5 h5 a6 h6 a7 h7 a8 h8 c0 c1 x0 x1 x2 x3 p q = plus p (colSum (times x3 (normed x0))) := by
  unfold out0_B_6
  rw [View.read_writes_eq_canon _ _ _ (cover0_B_6 c i a1 h1 a2 h2 a3 h3 a4 h4 a5 h5 a6 h6 a7 h7 a8 h8 c0 c1 x0 x1 x2 x3 p q)]
  unfold kernelRun0_B
  dsimp only
  sl_unfold_words
  rw [View.canon_unit_zero hz]
  simp only [View.readAt_eq_ld, h1.read_unread, h2.read_unread, h3.read_unread, h4.read_unread, h7.read_unread, View.ld_unit_zero (S := S256x2048) hz,
    View.ld_unit_zero (S := S1x2048) hz]
  unfold k0_pay1
  rw [shapeCast_self, dgain_eq]
  rfl
theorem later7 : out0_B_7 (F := Ideal) c i a1 h1 a2 h2 a3 h3 a4 h4 a5 h5 a6 h6 a7 h7 a8 h8 c0 c1 x0 x1 x2 x3 p q = plus q (colSum (dxOf x0 x1 x2 x3)) := by
  unfold out0_B_7
  rw [View.read_writes_eq_canon _ _ _ (cover0_B_7 c i a1 h1 a2 h2 a3 h3 a4 h4 a5 h5 a6 h6 a7 h7 a8 h8 c0 c1 x0 x1 x2 x3 p q)]
  unfold kernelRun0_B
  dsimp only
  sl_unfold_words
  rw [View.canon_unit_zero hz]
  simp only [View.readAt_eq_ld, h1.read_unread, h2.read_unread, h3.read_unread, h4.read_unread, h8.read_unread, View.ld_unit_zero (S := S256x2048) hz,
    View.ld_unit_zero (S := S1x2048) hz]
  unfold k0_pay2
  rw [shapeCast_self, cs_eq]
  rfl

end Later

end Point

/-! ## The arrays after the run -/

variable (m : (ℓ : Loc nD τ sig) → Buf (Elt Ideal) ℓ) (c : Dev nD)

/-- The gradient of the norm's input, with the residual one. -/
def dx : Mat 4096 2048 := dxOf (m (c.tc.loc main_arg0)) (m (c.tc.loc main_arg1)) (m (c.tc.loc main_arg3)) (m (c.tc.loc main_arg2))
/-- The terms of the gain's gradient. -/
def terms : Mat 4096 2048 := times (m (c.tc.loc main_arg2)) (normed (m (c.tc.loc main_arg0)))

/-- Which block of each array a point takes. -/
theorem idx : ∀ t : Fin cfg0.N,
    (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = 0 ∧ win0_6.index t 1 = 0) ∧ (win0_7.index t 0 = 0 ∧ win0_7.index t 1 = 0) :=
  (by decide +kernel : ∀ t : Fin grid0.N, _)
/-- A point's rows lie inside the arrays. -/
theorem inside {n : ℕ} (h : n < cfg0.N) : n * 256 + 256 ≤ 4096 := by
  have hN : cfg0.N = 16 := N_0
  omega

/-- A point's rows of the input, the gain, the residual gradient and the output's gradient. -/
theorem block0 (t : Fin cfg0.N) : iblk m c 0 t = rowsOf (rowAt (M' := 256) t.val (inside t.isLt)) (m (c.tc.loc main_arg0)) :=
  block_rows (m (c.tc.loc main_arg0)) _ (within win0_0 t) t.val _ (idx t).1.1 (idx t).1.2
theorem block1 (t : Fin cfg0.N) : iblk m c 1 t = m (c.tc.loc main_arg1) :=
  block_whole (m (c.tc.loc main_arg1)) _ (within win0_1 t) (idx t).2.1.1 (idx t).2.1.2
theorem block2 (t : Fin cfg0.N) : iblk m c 2 t = rowsOf (rowAt (M' := 256) t.val (inside t.isLt)) (m (c.tc.loc main_arg3)) :=
  block_rows (m (c.tc.loc main_arg3)) _ (within win0_2 t) t.val _ (idx t).2.2.1.1 (idx t).2.2.1.2
theorem block3 (t : Fin cfg0.N) : iblk m c 3 t = rowsOf (rowAt (M' := 256) t.val (inside t.isLt)) (m (c.tc.loc main_arg2)) :=
  block_rows (m (c.tc.loc main_arg2)) _ (within win0_3 t) t.val _ (idx t).2.2.2.1.1 (idx t).2.2.2.1.2

/-- What the outputs hold after point `n`: its rows of the gradient, and the column sums over the rows so far. -/
theorem held : ∀ (n : ℕ) (h : n < cfg0.N), outsAt0 m c n h
    = (rowsOf (rowAt (M' := 256) n (inside h)) (dx m c), rowsOf (rowAt (M' := 256) n (inside h)) (dx m c),
      part (terms m c) ((n + 1) * 256), part (dx m c) ((n + 1) * 256))
  | 0, h => by
    refine (outsAt0_A m c ⟨0, h⟩ rfl (by simp)).trans ?_
    rw [first4, first5, first6, first7, block0, block1, block2, block3]
    rw [Nat.zero_add, Nat.one_mul, ← part_first (terms m c) (inside h), ← part_first (dx m c) (inside h)]
    rfl
  | n + 1, h => by
    have hN : cfg0.N = 16 := N_0
    have hB : ¬(⟨n + 1, h⟩ : Fin cfg0.N).val % 16 = 0 := by dsimp only; omega
    refine (outsAt0_B m c ⟨n + 1, h⟩ hB (by simp)).trans ?_
    rw [later4, later5, later6, later7, block0, block1, block2, block3]
    rw [← part_step (terms m c) (n + 1) (inside h), ← part_step (dx m c) (n + 1) (inside h)]
    show (_, _, plus (outsAt0 m c n _).2.2.1 _, plus (outsAt0 m c n _).2.2.2 _) = _
    rw [held n]
    rfl

/-- The last point. -/
theorem last {t : Fin cfg0.N} (h : t.val % 16 = 15) : (t.val + 1) * 256 = 4096 := by
  have hN : cfg0.N = 16 := N_0
  have := t.isLt
  omega

theorem final4 : (dats m 0 c).arrAt 4 cfg0.N = dx m c := by
  refine (dats m 0 c).arrAt_eq_of_cover 4 _ (fun t _ => ?_) ((by decide +kernel : (cfg0.win 4).Covers).cover _ (Memref.isWhole_whole _))
  rw [Value.flushed4, held]
  exact (block_rows (M' := 256) (dx m c) _ (within win0_4 t) t.val _ (idx t).2.2.2.2.1.1 (idx t).2.2.2.2.1.2).symm
theorem final5 : (dats m 0 c).arrAt 5 cfg0.N = dx m c := by
  refine (dats m 0 c).arrAt_eq_of_cover 5 _ (fun t _ => ?_) ((by decide +kernel : (cfg0.win 5).Covers).cover _ (Memref.isWhole_whole _))
  rw [Value.flushed5, held]
  exact (block_rows (M' := 256) (dx m c) _ (within win0_5 t) t.val _ (idx t).2.2.2.2.2.1.1 (idx t).2.2.2.2.2.1.2).symm
theorem final6 : (dats m 0 c).arrAt 6 cfg0.N = colSum (terms m c) := by
  refine (dats m 0 c).arrAt_eq_of_cover 6 _ (fun t ht => ?_) ((by decide +kernel : (cfg0.win 6).Covers).cover _ (Memref.isWhole_whole _))
  rw [Value.flushed6, held]
  dsimp only
  rw [last ((flush0_6 t).mp ht), part_all]
  exact (block_whole (colSum (terms m c)) _ (within win0_6 t) (idx t).2.2.2.2.2.2.1.1 (idx t).2.2.2.2.2.2.1.2).symm
theorem final7 : (dats m 0 c).arrAt 7 cfg0.N = colSum (dx m c) := by
  refine (dats m 0 c).arrAt_eq_of_cover 7 _ (fun t ht => ?_) ((by decide +kernel : (cfg0.win 7).Covers).cover _ (Memref.isWhole_whole _))
  rw [Value.flushed7, held]
  dsimp only
  rw [last ((flush0_7 t).mp ht), part_all]
  exact (block_whole (colSum (dx m c)) _ (within win0_7 t) (idx t).2.2.2.2.2.2.2.1 (idx t).2.2.2.2.2.2.2.2).symm

end Cert.NormBwdIdeal.Product

namespace Cert.Proof

open Idealize.ShloMosaic Idealize.ShloMosaic.TcCoe Idealize.SL.Sem Cert.Products Cert.Norms

/-- The kernel computes what its reference does. -/
theorem algebraic_norm_bwd : Cert.algebraic_NormBwdIdeal_NormBwdRefIdeal := by
  intro m ρ m' ρ' _ hagree
  refine ⟨fun c => Cert.NormBwdIdeal.Product.dx m c, fun c => Cert.NormBwdIdeal.Product.dx m c,
    fun c => colSum (Cert.NormBwdIdeal.Product.terms m c), fun c => colSum (Cert.NormBwdIdeal.Product.dx m c), ?_, ?_⟩
  · refine (θ_run _ _ _).mono (fun r h c => ?_) (Cert.NormBwdIdeal.Value.run_blocks (F := Ideal) m ρ)
    exact ⟨(h c).1.trans (Cert.NormBwdIdeal.Product.final4 m c), (h c).2.1.trans (Cert.NormBwdIdeal.Product.final5 m c),
      (h c).2.2.1.trans (Cert.NormBwdIdeal.Product.final6 m c), (h c).2.2.2.1.trans (Cert.NormBwdIdeal.Product.final7 m c), (h c).2.2.2.2⟩
  · refine (θ_run _ _ _).mono (fun r h c => ?_) (Cert.NormBwdRefIdeal.Value.run (F := Ideal) m' ρ')
    obtain ⟨e0, e1, e2, e3⟩ := hagree c
    have hdx : ∀ (hb) (hs) (h) (h') (hu) (hc) (d) (hd), _ = Cert.NormBwdIdeal.Product.dx m c := fun hb hs h h' hu hc d hd =>
      congrArg (plus (m (c.tc.loc Cert.NormBwdIdeal.main_arg3))) (host_normGrad _ _ hb hs h h' hu hc d hd)
    refine ⟨(h c).1.trans ?_, (h c).2.1.trans ?_, (h c).2.2.1.trans ?_, (h c).2.2.2.1.trans ?_, (h c).2.2.2.2⟩ <;> clear h
    · rw [e0, e1, e2, e3, host_meanSq, host_row _ (by decide)]
      exact hdx _ _ _ _ _ _ _ _
    · rw [e0, e1, e2, e3, host_meanSq, host_row _ (by decide)]
      exact hdx _ _ _ _ _ _ _ _
    · rw [e0, e2, host_meanSq, host_normed, host_colSum, cast_row]
      exact funext fun i => Finset.sum_congr rfl fun k _ => mul_comm _ _
    · rw [e0, e1, e2, e3, host_meanSq, host_row _ (by decide), host_colSum, host_row1 _ (by decide)]
      exact congrArg colSum (hdx _ _ _ _ _ _ _ _)

/-- The reference runs, keeps its arguments and leaves no semaphore raised. -/
theorem frame_norm_bwd_ref : Cert.quiescent_NormBwdRefIdeal := fun m ρ _ =>
  (θ_run _ _ _).mono (fun r h => ⟨fun c => (h c).2.2.2.2, sem_eq_zero_of_no_sems (by decide) r.2⟩)
    (Cert.NormBwdRefIdeal.Value.run (F := Ideal) m ρ)

end Cert.Proof

end
-- ==== Proof.FinalLoss.lean ====
/- The loss and the gradient of the last norm: the gradient of its input, the gain's, and the loss of every column. -/
module

public import proofs.«01_k».proof.Proof.Gen.FinalLossIdeal.Value
public import proofs.«01_k».proof.Proof.Gen.FinalLossRefIdeal.Run
public import proofs.«01_k».proof.Proof.Norms
public import proofs.«01_k».proof.Defs
public import Idealize.ShloMosaic.Lib.Tactic

@[expose] public section

set_option maxRecDepth 16384

noncomputable section

namespace Cert.FinalLossIdeal.Product

open Cert.FinalLossIdeal Cert.FinalLossIdeal.Gen Cert.Products Cert.Norms
open Idealize.ShloMosaic hiding ix1 ix2
open Idealize.ShloMosaic.TcCoe Idealize.ShloMosaic.ValueIdx Idealize.SL.Sem

/-! ## The loss of rows -/

section Rows

variable {M : ℕ}

/-- The error of the normed rows. -/
def errOf (x : Mat M 2048) (g : Mat 1 2048) (t : Mat M 2048) : Mat M 2048 := fun i => times (normed x) (ofRow g) i - t i
/-- What every entry adds to the loss. -/
def lossOf (x : Mat M 2048) (g : Mat 1 2048) (t : Mat M 2048) : Mat M 2048 := fun i =>
  errOf x g t i * errOf x g t i * Ideal.ofBits .f32 0x39800000#32
/-- The gradient of the norm's output. -/
def dyOf (x : Mat M 2048) (g : Mat 1 2048) (t : Mat M 2048) : Mat M 2048 := fun i => errOf x g t i * Ideal.ofBits .f32 0x3A000000#32
/-- The gradient of the norm's input. -/
def dhOf (x : Mat M 2048) (g : Mat 1 2048) (t : Mat M 2048) : Mat M 2048 := normGrad x (times (dyOf x g t) (ofRow g))
/-- The terms of the gain's gradient. -/
def gainOf (x : Mat M 2048) (g : Mat 1 2048) (t : Mat M 2048) : Mat M 2048 := times (dyOf x g t) (normed x)

end Rows

/-- The words of 1/4096, 1/2048, 1/2 and 2. -/
theorem w4096th : Ideal.ofBits .f32 0x39800000#32 = ((1 / 4096 : ℝ) : EReal) := by
  simp only [Ideal.ofBits, Ideal.ieee]; simp; rw [← EReal.coe_mul]; norm_num
theorem w2048th : Ideal.ofBits .f32 0x3A000000#32 = ((1 / 2048 : ℝ) : EReal) := by
  simp only [Ideal.ofBits, Ideal.ieee]; simp; rw [← EReal.coe_mul]; norm_num
theorem wHalf : Ideal.ofBits .f32 0x3F000000#32 = ((1 / 2 : ℝ) : EReal) := by
  simp only [Ideal.ofBits, Ideal.ieee]; simp; rw [← EReal.coe_mul]; norm_num
theorem wTwo : Ideal.ofBits .f32 0x40000000#32 = ((2 : ℝ) : EReal) := by
  simp only [Ideal.ofBits, Ideal.ieee]; simp; rw [← EReal.coe_mul]; norm_num

/-- The gradient of the norm's output, as the reference prints it. -/
theorem host_dy (e : FVec Ideal ⟨2, ![4096, 2048]⟩ .f32) (h : (⟨2, ![1, 2048]⟩ : Shape).ReducesTo [0] ⟨1, ![2048]⟩) (hu)
    (hb : (⟨1, ![2048]⟩ : Shape).BroadcastsInDim ⟨2, ![4096, 2048]⟩ (![1] : Fin 1 → Fin 2))
    (d : Fin (⟨0, ![]⟩ : Shape).rank → Fin (⟨2, ![4096, 2048]⟩ : Shape).rank) (hd : (⟨0, ![]⟩ : Shape).BroadcastsInDim ⟨2, ![4096, 2048]⟩ d)
    (d' : Fin (⟨0, ![]⟩ : Shape).rank → Fin (⟨2, ![1, 2048]⟩ : Shape).rank) (hd' : (⟨0, ![]⟩ : Shape).BroadcastsInDim ⟨2, ![1, 2048]⟩ d') :
    mulf (Host.divf (broadcastInDim ⟨2, ![4096, 2048]⟩ ![1] hb (Host.reduceAdd
        (mulf (broadcastInDim ⟨2, ![1, 2048]⟩ d' hd' (constant ⟨0, ![]⟩ .f32 0x3F000000#32)) (broadcastInDim ⟨2, ![1, 2048]⟩ d' hd' (constant ⟨0, ![]⟩ .f32 0x3F800000#32)))
        (constant ⟨0, ![]⟩ .f32 0x00000000#32) h hu)) (broadcastInDim ⟨2, ![4096, 2048]⟩ d hd (constant ⟨0, ![]⟩ .f32 0x45000000#32)))
      (mulf (broadcastInDim ⟨2, ![4096, 2048]⟩ d hd (constant ⟨0, ![]⟩ .f32 0x40000000#32)) e)
      = fun i => e i * Ideal.ofBits .f32 0x3A000000#32 := by
  rw [host_colSum, host_row1 _ (by decide)]
  funext i
  show Ideal.div (∑ _k : Fin 1, Ideal.ofBits .f32 0x3F000000#32 * Ideal.ofBits .f32 0x3F800000#32) (Ideal.ofBits .f32 0x45000000#32)
    * (Ideal.ofBits .f32 0x40000000#32 * e i) = _
  rw [Fin.sum_univ_one, wHalf, wTwo, w2048th, w2048, Ideal.ofBits_one_f32, Ideal.div_coe (by norm_num : (2048 : ℝ) ≠ 0), mul_one, ← mul_assoc,
    ← EReal.coe_mul, ← EReal.coe_mul, mul_comm]
  refine congrArg (fun z : ℝ => e i * (z : EReal)) ?_
  norm_num
/-- The loss of every column, as the reference prints it. -/
theorem host_loss (e : FVec Ideal ⟨2, ![4096, 2048]⟩ .f32) (h : (⟨2, ![4096, 2048]⟩ : Shape).ReducesTo [0] ⟨1, ![2048]⟩) (hu)
    (hb : (⟨1, ![2048]⟩ : Shape).BroadcastsInDim ⟨2, ![1, 2048]⟩ (![1] : Fin 1 → Fin 2))
    (d : Fin (⟨0, ![]⟩ : Shape).rank → Fin (⟨2, ![4096, 2048]⟩ : Shape).rank) (hd : (⟨0, ![]⟩ : Shape).BroadcastsInDim ⟨2, ![4096, 2048]⟩ d)
    (d' : Fin (⟨0, ![]⟩ : Shape).rank → Fin (⟨2, ![1, 2048]⟩ : Shape).rank) (hd' : (⟨0, ![]⟩ : Shape).BroadcastsInDim ⟨2, ![1, 2048]⟩ d') :
    mulf (broadcastInDim ⟨2, ![1, 2048]⟩ d' hd' (constant ⟨0, ![]⟩ .f32 0x3F000000#32)) (broadcastInDim ⟨2, ![1, 2048]⟩ ![1] hb
      (Host.reduceAdd (Host.divf (mulf e e) (broadcastInDim ⟨2, ![4096, 2048]⟩ d hd (constant ⟨0, ![]⟩ .f32 0x45000000#32)))
        (constant ⟨0, ![]⟩ .f32 0x00000000#32) h hu))
      = colSum (fun i => e i * e i * Ideal.ofBits .f32 0x39800000#32) := by
  rw [host_colSum, host_row1 _ (by decide)]
  funext i
  show Ideal.ofBits .f32 0x3F000000#32 * ∑ k : Fin 4096, Ideal.div (e (ix2 k (i 1)) * e (ix2 k (i 1))) (Ideal.ofBits .f32 0x45000000#32) = _
  rw [wHalf, w2048, mul_comm, sum_scale _ _ (by norm_num : (0 : ℝ) ≤ 1 / 2)]
  refine Finset.sum_congr rfl fun k _ => ?_
  rw [Ideal.div_coe (by norm_num : (2048 : ℝ) ≠ 0), w4096th, mul_assoc, ← EReal.coe_mul]
  refine congrArg (fun z : ℝ => e (ix2 k (i 1)) * e (ix2 k (i 1)) * (z : EReal)) ?_
  norm_num

/-! ## What a point computes -/

section Point

variable (x0 : Vec Ideal S256x2048 .f32) (x1 : Vec Ideal S1x2048 .f32) (x2 : Vec Ideal S256x2048 .f32)

theorem normed_eq : k0_pay4 (F := Ideal) x0 = normed x0 := by
  unfold k0_pay4 k0_pay3
  dsimp only
  rw [kernel_rms]
  exact kernel_normed _ _
theorem err_eq : k0_pay5 (F := Ideal) x0 x1 x2 = errOf x0 x1 x2 := by
  unfold k0_pay5
  dsimp only
  rw [normed_eq, kernel_row _ (by decide)]
  rfl
theorem dy_eq : k0_pay7 (F := Ideal) x0 x1 x2 = dyOf x0 x1 x2 := by
  unfold k0_pay7
  dsimp only
  rw [err_eq]
  rfl
theorem loss_eq : k0_pay6 (F := Ideal) x0 x1 x2 = colSum (lossOf x0 x1 x2) := by
  unfold k0_pay6
  dsimp only
  rw [err_eq, kernel_colSum]
  funext i
  show (∑ k : Fin 256, errOf x0 x1 x2 (ix2 k (i 1)) * errOf x0 x1 x2 (ix2 k (i 1))) * Ideal.ofBits .f32 0x39800000#32
    = ∑ k : Fin 256, errOf x0 x1 x2 (ix2 k (i 1)) * errOf x0 x1 x2 (ix2 k (i 1)) * Ideal.ofBits .f32 0x39800000#32
  rw [w4096th]
  exact sum_scale _ _ (by norm_num)
theorem gain_eq : k0_pay8 (F := Ideal) x0 x1 x2 = colSum (gainOf x0 x1 x2) := by
  unfold k0_pay8
  dsimp only
  rw [normed_eq, dy_eq, kernel_colSum]
  rfl
theorem dh_eq : k0_pay9 (F := Ideal) x0 x1 x2 = dhOf x0 x1 x2 := by
  unfold k0_pay9
  dsimp only
  rw [normed_eq, dy_eq, kernel_row _ (by decide)]
  unfold k0_pay3
  dsimp only
  rw [kernel_rms]
  exact kernel_normGrad x0 (times (dyOf x0 x1 x2) (ofRow x1)) _ _ _ _ _

/-! ## What a point leaves -/

variable (c : Dev nD) (i : grid0.Coords) (a1 : Memref sig .tc .vmem S256x2048 .f32) (h1 : a1.IsWhole)
  (a2 : Memref sig .tc .vmem S1x2048 .f32) (h2 : a2.IsWhole) (a3 : Memref sig .tc .vmem S256x2048 .f32) (h3 : a3.IsWhole)
  (a4 : Memref sig .tc .vmem S256x2048 .f32) (h4 : a4.IsWhole) (a5 : Memref sig .tc .vmem S256x2048 .bf16) (h5 : a5.IsWhole)
  (a6 : Memref sig .tc .vmem S1x2048 .f32) (h6 : a6.IsWhole) (a7 : Memref sig .tc .vmem S1x2048 .f32) (h7 : a7.IsWhole)

section First

variable (c0 : cond0_0 i) (c1 : ¬cond0_1 i)

theorem first3 : out0_A_3 (F := Ideal) c i a1 h1 a2 h2 a3 h3 a4 h4 a5 h5 a6 h6 a7 h7 c0 c1 x0 x1 x2 = dhOf x0 x1 x2 := by
  unfold out0_A_3
  rw [View.read_writes_eq_canon _ _ _ (cover0_A_3 c i a1 h1 a2 h2 a3 h3 a4 h4 a5 h5 a6 h6 a7 h7 c0 c1 x0 x1 x2)]
  unfold kernelRun0_A
  dsimp only
  sl_unfold_words
  rw [View.canon_unit_zero hz]
  simp only [View.readAt_eq_ld, h1.read_unread, h2.read_unread, h3.read_unread, View.ld_unit_zero (S := S256x2048) hz,
    View.ld_unit_zero (S := S1x2048) hz]
  exact dh_eq _ _ _
theorem first4 : out0_A_4 (F := Ideal) c i a1 h1 a2 h2 a3 h3 a4 h4 a5 h5 a6 h6 a7 h7 c0 c1 x0 x1 x2 = dhOf x0 x1 x2 := by
  unfold out0_A_4
  rw [View.read_writes_eq_canon _ _ _ (cover0_A_4 c i a1 h1 a2 h2 a3 h3 a4 h4 a5 h5 a6 h6 a7 h7 c0 c1 x0 x1 x2)]
  unfold kernelRun0_A
  dsimp only
  sl_unfold_words
  rw [View.canon_unit_zero hz]
  simp only [View.readAt_eq_ld, h1.read_unread, h2.read_unread, h3.read_unread, View.ld_unit_zero (S := S256x2048) hz,
    View.ld_unit_zero (S := S1x2048) hz]
  exact dh_eq _ _ _
theorem first5 : out0_A_5 (F := Ideal) c i a1 h1 a2 h2 a3 h3 a4 h4 a5 h5 a6 h6 a7 h7 c0 c1 x0 x1 x2 = colSum (gainOf x0 x1 x2) := by
  unfold out0_A_5
  rw [View.read_writes_eq_canon _ _ _ (cover0_A_5 c i a1 h1 a2 h2 a3 h3 a4 h4 a5 h5 a6 h6 a7 h7 c0 c1 x0 x1 x2)]
  unfold kernelRun0_A
  dsimp only
  sl_unfold_words
  rw [View.canon_unit_zero hz]
  simp only [View.readAt_eq_ld, h1.read_unread, h2.read_unread, h3.read_unread, View.ld_unit_zero (S := S256x2048) hz,
    View.ld_unit_zero (S := S1x2048) hz]
  exact gain_eq _ _ _
theorem first6 : out0_A_6 (F := Ideal) c i a1 h1 a2 h2 a3 h3 a4 h4 a5 h5 a6 h6 a7 h7 c0 c1 x0 x1 x2 = colSum (lossOf x0 x1 x2) := by
  unfold out0_A_6
  rw [View.read_writes_eq_canon _ _ _ (cover0_A_6 c i a1 h1 a2 h2 a3 h3 a4 h4 a5 h5 a6 h6 a7 h7 c0 c1 x0 x1 x2)]
  unfold kernelRun0_A
  dsimp only
  sl_unfold_words
  rw [View.canon_unit_zero hz]
  simp only [View.readAt_eq_ld, h1.read_unread, h2.read_unread, h3.read_unread, View.ld_unit_zero (S := S256x2048) hz,
    View.ld_unit_zero (S := S1x2048) hz]
  exact loss_eq _ _ _

end First

section Later

variable (c0 : ¬cond0_0 i) (c1 : cond0_1 i) (p q : Vec Ideal S1x2048 .f32)

theorem later3 : out0_B_3 (F := Ideal) c i a1 h1 a2 h2 a3 h3 a4 h4 a5 h5 a6 h6 a7 h7 c0 c1 x0 x1 x2 p q = dhOf x0 x1 x2 := by
  unfold out0_B_3
  rw [View.read_writes_eq_canon _ _ _ (cover0_B_3 c i a1 h1 a2 h2 a3 h3 a4 h4 a5 h5 a6 h6 a7 h7 c0 c1 x0 x1 x2 p q)]
  unfold kernelRun0_B
  dsimp only
  sl_unfold_words
  rw [View.canon_unit_zero hz]
  simp only [View.readAt_eq_ld, h1.read_unread, h2.read_unread, h3.read_unread, View.ld_unit_zero (S := S256x2048) hz,
    View.ld_unit_zero (S := S1x2048) hz]
  exact dh_eq _ _ _
theorem later4 : out0_B_4 (F := Ideal) c i a1 h1 a2 h2 a3 h3 a4 h4 a5 h5 a6 h6 a7 h7 c0 c1 x0 x1 x2 p q = dhOf x0 x1 x2 := by
  unfold out0_B_4
  rw [View.read_writes_eq_canon _ _ _ (cover0_B_4 c i a1 h1 a2 h2 a3 h3 a4 h4 a5 h5 a6 h6 a7 h7 c0 c1 x0 x1 x2 p q)]
  unfold kernelRun0_B
  dsimp only
  sl_unfold_words
  rw [View.canon_unit_zero hz]
  simp only [View.readAt_eq_ld, h1.read_unread, h2.read_unread, h3.read_unread, View.ld_unit_zero (S := S256x2048) hz,
    View.ld_unit_zero (S := S1x2048) hz]
  exact dh_eq _ _ _
theorem later5 : out0_B_5 (F := Ideal) c i a1 h1 a2 h2 a3 h3 a4 h4 a5 h5 a6 h6 a7 h7 c0 c1 x0 x1 x2 p q = plus p (colSum (gainOf x0 x1 x2)) := by
  unfold out0_B_5
  rw [View.read_writes_eq_canon _ _ _ (cover0_B_5 c i a1 h1 a2 h2 a3 h3 a4 h4 a5 h5 a6 h6 a7 h7 c0 c1 x0 x1 x2 p q)]
  unfold kernelRun0_B
  dsimp only
  sl_unfold_words
  rw [View.canon_unit_zero hz]
  simp only [View.readAt_eq_ld, h1.read_unread, h2.read_unread, h3.read_unread, h6.read_unread, View.ld_unit_zero (S := S256x2048) hz,
    View.ld_unit_zero (S := S1x2048) hz]
  unfold k0_pay1
  rw [shapeCast_self, gain_eq]
  rfl
theorem later6 : out0_B_6 (F := Ideal) c i a1 h1 a2 h2 a3 h3 a4 h4 a5 h5 a6 h6 a7 h7 c0 c1 x0 x1 x2 p q = plus q (colSum (lossOf x0 x1 x2)) := by
  unfold out0_B_6
  rw [View.read_writes_eq_canon _ _ _ (cover0_B_6 c i a1 h1 a2 h2 a3 h3 a4 h4 a5 h5 a6 h6 a7 h7 c0 c1 x0 x1 x2 p q)]
  unfold kernelRun0_B
  dsimp only
  sl_unfold_words
  rw [View.canon_unit_zero hz]
  simp only [View.readAt_eq_ld, h1.read_unread, h2.read_unread, h3.read_unread, h7.read_unread, View.ld_unit_zero (S := S256x2048) hz,
    View.ld_unit_zero (S := S1x2048) hz]
  unfold k0_pay2
  rw [shapeCast_self, loss_eq]
  rfl

end Later

end Point

/-! ## The arrays after the run -/

variable (m : (ℓ : Loc nD τ sig) → Buf (Elt Ideal) ℓ) (c : Dev nD)

/-- The gradient of the norm's input. -/
def dh : Mat 4096 2048 := dhOf (m (c.tc.loc main_arg0)) (m (c.tc.loc main_arg1)) (m (c.tc.loc main_arg2))
/-- The terms of the gain's gradient. -/
def terms : Mat 4096 2048 := gainOf (m (c.tc.loc main_arg0)) (m (c.tc.loc main_arg1)) (m (c.tc.loc main_arg2))
/-- The terms of the loss. -/
def losses : Mat 4096 2048 := lossOf (m (c.tc.loc main_arg0)) (m (c.tc.loc main_arg1)) (m (c.tc.loc main_arg2))

/-- Which block of each array a point takes. -/
theorem idx : ∀ t : Fin cfg0.N,
    (win0_0.index t 0 = t.val ∧ win0_0.index t 1 = 0) ∧ (win0_1.index t 0 = 0 ∧ win0_1.index t 1 = 0)
    ∧ (win0_2.index t 0 = t.val ∧ win0_2.index t 1 = 0)
    ∧ (win0_3.index t 0 = t.val ∧ win0_3.index t 1 = 0) ∧ (win0_4.index t 0 = t.val ∧ win0_4.index t 1 = 0)
    ∧ (win0_5.index t 0 = 0 ∧ win0_5.index t 1 = 0) ∧ (win0_6.index t 0 = 0 ∧ win0_6.index t 1 = 0) :=
  (by decide +kernel : ∀ t : Fin grid0.N, _)
/-- A point's rows lie inside the arrays. -/
theorem inside {n : ℕ} (h : n < cfg0.N) : n * 256 + 256 ≤ 4096 := by
  have hN : cfg0.N = 16 := N_0
  omega

/-- A point's rows of the input, the gain and the target. -/
theorem block0 (t : Fin cfg0.N) : iblk m c 0 t = rowsOf (rowAt (M' := 256) t.val (inside t.isLt)) (m (c.tc.loc main_arg0)) :=
  block_rows (m (c.tc.loc main_arg0)) _ (within win0_0 t) t.val _ (idx t).1.1 (idx t).1.2
theorem block1 (t : Fin cfg0.N) : iblk m c 1 t = m (c.tc.loc main_arg1) :=
  block_whole (m (c.tc.loc main_arg1)) _ (within win0_1 t) (idx t).2.1.1 (idx t).2.1.2
theorem block2 (t : Fin cfg0.N) : iblk m c 2 t = rowsOf (rowAt (M' := 256) t.val (inside t.isLt)) (m (c.tc.loc main_arg2)) :=
  block_rows (m (c.tc.loc main_arg2)) _ (within win0_2 t) t.val _ (idx t).2.2.1.1 (idx t).2.2.1.2

/-- What the outputs hold after point `n`: its rows of the gradient, and the column sums over the rows so far. -/
theorem held : ∀ (n : ℕ) (h : n < cfg0.N), outsAt0 m c n h
    = (rowsOf (rowAt (M' := 256) n (inside h)) (dh m c), rowsOf (rowAt (M' := 256) n (inside h)) (dh m c),
      part (terms m c) ((n + 1) * 256), part (losses m c) ((n + 1) * 256))
  | 0, h => by
    refine (outsAt0_A m c ⟨0, h⟩ rfl (by simp)).trans ?_
    rw [first3, first4, first5, first6, block0, block1, block2]
    rw [Nat.zero_add, Nat.one_mul, ← part_first (terms m c) (inside h), ← part_first (losses m c) (inside h)]
    rfl
  | n + 1, h => by
    have hN : cfg0.N = 16 := N_0
    have hB : ¬(⟨n + 1, h⟩ : Fin cfg0.N).val % 16 = 0 := by dsimp only; omega
    refine (outsAt0_B m c ⟨n + 1, h⟩ hB (by simp)).trans ?_
    rw [later3, later4, later5, later6, block0, block1, block2]
    rw [← part_step (terms m c) (n + 1) (inside h), ← part_step (losses m c) (n + 1) (inside h)]
    show (_, _, plus (outsAt0 m c n _).2.2.1 _, plus (outsAt0 m c n _).2.2.2 _) = _
    rw [held n]
    rfl

/-- The last point. -/
theorem last {t : Fin cfg0.N} (h : t.val % 16 = 15) : (t.val + 1) * 256 = 4096 := by
  have hN : cfg0.N = 16 := N_0
  have := t.isLt
  omega

theorem final3 : (dats m 0 c).arrAt 3 cfg0.N = dh m c := by
  refine (dats m 0 c).arrAt_eq_of_cover 3 _ (fun t _ => ?_) ((by decide +kernel : (cfg0.win 3).Covers).cover _ (Memref.isWhole_whole _))
  rw [Value.flushed3, held]
  exact (block_rows (M' := 256) (dh m c) _ (within win0_3 t) t.val _ (idx t).2.2.2.1.1 (idx t).2.2.2.1.2).symm
theorem final4 : (dats m 0 c).arrAt 4 cfg0.N = dh m c := by
  refine (dats m 0 c).arrAt_eq_of_cover 4 _ (fun t _ => ?_) ((by decide +kernel : (cfg0.win 4).Covers).cover _ (Memref.isWhole_whole _))
  rw [Value.flushed4, held]
  exact (block_rows (M' := 256) (dh m c) _ (within win0_4 t) t.val _ (idx t).2.2.2.2.1.1 (idx t).2.2.2.2.1.2).symm
theorem final5 : (dats m 0 c).arrAt 5 cfg0.N = colSum (terms m c) := by
  refine (dats m 0 c).arrAt_eq_of_cover 5 _ (fun t ht => ?_) ((by decide +kernel : (cfg0.win 5).Covers).cover _ (Memref.isWhole_whole _))
  rw [Value.flushed5, held]
  dsimp only
  rw [last ((flush0_5 t).mp ht), part_all]
  exact (block_whole (colSum (terms m c)) _ (within win0_5 t) (idx t).2.2.2.2.2.1.1 (idx t).2.2.2.2.2.1.2).symm
theorem final6 : (dats m 0 c).arrAt 6 cfg0.N = colSum (losses m c) := by
  refine (dats m 0 c).arrAt_eq_of_cover 6 _ (fun t ht => ?_) ((by decide +kernel : (cfg0.win 6).Covers).cover _ (Memref.isWhole_whole _))
  rw [Value.flushed6, held]
  dsimp only
  rw [last ((flush0_6 t).mp ht), part_all]
  exact (block_whole (colSum (losses m c)) _ (within win0_6 t) (idx t).2.2.2.2.2.2.1 (idx t).2.2.2.2.2.2.2).symm

end Cert.FinalLossIdeal.Product

namespace Cert.Proof

open Idealize.ShloMosaic Idealize.ShloMosaic.TcCoe Idealize.SL.Sem Cert.Products Cert.Norms

/-- The kernel computes what its reference does. -/
theorem algebraic_final_loss : Cert.algebraic_FinalLossIdeal_FinalLossRefIdeal := by
  intro m ρ m' ρ' _ hagree
  refine ⟨fun c => Cert.FinalLossIdeal.Product.dh m c, fun c => Cert.FinalLossIdeal.Product.dh m c,
    fun c => colSum (Cert.FinalLossIdeal.Product.terms m c), fun c => colSum (Cert.FinalLossIdeal.Product.losses m c), ?_, ?_⟩
  · refine (θ_run _ _ _).mono (fun r h c => ?_) (Cert.FinalLossIdeal.Value.run_blocks (F := Ideal) m ρ)
    exact ⟨(h c).1.trans (Cert.FinalLossIdeal.Product.final3 m c), (h c).2.1.trans (Cert.FinalLossIdeal.Product.final4 m c),
      (h c).2.2.1.trans (Cert.FinalLossIdeal.Product.final5 m c), (h c).2.2.2.1.trans (Cert.FinalLossIdeal.Product.final6 m c), (h c).2.2.2.2⟩
  · refine (θ_run _ _ _).mono (fun r h c => ?_) (Cert.FinalLossRefIdeal.Value.run (F := Ideal) m' ρ')
    obtain ⟨e0, e1, e2⟩ := hagree c
    have hdh : Cert.FinalLossRefIdeal.Value.res_main_v51 (F := Ideal) m' c = Cert.FinalLossIdeal.Product.dh m c := by
      unfold Cert.FinalLossRefIdeal.Value.res_main_v51
      rw [e0, e1, e2, host_meanSq, host_normed, host_row _ (by decide), Cert.FinalLossIdeal.Product.host_dy]
      exact host_normGrad _ _ _ _ _ _ _ _ _ _
    refine ⟨(h c).1.trans hdh, (h c).2.1.trans ?_, (h c).2.2.1.trans ?_, (h c).2.2.2.1.trans ?_, (h c).2.2.2.2⟩ <;> clear h
    · exact hdh
    · rw [e0, e1, e2, host_meanSq, host_normed, host_row _ (by decide), Cert.FinalLossIdeal.Product.host_dy, host_colSum, cast_row]
      exact funext fun i => Finset.sum_congr rfl fun k _ => mul_comm _ _
    · rw [e0, e1, e2, host_meanSq, host_normed, host_row _ (by decide)]
      exact Cert.FinalLossIdeal.Product.host_loss _ _ _ _ _ _ _ _

/-- The reference runs, keeps its arguments and leaves no semaphore raised. -/
theorem frame_final_loss_ref : Cert.quiescent_FinalLossRefIdeal := fun m ρ _ =>
  (θ_run _ _ _).mono (fun r h => ⟨fun c => (h c).2.2.2.2, sem_eq_zero_of_no_sems (by decide) r.2⟩)
    (Cert.FinalLossRefIdeal.Value.run (F := Ideal) m ρ)

end Cert.Proof

end
-- ==== Proof.Pairs.lean ====
/- The two rows of a pair of gains: read out of it, put into it, and added up over blocks of rows. -/
module

public import proofs.«01_k».proof.Proof.Norms
public import Idealize.ShloMosaic.Lib.Pipeline.ValueKit.Tiles

@[expose] public section

noncomputable section

namespace Cert.Norms

open Idealize.ShloMosaic hiding ix1 ix2
open Idealize.ShloMosaic.ValueIdx Cert.Products
open scoped BigOperators

variable {M N M' : ℕ}

/-- One row of a matrix. -/
def rowOf (k : Fin M) (A : Mat M N) : Mat 1 N := fun i => A (ix2 k (i 1))
/-- Two rows, one above the other. -/
def stack (a b : Mat 1 N) : Mat 2 N := fun i => if (i 0).val = 0 then a (ix2 0 (i 1)) else b (ix2 0 (i 1))

/-- A row read from a staging buffer. -/
theorem ld_row (k : ℕ) (hk : k < M) (A : (⟨2, ![M, N]⟩ : Shape).Idx → EReal)
    (inb : ∀ a, (![k, 0] : Fin 2 → ℕ) a + (![1, N] : Fin 2 → ℕ) a ≤ (⟨2, ![M, N]⟩ : Shape).size a) :
    View.ld (Val := Elt Ideal) (e' := .f32) A (Rect.unit ![k, 0] ![1, N] inb) = rowOf ⟨k, hk⟩ A :=
  funext fun i => View.ld_unit_apply_of (Val := Elt Ideal) (S := ⟨2, ![M, N]⟩) (e := .f32) A _ _ inb _ (ix2 ⟨k, hk⟩ (i 1)) fun a =>
    match a with
    | ⟨0, _⟩ => by
      have h : (i 0).val < 1 := (i 0).isLt
      show k = k + (i 0).val
      omega
    | ⟨1, _⟩ => (Nat.zero_add _).symm
/-- A row cut out, as the references print it. -/
theorem slice_row (k : ℕ) (hk : k < M) (A : Mat M N) (h : (⟨2, ![M, N]⟩ : Shape).Slices ![k, 0] ⟨2, ![1, N]⟩) :
    extractStridedSlice ⟨2, ![1, N]⟩ ![k, 0] A h = rowOf ⟨k, hk⟩ A :=
  funext fun i => extractStridedSlice_apply _ A h i (ix2 ⟨k, hk⟩ (i 1)) fun a => match a with
    | ⟨0, _⟩ => by
      have h : (i 0).val < 1 := (i 0).isLt
      show k = k + (i 0).val
      omega
    | ⟨1, _⟩ => (Nat.zero_add _).symm
/-- Two rows laid end to end. -/
theorem concat_rows (a b : Mat 1 N) (h : Shape.Concatenates [⟨2, ![1, N]⟩, ⟨2, ![1, N]⟩] ⟨2, ![2, N]⟩ 0) :
    concatenate (⟨2, ![2, N]⟩ : Shape) 0 [⟨⟨2, ![1, N]⟩, a⟩, ⟨⟨2, ![1, N]⟩, b⟩] h = stack a b := by
  funext j
  unfold stack
  have hj : (j 0).val < 2 := (j 0).isLt
  split
  · next e =>
    refine concatenate_pair_apply_left 0 a b h j rfl (ix2 0 (j 1)) fun c => ?_
    fin_cases c
    · exact e.symm
    · rfl
  · next e =>
    refine concatenate_pair_apply_right 0 a b h j rfl rfl (ix2 0 (j 1)) (fun c hc => ?_) ?_
    · fin_cases c
      · exact absurd rfl hc
      · rfl
    · show 0 + 1 = (j 0).val
      omega
/-- Pairs of rows are added row by row. -/
theorem plus_stack (a b c d : Mat 1 N) : plus (stack a b) (stack c d) = stack (plus a c) (plus b d) := by
  funext i
  unfold stack plus
  dsimp only
  split <;> rfl

end Cert.Norms

end
-- ==== Proof.NormPair.lean ====
/- The norm before the attention: every row over the root of its mean square, times either gain. -/
module

public import proofs.«01_k».proof.Proof.Gen.NormPairIdeal.Value
public import proofs.«01_k».proof.Proof.Gen.NormPairRefIdeal.Run
public import proofs.«01_k».proof.Proof.Pairs
public import proofs.«01_k».proof.Defs

@[expose] public section

set_option maxRecDepth 16384

noncomputable section

namespace Cert.NormPairIdeal.Product

open Cert.NormPairIdeal Cert.NormPairIdeal.Gen Cert.Products Cert.Norms
open Idealize.ShloMosaic Idealize.ShloMosaic.TcCoe Idealize.ShloMosaic.ValueIdx Idealize.SL.Sem

variable (m : (ℓ : Loc nD τ sig) → Buf (Elt Ideal) ℓ) (c : Dev nD)

/-- Normed rows times one of the gains. -/
def scaled {M : ℕ} (k : Fin 2) (x : Mat M 2048) (g : Mat 2 2048) : Mat M 2048 := times (normed x) (ofRow (rowOf k g))
/-- The normed rows times one of the gains. -/
def result (k : Fin 2) : Mat 4096 2048 := scaled k (m (c.tc.loc main_arg0)) (m (c.tc.loc main_arg1))

/-- Which block of each operand a point reads. -/
theorem idx : ∀ t : Fin cfg0.N,
    (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0) ∧ t.val * 256 + 256 ≤ 4096 :=
  (by decide +kernel : ∀ t : Fin grid0.N, _)

/-- What a point leaves. -/
theorem normed_eq (x0 : Vec Ideal S256x2048 .f32) : k0_pay1 (F := Ideal) x0 = normed x0 := by
  unfold k0_pay1
  dsimp only
  rw [kernel_rms]
  exact kernel_normed _ _
theorem out2_eq (x0 : Vec Ideal S256x2048 .f32) (x1 : Vec Ideal S2x2048 .f32) : out0_2 x0 x1 = scaled 0 x0 x1 := by
  unfold out0_2 k0_pay2
  dsimp only
  rw [View.canon_unit_zero hz, View.ld_unit_zero hz, ld_row 0 (by decide), normed_eq, kernel_row _ (by decide)]
  rfl
theorem out3_eq (x0 : Vec Ideal S256x2048 .f32) (x1 : Vec Ideal S2x2048 .f32) : out0_3 x0 x1 = scaled 1 x0 x1 := by
  unfold out0_3 k0_pay3
  dsimp only
  rw [View.canon_unit_zero hz, View.ld_unit_zero hz, ld_row 1 (by decide), normed_eq, kernel_row _ (by decide)]
  rfl

/-- The arrays after the run. -/
theorem final2 : (dats m 0 c).arrAt 2 cfg0.N = result m c 0 := by
  refine (dats m 0 c).arrAt_eq_of_cover 2 _ (fun t _ => ?_) ((by decide +kernel : (cfg0.win 2).Covers).cover _ (Memref.isWhole_whole _))
  obtain ⟨⟨a0, a1⟩, ⟨b0, b1⟩, ⟨e0, e1⟩, _, hn⟩ := idx t
  rw [Value.flushed2, out2_eq]
  have p0 := block_rows (M' := 256) (m (c.tc.loc main_arg0)) _ (within win0_0 t) t.val hn a0 a1
  have p1 := block_whole (m (c.tc.loc main_arg1)) _ (within win0_1 t) b0 b1
  have p2 := block_rows (M' := 256) (result m c 0) _ (within win0_2 t) t.val hn e0 e1
  exact (congrArg₂ (fun (P : Mat 256 2048) (Q : Mat 2 2048) => scaled 0 P Q) p0 p1).trans p2.symm
theorem final3 : (dats m 0 c).arrAt 3 cfg0.N = result m c 1 := by
  refine (dats m 0 c).arrAt_eq_of_cover 3 _ (fun t _ => ?_) ((by decide +kernel : (cfg0.win 3).Covers).cover _ (Memref.isWhole_whole _))
  obtain ⟨⟨a0, a1⟩, ⟨b0, b1⟩, _, ⟨e0, e1⟩, hn⟩ := idx t
  rw [Value.flushed3, out3_eq]
  have p0 := block_rows (M' := 256) (m (c.tc.loc main_arg0)) _ (within win0_0 t) t.val hn a0 a1
  have p1 := block_whole (m (c.tc.loc main_arg1)) _ (within win0_1 t) b0 b1
  have p2 := block_rows (M' := 256) (result m c 1) _ (within win0_3 t) t.val hn e0 e1
  exact (congrArg₂ (fun (P : Mat 256 2048) (Q : Mat 2 2048) => scaled 1 P Q) p0 p1).trans p2.symm

end Cert.NormPairIdeal.Product

namespace Cert.Proof

open Idealize.ShloMosaic Idealize.ShloMosaic.TcCoe Idealize.SL.Sem Cert.Products Cert.Norms

/-- The kernel computes what its reference does. -/
theorem algebraic_norm_pair : Cert.algebraic_NormPairIdeal_NormPairRefIdeal := by
  intro m ρ m' ρ' _ hagree
  refine ⟨fun c => Cert.NormPairIdeal.Product.result m c 0, fun c => Cert.NormPairIdeal.Product.result m c 1, ?_, ?_⟩
  · refine (θ_run _ _ _).mono (fun r h c => ?_) (Cert.NormPairIdeal.Value.run_blocks (F := Ideal) m ρ)
    exact ⟨(h c).1.trans (Cert.NormPairIdeal.Product.final2 m c), (h c).2.1.trans (Cert.NormPairIdeal.Product.final3 m c), (h c).2.2⟩
  · refine (θ_run _ _ _).mono (fun r h c => ?_) (Cert.NormPairRefIdeal.Value.run (F := Ideal) m' ρ')
    obtain ⟨e0, e1⟩ := hagree c
    refine ⟨(h c).1.trans ?_, (h c).2.1.trans ?_, (h c).2.2⟩ <;> clear h
    · rw [e0, e1, host_meanSq, host_normed, slice_row 0 (by decide), host_row _ (by decide)]
      rfl
    · rw [e0, e1, host_meanSq, host_normed, slice_row 1 (by decide), host_row _ (by decide)]
      rfl

/-- The reference runs, keeps its arguments and leaves no semaphore raised. -/
theorem frame_norm_pair_ref : Cert.quiescent_NormPairRefIdeal := fun m ρ _ =>
  (θ_run _ _ _).mono (fun r h => ⟨fun c => (h c).2.2, sem_eq_zero_of_no_sems (by decide) r.2⟩)
    (Cert.NormPairRefIdeal.Value.run (F := Ideal) m ρ)

end Cert.Proof

end
-- ==== Proof.NormPairBwd.lean ====
/- The gradient of the norm with two gains: its input's gradient on top of the residual one, the gains', and the column sums. -/
module

public import proofs.«01_k».proof.Proof.Gen.NormPairBwdIdeal.Value
public import proofs.«01_k».proof.Proof.Gen.NormPairBwdRefIdeal.Run
public import proofs.«01_k».proof.Proof.Pairs
public import proofs.«01_k».proof.Defs
public import Idealize.ShloMosaic.Lib.Tactic

@[expose] public section

set_option maxRecDepth 16384

noncomputable section

namespace Cert.NormPairBwdIdeal.Product

open Cert.NormPairBwdIdeal Cert.NormPairBwdIdeal.Gen Cert.Products Cert.Norms
open Idealize.ShloMosaic hiding ix1 ix2
open Idealize.ShloMosaic.TcCoe Idealize.ShloMosaic.ValueIdx Idealize.SL.Sem

/-! ## What a point computes -/

section Point

variable (x0 : Vec Ideal S256x2048 .f32) (x1 : Vec Ideal S2x2048 .f32) (x2 : Vec Ideal S256x2048 .f32) (x3 x4 : Vec Ideal S256x2048 .bf16)
  (g g' : Vec Ideal S1x2048 .f32)

/-- The gradient of rows through one gain. -/
def through {M : ℕ} (x : Mat M 2048) (g : Mat 1 2048) (dn : Mat M 2048) : Mat M 2048 := normGrad x (times dn (ofRow g))
/-- The gradient of rows, with the residual one. -/
def dxOf {M : ℕ} (x : Mat M 2048) (g : Mat 2 2048) (dres dn dn' : Mat M 2048) : Mat M 2048 :=
  plus (plus dres (through x (rowOf 0 g) dn)) (through x (rowOf 1 g) dn')

theorem rms_eq : k0_pay7 (F := Ideal) x0 = fun i => rms x0 (i 0) := by
  unfold k0_pay7
  dsimp only
  rw [kernel_rms]
theorem normed_eq : k0_pay8 (F := Ideal) x0 = normed x0 := by
  unfold k0_pay8
  dsimp only
  rw [rms_eq]
  exact kernel_normed _ _
theorem first_gain : k0_pay10 (F := Ideal) x0 x3 = colSum (times x3 (normed x0)) := by
  unfold k0_pay10 k0_pay9
  dsimp only
  rw [normed_eq, kernel_colSum]
  rfl
theorem second_gain : k0_pay14 (F := Ideal) x0 x4 = colSum (times x4 (normed x0)) := by
  unfold k0_pay14 k0_pay12
  dsimp only
  rw [normed_eq, kernel_colSum]
  rfl
theorem gains_eq : k0_pay3 (F := Ideal) (k0_pay10 x0 x3) (k0_pay14 x0 x4) = stack (colSum (times x3 (normed x0))) (colSum (times x4 (normed x0))) := by
  unfold k0_pay3
  dsimp only
  rw [first_gain, second_gain]
  exact concat_rows _ _ _
theorem first_eq : k0_pay11 (F := Ideal) x0 x2 x3 g = plus x2 (through x0 g x3) := by
  unfold k0_pay11 k0_pay9
  dsimp only
  rw [normed_eq, rms_eq, kernel_row _ (by decide)]
  exact congrArg (plus x2) (kernel_normGrad x0 (times x3 (ofRow g)) _ _ _ _ _)
theorem both_eq : k0_pay1 (F := Ideal) (k0_pay7 x0) (k0_pay8 x0) (k0_pay11 x0 x2 x3 g) (k0_pay13 x4 g') (k0_pay15 x0 x4 g')
    = plus (plus x2 (through x0 g x3)) (through x0 g' x4) := by
  unfold k0_pay1 k0_pay15 k0_pay13 k0_pay12
  dsimp only
  rw [first_eq, normed_eq, rms_eq, kernel_row _ (by decide)]
  exact congrArg (plus _) (kernel_normGrad x0 (times x4 (ofRow g')) _ _ _ _ _)
theorem sums_eq : k0_pay4 (F := Ideal) (k0_pay7 x0) (k0_pay8 x0) (k0_pay11 x0 x2 x3 g) (k0_pay13 x4 g') (k0_pay15 x0 x4 g')
    = colSum (plus (plus x2 (through x0 g x3)) (through x0 g' x4)) := by
  unfold k0_pay4
  dsimp only
  rw [both_eq, kernel_colSum]

/-! ## What a point leaves -/

variable (c : Dev nD) (i : grid0.Coords) (a1 : Memref sig .tc .vmem S256x2048 .f32) (h1 : a1.IsWhole)
  (a2 : Memref sig .tc .vmem S2x2048 .f32) (h2 : a2.IsWhole) (a3 : Memref sig .tc .vmem S256x2048 .f32) (h3 : a3.IsWhole)
  (a4 : Memref sig .tc .vmem S256x2048 .bf16) (h4 : a4.IsWhole) (a5 : Memref sig .tc .vmem S256x2048 .bf16) (h5 : a5.IsWhole)
  (a6 : Memref sig .tc .vmem S256x2048 .f32) (h6 : a6.IsWhole) (a7 : Memref sig .tc .vmem S256x2048 .bf16) (h7 : a7.IsWhole)
  (a8 : Memref sig .tc .vmem S2x2048 .f32) (h8 : a8.IsWhole) (a9 : Memref sig .tc .vmem S1x2048 .f32) (h9 : a9.IsWhole)

section First

variable (c0 : cond0_0 i) (c1 : ¬cond0_1 i)

theorem first5 : out0_A_5 (F := Ideal) c i a1 h1 a2 h2 a3 h3 a4 h4 a5 h5 a6 h6 a7 h7 a8 h8 a9 h9 c0 c1 x0 x1 x2 x3 x4 = dxOf x0 x1 x2 x3 x4 := by
  unfold out0_A_5
  rw [View.read_writes_eq_canon _ _ _ (cover0_A_5 c i a1 h1 a2 h2 a3 h3 a4 h4 a5 h5 a6 h6 a7 h7 a8 h8 a9 h9 c0 c1 x0 x1 x2 x3 x4)]
  unfold kernelRun0_A
  dsimp only
  sl_unfold_words
  rw [View.canon_unit_zero hz]
  simp only [View.readAt_eq_ld, h1.read_unread, h2.read_unread, h3.read_unread, h4.read_unread, h5.read_unread,
    View.ld_unit_zero (S := S256x2048) hz, View.ld_unit_zero (S := S2x2048) hz, View.ld_unit_zero (S := S1x2048) hz]
  rw [ld_row 0 (by decide), ld_row 1 (by decide)]
  exact both_eq _ _ _ _ _ _
theorem first6 : out0_A_6 (F := Ideal) c i a1 h1 a2 h2 a3 h3 a4 h4 a5 h5 a6 h6 a7 h7 a8 h8 a9 h9 c0 c1 x0 x1 x2 x3 x4 = dxOf x0 x1 x2 x3 x4 := by
  unfold out0_A_6
  rw [View.read_writes_eq_canon _ _ _ (cover0_A_6 c i a1 h1 a2 h2 a3 h3 a4 h4 a5 h5 a6 h6 a7 h7 a8 h8 a9 h9 c0 c1 x0 x1 x2 x3 x4)]
  unfold kernelRun0_A
  dsimp only
  sl_unfold_words
  rw [View.canon_unit_zero hz]
  simp only [View.readAt_eq_ld, h1.read_unread, h2.read_unread, h3.read_unread, h4.read_unread, h5.read_unread,
    View.ld_unit_zero (S := S256x2048) hz, View.ld_unit_zero (S := S2x2048) hz, View.ld_unit_zero (S := S1x2048) hz]
  rw [ld_row 0 (by decide), ld_row 1 (by decide)]
  exact both_eq _ _ _ _ _ _
theorem first7 : out0_A_7 (F := Ideal) c i a1 h1 a2 h2 a3 h3 a4 h4 a5 h5 a6 h6 a7 h7 a8 h8 a9 h9 c0 c1 x0 x1 x2 x3 x4 = stack (colSum (times x3 (normed x0))) (colSum (times x4 (normed x0))) := by
  unfold out0_A_7
  rw [View.read_writes_eq_canon _ _ _ (cover0_A_7 c i a1 h1 a2 h2 a3 h3 a4 h4 a5 h5 a6 h6 a7 h7 a8 h8 a9 h9 c0 c1 x0 x1 x2 x3 x4)]
  unfold kernelRun0_A
  dsimp only
  sl_unfold_words
  rw [View.canon_unit_zero hz]
  simp only [View.readAt_eq_ld, h1.read_unread, h2.read_unread, h3.read_unread, h4.read_unread, h5.read_unread,
    View.ld_unit_zero (S := S256x2048) hz, View.ld_unit_zero (S := S2x2048) hz, View.ld_unit_zero (S := S1x2048) hz]
  exact gains_eq _ _ _
theorem first8 : out0_A_8 (F := Ideal) c i a1 h1 a2 h2 a3 h3 a4 h4 a5 h5 a6 h6 a7 h7 a8 h8 a9 h9 c0 c1 x0 x1 x2 x3 x4 = colSum (dxOf x0 x1 x2 x3 x4) := by
  unfold out0_A_8
  rw [View.read_writes_eq_canon _ _ _ (cover0_A_8 c i a1 h1 a2 h2 a3 h3 a4 h4 a5 h5 a6 h6 a7 h7 a8 h8 a9 h9 c0 c1 x0 x1 x2 x3 x4)]
  unfold kernelRun0_A
  dsimp only
  sl_unfold_words
  rw [View.canon_unit_zero hz]
  simp only [View.readAt_eq_ld, h1.read_unread, h2.read_unread, h3.read_unread, h4.read_unread, h5.read_unread,
    View.ld_unit_zero (S := S256x2048) hz, View.ld_unit_zero (S := S2x2048) hz, View.ld_unit_zero (S := S1x2048) hz]
  rw [ld_row 0 (by decide), ld_row 1 (by decide)]
  exact sums_eq _ _ _ _ _ _

end First

section Later

variable (c0 : ¬cond0_0 i) (c1 : cond0_1 i) (p : Vec Ideal S2x2048 .f32) (q : Vec Ideal S1x2048 .f32)

theorem later5 : out0_B_5 (F := Ideal) c i a1 h1 a2 h2 a3 h3 a4 h4 a5 h5 a6 h6 a7 h7 a8 h8 a9 h9 c0 c1 x0 x1 x2 x3 x4 p q = dxOf x0 x1 x2 x3 x4 := by
  unfold out0_B_5
  rw [View.read_writes_eq_canon _ _ _ (cover0_B_5 c i a1 h1 a2 h2 a3 h3 a4 h4 a5 h5 a6 h6 a7 h7 a8 h8 a9 h9 c0 c1 x0 x1 x2 x3 x4 p q)]
  unfold kernelRun0_B
  dsimp only
  sl_unfold_words
  rw [View.canon_unit_zero hz]
  simp only [View.readAt_eq_ld, h1.read_unread, h2.read_unread, h3.read_unread, h4.read_unread, h5.read_unread,
    View.ld_unit_zero (S := S256x2048) hz, View.ld_unit_zero (S := S2x2048) hz, View.ld_unit_zero (S := S1x2048) hz]
  rw [ld_row 0 (by decide), ld_row 1 (by decide)]
  exact both_eq _ _ _ _ _ _
theorem later6 : out0_B_6 (F := Ideal) c i a1 h1 a2 h2 a3 h3 a4 h4 a5 h5 a6 h6 a7 h7 a8 h8 a9 h9 c0 c1 x0 x1 x2 x3 x4 p q = dxOf x0 x1 x2 x3 x4 := by
  unfold out0_B_6
  rw [View.read_writes_eq_canon _ _ _ (cover0_B_6 c i a1 h1 a2 h2 a3 h3 a4 h4 a5 h5 a6 h6 a7 h7 a8 h8 a9 h9 c0 c1 x0 x1 x2 x3 x4 p q)]
  unfold kernelRun0_B
  dsimp only
  sl_unfold_words
  rw [View.canon_unit_zero hz]
  simp only [View.readAt_eq_ld, h1.read_unread, h2.read_unread, h3.read_unread, h4.read_unread, h5.read_unread,
    View.ld_unit_zero (S := S256x2048) hz, View.ld_unit_zero (S := S2x2048) hz, View.ld_unit_zero (S := S1x2048) hz]
  rw [ld_row 0 (by decide), ld_row 1 (by decide)]
  exact both_eq _ _ _ _ _ _
theorem later7 : out0_B_7 (F := Ideal) c i a1 h1 a2 h2 a3 h3 a4 h4 a5 h5 a6 h6 a7 h7 a8 h8 a9 h9 c0 c1 x0 x1 x2 x3 x4 p q = plus p (stack (colSum (times x3 (normed x0))) (colSum (times x4 (normed x0)))) := by
  unfold out0_B_7
  rw [View.read_writes_eq_canon _ _ _ (cover0_B_7 c i a1 h1 a2 h2 a3 h3 a4 h4 a5 h5 a6 h6 a7 h7 a8 h8 a9 h9 c0 c1 x0 x1 x2 x3 x4 p q)]
  unfold kernelRun0_B
  dsimp only
  sl_unfold_words
  rw [View.canon_unit_zero hz]
  simp only [View.readAt_eq_ld, h1.read_unread, h2.read_unread, h3.read_unread, h4.read_unread, h5.read_unread, h8.read_unread,
    View.ld_unit_zero (S := S256x2048) hz, View.ld_unit_zero (S := S2x2048) hz, View.ld_unit_zero (S := S1x2048) hz]
  unfold k0_pay5
  rw [shapeCast_self, gains_eq]
  rfl
theorem later8 : out0_B_8 (F := Ideal) c i a1 h1 a2 h2 a3 h3 a4 h4 a5 h5 a6 h6 a7 h7 a8 h8 a9 h9 c0 c1 x0 x1 x2 x3 x4 p q = plus q (colSum (dxOf x0 x1 x2 x3 x4)) := by
  unfold out0_B_8
  rw [View.read_writes_eq_canon _ _ _ (cover0_B_8 c i a1 h1 a2 h2 a3 h3 a4 h4 a5 h5 a6 h6 a7 h7 a8 h8 a9 h9 c0 c1 x0 x1 x2 x3 x4 p q)]
  unfold kernelRun0_B
  dsimp only
  sl_unfold_words
  rw [View.canon_unit_zero hz]
  simp only [View.readAt_eq_ld, h1.read_unread, h2.read_unread, h3.read_unread, h4.read_unread, h5.read_unread, h9.read_unread,
    View.ld_unit_zero (S := S256x2048) hz, View.ld_unit_zero (S := S2x2048) hz, View.ld_unit_zero (S := S1x2048) hz]
  rw [ld_row 0 (by decide), ld_row 1 (by decide)]
  unfold k0_pay6
  rw [shapeCast_self, sums_eq]
  rfl

end Later

end Point

/-! ## The arrays after the run -/

variable (m : (ℓ : Loc nD τ sig) → Buf (Elt Ideal) ℓ) (c : Dev nD)

/-- The gradient of the norm's input, with the residual one. -/
def dx : Mat 4096 2048 :=
  dxOf (m (c.tc.loc main_arg0)) (m (c.tc.loc main_arg1)) (m (c.tc.loc main_arg4)) (m (c.tc.loc main_arg2)) (m (c.tc.loc main_arg3))
/-- The terms of either gain's gradient. -/
def terms : Mat 4096 2048 := times (m (c.tc.loc main_arg2)) (normed (m (c.tc.loc main_arg0)))
def terms' : Mat 4096 2048 := times (m (c.tc.loc main_arg3)) (normed (m (c.tc.loc main_arg0)))

/-- Which block of each array a point takes. -/
theorem idx : ∀ t : Fin cfg0.N,
    (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = 0 ∧ win0_7.index t 1 = 0)
    ∧ (win0_8.index t 0 = 0 ∧ win0_8.index t 1 = 0) :=
  (by decide +kernel : ∀ t : Fin grid0.N, _)
/-- A point's rows lie inside the arrays. -/
theorem inside {n : ℕ} (h : n < cfg0.N) : n * 256 + 256 ≤ 4096 := by
  have hN : cfg0.N = 16 := N_0
  omega

/-- A point's rows of the input, the gains, the residual gradient and the outputs' gradients. -/
theorem block0 (t : Fin cfg0.N) : iblk m c 0 t = rowsOf (rowAt (M' := 256) t.val (inside t.isLt)) (m (c.tc.loc main_arg0)) :=
  block_rows (m (c.tc.loc main_arg0)) _ (within win0_0 t) t.val _ (idx t).1.1 (idx t).1.2
theorem block1 (t : Fin cfg0.N) : iblk m c 1 t = m (c.tc.loc main_arg1) :=
  block_whole (m (c.tc.loc main_arg1)) _ (within win0_1 t) (idx t).2.1.1 (idx t).2.1.2
theorem block2 (t : Fin cfg0.N) : iblk m c 2 t = rowsOf (rowAt (M' := 256) t.val (inside t.isLt)) (m (c.tc.loc main_arg4)) :=
  block_rows (m (c.tc.loc main_arg4)) _ (within win0_2 t) t.val _ (idx t).2.2.1.1 (idx t).2.2.1.2
theorem block3 (t : Fin cfg0.N) : iblk m c 3 t = rowsOf (rowAt (M' := 256) t.val (inside t.isLt)) (m (c.tc.loc main_arg2)) :=
  block_rows (m (c.tc.loc main_arg2)) _ (within win0_3 t) t.val _ (idx t).2.2.2.1.1 (idx t).2.2.2.1.2
theorem block4 (t : Fin cfg0.N) : iblk m c 4 t = rowsOf (rowAt (M' := 256) t.val (inside t.isLt)) (m (c.tc.loc main_arg3)) :=
  block_rows (m (c.tc.loc main_arg3)) _ (within win0_4 t) t.val _ (idx t).2.2.2.2.1.1 (idx t).2.2.2.2.1.2

/-- What the outputs hold after point `n`: its rows of the gradient, and the column sums over the rows so far. -/
theorem held : ∀ (n : ℕ) (h : n < cfg0.N), outsAt0 m c n h
    = (rowsOf (rowAt (M' := 256) n (inside h)) (dx m c), rowsOf (rowAt (M' := 256) n (inside h)) (dx m c),
      stack (part (terms m c) ((n + 1) * 256)) (part (terms' m c) ((n + 1) * 256)), part (dx m c) ((n + 1) * 256))
  | 0, h => by
    refine (outsAt0_A m c ⟨0, h⟩ rfl (by simp)).trans ?_
    rw [first5, first6, first7, first8, block0, block1, block2, block3, block4]
    rw [Nat.zero_add, Nat.one_mul, ← part_first (terms m c) (inside h), ← part_first (terms' m c) (inside h), ← part_first (dx m c) (inside h)]
    rfl
  | n + 1, h => by
    have hN : cfg0.N = 16 := N_0
    have hB : ¬(⟨n + 1, h⟩ : Fin cfg0.N).val % 16 = 0 := by dsimp only; omega
    refine (outsAt0_B m c ⟨n + 1, h⟩ hB (by simp)).trans ?_
    rw [later5, later6, later7, later8, block0, block1, block2, block3, block4]
    rw [← part_step (terms m c) (n + 1) (inside h), ← part_step (terms' m c) (n + 1) (inside h), ← part_step (dx m c) (n + 1) (inside h),
      ← plus_stack]
    show (_, _, plus (outsAt0 m c n _).2.2.1 _, plus (outsAt0 m c n _).2.2.2 _) = _
    rw [held n]
    rfl

/-- The last point. -/
theorem last {t : Fin cfg0.N} (h : t.val % 16 = 15) : (t.val + 1) * 256 = 4096 := by
  have hN : cfg0.N = 16 := N_0
  have := t.isLt
  omega

theorem final5 : (dats m 0 c).arrAt 5 cfg0.N = dx m c := by
  refine (dats m 0 c).arrAt_eq_of_cover 5 _ (fun t _ => ?_) ((by decide +kernel : (cfg0.win 5).Covers).cover _ (Memref.isWhole_whole _))
  rw [Value.flushed5, held]
  exact (block_rows (M' := 256) (dx m c) _ (within win0_5 t) t.val _ (idx t).2.2.2.2.2.1.1 (idx t).2.2.2.2.2.1.2).symm
theorem final6 : (dats m 0 c).arrAt 6 cfg0.N = dx m c := by
  refine (dats m 0 c).arrAt_eq_of_cover 6 _ (fun t _ => ?_) ((by decide +kernel : (cfg0.win 6).Covers).cover _ (Memref.isWhole_whole _))
  rw [Value.flushed6, held]
  exact (block_rows (M' := 256) (dx m c) _ (within win0_6 t) t.val _ (idx t).2.2.2.2.2.2.1.1 (idx t).2.2.2.2.2.2.1.2).symm
theorem final7 : (dats m 0 c).arrAt 7 cfg0.N = stack (colSum (terms m c)) (colSum (terms' m c)) := by
  refine (dats m 0 c).arrAt_eq_of_cover 7 _ (fun t ht => ?_) ((by decide +kernel : (cfg0.win 7).Covers).cover _ (Memref.isWhole_whole _))
  rw [Value.flushed7, held]
  dsimp only
  rw [last ((flush0_7 t).mp ht), part_all, part_all]
  exact (block_whole (stack (colSum (terms m c)) (colSum (terms' m c))) _ (within win0_7 t) (idx t).2.2.2.2.2.2.2.1.1 (idx t).2.2.2.2.2.2.2.1.2).symm
theorem final8 : (dats m 0 c).arrAt 8 cfg0.N = colSum (dx m c) := by
  refine (dats m 0 c).arrAt_eq_of_cover 8 _ (fun t ht => ?_) ((by decide +kernel : (cfg0.win 8).Covers).cover _ (Memref.isWhole_whole _))
  rw [Value.flushed8, held]
  dsimp only
  rw [last ((flush0_8 t).mp ht), part_all]
  exact (block_whole (colSum (dx m c)) _ (within win0_8 t) (idx t).2.2.2.2.2.2.2.2.1 (idx t).2.2.2.2.2.2.2.2.2).symm

end Cert.NormPairBwdIdeal.Product

namespace Cert.Proof

open Idealize.ShloMosaic Idealize.ShloMosaic.TcCoe Idealize.SL.Sem Cert.Products Cert.Norms

/-- The kernel computes what its reference does. -/
theorem algebraic_norm_pair_bwd : Cert.algebraic_NormPairBwdIdeal_NormPairBwdRefIdeal := by
  intro m ρ m' ρ' _ hagree
  refine ⟨fun c => Cert.NormPairBwdIdeal.Product.dx m c, fun c => Cert.NormPairBwdIdeal.Product.dx m c,
    fun c => stack (colSum (Cert.NormPairBwdIdeal.Product.terms m c)) (colSum (Cert.NormPairBwdIdeal.Product.terms' m c)),
    fun c => colSum (Cert.NormPairBwdIdeal.Product.dx m c), ?_, ?_⟩
  · refine (θ_run _ _ _).mono (fun r h c => ?_) (Cert.NormPairBwdIdeal.Value.run_blocks (F := Ideal) m ρ)
    exact ⟨(h c).1.trans (Cert.NormPairBwdIdeal.Product.final5 m c), (h c).2.1.trans (Cert.NormPairBwdIdeal.Product.final6 m c),
      (h c).2.2.1.trans (Cert.NormPairBwdIdeal.Product.final7 m c), (h c).2.2.2.1.trans (Cert.NormPairBwdIdeal.Product.final8 m c), (h c).2.2.2.2⟩
  · refine (θ_run _ _ _).mono (fun r h c => ?_) (Cert.NormPairBwdRefIdeal.Value.run (F := Ideal) m' ρ')
    obtain ⟨e0, e1, e2, e3, e4⟩ := hagree c
    have hdx : Cert.NormPairBwdRefIdeal.Value.res_main_v73 (F := Ideal) m' c = Cert.NormPairBwdIdeal.Product.dx m c := by
      unfold Cert.NormPairBwdRefIdeal.Value.res_main_v73
      rw [e0, e1, e2, e3, e4, host_meanSq, slice_row 0 (by decide), slice_row 1 (by decide), host_row _ (by decide), host_row _ (by decide)]
      exact congrArg₂ plus (congrArg (plus _) (host_normGrad _ _ _ _ _ _ _ _ _ _)) (host_normGrad _ _ _ _ _ _ _ _ _ _)
    refine ⟨(h c).1.trans hdx, (h c).2.1.trans hdx, (h c).2.2.1.trans ?_, (h c).2.2.2.1.trans ?_, (h c).2.2.2.2⟩ <;> clear h
    · rw [e0, e2, e3, host_meanSq, host_normed, host_colSum, host_colSum, cast_row, cast_row]
      refine (concat_rows _ _ _).trans (congrArg₂ stack ?_ ?_)
      · exact funext fun i => Finset.sum_congr rfl fun k _ => mul_comm _ _
      · exact funext fun i => Finset.sum_congr rfl fun k _ => mul_comm _ _
    · refine Eq.trans ?_ (congrArg colSum hdx)
      unfold Cert.NormPairBwdRefIdeal.Value.res_main_v77 Cert.NormPairBwdRefIdeal.Value.res_main_v73
      rw [host_colSum, host_row1 _ (by decide)]
      rfl

/-- The reference runs, keeps its arguments and leaves no semaphore raised. -/
theorem frame_norm_pair_bwd_ref : Cert.quiescent_NormPairBwdRefIdeal := fun m ρ _ =>
  (θ_run _ _ _).mono (fun r h => ⟨fun c => (h c).2.2.2.2, sem_eq_zero_of_no_sems (by decide) r.2⟩)
    (Cert.NormPairBwdRefIdeal.Value.run (F := Ideal) m ρ)

end Cert.Proof

end
-- ==== Proof.Adam.lean ====
/- One optimiser step of one weight, entry by entry over the extended reals: the gradient summed over the devices, the two
   moments and the change of the weight, and the kernel's and the reference's spellings of them. -/
module

public import Idealize.ShloMosaic.Lib.Pointwise
public import Idealize.ShloMosaic.Lib.IdealHost
public import Idealize.ShloMosaic.Lib.Pipeline.Value
public import Idealize.ShloMosaic.Lib.Pipeline.ValueKit
public import Idealize.ShloMosaic.Lib.Pipeline.Covers
public import Idealize.ShloMosaic.Lib.ValueIdx
public import Idealize.ShloMosaic.Lib.StableHlo.Predicate
public import Idealize.ShloMosaic.Lib.Pipeline.ValueKit.Partial

@[expose] public section

noncomputable section

namespace Cert.Adam

open Idealize.ShloMosaic
open scoped BigOperators

/-- The gradient: the eight devices' contributions added, this device's replaced by its own gradient. -/
def grad (me : BitVec 32) (c : Fin 8 → EReal) (o : EReal) : EReal := ∑ k : Fin 8, if me = BitVec.ofNat 32 k.val then o else c k

/-- The first moment after the step. -/
def newM (g p : EReal) : EReal := Ideal.ofBits .f32 0x3F666666#32 * p + Ideal.ofBits .f32 0x3DCCCCCD#32 * g

/-- The second moment after the step. -/
def newV (g p : EReal) : EReal := Ideal.ofBits .f32 0x3F7FBE77#32 * p + Ideal.ofBits .f32 0x3A83126F#32 * (g * g)

/-- The change of the weight, from the weight and the two new moments. -/
def delta (w p q : EReal) : EReal :=
  Ideal.ofBits .f32 0xBA83126F#32 * (Ideal.div (Ideal.div p (Ideal.ofBits .f32 0x3F26BD02#32))
    (Ideal.sqrt (Ideal.div q (Ideal.ofBits .f32 0x3C231ACC#32)) + Ideal.ofBits .f32 0x322BCC77#32) + Ideal.ofBits .f32 0x3C23D70A#32 * w)

/-- A choice made on an equality of words, read at an entry. -/
theorem select_apply {s : Shape} (a b : BitVec 32) (x y : s.Idx → EReal) (j : s.Idx) :
    (Scalar.select (Scalar.cmpi .eq a b) x y : s.Idx → EReal) j = if a = b then x j else y j := by
  unfold Scalar.select Scalar.cmpi
  by_cases h : a = b
  · simp [h, IntOp.cmpi]
  · have e : (a == b) = false := beq_eq_false_iff_ne.2 h
    simp [h, e, IntOp.cmpi]

/-- Eight choices added from the left are the gradient. -/
theorem chain_apply {s : Shape} (me : BitVec 32) (o : s.Idx → EReal) (f : Fin 8 → s.Idx → EReal) (y : s.Idx) :
    (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32)
      (Scalar.select (Scalar.cmpi .eq me 0#32) o (f 0)) (Scalar.select (Scalar.cmpi .eq me 1#32) o (f 1)))
      (Scalar.select (Scalar.cmpi .eq me 2#32) o (f 2))) (Scalar.select (Scalar.cmpi .eq me 3#32) o (f 3)))
      (Scalar.select (Scalar.cmpi .eq me 4#32) o (f 4))) (Scalar.select (Scalar.cmpi .eq me 5#32) o (f 5)))
      (Scalar.select (Scalar.cmpi .eq me 6#32) o (f 6))) (Scalar.select (Scalar.cmpi .eq me 7#32) o (f 7))) y
      = grad me (fun k => f k y) (o y) := by
  unfold grad
  rw [Fin.sum_univ_eight]
  simp only [ValueIdx.addf_apply, select_apply]
  rfl

/-- One of the eight contributions, cut out and without its leading axis, at an entry. -/
theorem slab_apply {T C : ℕ} (x : (⟨3, ![8, T, C]⟩ : Shape).Idx → EReal) (k : Fin 8)
    (inb : ∀ a, (![k.val, 0, 0] : Fin 3 → ℕ) a + (![1, T, C] : Fin 3 → ℕ) a ≤ (⟨3, ![8, T, C]⟩ : Shape).size a)
    (hc : (⟨3, ![1, T, C]⟩ : Shape).ShapeCasts ⟨2, ![T, C]⟩) (y : (⟨2, ![T, C]⟩ : Shape).Idx) :
    shapeCast (⟨2, ![T, C]⟩ : Shape) (View.ld (Val := Elt Ideal) (e' := .f32) x (Rect.unit ![k.val, 0, 0] ![1, T, C] inb)) hc y
      = x (ix3 k ⟨y 0, (y 0).isLt⟩ ⟨y 1, (y 1).isLt⟩) := by
  refine (shapeCast_dropUnit_apply _ _ hc y).trans ?_
  refine View.ld_unit_apply_of (Val := Elt Ideal) (S := ⟨3, ![8, T, C]⟩) (e := .f32) x _ _ inb _ _ fun a => ?_
  fin_cases a
  · rfl
  · exact (Nat.zero_add _).symm
  · exact (Nat.zero_add _).symm

/-- Each of the eight contributions lies inside the block of contributions. -/
theorem slab_inb {T C : ℕ} (k : Fin 8) (a : Fin 3) :
    (![k.val, 0, 0] : Fin 3 → ℕ) a + (![1, T, C] : Fin 3 → ℕ) a ≤ (⟨3, ![8, T, C]⟩ : Shape).size a := by
  fin_cases a
  · show k.val + 1 ≤ 8; omega
  · exact (Nat.zero_add _).le
  · exact (Nat.zero_add _).le

/-- The kernel's sum over the devices at an entry of a block. -/
theorem kernel_sum {T C : ℕ} (me : BitVec 32) (x : (⟨3, ![8, T, C]⟩ : Shape).Idx → EReal) (o : (⟨2, ![T, C]⟩ : Shape).Idx → EReal)
    (hc : (⟨3, ![1, T, C]⟩ : Shape).ShapeCasts ⟨2, ![T, C]⟩) (y : (⟨2, ![T, C]⟩ : Shape).Idx) :
    let f : Fin 8 → (⟨2, ![T, C]⟩ : Shape).Idx → EReal := fun k =>
      shapeCast (⟨2, ![T, C]⟩ : Shape) (View.ld (Val := Elt Ideal) (e' := .f32) x (Rect.unit ![k.val, 0, 0] ![1, T, C] (slab_inb k))) hc
    (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32)
      (Scalar.select (Scalar.cmpi .eq me 0#32) o (f 0)) (Scalar.select (Scalar.cmpi .eq me 1#32) o (f 1)))
      (Scalar.select (Scalar.cmpi .eq me 2#32) o (f 2))) (Scalar.select (Scalar.cmpi .eq me 3#32) o (f 3)))
      (Scalar.select (Scalar.cmpi .eq me 4#32) o (f 4))) (Scalar.select (Scalar.cmpi .eq me 5#32) o (f 5)))
      (Scalar.select (Scalar.cmpi .eq me 6#32) o (f 6))) (Scalar.select (Scalar.cmpi .eq me 7#32) o (f 7))) y
      = grad me (fun k => x (ix3 k ⟨y 0, (y 0).isLt⟩ ⟨y 1, (y 1).isLt⟩)) (o y) := by
  intro f
  exact (chain_apply me o f y).trans (congrArg (fun f => grad me f (o y)) (funext fun k => slab_apply x k (slab_inb k) hc y))

/-- Where an entry of a block lies in its matrix. -/
theorem lies2 {N M T C : ℕ} {e : (⟨2, ![N, M]⟩ : Shape).Idx} {j : (⟨2, ![T, C]⟩ : Shape).Idx} {p : Fin 2 → ℕ} {r q : ℕ}
    (he : ∀ a, (e a).val = p a * (![T, C] : Fin 2 → ℕ) a + (j a).val) (hp : p = ![r, q]) :
    (e 0).val = r * T + (j 0).val ∧ (e 1).val = q * C + (j 1).val := by
  subst hp; exact ⟨he 0, he 1⟩

/-- The same, naming the entry. -/
theorem is2 {N M T C : ℕ} {e : (⟨2, ![N, M]⟩ : Shape).Idx} {j : (⟨2, ![T, C]⟩ : Shape).Idx} {p : Fin 2 → ℕ} {r q : ℕ}
    (he : ∀ a, (e a).val = p a * (![T, C] : Fin 2 → ℕ) a + (j a).val) (hp : p = ![r, q]) (i : (⟨2, ![N, M]⟩ : Shape).Idx)
    (h0 : (i 0).val = r * T + (j 0).val) (h1 : (i 1).val = q * C + (j 1).val) : e = i := by
  have h := lies2 he hp
  funext a
  match a with
  | ⟨0, _⟩ => exact Fin.ext (h.1.trans h0.symm)
  | ⟨1, _⟩ => exact Fin.ext (h.2.trans h1.symm)

/-- Where an entry of a block lies in a stack of matrices. -/
theorem lies3 {L N M B T C : ℕ} {e : (⟨3, ![L, N, M]⟩ : Shape).Idx} {j : (⟨3, ![B, T, C]⟩ : Shape).Idx} {p : Fin 3 → ℕ} {l r q : ℕ}
    (he : ∀ a, (e a).val = p a * (![B, T, C] : Fin 3 → ℕ) a + (j a).val) (hp : p = ![l, r, q]) :
    (e 0).val = l * B + (j 0).val ∧ (e 1).val = r * T + (j 1).val ∧ (e 2).val = q * C + (j 2).val := by
  subst hp; exact ⟨he 0, he 1, he 2⟩

/-- The same, naming the entry. -/
theorem is3 {L N M B T C : ℕ} {e : (⟨3, ![L, N, M]⟩ : Shape).Idx} {j : (⟨3, ![B, T, C]⟩ : Shape).Idx} {p : Fin 3 → ℕ} {l r q : ℕ}
    (he : ∀ a, (e a).val = p a * (![B, T, C] : Fin 3 → ℕ) a + (j a).val) (hp : p = ![l, r, q]) (i : (⟨3, ![L, N, M]⟩ : Shape).Idx)
    (h0 : (i 0).val = l * B + (j 0).val) (h1 : (i 1).val = r * T + (j 1).val) (h2 : (i 2).val = q * C + (j 2).val) : e = i := by
  have h := lies3 he hp
  funext a
  match a with
  | ⟨0, _⟩ => exact Fin.ext (h.1.trans h0.symm)
  | ⟨1, _⟩ => exact Fin.ext (h.2.1.trans h1.symm)
  | ⟨2, _⟩ => exact Fin.ext (h.2.2.trans h2.symm)

/-- The reference's choice, made by comparing the device's number with the position along the leading axis, at an entry. -/
theorem host_choice {T C : ℕ} (a : (⟨1, ![2]⟩ : Shape).Idx → BitVec 32) (x : (⟨3, ![8, T, C]⟩ : Shape).Idx → EReal)
    (o : (⟨2, ![T, C]⟩ : Shape).Idx → EReal)
    (h1 : (⟨3, ![8, 1, 1]⟩ : Shape).BroadcastsInDim ⟨3, ![8, T, C]⟩ ![0, 1, 2]) (h2 : (⟨1, ![8]⟩ : Shape).BroadcastsInDim ⟨3, ![8, 1, 1]⟩ ![0])
    (h3 : (⟨0, ![]⟩ : Shape).BroadcastsInDim ⟨3, ![8, 1, 1]⟩ ![]) (h4 : (⟨1, ![2]⟩ : Shape).Slices ![1] ⟨1, ![1]⟩)
    (h5 : (⟨1, ![1]⟩ : Shape).ShapeCasts ⟨0, ![]⟩) (h6 : (⟨3, ![1, T, C]⟩ : Shape).BroadcastsInDim ⟨3, ![8, T, C]⟩ ![0, 1, 2])
    (h7 : (⟨2, ![T, C]⟩ : Shape).BroadcastsInDim ⟨3, ![1, T, C]⟩ ![1, 2]) (hT : T ≠ 1) (hC : C ≠ 1) (k : Fin 8) (r : Fin T) (q : Fin C) :
    select (broadcastInDim ⟨3, ![8, T, C]⟩ ![0, 1, 2] h1 (cmpi .ne (broadcastInDim ⟨3, ![8, 1, 1]⟩ ![0] h2 (iotaInDim ⟨1, ![8]⟩ 32 0))
        (broadcastInDim ⟨3, ![8, 1, 1]⟩ ![] h3 (shapeCast ⟨0, ![]⟩ (extractStridedSlice ⟨1, ![1]⟩ ![1] a h4) h5)))) x
        (broadcastInDim ⟨3, ![8, T, C]⟩ ![0, 1, 2] h6 (broadcastInDim ⟨3, ![1, T, C]⟩ ![1, 2] h7 o)) (ix3 k r q)
      = if a (ix1 1) = BitVec.ofNat 32 k.val then o (ix2 r q) else x (ix3 k r q) := by
  have e1 : ∀ v : (⟨3, ![8, 1, 1]⟩ : Shape).Idx → BitVec 1, broadcastInDim ⟨3, ![8, T, C]⟩ ![0, 1, 2] h1 v (ix3 k r q) = v (ix3 k 0 0) := fun v =>
    broadcastInDim_apply _ h1 v _ _ (by intro b; fin_cases b <;> rfl)
  have e2 : broadcastInDim ⟨3, ![8, 1, 1]⟩ ![0] h2 (iotaInDim ⟨1, ![8]⟩ 32 0) (ix3 k 0 0) = BitVec.ofNat 32 k.val :=
    broadcastInDim_apply _ h2 _ _ (ix1 k) (by intro b; fin_cases b; rfl)
  have e3 : ∀ j, broadcastInDim ⟨3, ![8, 1, 1]⟩ ![] h3 (shapeCast ⟨0, ![]⟩ (extractStridedSlice ⟨1, ![1]⟩ ![1] a h4) h5) j = a (ix1 1) := by
    intro j
    refine (ValueIdx.broadcastInDim_scalar_apply h3 _ j).trans ?_
    refine congrArg a ?_
    funext b
    fin_cases b
    apply Fin.ext
    exact (by decide : ∀ z : Fin 1, 1 + z.val = 1) _
  have e4 : broadcastInDim ⟨3, ![8, T, C]⟩ ![0, 1, 2] h6 (broadcastInDim ⟨3, ![1, T, C]⟩ ![1, 2] h7 o) (ix3 k r q) = o (ix2 r q) := by
    refine (broadcastInDim_apply _ h6 _ _ (ix3 0 r q) ?_).trans (broadcastInDim_apply _ h7 _ _ (ix2 r q) ?_)
    · intro b
      fin_cases b
      · rfl
      · exact (if_neg hT).symm
      · exact (if_neg hC).symm
    · intro b
      fin_cases b
      · exact (if_neg hT).symm
      · exact (if_neg hC).symm
  show Scalar.select _ (x _) _ = _
  rw [e1, e4]
  show Scalar.select (Scalar.cmpi .ne _ _) _ _ = _
  rw [e2, e3]
  unfold Scalar.select Scalar.cmpi
  by_cases h : a (ix1 1) = BitVec.ofNat 32 k.val
  · simp [h, IntOp.cmpi]
  · have e : (BitVec.ofNat 32 k.val == a (ix1 1)) = false := beq_eq_false_iff_ne.2 (Ne.symm h)
    simp [h, e, IntOp.cmpi, bne]

/-- The reference's sum over the devices at an entry. -/
theorem host_grad {T C : ℕ} (me : BitVec 32) (x : (⟨3, ![8, T, C]⟩ : Shape).Idx → EReal) (o : (⟨2, ![T, C]⟩ : Shape).Idx → EReal)
    (sel : (⟨3, ![8, T, C]⟩ : Shape).Idx → EReal) (h : (⟨3, ![8, T, C]⟩ : Shape).ReducesTo [0] ⟨2, ![T, C]⟩) (h' : 0 < (⟨0, ![]⟩ : Shape).numel)
    (hsel : ∀ k r q, sel (ix3 k r q) = if me = BitVec.ofNat 32 k.val then o (ix2 r q) else x (ix3 k r q)) (r : Fin T) (q : Fin C) :
    Host.reduceAdd (F := Ideal) (φ := .f32) sel (constant ⟨0, ![]⟩ .f32 0x00000000#32) h h' (ix2 r q)
      = grad me (fun k => x (ix3 k r q)) (o (ix2 r q)) := by
  refine (ValueIdx.hostReduceAdd_apply sel _ h h' _).trans ?_
  rw [Ideal.hostReduceAdd_r3_a0]
  have z : (constant (F := Ideal) ⟨0, ![]⟩ .f32 0x00000000#32) (Shape.Idx.first h') = (0 : EReal) := Ideal.ofBits_zero_f32
  rw [z, zero_add]
  exact Finset.sum_congr rfl fun k _ => hsel k r q

/-- The reference's gradient at an entry: the sum over the devices, this device's own term in its place. -/
theorem host_gradient {T C : ℕ} (a : (⟨1, ![2]⟩ : Shape).Idx → BitVec 32) (x : (⟨3, ![8, T, C]⟩ : Shape).Idx → EReal)
    (o : (⟨2, ![T, C]⟩ : Shape).Idx → EReal)
    (h1 : (⟨3, ![8, 1, 1]⟩ : Shape).BroadcastsInDim ⟨3, ![8, T, C]⟩ ![0, 1, 2]) (h2 : (⟨1, ![8]⟩ : Shape).BroadcastsInDim ⟨3, ![8, 1, 1]⟩ ![0])
    (h3 : (⟨0, ![]⟩ : Shape).BroadcastsInDim ⟨3, ![8, 1, 1]⟩ ![]) (h4 : (⟨1, ![2]⟩ : Shape).Slices ![1] ⟨1, ![1]⟩)
    (h5 : (⟨1, ![1]⟩ : Shape).ShapeCasts ⟨0, ![]⟩) (h6 : (⟨3, ![1, T, C]⟩ : Shape).BroadcastsInDim ⟨3, ![8, T, C]⟩ ![0, 1, 2])
    (h7 : (⟨2, ![T, C]⟩ : Shape).BroadcastsInDim ⟨3, ![1, T, C]⟩ ![1, 2]) (h : (⟨3, ![8, T, C]⟩ : Shape).ReducesTo [0] ⟨2, ![T, C]⟩)
    (h' : 0 < (⟨0, ![]⟩ : Shape).numel) (hT : T ≠ 1) (hC : C ≠ 1) (i : (⟨2, ![T, C]⟩ : Shape).Idx) :
    Host.reduceAdd (F := Ideal) (φ := .f32) (select (broadcastInDim ⟨3, ![8, T, C]⟩ ![0, 1, 2] h1 (cmpi .ne (broadcastInDim ⟨3, ![8, 1, 1]⟩ ![0] h2 (iotaInDim ⟨1, ![8]⟩ 32 0))
        (broadcastInDim ⟨3, ![8, 1, 1]⟩ ![] h3 (shapeCast ⟨0, ![]⟩ (extractStridedSlice ⟨1, ![1]⟩ ![1] a h4) h5)))) x
        (broadcastInDim ⟨3, ![8, T, C]⟩ ![0, 1, 2] h6 (broadcastInDim ⟨3, ![1, T, C]⟩ ![1, 2] h7 o))) (constant ⟨0, ![]⟩ .f32 0x00000000#32) h h' i
      = grad (a (ix1 1)) (fun k => x (ix3 k ⟨(i 0).val, (i 0).isLt⟩ ⟨(i 1).val, (i 1).isLt⟩)) (o i) := by
  have e := host_grad (a (ix1 1)) x o _ h h' (host_choice a x o h1 h2 h3 h4 h5 h6 h7 hT hC) ⟨(i 0).val, (i 0).isLt⟩ ⟨(i 1).val, (i 1).isLt⟩
  have z : (ix2 ⟨(i 0).val, (i 0).isLt⟩ ⟨(i 1).val, (i 1).isLt⟩ : (⟨2, ![T, C]⟩ : Shape).Idx) = i := funext fun b => by fin_cases b <;> rfl
  rw [z] at e
  exact e

/-- The chip's number, as a scalar cut from the pair. -/
theorem chip_word (a : (⟨1, ![2]⟩ : Shape).Idx → BitVec 32) (h1 : (⟨1, ![2]⟩ : Shape).Slices ![0] ⟨1, ![1]⟩)
    (h2 : (⟨1, ![1]⟩ : Shape).ShapeCasts ⟨0, ![]⟩) (j : (⟨0, ![]⟩ : Shape).Idx) :
    shapeCast ⟨0, ![]⟩ (extractStridedSlice ⟨1, ![1]⟩ ![0] a h1) h2 j = a (ix1 0) := by
  refine congrArg a ?_
  funext b
  fin_cases b
  apply Fin.ext
  exact (by decide : ∀ z : Fin 1, 0 + z.val = 0) _

/-- A word from zero to three, by the two comparisons. -/
theorem chip_of_bounds : ∀ a : BitVec 32, IntOp.cmpi .sge a 0#32 &&& IntOp.cmpi .slt a 4#32 = 1#1 → ∃ k : Fin 4, a = BitVec.ofNat 32 k.val := by
  intro a h
  have both : (0#32).sle a = true ∧ a.slt 4#32 = true := by
    simp only [IntOp.cmpi] at h
    revert h
    cases (0#32).sle a <;> cases a.slt 4#32 <;> decide
  have h0 := BitVec.sle_iff_toInt_le.mp both.1
  have h1 := BitVec.slt_iff_toInt_lt.mp both.2
  have e0 : (0#32).toInt = 0 := by decide
  have e4 : (4#32).toInt = 4 := by decide
  rw [e0] at h0
  rw [e4] at h1
  have hn : a.toNat < 4 := by
    rw [BitVec.toInt_eq_toNat_cond] at h0 h1
    have := a.isLt
    split_ifs at h0 h1 <;> omega
  exact ⟨⟨a.toNat, hn⟩, by apply BitVec.eq_of_toNat_eq; simp⟩

/-- The chip's number is one of four when the precondition holds. -/
theorem chip_of (a : (⟨1, ![2]⟩ : Shape).Idx → BitVec 32) (h1 : (⟨1, ![2]⟩ : Shape).Slices ![0] ⟨1, ![1]⟩)
    (h2 : (⟨1, ![1]⟩ : Shape).ShapeCasts ⟨0, ![]⟩)
    (h : andi (cmpi .sge (shapeCast ⟨0, ![]⟩ (extractStridedSlice ⟨1, ![1]⟩ ![0] a h1) h2) (constantI ⟨0, ![]⟩ 32 0#32))
      (cmpi .slt (shapeCast ⟨0, ![]⟩ (extractStridedSlice ⟨1, ![1]⟩ ![0] a h1) h2) (constantI ⟨0, ![]⟩ 32 4#32)) = fun _ => 1#1) :
    ∃ k : Fin 4, a (ix1 0) = BitVec.ofNat 32 k.val := by
  have e := congrFun h (Shape.Idx.first (by decide))
  have w := chip_word a h1 h2 (Shape.Idx.first (by decide))
  refine chip_of_bounds _ ?_
  rw [← w]
  exact e

/-- One choice of the reference's chain over the chips. -/
theorem chip_choice {S : Shape} (a : (⟨1, ![2]⟩ : Shape).Idx → BitVec 32) (h1 : (⟨1, ![2]⟩ : Shape).Slices ![0] ⟨1, ![1]⟩)
    (h2 : (⟨1, ![1]⟩ : Shape).ShapeCasts ⟨0, ![]⟩) (hb : (⟨0, ![]⟩ : Shape).BroadcastsInDim S ![]) (n : BitVec 32) (A B : S.Idx → EReal) (i : S.Idx) :
    select (broadcastInDim S ![] hb (cmpi .eq (shapeCast ⟨0, ![]⟩ (extractStridedSlice ⟨1, ![1]⟩ ![0] a h1) h2) (constantI ⟨0, ![]⟩ 32 n))) A B i
      = if a (ix1 0) = n then A i else B i := by
  have e : broadcastInDim S ![] hb (cmpi .eq (shapeCast ⟨0, ![]⟩ (extractStridedSlice ⟨1, ![1]⟩ ![0] a h1) h2) (constantI ⟨0, ![]⟩ 32 n)) i
      = IntOp.cmpi .eq (a (ix1 0)) n :=
    (ValueIdx.broadcastInDim_scalar_apply hb _ i).trans (congrArg (fun w => IntOp.cmpi .eq w n) (chip_word a h1 h2 _))
  refine (congrArg (fun b => Scalar.select b (A i) (B i)) e).trans ?_
  unfold Scalar.select
  by_cases h : a (ix1 0) = n
  · simp [h, IntOp.cmpi]
  · simp [h, IntOp.cmpi, beq_eq_false_iff_ne.2 h]

/-- The reference's chain over the chips, at the chip it is. -/
theorem chip_chain {S : Shape} (a : (⟨1, ![2]⟩ : Shape).Idx → BitVec 32) (k : Fin 4) (hk : a (ix1 0) = BitVec.ofNat 32 k.val)
    (h1 : (⟨1, ![2]⟩ : Shape).Slices ![0] ⟨1, ![1]⟩)
    (h2 : (⟨1, ![1]⟩ : Shape).ShapeCasts ⟨0, ![]⟩) (hb : (⟨0, ![]⟩ : Shape).BroadcastsInDim S ![]) (A B C D : S.Idx → EReal) (i : S.Idx) :
    select (broadcastInDim S ![] hb (cmpi .eq (shapeCast ⟨0, ![]⟩ (extractStridedSlice ⟨1, ![1]⟩ ![0] a h1) h2) (constantI ⟨0, ![]⟩ 32 0#32))) A
      (select (broadcastInDim S ![] hb (cmpi .eq (shapeCast ⟨0, ![]⟩ (extractStridedSlice ⟨1, ![1]⟩ ![0] a h1) h2) (constantI ⟨0, ![]⟩ 32 1#32))) B
        (select (broadcastInDim S ![] hb (cmpi .eq (shapeCast ⟨0, ![]⟩ (extractStridedSlice ⟨1, ![1]⟩ ![0] a h1) h2) (constantI ⟨0, ![]⟩ 32 2#32))) C D)) i
      = ![A, B, C, D] k i := by
  rw [chip_choice, chip_choice, chip_choice, hk]
  fin_cases k <;> simp

/-- The reference's own block of a matrix: of the four parts the one the chip holds. -/
def ownOf {T C N M : ℕ} (a : (⟨1, ![2]⟩ : Shape).Idx → BitVec 32) (o : (⟨2, ![N, M]⟩ : Shape).Idx → EReal) (r q : Fin 4 → ℕ)
    (h1 : (⟨1, ![2]⟩ : Shape).Slices ![0] ⟨1, ![1]⟩) (h2 : (⟨1, ![1]⟩ : Shape).ShapeCasts ⟨0, ![]⟩)
    (hb : (⟨0, ![]⟩ : Shape).BroadcastsInDim ⟨2, ![T, C]⟩ ![])
    (s0 : (⟨2, ![N, M]⟩ : Shape).Slices ![r 0, q 0] ⟨2, ![T, C]⟩) (s1 : (⟨2, ![N, M]⟩ : Shape).Slices ![r 1, q 1] ⟨2, ![T, C]⟩)
    (s2 : (⟨2, ![N, M]⟩ : Shape).Slices ![r 2, q 2] ⟨2, ![T, C]⟩) (s3 : (⟨2, ![N, M]⟩ : Shape).Slices ![r 3, q 3] ⟨2, ![T, C]⟩) :
    (⟨2, ![T, C]⟩ : Shape).Idx → EReal :=
  select (broadcastInDim ⟨2, ![T, C]⟩ ![] hb (cmpi .eq (shapeCast ⟨0, ![]⟩ (extractStridedSlice ⟨1, ![1]⟩ ![0] a h1) h2) (constantI ⟨0, ![]⟩ 32 0#32)))
      (extractStridedSlice ⟨2, ![T, C]⟩ ![r 0, q 0] o s0)
    (select (broadcastInDim ⟨2, ![T, C]⟩ ![] hb (cmpi .eq (shapeCast ⟨0, ![]⟩ (extractStridedSlice ⟨1, ![1]⟩ ![0] a h1) h2) (constantI ⟨0, ![]⟩ 32 1#32)))
        (extractStridedSlice ⟨2, ![T, C]⟩ ![r 1, q 1] o s1)
      (select (broadcastInDim ⟨2, ![T, C]⟩ ![] hb (cmpi .eq (shapeCast ⟨0, ![]⟩ (extractStridedSlice ⟨1, ![1]⟩ ![0] a h1) h2) (constantI ⟨0, ![]⟩ 32 2#32)))
        (extractStridedSlice ⟨2, ![T, C]⟩ ![r 2, q 2] o s2) (extractStridedSlice ⟨2, ![T, C]⟩ ![r 3, q 3] o s3)))

/-- That block at an entry. -/
theorem ownOf_apply {T C N M : ℕ} {a : (⟨1, ![2]⟩ : Shape).Idx → BitVec 32} {k : Fin 4} (hk : a (ix1 0) = BitVec.ofNat 32 k.val)
    {o : (⟨2, ![N, M]⟩ : Shape).Idx → EReal} {r q : Fin 4 → ℕ}
    {h1 : (⟨1, ![2]⟩ : Shape).Slices ![0] ⟨1, ![1]⟩} {h2 : (⟨1, ![1]⟩ : Shape).ShapeCasts ⟨0, ![]⟩}
    {hb : (⟨0, ![]⟩ : Shape).BroadcastsInDim ⟨2, ![T, C]⟩ ![]}
    {s0 : (⟨2, ![N, M]⟩ : Shape).Slices ![r 0, q 0] ⟨2, ![T, C]⟩} {s1 : (⟨2, ![N, M]⟩ : Shape).Slices ![r 1, q 1] ⟨2, ![T, C]⟩}
    {s2 : (⟨2, ![N, M]⟩ : Shape).Slices ![r 2, q 2] ⟨2, ![T, C]⟩} {s3 : (⟨2, ![N, M]⟩ : Shape).Slices ![r 3, q 3] ⟨2, ![T, C]⟩}
    (i : (⟨2, ![T, C]⟩ : Shape).Idx) (j : (⟨2, ![N, M]⟩ : Shape).Idx) (j0 : (j 0).val = r k + (i 0).val) (j1 : (j 1).val = q k + (i 1).val) :
    ownOf a o r q h1 h2 hb s0 s1 s2 s3 i = o j := by
  refine (chip_chain a k hk h1 h2 hb _ _ _ _ i).trans ?_
  have cut : ∀ (k : Fin 4) (s : (⟨2, ![N, M]⟩ : Shape).Slices ![r k, q k] ⟨2, ![T, C]⟩), (j 0).val = r k + (i 0).val → (j 1).val = q k + (i 1).val →
      extractStridedSlice ⟨2, ![T, C]⟩ ![r k, q k] o s i = o j := fun k s e0 e1 => congrArg o <| by
    funext b
    fin_cases b
    · exact Fin.ext e0.symm
    · exact Fin.ext e1.symm
  fin_cases k
  exacts [cut 0 s0 j0 j1, cut 1 s1 j0 j1, cut 2 s2 j0 j1, cut 3 s3 j0 j1]

/-! ## The weights stored as a stack of two layers -/

/-- The entry of a matrix under an entry of a stack. -/
def under {L T C : ℕ} (y : (⟨3, ![L, T, C]⟩ : Shape).Idx) : (⟨2, ![T, C]⟩ : Shape).Idx := ix2 ⟨(y 1).val, (y 1).isLt⟩ ⟨(y 2).val, (y 2).isLt⟩

/-- A matrix given a unit axis in front. -/
theorem lift_apply {α : Type} {T C : ℕ} (v : (⟨2, ![T, C]⟩ : Shape).Idx → α) (h : (⟨2, ![T, C]⟩ : Shape).ShapeCasts ⟨3, ![1, T, C]⟩)
    (y : (⟨3, ![1, T, C]⟩ : Shape).Idx) : shapeCast ⟨3, ![1, T, C]⟩ v h y = v (under y) :=
  (shapeCast_addUnit_apply ![T, C] v h y).trans (congrArg v (funext fun b => by fin_cases b <;> rfl))

/-- A stack of one matrix with its unit axis dropped. -/
theorem drop_apply {α : Type} {T C : ℕ} (v : (⟨3, ![1, T, C]⟩ : Shape).Idx → α) (h : (⟨3, ![1, T, C]⟩ : Shape).ShapeCasts ⟨2, ![T, C]⟩)
    (y : (⟨3, ![1, T, C]⟩ : Shape).Idx) : shapeCast ⟨2, ![T, C]⟩ v h (under y) = v y :=
  (shapeCast_dropUnit_apply ![T, C] v h (under y)).trans (congrArg v (funext fun b => by
    fin_cases b
    · exact Fin.ext ((by decide : ∀ z : Fin 1, 0 = z.val) (y 0))
    · rfl
    · rfl))

/-- An output window writes every block whose position satisfies a property, when every point's does and every such position is some
    point's. -/
theorem coversWhere {sig : RefSig} {G : Pipeline.Grid} (w : Pipeline.Window sig G) {Q : (Fin w.shape.rank → ℕ) → Prop} (hout : w.isOut = true)
    (hsz : ∀ a, 0 < w.size a) (hQ : ∀ i : G.Coords, Q (w.indexMap i))
    (hsurj : ∀ β : (a : Fin w.shape.rank) → Fin (w.nblk a), Q (fun a => β a) → ∃ i : G.Coords, ∀ a, w.indexMap i a = β a) : w.CoversWhere Q :=
  ⟨hsz, fun _ _ => ⟨hQ _, w.xsize_eq_or_end hout _⟩, fun β hβ => by
    obtain ⟨i, hi⟩ := hsurj β hβ
    obtain ⟨t₀, rfl⟩ := G.coords_surjective i
    obtain ⟨t, -, hf, hix⟩ := w.exists_flush_same_index hout t₀
    exact ⟨t, fun a => (congrFun hix a).trans (hi a), hf⟩⟩

/-- Where the mask of the first layer holds the entry is in the first layer. -/
theorem first_layer {A B : ℕ} (hb : (⟨0, ![]⟩ : Shape).BroadcastsInDim ⟨3, ![2, A, B]⟩ ![]) (i : (⟨3, ![2, A, B]⟩ : Shape).Idx)
    (h : cmpi .eq (iotaInDim ⟨3, ![2, A, B]⟩ 32 0) (broadcastInDim ⟨3, ![2, A, B]⟩ ![] hb (constantI ⟨0, ![]⟩ 32 0#32)) i = 1#1) : (i 0).val = 0 := by
  have e : BitVec.ofNat 32 (i 0).val = 0#32 :=
    (StableHlo.Predicate.cmpi_eq_iff.mp h).trans (ValueIdx.broadcastInDim_scalar_apply hb _ i)
  exact (by decide : ∀ z : Fin 2, BitVec.ofNat 32 z.val = 0#32 → z.val = 0) (i 0) e

/-- The first layer of the reference's stack. -/
theorem stack_first {A B : ℕ} (v : (⟨2, ![A, B]⟩ : Shape).Idx → EReal) (w : (⟨3, ![1, A, B]⟩ : Shape).Idx → EReal)
    (hb : (⟨2, ![A, B]⟩ : Shape).BroadcastsInDim ⟨3, ![1, A, B]⟩ ![1, 2])
    (hc : Shape.Concatenates [⟨3, ![1, A, B]⟩, ⟨3, ![1, A, B]⟩] ⟨3, ![2, A, B]⟩ 0) (hA : A ≠ 1) (hB : B ≠ 1)
    (i : (⟨3, ![2, A, B]⟩ : Shape).Idx) (hi : (i 0).val = 0) :
    concatenate (⟨3, ![2, A, B]⟩ : Shape) 0 [⟨⟨3, ![1, A, B]⟩, broadcastInDim ⟨3, ![1, A, B]⟩ ![1, 2] hb v⟩, ⟨⟨3, ![1, A, B]⟩, w⟩] hc i = v (under i) := by
  refine (concatenate_pair_apply_left 0 _ _ hc i rfl (ix3 0 ⟨(i 1).val, (i 1).isLt⟩ ⟨(i 2).val, (i 2).isLt⟩) ?_).trans ?_
  · intro b
    fin_cases b
    · exact hi.symm
    · rfl
    · rfl
  · refine broadcastInDim_apply _ hb v _ (under i) ?_
    intro b
    fin_cases b
    · exact (if_neg hA).symm
    · exact (if_neg hB).symm

/-- The second layer of the reference's stack. -/
theorem stack_second {A B : ℕ} (v : (⟨2, ![A, B]⟩ : Shape).Idx → EReal) (w : (⟨3, ![1, A, B]⟩ : Shape).Idx → EReal)
    (hb : (⟨2, ![A, B]⟩ : Shape).BroadcastsInDim ⟨3, ![1, A, B]⟩ ![1, 2])
    (hc : Shape.Concatenates [⟨3, ![1, A, B]⟩, ⟨3, ![1, A, B]⟩] ⟨3, ![2, A, B]⟩ 0) (hA : A ≠ 1) (hB : B ≠ 1)
    (i : (⟨3, ![2, A, B]⟩ : Shape).Idx) (hi : (i 0).val = 1) :
    concatenate (⟨3, ![2, A, B]⟩ : Shape) 0 [⟨⟨3, ![1, A, B]⟩, w⟩, ⟨⟨3, ![1, A, B]⟩, broadcastInDim ⟨3, ![1, A, B]⟩ ![1, 2] hb v⟩] hc i = v (under i) := by
  refine (concatenate_pair_apply_right 0 _ _ hc i rfl rfl
    (ix3 0 ⟨(i 1).val, (i 1).isLt⟩ ⟨(i 2).val, (i 2).isLt⟩) ?_ hi.symm).trans ?_
  · intro b hne
    fin_cases b
    · exact (hne rfl).elim
    · rfl
    · rfl
  · refine broadcastInDim_apply _ hb v _ (under i) ?_
    intro b
    fin_cases b
    · exact (if_neg hA).symm
    · exact (if_neg hB).symm

/-- A layer cut out of a stack, its unit axis dropped. -/
theorem cut_layer {α : Type} {A B : ℕ} (l : ℕ) (w : (⟨3, ![2, A, B]⟩ : Shape).Idx → α) (hs : (⟨3, ![2, A, B]⟩ : Shape).Slices ![l, 0, 0] ⟨3, ![1, A, B]⟩)
    (h : (⟨3, ![1, A, B]⟩ : Shape).ShapeCasts ⟨2, ![A, B]⟩) (i : (⟨3, ![2, A, B]⟩ : Shape).Idx) (hi : (i 0).val = l) :
    shapeCast ⟨2, ![A, B]⟩ (extractStridedSlice ⟨3, ![1, A, B]⟩ ![l, 0, 0] w hs) h (under i) = w i := by
  refine (drop_apply _ h (ix3 0 ⟨(i 1).val, (i 1).isLt⟩ ⟨(i 2).val, (i 2).isLt⟩)).trans (congrArg w (funext fun b => ?_))
  fin_cases b
  · exact Fin.ext hi.symm
  · exact Fin.ext (Nat.zero_add _)
  · exact Fin.ext (Nat.zero_add _)

/-- Equal arguments give equal values. -/
theorem congrArg_three {α β γ δ : Type} (f : α → β → γ → δ) {a a' : α} {b b' : β} {d d' : γ} (h1 : a = a') (h2 : b = b') (h3 : d = d') :
    f a b d = f a' b' d' := by rw [h1, h2, h3]

/-- A stack whose first layer is one array's and whose second is another's. -/
def stacked {A B : ℕ} (a g : (⟨3, ![2, A, B]⟩ : Shape).Idx → EReal) : (⟨3, ![2, A, B]⟩ : Shape).Idx → EReal := fun i => if (i 0).val = 0 then a i else g i

/-- The reference's stack of the layer it was given and the layer it computed. -/
theorem stack_both {A B : ℕ} (v w : (⟨2, ![A, B]⟩ : Shape).Idx → EReal) (a g : (⟨3, ![2, A, B]⟩ : Shape).Idx → EReal)
    (hb : (⟨2, ![A, B]⟩ : Shape).BroadcastsInDim ⟨3, ![1, A, B]⟩ ![1, 2])
    (hc : Shape.Concatenates [⟨3, ![1, A, B]⟩, ⟨3, ![1, A, B]⟩] ⟨3, ![2, A, B]⟩ 0) (hA : A ≠ 1) (hB : B ≠ 1)
    (h0 : ∀ i : (⟨3, ![2, A, B]⟩ : Shape).Idx, (i 0).val = 0 → v (under i) = a i) (h1 : ∀ i : (⟨3, ![2, A, B]⟩ : Shape).Idx, (i 0).val = 1 → w (under i) = g i) :
    concatenate (⟨3, ![2, A, B]⟩ : Shape) 0 [⟨⟨3, ![1, A, B]⟩, broadcastInDim ⟨3, ![1, A, B]⟩ ![1, 2] hb v⟩,
      ⟨⟨3, ![1, A, B]⟩, broadcastInDim ⟨3, ![1, A, B]⟩ ![1, 2] hb w⟩] hc = stacked a g := by
  funext i
  have two : (i 0).val < 2 := (i 0).isLt
  by_cases hi : (i 0).val = 0
  · exact ((stack_first v _ hb hc hA hB i hi).trans (h0 i hi)).trans (if_pos hi).symm
  · exact ((stack_second w _ hb hc hA hB i (by omega)).trans (h1 i (by omega))).trans (if_neg hi).symm

end Cert.Adam

end
-- ==== Proof.AdamWhole.lean ====
/- The optimiser step on the small arrays that are kept whole: kernel and reference at every entry. -/
module

public import proofs.«01_k».proof.Proof.Adam
public import proofs.«01_k».proof.Proof.Gen.AdamWholeIdeal.Frame
public import proofs.«01_k».proof.Proof.Gen.AdamWholeRefIdeal.Run
public import proofs.«01_k».proof.Defs

@[expose] public section

set_option maxRecDepth 16384

noncomputable section

namespace Cert.AdamWholeIdeal.Step

open Idealize.ShloMosaic Idealize.ShloMosaic.TcCoe
open Idealize.SL Idealize.SL.Sem
open Idealize.ShloMosaic.Pipeline (Dat Cfg Window)
open Cert.AdamWholeIdeal.Gen Cert.Adam

variable (m : (ℓ : Loc nD τ sig) → Buf (Elt Ideal) ℓ)

/-- This device's number, as the kernel reads it. -/
def me : BitVec 32 := View.readAt (Elt Ideal) (View.whole main_arg0) (Rect.unit ![1] ![1] inb_S2_S1_1).toLoadRect (tbl m 0) (Shape.Idx.first (by decide))

theorem me_eq : me m = m (((0 : Dev nD).tc : Thread nD τ).loc main_arg0) (ix1 1) :=
  congrArg (m (((0 : Dev nD).tc : Thread nD τ).loc main_arg0)) (funext fun b => by fin_cases b; rfl)

/-- The arrays the kernel leaves, from the arrays it was given. -/
def G5 (c : Dev nD) : S8x2048.Idx → EReal := fun i =>
  grad (me m) (fun k => m (c.tc.loc main_arg1) (ix3 k ⟨i 0, (i 0).isLt⟩ ⟨i 1, (i 1).isLt⟩)) (m (c.tc.loc main_arg2) i)
def G7 (c : Dev nD) : S8x2048.Idx → EReal := fun i => newM (G5 m c i) (m (c.tc.loc main_arg4) i)
def G8 (c : Dev nD) : S8x2048.Idx → EReal := fun i => newV (G5 m c i) (m (c.tc.loc main_arg5) i)
def G6 (c : Dev nD) : S8x2048.Idx → EReal := fun i => delta (m (c.tc.loc main_arg3) i) (G7 m c i) (G8 m c i)

variable (hO : Ok m) (c : Dev nD) (t : Fin (cfgM m hO).N) (y : S8x2048.Idx)

/-- The gradient at an entry of a block. -/
def gAt : EReal := grad (me m) (fun k => iblk m hO c 0 t (ix3 k ⟨y 0, (y 0).isLt⟩ ⟨y 1, (y 1).isLt⟩)) (iblk m hO c 1 t y)

/-- A staged block is read back as it was. -/
theorem staged {S : Shape} {e : EltTy} (M : Memref sig .tc .vmem S e) (h : M.IsWhole) (x : S.Idx → Elt Ideal e) :
    View.read (Elt Ideal) M.view (h.unread x) = x := h.read_unread x

theorem out5 : (outsAt0 m hO c t).1 y = gAt m hO c t y := by
  unfold outsAt0
  frame_out
  refine (kernel_sum _ (View.read (Elt Ideal) (ms0_0 m hO t).view ((hs0_0 m hO t).unread (iblk m hO c 0 t)))
    (View.read (Elt Ideal) (ms0_1 m hO t).view ((hs0_1 m hO t).unread (iblk m hO c 1 t))) shapeCasts_S1x8x2048_S8x2048 y).trans ?_
  exact congrArg₂ (fun (X : S8x8x2048.Idx → EReal) (O : S8x2048.Idx → EReal) => grad (me m) (fun k => X (ix3 k ⟨y 0, (y 0).isLt⟩ ⟨y 1, (y 1).isLt⟩)) (O y))
    (staged (S := S8x8x2048) (e := .f32) (ms0_0 m hO t) _ _) (staged (S := S8x2048) (e := .f32) (ms0_1 m hO t) _ _)

theorem out7 : (outsAt0 m hO c t).2.2.1 y = newM (gAt m hO c t y) (iblk m hO c 3 t y) := by
  have e := out5 m hO c t y
  unfold outsAt0 at e ⊢
  frame_out at e
  frame_out
  exact congrArg₂ newM e (congrFun (Memref.IsWhole.read_unread _ _) y)

theorem out8 : (outsAt0 m hO c t).2.2.2 y = newV (gAt m hO c t y) (iblk m hO c 4 t y) := by
  have e := out5 m hO c t y
  unfold outsAt0 at e ⊢
  frame_out at e
  frame_out
  exact congrArg₂ newV e (congrFun (Memref.IsWhole.read_unread _ _) y)

theorem out6 : (outsAt0 m hO c t).2.1 y
    = delta (iblk m hO c 2 t y) (newM (gAt m hO c t y) (iblk m hO c 3 t y)) (newV (gAt m hO c t y) (iblk m hO c 4 t y)) := by
  have e := out7 m hO c t y
  have f := out8 m hO c t y
  unfold outsAt0 at e f ⊢
  frame_out at e
  frame_out at f
  frame_out
  rw [← e, ← f]
  exact congrArg (fun a => delta a _ _) (congrFun (Memref.IsWhole.read_unread _ _) y)

/-- Where the blocks lie: rows from the grid point's, every column. -/
theorem place0 : ∀ t : Fin grid0.N, cc0_transform_0 (grid0.coords t) = ![0, (grid0.coords t 0).val, 0] := by decide +kernel
theorem place : ∀ t : Fin grid0.N, cc0_transform_1 (grid0.coords t) = ![(grid0.coords t 0).val, 0] := by decide +kernel

section Entry

variable (i : S8x2048.Idx) (h : (i 0).val = (grid0.coords t 0).val * 8 + (y 0).val ∧ (i 1).val = 0 * 2048 + (y 1).val)

include h in
theorem gAt_eq : gAt m hO c t y = G5 m c i := by
  unfold gAt G5
  refine congrArg₂ (grad (me m)) (funext fun k => ?_) ?_
  · exact congrArg (m (c.tc.loc main_arg1)) (is3 (j := ix3 k ⟨y 0, (y 0).isLt⟩ ⟨y 1, (y 1).isLt⟩)
      (fun a => ValueKit.view_emb_slice_whole_unit_val main_arg1 _ _ _ _ a) (place0 t) _ (Nat.zero_add _).symm h.1 h.2)
  · exact congrArg (m (c.tc.loc main_arg2)) (is2 (fun a => ValueKit.view_emb_slice_whole_unit_val main_arg2 _ _ _ _ a) (place t) _ h.1 h.2)

include h in
theorem mAt_eq : newM (gAt m hO c t y) (iblk m hO c 3 t y) = G7 m c i :=
  congrArg₂ newM (gAt_eq m hO c t y i h)
    (congrArg (m (c.tc.loc main_arg4)) (is2 (fun a => ValueKit.view_emb_slice_whole_unit_val main_arg4 _ _ _ _ a) (place t) _ h.1 h.2))

include h in
theorem vAt_eq : newV (gAt m hO c t y) (iblk m hO c 4 t y) = G8 m c i :=
  congrArg₂ newV (gAt_eq m hO c t y i h)
    (congrArg (m (c.tc.loc main_arg5)) (is2 (fun a => ValueKit.view_emb_slice_whole_unit_val main_arg5 _ _ _ _ a) (place t) _ h.1 h.2))

include h in
theorem dAt_eq : delta (iblk m hO c 2 t y) (newM (gAt m hO c t y) (iblk m hO c 3 t y)) (newV (gAt m hO c t y) (iblk m hO c 4 t y)) = G6 m c i := by
  rw [mAt_eq m hO c t y i h, vAt_eq m hO c t y i h]
  exact congrArg (fun a => delta a _ _)
    (congrArg (m (c.tc.loc main_arg3)) (is2 (fun a => ValueKit.view_emb_slice_whole_unit_val main_arg3 _ _ _ _ a) (place t) _ h.1 h.2))

end Entry

theorem reached : ∀ p : Fin 1, ∃ i : grid0.Coords, cc0_transform_5 i 0 = p ∧ cc0_transform_5 i 1 = 0 := by decide +kernel

/-- Every block of an output is written. -/
theorem covers (β : Fin 2 → ℕ) (h0 : β 0 < (8 + 8 - 1) / 8) (h1 : β 1 < (2048 + 2048 - 1) / 2048) : ∃ i : grid0.Coords, ∀ a : Fin 2, cc0_transform_5 i a = β a := by
  obtain ⟨i, e0, e1⟩ := reached ⟨β 0, h0⟩
  exact ⟨i, fun a => by fin_cases a; exacts [e0, e1.trans (Nat.lt_one_iff.mp h1).symm]⟩

theorem final5 : (dats m hO 0 c).arrAt 5 (cfgM m hO).N = G5 m c := by
  refine (dats m hO 0 c).arrAt_eq_of_covers 5 _ (Window.covers_of_indexMap_surj _ rfl (by decide : ∀ a : Fin 2, 0 < S8x2048.size a) fun β => covers (fun a => β a) (β (0 : Fin 2)).isLt (β (1 : Fin 2)).isLt) fun t hf y => ?_
  blk_simp
  rw [after0_5]
  exact (out5 m hO c t y).trans (gAt_eq m hO c t y _ (lies2 (fun a => ValueKit.view_emb_slice_whole_unit_val main_v0_0 _ _ _ _ a) (place t)))

theorem final6 : (dats m hO 0 c).arrAt 6 (cfgM m hO).N = G6 m c := by
  refine (dats m hO 0 c).arrAt_eq_of_covers 6 _ (Window.covers_of_indexMap_surj _ rfl (by decide : ∀ a : Fin 2, 0 < S8x2048.size a) fun β => covers (fun a => β a) (β (0 : Fin 2)).isLt (β (1 : Fin 2)).isLt) fun t hf y => ?_
  blk_simp
  rw [after0_6]
  exact (out6 m hO c t y).trans (dAt_eq m hO c t y _ (lies2 (fun a => ValueKit.view_emb_slice_whole_unit_val main_v0_1 _ _ _ _ a) (place t)))

theorem final7 : (dats m hO 0 c).arrAt 7 (cfgM m hO).N = G7 m c := by
  refine (dats m hO 0 c).arrAt_eq_of_covers 7 _ (Window.covers_of_indexMap_surj _ rfl (by decide : ∀ a : Fin 2, 0 < S8x2048.size a) fun β => covers (fun a => β a) (β (0 : Fin 2)).isLt (β (1 : Fin 2)).isLt) fun t hf y => ?_
  blk_simp
  rw [after0_7]
  exact (out7 m hO c t y).trans (mAt_eq m hO c t y _ (lies2 (fun a => ValueKit.view_emb_slice_whole_unit_val main_v0_2 _ _ _ _ a) (place t)))

theorem final8 : (dats m hO 0 c).arrAt 8 (cfgM m hO).N = G8 m c := by
  refine (dats m hO 0 c).arrAt_eq_of_covers 8 _ (Window.covers_of_indexMap_surj _ rfl (by decide : ∀ a : Fin 2, 0 < S8x2048.size a) fun β => covers (fun a => β a) (β (0 : Fin 2)).isLt (β (1 : Fin 2)).isLt) fun t hf y => ?_
  blk_simp
  rw [after0_8]
  exact (out8 m hO c t y).trans (vAt_eq m hO c t y _ (lies2 (fun a => ValueKit.view_emb_slice_whole_unit_val main_v0_3 _ _ _ _ a) (place t)))

/-- The arrays after the run. -/
theorem arrays (hO : Ok m) (ρ : Dev nD → PrngReg) :
    θ_run (defs (F := Ideal)) (onTc (τ := τ) (main (F := Ideal))) ⟨m, fun _ => 0, ρ⟩ (fun r => ∀ c : Dev nD,
      r.2.mem (c.tc.loc main_v0_0) = G5 m c ∧ r.2.mem (c.tc.loc main_v0_1) = G6 m c ∧ r.2.mem (c.tc.loc main_v0_2) = G7 m c
        ∧ r.2.mem (c.tc.loc main_v0_3) = G8 m c) := by
  refine (θ_run _ _ _).mono (fun r h c => ?_) (run_main m ρ hO)
  obtain rfl : c = 0 := Subsingleton.elim _ _
  exact ⟨((h 0).1 5).trans (final5 m hO 0), ((h 0).1 6).trans (final6 m hO 0), ((h 0).1 7).trans (final7 m hO 0), ((h 0).1 8).trans (final8 m hO 0)⟩

end Cert.AdamWholeIdeal.Step

namespace Cert.Proof

open Idealize.ShloMosaic Idealize.ShloMosaic.TcCoe Idealize.SL.Sem Cert.Adam Cert.AdamWholeIdeal.Step Cert.AdamWholeRefIdeal.Gen
open Cert.AdamWholeIdeal (main_arg0 main_arg1 main_arg2)

/-- The kernel computes what its reference does. -/
theorem algebraic_adam_whole : Cert.algebraic_AdamWholeIdeal_AdamWholeRefIdeal := by
  intro m ρ m' ρ' _ hagree
  refine ⟨fun c => G5 m c, fun c => G6 m c, fun c => G7 m c, fun c => G8 m c, ?_, ?_⟩
  · refine (θ_run _ _ _).mono (fun r h c => ?_) (θ_run_and (arrays m trivial ρ) (Cert.AdamWholeIdeal.Gen.unchanged m ρ trivial))
    obtain ⟨h5, h6, h7, h8⟩ := h.1 c
    exact ⟨h5, h6, h7, h8, h.2 c⟩
  · refine (θ_run _ _ _).mono (fun r h c => ?_) (Cert.AdamWholeRefIdeal.Value.run (F := Ideal) m' ρ')
    obtain ⟨e0, e1, e2, e3, e4, e5⟩ := hagree c
    obtain rfl : c = 0 := Subsingleton.elim _ _
    obtain ⟨h5, h6, h7, h8, hargs⟩ := h 0
    have hg := fun i => (host_gradient (m ((0 : Dev _).tc.loc main_arg0)) (m ((0 : Dev _).tc.loc main_arg1)) (m ((0 : Dev _).tc.loc main_arg2))
      bcast_S8x1x1_S8x8x2048_0_1_2 bcast_S8_S8x1x1_0 bcast_S_S8x1x1 slices_S2_S1_1 shapeCasts_S1_S_ bcast_S1x8x2048_S8x8x2048_0_1_2
      bcast_S8x2048_S1x8x2048_1_2 reducesTo_S8x8x2048_S8x2048_d0 h_S_ (by decide) (by decide) i).trans
      (congrArg (fun b => grad b _ _) (me_eq m).symm)
    refine ⟨h5.trans ?_, h6.trans ?_, h7.trans ?_, h8.trans ?_, hargs⟩
    · rw [e0, e1, e2]
      exact funext hg
    · rw [e0, e1, e2, e3, e4, e5]
      exact funext fun i => congrArg (fun g => delta _ (newM g _) (newV g _)) (hg i)
    · rw [e0, e1, e2, e4]
      exact funext fun i => congrArg (fun g => newM g _) (hg i)
    · rw [e0, e1, e2, e5]
      exact funext fun i => congrArg (fun g => newV g _) (hg i)

/-- The reference runs, keeps its arguments and leaves no semaphore raised. -/
theorem frame_adam_whole_ref : Cert.quiescent_AdamWholeRefIdeal := fun m ρ _ =>
  (θ_run _ _ _).mono (fun r h => ⟨fun c => (h c).2.2.2.2, sem_eq_zero_of_no_sems (by decide) r.2⟩)
    (Cert.AdamWholeRefIdeal.Value.run (F := Ideal) m ρ)

end Cert.Proof

end
-- ==== Proof.AdamRows.lean ====
/- The optimiser step on a weight kept by rows: kernel and reference at every entry. -/
module

public import proofs.«01_k».proof.Proof.Adam
public import proofs.«01_k».proof.Proof.Gen.AdamRows.Frame
public import proofs.«01_k».proof.Proof.Gen.Pre_chip_rows
public import proofs.«01_k».proof.Proof.Gen.AdamRowsIdeal.Frame
public import proofs.«01_k».proof.Proof.Gen.AdamRowsRefIdeal.Run
public import proofs.«01_k».proof.Defs

@[expose] public section

set_option maxRecDepth 16384

noncomputable section

namespace Cert.AdamRows.Step

open Idealize.ShloMosaic Idealize.ShloMosaic.TcCoe
open Cert.AdamRows.Gen Cert.Adam

/-- The blocks of the own gradient, for every chip and grid point. -/
theorem inside : ∀ (k : Fin 4) (i : grid0.Coords), ∃ h : (∀ a, (![(Scalar.addi (Scalar.muli (BitVec.ofNat 32 k.val) 4#32) (BitVec.ofNat 32 (i 0).val)).toNat, (0#32).toNat] a + 1) * S128x2048.size a ≤ S2048x2048.size a),
    EltTy.bits .bf16 = 32 ∨ (Rect.block (s := S2048x2048) S128x2048.size
      ![(Scalar.addi (Scalar.muli (BitVec.ofNat 32 k.val) 4#32) (BitVec.ofNat 32 (i 0).val)).toNat, (0#32).toNat] h).WholeWords (EltTy.packing .bf16) := by
  decide +kernel

/-- The blocks lie in the matrix when the chip's number is one of four. -/
theorem ok_of_chip {F : FTy → Type} [FloatOps F] (m : (ℓ : Loc nD τ sig) → Buf (Elt F) ℓ) (k : Fin 4)
    (hk : m (((0 : Dev nD).tc : Thread nD τ).loc main_arg0) (ix1 0) = BitVec.ofNat 32 k.val) : Ok m := by
  have e : (tbl m).at 0 (Rect.unit (s := S2) ![0] S1.size inb_S2_S1_0) numel1_S1 = BitVec.ofNat 32 k.val :=
    Eq.trans (congrArg (m (((0 : Dev nD).tc : Thread nD τ).loc main_arg0)) (funext fun b => by fin_cases b; rfl)) hk
  unfold Ok ok0 cc0_transform_1
  dsimp only
  rw [e]
  exact inside k

/-- The run, and what it leaves alone, when the precondition holds. -/
theorem frame : Cert.quiescent_AdamRows := fun m ρ h =>
  have ⟨k, hk⟩ := chip_of _ _ _ (h 0)
  Gen.frame m ρ (ok_of_chip m k hk)

end Cert.AdamRows.Step

namespace Cert.AdamRowsIdeal.Step

open Idealize.ShloMosaic Idealize.ShloMosaic.TcCoe
open Idealize.SL Idealize.SL.Sem
open Idealize.ShloMosaic.Pipeline (Dat Cfg Window)
open Cert.AdamRowsIdeal.Gen Cert.Adam

/-- The blocks of the own gradient, for every chip and grid point. -/
theorem inside : ∀ (k : Fin 4) (i : grid0.Coords), ∃ h : (∀ a, (![(Scalar.addi (Scalar.muli (BitVec.ofNat 32 k.val) 4#32) (BitVec.ofNat 32 (i 0).val)).toNat, (0#32).toNat] a + 1) * S128x2048.size a ≤ S2048x2048.size a),
    EltTy.bits .bf16 = 32 ∨ (Rect.block (s := S2048x2048) S128x2048.size
      ![(Scalar.addi (Scalar.muli (BitVec.ofNat 32 k.val) 4#32) (BitVec.ofNat 32 (i 0).val)).toNat, (0#32).toNat] h).WholeWords (EltTy.packing .bf16) := by
  decide +kernel

/-- The blocks lie in the matrix when the chip's number is one of four. -/
theorem ok_of_chip {F : FTy → Type} [FloatOps F] (m : (ℓ : Loc nD τ sig) → Buf (Elt F) ℓ) (k : Fin 4)
    (hk : m (((0 : Dev nD).tc : Thread nD τ).loc main_arg0) (ix1 0) = BitVec.ofNat 32 k.val) : Ok m := by
  have e : (tbl m).at 0 (Rect.unit (s := S2) ![0] S1.size inb_S2_S1_0) numel1_S1 = BitVec.ofNat 32 k.val :=
    Eq.trans (congrArg (m (((0 : Dev nD).tc : Thread nD τ).loc main_arg0)) (funext fun b => by fin_cases b; rfl)) hk
  unfold Ok ok0 cc0_transform_1
  dsimp only
  rw [e]
  exact inside k

/-- The run, and what it leaves alone, when the precondition holds. -/
theorem frame : Cert.quiescent_AdamRowsIdeal := fun m ρ h =>
  have ⟨k, hk⟩ := chip_of _ _ _ (h 0)
  Gen.frame m ρ (ok_of_chip m k hk)

variable (m : (ℓ : Loc nD τ sig) → Buf (Elt Ideal) ℓ)

/-- This device's number, as the kernel reads it. -/
def me : BitVec 32 := View.readAt (Elt Ideal) (View.whole main_arg0) (Rect.unit ![1] ![1] inb_S2_S1_1).toLoadRect (tbl m 0) (Shape.Idx.first (by decide))

theorem me_eq : me m = m (((0 : Dev nD).tc : Thread nD τ).loc main_arg0) (ix1 1) :=
  congrArg (m (((0 : Dev nD).tc : Thread nD τ).loc main_arg0)) (funext fun b => by fin_cases b; rfl)

variable (k : Fin 4)

/-- The arrays the kernel leaves on chip `k`, from the arrays it was given. -/
def G5 (c : Dev nD) : S512x2048.Idx → EReal := fun i =>
  grad (me m) (fun d => m (c.tc.loc main_arg1) (ix3 d ⟨i 0, (i 0).isLt⟩ ⟨i 1, (i 1).isLt⟩))
    (m (c.tc.loc main_arg2) (ix2 ⟨k.val * 512 + (i 0).val, by have : (i 0).val < 512 := (i 0).isLt; omega⟩ ⟨(i 1).val, (i 1).isLt⟩))
def G7 (c : Dev nD) : S512x2048.Idx → EReal := fun i => newM (G5 m k c i) (m (c.tc.loc main_arg4) i)
def G8 (c : Dev nD) : S512x2048.Idx → EReal := fun i => newV (G5 m k c i) (m (c.tc.loc main_arg5) i)
def G6 (c : Dev nD) : S512x2048.Idx → EReal := fun i => delta (m (c.tc.loc main_arg3) i) (G7 m k c i) (G8 m k c i)

variable (hO : Ok m) (c : Dev nD) (t : Fin (cfgM m hO).N) (y : S128x2048.Idx)

/-- The gradient at an entry of a block. -/
def gAt : EReal := grad (me m) (fun k => iblk m hO c 0 t (ix3 k ⟨y 0, (y 0).isLt⟩ ⟨y 1, (y 1).isLt⟩)) (iblk m hO c 1 t y)

/-- A staged block is read back as it was. -/
theorem staged {S : Shape} {e : EltTy} (M : Memref sig .tc .vmem S e) (h : M.IsWhole) (x : S.Idx → Elt Ideal e) :
    View.read (Elt Ideal) M.view (h.unread x) = x := h.read_unread x

theorem out5 : (outsAt0 m hO c t).1 y = gAt m hO c t y := by
  unfold outsAt0
  frame_out
  refine (kernel_sum _ (View.read (Elt Ideal) (ms0_0 m hO t).view ((hs0_0 m hO t).unread (iblk m hO c 0 t)))
    (View.read (Elt Ideal) (ms0_1 m hO t).view ((hs0_1 m hO t).unread (iblk m hO c 1 t))) shapeCasts_S1x128x2048_S128x2048 y).trans ?_
  exact congrArg₂ (fun (X : S8x128x2048.Idx → EReal) (O : S128x2048.Idx → EReal) => grad (me m) (fun k => X (ix3 k ⟨y 0, (y 0).isLt⟩ ⟨y 1, (y 1).isLt⟩)) (O y))
    (staged (S := S8x128x2048) (e := .bf16) (ms0_0 m hO t) _ _) (staged (S := S128x2048) (e := .bf16) (ms0_1 m hO t) _ _)

theorem out7 : (outsAt0 m hO c t).2.2.1 y = newM (gAt m hO c t y) (iblk m hO c 3 t y) := by
  have e := out5 m hO c t y
  unfold outsAt0 at e ⊢
  frame_out at e
  frame_out
  exact congrArg₂ newM e (congrFun (Memref.IsWhole.read_unread _ _) y)

theorem out8 : (outsAt0 m hO c t).2.2.2 y = newV (gAt m hO c t y) (iblk m hO c 4 t y) := by
  have e := out5 m hO c t y
  unfold outsAt0 at e ⊢
  frame_out at e
  frame_out
  exact congrArg₂ newV e (congrFun (Memref.IsWhole.read_unread _ _) y)

theorem out6 : (outsAt0 m hO c t).2.1 y
    = delta (iblk m hO c 2 t y) (newM (gAt m hO c t y) (iblk m hO c 3 t y)) (newV (gAt m hO c t y) (iblk m hO c 4 t y)) := by
  have e := out7 m hO c t y
  have f := out8 m hO c t y
  unfold outsAt0 at e f ⊢
  frame_out at e
  frame_out at f
  frame_out
  rw [← e, ← f]
  exact congrArg (fun a => delta a _ _) (congrFun (Memref.IsWhole.read_unread _ _) y)

/-- Where the blocks lie: rows from the grid point's, every column. -/
theorem place0 : ∀ t : Fin grid0.N, cc0_transform_0 (grid0.coords t) = ![0, (grid0.coords t 0).val, 0] := by decide +kernel
theorem place : ∀ t : Fin grid0.N, cc0_transform_2 (grid0.coords t) = ![(grid0.coords t 0).val, 0] := by decide +kernel
theorem place_word : ∀ (k : Fin 4) (t : Fin grid0.N),
    ![(Scalar.addi (Scalar.muli (BitVec.ofNat 32 k.val) 4#32) (BitVec.ofNat 32 (grid0.coords t 0).val)).toNat, (0#32).toNat]
      = ![k.val * 4 + (grid0.coords t 0).val, 0] := by decide +kernel

variable {k} (hk : m (((0 : Dev nD).tc : Thread nD τ).loc main_arg0) (ix1 0) = BitVec.ofNat 32 k.val)

include hk in
theorem place1 (t : Fin grid0.N) : cc0_transform_1 inb_S2_S1_0 numel1_S1 (tbl m) (grid0.coords t) = ![k.val * 4 + (grid0.coords t 0).val, 0] := by
  have e : (tbl m).at 0 (Rect.unit (s := S2) ![0] S1.size inb_S2_S1_0) numel1_S1 = BitVec.ofNat 32 k.val :=
    (congrArg (m (((0 : Dev nD).tc : Thread nD τ).loc main_arg0)) (funext fun b => by fin_cases b; rfl)).trans hk
  unfold cc0_transform_1
  dsimp only
  rw [e]
  exact place_word k t

section Entry

variable (i : S512x2048.Idx) (h : (i 0).val = (grid0.coords t 0).val * 128 + (y 0).val ∧ (i 1).val = 0 * 2048 + (y 1).val)

include hk h in
theorem gAt_eq : gAt m hO c t y = G5 m k c i := by
  unfold gAt G5
  refine congrArg₂ (grad (me m)) (funext fun k => ?_) ?_
  · exact congrArg (m (c.tc.loc main_arg1)) (is3 (j := ix3 k ⟨y 0, (y 0).isLt⟩ ⟨y 1, (y 1).isLt⟩)
      (fun a => ValueKit.view_emb_slice_whole_unit_val main_arg1 _ _ _ _ a) (place0 t) _ (Nat.zero_add _).symm h.1 h.2)
  · exact congrArg (m (c.tc.loc main_arg2)) (is2 (fun a => ValueKit.view_emb_slice_whole_unit_val main_arg2 _ _ _ _ a) (place1 m hk t) _
      (show k.val * 512 + (i 0).val = (k.val * 4 + (grid0.coords t 0).val) * 128 + (y 0).val by rw [h.1]; ring) h.2)

include hk h in
theorem mAt_eq : newM (gAt m hO c t y) (iblk m hO c 3 t y) = G7 m k c i :=
  congrArg₂ newM (gAt_eq m hO c t y hk i h)
    (congrArg (m (c.tc.loc main_arg4)) (is2 (fun a => ValueKit.view_emb_slice_whole_unit_val main_arg4 _ _ _ _ a) (place t) _ h.1 h.2))

include hk h in
theorem vAt_eq : newV (gAt m hO c t y) (iblk m hO c 4 t y) = G8 m k c i :=
  congrArg₂ newV (gAt_eq m hO c t y hk i h)
    (congrArg (m (c.tc.loc main_arg5)) (is2 (fun a => ValueKit.view_emb_slice_whole_unit_val main_arg5 _ _ _ _ a) (place t) _ h.1 h.2))

include hk h in
theorem dAt_eq : delta (iblk m hO c 2 t y) (newM (gAt m hO c t y) (iblk m hO c 3 t y)) (newV (gAt m hO c t y) (iblk m hO c 4 t y)) = G6 m k c i := by
  rw [mAt_eq m hO c t y hk i h, vAt_eq m hO c t y hk i h]
  exact congrArg (fun a => delta a _ _)
    (congrArg (m (c.tc.loc main_arg3)) (is2 (fun a => ValueKit.view_emb_slice_whole_unit_val main_arg3 _ _ _ _ a) (place t) _ h.1 h.2))

end Entry

theorem reached : ∀ p : Fin 4, ∃ i : grid0.Coords, cc0_transform_5 i 0 = p ∧ cc0_transform_5 i 1 = 0 := by decide +kernel

/-- Every block of an output is written. -/
theorem covers (β : Fin 2 → ℕ) (h0 : β 0 < (512 + 128 - 1) / 128) (h1 : β 1 < (2048 + 2048 - 1) / 2048) : ∃ i : grid0.Coords, ∀ a : Fin 2, cc0_transform_5 i a = β a := by
  obtain ⟨i, e0, e1⟩ := reached ⟨β 0, h0⟩
  exact ⟨i, fun a => by fin_cases a; exacts [e0, e1.trans (Nat.lt_one_iff.mp h1).symm]⟩

include hk in
theorem final5 : (dats m hO 0 c).arrAt 5 (cfgM m hO).N = G5 m k c := by
  refine (dats m hO 0 c).arrAt_eq_of_covers 5 _ (Window.covers_of_indexMap_surj _ rfl (by decide : ∀ a : Fin 2, 0 < S128x2048.size a) fun β => covers (fun a => β a) (β (0 : Fin 2)).isLt (β (1 : Fin 2)).isLt) fun t hf y => ?_
  blk_simp
  rw [after0_5]
  exact (out5 m hO c t y).trans (gAt_eq m hO c t y hk _ (lies2 (fun a => ValueKit.view_emb_slice_whole_unit_val main_v0_0 _ _ _ _ a) (place t)))

include hk in
theorem final6 : (dats m hO 0 c).arrAt 6 (cfgM m hO).N = G6 m k c := by
  refine (dats m hO 0 c).arrAt_eq_of_covers 6 _ (Window.covers_of_indexMap_surj _ rfl (by decide : ∀ a : Fin 2, 0 < S128x2048.size a) fun β => covers (fun a => β a) (β (0 : Fin 2)).isLt (β (1 : Fin 2)).isLt) fun t hf y => ?_
  blk_simp
  rw [after0_6]
  exact (out6 m hO c t y).trans (dAt_eq m hO c t y hk _ (lies2 (fun a => ValueKit.view_emb_slice_whole_unit_val main_v0_1 _ _ _ _ a) (place t)))

include hk in
theorem final7 : (dats m hO 0 c).arrAt 7 (cfgM m hO).N = G7 m k c := by
  refine (dats m hO 0 c).arrAt_eq_of_covers 7 _ (Window.covers_of_indexMap_surj _ rfl (by decide : ∀ a : Fin 2, 0 < S128x2048.size a) fun β => covers (fun a => β a) (β (0 : Fin 2)).isLt (β (1 : Fin 2)).isLt) fun t hf y => ?_
  blk_simp
  rw [after0_7]
  exact (out7 m hO c t y).trans (mAt_eq m hO c t y hk _ (lies2 (fun a => ValueKit.view_emb_slice_whole_unit_val main_v0_2 _ _ _ _ a) (place t)))

include hk in
theorem final8 : (dats m hO 0 c).arrAt 8 (cfgM m hO).N = G8 m k c := by
  refine (dats m hO 0 c).arrAt_eq_of_covers 8 _ (Window.covers_of_indexMap_surj _ rfl (by decide : ∀ a : Fin 2, 0 < S128x2048.size a) fun β => covers (fun a => β a) (β (0 : Fin 2)).isLt (β (1 : Fin 2)).isLt) fun t hf y => ?_
  blk_simp
  rw [after0_8]
  exact (out8 m hO c t y).trans (vAt_eq m hO c t y hk _ (lies2 (fun a => ValueKit.view_emb_slice_whole_unit_val main_v0_3 _ _ _ _ a) (place t)))

include hk in
/-- The arrays after the run. -/
theorem arrays (hO : Ok m) (ρ : Dev nD → PrngReg) :
    θ_run (defs (F := Ideal)) (onTc (τ := τ) (main (F := Ideal))) ⟨m, fun _ => 0, ρ⟩ (fun r => ∀ c : Dev nD,
      r.2.mem (c.tc.loc main_v0_0) = G5 m k c ∧ r.2.mem (c.tc.loc main_v0_1) = G6 m k c ∧ r.2.mem (c.tc.loc main_v0_2) = G7 m k c
        ∧ r.2.mem (c.tc.loc main_v0_3) = G8 m k c) := by
  refine (θ_run _ _ _).mono (fun r h c => ?_) (run_main m ρ hO)
  obtain rfl : c = 0 := Subsingleton.elim _ _
  exact ⟨((h 0).1 5).trans (final5 m hO 0 hk), ((h 0).1 6).trans (final6 m hO 0 hk), ((h 0).1 7).trans (final7 m hO 0 hk), ((h 0).1 8).trans (final8 m hO 0 hk)⟩

end Cert.AdamRowsIdeal.Step

namespace Cert.Proof

open Idealize.ShloMosaic Idealize.ShloMosaic.TcCoe Idealize.SL.Sem Cert.Adam Cert.AdamRowsIdeal.Step Cert.AdamRowsRefIdeal.Gen
open Cert.AdamRowsIdeal (main_arg0 main_arg1 main_arg2)

/-- The kernel computes what its reference does. -/
theorem algebraic_adam_rows : Cert.algebraic_AdamRowsIdeal_AdamRowsRefIdeal := by
  intro m ρ m' ρ' hpre hagree
  obtain ⟨k, hk⟩ := chip_of _ _ _ (hpre 0)
  have hO := ok_of_chip m k hk
  refine ⟨fun c => G5 m k c, fun c => G6 m k c, fun c => G7 m k c, fun c => G8 m k c, ?_, ?_⟩
  · refine (θ_run _ _ _).mono (fun r h c => ?_) (θ_run_and (arrays m hk hO ρ) (Cert.AdamRowsIdeal.Gen.unchanged m ρ hO))
    obtain ⟨h5, h6, h7, h8⟩ := h.1 c
    exact ⟨h5, h6, h7, h8, h.2 c⟩
  · refine (θ_run _ _ _).mono (fun r h c => ?_) (Cert.AdamRowsRefIdeal.Value.run (F := Ideal) m' ρ')
    obtain ⟨e0, e1, e2, e3, e4, e5⟩ := hagree c
    obtain rfl : c = 0 := Subsingleton.elim _ _
    obtain ⟨h5, h6, h7, h8, hargs⟩ := h 0
    have hg := fun i => (host_gradient (m ((0 : Dev _).tc.loc main_arg0)) (m ((0 : Dev _).tc.loc main_arg1))
      (ownOf (m ((0 : Dev _).tc.loc main_arg0)) (m ((0 : Dev _).tc.loc main_arg2)) ![0, 512, 1024, 1536] (fun _ => 0) slices_S2_S1_0 shapeCasts_S1_S_ bcast_S_S512x2048
        slices_S2048x2048_S512x2048_0_0 slices_S2048x2048_S512x2048_512_0 slices_S2048x2048_S512x2048_1024_0 slices_S2048x2048_S512x2048_1536_0)
      bcast_S8x1x1_S8x512x2048_0_1_2 bcast_S8_S8x1x1_0 bcast_S_S8x1x1 slices_S2_S1_1 shapeCasts_S1_S_ bcast_S1x512x2048_S8x512x2048_0_1_2
      bcast_S512x2048_S1x512x2048_1_2 reducesTo_S8x512x2048_S512x2048_d0 h_S_ (by decide) (by decide) i).trans
      (congrArg₂ (fun b o => grad b _ o) (me_eq m).symm (ownOf_apply hk i
        (ix2 ⟨k.val * 512 + (i 0).val, by have : (i 0).val < 512 := (i 0).isLt; omega⟩ ⟨(i 1).val, (i 1).isLt⟩)
        (congrArg (· + (i 0).val) ((by decide : ∀ k : Fin 4, k.val * 512 = (![0, 512, 1024, 1536] : Fin 4 → ℕ) k) k)) (Nat.zero_add _).symm))
    refine ⟨h5.trans ?_, h6.trans ?_, h7.trans ?_, h8.trans ?_, hargs⟩
    · rw [e0, e1, e2]
      exact funext hg
    · unfold Cert.AdamRowsRefIdeal.Value.res_main_v50
      rw [e0, e1, e2, e3, e4, e5]
      exact funext fun i => congrArg (fun g => delta _ (newM g _) (newV g _)) (hg i)
    · rw [e0, e1, e2, e4]
      exact funext fun i => congrArg (fun g => newM g _) (hg i)
    · rw [e0, e1, e2, e5]
      exact funext fun i => congrArg (fun g => newV g _) (hg i)

/-- The reference runs, keeps its arguments and leaves no semaphore raised. -/
theorem frame_adam_rows_ref : Cert.quiescent_AdamRowsRefIdeal := fun m ρ _ =>
  (θ_run _ _ _).mono (fun r h => ⟨fun c => (h c).2.2.2.2, sem_eq_zero_of_no_sems (by decide) r.2⟩)
    (Cert.AdamRowsRefIdeal.Value.run (F := Ideal) m ρ)

end Cert.Proof

end
-- ==== Proof.AdamColumns.lean ====
/- The optimiser step on a weight kept by columns: kernel and reference at every entry. -/
module

public import proofs.«01_k».proof.Proof.Adam
public import proofs.«01_k».proof.Proof.Gen.AdamColumns.Frame
public import proofs.«01_k».proof.Proof.Gen.Pre_chip_columns
public import proofs.«01_k».proof.Proof.Gen.AdamColumnsIdeal.Frame
public import proofs.«01_k».proof.Proof.Gen.AdamColumnsRefIdeal.Run
public import proofs.«01_k».proof.Defs

@[expose] public section

set_option maxRecDepth 16384

noncomputable section

namespace Cert.AdamColumns.Step

open Idealize.ShloMosaic Idealize.ShloMosaic.TcCoe
open Cert.AdamColumns.Gen Cert.Adam

/-- The blocks of the own gradient, for every chip and grid point. -/
theorem inside : ∀ (k : Fin 4) (i : grid0.Coords), ∃ h : (∀ a, (![(BitVec.ofNat 32 (i 0).val).toNat, (BitVec.ofNat 32 k.val).toNat] a + 1) * S256x1024.size a ≤ S2048x4096.size a),
    EltTy.bits .bf16 = 32 ∨ (Rect.block (s := S2048x4096) S256x1024.size
      ![(BitVec.ofNat 32 (i 0).val).toNat, (BitVec.ofNat 32 k.val).toNat] h).WholeWords (EltTy.packing .bf16) := by
  decide +kernel

/-- The blocks lie in the matrix when the chip's number is one of four. -/
theorem ok_of_chip {F : FTy → Type} [FloatOps F] (m : (ℓ : Loc nD τ sig) → Buf (Elt F) ℓ) (k : Fin 4)
    (hk : m (((0 : Dev nD).tc : Thread nD τ).loc main_arg0) (ix1 0) = BitVec.ofNat 32 k.val) : Ok m := by
  have e : (tbl m).at 0 (Rect.unit (s := S2) ![0] S1.size inb_S2_S1_0) numel1_S1 = BitVec.ofNat 32 k.val :=
    Eq.trans (congrArg (m (((0 : Dev nD).tc : Thread nD τ).loc main_arg0)) (funext fun b => by fin_cases b; rfl)) hk
  unfold Ok ok0 cc0_transform_1
  dsimp only
  rw [e]
  exact inside k

/-- The run, and what it leaves alone, when the precondition holds. -/
theorem frame : Cert.quiescent_AdamColumns := fun m ρ h =>
  have ⟨k, hk⟩ := chip_of _ _ _ (h 0)
  Gen.frame m ρ (ok_of_chip m k hk)

end Cert.AdamColumns.Step

namespace Cert.AdamColumnsIdeal.Step

open Idealize.ShloMosaic Idealize.ShloMosaic.TcCoe
open Idealize.SL Idealize.SL.Sem
open Idealize.ShloMosaic.Pipeline (Dat Cfg Window)
open Cert.AdamColumnsIdeal.Gen Cert.Adam

/-- The blocks of the own gradient, for every chip and grid point. -/
theorem inside : ∀ (k : Fin 4) (i : grid0.Coords), ∃ h : (∀ a, (![(BitVec.ofNat 32 (i 0).val).toNat, (BitVec.ofNat 32 k.val).toNat] a + 1) * S256x1024.size a ≤ S2048x4096.size a),
    EltTy.bits .bf16 = 32 ∨ (Rect.block (s := S2048x4096) S256x1024.size
      ![(BitVec.ofNat 32 (i 0).val).toNat, (BitVec.ofNat 32 k.val).toNat] h).WholeWords (EltTy.packing .bf16) := by
  decide +kernel

/-- The blocks lie in the matrix when the chip's number is one of four. -/
theorem ok_of_chip {F : FTy → Type} [FloatOps F] (m : (ℓ : Loc nD τ sig) → Buf (Elt F) ℓ) (k : Fin 4)
    (hk : m (((0 : Dev nD).tc : Thread nD τ).loc main_arg0) (ix1 0) = BitVec.ofNat 32 k.val) : Ok m := by
  have e : (tbl m).at 0 (Rect.unit (s := S2) ![0] S1.size inb_S2_S1_0) numel1_S1 = BitVec.ofNat 32 k.val :=
    Eq.trans (congrArg (m (((0 : Dev nD).tc : Thread nD τ).loc main_arg0)) (funext fun b => by fin_cases b; rfl)) hk
  unfold Ok ok0 cc0_transform_1
  dsimp only
  rw [e]
  exact inside k

/-- The run, and what it leaves alone, when the precondition holds. -/
theorem frame : Cert.quiescent_AdamColumnsIdeal := fun m ρ h =>
  have ⟨k, hk⟩ := chip_of _ _ _ (h 0)
  Gen.frame m ρ (ok_of_chip m k hk)

variable (m : (ℓ : Loc nD τ sig) → Buf (Elt Ideal) ℓ)

/-- This device's number, as the kernel reads it. -/
def me : BitVec 32 := View.readAt (Elt Ideal) (View.whole main_arg0) (Rect.unit ![1] ![1] inb_S2_S1_1).toLoadRect (tbl m 0) (Shape.Idx.first (by decide))

theorem me_eq : me m = m (((0 : Dev nD).tc : Thread nD τ).loc main_arg0) (ix1 1) :=
  congrArg (m (((0 : Dev nD).tc : Thread nD τ).loc main_arg0)) (funext fun b => by fin_cases b; rfl)

variable (k : Fin 4)

/-- The arrays the kernel leaves on chip `k`, from the arrays it was given. -/
def G5 (c : Dev nD) : S2048x1024.Idx → EReal := fun i =>
  grad (me m) (fun d => m (c.tc.loc main_arg1) (ix3 d ⟨i 0, (i 0).isLt⟩ ⟨i 1, (i 1).isLt⟩))
    (m (c.tc.loc main_arg2) (ix2 ⟨(i 0).val, (i 0).isLt⟩ ⟨k.val * 1024 + (i 1).val, by have : (i 1).val < 1024 := (i 1).isLt; omega⟩))
def G7 (c : Dev nD) : S2048x1024.Idx → EReal := fun i => newM (G5 m k c i) (m (c.tc.loc main_arg4) i)
def G8 (c : Dev nD) : S2048x1024.Idx → EReal := fun i => newV (G5 m k c i) (m (c.tc.loc main_arg5) i)
def G6 (c : Dev nD) : S2048x1024.Idx → EReal := fun i => delta (m (c.tc.loc main_arg3) i) (G7 m k c i) (G8 m k c i)

variable (hO : Ok m) (c : Dev nD) (t : Fin (cfgM m hO).N) (y : S256x1024.Idx)

/-- The gradient at an entry of a block. -/
def gAt : EReal := grad (me m) (fun k => iblk m hO c 0 t (ix3 k ⟨y 0, (y 0).isLt⟩ ⟨y 1, (y 1).isLt⟩)) (iblk m hO c 1 t y)

/-- A staged block is read back as it was. -/
theorem staged {S : Shape} {e : EltTy} (M : Memref sig .tc .vmem S e) (h : M.IsWhole) (x : S.Idx → Elt Ideal e) :
    View.read (Elt Ideal) M.view (h.unread x) = x := h.read_unread x

theorem out5 : (outsAt0 m hO c t).1 y = gAt m hO c t y := by
  unfold outsAt0
  frame_out
  refine (kernel_sum _ (View.read (Elt Ideal) (ms0_0 m hO t).view ((hs0_0 m hO t).unread (iblk m hO c 0 t)))
    (View.read (Elt Ideal) (ms0_1 m hO t).view ((hs0_1 m hO t).unread (iblk m hO c 1 t))) shapeCasts_S1x256x1024_S256x1024 y).trans ?_
  exact congrArg₂ (fun (X : S8x256x1024.Idx → EReal) (O : S256x1024.Idx → EReal) => grad (me m) (fun k => X (ix3 k ⟨y 0, (y 0).isLt⟩ ⟨y 1, (y 1).isLt⟩)) (O y))
    (staged (S := S8x256x1024) (e := .bf16) (ms0_0 m hO t) _ _) (staged (S := S256x1024) (e := .bf16) (ms0_1 m hO t) _ _)

theorem out7 : (outsAt0 m hO c t).2.2.1 y = newM (gAt m hO c t y) (iblk m hO c 3 t y) := by
  have e := out5 m hO c t y
  unfold outsAt0 at e ⊢
  frame_out at e
  frame_out
  exact congrArg₂ newM e (congrFun (Memref.IsWhole.read_unread _ _) y)

theorem out8 : (outsAt0 m hO c t).2.2.2 y = newV (gAt m hO c t y) (iblk m hO c 4 t y) := by
  have e := out5 m hO c t y
  unfold outsAt0 at e ⊢
  frame_out at e
  frame_out
  exact congrArg₂ newV e (congrFun (Memref.IsWhole.read_unread _ _) y)

theorem out6 : (outsAt0 m hO c t).2.1 y
    = delta (iblk m hO c 2 t y) (newM (gAt m hO c t y) (iblk m hO c 3 t y)) (newV (gAt m hO c t y) (iblk m hO c 4 t y)) := by
  have e := out7 m hO c t y
  have f := out8 m hO c t y
  unfold outsAt0 at e f ⊢
  frame_out at e
  frame_out at f
  frame_out
  rw [← e, ← f]
  exact congrArg (fun a => delta a _ _) (congrFun (Memref.IsWhole.read_unread _ _) y)

/-- Where the blocks lie: rows from the grid point's, every column. -/
theorem place0 : ∀ t : Fin grid0.N, cc0_transform_0 (grid0.coords t) = ![0, (grid0.coords t 0).val, 0] := by decide +kernel
theorem place : ∀ t : Fin grid0.N, cc0_transform_2 (grid0.coords t) = ![(grid0.coords t 0).val, 0] := by decide +kernel
theorem place_word : ∀ (k : Fin 4) (t : Fin grid0.N),
    ![(BitVec.ofNat 32 (grid0.coords t 0).val).toNat, (BitVec.ofNat 32 k.val).toNat]
      = ![(grid0.coords t 0).val, k.val] := by decide +kernel

variable {k} (hk : m (((0 : Dev nD).tc : Thread nD τ).loc main_arg0) (ix1 0) = BitVec.ofNat 32 k.val)

include hk in
theorem place1 (t : Fin grid0.N) : cc0_transform_1 inb_S2_S1_0 numel1_S1 (tbl m) (grid0.coords t) = ![(grid0.coords t 0).val, k.val] := by
  have e : (tbl m).at 0 (Rect.unit (s := S2) ![0] S1.size inb_S2_S1_0) numel1_S1 = BitVec.ofNat 32 k.val :=
    (congrArg (m (((0 : Dev nD).tc : Thread nD τ).loc main_arg0)) (funext fun b => by fin_cases b; rfl)).trans hk
  unfold cc0_transform_1
  dsimp only
  rw [e]
  exact place_word k t

section Entry

variable (i : S2048x1024.Idx) (h : (i 0).val = (grid0.coords t 0).val * 256 + (y 0).val ∧ (i 1).val = 0 * 1024 + (y 1).val)

include hk h in
theorem gAt_eq : gAt m hO c t y = G5 m k c i := by
  unfold gAt G5
  refine congrArg₂ (grad (me m)) (funext fun k => ?_) ?_
  · exact congrArg (m (c.tc.loc main_arg1)) (is3 (j := ix3 k ⟨y 0, (y 0).isLt⟩ ⟨y 1, (y 1).isLt⟩)
      (fun a => ValueKit.view_emb_slice_whole_unit_val main_arg1 _ _ _ _ a) (place0 t) _ (Nat.zero_add _).symm h.1 h.2)
  · exact congrArg (m (c.tc.loc main_arg2)) (is2 (fun a => ValueKit.view_emb_slice_whole_unit_val main_arg2 _ _ _ _ a) (place1 m hk t) _
      h.1 (show k.val * 1024 + (i 1).val = k.val * 1024 + (y 1).val by rw [h.2]; ring))

include hk h in
theorem mAt_eq : newM (gAt m hO c t y) (iblk m hO c 3 t y) = G7 m k c i :=
  congrArg₂ newM (gAt_eq m hO c t y hk i h)
    (congrArg (m (c.tc.loc main_arg4)) (is2 (fun a => ValueKit.view_emb_slice_whole_unit_val main_arg4 _ _ _ _ a) (place t) _ h.1 h.2))

include hk h in
theorem vAt_eq : newV (gAt m hO c t y) (iblk m hO c 4 t y) = G8 m k c i :=
  congrArg₂ newV (gAt_eq m hO c t y hk i h)
    (congrArg (m (c.tc.loc main_arg5)) (is2 (fun a => ValueKit.view_emb_slice_whole_unit_val main_arg5 _ _ _ _ a) (place t) _ h.1 h.2))

include hk h in
theorem dAt_eq : delta (iblk m hO c 2 t y) (newM (gAt m hO c t y) (iblk m hO c 3 t y)) (newV (gAt m hO c t y) (iblk m hO c 4 t y)) = G6 m k c i := by
  rw [mAt_eq m hO c t y hk i h, vAt_eq m hO c t y hk i h]
  exact congrArg (fun a => delta a _ _)
    (congrArg (m (c.tc.loc main_arg3)) (is2 (fun a => ValueKit.view_emb_slice_whole_unit_val main_arg3 _ _ _ _ a) (place t) _ h.1 h.2))

end Entry

theorem reached : ∀ p : Fin 8, ∃ i : grid0.Coords, cc0_transform_5 i 0 = p ∧ cc0_transform_5 i 1 = 0 := by decide +kernel

/-- Every block of an output is written. -/
theorem covers (β : Fin 2 → ℕ) (h0 : β 0 < (2048 + 256 - 1) / 256) (h1 : β 1 < (1024 + 1024 - 1) / 1024) : ∃ i : grid0.Coords, ∀ a : Fin 2, cc0_transform_5 i a = β a := by
  obtain ⟨i, e0, e1⟩ := reached ⟨β 0, h0⟩
  exact ⟨i, fun a => by fin_cases a; exacts [e0, e1.trans (Nat.lt_one_iff.mp h1).symm]⟩

include hk in
theorem final5 : (dats m hO 0 c).arrAt 5 (cfgM m hO).N = G5 m k c := by
  refine (dats m hO 0 c).arrAt_eq_of_covers 5 _ (Window.covers_of_indexMap_surj _ rfl (by decide : ∀ a : Fin 2, 0 < S256x1024.size a) fun β => covers (fun a => β a) (β (0 : Fin 2)).isLt (β (1 : Fin 2)).isLt) fun t hf y => ?_
  blk_simp
  rw [after0_5]
  exact (out5 m hO c t y).trans (gAt_eq m hO c t y hk _ (lies2 (fun a => ValueKit.view_emb_slice_whole_unit_val main_v0_0 _ _ _ _ a) (place t)))

include hk in
theorem final6 : (dats m hO 0 c).arrAt 6 (cfgM m hO).N = G6 m k c := by
  refine (dats m hO 0 c).arrAt_eq_of_covers 6 _ (Window.covers_of_indexMap_surj _ rfl (by decide : ∀ a : Fin 2, 0 < S256x1024.size a) fun β => covers (fun a => β a) (β (0 : Fin 2)).isLt (β (1 : Fin 2)).isLt) fun t hf y => ?_
  blk_simp
  rw [after0_6]
  exact (out6 m hO c t y).trans (dAt_eq m hO c t y hk _ (lies2 (fun a => ValueKit.view_emb_slice_whole_unit_val main_v0_1 _ _ _ _ a) (place t)))

include hk in
theorem final7 : (dats m hO 0 c).arrAt 7 (cfgM m hO).N = G7 m k c := by
  refine (dats m hO 0 c).arrAt_eq_of_covers 7 _ (Window.covers_of_indexMap_surj _ rfl (by decide : ∀ a : Fin 2, 0 < S256x1024.size a) fun β => covers (fun a => β a) (β (0 : Fin 2)).isLt (β (1 : Fin 2)).isLt) fun t hf y => ?_
  blk_simp
  rw [after0_7]
  exact (out7 m hO c t y).trans (mAt_eq m hO c t y hk _ (lies2 (fun a => ValueKit.view_emb_slice_whole_unit_val main_v0_2 _ _ _ _ a) (place t)))

include hk in
theorem final8 : (dats m hO 0 c).arrAt 8 (cfgM m hO).N = G8 m k c := by
  refine (dats m hO 0 c).arrAt_eq_of_covers 8 _ (Window.covers_of_indexMap_surj _ rfl (by decide : ∀ a : Fin 2, 0 < S256x1024.size a) fun β => covers (fun a => β a) (β (0 : Fin 2)).isLt (β (1 : Fin 2)).isLt) fun t hf y => ?_
  blk_simp
  rw [after0_8]
  exact (out8 m hO c t y).trans (vAt_eq m hO c t y hk _ (lies2 (fun a => ValueKit.view_emb_slice_whole_unit_val main_v0_3 _ _ _ _ a) (place t)))

include hk in
/-- The arrays after the run. -/
theorem arrays (hO : Ok m) (ρ : Dev nD → PrngReg) :
    θ_run (defs (F := Ideal)) (onTc (τ := τ) (main (F := Ideal))) ⟨m, fun _ => 0, ρ⟩ (fun r => ∀ c : Dev nD,
      r.2.mem (c.tc.loc main_v0_0) = G5 m k c ∧ r.2.mem (c.tc.loc main_v0_1) = G6 m k c ∧ r.2.mem (c.tc.loc main_v0_2) = G7 m k c
        ∧ r.2.mem (c.tc.loc main_v0_3) = G8 m k c) := by
  refine (θ_run _ _ _).mono (fun r h c => ?_) (run_main m ρ hO)
  obtain rfl : c = 0 := Subsingleton.elim _ _
  exact ⟨((h 0).1 5).trans (final5 m hO 0 hk), ((h 0).1 6).trans (final6 m hO 0 hk), ((h 0).1 7).trans (final7 m hO 0 hk), ((h 0).1 8).trans (final8 m hO 0 hk)⟩

end Cert.AdamColumnsIdeal.Step

namespace Cert.Proof

open Idealize.ShloMosaic Idealize.ShloMosaic.TcCoe Idealize.SL.Sem Cert.Adam Cert.AdamColumnsIdeal.Step Cert.AdamColumnsRefIdeal.Gen
open Cert.AdamColumnsIdeal (main_arg0 main_arg1 main_arg2)

/-- The kernel computes what its reference does. -/
theorem algebraic_adam_columns : Cert.algebraic_AdamColumnsIdeal_AdamColumnsRefIdeal := by
  intro m ρ m' ρ' hpre hagree
  obtain ⟨k, hk⟩ := chip_of _ _ _ (hpre 0)
  have hO := ok_of_chip m k hk
  refine ⟨fun c => G5 m k c, fun c => G6 m k c, fun c => G7 m k c, fun c => G8 m k c, ?_, ?_⟩
  · refine (θ_run _ _ _).mono (fun r h c => ?_) (θ_run_and (arrays m hk hO ρ) (Cert.AdamColumnsIdeal.Gen.unchanged m ρ hO))
    obtain ⟨h5, h6, h7, h8⟩ := h.1 c
    exact ⟨h5, h6, h7, h8, h.2 c⟩
  · refine (θ_run _ _ _).mono (fun r h c => ?_) (Cert.AdamColumnsRefIdeal.Value.run (F := Ideal) m' ρ')
    obtain ⟨e0, e1, e2, e3, e4, e5⟩ := hagree c
    obtain rfl : c = 0 := Subsingleton.elim _ _
    obtain ⟨h5, h6, h7, h8, hargs⟩ := h 0
    have hg := fun i => (host_gradient (m ((0 : Dev _).tc.loc main_arg0)) (m ((0 : Dev _).tc.loc main_arg1))
      (ownOf (m ((0 : Dev _).tc.loc main_arg0)) (m ((0 : Dev _).tc.loc main_arg2)) (fun _ => 0) ![0, 1024, 2048, 3072] slices_S2_S1_0 shapeCasts_S1_S_ bcast_S_S2048x1024
        slices_S2048x4096_S2048x1024_0_0 slices_S2048x4096_S2048x1024_0_1024 slices_S2048x4096_S2048x1024_0_2048 slices_S2048x4096_S2048x1024_0_3072)
      bcast_S8x1x1_S8x2048x1024_0_1_2 bcast_S8_S8x1x1_0 bcast_S_S8x1x1 slices_S2_S1_1 shapeCasts_S1_S_ bcast_S1x2048x1024_S8x2048x1024_0_1_2
      bcast_S2048x1024_S1x2048x1024_1_2 reducesTo_S8x2048x1024_S2048x1024_d0 h_S_ (by decide) (by decide) i).trans
      (congrArg₂ (fun b o => grad b _ o) (me_eq m).symm (ownOf_apply hk i
        (ix2 ⟨(i 0).val, (i 0).isLt⟩ ⟨k.val * 1024 + (i 1).val, by have : (i 1).val < 1024 := (i 1).isLt; omega⟩)
        (Nat.zero_add _).symm (congrArg (· + (i 1).val) ((by decide : ∀ k : Fin 4, k.val * 1024 = (![0, 1024, 2048, 3072] : Fin 4 → ℕ) k) k))))
    refine ⟨h5.trans ?_, h6.trans ?_, h7.trans ?_, h8.trans ?_, hargs⟩
    · rw [e0, e1, e2]
      exact funext hg
    · unfold Cert.AdamColumnsRefIdeal.Value.res_main_v50
      rw [e0, e1, e2, e3, e4, e5]
      exact funext fun i => congrArg (fun g => delta _ (newM g _) (newV g _)) (hg i)
    · rw [e0, e1, e2, e4]
      exact funext fun i => congrArg (fun g => newM g _) (hg i)
    · rw [e0, e1, e2, e5]
      exact funext fun i => congrArg (fun g => newV g _) (hg i)

/-- The reference runs, keeps its arguments and leaves no semaphore raised. -/
theorem frame_adam_columns_ref : Cert.quiescent_AdamColumnsRefIdeal := fun m ρ _ =>
  (θ_run _ _ _).mono (fun r h => ⟨fun c => (h c).2.2.2.2, sem_eq_zero_of_no_sems (by decide) r.2⟩)
    (Cert.AdamColumnsRefIdeal.Value.run (F := Ideal) m ρ)

end Cert.Proof

end
-- ==== Proof.AdamPacked.lean ====
/- The optimiser step on the small weights, packed in one array: kernel and reference at every entry. -/
module

public import proofs.«01_k».proof.Proof.Adam
public import proofs.«01_k».proof.Proof.Gen.AdamPacked.Frame
public import proofs.«01_k».proof.Proof.Gen.Pre_chip_packed
public import proofs.«01_k».proof.Proof.Gen.AdamPackedIdeal.Frame
public import proofs.«01_k».proof.Proof.Gen.AdamPackedRefIdeal.Run
public import proofs.«01_k».proof.Defs

@[expose] public section

set_option maxRecDepth 16384

noncomputable section

namespace Cert.AdamPacked.Step

open Idealize.ShloMosaic Idealize.ShloMosaic.TcCoe
open Cert.AdamPacked.Gen Cert.Adam

/-- The blocks of the own gradient, for every chip and grid point. -/
theorem inside : ∀ (k : Fin 4) (i : grid0.Coords), ∃ h : (∀ a, (![(Scalar.addi (Scalar.muli (BitVec.ofNat 32 k.val) 1#32) (BitVec.ofNat 32 (i 0).val)).toNat, (0#32).toNat] a + 1) * S80x512.size a ≤ S320x512.size a),
    EltTy.bits .f32 = 32 ∨ (Rect.block (s := S320x512) S80x512.size
      ![(Scalar.addi (Scalar.muli (BitVec.ofNat 32 k.val) 1#32) (BitVec.ofNat 32 (i 0).val)).toNat, (0#32).toNat] h).WholeWords (EltTy.packing .f32) := by
  decide +kernel

/-- The blocks lie in the matrix when the chip's number is one of four. -/
theorem ok_of_chip {F : FTy → Type} [FloatOps F] (m : (ℓ : Loc nD τ sig) → Buf (Elt F) ℓ) (k : Fin 4)
    (hk : m (((0 : Dev nD).tc : Thread nD τ).loc main_arg0) (ix1 0) = BitVec.ofNat 32 k.val) : Ok m := by
  have e : (tbl m).at 0 (Rect.unit (s := S2) ![0] S1.size inb_S2_S1_0) numel1_S1 = BitVec.ofNat 32 k.val :=
    Eq.trans (congrArg (m (((0 : Dev nD).tc : Thread nD τ).loc main_arg0)) (funext fun b => by fin_cases b; rfl)) hk
  unfold Ok ok0 cc0_transform_1
  dsimp only
  rw [e]
  exact inside k

/-- The run, and what it leaves alone, when the precondition holds. -/
theorem frame : Cert.quiescent_AdamPacked := fun m ρ h =>
  have ⟨k, hk⟩ := chip_of _ _ _ (h 0)
  Gen.frame m ρ (ok_of_chip m k hk)

end Cert.AdamPacked.Step

namespace Cert.AdamPackedIdeal.Step

open Idealize.ShloMosaic Idealize.ShloMosaic.TcCoe
open Idealize.SL Idealize.SL.Sem
open Idealize.ShloMosaic.Pipeline (Dat Cfg Window)
open Cert.AdamPackedIdeal.Gen Cert.Adam

/-- The blocks of the own gradient, for every chip and grid point. -/
theorem inside : ∀ (k : Fin 4) (i : grid0.Coords), ∃ h : (∀ a, (![(Scalar.addi (Scalar.muli (BitVec.ofNat 32 k.val) 1#32) (BitVec.ofNat 32 (i 0).val)).toNat, (0#32).toNat] a + 1) * S80x512.size a ≤ S320x512.size a),
    EltTy.bits .f32 = 32 ∨ (Rect.block (s := S320x512) S80x512.size
      ![(Scalar.addi (Scalar.muli (BitVec.ofNat 32 k.val) 1#32) (BitVec.ofNat 32 (i 0).val)).toNat, (0#32).toNat] h).WholeWords (EltTy.packing .f32) := by
  decide +kernel

/-- The blocks lie in the matrix when the chip's number is one of four. -/
theorem ok_of_chip {F : FTy → Type} [FloatOps F] (m : (ℓ : Loc nD τ sig) → Buf (Elt F) ℓ) (k : Fin 4)
    (hk : m (((0 : Dev nD).tc : Thread nD τ).loc main_arg0) (ix1 0) = BitVec.ofNat 32 k.val) : Ok m := by
  have e : (tbl m).at 0 (Rect.unit (s := S2) ![0] S1.size inb_S2_S1_0) numel1_S1 = BitVec.ofNat 32 k.val :=
    Eq.trans (congrArg (m (((0 : Dev nD).tc : Thread nD τ).loc main_arg0)) (funext fun b => by fin_cases b; rfl)) hk
  unfold Ok ok0 cc0_transform_1
  dsimp only
  rw [e]
  exact inside k

/-- The run, and what it leaves alone, when the precondition holds. -/
theorem frame : Cert.quiescent_AdamPackedIdeal := fun m ρ h =>
  have ⟨k, hk⟩ := chip_of _ _ _ (h 0)
  Gen.frame m ρ (ok_of_chip m k hk)

variable (m : (ℓ : Loc nD τ sig) → Buf (Elt Ideal) ℓ)

/-- This device's number, as the kernel reads it. -/
def me : BitVec 32 := View.readAt (Elt Ideal) (View.whole main_arg0) (Rect.unit ![1] ![1] inb_S2_S1_1).toLoadRect (tbl m 0) (Shape.Idx.first (by decide))

theorem me_eq : me m = m (((0 : Dev nD).tc : Thread nD τ).loc main_arg0) (ix1 1) :=
  congrArg (m (((0 : Dev nD).tc : Thread nD τ).loc main_arg0)) (funext fun b => by fin_cases b; rfl)

variable (k : Fin 4)

/-- The arrays the kernel leaves on chip `k`, from the arrays it was given. -/
def G5 (c : Dev nD) : S80x512.Idx → EReal := fun i =>
  grad (me m) (fun d => m (c.tc.loc main_arg1) (ix3 d ⟨i 0, (i 0).isLt⟩ ⟨i 1, (i 1).isLt⟩))
    (m (c.tc.loc main_arg2) (ix2 ⟨k.val * 80 + (i 0).val, by have : (i 0).val < 80 := (i 0).isLt; omega⟩ ⟨(i 1).val, (i 1).isLt⟩))
def G7 (c : Dev nD) : S80x512.Idx → EReal := fun i => newM (G5 m k c i) (m (c.tc.loc main_arg4) i)
def G8 (c : Dev nD) : S80x512.Idx → EReal := fun i => newV (G5 m k c i) (m (c.tc.loc main_arg5) i)
def G6 (c : Dev nD) : S80x512.Idx → EReal := fun i => delta (m (c.tc.loc main_arg3) i) (G7 m k c i) (G8 m k c i)

variable (hO : Ok m) (c : Dev nD) (t : Fin (cfgM m hO).N) (y : S80x512.Idx)

/-- The gradient at an entry of a block. -/
def gAt : EReal := grad (me m) (fun k => iblk m hO c 0 t (ix3 k ⟨y 0, (y 0).isLt⟩ ⟨y 1, (y 1).isLt⟩)) (iblk m hO c 1 t y)

/-- A staged block is read back as it was. -/
theorem staged {S : Shape} {e : EltTy} (M : Memref sig .tc .vmem S e) (h : M.IsWhole) (x : S.Idx → Elt Ideal e) :
    View.read (Elt Ideal) M.view (h.unread x) = x := h.read_unread x

theorem out5 : (outsAt0 m hO c t).1 y = gAt m hO c t y := by
  unfold outsAt0
  frame_out
  refine (kernel_sum _ (View.read (Elt Ideal) (ms0_0 m hO t).view ((hs0_0 m hO t).unread (iblk m hO c 0 t)))
    (View.read (Elt Ideal) (ms0_1 m hO t).view ((hs0_1 m hO t).unread (iblk m hO c 1 t))) shapeCasts_S1x80x512_S80x512 y).trans ?_
  exact congrArg₂ (fun (X : S8x80x512.Idx → EReal) (O : S80x512.Idx → EReal) => grad (me m) (fun k => X (ix3 k ⟨y 0, (y 0).isLt⟩ ⟨y 1, (y 1).isLt⟩)) (O y))
    (staged (S := S8x80x512) (e := .f32) (ms0_0 m hO t) _ _) (staged (S := S80x512) (e := .f32) (ms0_1 m hO t) _ _)

theorem out7 : (outsAt0 m hO c t).2.2.1 y = newM (gAt m hO c t y) (iblk m hO c 3 t y) := by
  have e := out5 m hO c t y
  unfold outsAt0 at e ⊢
  frame_out at e
  frame_out
  exact congrArg₂ newM e (congrFun (Memref.IsWhole.read_unread _ _) y)

theorem out8 : (outsAt0 m hO c t).2.2.2 y = newV (gAt m hO c t y) (iblk m hO c 4 t y) := by
  have e := out5 m hO c t y
  unfold outsAt0 at e ⊢
  frame_out at e
  frame_out
  exact congrArg₂ newV e (congrFun (Memref.IsWhole.read_unread _ _) y)

theorem out6 : (outsAt0 m hO c t).2.1 y
    = delta (iblk m hO c 2 t y) (newM (gAt m hO c t y) (iblk m hO c 3 t y)) (newV (gAt m hO c t y) (iblk m hO c 4 t y)) := by
  have e := out7 m hO c t y
  have f := out8 m hO c t y
  unfold outsAt0 at e f ⊢
  frame_out at e
  frame_out at f
  frame_out
  rw [← e, ← f]
  exact congrArg (fun a => delta a _ _) (congrFun (Memref.IsWhole.read_unread _ _) y)

/-- Where the blocks lie: rows from the grid point's, every column. -/
theorem place0 : ∀ t : Fin grid0.N, cc0_transform_0 (grid0.coords t) = ![0, (grid0.coords t 0).val, 0] := by decide +kernel
theorem place : ∀ t : Fin grid0.N, cc0_transform_2 (grid0.coords t) = ![(grid0.coords t 0).val, 0] := by decide +kernel
theorem place_word : ∀ (k : Fin 4) (t : Fin grid0.N),
    ![(Scalar.addi (Scalar.muli (BitVec.ofNat 32 k.val) 1#32) (BitVec.ofNat 32 (grid0.coords t 0).val)).toNat, (0#32).toNat]
      = ![k.val * 1 + (grid0.coords t 0).val, 0] := by decide +kernel

variable {k} (hk : m (((0 : Dev nD).tc : Thread nD τ).loc main_arg0) (ix1 0) = BitVec.ofNat 32 k.val)

include hk in
theorem place1 (t : Fin grid0.N) : cc0_transform_1 inb_S2_S1_0 numel1_S1 (tbl m) (grid0.coords t) = ![k.val * 1 + (grid0.coords t 0).val, 0] := by
  have e : (tbl m).at 0 (Rect.unit (s := S2) ![0] S1.size inb_S2_S1_0) numel1_S1 = BitVec.ofNat 32 k.val :=
    (congrArg (m (((0 : Dev nD).tc : Thread nD τ).loc main_arg0)) (funext fun b => by fin_cases b; rfl)).trans hk
  unfold cc0_transform_1
  dsimp only
  rw [e]
  exact place_word k t

section Entry

variable (i : S80x512.Idx) (h : (i 0).val = (grid0.coords t 0).val * 80 + (y 0).val ∧ (i 1).val = 0 * 512 + (y 1).val)

include hk h in
theorem gAt_eq : gAt m hO c t y = G5 m k c i := by
  unfold gAt G5
  refine congrArg₂ (grad (me m)) (funext fun k => ?_) ?_
  · exact congrArg (m (c.tc.loc main_arg1)) (is3 (j := ix3 k ⟨y 0, (y 0).isLt⟩ ⟨y 1, (y 1).isLt⟩)
      (fun a => ValueKit.view_emb_slice_whole_unit_val main_arg1 _ _ _ _ a) (place0 t) _ (Nat.zero_add _).symm h.1 h.2)
  · exact congrArg (m (c.tc.loc main_arg2)) (is2 (fun a => ValueKit.view_emb_slice_whole_unit_val main_arg2 _ _ _ _ a) (place1 m hk t) _
      (show k.val * 80 + (i 0).val = (k.val * 1 + (grid0.coords t 0).val) * 80 + (y 0).val by rw [h.1]; ring) h.2)

include hk h in
theorem mAt_eq : newM (gAt m hO c t y) (iblk m hO c 3 t y) = G7 m k c i :=
  congrArg₂ newM (gAt_eq m hO c t y hk i h)
    (congrArg (m (c.tc.loc main_arg4)) (is2 (fun a => ValueKit.view_emb_slice_whole_unit_val main_arg4 _ _ _ _ a) (place t) _ h.1 h.2))

include hk h in
theorem vAt_eq : newV (gAt m hO c t y) (iblk m hO c 4 t y) = G8 m k c i :=
  congrArg₂ newV (gAt_eq m hO c t y hk i h)
    (congrArg (m (c.tc.loc main_arg5)) (is2 (fun a => ValueKit.view_emb_slice_whole_unit_val main_arg5 _ _ _ _ a) (place t) _ h.1 h.2))

include hk h in
theorem dAt_eq : delta (iblk m hO c 2 t y) (newM (gAt m hO c t y) (iblk m hO c 3 t y)) (newV (gAt m hO c t y) (iblk m hO c 4 t y)) = G6 m k c i := by
  rw [mAt_eq m hO c t y hk i h, vAt_eq m hO c t y hk i h]
  exact congrArg (fun a => delta a _ _)
    (congrArg (m (c.tc.loc main_arg3)) (is2 (fun a => ValueKit.view_emb_slice_whole_unit_val main_arg3 _ _ _ _ a) (place t) _ h.1 h.2))

end Entry

theorem reached : ∀ p : Fin 1, ∃ i : grid0.Coords, cc0_transform_5 i 0 = p ∧ cc0_transform_5 i 1 = 0 := by decide +kernel

/-- Every block of an output is written. -/
theorem covers (β : Fin 2 → ℕ) (h0 : β 0 < (80 + 80 - 1) / 80) (h1 : β 1 < (512 + 512 - 1) / 512) : ∃ i : grid0.Coords, ∀ a : Fin 2, cc0_transform_5 i a = β a := by
  obtain ⟨i, e0, e1⟩ := reached ⟨β 0, h0⟩
  exact ⟨i, fun a => by fin_cases a; exacts [e0, e1.trans (Nat.lt_one_iff.mp h1).symm]⟩

include hk in
theorem final5 : (dats m hO 0 c).arrAt 5 (cfgM m hO).N = G5 m k c := by
  refine (dats m hO 0 c).arrAt_eq_of_covers 5 _ (Window.covers_of_indexMap_surj _ rfl (by decide : ∀ a : Fin 2, 0 < S80x512.size a) fun β => covers (fun a => β a) (β (0 : Fin 2)).isLt (β (1 : Fin 2)).isLt) fun t hf y => ?_
  blk_simp
  rw [after0_5]
  exact (out5 m hO c t y).trans (gAt_eq m hO c t y hk _ (lies2 (fun a => ValueKit.view_emb_slice_whole_unit_val main_v0_0 _ _ _ _ a) (place t)))

include hk in
theorem final6 : (dats m hO 0 c).arrAt 6 (cfgM m hO).N = G6 m k c := by
  refine (dats m hO 0 c).arrAt_eq_of_covers 6 _ (Window.covers_of_indexMap_surj _ rfl (by decide : ∀ a : Fin 2, 0 < S80x512.size a) fun β => covers (fun a => β a) (β (0 : Fin 2)).isLt (β (1 : Fin 2)).isLt) fun t hf y => ?_
  blk_simp
  rw [after0_6]
  exact (out6 m hO c t y).trans (dAt_eq m hO c t y hk _ (lies2 (fun a => ValueKit.view_emb_slice_whole_unit_val main_v0_1 _ _ _ _ a) (place t)))

include hk in
theorem final7 : (dats m hO 0 c).arrAt 7 (cfgM m hO).N = G7 m k c := by
  refine (dats m hO 0 c).arrAt_eq_of_covers 7 _ (Window.covers_of_indexMap_surj _ rfl (by decide : ∀ a : Fin 2, 0 < S80x512.size a) fun β => covers (fun a => β a) (β (0 : Fin 2)).isLt (β (1 : Fin 2)).isLt) fun t hf y => ?_
  blk_simp
  rw [after0_7]
  exact (out7 m hO c t y).trans (mAt_eq m hO c t y hk _ (lies2 (fun a => ValueKit.view_emb_slice_whole_unit_val main_v0_2 _ _ _ _ a) (place t)))

include hk in
theorem final8 : (dats m hO 0 c).arrAt 8 (cfgM m hO).N = G8 m k c := by
  refine (dats m hO 0 c).arrAt_eq_of_covers 8 _ (Window.covers_of_indexMap_surj _ rfl (by decide : ∀ a : Fin 2, 0 < S80x512.size a) fun β => covers (fun a => β a) (β (0 : Fin 2)).isLt (β (1 : Fin 2)).isLt) fun t hf y => ?_
  blk_simp
  rw [after0_8]
  exact (out8 m hO c t y).trans (vAt_eq m hO c t y hk _ (lies2 (fun a => ValueKit.view_emb_slice_whole_unit_val main_v0_3 _ _ _ _ a) (place t)))

include hk in
/-- The arrays after the run. -/
theorem arrays (hO : Ok m) (ρ : Dev nD → PrngReg) :
    θ_run (defs (F := Ideal)) (onTc (τ := τ) (main (F := Ideal))) ⟨m, fun _ => 0, ρ⟩ (fun r => ∀ c : Dev nD,
      r.2.mem (c.tc.loc main_v0_0) = G5 m k c ∧ r.2.mem (c.tc.loc main_v0_1) = G6 m k c ∧ r.2.mem (c.tc.loc main_v0_2) = G7 m k c
        ∧ r.2.mem (c.tc.loc main_v0_3) = G8 m k c) := by
  refine (θ_run _ _ _).mono (fun r h c => ?_) (run_main m ρ hO)
  obtain rfl : c = 0 := Subsingleton.elim _ _
  exact ⟨((h 0).1 5).trans (final5 m hO 0 hk), ((h 0).1 6).trans (final6 m hO 0 hk), ((h 0).1 7).trans (final7 m hO 0 hk), ((h 0).1 8).trans (final8 m hO 0 hk)⟩

end Cert.AdamPackedIdeal.Step

namespace Cert.Proof

open Idealize.ShloMosaic Idealize.ShloMosaic.TcCoe Idealize.SL.Sem Cert.Adam Cert.AdamPackedIdeal.Step Cert.AdamPackedRefIdeal.Gen
open Cert.AdamPackedIdeal (main_arg0 main_arg1 main_arg2)

/-- The kernel computes what its reference does. -/
theorem algebraic_adam_packed : Cert.algebraic_AdamPackedIdeal_AdamPackedRefIdeal := by
  intro m ρ m' ρ' hpre hagree
  obtain ⟨k, hk⟩ := chip_of _ _ _ (hpre 0)
  have hO := ok_of_chip m k hk
  refine ⟨fun c => G5 m k c, fun c => G6 m k c, fun c => G7 m k c, fun c => G8 m k c, ?_, ?_⟩
  · refine (θ_run _ _ _).mono (fun r h c => ?_) (θ_run_and (arrays m hk hO ρ) (Cert.AdamPackedIdeal.Gen.unchanged m ρ hO))
    obtain ⟨h5, h6, h7, h8⟩ := h.1 c
    exact ⟨h5, h6, h7, h8, h.2 c⟩
  · refine (θ_run _ _ _).mono (fun r h c => ?_) (Cert.AdamPackedRefIdeal.Value.run (F := Ideal) m' ρ')
    obtain ⟨e0, e1, e2, e3, e4, e5⟩ := hagree c
    obtain rfl : c = 0 := Subsingleton.elim _ _
    obtain ⟨h5, h6, h7, h8, hargs⟩ := h 0
    have hg := fun i => (host_gradient (m ((0 : Dev _).tc.loc main_arg0)) (m ((0 : Dev _).tc.loc main_arg1))
      (ownOf (m ((0 : Dev _).tc.loc main_arg0)) (m ((0 : Dev _).tc.loc main_arg2)) ![0, 80, 160, 240] (fun _ => 0) slices_S2_S1_0 shapeCasts_S1_S_ bcast_S_S80x512
        slices_S320x512_S80x512_0_0 slices_S320x512_S80x512_80_0 slices_S320x512_S80x512_160_0 slices_S320x512_S80x512_240_0)
      bcast_S8x1x1_S8x80x512_0_1_2 bcast_S8_S8x1x1_0 bcast_S_S8x1x1 slices_S2_S1_1 shapeCasts_S1_S_ bcast_S1x80x512_S8x80x512_0_1_2
      bcast_S80x512_S1x80x512_1_2 reducesTo_S8x80x512_S80x512_d0 h_S_ (by decide) (by decide) i).trans
      (congrArg₂ (fun b o => grad b _ o) (me_eq m).symm (ownOf_apply hk i
        (ix2 ⟨k.val * 80 + (i 0).val, by have : (i 0).val < 80 := (i 0).isLt; omega⟩ ⟨(i 1).val, (i 1).isLt⟩)
        (congrArg (· + (i 0).val) ((by decide : ∀ k : Fin 4, k.val * 80 = (![0, 80, 160, 240] : Fin 4 → ℕ) k) k)) (Nat.zero_add _).symm))
    refine ⟨h5.trans ?_, h6.trans ?_, h7.trans ?_, h8.trans ?_, hargs⟩
    · rw [e0, e1, e2]
      exact funext hg
    · unfold Cert.AdamPackedRefIdeal.Value.res_main_v48
      rw [e0, e1, e2, e3, e4, e5]
      exact funext fun i => congrArg (fun g => delta _ (newM g _) (newV g _)) (hg i)
    · rw [e0, e1, e2, e4]
      exact funext fun i => congrArg (fun g => newM g _) (hg i)
    · rw [e0, e1, e2, e5]
      exact funext fun i => congrArg (fun g => newV g _) (hg i)

/-- The reference runs, keeps its arguments and leaves no semaphore raised. -/
theorem frame_adam_packed_ref : Cert.quiescent_AdamPackedRefIdeal := fun m ρ _ =>
  (θ_run _ _ _).mono (fun r h => ⟨fun c => (h c).2.2.2.2, sem_eq_zero_of_no_sems (by decide) r.2⟩)
    (Cert.AdamPackedRefIdeal.Value.run (F := Ideal) m ρ)

end Cert.Proof

end
-- ==== Proof.AdamGateFirst.lean ====
/- The optimiser step on the first layer of a weight kept by columns in a stack of two layers: kernel and reference at every entry. -/
module

public import proofs.«01_k».proof.Proof.Adam
public import proofs.«01_k».proof.Proof.Gen.AdamGateFirst.Frame
public import proofs.«01_k».proof.Proof.Gen.Pre_chip_gate
public import proofs.«01_k».proof.Proof.Gen.On_first_layer_gate
public import proofs.«01_k».proof.Proof.Gen.AdamGateFirstIdeal.Frame
public import proofs.«01_k».proof.Proof.Gen.AdamGateFirstRefIdeal.Run
public import proofs.«01_k».proof.Defs

@[expose] public section

set_option maxRecDepth 16384

noncomputable section

namespace Cert.AdamGateFirst.Step

open Idealize.ShloMosaic Idealize.ShloMosaic.TcCoe
open Cert.AdamGateFirst.Gen Cert.Adam

/-- The blocks of the own gradient, for every chip and grid point. -/
theorem inside : ∀ (k : Fin 4) (i : grid0.Coords), ∃ h : (∀ a, (![(BitVec.ofNat 32 (i 0).val).toNat, (BitVec.ofNat 32 k.val).toNat] a + 1) * S256x1408.size a ≤ S2048x5632.size a),
    EltTy.bits .bf16 = 32 ∨ (Rect.block (s := S2048x5632) S256x1408.size
      ![(BitVec.ofNat 32 (i 0).val).toNat, (BitVec.ofNat 32 k.val).toNat] h).WholeWords (EltTy.packing .bf16) := by
  decide +kernel

/-- The blocks lie in the matrix when the chip's number is one of four. -/
theorem ok_of_chip {F : FTy → Type} [FloatOps F] (m : (ℓ : Loc nD τ sig) → Buf (Elt F) ℓ) (k : Fin 4)
    (hk : m (((0 : Dev nD).tc : Thread nD τ).loc main_arg0) (ix1 0) = BitVec.ofNat 32 k.val) : Ok m := by
  have e : (tbl m).at 0 (Rect.unit (s := S2) ![0] S1.size inb_S2_S1_0) numel1_S1 = BitVec.ofNat 32 k.val :=
    Eq.trans (congrArg (m (((0 : Dev nD).tc : Thread nD τ).loc main_arg0)) (funext fun b => by fin_cases b; rfl)) hk
  unfold Ok ok0 cc0_transform_1
  dsimp only
  rw [e]
  exact inside k

/-- The run, and what it leaves alone, when the precondition holds. -/
theorem frame : Cert.quiescent_AdamGateFirst := fun m ρ h =>
  have ⟨k, hk⟩ := chip_of _ _ _ (h 0)
  Gen.frame m ρ (ok_of_chip m k hk)

end Cert.AdamGateFirst.Step

namespace Cert.AdamGateFirstIdeal.Step

open Idealize.ShloMosaic Idealize.ShloMosaic.TcCoe
open Idealize.SL Idealize.SL.Sem
open Idealize.ShloMosaic.Pipeline (Dat Cfg Window)
open Cert.AdamGateFirstIdeal.Gen Cert.Adam

/-- The blocks of the own gradient, for every chip and grid point. -/
theorem inside : ∀ (k : Fin 4) (i : grid0.Coords), ∃ h : (∀ a, (![(BitVec.ofNat 32 (i 0).val).toNat, (BitVec.ofNat 32 k.val).toNat] a + 1) * S256x1408.size a ≤ S2048x5632.size a),
    EltTy.bits .bf16 = 32 ∨ (Rect.block (s := S2048x5632) S256x1408.size
      ![(BitVec.ofNat 32 (i 0).val).toNat, (BitVec.ofNat 32 k.val).toNat] h).WholeWords (EltTy.packing .bf16) := by
  decide +kernel

/-- The blocks lie in the matrix when the chip's number is one of four. -/
theorem ok_of_chip {F : FTy → Type} [FloatOps F] (m : (ℓ : Loc nD τ sig) → Buf (Elt F) ℓ) (k : Fin 4)
    (hk : m (((0 : Dev nD).tc : Thread nD τ).loc main_arg0) (ix1 0) = BitVec.ofNat 32 k.val) : Ok m := by
  have e : (tbl m).at 0 (Rect.unit (s := S2) ![0] S1.size inb_S2_S1_0) numel1_S1 = BitVec.ofNat 32 k.val :=
    Eq.trans (congrArg (m (((0 : Dev nD).tc : Thread nD τ).loc main_arg0)) (funext fun b => by fin_cases b; rfl)) hk
  unfold Ok ok0 cc0_transform_1
  dsimp only
  rw [e]
  exact inside k

/-- The run, and what it leaves alone, when the precondition holds. -/
theorem frame : Cert.quiescent_AdamGateFirstIdeal := fun m ρ h =>
  have ⟨k, hk⟩ := chip_of _ _ _ (h 0)
  Gen.frame m ρ (ok_of_chip m k hk)

variable (m : (ℓ : Loc nD τ sig) → Buf (Elt Ideal) ℓ)

/-- This device's number, as the kernel reads it. -/
def me : BitVec 32 := View.readAt (Elt Ideal) (View.whole main_arg0) (Rect.unit ![1] ![1] inb_S2_S1_1).toLoadRect (tbl m 0) (Shape.Idx.first (by decide))

theorem me_eq : me m = m (((0 : Dev nD).tc : Thread nD τ).loc main_arg0) (ix1 1) :=
  congrArg (m (((0 : Dev nD).tc : Thread nD τ).loc main_arg0)) (funext fun b => by fin_cases b; rfl)

variable (k : Fin 4)

/-- The first layer the kernel leaves on chip `k`, from the arrays it was given. -/
def G5 (c : Dev nD) : S2x2048x1408.Idx → EReal := fun i =>
  grad (me m) (fun d => m (c.tc.loc main_arg1) (ix3 d ⟨i 1, (i 1).isLt⟩ ⟨i 2, (i 2).isLt⟩))
    (m (c.tc.loc main_arg2) (ix2 ⟨(i 1).val, (i 1).isLt⟩ ⟨k.val * 1408 + (i 2).val, by have : (i 2).val < 1408 := (i 2).isLt; omega⟩))
def G7 (c : Dev nD) : S2x2048x1408.Idx → EReal := fun i => newM (G5 m k c i) (m (c.tc.loc main_arg4) i)
def G8 (c : Dev nD) : S2x2048x1408.Idx → EReal := fun i => newV (G5 m k c i) (m (c.tc.loc main_arg5) i)
def G6 (c : Dev nD) : S2x2048x1408.Idx → EReal := fun i => delta (m (c.tc.loc main_arg3) i) (G7 m k c i) (G8 m k c i)

variable (hO : Ok m) (c : Dev nD) (t : Fin (cfgM m hO).N) (y : S1x256x1408.Idx)

/-- The gradient at an entry of a block. -/
def gAt : EReal := grad (me m) (fun k => iblk m hO c 0 t (ix3 k ⟨y 1, (y 1).isLt⟩ ⟨y 2, (y 2).isLt⟩)) (iblk m hO c 1 t (under y))

/-- A staged block is read back as it was. -/
theorem staged {S : Shape} {e : EltTy} (M : Memref sig .tc .vmem S e) (h : M.IsWhole) (x : S.Idx → Elt Ideal e) :
    View.read (Elt Ideal) M.view (h.unread x) = x := h.read_unread x

/-- A staged block of a stack, its unit axis dropped. -/
theorem dropped (M : Memref sig .tc .vmem S1x256x1408 .f32) (h : M.IsWhole) (x : S1x256x1408.Idx → EReal) :
    shapeCast S256x1408 (View.read (Elt Ideal) M.view (h.unread (Val := Elt Ideal) x)) shapeCasts_S1x256x1408_S256x1408 (under y) = x y :=
  (drop_apply _ shapeCasts_S1x256x1408_S256x1408 y).trans (congrFun (staged (S := S1x256x1408) (e := .f32) M h x) y)

/-- The summed gradient, as the kernel stores it. -/
theorem sum_apply (a : Elt Ideal .i32) (b d : S256x1408.Idx → EReal) (e : BitVec 1) (f g h : S1x256x1408.Idx → EReal) :
    k0_pay9 (F := Ideal) a b d e f g h y = k0_pay6 (F := Ideal) a b d e f g h (under y) :=
  lift_apply (T := 256) (C := 1408) (k0_pay6 (F := Ideal) a b d e f g h) shapeCasts_S256x1408_S1x256x1408 y

/-- The new moments, as the kernel stores them. -/
theorem first_apply (a : S256x1408.Idx → EReal) : k0_pay1 (F := Ideal) a y = a (under y) :=
  lift_apply (T := 256) (C := 1408) a shapeCasts_S256x1408_S1x256x1408 y
theorem second_apply (a : S256x1408.Idx → EReal) : k0_pay2 (F := Ideal) a y = a (under y) :=
  lift_apply (T := 256) (C := 1408) a shapeCasts_S256x1408_S1x256x1408 y

theorem out5 : (outsAt0 m hO c t).1 y = gAt m hO c t y := by
  unfold outsAt0
  frame_out
  refine (sum_apply y _ _ _ _ _ _ _).trans ?_
  refine (kernel_sum _ (View.read (Elt Ideal) (ms0_0 m hO t).view ((hs0_0 m hO t).unread (iblk m hO c 0 t)))
    (View.read (Elt Ideal) (ms0_1 m hO t).view ((hs0_1 m hO t).unread (iblk m hO c 1 t))) shapeCasts_S1x256x1408_S256x1408 (under y)).trans ?_
  exact congrArg₂ (fun (X : S8x256x1408.Idx → EReal) (O : S256x1408.Idx → EReal) => grad (me m) (fun k => X (ix3 k ⟨y 1, (y 1).isLt⟩ ⟨y 2, (y 2).isLt⟩)) (O (under y)))
    (staged (S := S8x256x1408) (e := .bf16) (ms0_0 m hO t) _ _) (staged (S := S256x1408) (e := .bf16) (ms0_1 m hO t) _ _)

theorem out7 : (outsAt0 m hO c t).2.2.1 y = newM (gAt m hO c t y) (iblk m hO c 3 t y) := by
  have e := out5 m hO c t y
  unfold outsAt0 at e ⊢
  frame_out at e
  frame_out
  exact (first_apply y _).trans (congrArg₂ newM ((sum_apply y _ _ _ _ _ _ _).symm.trans e) (dropped y _ _ _))

theorem out8 : (outsAt0 m hO c t).2.2.2 y = newV (gAt m hO c t y) (iblk m hO c 4 t y) := by
  have e := out5 m hO c t y
  unfold outsAt0 at e ⊢
  frame_out at e
  frame_out
  exact (second_apply y _).trans (congrArg₂ newV ((sum_apply y _ _ _ _ _ _ _).symm.trans e) (dropped y _ _ _))

/-- The change of a weight, as the kernel computes it from the new moments. -/
theorem change_apply (a b : S256x1408.Idx → EReal) (w : S1x256x1408.Idx → EReal) :
    k0_pay3 (F := Ideal) a b w y = delta (shapeCast S256x1408 w shapeCasts_S1x256x1408_S256x1408 (under y)) (a (under y)) (b (under y)) := by
  unfold k0_pay3
  exact lift_apply (T := 256) (C := 1408) _ shapeCasts_S256x1408_S1x256x1408 y

theorem out6 : (outsAt0 m hO c t).2.1 y
    = delta (iblk m hO c 2 t y) (newM (gAt m hO c t y) (iblk m hO c 3 t y)) (newV (gAt m hO c t y) (iblk m hO c 4 t y)) := by
  have e := out7 m hO c t y
  have f := out8 m hO c t y
  unfold outsAt0 at e f ⊢
  frame_out at e
  frame_out at f
  frame_out
  exact (change_apply y _ _ _).trans (congrArg_three delta (dropped y _ _ _) ((first_apply y _).symm.trans e) ((second_apply y _).symm.trans f))

/-- Where the blocks lie: rows from the grid point's, every column. -/
theorem place0 : ∀ t : Fin grid0.N, cc0_transform_0 (grid0.coords t) = ![0, (grid0.coords t 0).val, 0] := by decide +kernel
theorem place : ∀ t : Fin grid0.N, cc0_transform_2 (grid0.coords t) = ![0, (grid0.coords t 0).val, 0] := by decide +kernel
theorem place_word : ∀ (k : Fin 4) (t : Fin grid0.N),
    ![(BitVec.ofNat 32 (grid0.coords t 0).val).toNat, (BitVec.ofNat 32 k.val).toNat]
      = ![(grid0.coords t 0).val, k.val] := by decide +kernel

variable {k} (hk : m (((0 : Dev nD).tc : Thread nD τ).loc main_arg0) (ix1 0) = BitVec.ofNat 32 k.val)

include hk in
theorem place1 (t : Fin grid0.N) : cc0_transform_1 inb_S2_S1_0 numel1_S1 (tbl m) (grid0.coords t) = ![(grid0.coords t 0).val, k.val] := by
  have e : (tbl m).at 0 (Rect.unit (s := S2) ![0] S1.size inb_S2_S1_0) numel1_S1 = BitVec.ofNat 32 k.val :=
    (congrArg (m (((0 : Dev nD).tc : Thread nD τ).loc main_arg0)) (funext fun b => by fin_cases b; rfl)).trans hk
  unfold cc0_transform_1
  dsimp only
  rw [e]
  exact place_word k t

section Entry

variable (i : S2x2048x1408.Idx) (h : (i 0).val = 0 * 1 + (y 0).val ∧ (i 1).val = (grid0.coords t 0).val * 256 + (y 1).val ∧ (i 2).val = 0 * 1408 + (y 2).val)

include hk h in
theorem gAt_eq : gAt m hO c t y = G5 m k c i := by
  unfold gAt G5
  refine congrArg₂ (grad (me m)) (funext fun k => ?_) ?_
  · exact congrArg (m (c.tc.loc main_arg1)) (is3 (j := ix3 k ⟨y 1, (y 1).isLt⟩ ⟨y 2, (y 2).isLt⟩)
      (fun a => ValueKit.view_emb_slice_whole_unit_val main_arg1 _ _ _ _ a) (place0 t) _ (Nat.zero_add _).symm h.2.1 h.2.2)
  · exact congrArg (m (c.tc.loc main_arg2)) (is2 (j := under y) (fun a => ValueKit.view_emb_slice_whole_unit_val main_arg2 _ _ _ _ a) (place1 m hk t) _
      h.2.1 (show k.val * 1408 + (i 2).val = k.val * 1408 + (y 2).val by rw [h.2.2]; ring))

include hk h in
theorem mAt_eq : newM (gAt m hO c t y) (iblk m hO c 3 t y) = G7 m k c i :=
  congrArg₂ newM (gAt_eq m hO c t y hk i h)
    (congrArg (m (c.tc.loc main_arg4)) (is3 (fun a => ValueKit.view_emb_slice_whole_unit_val main_arg4 _ _ _ _ a) (place t) _ h.1 h.2.1 h.2.2))

include hk h in
theorem vAt_eq : newV (gAt m hO c t y) (iblk m hO c 4 t y) = G8 m k c i :=
  congrArg₂ newV (gAt_eq m hO c t y hk i h)
    (congrArg (m (c.tc.loc main_arg5)) (is3 (fun a => ValueKit.view_emb_slice_whole_unit_val main_arg5 _ _ _ _ a) (place t) _ h.1 h.2.1 h.2.2))

include hk h in
theorem dAt_eq : delta (iblk m hO c 2 t y) (newM (gAt m hO c t y) (iblk m hO c 3 t y)) (newV (gAt m hO c t y) (iblk m hO c 4 t y)) = G6 m k c i := by
  rw [mAt_eq m hO c t y hk i h, vAt_eq m hO c t y hk i h]
  exact congrArg (fun a => delta a _ _)
    (congrArg (m (c.tc.loc main_arg3)) (is3 (fun a => ValueKit.view_emb_slice_whole_unit_val main_arg3 _ _ _ _ a) (place t) _ h.1 h.2.1 h.2.2))

end Entry

theorem reached : ∀ p : Fin 8, ∃ i : grid0.Coords, cc0_transform_5 i 0 = 0 ∧ cc0_transform_5 i 1 = p ∧ cc0_transform_5 i 2 = 0 := by decide +kernel
theorem layer : ∀ i : grid0.Coords, cc0_transform_5 i 0 = 0 := by decide +kernel

/-- Every block of the first layer of an output is written. -/
theorem covers (β : Fin 3 → ℕ) (h0 : β 0 = 0) (h1 : β 1 < (2048 + 256 - 1) / 256) (h2 : β 2 < (1408 + 1408 - 1) / 1408) :
    ∃ i : grid0.Coords, ∀ a : Fin 3, cc0_transform_5 i a = β a := by
  obtain ⟨i, e0, e1, e2⟩ := reached ⟨β 1, h1⟩
  exact ⟨i, fun a => by fin_cases a; exacts [e0.trans h0.symm, e1, e2.trans (Nat.lt_one_iff.mp h2).symm]⟩

include hk in
theorem final5 (i : S2x2048x1408.Idx) (hi : (i 0).val = 0) : (dats m hO 0 c).arrAt 5 (cfgM m hO).N i = G5 m k c i := by
  refine (dats m hO 0 c).arrAt_forall_of_coversWhere 5 (fun (i : S2x2048x1408.Idx) v => (i 0).val = 0 → v = G5 m k c i) (fun β => β (0 : Fin 3) = 0)
    (coversWhere _ rfl (by decide : ∀ a : Fin 3, 0 < S1x256x1408.size a) layer fun β h => covers (fun a => β a) h (β (1 : Fin 3)).isLt (β (2 : Fin 3)).isLt)
    (fun t hf y => ?_) (fun j hj hi => (hj ((Nat.div_one _).trans hi)).elim) i (Memref.isWhole_whole _) hi
  intro _
  blk_simp
  rw [after0_5]
  exact (out5 m hO c t y).trans (gAt_eq m hO c t y hk _ (lies3 (fun a => ValueKit.view_emb_slice_whole_unit_val main_v0_0 _ _ _ _ a) (place t)))

include hk in
theorem final6 (i : S2x2048x1408.Idx) (hi : (i 0).val = 0) : (dats m hO 0 c).arrAt 6 (cfgM m hO).N i = G6 m k c i := by
  refine (dats m hO 0 c).arrAt_forall_of_coversWhere 6 (fun (i : S2x2048x1408.Idx) v => (i 0).val = 0 → v = G6 m k c i) (fun β => β (0 : Fin 3) = 0)
    (coversWhere _ rfl (by decide : ∀ a : Fin 3, 0 < S1x256x1408.size a) layer fun β h => covers (fun a => β a) h (β (1 : Fin 3)).isLt (β (2 : Fin 3)).isLt)
    (fun t hf y => ?_) (fun j hj hi => (hj ((Nat.div_one _).trans hi)).elim) i (Memref.isWhole_whole _) hi
  intro _
  blk_simp
  rw [after0_6]
  exact (out6 m hO c t y).trans (dAt_eq m hO c t y hk _ (lies3 (fun a => ValueKit.view_emb_slice_whole_unit_val main_v0_1 _ _ _ _ a) (place t)))

include hk in
theorem final7 (i : S2x2048x1408.Idx) (hi : (i 0).val = 0) : (dats m hO 0 c).arrAt 7 (cfgM m hO).N i = G7 m k c i := by
  refine (dats m hO 0 c).arrAt_forall_of_coversWhere 7 (fun (i : S2x2048x1408.Idx) v => (i 0).val = 0 → v = G7 m k c i) (fun β => β (0 : Fin 3) = 0)
    (coversWhere _ rfl (by decide : ∀ a : Fin 3, 0 < S1x256x1408.size a) layer fun β h => covers (fun a => β a) h (β (1 : Fin 3)).isLt (β (2 : Fin 3)).isLt)
    (fun t hf y => ?_) (fun j hj hi => (hj ((Nat.div_one _).trans hi)).elim) i (Memref.isWhole_whole _) hi
  intro _
  blk_simp
  rw [after0_7]
  exact (out7 m hO c t y).trans (mAt_eq m hO c t y hk _ (lies3 (fun a => ValueKit.view_emb_slice_whole_unit_val main_v0_2 _ _ _ _ a) (place t)))

include hk in
theorem final8 (i : S2x2048x1408.Idx) (hi : (i 0).val = 0) : (dats m hO 0 c).arrAt 8 (cfgM m hO).N i = G8 m k c i := by
  refine (dats m hO 0 c).arrAt_forall_of_coversWhere 8 (fun (i : S2x2048x1408.Idx) v => (i 0).val = 0 → v = G8 m k c i) (fun β => β (0 : Fin 3) = 0)
    (coversWhere _ rfl (by decide : ∀ a : Fin 3, 0 < S1x256x1408.size a) layer fun β h => covers (fun a => β a) h (β (1 : Fin 3)).isLt (β (2 : Fin 3)).isLt)
    (fun t hf y => ?_) (fun j hj hi => (hj ((Nat.div_one _).trans hi)).elim) i (Memref.isWhole_whole _) hi
  intro _
  blk_simp
  rw [after0_8]
  exact (out8 m hO c t y).trans (vAt_eq m hO c t y hk _ (lies3 (fun a => ValueKit.view_emb_slice_whole_unit_val main_v0_3 _ _ _ _ a) (place t)))

include hk in
/-- The first layer of the arrays after the run. -/
theorem arrays (hO : Ok m) (ρ : Dev nD → PrngReg) :
    θ_run (defs (F := Ideal)) (onTc (τ := τ) (main (F := Ideal))) ⟨m, fun _ => 0, ρ⟩ (fun r => ∀ (c : Dev nD) (i : S2x2048x1408.Idx), (i 0).val = 0 →
      r.2.mem (c.tc.loc main_v0_0) i = G5 m k c i ∧ r.2.mem (c.tc.loc main_v0_1) i = G6 m k c i ∧ r.2.mem (c.tc.loc main_v0_2) i = G7 m k c i
        ∧ r.2.mem (c.tc.loc main_v0_3) i = G8 m k c i) := by
  refine (θ_run _ _ _).mono (fun r h c i hi => ?_) (run_main m ρ hO)
  obtain rfl : c = 0 := Subsingleton.elim _ _
  exact ⟨(congrFun ((h 0).1 5) i).trans (final5 m hO 0 hk i hi), (congrFun ((h 0).1 6) i).trans (final6 m hO 0 hk i hi),
    (congrFun ((h 0).1 7) i).trans (final7 m hO 0 hk i hi), (congrFun ((h 0).1 8) i).trans (final8 m hO 0 hk i hi)⟩

end Cert.AdamGateFirstIdeal.Step

namespace Cert.Proof

open Idealize.ShloMosaic Idealize.ShloMosaic.TcCoe Idealize.SL.Sem Cert.Adam Cert.AdamGateFirstIdeal.Step Cert.AdamGateFirstRefIdeal.Gen
open Cert.AdamGateFirstIdeal (main_arg0 main_arg1 main_arg2)

/-- The kernel computes, in the first layer, what its reference does. -/
theorem algebraic_adam_gate_first : Cert.algebraic_AdamGateFirstIdeal_AdamGateFirstRefIdeal_on_first_layer_gate := by
  intro m ρ m' ρ' hpre hagree
  obtain ⟨k, hk⟩ := chip_of _ _ _ (hpre 0)
  have hO := ok_of_chip m k hk
  refine ⟨fun c => G5 m k c, fun c => G6 m k c, fun c => G7 m k c, fun c => G8 m k c, ?_, ?_⟩
  · refine (θ_run _ _ _).mono (fun r h c => ?_) (θ_run_and (arrays m hk hO ρ) (Cert.AdamGateFirstIdeal.Gen.unchanged m ρ hO))
    exact ⟨fun i hi => (h.1 c i (first_layer _ i hi)).1, fun i hi => (h.1 c i (first_layer _ i hi)).2.1, fun i hi => (h.1 c i (first_layer _ i hi)).2.2.1,
      fun i hi => (h.1 c i (first_layer _ i hi)).2.2.2, h.2 c⟩
  · refine (θ_run _ _ _).mono (fun r h c => ?_) (Cert.AdamGateFirstRefIdeal.Value.run (F := Ideal) m' ρ')
    obtain ⟨e0, e1, e2, e3, e4, e5⟩ := hagree c
    obtain rfl : c = 0 := Subsingleton.elim _ _
    obtain ⟨h5, h6, h7, h8, hargs⟩ := h 0
    have hg := fun i : Cert.AdamGateFirstIdeal.S2x2048x1408.Idx => (host_gradient (m ((0 : Dev _).tc.loc main_arg0)) (m ((0 : Dev _).tc.loc main_arg1))
      (ownOf (m ((0 : Dev _).tc.loc main_arg0)) (m ((0 : Dev _).tc.loc main_arg2)) (fun _ => 0) ![0, 1408, 2816, 4224] slices_S2_S1_0 shapeCasts_S1_S_ bcast_S_S2048x1408
        slices_S2048x5632_S2048x1408_0_0 slices_S2048x5632_S2048x1408_0_1408 slices_S2048x5632_S2048x1408_0_2816 slices_S2048x5632_S2048x1408_0_4224)
      bcast_S8x1x1_S8x2048x1408_0_1_2 bcast_S8_S8x1x1_0 bcast_S_S8x1x1 slices_S2_S1_1 shapeCasts_S1_S_ bcast_S1x2048x1408_S8x2048x1408_0_1_2
      bcast_S2048x1408_S1x2048x1408_1_2 reducesTo_S8x2048x1408_S2048x1408_d0 h_S_ (by decide) (by decide) (under i)).trans
      (congrArg₂ (fun b o => grad b _ o) (me_eq m).symm (ownOf_apply hk (under i)
        (ix2 ⟨(i 1).val, (i 1).isLt⟩ ⟨k.val * 1408 + (i 2).val, by have : (i 2).val < 1408 := (i 2).isLt; omega⟩)
        (Nat.zero_add _).symm (congrArg (· + (i 2).val) ((by decide : ∀ k : Fin 4, k.val * 1408 = (![0, 1408, 2816, 4224] : Fin 4 → ℕ) k) k))))
    have cut := fun (w : Cert.AdamGateFirstIdeal.S2x2048x1408.Idx → EReal) (i : Cert.AdamGateFirstIdeal.S2x2048x1408.Idx) => cut_layer 0 w slices_S2x2048x1408_S1x2048x1408_0_0_0 shapeCasts_S1x2048x1408_S2048x1408 i
    refine ⟨fun i hi => (congrFun h5 i).trans ?_, fun i hi => (congrFun h6 i).trans ?_, fun i hi => (congrFun h7 i).trans ?_,
      fun i hi => (congrFun h8 i).trans ?_, hargs⟩
    · rw [e0, e1, e2]
      exact (stack_first _ _ _ _ (by decide) (by decide) i (first_layer _ i hi)).trans (hg i)
    · unfold Cert.AdamGateFirstRefIdeal.Value.res_main_v64
      rw [e0, e1, e2, e3, e4, e5]
      refine (stack_first _ _ _ _ (by decide) (by decide) i (first_layer _ i hi)).trans ?_
      exact congrArg_three delta (cut _ i (first_layer _ i hi)) (congrArg₂ newM (hg i) (cut _ i (first_layer _ i hi)))
        (congrArg₂ newV (hg i) (cut _ i (first_layer _ i hi)))
    · rw [e0, e1, e2, e4]
      exact (stack_first _ _ _ _ (by decide) (by decide) i (first_layer _ i hi)).trans (congrArg₂ newM (hg i) (cut _ i (first_layer _ i hi)))
    · unfold Cert.AdamGateFirstRefIdeal.Value.res_main_v72
      rw [e0, e1, e2, e5]
      exact (stack_first _ _ _ _ (by decide) (by decide) i (first_layer _ i hi)).trans (congrArg₂ newV (hg i) (cut _ i (first_layer _ i hi)))

/-- The reference runs, keeps its arguments and leaves no semaphore raised. -/
theorem frame_adam_gate_first_ref : Cert.quiescent_AdamGateFirstRefIdeal := fun m ρ _ =>
  (θ_run _ _ _).mono (fun r h => ⟨fun c => (h c).2.2.2.2, sem_eq_zero_of_no_sems (by decide) r.2⟩)
    (Cert.AdamGateFirstRefIdeal.Value.run (F := Ideal) m ρ)

end Cert.Proof

end
-- ==== Proof.AdamGateSecond.lean ====
/- The optimiser step on the second layer of a weight kept by columns in a stack of two layers: kernel and reference at every entry. -/
module

public import proofs.«01_k».proof.Proof.Adam
public import proofs.«01_k».proof.Proof.Gen.AdamGateSecond.Frame
public import proofs.«01_k».proof.Proof.Gen.Pre_chip_gate_second
public import proofs.«01_k».proof.Proof.Gen.AdamGateSecondIdeal.Frame
public import proofs.«01_k».proof.Proof.Gen.AdamGateSecondRefIdeal.Run
public import proofs.«01_k».proof.Defs

@[expose] public section

set_option maxRecDepth 16384

noncomputable section

namespace Cert.AdamGateSecond.Step

open Idealize.ShloMosaic Idealize.ShloMosaic.TcCoe
open Cert.AdamGateSecond.Gen Cert.Adam

/-- The blocks of the own gradient, for every chip and grid point. -/
theorem inside : ∀ (k : Fin 4) (i : grid0.Coords), ∃ h : (∀ a, (![(BitVec.ofNat 32 (i 0).val).toNat, (BitVec.ofNat 32 k.val).toNat] a + 1) * S256x1408.size a ≤ S2048x5632.size a),
    EltTy.bits .bf16 = 32 ∨ (Rect.block (s := S2048x5632) S256x1408.size
      ![(BitVec.ofNat 32 (i 0).val).toNat, (BitVec.ofNat 32 k.val).toNat] h).WholeWords (EltTy.packing .bf16) := by
  decide +kernel

/-- The blocks lie in the matrix when the chip's number is one of four. -/
theorem ok_of_chip {F : FTy → Type} [FloatOps F] (m : (ℓ : Loc nD τ sig) → Buf (Elt F) ℓ) (k : Fin 4)
    (hk : m (((0 : Dev nD).tc : Thread nD τ).loc main_arg0) (ix1 0) = BitVec.ofNat 32 k.val) : Ok m := by
  have e : (tbl m).at 0 (Rect.unit (s := S2) ![0] S1.size inb_S2_S1_0) numel1_S1 = BitVec.ofNat 32 k.val :=
    (congrArg (V m (0 : Dev nD) main_arg0) (funext fun b => by fin_cases b; rfl)).trans ((congrFun (V_main_arg0 m 0) (ix1 0)).trans hk)
  unfold Ok ok0 cc0_transform_1
  dsimp only
  rw [e]
  exact inside k

/-- The run, and what it leaves alone, when the precondition holds. -/
theorem frame : Cert.quiescent_AdamGateSecond := fun m ρ h =>
  have ⟨k, hk⟩ := chip_of _ _ _ (h 0)
  Gen.frame m ρ (ok_of_chip m k hk)

end Cert.AdamGateSecond.Step

namespace Cert.AdamGateSecondIdeal.Step

open Idealize.ShloMosaic Idealize.ShloMosaic.TcCoe
open Idealize.SL Idealize.SL.Sem
open Idealize.ShloMosaic.Pipeline (Dat Cfg Window)
open Cert.AdamGateSecondIdeal.Gen Cert.Adam

/-- The blocks of the own gradient, for every chip and grid point. -/
theorem inside : ∀ (k : Fin 4) (i : grid0.Coords), ∃ h : (∀ a, (![(BitVec.ofNat 32 (i 0).val).toNat, (BitVec.ofNat 32 k.val).toNat] a + 1) * S256x1408.size a ≤ S2048x5632.size a),
    EltTy.bits .bf16 = 32 ∨ (Rect.block (s := S2048x5632) S256x1408.size
      ![(BitVec.ofNat 32 (i 0).val).toNat, (BitVec.ofNat 32 k.val).toNat] h).WholeWords (EltTy.packing .bf16) := by
  decide +kernel

/-- The blocks lie in the matrix when the chip's number is one of four. -/
theorem ok_of_chip {F : FTy → Type} [FloatOps F] (m : (ℓ : Loc nD τ sig) → Buf (Elt F) ℓ) (k : Fin 4)
    (hk : m (((0 : Dev nD).tc : Thread nD τ).loc main_arg0) (ix1 0) = BitVec.ofNat 32 k.val) : Ok m := by
  have e : (tbl m).at 0 (Rect.unit (s := S2) ![0] S1.size inb_S2_S1_0) numel1_S1 = BitVec.ofNat 32 k.val :=
    (congrArg (V m (0 : Dev nD) main_arg0) (funext fun b => by fin_cases b; rfl)).trans ((congrFun (V_main_arg0 m 0) (ix1 0)).trans hk)
  unfold Ok ok0 cc0_transform_1
  dsimp only
  rw [e]
  exact inside k

/-- The run, and what it leaves alone, when the precondition holds. -/
theorem frame : Cert.quiescent_AdamGateSecondIdeal := fun m ρ h =>
  have ⟨k, hk⟩ := chip_of _ _ _ (h 0)
  Gen.frame m ρ (ok_of_chip m k hk)

variable (m : (ℓ : Loc nD τ sig) → Buf (Elt Ideal) ℓ)

/-- This device's number, as the kernel reads it. -/
def me : BitVec 32 := View.readAt (Elt Ideal) (View.whole main_arg0) (Rect.unit ![1] ![1] inb_S2_S1_1).toLoadRect (tbl m 0) (Shape.Idx.first (by decide))

theorem me_eq : me m = m (((0 : Dev nD).tc : Thread nD τ).loc main_arg0) (ix1 1) :=
  (congrArg (V m (0 : Dev nD) main_arg0) (funext fun b => by fin_cases b; rfl)).trans (congrFun (V_main_arg0 m 0) (ix1 1))

variable (k : Fin 4)

/-- The second layer the kernel leaves on chip `k`, from the arrays it was given. -/
def G5 (c : Dev nD) : S2x2048x1408.Idx → EReal := fun i =>
  grad (me m) (fun d => m (c.tc.loc main_arg1) (ix3 d ⟨i 1, (i 1).isLt⟩ ⟨i 2, (i 2).isLt⟩))
    (m (c.tc.loc main_arg2) (ix2 ⟨(i 1).val, (i 1).isLt⟩ ⟨k.val * 1408 + (i 2).val, by have : (i 2).val < 1408 := (i 2).isLt; omega⟩))
def G7 (c : Dev nD) : S2x2048x1408.Idx → EReal := fun i => newM (G5 m k c i) (m (c.tc.loc main_arg4) i)
def G8 (c : Dev nD) : S2x2048x1408.Idx → EReal := fun i => newV (G5 m k c i) (m (c.tc.loc main_arg5) i)
def G6 (c : Dev nD) : S2x2048x1408.Idx → EReal := fun i => delta (m (c.tc.loc main_arg3) i) (G7 m k c i) (G8 m k c i)

/-- The stacks the kernel leaves: the first layer as given, the second computed. -/
def H5 (c : Dev nD) : S2x2048x1408.Idx → EReal := stacked (m (c.tc.loc main_arg6)) (G5 m k c)
def H6 (c : Dev nD) : S2x2048x1408.Idx → EReal := stacked (m (c.tc.loc main_arg7)) (G6 m k c)
def H7 (c : Dev nD) : S2x2048x1408.Idx → EReal := stacked (m (c.tc.loc main_arg8)) (G7 m k c)
def H8 (c : Dev nD) : S2x2048x1408.Idx → EReal := stacked (m (c.tc.loc main_arg9)) (G8 m k c)

/-- An output array begins as a copy of the array it stands in for. -/
theorem start5 (c : Dev nD) : V m c main_v0_0 = m (c.tc.loc main_arg6) := by simp only [V, hostOps0]; after_results_simp; rfl
theorem start6 (c : Dev nD) : V m c main_v0_1 = m (c.tc.loc main_arg7) := by simp only [V, hostOps0]; after_results_simp; rfl
theorem start7 (c : Dev nD) : V m c main_v0_2 = m (c.tc.loc main_arg8) := by simp only [V, hostOps0]; after_results_simp; rfl
theorem start8 (c : Dev nD) : V m c main_v0_3 = m (c.tc.loc main_arg9) := by simp only [V, hostOps0]; after_results_simp; rfl

variable (hO : Ok m) (c : Dev nD) (t : Fin (cfgM m hO).N) (y : S1x256x1408.Idx)

/-- The gradient at an entry of a block. -/
def gAt : EReal := grad (me m) (fun k => iblk m hO c 0 t (ix3 k ⟨y 1, (y 1).isLt⟩ ⟨y 2, (y 2).isLt⟩)) (iblk m hO c 1 t (under y))

/-- A staged block is read back as it was. -/
theorem staged {S : Shape} {e : EltTy} (M : Memref sig .tc .vmem S e) (h : M.IsWhole) (x : S.Idx → Elt Ideal e) :
    View.read (Elt Ideal) M.view (h.unread x) = x := h.read_unread x

/-- A staged block of a stack, its unit axis dropped. -/
theorem dropped (M : Memref sig .tc .vmem S1x256x1408 .f32) (h : M.IsWhole) (x : S1x256x1408.Idx → EReal) :
    shapeCast S256x1408 (View.read (Elt Ideal) M.view (h.unread (Val := Elt Ideal) x)) shapeCasts_S1x256x1408_S256x1408 (under y) = x y :=
  (drop_apply _ shapeCasts_S1x256x1408_S256x1408 y).trans (congrFun (staged (S := S1x256x1408) (e := .f32) M h x) y)

/-- The summed gradient, as the kernel stores it. -/
theorem sum_apply (a : Elt Ideal .i32) (b d : S256x1408.Idx → EReal) (e : BitVec 1) (f g h : S1x256x1408.Idx → EReal) :
    k0_pay9 (F := Ideal) a b d e f g h y = k0_pay6 (F := Ideal) a b d e f g h (under y) :=
  lift_apply (T := 256) (C := 1408) (k0_pay6 (F := Ideal) a b d e f g h) shapeCasts_S256x1408_S1x256x1408 y

/-- The new moments, as the kernel stores them. -/
theorem first_apply (a : S256x1408.Idx → EReal) : k0_pay1 (F := Ideal) a y = a (under y) :=
  lift_apply (T := 256) (C := 1408) a shapeCasts_S256x1408_S1x256x1408 y
theorem second_apply (a : S256x1408.Idx → EReal) : k0_pay2 (F := Ideal) a y = a (under y) :=
  lift_apply (T := 256) (C := 1408) a shapeCasts_S256x1408_S1x256x1408 y

theorem out5 : (outsAt0 m hO c t).1 y = gAt m hO c t y := by
  unfold outsAt0
  frame_out
  refine (sum_apply y _ _ _ _ _ _ _).trans ?_
  refine (kernel_sum _ (View.read (Elt Ideal) (ms0_0 m hO t).view ((hs0_0 m hO t).unread (iblk m hO c 0 t)))
    (View.read (Elt Ideal) (ms0_1 m hO t).view ((hs0_1 m hO t).unread (iblk m hO c 1 t))) shapeCasts_S1x256x1408_S256x1408 (under y)).trans ?_
  exact congrArg₂ (fun (X : S8x256x1408.Idx → EReal) (O : S256x1408.Idx → EReal) => grad (me m) (fun k => X (ix3 k ⟨y 1, (y 1).isLt⟩ ⟨y 2, (y 2).isLt⟩)) (O (under y)))
    (staged (S := S8x256x1408) (e := .bf16) (ms0_0 m hO t) _ _) (staged (S := S256x1408) (e := .bf16) (ms0_1 m hO t) _ _)

theorem out7 : (outsAt0 m hO c t).2.2.1 y = newM (gAt m hO c t y) (iblk m hO c 3 t y) := by
  have e := out5 m hO c t y
  unfold outsAt0 at e ⊢
  frame_out at e
  frame_out
  exact (first_apply y _).trans (congrArg₂ newM ((sum_apply y _ _ _ _ _ _ _).symm.trans e) (dropped y _ _ _))

theorem out8 : (outsAt0 m hO c t).2.2.2 y = newV (gAt m hO c t y) (iblk m hO c 4 t y) := by
  have e := out5 m hO c t y
  unfold outsAt0 at e ⊢
  frame_out at e
  frame_out
  exact (second_apply y _).trans (congrArg₂ newV ((sum_apply y _ _ _ _ _ _ _).symm.trans e) (dropped y _ _ _))

/-- The change of a weight, as the kernel computes it from the new moments. -/
theorem change_apply (a b : S256x1408.Idx → EReal) (w : S1x256x1408.Idx → EReal) :
    k0_pay3 (F := Ideal) a b w y = delta (shapeCast S256x1408 w shapeCasts_S1x256x1408_S256x1408 (under y)) (a (under y)) (b (under y)) := by
  unfold k0_pay3
  exact lift_apply (T := 256) (C := 1408) _ shapeCasts_S256x1408_S1x256x1408 y

theorem out6 : (outsAt0 m hO c t).2.1 y
    = delta (iblk m hO c 2 t y) (newM (gAt m hO c t y) (iblk m hO c 3 t y)) (newV (gAt m hO c t y) (iblk m hO c 4 t y)) := by
  have e := out7 m hO c t y
  have f := out8 m hO c t y
  unfold outsAt0 at e f ⊢
  frame_out at e
  frame_out at f
  frame_out
  exact (change_apply y _ _ _).trans (congrArg_three delta (dropped y _ _ _) ((first_apply y _).symm.trans e) ((second_apply y _).symm.trans f))

/-- Where the blocks lie: rows from the grid point's, every column. -/
theorem place0 : ∀ t : Fin grid0.N, cc0_transform_0 (grid0.coords t) = ![0, (grid0.coords t 0).val, 0] := by decide +kernel
theorem place : ∀ t : Fin grid0.N, cc0_transform_2 (grid0.coords t) = ![1, (grid0.coords t 0).val, 0] := by decide +kernel
theorem place_word : ∀ (k : Fin 4) (t : Fin grid0.N),
    ![(BitVec.ofNat 32 (grid0.coords t 0).val).toNat, (BitVec.ofNat 32 k.val).toNat]
      = ![(grid0.coords t 0).val, k.val] := by decide +kernel

variable {k} (hk : m (((0 : Dev nD).tc : Thread nD τ).loc main_arg0) (ix1 0) = BitVec.ofNat 32 k.val)

include hk in
theorem place1 (t : Fin grid0.N) : cc0_transform_1 inb_S2_S1_0 numel1_S1 (tbl m) (grid0.coords t) = ![(grid0.coords t 0).val, k.val] := by
  have e : (tbl m).at 0 (Rect.unit (s := S2) ![0] S1.size inb_S2_S1_0) numel1_S1 = BitVec.ofNat 32 k.val :=
    (congrArg (V m (0 : Dev nD) main_arg0) (funext fun b => by fin_cases b; rfl)).trans ((congrFun (V_main_arg0 m 0) (ix1 0)).trans hk)
  unfold cc0_transform_1
  dsimp only
  rw [e]
  exact place_word k t

/-- A stack at an entry of its second layer, and at an entry of its first. -/
theorem above {a g : S2x2048x1408.Idx → EReal} (i : S2x2048x1408.Idx) {n : ℕ} (h : (i 0).val = 1 * 1 + n) : g i = stacked a g i := (if_neg (by omega)).symm
theorem below {a g : S2x2048x1408.Idx → EReal} (i : S2x2048x1408.Idx) (h : (i 0).val ≠ 1) : a i = stacked a g i :=
  (if_pos (by have : (i 0).val < 2 := (i 0).isLt; omega)).symm

section Entry

variable (i : S2x2048x1408.Idx) (h : (i 0).val = 1 * 1 + (y 0).val ∧ (i 1).val = (grid0.coords t 0).val * 256 + (y 1).val ∧ (i 2).val = 0 * 1408 + (y 2).val)

include hk h in
theorem gAt_eq : gAt m hO c t y = G5 m k c i := by
  unfold gAt G5
  refine congrArg₂ (grad (me m)) (funext fun k => ?_) ?_
  · exact (congrArg (V m c main_arg1) (is3 (j := ix3 k ⟨y 1, (y 1).isLt⟩ ⟨y 2, (y 2).isLt⟩)
      (fun a => ValueKit.view_emb_slice_whole_unit_val main_arg1 _ _ _ _ a) (place0 t) _ (Nat.zero_add _).symm h.2.1 h.2.2)).trans (congrFun (V_main_arg1 m c) _)
  · exact (congrArg (V m c main_arg2) (is2 (j := under y) (fun a => ValueKit.view_emb_slice_whole_unit_val main_arg2 _ _ _ _ a) (place1 m hk t) _
      h.2.1 (show k.val * 1408 + (i 2).val = k.val * 1408 + (y 2).val by rw [h.2.2]; ring))).trans (congrFun (V_main_arg2 m c) _)

include hk h in
theorem mAt_eq : newM (gAt m hO c t y) (iblk m hO c 3 t y) = G7 m k c i :=
  congrArg₂ newM (gAt_eq m hO c t y hk i h)
    ((congrArg (V m c main_arg4) (is3 (fun a => ValueKit.view_emb_slice_whole_unit_val main_arg4 _ _ _ _ a) (place t) _ h.1 h.2.1 h.2.2)).trans (congrFun (V_main_arg4 m c) _))

include hk h in
theorem vAt_eq : newV (gAt m hO c t y) (iblk m hO c 4 t y) = G8 m k c i :=
  congrArg₂ newV (gAt_eq m hO c t y hk i h)
    ((congrArg (V m c main_arg5) (is3 (fun a => ValueKit.view_emb_slice_whole_unit_val main_arg5 _ _ _ _ a) (place t) _ h.1 h.2.1 h.2.2)).trans (congrFun (V_main_arg5 m c) _))

include hk h in
theorem dAt_eq : delta (iblk m hO c 2 t y) (newM (gAt m hO c t y) (iblk m hO c 3 t y)) (newV (gAt m hO c t y) (iblk m hO c 4 t y)) = G6 m k c i := by
  rw [mAt_eq m hO c t y hk i h, vAt_eq m hO c t y hk i h]
  exact congrArg (fun a => delta a _ _)
    ((congrArg (V m c main_arg3) (is3 (fun a => ValueKit.view_emb_slice_whole_unit_val main_arg3 _ _ _ _ a) (place t) _ h.1 h.2.1 h.2.2)).trans (congrFun (V_main_arg3 m c) _))

include hk h in
theorem gAt_stack : gAt m hO c t y = H5 m k c i := (gAt_eq m hO c t y hk i h).trans (above i h.1)
include hk h in
theorem dAt_stack : delta (iblk m hO c 2 t y) (newM (gAt m hO c t y) (iblk m hO c 3 t y)) (newV (gAt m hO c t y) (iblk m hO c 4 t y)) = H6 m k c i :=
  (dAt_eq m hO c t y hk i h).trans (above i h.1)
include hk h in
theorem mAt_stack : newM (gAt m hO c t y) (iblk m hO c 3 t y) = H7 m k c i := (mAt_eq m hO c t y hk i h).trans (above i h.1)
include hk h in
theorem vAt_stack : newV (gAt m hO c t y) (iblk m hO c 4 t y) = H8 m k c i := (vAt_eq m hO c t y hk i h).trans (above i h.1)

end Entry

theorem reached : ∀ p : Fin 8, ∃ i : grid0.Coords, cc0_transform_9 i 0 = 1 ∧ cc0_transform_9 i 1 = p ∧ cc0_transform_9 i 2 = 0 := by decide +kernel
theorem layer : ∀ i : grid0.Coords, cc0_transform_9 i 0 = 1 := by decide +kernel

/-- Every block of the second layer of an output is written. -/
theorem covers (β : Fin 3 → ℕ) (h0 : β 0 = 1) (h1 : β 1 < (2048 + 256 - 1) / 256) (h2 : β 2 < (1408 + 1408 - 1) / 1408) :
    ∃ i : grid0.Coords, ∀ a : Fin 3, cc0_transform_9 i a = β a := by
  obtain ⟨i, e0, e1, e2⟩ := reached ⟨β 1, h1⟩
  exact ⟨i, fun a => by fin_cases a; exacts [e0.trans h0.symm, e1, e2.trans (Nat.lt_one_iff.mp h2).symm]⟩

include hk in
theorem final5 (i : S2x2048x1408.Idx) : (dats m hO 0 c).arrAt 5 (cfgM m hO).N i = H5 m k c i := by
  refine (dats m hO 0 c).arrAt_forall_of_coversWhere 5 (fun (i : S2x2048x1408.Idx) v => v = H5 m k c i) (fun β => β (0 : Fin 3) = 1)
    (coversWhere _ rfl (by decide : ∀ a : Fin 3, 0 < S1x256x1408.size a) layer fun β h => covers (fun a => β a) h (β (1 : Fin 3)).isLt (β (2 : Fin 3)).isLt)
    (fun t hf y => ?_) (fun j hj => (congrFun (start5 m c) _).trans (below _ fun hi => hj ((Nat.div_one _).trans hi))) i (Memref.isWhole_whole _)
  blk_simp
  rw [after0_5]
  exact (out5 m hO c t y).trans (gAt_stack m hO c t y hk _ (lies3 (fun a => ValueKit.view_emb_slice_whole_unit_val main_v0_0 _ _ _ _ a) (place t)))

include hk in
theorem final6 (i : S2x2048x1408.Idx) : (dats m hO 0 c).arrAt 6 (cfgM m hO).N i = H6 m k c i := by
  refine (dats m hO 0 c).arrAt_forall_of_coversWhere 6 (fun (i : S2x2048x1408.Idx) v => v = H6 m k c i) (fun β => β (0 : Fin 3) = 1)
    (coversWhere _ rfl (by decide : ∀ a : Fin 3, 0 < S1x256x1408.size a) layer fun β h => covers (fun a => β a) h (β (1 : Fin 3)).isLt (β (2 : Fin 3)).isLt)
    (fun t hf y => ?_) (fun j hj => (congrFun (start6 m c) _).trans (below _ fun hi => hj ((Nat.div_one _).trans hi))) i (Memref.isWhole_whole _)
  blk_simp
  rw [after0_6]
  exact (out6 m hO c t y).trans (dAt_stack m hO c t y hk _ (lies3 (fun a => ValueKit.view_emb_slice_whole_unit_val main_v0_1 _ _ _ _ a) (place t)))

include hk in
theorem final7 (i : S2x2048x1408.Idx) : (dats m hO 0 c).arrAt 7 (cfgM m hO).N i = H7 m k c i := by
  refine (dats m hO 0 c).arrAt_forall_of_coversWhere 7 (fun (i : S2x2048x1408.Idx) v => v = H7 m k c i) (fun β => β (0 : Fin 3) = 1)
    (coversWhere _ rfl (by decide : ∀ a : Fin 3, 0 < S1x256x1408.size a) layer fun β h => covers (fun a => β a) h (β (1 : Fin 3)).isLt (β (2 : Fin 3)).isLt)
    (fun t hf y => ?_) (fun j hj => (congrFun (start7 m c) _).trans (below _ fun hi => hj ((Nat.div_one _).trans hi))) i (Memref.isWhole_whole _)
  blk_simp
  rw [after0_7]
  exact (out7 m hO c t y).trans (mAt_stack m hO c t y hk _ (lies3 (fun a => ValueKit.view_emb_slice_whole_unit_val main_v0_2 _ _ _ _ a) (place t)))

include hk in
theorem final8 (i : S2x2048x1408.Idx) : (dats m hO 0 c).arrAt 8 (cfgM m hO).N i = H8 m k c i := by
  refine (dats m hO 0 c).arrAt_forall_of_coversWhere 8 (fun (i : S2x2048x1408.Idx) v => v = H8 m k c i) (fun β => β (0 : Fin 3) = 1)
    (coversWhere _ rfl (by decide : ∀ a : Fin 3, 0 < S1x256x1408.size a) layer fun β h => covers (fun a => β a) h (β (1 : Fin 3)).isLt (β (2 : Fin 3)).isLt)
    (fun t hf y => ?_) (fun j hj => (congrFun (start8 m c) _).trans (below _ fun hi => hj ((Nat.div_one _).trans hi))) i (Memref.isWhole_whole _)
  blk_simp
  rw [after0_8]
  exact (out8 m hO c t y).trans (vAt_stack m hO c t y hk _ (lies3 (fun a => ValueKit.view_emb_slice_whole_unit_val main_v0_3 _ _ _ _ a) (place t)))

include hk in
/-- The arrays after the run. -/
theorem arrays (hO : Ok m) (ρ : Dev nD → PrngReg) :
    θ_run (defs (F := Ideal)) (onTc (τ := τ) (main (F := Ideal))) ⟨m, fun _ => 0, ρ⟩ (fun r => ∀ c : Dev nD,
      r.2.mem (c.tc.loc main_v0_0) = H5 m k c ∧ r.2.mem (c.tc.loc main_v0_1) = H6 m k c ∧ r.2.mem (c.tc.loc main_v0_2) = H7 m k c
        ∧ r.2.mem (c.tc.loc main_v0_3) = H8 m k c) := by
  refine (θ_run _ _ _).mono (fun r h c => ?_) (run_main m ρ hO)
  obtain rfl : c = 0 := Subsingleton.elim _ _
  exact ⟨((h 0).1 5).trans (funext (final5 m hO 0 hk)), ((h 0).1 6).trans (funext (final6 m hO 0 hk)),
    ((h 0).1 7).trans (funext (final7 m hO 0 hk)), ((h 0).1 8).trans (funext (final8 m hO 0 hk))⟩

end Cert.AdamGateSecondIdeal.Step

namespace Cert.Proof

open Idealize.ShloMosaic Idealize.ShloMosaic.TcCoe Idealize.SL.Sem Cert.Adam Cert.AdamGateSecondIdeal.Step Cert.AdamGateSecondRefIdeal.Gen
open Cert.AdamGateSecondIdeal (main_arg0 main_arg1 main_arg2)

/-- The kernel computes, in the first layer, what its reference does. -/
theorem algebraic_adam_gate_second : Cert.algebraic_AdamGateSecondIdeal_AdamGateSecondRefIdeal := by
  intro m ρ m' ρ' hpre hagree
  obtain ⟨k, hk⟩ := chip_of _ _ _ (hpre 0)
  have hO := ok_of_chip m k hk
  refine ⟨fun c => H5 m k c, fun c => H6 m k c, fun c => H7 m k c, fun c => H8 m k c, ?_, ?_⟩
  · refine (θ_run _ _ _).mono (fun r h c => ?_) (θ_run_and (arrays m hk hO ρ) (Cert.AdamGateSecondIdeal.Gen.unchanged m ρ hO))
    obtain ⟨h5, h6, h7, h8⟩ := h.1 c
    exact ⟨h5, h6, h7, h8, h.2 c⟩
  · refine (θ_run _ _ _).mono (fun r h c => ?_) (Cert.AdamGateSecondRefIdeal.Value.run (F := Ideal) m' ρ')
    obtain ⟨e0, e1, e2, e3, e4, e5, e6, e7, e8, e9⟩ := hagree c
    obtain rfl : c = 0 := Subsingleton.elim _ _
    obtain ⟨h5, h6, h7, h8, hargs⟩ := h 0
    have hg := fun i : Cert.AdamGateSecondIdeal.S2x2048x1408.Idx => (host_gradient (m ((0 : Dev _).tc.loc main_arg0)) (m ((0 : Dev _).tc.loc main_arg1))
      (ownOf (m ((0 : Dev _).tc.loc main_arg0)) (m ((0 : Dev _).tc.loc main_arg2)) (fun _ => 0) ![0, 1408, 2816, 4224] slices_S2_S1_0 shapeCasts_S1_S_ bcast_S_S2048x1408
        slices_S2048x5632_S2048x1408_0_0 slices_S2048x5632_S2048x1408_0_1408 slices_S2048x5632_S2048x1408_0_2816 slices_S2048x5632_S2048x1408_0_4224)
      bcast_S8x1x1_S8x2048x1408_0_1_2 bcast_S8_S8x1x1_0 bcast_S_S8x1x1 slices_S2_S1_1 shapeCasts_S1_S_ bcast_S1x2048x1408_S8x2048x1408_0_1_2
      bcast_S2048x1408_S1x2048x1408_1_2 reducesTo_S8x2048x1408_S2048x1408_d0 h_S_ (by decide) (by decide) (under i)).trans
      (congrArg₂ (fun b o => grad b _ o) (me_eq m).symm (ownOf_apply hk (under i)
        (ix2 ⟨(i 1).val, (i 1).isLt⟩ ⟨k.val * 1408 + (i 2).val, by have : (i 2).val < 1408 := (i 2).isLt; omega⟩)
        (Nat.zero_add _).symm (congrArg (· + (i 2).val) ((by decide : ∀ k : Fin 4, k.val * 1408 = (![0, 1408, 2816, 4224] : Fin 4 → ℕ) k) k))))
    have cut0 := fun (w : Cert.AdamGateSecondIdeal.S2x2048x1408.Idx → EReal) (i : Cert.AdamGateSecondIdeal.S2x2048x1408.Idx) =>
      cut_layer 0 w slices_S2x2048x1408_S1x2048x1408_0_0_0 shapeCasts_S1x2048x1408_S2048x1408 i
    have cut1 := fun (w : Cert.AdamGateSecondIdeal.S2x2048x1408.Idx → EReal) (i : Cert.AdamGateSecondIdeal.S2x2048x1408.Idx) =>
      cut_layer 1 w slices_S2x2048x1408_S1x2048x1408_1_0_0 shapeCasts_S1x2048x1408_S2048x1408 i
    refine ⟨h5.trans ?_, h6.trans ?_, h7.trans ?_, h8.trans ?_, hargs⟩
    · rw [e0, e1, e2, e6]
      exact stack_both _ _ _ _ _ _ (by decide) (by decide) (cut0 _) fun i _ => hg i
    · unfold Cert.AdamGateSecondRefIdeal.Value.res_main_v66
      rw [e0, e1, e2, e3, e4, e5, e7]
      exact stack_both _ _ _ _ _ _ (by decide) (by decide) (cut0 _) fun i hi =>
        congrArg_three delta (cut1 _ i hi) (congrArg₂ newM (hg i) (cut1 _ i hi)) (congrArg₂ newV (hg i) (cut1 _ i hi))
    · rw [e0, e1, e2, e4, e8]
      exact stack_both _ _ _ _ _ _ (by decide) (by decide) (cut0 _) fun i hi => congrArg₂ newM (hg i) (cut1 _ i hi)
    · unfold Cert.AdamGateSecondRefIdeal.Value.res_main_v76
      rw [e0, e1, e2, e5, e9]
      exact stack_both _ _ _ _ _ _ (by decide) (by decide) (cut0 _) fun i hi => congrArg₂ newV (hg i) (cut1 _ i hi)

/-- The reference runs, keeps its arguments and leaves no semaphore raised. -/
theorem frame_adam_gate_second_ref : Cert.quiescent_AdamGateSecondRefIdeal := fun m ρ _ =>
  (θ_run _ _ _).mono (fun r h => ⟨fun c => (h c).2.2.2.2, sem_eq_zero_of_no_sems (by decide) r.2⟩)
    (Cert.AdamGateSecondRefIdeal.Value.run (F := Ideal) m ρ)

end Cert.Proof

end
-- ==== Proof.AdamDownFirst.lean ====
/- The optimiser step on the first layer of a weight kept by rows in a stack of two layers: kernel and reference at every entry. -/
module

public import proofs.«01_k».proof.Proof.Adam
public import proofs.«01_k».proof.Proof.Gen.AdamDownFirst.Frame
public import proofs.«01_k».proof.Proof.Gen.Pre_chip_down
public import proofs.«01_k».proof.Proof.Gen.On_first_layer_down
public import proofs.«01_k».proof.Proof.Gen.AdamDownFirstIdeal.Frame
public import proofs.«01_k».proof.Proof.Gen.AdamDownFirstRefIdeal.Run
public import proofs.«01_k».proof.Defs

@[expose] public section

set_option maxRecDepth 16384

noncomputable section

namespace Cert.AdamDownFirst.Step

open Idealize.ShloMosaic Idealize.ShloMosaic.TcCoe
open Cert.AdamDownFirst.Gen Cert.Adam

/-- The blocks of the own gradient, for every chip and grid point. -/
theorem inside : ∀ (k : Fin 4) (i : grid0.Coords), ∃ h : (∀ a, (![(Scalar.addi (Scalar.muli (BitVec.ofNat 32 k.val) 11#32) (BitVec.ofNat 32 (i 0).val)).toNat, (0#32).toNat] a + 1) * S128x2048.size a ≤ S5632x2048.size a),
    EltTy.bits .bf16 = 32 ∨ (Rect.block (s := S5632x2048) S128x2048.size
      ![(Scalar.addi (Scalar.muli (BitVec.ofNat 32 k.val) 11#32) (BitVec.ofNat 32 (i 0).val)).toNat, (0#32).toNat] h).WholeWords (EltTy.packing .bf16) := by
  decide +kernel

/-- The blocks lie in the matrix when the chip's number is one of four. -/
theorem ok_of_chip {F : FTy → Type} [FloatOps F] (m : (ℓ : Loc nD τ sig) → Buf (Elt F) ℓ) (k : Fin 4)
    (hk : m (((0 : Dev nD).tc : Thread nD τ).loc main_arg0) (ix1 0) = BitVec.ofNat 32 k.val) : Ok m := by
  have e : (tbl m).at 0 (Rect.unit (s := S2) ![0] S1.size inb_S2_S1_0) numel1_S1 = BitVec.ofNat 32 k.val :=
    Eq.trans (congrArg (m (((0 : Dev nD).tc : Thread nD τ).loc main_arg0)) (funext fun b => by fin_cases b; rfl)) hk
  unfold Ok ok0 cc0_transform_1
  dsimp only
  rw [e]
  exact inside k

/-- The run, and what it leaves alone, when the precondition holds. -/
theorem frame : Cert.quiescent_AdamDownFirst := fun m ρ h =>
  have ⟨k, hk⟩ := chip_of _ _ _ (h 0)
  Gen.frame m ρ (ok_of_chip m k hk)

end Cert.AdamDownFirst.Step

namespace Cert.AdamDownFirstIdeal.Step

open Idealize.ShloMosaic Idealize.ShloMosaic.TcCoe
open Idealize.SL Idealize.SL.Sem
open Idealize.ShloMosaic.Pipeline (Dat Cfg Window)
open Cert.AdamDownFirstIdeal.Gen Cert.Adam

/-- The blocks of the own gradient, for every chip and grid point. -/
theorem inside : ∀ (k : Fin 4) (i : grid0.Coords), ∃ h : (∀ a, (![(Scalar.addi (Scalar.muli (BitVec.ofNat 32 k.val) 11#32) (BitVec.ofNat 32 (i 0).val)).toNat, (0#32).toNat] a + 1) * S128x2048.size a ≤ S5632x2048.size a),
    EltTy.bits .bf16 = 32 ∨ (Rect.block (s := S5632x2048) S128x2048.size
      ![(Scalar.addi (Scalar.muli (BitVec.ofNat 32 k.val) 11#32) (BitVec.ofNat 32 (i 0).val)).toNat, (0#32).toNat] h).WholeWords (EltTy.packing .bf16) := by
  decide +kernel

/-- The blocks lie in the matrix when the chip's number is one of four. -/
theorem ok_of_chip {F : FTy → Type} [FloatOps F] (m : (ℓ : Loc nD τ sig) → Buf (Elt F) ℓ) (k : Fin 4)
    (hk : m (((0 : Dev nD).tc : Thread nD τ).loc main_arg0) (ix1 0) = BitVec.ofNat 32 k.val) : Ok m := by
  have e : (tbl m).at 0 (Rect.unit (s := S2) ![0] S1.size inb_S2_S1_0) numel1_S1 = BitVec.ofNat 32 k.val :=
    Eq.trans (congrArg (m (((0 : Dev nD).tc : Thread nD τ).loc main_arg0)) (funext fun b => by fin_cases b; rfl)) hk
  unfold Ok ok0 cc0_transform_1
  dsimp only
  rw [e]
  exact inside k

/-- The run, and what it leaves alone, when the precondition holds. -/
theorem frame : Cert.quiescent_AdamDownFirstIdeal := fun m ρ h =>
  have ⟨k, hk⟩ := chip_of _ _ _ (h 0)
  Gen.frame m ρ (ok_of_chip m k hk)

variable (m : (ℓ : Loc nD τ sig) → Buf (Elt Ideal) ℓ)

/-- This device's number, as the kernel reads it. -/
def me : BitVec 32 := View.readAt (Elt Ideal) (View.whole main_arg0) (Rect.unit ![1] ![1] inb_S2_S1_1).toLoadRect (tbl m 0) (Shape.Idx.first (by decide))

theorem me_eq : me m = m (((0 : Dev nD).tc : Thread nD τ).loc main_arg0) (ix1 1) :=
  congrArg (m (((0 : Dev nD).tc : Thread nD τ).loc main_arg0)) (funext fun b => by fin_cases b; rfl)

variable (k : Fin 4)

/-- The first layer the kernel leaves on chip `k`, from the arrays it was given. -/
def G5 (c : Dev nD) : S2x1408x2048.Idx → EReal := fun i =>
  grad (me m) (fun d => m (c.tc.loc main_arg1) (ix3 d ⟨i 1, (i 1).isLt⟩ ⟨i 2, (i 2).isLt⟩))
    (m (c.tc.loc main_arg2) (ix2 ⟨k.val * 1408 + (i 1).val, by have : (i 1).val < 1408 := (i 1).isLt; omega⟩ ⟨(i 2).val, (i 2).isLt⟩))
def G7 (c : Dev nD) : S2x1408x2048.Idx → EReal := fun i => newM (G5 m k c i) (m (c.tc.loc main_arg4) i)
def G8 (c : Dev nD) : S2x1408x2048.Idx → EReal := fun i => newV (G5 m k c i) (m (c.tc.loc main_arg5) i)
def G6 (c : Dev nD) : S2x1408x2048.Idx → EReal := fun i => delta (m (c.tc.loc main_arg3) i) (G7 m k c i) (G8 m k c i)

variable (hO : Ok m) (c : Dev nD) (t : Fin (cfgM m hO).N) (y : S1x128x2048.Idx)

/-- The gradient at an entry of a block. -/
def gAt : EReal := grad (me m) (fun k => iblk m hO c 0 t (ix3 k ⟨y 1, (y 1).isLt⟩ ⟨y 2, (y 2).isLt⟩)) (iblk m hO c 1 t (under y))

/-- A staged block is read back as it was. -/
theorem staged {S : Shape} {e : EltTy} (M : Memref sig .tc .vmem S e) (h : M.IsWhole) (x : S.Idx → Elt Ideal e) :
    View.read (Elt Ideal) M.view (h.unread x) = x := h.read_unread x

/-- A staged block of a stack, its unit axis dropped. -/
theorem dropped (M : Memref sig .tc .vmem S1x128x2048 .f32) (h : M.IsWhole) (x : S1x128x2048.Idx → EReal) :
    shapeCast S128x2048 (View.read (Elt Ideal) M.view (h.unread (Val := Elt Ideal) x)) shapeCasts_S1x128x2048_S128x2048 (under y) = x y :=
  (drop_apply _ shapeCasts_S1x128x2048_S128x2048 y).trans (congrFun (staged (S := S1x128x2048) (e := .f32) M h x) y)

/-- The summed gradient, as the kernel stores it. -/
theorem sum_apply (a : Elt Ideal .i32) (b d : S128x2048.Idx → EReal) (e : BitVec 1) (f g h : S1x128x2048.Idx → EReal) :
    k0_pay9 (F := Ideal) a b d e f g h y = k0_pay6 (F := Ideal) a b d e f g h (under y) :=
  lift_apply (T := 128) (C := 2048) (k0_pay6 (F := Ideal) a b d e f g h) shapeCasts_S128x2048_S1x128x2048 y

/-- The new moments, as the kernel stores them. -/
theorem first_apply (a : S128x2048.Idx → EReal) : k0_pay1 (F := Ideal) a y = a (under y) :=
  lift_apply (T := 128) (C := 2048) a shapeCasts_S128x2048_S1x128x2048 y
theorem second_apply (a : S128x2048.Idx → EReal) : k0_pay2 (F := Ideal) a y = a (under y) :=
  lift_apply (T := 128) (C := 2048) a shapeCasts_S128x2048_S1x128x2048 y

theorem out5 : (outsAt0 m hO c t).1 y = gAt m hO c t y := by
  unfold outsAt0
  frame_out
  refine (sum_apply y _ _ _ _ _ _ _).trans ?_
  refine (kernel_sum _ (View.read (Elt Ideal) (ms0_0 m hO t).view ((hs0_0 m hO t).unread (iblk m hO c 0 t)))
    (View.read (Elt Ideal) (ms0_1 m hO t).view ((hs0_1 m hO t).unread (iblk m hO c 1 t))) shapeCasts_S1x128x2048_S128x2048 (under y)).trans ?_
  exact congrArg₂ (fun (X : S8x128x2048.Idx → EReal) (O : S128x2048.Idx → EReal) => grad (me m) (fun k => X (ix3 k ⟨y 1, (y 1).isLt⟩ ⟨y 2, (y 2).isLt⟩)) (O (under y)))
    (staged (S := S8x128x2048) (e := .bf16) (ms0_0 m hO t) _ _) (staged (S := S128x2048) (e := .bf16) (ms0_1 m hO t) _ _)

theorem out7 : (outsAt0 m hO c t).2.2.1 y = newM (gAt m hO c t y) (iblk m hO c 3 t y) := by
  have e := out5 m hO c t y
  unfold outsAt0 at e ⊢
  frame_out at e
  frame_out
  exact (first_apply y _).trans (congrArg₂ newM ((sum_apply y _ _ _ _ _ _ _).symm.trans e) (dropped y _ _ _))

theorem out8 : (outsAt0 m hO c t).2.2.2 y = newV (gAt m hO c t y) (iblk m hO c 4 t y) := by
  have e := out5 m hO c t y
  unfold outsAt0 at e ⊢
  frame_out at e
  frame_out
  exact (second_apply y _).trans (congrArg₂ newV ((sum_apply y _ _ _ _ _ _ _).symm.trans e) (dropped y _ _ _))

/-- The change of a weight, as the kernel computes it from the new moments. -/
theorem change_apply (a b : S128x2048.Idx → EReal) (w : S1x128x2048.Idx → EReal) :
    k0_pay3 (F := Ideal) a b w y = delta (shapeCast S128x2048 w shapeCasts_S1x128x2048_S128x2048 (under y)) (a (under y)) (b (under y)) := by
  unfold k0_pay3
  exact lift_apply (T := 128) (C := 2048) _ shapeCasts_S128x2048_S1x128x2048 y

theorem out6 : (outsAt0 m hO c t).2.1 y
    = delta (iblk m hO c 2 t y) (newM (gAt m hO c t y) (iblk m hO c 3 t y)) (newV (gAt m hO c t y) (iblk m hO c 4 t y)) := by
  have e := out7 m hO c t y
  have f := out8 m hO c t y
  unfold outsAt0 at e f ⊢
  frame_out at e
  frame_out at f
  frame_out
  exact (change_apply y _ _ _).trans (congrArg_three delta (dropped y _ _ _) ((first_apply y _).symm.trans e) ((second_apply y _).symm.trans f))

/-- Where the blocks lie: rows from the grid point's, every column. -/
theorem place0 : ∀ t : Fin grid0.N, cc0_transform_0 (grid0.coords t) = ![0, (grid0.coords t 0).val, 0] := by decide +kernel
theorem place : ∀ t : Fin grid0.N, cc0_transform_2 (grid0.coords t) = ![0, (grid0.coords t 0).val, 0] := by decide +kernel
theorem place_word : ∀ (k : Fin 4) (t : Fin grid0.N),
    ![(Scalar.addi (Scalar.muli (BitVec.ofNat 32 k.val) 11#32) (BitVec.ofNat 32 (grid0.coords t 0).val)).toNat, (0#32).toNat]
      = ![k.val * 11 + (grid0.coords t 0).val, 0] := by decide +kernel

variable {k} (hk : m (((0 : Dev nD).tc : Thread nD τ).loc main_arg0) (ix1 0) = BitVec.ofNat 32 k.val)

include hk in
theorem place1 (t : Fin grid0.N) : cc0_transform_1 inb_S2_S1_0 numel1_S1 (tbl m) (grid0.coords t) = ![k.val * 11 + (grid0.coords t 0).val, 0] := by
  have e : (tbl m).at 0 (Rect.unit (s := S2) ![0] S1.size inb_S2_S1_0) numel1_S1 = BitVec.ofNat 32 k.val :=
    (congrArg (m (((0 : Dev nD).tc : Thread nD τ).loc main_arg0)) (funext fun b => by fin_cases b; rfl)).trans hk
  unfold cc0_transform_1
  dsimp only
  rw [e]
  exact place_word k t

section Entry

variable (i : S2x1408x2048.Idx) (h : (i 0).val = 0 * 1 + (y 0).val ∧ (i 1).val = (grid0.coords t 0).val * 128 + (y 1).val ∧ (i 2).val = 0 * 2048 + (y 2).val)

include hk h in
theorem gAt_eq : gAt m hO c t y = G5 m k c i := by
  unfold gAt G5
  refine congrArg₂ (grad (me m)) (funext fun k => ?_) ?_
  · exact congrArg (m (c.tc.loc main_arg1)) (is3 (j := ix3 k ⟨y 1, (y 1).isLt⟩ ⟨y 2, (y 2).isLt⟩)
      (fun a => ValueKit.view_emb_slice_whole_unit_val main_arg1 _ _ _ _ a) (place0 t) _ (Nat.zero_add _).symm h.2.1 h.2.2)
  · exact congrArg (m (c.tc.loc main_arg2)) (is2 (j := under y) (fun a => ValueKit.view_emb_slice_whole_unit_val main_arg2 _ _ _ _ a) (place1 m hk t) _
      (show k.val * 1408 + (i 1).val = (k.val * 11 + (grid0.coords t 0).val) * 128 + (y 1).val by rw [h.2.1]; ring) h.2.2)

include hk h in
theorem mAt_eq : newM (gAt m hO c t y) (iblk m hO c 3 t y) = G7 m k c i :=
  congrArg₂ newM (gAt_eq m hO c t y hk i h)
    (congrArg (m (c.tc.loc main_arg4)) (is3 (fun a => ValueKit.view_emb_slice_whole_unit_val main_arg4 _ _ _ _ a) (place t) _ h.1 h.2.1 h.2.2))

include hk h in
theorem vAt_eq : newV (gAt m hO c t y) (iblk m hO c 4 t y) = G8 m k c i :=
  congrArg₂ newV (gAt_eq m hO c t y hk i h)
    (congrArg (m (c.tc.loc main_arg5)) (is3 (fun a => ValueKit.view_emb_slice_whole_unit_val main_arg5 _ _ _ _ a) (place t) _ h.1 h.2.1 h.2.2))

include hk h in
theorem dAt_eq : delta (iblk m hO c 2 t y) (newM (gAt m hO c t y) (iblk m hO c 3 t y)) (newV (gAt m hO c t y) (iblk m hO c 4 t y)) = G6 m k c i := by
  rw [mAt_eq m hO c t y hk i h, vAt_eq m hO c t y hk i h]
  exact congrArg (fun a => delta a _ _)
    (congrArg (m (c.tc.loc main_arg3)) (is3 (fun a => ValueKit.view_emb_slice_whole_unit_val main_arg3 _ _ _ _ a) (place t) _ h.1 h.2.1 h.2.2))

end Entry

theorem reached : ∀ p : Fin 11, ∃ i : grid0.Coords, cc0_transform_5 i 0 = 0 ∧ cc0_transform_5 i 1 = p ∧ cc0_transform_5 i 2 = 0 := by decide +kernel
theorem layer : ∀ i : grid0.Coords, cc0_transform_5 i 0 = 0 := by decide +kernel

/-- Every block of the first layer of an output is written. -/
theorem covers (β : Fin 3 → ℕ) (h0 : β 0 = 0) (h1 : β 1 < (1408 + 128 - 1) / 128) (h2 : β 2 < (2048 + 2048 - 1) / 2048) :
    ∃ i : grid0.Coords, ∀ a : Fin 3, cc0_transform_5 i a = β a := by
  obtain ⟨i, e0, e1, e2⟩ := reached ⟨β 1, h1⟩
  exact ⟨i, fun a => by fin_cases a; exacts [e0.trans h0.symm, e1, e2.trans (Nat.lt_one_iff.mp h2).symm]⟩

include hk in
theorem final5 (i : S2x1408x2048.Idx) (hi : (i 0).val = 0) : (dats m hO 0 c).arrAt 5 (cfgM m hO).N i = G5 m k c i := by
  refine (dats m hO 0 c).arrAt_forall_of_coversWhere 5 (fun (i : S2x1408x2048.Idx) v => (i 0).val = 0 → v = G5 m k c i) (fun β => β (0 : Fin 3) = 0)
    (coversWhere _ rfl (by decide : ∀ a : Fin 3, 0 < S1x128x2048.size a) layer fun β h => covers (fun a => β a) h (β (1 : Fin 3)).isLt (β (2 : Fin 3)).isLt)
    (fun t hf y => ?_) (fun j hj hi => (hj ((Nat.div_one _).trans hi)).elim) i (Memref.isWhole_whole _) hi
  intro _
  blk_simp
  rw [after0_5]
  exact (out5 m hO c t y).trans (gAt_eq m hO c t y hk _ (lies3 (fun a => ValueKit.view_emb_slice_whole_unit_val main_v0_0 _ _ _ _ a) (place t)))

include hk in
theorem final6 (i : S2x1408x2048.Idx) (hi : (i 0).val = 0) : (dats m hO 0 c).arrAt 6 (cfgM m hO).N i = G6 m k c i := by
  refine (dats m hO 0 c).arrAt_forall_of_coversWhere 6 (fun (i : S2x1408x2048.Idx) v => (i 0).val = 0 → v = G6 m k c i) (fun β => β (0 : Fin 3) = 0)
    (coversWhere _ rfl (by decide : ∀ a : Fin 3, 0 < S1x128x2048.size a) layer fun β h => covers (fun a => β a) h (β (1 : Fin 3)).isLt (β (2 : Fin 3)).isLt)
    (fun t hf y => ?_) (fun j hj hi => (hj ((Nat.div_one _).trans hi)).elim) i (Memref.isWhole_whole _) hi
  intro _
  blk_simp
  rw [after0_6]
  exact (out6 m hO c t y).trans (dAt_eq m hO c t y hk _ (lies3 (fun a => ValueKit.view_emb_slice_whole_unit_val main_v0_1 _ _ _ _ a) (place t)))

include hk in
theorem final7 (i : S2x1408x2048.Idx) (hi : (i 0).val = 0) : (dats m hO 0 c).arrAt 7 (cfgM m hO).N i = G7 m k c i := by
  refine (dats m hO 0 c).arrAt_forall_of_coversWhere 7 (fun (i : S2x1408x2048.Idx) v => (i 0).val = 0 → v = G7 m k c i) (fun β => β (0 : Fin 3) = 0)
    (coversWhere _ rfl (by decide : ∀ a : Fin 3, 0 < S1x128x2048.size a) layer fun β h => covers (fun a => β a) h (β (1 : Fin 3)).isLt (β (2 : Fin 3)).isLt)
    (fun t hf y => ?_) (fun j hj hi => (hj ((Nat.div_one _).trans hi)).elim) i (Memref.isWhole_whole _) hi
  intro _
  blk_simp
  rw [after0_7]
  exact (out7 m hO c t y).trans (mAt_eq m hO c t y hk _ (lies3 (fun a => ValueKit.view_emb_slice_whole_unit_val main_v0_2 _ _ _ _ a) (place t)))

include hk in
theorem final8 (i : S2x1408x2048.Idx) (hi : (i 0).val = 0) : (dats m hO 0 c).arrAt 8 (cfgM m hO).N i = G8 m k c i := by
  refine (dats m hO 0 c).arrAt_forall_of_coversWhere 8 (fun (i : S2x1408x2048.Idx) v => (i 0).val = 0 → v = G8 m k c i) (fun β => β (0 : Fin 3) = 0)
    (coversWhere _ rfl (by decide : ∀ a : Fin 3, 0 < S1x128x2048.size a) layer fun β h => covers (fun a => β a) h (β (1 : Fin 3)).isLt (β (2 : Fin 3)).isLt)
    (fun t hf y => ?_) (fun j hj hi => (hj ((Nat.div_one _).trans hi)).elim) i (Memref.isWhole_whole _) hi
  intro _
  blk_simp
  rw [after0_8]
  exact (out8 m hO c t y).trans (vAt_eq m hO c t y hk _ (lies3 (fun a => ValueKit.view_emb_slice_whole_unit_val main_v0_3 _ _ _ _ a) (place t)))

include hk in
/-- The first layer of the arrays after the run. -/
theorem arrays (hO : Ok m) (ρ : Dev nD → PrngReg) :
    θ_run (defs (F := Ideal)) (onTc (τ := τ) (main (F := Ideal))) ⟨m, fun _ => 0, ρ⟩ (fun r => ∀ (c : Dev nD) (i : S2x1408x2048.Idx), (i 0).val = 0 →
      r.2.mem (c.tc.loc main_v0_0) i = G5 m k c i ∧ r.2.mem (c.tc.loc main_v0_1) i = G6 m k c i ∧ r.2.mem (c.tc.loc main_v0_2) i = G7 m k c i
        ∧ r.2.mem (c.tc.loc main_v0_3) i = G8 m k c i) := by
  refine (θ_run _ _ _).mono (fun r h c i hi => ?_) (run_main m ρ hO)
  obtain rfl : c = 0 := Subsingleton.elim _ _
  exact ⟨(congrFun ((h 0).1 5) i).trans (final5 m hO 0 hk i hi), (congrFun ((h 0).1 6) i).trans (final6 m hO 0 hk i hi),
    (congrFun ((h 0).1 7) i).trans (final7 m hO 0 hk i hi), (congrFun ((h 0).1 8) i).trans (final8 m hO 0 hk i hi)⟩

end Cert.AdamDownFirstIdeal.Step

namespace Cert.Proof

open Idealize.ShloMosaic Idealize.ShloMosaic.TcCoe Idealize.SL.Sem Cert.Adam Cert.AdamDownFirstIdeal.Step Cert.AdamDownFirstRefIdeal.Gen
open Cert.AdamDownFirstIdeal (main_arg0 main_arg1 main_arg2)

/-- The kernel computes, in the first layer, what its reference does. -/
theorem algebraic_adam_down_first : Cert.algebraic_AdamDownFirstIdeal_AdamDownFirstRefIdeal_on_first_layer_down := by
  intro m ρ m' ρ' hpre hagree
  obtain ⟨k, hk⟩ := chip_of _ _ _ (hpre 0)
  have hO := ok_of_chip m k hk
  refine ⟨fun c => G5 m k c, fun c => G6 m k c, fun c => G7 m k c, fun c => G8 m k c, ?_, ?_⟩
  · refine (θ_run _ _ _).mono (fun r h c => ?_) (θ_run_and (arrays m hk hO ρ) (Cert.AdamDownFirstIdeal.Gen.unchanged m ρ hO))
    exact ⟨fun i hi => (h.1 c i (first_layer _ i hi)).1, fun i hi => (h.1 c i (first_layer _ i hi)).2.1, fun i hi => (h.1 c i (first_layer _ i hi)).2.2.1,
      fun i hi => (h.1 c i (first_layer _ i hi)).2.2.2, h.2 c⟩
  · refine (θ_run _ _ _).mono (fun r h c => ?_) (Cert.AdamDownFirstRefIdeal.Value.run (F := Ideal) m' ρ')
    obtain ⟨e0, e1, e2, e3, e4, e5⟩ := hagree c
    obtain rfl : c = 0 := Subsingleton.elim _ _
    obtain ⟨h5, h6, h7, h8, hargs⟩ := h 0
    have hg := fun i : Cert.AdamDownFirstIdeal.S2x1408x2048.Idx => (host_gradient (m ((0 : Dev _).tc.loc main_arg0)) (m ((0 : Dev _).tc.loc main_arg1))
      (ownOf (m ((0 : Dev _).tc.loc main_arg0)) (m ((0 : Dev _).tc.loc main_arg2)) ![0, 1408, 2816, 4224] (fun _ => 0) slices_S2_S1_0 shapeCasts_S1_S_ bcast_S_S1408x2048
        slices_S5632x2048_S1408x2048_0_0 slices_S5632x2048_S1408x2048_1408_0 slices_S5632x2048_S1408x2048_2816_0 slices_S5632x2048_S1408x2048_4224_0)
      bcast_S8x1x1_S8x1408x2048_0_1_2 bcast_S8_S8x1x1_0 bcast_S_S8x1x1 slices_S2_S1_1 shapeCasts_S1_S_ bcast_S1x1408x2048_S8x1408x2048_0_1_2
      bcast_S1408x2048_S1x1408x2048_1_2 reducesTo_S8x1408x2048_S1408x2048_d0 h_S_ (by decide) (by decide) (under i)).trans
      (congrArg₂ (fun b o => grad b _ o) (me_eq m).symm (ownOf_apply hk (under i)
        (ix2 ⟨k.val * 1408 + (i 1).val, by have : (i 1).val < 1408 := (i 1).isLt; omega⟩ ⟨(i 2).val, (i 2).isLt⟩)
        (congrArg (· + (i 1).val) ((by decide : ∀ k : Fin 4, k.val * 1408 = (![0, 1408, 2816, 4224] : Fin 4 → ℕ) k) k)) (Nat.zero_add _).symm))
    have cut := fun (w : Cert.AdamDownFirstIdeal.S2x1408x2048.Idx → EReal) (i : Cert.AdamDownFirstIdeal.S2x1408x2048.Idx) => cut_layer 0 w slices_S2x1408x2048_S1x1408x2048_0_0_0 shapeCasts_S1x1408x2048_S1408x2048 i
    refine ⟨fun i hi => (congrFun h5 i).trans ?_, fun i hi => (congrFun h6 i).trans ?_, fun i hi => (congrFun h7 i).trans ?_,
      fun i hi => (congrFun h8 i).trans ?_, hargs⟩
    · rw [e0, e1, e2]
      exact (stack_first _ _ _ _ (by decide) (by decide) i (first_layer _ i hi)).trans (hg i)
    · unfold Cert.AdamDownFirstRefIdeal.Value.res_main_v64
      rw [e0, e1, e2, e3, e4, e5]
      refine (stack_first _ _ _ _ (by decide) (by decide) i (first_layer _ i hi)).trans ?_
      exact congrArg_three delta (cut _ i (first_layer _ i hi)) (congrArg₂ newM (hg i) (cut _ i (first_layer _ i hi)))
        (congrArg₂ newV (hg i) (cut _ i (first_layer _ i hi)))
    · rw [e0, e1, e2, e4]
      exact (stack_first _ _ _ _ (by decide) (by decide) i (first_layer _ i hi)).trans (congrArg₂ newM (hg i) (cut _ i (first_layer _ i hi)))
    · unfold Cert.AdamDownFirstRefIdeal.Value.res_main_v72
      rw [e0, e1, e2, e5]
      exact (stack_first _ _ _ _ (by decide) (by decide) i (first_layer _ i hi)).trans (congrArg₂ newV (hg i) (cut _ i (first_layer _ i hi)))

/-- The reference runs, keeps its arguments and leaves no semaphore raised. -/
theorem frame_adam_down_first_ref : Cert.quiescent_AdamDownFirstRefIdeal := fun m ρ _ =>
  (θ_run _ _ _).mono (fun r h => ⟨fun c => (h c).2.2.2.2, sem_eq_zero_of_no_sems (by decide) r.2⟩)
    (Cert.AdamDownFirstRefIdeal.Value.run (F := Ideal) m ρ)

end Cert.Proof

end
-- ==== Proof.AdamDownSecond.lean ====
/- The optimiser step on the second layer of a weight kept by rows in a stack of two layers: kernel and reference at every entry. -/
module

public import proofs.«01_k».proof.Proof.Adam
public import proofs.«01_k».proof.Proof.Gen.AdamDownSecond.Frame
public import proofs.«01_k».proof.Proof.Gen.Pre_chip_down_second
public import proofs.«01_k».proof.Proof.Gen.AdamDownSecondIdeal.Frame
public import proofs.«01_k».proof.Proof.Gen.AdamDownSecondRefIdeal.Run
public import proofs.«01_k».proof.Defs

@[expose] public section

set_option maxRecDepth 16384

noncomputable section

namespace Cert.AdamDownSecond.Step

open Idealize.ShloMosaic Idealize.ShloMosaic.TcCoe
open Cert.AdamDownSecond.Gen Cert.Adam

/-- The blocks of the own gradient, for every chip and grid point. -/
theorem inside : ∀ (k : Fin 4) (i : grid0.Coords), ∃ h : (∀ a, (![(Scalar.addi (Scalar.muli (BitVec.ofNat 32 k.val) 11#32) (BitVec.ofNat 32 (i 0).val)).toNat, (0#32).toNat] a + 1) * S128x2048.size a ≤ S5632x2048.size a),
    EltTy.bits .bf16 = 32 ∨ (Rect.block (s := S5632x2048) S128x2048.size
      ![(Scalar.addi (Scalar.muli (BitVec.ofNat 32 k.val) 11#32) (BitVec.ofNat 32 (i 0).val)).toNat, (0#32).toNat] h).WholeWords (EltTy.packing .bf16) := by
  decide +kernel

/-- The blocks lie in the matrix when the chip's number is one of four. -/
theorem ok_of_chip {F : FTy → Type} [FloatOps F] (m : (ℓ : Loc nD τ sig) → Buf (Elt F) ℓ) (k : Fin 4)
    (hk : m (((0 : Dev nD).tc : Thread nD τ).loc main_arg0) (ix1 0) = BitVec.ofNat 32 k.val) : Ok m := by
  have e : (tbl m).at 0 (Rect.unit (s := S2) ![0] S1.size inb_S2_S1_0) numel1_S1 = BitVec.ofNat 32 k.val :=
    (congrArg (V m (0 : Dev nD) main_arg0) (funext fun b => by fin_cases b; rfl)).trans ((congrFun (V_main_arg0 m 0) (ix1 0)).trans hk)
  unfold Ok ok0 cc0_transform_1
  dsimp only
  rw [e]
  exact inside k

/-- The run, and what it leaves alone, when the precondition holds. -/
theorem frame : Cert.quiescent_AdamDownSecond := fun m ρ h =>
  have ⟨k, hk⟩ := chip_of _ _ _ (h 0)
  Gen.frame m ρ (ok_of_chip m k hk)

end Cert.AdamDownSecond.Step

namespace Cert.AdamDownSecondIdeal.Step

open Idealize.ShloMosaic Idealize.ShloMosaic.TcCoe
open Idealize.SL Idealize.SL.Sem
open Idealize.ShloMosaic.Pipeline (Dat Cfg Window)
open Cert.AdamDownSecondIdeal.Gen Cert.Adam

/-- The blocks of the own gradient, for every chip and grid point. -/
theorem inside : ∀ (k : Fin 4) (i : grid0.Coords), ∃ h : (∀ a, (![(Scalar.addi (Scalar.muli (BitVec.ofNat 32 k.val) 11#32) (BitVec.ofNat 32 (i 0).val)).toNat, (0#32).toNat] a + 1) * S128x2048.size a ≤ S5632x2048.size a),
    EltTy.bits .bf16 = 32 ∨ (Rect.block (s := S5632x2048) S128x2048.size
      ![(Scalar.addi (Scalar.muli (BitVec.ofNat 32 k.val) 11#32) (BitVec.ofNat 32 (i 0).val)).toNat, (0#32).toNat] h).WholeWords (EltTy.packing .bf16) := by
  decide +kernel

/-- The blocks lie in the matrix when the chip's number is one of four. -/
theorem ok_of_chip {F : FTy → Type} [FloatOps F] (m : (ℓ : Loc nD τ sig) → Buf (Elt F) ℓ) (k : Fin 4)
    (hk : m (((0 : Dev nD).tc : Thread nD τ).loc main_arg0) (ix1 0) = BitVec.ofNat 32 k.val) : Ok m := by
  have e : (tbl m).at 0 (Rect.unit (s := S2) ![0] S1.size inb_S2_S1_0) numel1_S1 = BitVec.ofNat 32 k.val :=
    (congrArg (V m (0 : Dev nD) main_arg0) (funext fun b => by fin_cases b; rfl)).trans ((congrFun (V_main_arg0 m 0) (ix1 0)).trans hk)
  unfold Ok ok0 cc0_transform_1
  dsimp only
  rw [e]
  exact inside k

/-- The run, and what it leaves alone, when the precondition holds. -/
theorem frame : Cert.quiescent_AdamDownSecondIdeal := fun m ρ h =>
  have ⟨k, hk⟩ := chip_of _ _ _ (h 0)
  Gen.frame m ρ (ok_of_chip m k hk)

variable (m : (ℓ : Loc nD τ sig) → Buf (Elt Ideal) ℓ)

/-- This device's number, as the kernel reads it. -/
def me : BitVec 32 := View.readAt (Elt Ideal) (View.whole main_arg0) (Rect.unit ![1] ![1] inb_S2_S1_1).toLoadRect (tbl m 0) (Shape.Idx.first (by decide))

theorem me_eq : me m = m (((0 : Dev nD).tc : Thread nD τ).loc main_arg0) (ix1 1) :=
  (congrArg (V m (0 : Dev nD) main_arg0) (funext fun b => by fin_cases b; rfl)).trans (congrFun (V_main_arg0 m 0) (ix1 1))

variable (k : Fin 4)

/-- The second layer the kernel leaves on chip `k`, from the arrays it was given. -/
def G5 (c : Dev nD) : S2x1408x2048.Idx → EReal := fun i =>
  grad (me m) (fun d => m (c.tc.loc main_arg1) (ix3 d ⟨i 1, (i 1).isLt⟩ ⟨i 2, (i 2).isLt⟩))
    (m (c.tc.loc main_arg2) (ix2 ⟨k.val * 1408 + (i 1).val, by have : (i 1).val < 1408 := (i 1).isLt; omega⟩ ⟨(i 2).val, (i 2).isLt⟩))
def G7 (c : Dev nD) : S2x1408x2048.Idx → EReal := fun i => newM (G5 m k c i) (m (c.tc.loc main_arg4) i)
def G8 (c : Dev nD) : S2x1408x2048.Idx → EReal := fun i => newV (G5 m k c i) (m (c.tc.loc main_arg5) i)
def G6 (c : Dev nD) : S2x1408x2048.Idx → EReal := fun i => delta (m (c.tc.loc main_arg3) i) (G7 m k c i) (G8 m k c i)

/-- The stacks the kernel leaves: the first layer as given, the second computed. -/
def H5 (c : Dev nD) : S2x1408x2048.Idx → EReal := stacked (m (c.tc.loc main_arg6)) (G5 m k c)
def H6 (c : Dev nD) : S2x1408x2048.Idx → EReal := stacked (m (c.tc.loc main_arg7)) (G6 m k c)
def H7 (c : Dev nD) : S2x1408x2048.Idx → EReal := stacked (m (c.tc.loc main_arg8)) (G7 m k c)
def H8 (c : Dev nD) : S2x1408x2048.Idx → EReal := stacked (m (c.tc.loc main_arg9)) (G8 m k c)

/-- An output array begins as a copy of the array it stands in for. -/
theorem start5 (c : Dev nD) : V m c main_v0_0 = m (c.tc.loc main_arg6) := by simp only [V, hostOps0]; after_results_simp; rfl
theorem start6 (c : Dev nD) : V m c main_v0_1 = m (c.tc.loc main_arg7) := by simp only [V, hostOps0]; after_results_simp; rfl
theorem start7 (c : Dev nD) : V m c main_v0_2 = m (c.tc.loc main_arg8) := by simp only [V, hostOps0]; after_results_simp; rfl
theorem start8 (c : Dev nD) : V m c main_v0_3 = m (c.tc.loc main_arg9) := by simp only [V, hostOps0]; after_results_simp; rfl

variable (hO : Ok m) (c : Dev nD) (t : Fin (cfgM m hO).N) (y : S1x128x2048.Idx)

/-- The gradient at an entry of a block. -/
def gAt : EReal := grad (me m) (fun k => iblk m hO c 0 t (ix3 k ⟨y 1, (y 1).isLt⟩ ⟨y 2, (y 2).isLt⟩)) (iblk m hO c 1 t (under y))

/-- A staged block is read back as it was. -/
theorem staged {S : Shape} {e : EltTy} (M : Memref sig .tc .vmem S e) (h : M.IsWhole) (x : S.Idx → Elt Ideal e) :
    View.read (Elt Ideal) M.view (h.unread x) = x := h.read_unread x

/-- A staged block of a stack, its unit axis dropped. -/
theorem dropped (M : Memref sig .tc .vmem S1x128x2048 .f32) (h : M.IsWhole) (x : S1x128x2048.Idx → EReal) :
    shapeCast S128x2048 (View.read (Elt Ideal) M.view (h.unread (Val := Elt Ideal) x)) shapeCasts_S1x128x2048_S128x2048 (under y) = x y :=
  (drop_apply _ shapeCasts_S1x128x2048_S128x2048 y).trans (congrFun (staged (S := S1x128x2048) (e := .f32) M h x) y)

/-- The summed gradient, as the kernel stores it. -/
theorem sum_apply (a : Elt Ideal .i32) (b d : S128x2048.Idx → EReal) (e : BitVec 1) (f g h : S1x128x2048.Idx → EReal) :
    k0_pay9 (F := Ideal) a b d e f g h y = k0_pay6 (F := Ideal) a b d e f g h (under y) :=
  lift_apply (T := 128) (C := 2048) (k0_pay6 (F := Ideal) a b d e f g h) shapeCasts_S128x2048_S1x128x2048 y

/-- The new moments, as the kernel stores them. -/
theorem first_apply (a : S128x2048.Idx → EReal) : k0_pay1 (F := Ideal) a y = a (under y) :=
  lift_apply (T := 128) (C := 2048) a shapeCasts_S128x2048_S1x128x2048 y
theorem second_apply (a : S128x2048.Idx → EReal) : k0_pay2 (F := Ideal) a y = a (under y) :=
  lift_apply (T := 128) (C := 2048) a shapeCasts_S128x2048_S1x128x2048 y

theorem out5 : (outsAt0 m hO c t).1 y = gAt m hO c t y := by
  unfold outsAt0
  frame_out
  refine (sum_apply y _ _ _ _ _ _ _).trans ?_
  refine (kernel_sum _ (View.read (Elt Ideal) (ms0_0 m hO t).view ((hs0_0 m hO t).unread (iblk m hO c 0 t)))
    (View.read (Elt Ideal) (ms0_1 m hO t).view ((hs0_1 m hO t).unread (iblk m hO c 1 t))) shapeCasts_S1x128x2048_S128x2048 (under y)).trans ?_
  exact congrArg₂ (fun (X : S8x128x2048.Idx → EReal) (O : S128x2048.Idx → EReal) => grad (me m) (fun k => X (ix3 k ⟨y 1, (y 1).isLt⟩ ⟨y 2, (y 2).isLt⟩)) (O (under y)))
    (staged (S := S8x128x2048) (e := .bf16) (ms0_0 m hO t) _ _) (staged (S := S128x2048) (e := .bf16) (ms0_1 m hO t) _ _)

theorem out7 : (outsAt0 m hO c t).2.2.1 y = newM (gAt m hO c t y) (iblk m hO c 3 t y) := by
  have e := out5 m hO c t y
  unfold outsAt0 at e ⊢
  frame_out at e
  frame_out
  exact (first_apply y _).trans (congrArg₂ newM ((sum_apply y _ _ _ _ _ _ _).symm.trans e) (dropped y _ _ _))

theorem out8 : (outsAt0 m hO c t).2.2.2 y = newV (gAt m hO c t y) (iblk m hO c 4 t y) := by
  have e := out5 m hO c t y
  unfold outsAt0 at e ⊢
  frame_out at e
  frame_out
  exact (second_apply y _).trans (congrArg₂ newV ((sum_apply y _ _ _ _ _ _ _).symm.trans e) (dropped y _ _ _))

/-- The change of a weight, as the kernel computes it from the new moments. -/
theorem change_apply (a b : S128x2048.Idx → EReal) (w : S1x128x2048.Idx → EReal) :
    k0_pay3 (F := Ideal) a b w y = delta (shapeCast S128x2048 w shapeCasts_S1x128x2048_S128x2048 (under y)) (a (under y)) (b (under y)) := by
  unfold k0_pay3
  exact lift_apply (T := 128) (C := 2048) _ shapeCasts_S128x2048_S1x128x2048 y

theorem out6 : (outsAt0 m hO c t).2.1 y
    = delta (iblk m hO c 2 t y) (newM (gAt m hO c t y) (iblk m hO c 3 t y)) (newV (gAt m hO c t y) (iblk m hO c 4 t y)) := by
  have e := out7 m hO c t y
  have f := out8 m hO c t y
  unfold outsAt0 at e f ⊢
  frame_out at e
  frame_out at f
  frame_out
  exact (change_apply y _ _ _).trans (congrArg_three delta (dropped y _ _ _) ((first_apply y _).symm.trans e) ((second_apply y _).symm.trans f))

/-- Where the blocks lie: rows from the grid point's, every column. -/
theorem place0 : ∀ t : Fin grid0.N, cc0_transform_0 (grid0.coords t) = ![0, (grid0.coords t 0).val, 0] := by decide +kernel
theorem place : ∀ t : Fin grid0.N, cc0_transform_2 (grid0.coords t) = ![1, (grid0.coords t 0).val, 0] := by decide +kernel
theorem place_word : ∀ (k : Fin 4) (t : Fin grid0.N),
    ![(Scalar.addi (Scalar.muli (BitVec.ofNat 32 k.val) 11#32) (BitVec.ofNat 32 (grid0.coords t 0).val)).toNat, (0#32).toNat]
      = ![k.val * 11 + (grid0.coords t 0).val, 0] := by decide +kernel

variable {k} (hk : m (((0 : Dev nD).tc : Thread nD τ).loc main_arg0) (ix1 0) = BitVec.ofNat 32 k.val)

include hk in
theorem place1 (t : Fin grid0.N) : cc0_transform_1 inb_S2_S1_0 numel1_S1 (tbl m) (grid0.coords t) = ![k.val * 11 + (grid0.coords t 0).val, 0] := by
  have e : (tbl m).at 0 (Rect.unit (s := S2) ![0] S1.size inb_S2_S1_0) numel1_S1 = BitVec.ofNat 32 k.val :=
    (congrArg (V m (0 : Dev nD) main_arg0) (funext fun b => by fin_cases b; rfl)).trans ((congrFun (V_main_arg0 m 0) (ix1 0)).trans hk)
  unfold cc0_transform_1
  dsimp only
  rw [e]
  exact place_word k t

/-- A stack at an entry of its second layer, and at an entry of its first. -/
theorem above {a g : S2x1408x2048.Idx → EReal} (i : S2x1408x2048.Idx) {n : ℕ} (h : (i 0).val = 1 * 1 + n) : g i = stacked a g i := (if_neg (by omega)).symm
theorem below {a g : S2x1408x2048.Idx → EReal} (i : S2x1408x2048.Idx) (h : (i 0).val ≠ 1) : a i = stacked a g i :=
  (if_pos (by have : (i 0).val < 2 := (i 0).isLt; omega)).symm

section Entry

variable (i : S2x1408x2048.Idx) (h : (i 0).val = 1 * 1 + (y 0).val ∧ (i 1).val = (grid0.coords t 0).val * 128 + (y 1).val ∧ (i 2).val = 0 * 2048 + (y 2).val)

include hk h in
theorem gAt_eq : gAt m hO c t y = G5 m k c i := by
  unfold gAt G5
  refine congrArg₂ (grad (me m)) (funext fun k => ?_) ?_
  · exact (congrArg (V m c main_arg1) (is3 (j := ix3 k ⟨y 1, (y 1).isLt⟩ ⟨y 2, (y 2).isLt⟩)
      (fun a => ValueKit.view_emb_slice_whole_unit_val main_arg1 _ _ _ _ a) (place0 t) _ (Nat.zero_add _).symm h.2.1 h.2.2)).trans (congrFun (V_main_arg1 m c) _)
  · exact (congrArg (V m c main_arg2) (is2 (j := under y) (fun a => ValueKit.view_emb_slice_whole_unit_val main_arg2 _ _ _ _ a) (place1 m hk t) _
      (show k.val * 1408 + (i 1).val = (k.val * 11 + (grid0.coords t 0).val) * 128 + (y 1).val by rw [h.2.1]; ring) h.2.2)).trans (congrFun (V_main_arg2 m c) _)

include hk h in
theorem mAt_eq : newM (gAt m hO c t y) (iblk m hO c 3 t y) = G7 m k c i :=
  congrArg₂ newM (gAt_eq m hO c t y hk i h)
    ((congrArg (V m c main_arg4) (is3 (fun a => ValueKit.view_emb_slice_whole_unit_val main_arg4 _ _ _ _ a) (place t) _ h.1 h.2.1 h.2.2)).trans (congrFun (V_main_arg4 m c) _))

include hk h in
theorem vAt_eq : newV (gAt m hO c t y) (iblk m hO c 4 t y) = G8 m k c i :=
  congrArg₂ newV (gAt_eq m hO c t y hk i h)
    ((congrArg (V m c main_arg5) (is3 (fun a => ValueKit.view_emb_slice_whole_unit_val main_arg5 _ _ _ _ a) (place t) _ h.1 h.2.1 h.2.2)).trans (congrFun (V_main_arg5 m c) _))

include hk h in
theorem dAt_eq : delta (iblk m hO c 2 t y) (newM (gAt m hO c t y) (iblk m hO c 3 t y)) (newV (gAt m hO c t y) (iblk m hO c 4 t y)) = G6 m k c i := by
  rw [mAt_eq m hO c t y hk i h, vAt_eq m hO c t y hk i h]
  exact congrArg (fun a => delta a _ _)
    ((congrArg (V m c main_arg3) (is3 (fun a => ValueKit.view_emb_slice_whole_unit_val main_arg3 _ _ _ _ a) (place t) _ h.1 h.2.1 h.2.2)).trans (congrFun (V_main_arg3 m c) _))

include hk h in
theorem gAt_stack : gAt m hO c t y = H5 m k c i := (gAt_eq m hO c t y hk i h).trans (above i h.1)
include hk h in
theorem dAt_stack : delta (iblk m hO c 2 t y) (newM (gAt m hO c t y) (iblk m hO c 3 t y)) (newV (gAt m hO c t y) (iblk m hO c 4 t y)) = H6 m k c i :=
  (dAt_eq m hO c t y hk i h).trans (above i h.1)
include hk h in
theorem mAt_stack : newM (gAt m hO c t y) (iblk m hO c 3 t y) = H7 m k c i := (mAt_eq m hO c t y hk i h).trans (above i h.1)
include hk h in
theorem vAt_stack : newV (gAt m hO c t y) (iblk m hO c 4 t y) = H8 m k c i := (vAt_eq m hO c t y hk i h).trans (above i h.1)

end Entry

theorem reached : ∀ p : Fin 11, ∃ i : grid0.Coords, cc0_transform_9 i 0 = 1 ∧ cc0_transform_9 i 1 = p ∧ cc0_transform_9 i 2 = 0 := by decide +kernel
theorem layer : ∀ i : grid0.Coords, cc0_transform_9 i 0 = 1 := by decide +kernel

/-- Every block of the second layer of an output is written. -/
theorem covers (β : Fin 3 → ℕ) (h0 : β 0 = 1) (h1 : β 1 < (1408 + 128 - 1) / 128) (h2 : β 2 < (2048 + 2048 - 1) / 2048) :
    ∃ i : grid0.Coords, ∀ a : Fin 3, cc0_transform_9 i a = β a := by
  obtain ⟨i, e0, e1, e2⟩ := reached ⟨β 1, h1⟩
  exact ⟨i, fun a => by fin_cases a; exacts [e0.trans h0.symm, e1, e2.trans (Nat.lt_one_iff.mp h2).symm]⟩

include hk in
theorem final5 (i : S2x1408x2048.Idx) : (dats m hO 0 c).arrAt 5 (cfgM m hO).N i = H5 m k c i := by
  refine (dats m hO 0 c).arrAt_forall_of_coversWhere 5 (fun (i : S2x1408x2048.Idx) v => v = H5 m k c i) (fun β => β (0 : Fin 3) = 1)
    (coversWhere _ rfl (by decide : ∀ a : Fin 3, 0 < S1x128x2048.size a) layer fun β h => covers (fun a => β a) h (β (1 : Fin 3)).isLt (β (2 : Fin 3)).isLt)
    (fun t hf y => ?_) (fun j hj => (congrFun (start5 m c) _).trans (below _ fun hi => hj ((Nat.div_one _).trans hi))) i (Memref.isWhole_whole _)
  blk_simp
  rw [after0_5]
  exact (out5 m hO c t y).trans (gAt_stack m hO c t y hk _ (lies3 (fun a => ValueKit.view_emb_slice_whole_unit_val main_v0_0 _ _ _ _ a) (place t)))

include hk in
theorem final6 (i : S2x1408x2048.Idx) : (dats m hO 0 c).arrAt 6 (cfgM m hO).N i = H6 m k c i := by
  refine (dats m hO 0 c).arrAt_forall_of_coversWhere 6 (fun (i : S2x1408x2048.Idx) v => v = H6 m k c i) (fun β => β (0 : Fin 3) = 1)
    (coversWhere _ rfl (by decide : ∀ a : Fin 3, 0 < S1x128x2048.size a) layer fun β h => covers (fun a => β a) h (β (1 : Fin 3)).isLt (β (2 : Fin 3)).isLt)
    (fun t hf y => ?_) (fun j hj => (congrFun (start6 m c) _).trans (below _ fun hi => hj ((Nat.div_one _).trans hi))) i (Memref.isWhole_whole _)
  blk_simp
  rw [after0_6]
  exact (out6 m hO c t y).trans (dAt_stack m hO c t y hk _ (lies3 (fun a => ValueKit.view_emb_slice_whole_unit_val main_v0_1 _ _ _ _ a) (place t)))

include hk in
theorem final7 (i : S2x1408x2048.Idx) : (dats m hO 0 c).arrAt 7 (cfgM m hO).N i = H7 m k c i := by
  refine (dats m hO 0 c).arrAt_forall_of_coversWhere 7 (fun (i : S2x1408x2048.Idx) v => v = H7 m k c i) (fun β => β (0 : Fin 3) = 1)
    (coversWhere _ rfl (by decide : ∀ a : Fin 3, 0 < S1x128x2048.size a) layer fun β h => covers (fun a => β a) h (β (1 : Fin 3)).isLt (β (2 : Fin 3)).isLt)
    (fun t hf y => ?_) (fun j hj => (congrFun (start7 m c) _).trans (below _ fun hi => hj ((Nat.div_one _).trans hi))) i (Memref.isWhole_whole _)
  blk_simp
  rw [after0_7]
  exact (out7 m hO c t y).trans (mAt_stack m hO c t y hk _ (lies3 (fun a => ValueKit.view_emb_slice_whole_unit_val main_v0_2 _ _ _ _ a) (place t)))

include hk in
theorem final8 (i : S2x1408x2048.Idx) : (dats m hO 0 c).arrAt 8 (cfgM m hO).N i = H8 m k c i := by
  refine (dats m hO 0 c).arrAt_forall_of_coversWhere 8 (fun (i : S2x1408x2048.Idx) v => v = H8 m k c i) (fun β => β (0 : Fin 3) = 1)
    (coversWhere _ rfl (by decide : ∀ a : Fin 3, 0 < S1x128x2048.size a) layer fun β h => covers (fun a => β a) h (β (1 : Fin 3)).isLt (β (2 : Fin 3)).isLt)
    (fun t hf y => ?_) (fun j hj => (congrFun (start8 m c) _).trans (below _ fun hi => hj ((Nat.div_one _).trans hi))) i (Memref.isWhole_whole _)
  blk_simp
  rw [after0_8]
  exact (out8 m hO c t y).trans (vAt_stack m hO c t y hk _ (lies3 (fun a => ValueKit.view_emb_slice_whole_unit_val main_v0_3 _ _ _ _ a) (place t)))

include hk in
/-- The arrays after the run. -/
theorem arrays (hO : Ok m) (ρ : Dev nD → PrngReg) :
    θ_run (defs (F := Ideal)) (onTc (τ := τ) (main (F := Ideal))) ⟨m, fun _ => 0, ρ⟩ (fun r => ∀ c : Dev nD,
      r.2.mem (c.tc.loc main_v0_0) = H5 m k c ∧ r.2.mem (c.tc.loc main_v0_1) = H6 m k c ∧ r.2.mem (c.tc.loc main_v0_2) = H7 m k c
        ∧ r.2.mem (c.tc.loc main_v0_3) = H8 m k c) := by
  refine (θ_run _ _ _).mono (fun r h c => ?_) (run_main m ρ hO)
  obtain rfl : c = 0 := Subsingleton.elim _ _
  exact ⟨((h 0).1 5).trans (funext (final5 m hO 0 hk)), ((h 0).1 6).trans (funext (final6 m hO 0 hk)),
    ((h 0).1 7).trans (funext (final7 m hO 0 hk)), ((h 0).1 8).trans (funext (final8 m hO 0 hk))⟩

end Cert.AdamDownSecondIdeal.Step

namespace Cert.Proof

open Idealize.ShloMosaic Idealize.ShloMosaic.TcCoe Idealize.SL.Sem Cert.Adam Cert.AdamDownSecondIdeal.Step Cert.AdamDownSecondRefIdeal.Gen
open Cert.AdamDownSecondIdeal (main_arg0 main_arg1 main_arg2)

/-- The kernel computes, in the first layer, what its reference does. -/
theorem algebraic_adam_down_second : Cert.algebraic_AdamDownSecondIdeal_AdamDownSecondRefIdeal := by
  intro m ρ m' ρ' hpre hagree
  obtain ⟨k, hk⟩ := chip_of _ _ _ (hpre 0)
  have hO := ok_of_chip m k hk
  refine ⟨fun c => H5 m k c, fun c => H6 m k c, fun c => H7 m k c, fun c => H8 m k c, ?_, ?_⟩
  · refine (θ_run _ _ _).mono (fun r h c => ?_) (θ_run_and (arrays m hk hO ρ) (Cert.AdamDownSecondIdeal.Gen.unchanged m ρ hO))
    obtain ⟨h5, h6, h7, h8⟩ := h.1 c
    exact ⟨h5, h6, h7, h8, h.2 c⟩
  · refine (θ_run _ _ _).mono (fun r h c => ?_) (Cert.AdamDownSecondRefIdeal.Value.run (F := Ideal) m' ρ')
    obtain ⟨e0, e1, e2, e3, e4, e5, e6, e7, e8, e9⟩ := hagree c
    obtain rfl : c = 0 := Subsingleton.elim _ _
    obtain ⟨h5, h6, h7, h8, hargs⟩ := h 0
    have hg := fun i : Cert.AdamDownSecondIdeal.S2x1408x2048.Idx => (host_gradient (m ((0 : Dev _).tc.loc main_arg0)) (m ((0 : Dev _).tc.loc main_arg1))
      (ownOf (m ((0 : Dev _).tc.loc main_arg0)) (m ((0 : Dev _).tc.loc main_arg2)) ![0, 1408, 2816, 4224] (fun _ => 0) slices_S2_S1_0 shapeCasts_S1_S_ bcast_S_S1408x2048
        slices_S5632x2048_S1408x2048_0_0 slices_S5632x2048_S1408x2048_1408_0 slices_S5632x2048_S1408x2048_2816_0 slices_S5632x2048_S1408x2048_4224_0)
      bcast_S8x1x1_S8x1408x2048_0_1_2 bcast_S8_S8x1x1_0 bcast_S_S8x1x1 slices_S2_S1_1 shapeCasts_S1_S_ bcast_S1x1408x2048_S8x1408x2048_0_1_2
      bcast_S1408x2048_S1x1408x2048_1_2 reducesTo_S8x1408x2048_S1408x2048_d0 h_S_ (by decide) (by decide) (under i)).trans
      (congrArg₂ (fun b o => grad b _ o) (me_eq m).symm (ownOf_apply hk (under i)
        (ix2 ⟨k.val * 1408 + (i 1).val, by have : (i 1).val < 1408 := (i 1).isLt; omega⟩ ⟨(i 2).val, (i 2).isLt⟩)
        (congrArg (· + (i 1).val) ((by decide : ∀ k : Fin 4, k.val * 1408 = (![0, 1408, 2816, 4224] : Fin 4 → ℕ) k) k)) (Nat.zero_add _).symm))
    have cut0 := fun (w : Cert.AdamDownSecondIdeal.S2x1408x2048.Idx → EReal) (i : Cert.AdamDownSecondIdeal.S2x1408x2048.Idx) =>
      cut_layer 0 w slices_S2x1408x2048_S1x1408x2048_0_0_0 shapeCasts_S1x1408x2048_S1408x2048 i
    have cut1 := fun (w : Cert.AdamDownSecondIdeal.S2x1408x2048.Idx → EReal) (i : Cert.AdamDownSecondIdeal.S2x1408x2048.Idx) =>
      cut_layer 1 w slices_S2x1408x2048_S1x1408x2048_1_0_0 shapeCasts_S1x1408x2048_S1408x2048 i
    refine ⟨h5.trans ?_, h6.trans ?_, h7.trans ?_, h8.trans ?_, hargs⟩
    · rw [e0, e1, e2, e6]
      exact stack_both _ _ _ _ _ _ (by decide) (by decide) (cut0 _) fun i _ => hg i
    · unfold Cert.AdamDownSecondRefIdeal.Value.res_main_v66
      rw [e0, e1, e2, e3, e4, e5, e7]
      exact stack_both _ _ _ _ _ _ (by decide) (by decide) (cut0 _) fun i hi =>
        congrArg_three delta (cut1 _ i hi) (congrArg₂ newM (hg i) (cut1 _ i hi)) (congrArg₂ newV (hg i) (cut1 _ i hi))
    · rw [e0, e1, e2, e4, e8]
      exact stack_both _ _ _ _ _ _ (by decide) (by decide) (cut0 _) fun i hi => congrArg₂ newM (hg i) (cut1 _ i hi)
    · unfold Cert.AdamDownSecondRefIdeal.Value.res_main_v76
      rw [e0, e1, e2, e5, e9]
      exact stack_both _ _ _ _ _ _ (by decide) (by decide) (cut0 _) fun i hi => congrArg₂ newV (hg i) (cut1 _ i hi)

/-- The reference runs, keeps its arguments and leaves no semaphore raised. -/
theorem frame_adam_down_second_ref : Cert.quiescent_AdamDownSecondRefIdeal := fun m ρ _ =>
  (θ_run _ _ _).mono (fun r h => ⟨fun c => (h c).2.2.2.2, sem_eq_zero_of_no_sems (by decide) r.2⟩)
    (Cert.AdamDownSecondRefIdeal.Value.run (F := Ideal) m ρ)

end Cert.Proof

end
-- ==== Proof.lean ====
/- The certificate: every frame claim from the generated frames and the references' runs, every value claim from its own module. -/
module

public import proofs.«01_k».proof.Proof.Gen.Pre_finite_dact
public import proofs.«01_k».proof.Proof.Gen.Pre_chip_rows
public import proofs.«01_k».proof.Proof.Gen.Pre_chip_columns
public import proofs.«01_k».proof.Proof.Gen.Pre_chip_packed
public import proofs.«01_k».proof.Proof.Gen.Pre_chip_gate
public import proofs.«01_k».proof.Proof.Gen.Pre_chip_gate_second
public import proofs.«01_k».proof.Proof.Gen.Pre_chip_down
public import proofs.«01_k».proof.Proof.Gen.Pre_chip_down_second
public import proofs.«01_k».proof.Proof.Gen.On_first_layer_gate
public import proofs.«01_k».proof.Proof.Gen.On_first_layer_down
public import proofs.«01_k».proof.Proof.Gen.FfnDact.Frame
public import proofs.«01_k».proof.Proof.Gen.FfnDactIdeal.Frame
public import proofs.«01_k».proof.Proof.FfnDact
public import proofs.«01_k».proof.Proof.Gen.FfnDwd.Frame
public import proofs.«01_k».proof.Proof.Gen.FfnDwdIdeal.Frame
public import proofs.«01_k».proof.Proof.FfnDwd
public import proofs.«01_k».proof.Proof.Gen.FfnDwgu.Frame
public import proofs.«01_k».proof.Proof.Gen.FfnDwguIdeal.Frame
public import proofs.«01_k».proof.Proof.FfnDwgu
public import proofs.«01_k».proof.Proof.Gen.FfnDn.Frame
public import proofs.«01_k».proof.Proof.Gen.FfnDnIdeal.Frame
public import proofs.«01_k».proof.Proof.FfnDn
public import proofs.«01_k».proof.Proof.Gen.FfnGateUp.Frame
public import proofs.«01_k».proof.Proof.Gen.FfnGateUpIdeal.Frame
public import proofs.«01_k».proof.Proof.FfnGateUp
public import proofs.«01_k».proof.Proof.Gen.FfnDown.Frame
public import proofs.«01_k».proof.Proof.Gen.FfnDownIdeal.Frame
public import proofs.«01_k».proof.Proof.FfnDown
public import proofs.«01_k».proof.Proof.Gen.ProjDx.Frame
public import proofs.«01_k».proof.Proof.Gen.ProjDxIdeal.Frame
public import proofs.«01_k».proof.Proof.ProjDx
public import proofs.«01_k».proof.Proof.Gen.ProjDw.Frame
public import proofs.«01_k».proof.Proof.Gen.ProjDwIdeal.Frame
public import proofs.«01_k».proof.Proof.ProjDw
public import proofs.«01_k».proof.Proof.Gen.KvDw.Frame
public import proofs.«01_k».proof.Proof.Gen.KvDwIdeal.Frame
public import proofs.«01_k».proof.Proof.KvDw
public import proofs.«01_k».proof.Proof.Gen.KvDx.Frame
public import proofs.«01_k».proof.Proof.Gen.KvDxIdeal.Frame
public import proofs.«01_k».proof.Proof.KvDx
public import proofs.«01_k».proof.Proof.Gen.ConvTwoDx.Frame
public import proofs.«01_k».proof.Proof.Gen.ConvTwoDxIdeal.Frame
public import proofs.«01_k».proof.Proof.ConvTwoDx
public import proofs.«01_k».proof.Proof.Gen.ConvOneDw.Frame
public import proofs.«01_k».proof.Proof.Gen.ConvOneDwIdeal.Frame
public import proofs.«01_k».proof.Proof.ConvOneDw
public import proofs.«01_k».proof.Proof.Gen.ConvOneDx.Frame
public import proofs.«01_k».proof.Proof.Gen.ConvOneDxIdeal.Frame
public import proofs.«01_k».proof.Proof.ConvOneDx
public import proofs.«01_k».proof.Proof.Gen.QProj.Frame
public import proofs.«01_k».proof.Proof.Gen.QProjIdeal.Frame
public import proofs.«01_k».proof.Proof.QProj
public import proofs.«01_k».proof.Proof.Gen.KvProj.Frame
public import proofs.«01_k».proof.Proof.Gen.KvProjIdeal.Frame
public import proofs.«01_k».proof.Proof.KvProj
public import proofs.«01_k».proof.Proof.Gen.OProj.Frame
public import proofs.«01_k».proof.Proof.Gen.OProjIdeal.Frame
public import proofs.«01_k».proof.Proof.OProj
public import proofs.«01_k».proof.Proof.Gen.ConvOne.Frame
public import proofs.«01_k».proof.Proof.Gen.ConvOneIdeal.Frame
public import proofs.«01_k».proof.Proof.ConvOne
public import proofs.«01_k».proof.Proof.Gen.ConvTwo.Frame
public import proofs.«01_k».proof.Proof.Gen.ConvTwoIdeal.Frame
public import proofs.«01_k».proof.Proof.ConvTwo
public import proofs.«01_k».proof.Proof.Gen.Norm.Frame
public import proofs.«01_k».proof.Proof.Gen.NormIdeal.Frame
public import proofs.«01_k».proof.Proof.Norm
public import proofs.«01_k».proof.Proof.Gen.NormBwd.Frame
public import proofs.«01_k».proof.Proof.Gen.NormBwdIdeal.Frame
public import proofs.«01_k».proof.Proof.NormBwd
public import proofs.«01_k».proof.Proof.Gen.FinalLoss.Frame
public import proofs.«01_k».proof.Proof.Gen.FinalLossIdeal.Frame
public import proofs.«01_k».proof.Proof.FinalLoss
public import proofs.«01_k».proof.Proof.Gen.NormPair.Frame
public import proofs.«01_k».proof.Proof.Gen.NormPairIdeal.Frame
public import proofs.«01_k».proof.Proof.NormPair
public import proofs.«01_k».proof.Proof.Gen.NormPairBwd.Frame
public import proofs.«01_k».proof.Proof.Gen.NormPairBwdIdeal.Frame
public import proofs.«01_k».proof.Proof.NormPairBwd
public import proofs.«01_k».proof.Proof.Gen.AdamWhole.Frame
public import proofs.«01_k».proof.Proof.Gen.AdamWholeIdeal.Frame
public import proofs.«01_k».proof.Proof.AdamWhole
public import proofs.«01_k».proof.Proof.Gen.AdamRows.Frame
public import proofs.«01_k».proof.Proof.Gen.AdamRowsIdeal.Frame
public import proofs.«01_k».proof.Proof.AdamRows
public import proofs.«01_k».proof.Proof.Gen.AdamColumns.Frame
public import proofs.«01_k».proof.Proof.Gen.AdamColumnsIdeal.Frame
public import proofs.«01_k».proof.Proof.AdamColumns
public import proofs.«01_k».proof.Proof.Gen.AdamPacked.Frame
public import proofs.«01_k».proof.Proof.Gen.AdamPackedIdeal.Frame
public import proofs.«01_k».proof.Proof.AdamPacked
public import proofs.«01_k».proof.Proof.Gen.AdamGateFirst.Frame
public import proofs.«01_k».proof.Proof.Gen.AdamGateFirstIdeal.Frame
public import proofs.«01_k».proof.Proof.AdamGateFirst
public import proofs.«01_k».proof.Proof.Gen.AdamGateSecond.Frame
public import proofs.«01_k».proof.Proof.Gen.AdamGateSecondIdeal.Frame
public import proofs.«01_k».proof.Proof.AdamGateSecond
public import proofs.«01_k».proof.Proof.Gen.AdamDownFirst.Frame
public import proofs.«01_k».proof.Proof.Gen.AdamDownFirstIdeal.Frame
public import proofs.«01_k».proof.Proof.AdamDownFirst
public import proofs.«01_k».proof.Proof.Gen.AdamDownSecond.Frame
public import proofs.«01_k».proof.Proof.Gen.AdamDownSecondIdeal.Frame
public import proofs.«01_k».proof.Proof.AdamDownSecond
public import proofs.«01_k».proof.Defs

@[expose] public section

noncomputable section

namespace Cert.Proof

/-- Every claim of the statement. -/
theorem claim : Cert.Claim :=
  ⟨Cert.FfnDact.Gen.facts,
    Cert.FfnDactIdeal.Gen.facts,
    Cert.FfnDactRefIdeal.Gen.facts,
    Cert.FfnDwd.Gen.facts,
    Cert.FfnDwdIdeal.Gen.facts,
    Cert.FfnDwdRefIdeal.Gen.facts,
    Cert.FfnDwgu.Gen.facts,
    Cert.FfnDwguIdeal.Gen.facts,
    Cert.FfnDwguRefIdeal.Gen.facts,
    Cert.FfnDn.Gen.facts,
    Cert.FfnDnIdeal.Gen.facts,
    Cert.FfnDnRefIdeal.Gen.facts,
    Cert.FfnGateUp.Gen.facts,
    Cert.FfnGateUpIdeal.Gen.facts,
    Cert.FfnGateUpRefIdeal.Gen.facts,
    Cert.FfnDown.Gen.facts,
    Cert.FfnDownIdeal.Gen.facts,
    Cert.FfnDownRefIdeal.Gen.facts,
    Cert.ProjDx.Gen.facts,
    Cert.ProjDxIdeal.Gen.facts,
    Cert.ProjDxRefIdeal.Gen.facts,
    Cert.ProjDw.Gen.facts,
    Cert.ProjDwIdeal.Gen.facts,
    Cert.ProjDwRefIdeal.Gen.facts,
    Cert.KvDw.Gen.facts,
    Cert.KvDwIdeal.Gen.facts,
    Cert.KvDwRefIdeal.Gen.facts,
    Cert.KvDx.Gen.facts,
    Cert.KvDxIdeal.Gen.facts,
    Cert.KvDxRefIdeal.Gen.facts,
    Cert.ConvTwoDx.Gen.facts,
    Cert.ConvTwoDxIdeal.Gen.facts,
    Cert.ConvTwoDxRefIdeal.Gen.facts,
    Cert.ConvOneDw.Gen.facts,
    Cert.ConvOneDwIdeal.Gen.facts,
    Cert.ConvOneDwRefIdeal.Gen.facts,
    Cert.ConvOneDx.Gen.facts,
    Cert.ConvOneDxIdeal.Gen.facts,
    Cert.ConvOneDxRefIdeal.Gen.facts,
    Cert.QProj.Gen.facts,
    Cert.QProjIdeal.Gen.facts,
    Cert.QProjRefIdeal.Gen.facts,
    Cert.KvProj.Gen.facts,
    Cert.KvProjIdeal.Gen.facts,
    Cert.KvProjRefIdeal.Gen.facts,
    Cert.OProj.Gen.facts,
    Cert.OProjIdeal.Gen.facts,
    Cert.OProjRefIdeal.Gen.facts,
    Cert.ConvOne.Gen.facts,
    Cert.ConvOneIdeal.Gen.facts,
    Cert.ConvOneRefIdeal.Gen.facts,
    Cert.ConvTwo.Gen.facts,
    Cert.ConvTwoIdeal.Gen.facts,
    Cert.ConvTwoRefIdeal.Gen.facts,
    Cert.Norm.Gen.facts,
    Cert.NormIdeal.Gen.facts,
    Cert.NormRefIdeal.Gen.facts,
    Cert.NormBwd.Gen.facts,
    Cert.NormBwdIdeal.Gen.facts,
    Cert.NormBwdRefIdeal.Gen.facts,
    Cert.FinalLoss.Gen.facts,
    Cert.FinalLossIdeal.Gen.facts,
    Cert.FinalLossRefIdeal.Gen.facts,
    Cert.NormPair.Gen.facts,
    Cert.NormPairIdeal.Gen.facts,
    Cert.NormPairRefIdeal.Gen.facts,
    Cert.NormPairBwd.Gen.facts,
    Cert.NormPairBwdIdeal.Gen.facts,
    Cert.NormPairBwdRefIdeal.Gen.facts,
    Cert.AdamWhole.Gen.facts,
    Cert.AdamWholeIdeal.Gen.facts,
    Cert.AdamWholeRefIdeal.Gen.facts,
    Cert.AdamRows.Gen.facts,
    Cert.AdamRowsIdeal.Gen.facts,
    Cert.AdamRowsRefIdeal.Gen.facts,
    Cert.AdamColumns.Gen.facts,
    Cert.AdamColumnsIdeal.Gen.facts,
    Cert.AdamColumnsRefIdeal.Gen.facts,
    Cert.AdamPacked.Gen.facts,
    Cert.AdamPackedIdeal.Gen.facts,
    Cert.AdamPackedRefIdeal.Gen.facts,
    Cert.AdamGateFirst.Gen.facts,
    Cert.AdamGateFirstIdeal.Gen.facts,
    Cert.AdamGateFirstRefIdeal.Gen.facts,
    Cert.AdamGateSecond.Gen.facts,
    Cert.AdamGateSecondIdeal.Gen.facts,
    Cert.AdamGateSecondRefIdeal.Gen.facts,
    Cert.AdamDownFirst.Gen.facts,
    Cert.AdamDownFirstIdeal.Gen.facts,
    Cert.AdamDownFirstRefIdeal.Gen.facts,
    Cert.AdamDownSecond.Gen.facts,
    Cert.AdamDownSecondIdeal.Gen.facts,
    Cert.AdamDownSecondRefIdeal.Gen.facts,
    Cert.Pre_finite_dact.Gen.facts,
    Cert.Pre_chip_rows.Gen.facts,
    Cert.Pre_chip_columns.Gen.facts,
    Cert.Pre_chip_packed.Gen.facts,
    Cert.Pre_chip_gate.Gen.facts,
    Cert.Pre_chip_gate_second.Gen.facts,
    Cert.Pre_chip_down.Gen.facts,
    Cert.Pre_chip_down_second.Gen.facts,
    Cert.On_first_layer_gate.Gen.facts,
    Cert.On_first_layer_down.Gen.facts,
    fun m ρ _ => Cert.FfnDact.Gen.frame m ρ,
    fun m ρ _ => Cert.FfnDactIdeal.Gen.frame m ρ,
    fun m ρ _ => Cert.FfnDactIdeal.Gen.frame m ρ,
    frame_dact_ref,
    fun m ρ _ => frame_dact_ref m ρ trivial,
    fun m ρ _ => Cert.FfnDwd.Gen.frame m ρ,
    fun m ρ _ => Cert.FfnDwdIdeal.Gen.frame m ρ,
    frame_dwd_ref,
    fun m ρ _ => Cert.FfnDwgu.Gen.frame m ρ,
    fun m ρ _ => Cert.FfnDwguIdeal.Gen.frame m ρ,
    frame_dwgu_ref,
    fun m ρ _ => Cert.FfnDn.Gen.frame m ρ,
    fun m ρ _ => Cert.FfnDnIdeal.Gen.frame m ρ,
    frame_dn_ref,
    fun m ρ _ => Cert.FfnGateUp.Gen.frame m ρ,
    fun m ρ _ => Cert.FfnGateUpIdeal.Gen.frame m ρ,
    frame_gate_up_ref,
    fun m ρ _ => Cert.FfnDown.Gen.frame m ρ,
    fun m ρ _ => Cert.FfnDownIdeal.Gen.frame m ρ,
    frame_down_ref,
    fun m ρ _ => Cert.ProjDx.Gen.frame m ρ,
    fun m ρ _ => Cert.ProjDxIdeal.Gen.frame m ρ,
    frame_proj_dx_ref,
    fun m ρ _ => Cert.ProjDw.Gen.frame m ρ,
    fun m ρ _ => Cert.ProjDwIdeal.Gen.frame m ρ,
    frame_proj_dw_ref,
    fun m ρ _ => Cert.KvDw.Gen.frame m ρ,
    fun m ρ _ => Cert.KvDwIdeal.Gen.frame m ρ,
    frame_kv_dw_ref,
    fun m ρ _ => Cert.KvDx.Gen.frame m ρ,
    fun m ρ _ => Cert.KvDxIdeal.Gen.frame m ρ,
    frame_kv_dx_ref,
    fun m ρ _ => Cert.ConvTwoDx.Gen.frame m ρ,
    fun m ρ _ => Cert.ConvTwoDxIdeal.Gen.frame m ρ,
    frame_conv_two_dx_ref,
    fun m ρ _ => Cert.ConvOneDw.Gen.frame m ρ,
    fun m ρ _ => Cert.ConvOneDwIdeal.Gen.frame m ρ,
    frame_conv_one_dw_ref,
    fun m ρ _ => Cert.ConvOneDx.Gen.frame m ρ,
    fun m ρ _ => Cert.ConvOneDxIdeal.Gen.frame m ρ,
    frame_conv_one_dx_ref,
    fun m ρ _ => Cert.QProj.Gen.frame m ρ,
    fun m ρ _ => Cert.QProjIdeal.Gen.frame m ρ,
    frame_q_proj_ref,
    fun m ρ _ => Cert.KvProj.Gen.frame m ρ,
    fun m ρ _ => Cert.KvProjIdeal.Gen.frame m ρ,
    frame_kv_proj_ref,
    fun m ρ _ => Cert.OProj.Gen.frame m ρ,
    fun m ρ _ => Cert.OProjIdeal.Gen.frame m ρ,
    frame_o_proj_ref,
    fun m ρ _ => Cert.ConvOne.Gen.frame m ρ,
    fun m ρ _ => Cert.ConvOneIdeal.Gen.frame m ρ,
    frame_conv_one_ref,
    fun m ρ _ => Cert.ConvTwo.Gen.frame m ρ,
    fun m ρ _ => Cert.ConvTwoIdeal.Gen.frame m ρ,
    frame_conv_two_ref,
    fun m ρ _ => Cert.Norm.Gen.frame m ρ,
    fun m ρ _ => Cert.NormIdeal.Gen.frame m ρ,
    frame_norm_ref,
    fun m ρ _ => Cert.NormBwd.Gen.frame m ρ,
    fun m ρ _ => Cert.NormBwdIdeal.Gen.frame m ρ,
    frame_norm_bwd_ref,
    fun m ρ _ => Cert.FinalLoss.Gen.frame m ρ,
    fun m ρ _ => Cert.FinalLossIdeal.Gen.frame m ρ,
    frame_final_loss_ref,
    fun m ρ _ => Cert.NormPair.Gen.frame m ρ,
    fun m ρ _ => Cert.NormPairIdeal.Gen.frame m ρ,
    frame_norm_pair_ref,
    fun m ρ _ => Cert.NormPairBwd.Gen.frame m ρ,
    fun m ρ _ => Cert.NormPairBwdIdeal.Gen.frame m ρ,
    frame_norm_pair_bwd_ref,
    fun m ρ _ => Cert.AdamWhole.Gen.frame m ρ trivial,
    fun m ρ _ => Cert.AdamWholeIdeal.Gen.frame m ρ trivial,
    frame_adam_whole_ref,
    Cert.AdamRows.Step.frame,
    Cert.AdamRowsIdeal.Step.frame,
    frame_adam_rows_ref,
    fun m ρ _ => frame_adam_rows_ref m ρ trivial,
    Cert.AdamColumns.Step.frame,
    Cert.AdamColumnsIdeal.Step.frame,
    frame_adam_columns_ref,
    fun m ρ _ => frame_adam_columns_ref m ρ trivial,
    Cert.AdamPacked.Step.frame,
    Cert.AdamPackedIdeal.Step.frame,
    frame_adam_packed_ref,
    fun m ρ _ => frame_adam_packed_ref m ρ trivial,
    Cert.AdamGateFirst.Step.frame,
    Cert.AdamGateFirstIdeal.Step.frame,
    frame_adam_gate_first_ref,
    fun m ρ _ => frame_adam_gate_first_ref m ρ trivial,
    Cert.AdamGateSecond.Step.frame,
    Cert.AdamGateSecondIdeal.Step.frame,
    frame_adam_gate_second_ref,
    fun m ρ _ => frame_adam_gate_second_ref m ρ trivial,
    Cert.AdamDownFirst.Step.frame,
    Cert.AdamDownFirstIdeal.Step.frame,
    frame_adam_down_first_ref,
    fun m ρ _ => frame_adam_down_first_ref m ρ trivial,
    Cert.AdamDownSecond.Step.frame,
    Cert.AdamDownSecondIdeal.Step.frame,
    frame_adam_down_second_ref,
    fun m ρ _ => frame_adam_down_second_ref m ρ trivial,
    trivial,
    algebraic_dact,
    trivial,
    algebraic_dwd,
    trivial,
    algebraic_dwgu,
    trivial,
    algebraic_dn,
    trivial,
    algebraic_gate_up,
    trivial,
    algebraic_down,
    trivial,
    algebraic_proj_dx,
    trivial,
    algebraic_proj_dw,
    trivial,
    algebraic_kv_dw,
    trivial,
    algebraic_kv_dx,
    trivial,
    algebraic_conv_two_dx,
    trivial,
    algebraic_conv_one_dw,
    trivial,
    algebraic_conv_one_dx,
    trivial,
    algebraic_q_proj,
    trivial,
    algebraic_kv_proj,
    trivial,
    algebraic_o_proj,
    trivial,
    algebraic_conv_one,
    trivial,
    algebraic_conv_two,
    trivial,
    algebraic_norm,
    trivial,
    algebraic_norm_bwd,
    trivial,
    algebraic_final_loss,
    trivial,
    algebraic_norm_pair,
    trivial,
    algebraic_norm_pair_bwd,
    trivial,
    algebraic_adam_whole,
    trivial,
    algebraic_adam_rows,
    trivial,
    algebraic_adam_columns,
    trivial,
    algebraic_adam_packed,
    trivial,
    algebraic_adam_gate_first,
    trivial,
    algebraic_adam_gate_second,
    trivial,
    algebraic_adam_down_first,
    trivial,
    algebraic_adam_down_second⟩

end Cert.Proof

end
